-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "exp2_scale" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "mask" .f32 0xF149F2CA#32 ⊥
  ∧ IdealRules.named_const.Statement Cert.Kernel12Ideal.κ "exp2_scale" .f32 0x3DD53B95#32 (((Real.sqrt 192)⁻¹ * (Real.log 2)⁻¹ : ℝ) : EReal)
  ∧ IdealRules.named_const.Statement Cert.Kernel12Ideal.κ "scale" .f32 0x3D93CD3A#32 (((Real.sqrt 192)⁻¹ : ℝ) : EReal)

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v26_0)) (v1 : (c : Dev Cert.Kernel12Ideal.nD) → Buf (Elt Ideal) ((c.tc : Thread Cert.Kernel12Ideal.nD Cert.Kernel12Ideal.τ).loc Cert.Kernel12Ideal.main_v26_1)) (v2 : (c : Dev Cert.Kernel12Ideal.nD) → Buf (Elt Ideal) ((c.tc : Thread Cert.Kernel12Ideal.nD Cert.Kernel12Ideal.τ).loc Cert.Kernel12Ideal.main_v26_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v26_0) = v0 c
          ∧ r.2.mem ((c.tc : Thread Cert.Kernel12Ideal.nD Cert.Kernel12Ideal.τ).loc Cert.Kernel12Ideal.main_v26_1) = v1 c
          ∧ r.2.mem ((c.tc : Thread Cert.Kernel12Ideal.nD Cert.Kernel12Ideal.τ).loc Cert.Kernel12Ideal.main_v26_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v47) = v0 c
          ∧ r.2.mem ((c.tc : Thread Cert.Reference12Ideal.nD Cert.Reference12Ideal.τ).loc Cert.Reference12Ideal.main_v64) = v1 c
          ∧ r.2.mem ((c.tc : Thread Cert.Reference12Ideal.nD Cert.Reference12Ideal.τ).loc Cert.Reference12Ideal.main_v61) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v9) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v12_0)) (v1 : (c : Dev Cert.Kernel14Ideal.nD) → Buf (Elt Ideal) ((c.tc : Thread Cert.Kernel14Ideal.nD Cert.Kernel14Ideal.τ).loc Cert.Kernel14Ideal.main_v12_1)) (v2 : (c : Dev Cert.Kernel14Ideal.nD) → Buf (Elt Ideal) ((c.tc : Thread Cert.Kernel14Ideal.nD Cert.Kernel14Ideal.τ).loc Cert.Kernel14Ideal.main_v12_2)) (v3 : (c : Dev Cert.Kernel14Ideal.nD) → Buf (Elt Ideal) ((c.tc : Thread Cert.Kernel14Ideal.nD Cert.Kernel14Ideal.τ).loc Cert.Kernel14Ideal.main_v12_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v12_0) = v0 c
          ∧ r.2.mem ((c.tc : Thread Cert.Kernel14Ideal.nD Cert.Kernel14Ideal.τ).loc Cert.Kernel14Ideal.main_v12_1) = v1 c
          ∧ r.2.mem ((c.tc : Thread Cert.Kernel14Ideal.nD Cert.Kernel14Ideal.τ).loc Cert.Kernel14Ideal.main_v12_2) = v2 c
          ∧ r.2.mem ((c.tc : Thread Cert.Kernel14Ideal.nD Cert.Kernel14Ideal.τ).loc Cert.Kernel14Ideal.main_v12_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v31) = v2 c
          ∧ r.2.mem ((c.tc : Thread Cert.Reference14Ideal.nD Cert.Reference14Ideal.τ).loc Cert.Reference14Ideal.main_v34) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v30_0)) (v1 : (c : Dev Cert.Kernel15Ideal.nD) → Buf (Elt Ideal) ((c.tc : Thread Cert.Kernel15Ideal.nD Cert.Kernel15Ideal.τ).loc Cert.Kernel15Ideal.main_v30_1)) (v2 : (c : Dev Cert.Kernel15Ideal.nD) → Buf (Elt Ideal) ((c.tc : Thread Cert.Kernel15Ideal.nD Cert.Kernel15Ideal.τ).loc Cert.Kernel15Ideal.main_v30_2)) (v3 : (c : Dev Cert.Kernel15Ideal.nD) → Buf (Elt Ideal) ((c.tc : Thread Cert.Kernel15Ideal.nD Cert.Kernel15Ideal.τ).loc Cert.Kernel15Ideal.main_v30_3)) (v4 : (c : Dev Cert.Kernel15Ideal.nD) → Buf (Elt Ideal) ((c.tc : Thread Cert.Kernel15Ideal.nD Cert.Kernel15Ideal.τ).loc Cert.Kernel15Ideal.main_v30_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v30_0) = v0 c
          ∧ r.2.mem ((c.tc : Thread Cert.Kernel15Ideal.nD Cert.Kernel15Ideal.τ).loc Cert.Kernel15Ideal.main_v30_1) = v1 c
          ∧ r.2.mem ((c.tc : Thread Cert.Kernel15Ideal.nD Cert.Kernel15Ideal.τ).loc Cert.Kernel15Ideal.main_v30_2) = v2 c
          ∧ r.2.mem ((c.tc : Thread Cert.Kernel15Ideal.nD Cert.Kernel15Ideal.τ).loc Cert.Kernel15Ideal.main_v30_3) = v3 c
          ∧ r.2.mem ((c.tc : Thread Cert.Kernel15Ideal.nD Cert.Kernel15Ideal.τ).loc Cert.Kernel15Ideal.main_v30_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v74) = v0 c
          ∧ r.2.mem ((c.tc : Thread Cert.Reference15Ideal.nD Cert.Reference15Ideal.τ).loc Cert.Reference15Ideal.main_v78) = v1 c
          ∧ r.2.mem ((c.tc : Thread Cert.Reference15Ideal.nD Cert.Reference15Ideal.τ).loc Cert.Reference15Ideal.main_v79) = v2 c
          ∧ r.2.mem ((c.tc : Thread Cert.Reference15Ideal.nD Cert.Reference15Ideal.τ).loc Cert.Reference15Ideal.main_v80) = v3 c
          ∧ r.2.mem ((c.tc : Thread Cert.Reference15Ideal.nD Cert.Reference15Ideal.τ).loc Cert.Reference15Ideal.main_v81) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite12 : Cert.Pre_finite12.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite.lean ====
abbrev S4096x16x192 : Shape := ⟨3, ![4096, 16, 192]⟩
abbrev S4096x16x128 : Shape := ⟨3, ![4096, 16, 128]⟩
abbrev S4096x64 : Shape := ⟨2, ![4096, 64]⟩
abbrev S4096x32 : Shape := ⟨2, ![4096, 32]⟩
abbrev S_ : Shape := ⟨0, ![]⟩

class Facts : Prop where
  bcast_S_S4096x16x192 : S_.BroadcastsInDim S4096x16x192 (![] : Fin 0 → Fin S4096x16x192.rank)
  reducesTo_S4096x16x192_S_d0_1_2 : S4096x16x192.ReducesTo [0, 1, 2] S_
  h_S_ : 0 < S_.numel
  bcast_S_S4096x16x128 : S_.BroadcastsInDim S4096x16x128 (![] : Fin 0 → Fin S4096x16x128.rank)
  reducesTo_S4096x16x128_S_d0_1_2 : S4096x16x128.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x32 .f32) (main_arg5 : FVec F S4096x32 .f32) (main_arg6 : FVec F S4096x16x128 .f32) (main_v13 : IVec S_ 1) (main_v16 : IVec S4096x16x128 1) : IVec S_ 1 :=
  let main_c_5 : IVec S_ 1 := constantI S_ 1 1#1
  let main_v17 : IVec S_ 1 := (fun x v => Host.reduce IntOp.andi x v reducesTo_S4096x16x128_S_d0_1_2 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S4096x32 .f32 := Host.absf main_arg5
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  let main_v29 : FVec F S4096x16x128 .f32 := Host.absf main_arg6
  let main_cst_10 : FVec F S_ .f32 := constant S_ .f32 0x7F800000#32
  let main_v30 : FVec F S4096x16x128 .f32 := broadcastInDim S4096x16x128 ![] bcast_S_S4096x16x128 main_cst_10
  let main_v31 : IVec S4096x16x128 1 := cmpf .olt main_v29 main_v30
  let main_c_11 : IVec S_ 1 := constantI S_ 1 1#1
  let main_v32 : IVec S_ 1 := (fun x v => Host.reduce IntOp.andi x v reducesTo_S4096x16x128_S_d0_1_2 h_S_) main_v31 main_c_11
  let main_v33 : IVec S_ 1 := andi main_v28 main_v32
  main_v33

def fn {F : FTy → Type} [FloatOps F] (main_arg0 : FVec F S4096x16x192 .f32) (main_arg1 : FVec F S4096x16x128 .f32) (main_arg2 : FVec F S4096x64 .f32) (main_arg3 : FVec F S4096x16x128 .f32) (main_arg4 : FVec F S4096x32 .f32) (main_arg5 : FVec F S4096x32 .f32) (main_arg6 : FVec F S4096x16x128 .f32) : IVec S_ 1 :=
  let main_v0 : FVec F S4096x16x192 .f32 := Host.absf main_arg0
  let main_cst : FVec F S_ .f32 := constant S_ .f32 0x7F800000#32
  let main_v1 : FVec F S4096x16x192 .f32 := broadcastInDim S4096x16x192 ![] bcast_S_S4096x16x192 main_cst
  let main_v2 : IVec S4096x16x192 1 := cmpf .olt main_v0 main_v1
  let main_c : IVec S_ 1 := constantI S_ 1 1#1
  let main_v3 : IVec S_ 1 := (fun x v => Host.reduce IntOp.andi x v reducesTo_S4096x16x192_S_d0_1_2 h_S_) main_v2 main_c
  let main_v4 : FVec F S4096x16x128 .f32 := Host.absf main_arg1
  let main_cst_0 : FVec F S_ .f32 := constant S_ .f32 0x7F800000#32
  let main_v5 : FVec F S4096x16x128 .f32 := broadcastInDim S4096x16x128 ![] bcast_S_S4096x16x128 main_cst_0
  let main_v6 : IVec S4096x16x128 1 := cmpf .olt main_v4 main_v5
  let main_c_1 : IVec S_ 1 := constantI S_ 1 1#1
  let main_v7 : IVec S_ 1 := (fun x v => Host.reduce IntOp.andi x v reducesTo_S4096x16x128_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x16x128 .f32 := Host.absf main_arg3
  let main_cst_4 : FVec F S_ .f32 := constant S_ .f32 0x7F800000#32
  let main_v15 : FVec F S4096x16x128 .f32 := broadcastInDim S4096x16x128 ![] bcast_S_S4096x16x128 main_cst_4
  let main_v16 : IVec S4096x16x128 1 := cmpf .olt main_v14 main_v15
  fn_part1 (F := F) main_arg4 main_arg5 main_arg6 main_v13 main_v16
-- ==== Pre_finite12.lean ====
abbrev S4096x16x192 : Shape := ⟨3, ![4096, 16, 192]⟩
abbrev S4096x16x128 : Shape := ⟨3, ![4096, 16, 128]⟩
abbrev S4096x64 : Shape := ⟨2, ![4096, 64]⟩
abbrev S4096x32 : Shape := ⟨2, ![4096, 32]⟩
abbrev S4096x2560 : Shape := ⟨2, ![4096, 2560]⟩
abbrev S_ : Shape := ⟨0, ![]⟩

class Facts : Prop where
  bcast_S_S4096x16x192 : S_.BroadcastsInDim S4096x16x192 (![] : Fin 0 → Fin S4096x16x192.rank)
  reducesTo_S4096x16x192_S_d0_1_2 : S4096x16x192.ReducesTo [0, 1, 2] S_
  h_S_ : 0 < S_.numel
  bcast_S_S4096x16x128 : S_.BroadcastsInDim S4096x16x128 (![] : Fin 0 → Fin S4096x16x128.rank)
  reducesTo_S4096x16x128_S_d0_1_2 : S4096x16x128.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg5 : FVec F S4096x32 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x32 .f32 := Host.absf main_arg5
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  main_v23

def fn {F : FTy → Type} [FloatOps F] (main_arg0 : FVec F S4096x16x192 .f32) (main_arg1 : FVec F S4096x16x128 .f32) (main_arg2 : FVec F S4096x64 .f32) (main_arg3 : FVec F S4096x16x128 .f32) (main_arg4 : FVec F S4096x32 .f32) (main_arg5 : FVec F S4096x32 .f32) (main_arg6 : FVec F S4096x2560 .f32) : IVec S_ 1 :=
  let main_v0 : FVec F S4096x16x192 .f32 := Host.absf main_arg0
  let main_cst : FVec F S_ .f32 := constant S_ .f32 0x7F800000#32
  let main_v1 : FVec F S4096x16x192 .f32 := broadcastInDim S4096x16x192 ![] bcast_S_S4096x16x192 main_cst
  let main_v2 : IVec S4096x16x192 1 := cmpf .olt main_v0 main_v1
  let main_c : IVec S_ 1 := constantI S_ 1 1#1
  let main_v3 : IVec S_ 1 := (fun x v => Host.reduce IntOp.andi x v reducesTo_S4096x16x192_S_d0_1_2 h_S_) main_v2 main_c
  let main_v4 : FVec F S4096x16x128 .f32 := Host.absf main_arg1
  let main_cst_0 : FVec F S_ .f32 := constant S_ .f32 0x7F800000#32
  let main_v5 : FVec F S4096x16x128 .f32 := broadcastInDim S4096x16x128 ![] bcast_S_S4096x16x128 main_cst_0
  let main_v6 : IVec S4096x16x128 1 := cmpf .olt main_v4 main_v5
  let main_c_1 : IVec S_ 1 := constantI S_ 1 1#1
  let main_v7 : IVec S_ 1 := (fun x v => Host.reduce IntOp.andi x v reducesTo_S4096x16x128_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x32 .f32 := Host.absf main_arg4
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg5 main_v13 main_v16
-- ==== Pre_finite15.lean ====
abbrev S4096x1024 : Shape := ⟨2, ![4096, 1024]⟩
abbrev S1024 : Shape := ⟨1, ![1024]⟩
abbrev S1024x2560 : Shape := ⟨2, ![1024, 2560]⟩
abbrev S1024x320 : Shape := ⟨2, ![1024, 320]⟩
abbrev S4096x2560 : Shape := ⟨2, ![4096, 2560]⟩
abbrev S4096x320 : Shape := ⟨2, ![4096, 320]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2560 : S_.BroadcastsInDim S1024x2560 (![] : Fin 0 → Fin S1024x2560.rank)
  reducesTo_S1024x2560_S_d0_1 : S1024x2560.ReducesTo [0, 1] S_
  bcast_S_S1024x320 : S_.BroadcastsInDim S1024x320 (![] : Fin 0 → Fin S1024x320.rank)
  reducesTo_S1024x320_S_d0_1 : S1024x320.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096x2560 : S_.BroadcastsInDim S4096x2560 (![] : Fin 0 → Fin S4096x2560.rank)
  reducesTo_S4096x2560_S_d0_1 : S4096x2560.ReducesTo [0, 1] S_
  bcast_S_S4096x320 : S_.BroadcastsInDim S4096x320 (![] : Fin 0 → Fin S4096x320.rank)
  reducesTo_S4096x320_S_d0_1 : S4096x320.ReducesTo [0, 1] S_

variable [Facts]

def fn_part1 {F : FTy → Type} [FloatOps F] (main_arg7 : FVec F S4096x2560 .f32) (main_arg8 : FVec F S4096x320 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x2560 .f32 := Host.absf main_arg7
  let main_cst_6 : FVec F S_ .f32 := constant S_ .f32 0x7F800000#32
  let main_v20 : FVec F S4096x2560 .f32 := broadcastInDim S4096x2560 ![] bcast_S_S4096x2560 main_cst_6
  let main_v21 : IVec S4096x2560 1 := cmpf .olt main_v19 main_v20
  let main_c_7 : IVec S_ 1 := constantI S_ 1 1#1
  let main_v22 : IVec S_ 1 := (fun x v => Host.reduce IntOp.andi x v reducesTo_S4096x2560_S_d0_1 h_S_) main_v21 main_c_7
  let main_v23 : IVec S_ 1 := andi main_v18 main_v22
  let main_v24 : FVec F S4096x320 .f32 := Host.absf main_arg8
  let main_cst_8 : FVec F S_ .f32 := constant S_ .f32 0x7F800000#32
  let main_v25 : FVec F S4096x320 .f32 := broadcastInDim S4096x320 ![] bcast_S_S4096x320 main_cst_8
  let main_v26 : IVec S4096x320 1 := cmpf .olt main_v24 main_v25
  let main_c_9 : IVec S_ 1 := constantI S_ 1 1#1
  let main_v27 : IVec S_ 1 := (fun x v => Host.reduce IntOp.andi x v reducesTo_S4096x320_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024 .f32) (main_arg3 : FVec F S1024 .f32) (main_arg4 : FVec F S1024x2560 .f32) (main_arg5 : FVec F S1024x320 .f32) (main_arg6 : FVec F S4096x1024 .f32) (main_arg7 : FVec F S4096x2560 .f32) (main_arg8 : FVec F S4096x320 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2560 .f32 := Host.absf main_arg4
  let main_cst_0 : FVec F S_ .f32 := constant S_ .f32 0x7F800000#32
  let main_v5 : FVec F S1024x2560 .f32 := broadcastInDim S1024x2560 ![] bcast_S_S1024x2560 main_cst_0
  let main_v6 : IVec S1024x2560 1 := cmpf .olt main_v4 main_v5
  let main_c_1 : IVec S_ 1 := constantI S_ 1 1#1
  let main_v7 : IVec S_ 1 := (fun x v => Host.reduce IntOp.andi x v reducesTo_S1024x2560_S_d0_1 h_S_) main_v6 main_c_1
  let main_v8 : IVec S_ 1 := andi main_v3 main_v7
  let main_v9 : FVec F S1024x320 .f32 := Host.absf main_arg5
  let main_cst_2 : FVec F S_ .f32 := constant S_ .f32 0x7F800000#32
  let main_v10 : FVec F S1024x320 .f32 := broadcastInDim S1024x320 ![] bcast_S_S1024x320 main_cst_2
  let main_v11 : IVec S1024x320 1 := cmpf .olt main_v9 main_v10
  let main_c_3 : IVec S_ 1 := constantI S_ 1 1#1
  let main_v12 : IVec S_ 1 := (fun x v => Host.reduce IntOp.andi x v reducesTo_S1024x320_S_d0_1 h_S_) main_v11 main_c_3
  let main_v13 : IVec S_ 1 := andi main_v8 main_v12
  let main_v14 : FVec F S4096x1024 .f32 := Host.absf main_arg6
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg7 main_arg8 main_v13 main_v16
-- ==== Kernel.lean ====
abbrev S4096x16x192 : Shape := ⟨3, ![4096, 16, 192]⟩
abbrev S4096x16x128 : Shape := ⟨3, ![4096, 16, 128]⟩
abbrev S4096x64 : Shape := ⟨2, ![4096, 64]⟩
abbrev S4096x32 : Shape := ⟨2, ![4096, 32]⟩
abbrev S4096x16x32 : Shape := ⟨3, ![4096, 16, 32]⟩
abbrev S4096x1x32 : Shape := ⟨3, ![4096, 1, 32]⟩
abbrev S4096x16x64 : Shape := ⟨3, ![4096, 16, 64]⟩
abbrev S16x4096x4096 : Shape := ⟨3, ![16, 4096, 4096]⟩
abbrev S4096x4096x16 : Shape := ⟨3, ![4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S4096x16 : Shape := ⟨2, ![4096, 16]⟩
abbrev S4096x16x256 : Shape := ⟨3, ![4096, 16, 256]⟩
abbrev S4096x128 : Shape := ⟨2, ![4096, 128]⟩
abbrev S4096x2048 : Shape := ⟨2, ![4096, 2048]⟩
abbrev S4096x16x1 : Shape := ⟨3, ![4096, 16, 1]⟩
abbrev S4096x256 : Shape := ⟨2, ![4096, 256]⟩
abbrev S512x256 : Shape := ⟨2, ![512, 256]⟩
abbrev S512x128 : Shape := ⟨2, ![512, 128]⟩
abbrev S512x512 : Shape := ⟨2, ![512, 512]⟩
abbrev S512x1 : Shape := ⟨2, ![512, 1]⟩
abbrev S1024x256 : Shape := ⟨2, ![1024, 256]⟩
abbrev S1024x512 : Shape := ⟨2, ![1024, 512]⟩
abbrev S1024x1 : Shape := ⟨2, ![1024, 1]⟩
abbrev S1024x128 : Shape := ⟨2, ![1024, 128]⟩

abbrev nBuf : Space → Nat
  | .hbm => 88
  | .vmem => 23
  | .smem => 0
  | _ => 0

abbrev bufTy : (tb : Table) → Fin (tcTables nBuf tb) → BufTy
  | .hbm, ⟨0, _⟩ => ⟨S4096x16x192, .f32⟩
  | .hbm, ⟨1, _⟩ => ⟨S4096x16x128, .f32⟩
  | .hbm, ⟨2, _⟩ => ⟨S4096x64, .f32⟩
  | .hbm, ⟨3, _⟩ => ⟨S4096x16x128, .f32⟩
  | .hbm, ⟨4, _⟩ => ⟨S4096x32, .f32⟩
  | .hbm, ⟨5, _⟩ => ⟨S4096x32, .f32⟩
  | .hbm, ⟨6, _⟩ => ⟨S4096x16x128, .f32⟩
  | .hbm, ⟨7, _⟩ => ⟨S4096x16x32, .f32⟩
  | .hbm, ⟨8, _⟩ => ⟨S4096x16x32, .f32⟩
  | .hbm, ⟨9, _⟩ => ⟨S4096x1x32, .f32⟩
  | .hbm, ⟨10, _⟩ => ⟨S4096x1x32, .f32⟩
  | .hbm, ⟨11, _⟩ => ⟨S4096x16x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x64, .f32⟩
  | .hbm, ⟨22, _⟩ => ⟨S4096x16x128, .f32⟩
  | .hbm, ⟨23, _⟩ => ⟨S16x4096x4096, .f32⟩
  | .hbm, ⟨24, _⟩ => ⟨S4096x4096x16, .f32⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S_, .f32⟩
  | .hbm, ⟨29, _⟩ => ⟨S16x4096x4096, .f32⟩
  | .hbm, ⟨30, _⟩ => ⟨S16x4096x4096, .f32⟩
  | .hbm, ⟨31, _⟩ => ⟨S4096, .i32⟩
  | .hbm, ⟨32, _⟩ => ⟨S1x4096, .i32⟩
  | .hbm, ⟨33, _⟩ => ⟨S4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S16x4096x1, .f32⟩
  | .hbm, ⟨46, _⟩ => ⟨S16x4096x4096, .f32⟩
  | .hbm, ⟨47, _⟩ => ⟨S16x4096x4096, .f32⟩
  | .hbm, ⟨48, _⟩ => ⟨S16x4096x4096, .f32⟩
  | .hbm, ⟨49, _⟩ => ⟨S_, .f32⟩
  | .hbm, ⟨50, _⟩ => ⟨S16x4096, .f32⟩
  | .hbm, ⟨51, _⟩ => ⟨S16x4096x1, .f32⟩
  | .hbm, ⟨52, _⟩ => ⟨S16x4096x4096, .f32⟩
  | .hbm, ⟨53, _⟩ => ⟨S16x4096x4096, .f32⟩
  | .hbm, ⟨54, _⟩ => ⟨S16x128x4096, .f32⟩
  | .hbm, ⟨55, _⟩ => ⟨S4096x16x128, .f32⟩
  | .hbm, ⟨56, _⟩ => ⟨S16x4096x1, .f32⟩
  | .hbm, ⟨57, _⟩ => ⟨S16x4096x1, .f32⟩
  | .hbm, ⟨58, _⟩ => ⟨S16x4096, .f32⟩
  | .hbm, ⟨59, _⟩ => ⟨S4096x16, .f32⟩
  | .hbm, ⟨60, _⟩ => ⟨S_, .f32⟩
  | .hbm, ⟨61, _⟩ => ⟨S4096x16x64, .f32⟩
  | .hbm, ⟨62, _⟩ => ⟨S4096x16x256, .f32⟩
  | .hbm, ⟨63, _⟩ => ⟨S4096x4096, .f32⟩
  | .hbm, ⟨64, _⟩ => ⟨S4096x4096, .bf16⟩
  | .hbm, ⟨65, _⟩ => ⟨S4096x16x256, .f32⟩
  | .hbm, ⟨66, _⟩ => ⟨S4096x4096, .f32⟩
  | .hbm, ⟨67, _⟩ => ⟨S4096x4096, .bf16⟩
  | .hbm, ⟨68, _⟩ => ⟨S_, .f32⟩
  | .hbm, ⟨69, _⟩ => ⟨S4096x64, .f32⟩
  | .hbm, ⟨70, _⟩ => ⟨S4096x128, .f32⟩
  | .hbm, ⟨71, _⟩ => ⟨S4096x128, .bf16⟩
  | .hbm, ⟨72, _⟩ => ⟨S4096x2048, .f32⟩
  | .hbm, ⟨73, _⟩ => ⟨S4096x2048, .bf16⟩
  | .hbm, ⟨74, _⟩ => ⟨S4096x16x1, .f32⟩
  | .hbm, ⟨75, _⟩ => ⟨S4096x16x128, .f32⟩
  | .hbm, ⟨76, _⟩ => ⟨S4096x2048, .f32⟩
  | .hbm, ⟨77, _⟩ => ⟨S_, .f32⟩
  | .hbm, ⟨78, _⟩ => ⟨S4096x64, .f32⟩
  | .hbm, ⟨79, _⟩ => ⟨S4096x128, .f32⟩
  | .hbm, ⟨80, _⟩ => ⟨S4096x32, .f32⟩
  | .hbm, ⟨81, _⟩ => ⟨S_, .f32⟩
  | .hbm, ⟨82, _⟩ => ⟨S4096x64, .f32⟩
  | .hbm, ⟨83, _⟩ => ⟨S4096x128, .f32⟩
  | .hbm, ⟨84, _⟩ => ⟨S4096x2048, .f32⟩
  | .hbm, ⟨85, _⟩ => ⟨S4096x4096, .bf16⟩
  | .hbm, ⟨86, _⟩ => ⟨S4096x4096, .bf16⟩
  | .hbm, ⟨87, _⟩ => ⟨S4096x128, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x128, .f32⟩
  | .local _ .vmem, ⟨18, _⟩ => ⟨S4096x256, .bf16⟩
  | .local _ .vmem, ⟨19, _⟩ => ⟨S4096x256, .f32⟩
  | .local _ .vmem, ⟨20, _⟩ => ⟨S512x256, .f32⟩
  | .local _ .vmem, ⟨21, _⟩ => ⟨S512x128, .f32⟩
  | .local _ .vmem, ⟨22, _⟩ => ⟨S4096x1, .f32⟩
  | _, _ => ⟨S4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67_0 : Ref sig .tc := ⟨.hbm, 85, rfl⟩
abbrev main_v67_1 : Ref sig .tc := ⟨.hbm, 86, rfl⟩
abbrev main_v67_2 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "exp2_scale" => some (((Real.sqrt 192)⁻¹ * (Real.log 2)⁻¹ : ℝ) : EReal)
  | "log2e" => some (((Real.log 2)⁻¹ : ℝ) : EReal)
  | "mask" => some ⊥
  | "scale" => some (((Real.sqrt 192)⁻¹ : ℝ) : EReal)
  | _ => none
-- ==== ReferenceIdeal.lean ====
abbrev S4096x16x192 : Shape := ⟨3, ![4096, 16, 192]⟩
abbrev S4096x16x128 : Shape := ⟨3, ![4096, 16, 128]⟩
abbrev S4096x64 : Shape := ⟨2, ![4096, 64]⟩
abbrev S4096x32 : Shape := ⟨2, ![4096, 32]⟩
abbrev S4096x16x64 : Shape := ⟨3, ![4096, 16, 64]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S4096x16x256 : Shape := ⟨3, ![4096, 16, 256]⟩
abbrev S4096x128 : Shape := ⟨2, ![4096, 128]⟩

abbrev nBuf : Space → Nat
  | .hbm => 142
  | .vmem => 0
  | .smem => 0
  | _ => 0

abbrev hbmTy0_0 (i : Nat) : BufTy := match i % 128 with
  | 0 => ⟨S4096x16x192, .f32⟩
  | 1 => ⟨S4096x16x128, .f32⟩
  | 2 => ⟨S4096x64, .f32⟩
  | 3 => ⟨S4096x16x128, .f32⟩
  | 4 => ⟨S4096x32, .f32⟩
  | 5 => ⟨S4096x32, .f32⟩
  | 6 => ⟨S4096x16x128, .f32⟩
  | 7 => ⟨S4096x16x128, .f32⟩
  | 8 => ⟨S4096x16x64, .f32⟩
  | 9 => ⟨S4096x1x32, .f32⟩
  | 10 => ⟨S4096x1x32, .f32⟩
  | 11 => ⟨S4096x16x32, .f32⟩
  | 12 => ⟨S4096x16x32, .f32⟩
  | 13 => ⟨S4096x16x32, .f32⟩
  | 14 => ⟨S4096x16x32, .f32⟩
  | 15 => ⟨S4096x16x32, .f32⟩
  | 16 => ⟨S4096x16x32, .f32⟩
  | 17 => ⟨S4096x16x32, .f32⟩
  | 18 => ⟨S4096x16x32, .f32⟩
  | 19 => ⟨S4096x16x32, .f32⟩
  | 20 => ⟨S4096x16x32, .f32⟩
  | 21 => ⟨S4096x16x32, .f32⟩
  | 22 => ⟨S4096x16x32, .f32⟩
  | 23 => ⟨S4096x16x64, .f32⟩
  | 24 => ⟨S16x4096x4096, .f32⟩
  | 25 => ⟨S4096x4096x16, .f32⟩
  | 26 => ⟨S16x4096x4096, .f32⟩
  | 27 => ⟨S16x4096x4096, .f32⟩
  | 28 => ⟨S_, .f32⟩
  | 29 => ⟨S_, .f32⟩
  | 30 => ⟨S16x4096x4096, .f32⟩
  | 31 => ⟨S16x4096x4096, .f32⟩
  | 32 => ⟨S4096, .i32⟩
  | 33 => ⟨S1x4096, .i32⟩
  | 34 => ⟨S4096, .i32⟩
  | 35 => ⟨S4096x1, .i32⟩
  | 36 => ⟨S4096x4096, .i32⟩
  | 37 => ⟨S4096x4096, .i32⟩
  | 38 => ⟨S4096x4096, .i1⟩
  | 39 => ⟨S_, .f32⟩
  | 40 => ⟨S_, .f32⟩
  | 41 => ⟨S16x4096x4096, .i1⟩
  | 42 => ⟨S16x4096x4096, .f32⟩
  | 43 => ⟨S16x4096x4096, .f32⟩
  | 44 => ⟨S_, .f32⟩
  | 45 => ⟨S16x4096x4096, .f32⟩
  | 46 => ⟨S_, .f32⟩
  | 47 => ⟨S16x4096, .f32⟩
  | 48 => ⟨S16x4096x1, .f32⟩
  | 49 => ⟨S16x4096x4096, .f32⟩
  | 50 => ⟨S16x4096x4096, .i1⟩
  | 51 => ⟨S16x4096x4096, .f32⟩
  | 52 => ⟨S_, .f32⟩
  | 53 => ⟨S16x4096, .f32⟩
  | 54 => ⟨S_, .f32⟩
  | 55 => ⟨S16x4096, .f32⟩
  | 56 => ⟨S16x4096, .f32⟩
  | 57 => ⟨S_, .f32⟩
  | 58 => ⟨S16x4096, .f32⟩
  | 59 => ⟨S16x4096, .i1⟩
  | 60 => ⟨S_, .f32⟩
  | 61 => ⟨S16x4096, .f32⟩
  | 62 => ⟨S16x4096, .i1⟩
  | 63 => ⟨S_, .f32⟩
  | 64 => ⟨S16x4096, .f32⟩
  | 65 => ⟨S_, .f32⟩
  | 66 => ⟨S16x4096, .f32⟩
  | 67 => ⟨S_, .f32⟩
  | 68 => ⟨S16x4096, .f32⟩
  | 69 => ⟨S16x4096, .f32⟩
  | 70 => ⟨S16x4096, .f32⟩
  | 71 => ⟨S16x4096x1, .f32⟩
  | 72 => ⟨S16x4096x4096, .f32⟩
  | 73 => ⟨S16x4096x4096, .f32⟩
  | 74 => ⟨S16x4096x4096, .f32⟩
  | 75 => ⟨S_, .f32⟩
  | 76 => ⟨S16x4096, .f32⟩
  | 77 => ⟨S16x4096x1, .f32⟩
  | 78 => ⟨S16x4096x4096, .f32⟩
  | 79 => ⟨S16x4096x4096, .f32⟩
  | 80 => ⟨S16x4096x1, .f32⟩
  | 81 => ⟨S_, .f32⟩
  | 82 => ⟨S16x4096x1, .f32⟩
  | 83 => ⟨S16x4096x1, .f32⟩
  | 84 => ⟨S16x128x4096, .f32⟩
  | 85 => ⟨S4096x16x128, .f32⟩
  | 86 => ⟨S16x128x4096, .f32⟩
  | 87 => ⟨S16x4096x4096, .f32⟩
  | 88 => ⟨S16x128x4096, .f32⟩
  | 89 => ⟨S4096x16x128, .f32⟩
  | 90 => ⟨S16x4096x4096, .f32⟩
  | 91 => ⟨S16x4096x4096, .f32⟩
  | 92 => ⟨S16x4096x4096, .f32⟩
  | 93 => ⟨S_, .f32⟩
  | 94 => ⟨S16x4096, .f32⟩
  | 95 => ⟨S16x4096x1, .f32⟩
  | 96 => ⟨S16x4096x1, .f32⟩
  | 97 => ⟨S16x4096x4096, .f32⟩
  | 98 => ⟨S16x4096x4096, .f32⟩
  | 99 => ⟨S_, .f32⟩
  | 100 => ⟨S16x4096, .f32⟩
  | 101 => ⟨S16x4096x4096, .f32⟩
  | 102 => ⟨S16x4096x4096, .f32⟩
  | 103 => ⟨S16x4096x4096, .f32⟩
  | 104 => ⟨S_, .f32⟩
  | 105 => ⟨S16x4096x4096, .f32⟩
  | 106 => ⟨S16x4096x4096, .f32⟩
  | 107 => ⟨S16x4096x4096, .f32⟩
  | 108 => ⟨S16x4096x4096, .f32⟩
  | 109 => ⟨S4096x4096x16, .f32⟩
  | 110 => ⟨S4096x16x64, .f32⟩
  | 111 => ⟨S4096x64, .f32⟩
  | 112 => ⟨S16x4096x128, .f32⟩
  | 113 => ⟨S4096x16x128, .f32⟩
  | 114 => ⟨S16x4096x128, .f32⟩
  | 115 => ⟨S4096x16x128, .f32⟩
  | 116 => ⟨S4096x16x32, .f32⟩
  | 117 => ⟨S4096x16x32, .f32⟩
  | 118 => ⟨S4096x16x32, .f32⟩
  | 119 => ⟨S4096x16x32, .f32⟩
  | 120 => ⟨S4096x16x32, .f32⟩
  | 121 => ⟨S4096x16x32, .f32⟩
  | 122 => ⟨S4096x16x32, .f32⟩
  | 123 => ⟨S4096x16x32, .f32⟩
  | 124 => ⟨S4096x16x32, .f32⟩
  | 125 => ⟨S4096x16x32, .f32⟩
  | 126 => ⟨S4096x16x32, .f32⟩
  | 127 => ⟨S4096x16x32, .f32⟩
  | _ => ⟨S4096x16x192, .f32⟩

abbrev hbmTy0_1 (i : Nat) : BufTy := match i % 128 with
  | 0 => ⟨S4096x16x32, .f32⟩
  | 1 => ⟨S4096x16x64, .f32⟩
  | 2 => ⟨S4096x16x192, .f32⟩
  | 3 => ⟨S_, .f32⟩
  | 4 => ⟨S4096x16x64, .f32⟩
  | 5 => ⟨S4096x16x256, .f32⟩
  | 6 => ⟨S4096x16x256, .f32⟩
  | 7 => ⟨S_, .f32⟩
  | 8 => ⟨S4096x64, .f32⟩
  | 9 => ⟨S4096x128, .f32⟩
  | 10 => ⟨S4096x4096, .f32⟩
  | 11 => ⟨S4096x4096, .bf16⟩
  | 12 => ⟨S4096x4096, .f32⟩
  | 13 => ⟨S4096x4096, .bf16⟩
  | _ => ⟨S4096x16x192, .f32⟩

abbrev hbmTy (i : Nat) : BufTy := match i / 128 with
  | 0 => hbmTy0_0 i
  | 1 => hbmTy0_1 i
  | _ => ⟨S4096x16x192, .f32⟩

abbrev bufTy : (tb : Table) → Fin (tcTables nBuf tb) → BufTy
  | .hbm, ⟨i, _⟩ => hbmTy i
  | _, _ => ⟨S4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_call0_v0 : Ref sig .tc := ⟨.hbm, 40, rfl⟩
abbrev main_v31_1 : Ref sig .tc := ⟨.hbm, 41, rfl⟩
abbrev main_call0_v2 : Ref sig .tc := ⟨.hbm, 42, rfl⟩
abbrev main_v31_0 : Ref sig .tc := ⟨.hbm, 43, rfl⟩
abbrev main_call0_cst : Ref sig .tc := ⟨.hbm, 44, rfl⟩
abbrev main_v31_2 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call1_cst : Ref sig .tc := ⟨.hbm, 104, rfl⟩
abbrev main_call1_v0 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_13 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_14 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩

abbrev nD : Nat := 1
abbrev τ : Topo := Topo.v7x

variable {F : FTy → Type} [FloatOps F]
-- ==== Kernel2.lean ====
abbrev S4096x6144 : Shape := ⟨2, ![4096, 6144]⟩
abbrev S1024x6144 : Shape := ⟨2, ![1024, 6144]⟩
abbrev S4096x1024 : Shape := ⟨2, ![4096, 1024]⟩
abbrev S1024x8x768 : Shape := ⟨3, ![1024, 8, 768]⟩
abbrev S8x1024x768 : Shape := ⟨3, ![8, 1024, 768]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S1024x6144, .f32⟩
  | .hbm, ⟨2, _⟩ => ⟨S4096x1024, .f32⟩
  | .hbm, ⟨3, _⟩ => ⟨S1024x8x768, .f32⟩
  | .hbm, ⟨4, _⟩ => ⟨S8x1024x768, .f32⟩
  | .hbm, ⟨5, _⟩ => ⟨S8x1024x768, .bf16⟩
  | .hbm, ⟨6, _⟩ => ⟨S4096x6144, .bf16⟩
  | .hbm, ⟨7, _⟩ => ⟨S4096x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x6144 : Shape := ⟨2, ![4096, 6144]⟩
abbrev S1024x6144 : Shape := ⟨2, ![1024, 6144]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1024x6144, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x6144, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel3.lean ====
abbrev S4096x1024 : Shape := ⟨2, ![4096, 1024]⟩
abbrev S4096x6144 : Shape := ⟨2, ![4096, 6144]⟩
abbrev S8x512x768 : Shape := ⟨3, ![8, 512, 768]⟩
abbrev S4096x512 : Shape := ⟨2, ![4096, 512]⟩
abbrev S4096x768 : Shape := ⟨2, ![4096, 768]⟩
abbrev S1x512x768 : Shape := ⟨3, ![1, 512, 768]⟩
abbrev S512x768 : Shape := ⟨2, ![512, 768]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x1024, .bf16⟩
  | .hbm, ⟨3, _⟩ => ⟨S4096x6144, .bf16⟩
  | .hbm, ⟨4, _⟩ => ⟨S8x512x768, .bf16⟩
  | .local _ .vmem, ⟨0, _⟩ => ⟨S4096x512, .bf16⟩
  | .local _ .vmem, ⟨1, _⟩ => ⟨S4096x768, .bf16⟩
  | .local _ .vmem, ⟨2, _⟩ => ⟨S4096x768, .bf16⟩
  | .local _ .vmem, ⟨3, _⟩ => ⟨S1x512x768, .bf16⟩
  | .local _ .vmem, ⟨4, _⟩ => ⟨S1x512x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S512x6144 : Shape := ⟨2, ![512, 6144]⟩
abbrev S512x8x768 : Shape := ⟨3, ![512, 8, 768]⟩
abbrev S8x512x768 : Shape := ⟨3, ![8, 512, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S512x6144, .f32⟩
  | .hbm, ⟨8, _⟩ => ⟨S512x6144, .f32⟩
  | .hbm, ⟨9, _⟩ => ⟨S512x8x768, .f32⟩
  | .hbm, ⟨10, _⟩ => ⟨S8x512x768, .f32⟩
  | .hbm, ⟨11, _⟩ => ⟨S8x512x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S4096x6144 : Shape := ⟨2, ![4096, 6144]⟩
abbrev S8x512x768 : Shape := ⟨3, ![8, 512, 768]⟩
abbrev S4096x512 : Shape := ⟨2, ![4096, 512]⟩
abbrev S4096x768 : Shape := ⟨2, ![4096, 768]⟩
abbrev S1x512x768 : Shape := ⟨3, ![1, 512, 768]⟩
abbrev S512x768 : Shape := ⟨2, ![512, 768]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x1024, .bf16⟩
  | .hbm, ⟨3, _⟩ => ⟨S4096x6144, .bf16⟩
  | .hbm, ⟨4, _⟩ => ⟨S8x512x768, .bf16⟩
  | .local _ .vmem, ⟨0, _⟩ => ⟨S4096x512, .bf16⟩
  | .local _ .vmem, ⟨1, _⟩ => ⟨S4096x768, .bf16⟩
  | .local _ .vmem, ⟨2, _⟩ => ⟨S4096x768, .bf16⟩
  | .local _ .vmem, ⟨3, _⟩ => ⟨S1x512x768, .bf16⟩
  | .local _ .vmem, ⟨4, _⟩ => ⟨S1x512x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S512x6144 : Shape := ⟨2, ![512, 6144]⟩
abbrev S512x8x768 : Shape := ⟨3, ![512, 8, 768]⟩
abbrev S8x512x768 : Shape := ⟨3, ![8, 512, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | .hbm, ⟨7, _⟩ => ⟨S512x6144, .f32⟩
  | .hbm, ⟨8, _⟩ => ⟨S512x6144, .f32⟩
  | .hbm, ⟨9, _⟩ => ⟨S512x8x768, .f32⟩
  | .hbm, ⟨10, _⟩ => ⟨S8x512x768, .f32⟩
  | .hbm, ⟨11, _⟩ => ⟨S8x512x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x512 : Shape := ⟨2, ![4096, 512]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x512, .bf16⟩
  | .hbm, ⟨3, _⟩ => ⟨S4096x4096, .bf16⟩
  | .hbm, ⟨4, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S_, .f32⟩
  | .hbm, ⟨3, _⟩ => ⟨S512x4096, .f32⟩
  | .hbm, ⟨4, _⟩ => ⟨S4096x4096, .f32⟩
  | .hbm, ⟨5, _⟩ => ⟨S4096x512, .f32⟩
  | .hbm, ⟨6, _⟩ => ⟨S512x4096, .f32⟩
  | .hbm, ⟨7, _⟩ => ⟨S512x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x256 : Shape := ⟨2, ![4096, 256]⟩
abbrev S4096x4096 : Shape := ⟨2, ![4096, 4096]⟩
abbrev S256x4096 : Shape := ⟨2, ![256, 4096]⟩
abbrev S4096x1024 : Shape := ⟨2, ![4096, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .bf16⟩
  | .hbm, ⟨3, _⟩ => ⟨S4096x4096, .bf16⟩
  | .hbm, ⟨4, _⟩ => ⟨S256x4096, .bf16⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x256 : Shape := ⟨2, ![4096, 256]⟩
abbrev S4096x4096 : Shape := ⟨2, ![4096, 4096]⟩
abbrev S_ : Shape := ⟨0, ![]⟩
abbrev S256x4096 : Shape := ⟨2, ![256, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S_, .f32⟩
  | .hbm, ⟨3, _⟩ => ⟨S256x4096, .f32⟩
  | .hbm, ⟨4, _⟩ => ⟨S4096x4096, .f32⟩
  | .hbm, ⟨5, _⟩ => ⟨S4096x256, .f32⟩
  | .hbm, ⟨6, _⟩ => ⟨S256x4096, .f32⟩
  | .hbm, ⟨7, _⟩ => ⟨S256x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S4096x384 : Shape := ⟨2, ![4096, 384]⟩
abbrev S1024x384 : Shape := ⟨2, ![1024, 384]⟩
abbrev S4096x512 : Shape := ⟨2, ![4096, 512]⟩
abbrev S512x384 : Shape := ⟨2, ![512, 384]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x384, .f32⟩
  | .hbm, ⟨2, _⟩ => ⟨S4096x1024, .bf16⟩
  | .hbm, ⟨3, _⟩ => ⟨S4096x384, .bf16⟩
  | .hbm, ⟨4, _⟩ => ⟨S1024x384, .bf16⟩
  | .local _ .vmem, ⟨0, _⟩ => ⟨S4096x512, .bf16⟩
  | .local _ .vmem, ⟨1, _⟩ => ⟨S4096x512, .bf16⟩
  | .local _ .vmem, ⟨2, _⟩ => ⟨S4096x384, .bf16⟩
  | .local _ .vmem, ⟨3, _⟩ => ⟨S512x384, .bf16⟩
  | .local _ .vmem, ⟨4, _⟩ => ⟨S512x384, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x384 : Shape := ⟨2, ![4096, 384]⟩
abbrev S_ : Shape := ⟨0, ![]⟩
abbrev S1024x384 : Shape := ⟨2, ![1024, 384]⟩
abbrev S384x1024 : Shape := ⟨2, ![384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x384, .f32⟩
  | .hbm, ⟨2, _⟩ => ⟨S_, .f32⟩
  | .hbm, ⟨3, _⟩ => ⟨S1024x384, .f32⟩
  | .hbm, ⟨4, _⟩ => ⟨S4096x384, .f32⟩
  | .hbm, ⟨5, _⟩ => ⟨S384x1024, .f32⟩
  | .hbm, ⟨6, _⟩ => ⟨S1024x384, .f32⟩
  | .hbm, ⟨7, _⟩ => ⟨S1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S4096x2560 : Shape := ⟨2, ![4096, 2560]⟩
abbrev S8x1024x320 : Shape := ⟨3, ![8, 1024, 320]⟩
abbrev S4096x640 : Shape := ⟨2, ![4096, 640]⟩
abbrev S2x1024x320 : Shape := ⟨3, ![2, 1024, 320]⟩
abbrev S1024x640 : Shape := ⟨2, ![1024, 640]⟩
abbrev S1024x320 : Shape := ⟨2, ![1024, 320]⟩
abbrev S1x1024x320 : Shape := ⟨3, ![1, 1024, 320]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x1024, .bf16⟩
  | .hbm, ⟨3, _⟩ => ⟨S4096x2560, .bf16⟩
  | .hbm, ⟨4, _⟩ => ⟨S8x1024x320, .bf16⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S2x1024x320, .bf16⟩
  | .local _ .vmem, ⟨4, _⟩ => ⟨S2x1024x320, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x320 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x8x320 : Shape := ⟨3, ![1024, 8, 320]⟩
abbrev S8x1024x320 : Shape := ⟨3, ![8, 1024, 320]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | .hbm, ⟨7, _⟩ => ⟨S1024x8x320, .f32⟩
  | .hbm, ⟨8, _⟩ => ⟨S8x1024x320, .f32⟩
  | .hbm, ⟨9, _⟩ => ⟨S8x1024x320, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x6144 : Shape := ⟨2, ![1024, 6144]⟩
abbrev S6144 : Shape := ⟨1, ![6144]⟩
abbrev S1024x8x768 : Shape := ⟨3, ![1024, 8, 768]⟩
abbrev S8x1024x768 : Shape := ⟨3, ![8, 1024, 768]⟩
abbrev S1x6144 : Shape := ⟨2, ![1, 6144]⟩
abbrev S4096x6144 : Shape := ⟨2, ![4096, 6144]⟩
abbrev S2048x1024 : Shape := ⟨2, ![2048, 1024]⟩
abbrev S1x1024x768 : Shape := ⟨3, ![1, 1024, 768]⟩
abbrev S1x768 : Shape := ⟨2, ![1, 768]⟩
abbrev S2048x768 : Shape := ⟨2, ![2048, 768]⟩
abbrev S1024x768 : Shape := ⟨2, ![1024, 768]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S6144, .f32⟩
  | .hbm, ⟨3, _⟩ => ⟨S1024x8x768, .f32⟩
  | .hbm, ⟨4, _⟩ => ⟨S8x1024x768, .f32⟩
  | .hbm, ⟨5, _⟩ => ⟨S8x1024x768, .bf16⟩
  | .hbm, ⟨6, _⟩ => ⟨S4096x1024, .bf16⟩
  | .hbm, ⟨7, _⟩ => ⟨S1x6144, .f32⟩
  | .hbm, ⟨8, _⟩ => ⟨S4096x6144, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x768, .f32⟩
  | .local _ .vmem, ⟨5, _⟩ => ⟨S1x768, .f32⟩
  | .local _ .vmem, ⟨6, _⟩ => ⟨S2048x768, .f32⟩
  | .local _ .vmem, ⟨7, _⟩ => ⟨S2048x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x1024 : Shape := ⟨2, ![4096, 1024]⟩
abbrev S1024x6144 : Shape := ⟨2, ![1024, 6144]⟩
abbrev S6144 : Shape := ⟨1, ![6144]⟩
abbrev S4096x6144 : Shape := ⟨2, ![4096, 6144]⟩
abbrev S1x6144 : Shape := ⟨2, ![1, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S6144, .f32⟩
  | .hbm, ⟨3, _⟩ => ⟨S4096x6144, .f32⟩
  | .hbm, ⟨4, _⟩ => ⟨S1x6144, .f32⟩
  | .hbm, ⟨5, _⟩ => ⟨S4096x6144, .f32⟩
  | .hbm, ⟨6, _⟩ => ⟨S4096x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x16x192 : Shape := ⟨3, ![4096, 16, 192]⟩
abbrev S4096x16x128 : Shape := ⟨3, ![4096, 16, 128]⟩
abbrev S4096x64 : Shape := ⟨2, ![4096, 64]⟩
abbrev S4096x32 : Shape := ⟨2, ![4096, 32]⟩
abbrev S4096x2560 : Shape := ⟨2, ![4096, 2560]⟩
abbrev S4096x16x32 : Shape := ⟨3, ![4096, 16, 32]⟩
abbrev S4096x1x32 : Shape := ⟨3, ![4096, 1, 32]⟩
abbrev S4096x16x64 : Shape := ⟨3, ![4096, 16, 64]⟩
abbrev S_ : Shape := ⟨0, ![]⟩
abbrev S4096x16x256 : Shape := ⟨3, ![4096, 16, 256]⟩
abbrev S4096x4096 : Shape := ⟨2, ![4096, 4096]⟩
abbrev S4096x128 : Shape := ⟨2, ![4096, 128]⟩
abbrev S4096x2048 : Shape := ⟨2, ![4096, 2048]⟩
abbrev S4096x256 : Shape := ⟨2, ![4096, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S2048x256 : Shape := ⟨2, ![2048, 256]⟩
abbrev S512x2048 : Shape := ⟨2, ![512, 2048]⟩
abbrev S2048x128 : Shape := ⟨2, ![2048, 128]⟩
abbrev S2560x256 : Shape := ⟨2, ![2560, 256]⟩
abbrev S512x2560 : Shape := ⟨2, ![512, 2560]⟩
abbrev S2560x128 : Shape := ⟨2, ![2560, 128]⟩
abbrev S3072x256 : Shape := ⟨2, ![3072, 256]⟩
abbrev S512x3072 : Shape := ⟨2, ![512, 3072]⟩
abbrev S3072x128 : Shape := ⟨2, ![3072, 128]⟩
abbrev S3584x256 : Shape := ⟨2, ![3584, 256]⟩
abbrev S512x3584 : Shape := ⟨2, ![512, 3584]⟩
abbrev S3584x128 : Shape := ⟨2, ![3584, 128]⟩

abbrev nBuf : Space → Nat
  | .hbm => 38
  | .vmem => 14
  | .smem => 0
  | _ => 0

abbrev bufTy : (tb : Table) → Fin (tcTables nBuf tb) → BufTy
  | .hbm, ⟨0, _⟩ => ⟨S4096x16x192, .f32⟩
  | .hbm, ⟨1, _⟩ => ⟨S4096x16x128, .f32⟩
  | .hbm, ⟨2, _⟩ => ⟨S4096x64, .f32⟩
  | .hbm, ⟨3, _⟩ => ⟨S4096x16x128, .f32⟩
  | .hbm, ⟨4, _⟩ => ⟨S4096x32, .f32⟩
  | .hbm, ⟨5, _⟩ => ⟨S4096x32, .f32⟩
  | .hbm, ⟨6, _⟩ => ⟨S4096x2560, .f32⟩
  | .hbm, ⟨7, _⟩ => ⟨S4096x16x32, .f32⟩
  | .hbm, ⟨8, _⟩ => ⟨S4096x16x32, .f32⟩
  | .hbm, ⟨9, _⟩ => ⟨S4096x1x32, .f32⟩
  | .hbm, ⟨10, _⟩ => ⟨S4096x1x32, .f32⟩
  | .hbm, ⟨11, _⟩ => ⟨S4096x16x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x64, .f32⟩
  | .hbm, ⟨22, _⟩ => ⟨S4096x16x128, .f32⟩
  | .hbm, ⟨23, _⟩ => ⟨S_, .f32⟩
  | .hbm, ⟨24, _⟩ => ⟨S4096x16x64, .f32⟩
  | .hbm, ⟨25, _⟩ => ⟨S4096x16x256, .f32⟩
  | .hbm, ⟨26, _⟩ => ⟨S4096x4096, .f32⟩
  | .hbm, ⟨27, _⟩ => ⟨S4096x4096, .bf16⟩
  | .hbm, ⟨28, _⟩ => ⟨S4096x16x256, .f32⟩
  | .hbm, ⟨29, _⟩ => ⟨S4096x4096, .f32⟩
  | .hbm, ⟨30, _⟩ => ⟨S4096x4096, .bf16⟩
  | .hbm, ⟨31, _⟩ => ⟨S_, .f32⟩
  | .hbm, ⟨32, _⟩ => ⟨S4096x64, .f32⟩
  | .hbm, ⟨33, _⟩ => ⟨S4096x128, .f32⟩
  | .hbm, ⟨34, _⟩ => ⟨S4096x128, .bf16⟩
  | .hbm, ⟨35, _⟩ => ⟨S4096x2048, .f32⟩
  | .hbm, ⟨36, _⟩ => ⟨S4096x2048, .bf16⟩
  | .hbm, ⟨37, _⟩ => ⟨S4096x2048, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .bf16⟩
  | .local _ .vmem, ⟨10, _⟩ => ⟨S4096x128, .bf16⟩
  | .local _ .vmem, ⟨11, _⟩ => ⟨S4096x128, .f32⟩
  | .local _ .vmem, ⟨12, _⟩ => ⟨S4096x128, .f32⟩
  | .local _ .vmem, ⟨13, _⟩ => ⟨S4096x256, .bf16⟩
  | _, _ => ⟨S4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
variable {F : FTy → Type} [FloatOps F] [Named F]
def κ : String → Option EReal := fun
  | "exp2_scale" => some (((Real.sqrt 192)⁻¹ * (Real.log 2)⁻¹ : ℝ) : EReal)
  | "mask" => some ⊥
  | "scale" => some (((Real.sqrt 192)⁻¹ : ℝ) : EReal)
  | _ => none
-- ==== Reference12Ideal.lean ====
abbrev S4096x16x192 : Shape := ⟨3, ![4096, 16, 192]⟩
abbrev S4096x16x128 : Shape := ⟨3, ![4096, 16, 128]⟩
abbrev S4096x64 : Shape := ⟨2, ![4096, 64]⟩
abbrev S4096x32 : Shape := ⟨2, ![4096, 32]⟩
abbrev S4096x2560 : Shape := ⟨2, ![4096, 2560]⟩
abbrev S4096x512 : Shape := ⟨2, ![4096, 512]⟩
abbrev S4096x2048 : Shape := ⟨2, ![4096, 2048]⟩
abbrev S4096x16x64 : Shape := ⟨3, ![4096, 16, 64]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S4096x16 : Shape := ⟨2, ![4096, 16]⟩
abbrev S4096x16x1 : Shape := ⟨3, ![4096, 16, 1]⟩

abbrev nBuf : Space → Nat
  | .hbm => 90
  | .vmem => 0
  | .smem => 0
  | _ => 0

abbrev bufTy : (tb : Table) → Fin (tcTables nBuf tb) → BufTy
  | .hbm, ⟨0, _⟩ => ⟨S4096x16x192, .f32⟩
  | .hbm, ⟨1, _⟩ => ⟨S4096x16x128, .f32⟩
  | .hbm, ⟨2, _⟩ => ⟨S4096x64, .f32⟩
  | .hbm, ⟨3, _⟩ => ⟨S4096x16x128, .f32⟩
  | .hbm, ⟨4, _⟩ => ⟨S4096x32, .f32⟩
  | .hbm, ⟨5, _⟩ => ⟨S4096x32, .f32⟩
  | .hbm, ⟨6, _⟩ => ⟨S4096x2560, .f32⟩
  | .hbm, ⟨7, _⟩ => ⟨S4096x512, .f32⟩
  | .hbm, ⟨8, _⟩ => ⟨S4096x2048, .f32⟩
  | .hbm, ⟨9, _⟩ => ⟨S4096x16x128, .f32⟩
  | .hbm, ⟨10, _⟩ => ⟨S4096x16x64, .f32⟩
  | .hbm, ⟨11, _⟩ => ⟨S4096x1x32, .f32⟩
  | .hbm, ⟨12, _⟩ => ⟨S4096x1x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x32, .f32⟩
  | .hbm, ⟨25, _⟩ => ⟨S4096x16x64, .f32⟩
  | .hbm, ⟨26, _⟩ => ⟨S16x4096x4096, .f32⟩
  | .hbm, ⟨27, _⟩ => ⟨S4096x4096x16, .f32⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S_, .f32⟩
  | .hbm, ⟨32, _⟩ => ⟨S16x4096x4096, .f32⟩
  | .hbm, ⟨33, _⟩ => ⟨S16x4096x4096, .f32⟩
  | .hbm, ⟨34, _⟩ => ⟨S4096, .i32⟩
  | .hbm, ⟨35, _⟩ => ⟨S1x4096, .i32⟩
  | .hbm, ⟨36, _⟩ => ⟨S4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S16x4096x4096, .i1⟩
  | .hbm, ⟨44, _⟩ => ⟨S16x4096x4096, .f32⟩
  | .hbm, ⟨45, _⟩ => ⟨S16x4096x4096, .f32⟩
  | .hbm, ⟨46, _⟩ => ⟨S_, .f32⟩
  | .hbm, ⟨47, _⟩ => ⟨S16x4096, .f32⟩
  | .hbm, ⟨48, _⟩ => ⟨S_, .f32⟩
  | .hbm, ⟨49, _⟩ => ⟨S16x4096, .f32⟩
  | .hbm, ⟨50, _⟩ => ⟨S16x4096, .f32⟩
  | .hbm, ⟨51, _⟩ => ⟨S16x4096x1, .f32⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S_, .f32⟩
  | .hbm, ⟨56, _⟩ => ⟨S16x4096, .f32⟩
  | .hbm, ⟨57, _⟩ => ⟨S16x4096x1, .f32⟩
  | .hbm, ⟨58, _⟩ => ⟨S16x4096x4096, .f32⟩
  | .hbm, ⟨59, _⟩ => ⟨S16x4096x4096, .f32⟩
  | .hbm, ⟨60, _⟩ => ⟨S16x128x4096, .f32⟩
  | .hbm, ⟨61, _⟩ => ⟨S4096x16x128, .f32⟩
  | .hbm, ⟨62, _⟩ => ⟨S4096x2048, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S16x4096x4096, .f32⟩
  | .hbm, ⟨67, _⟩ => ⟨S16x4096x4096, .f32⟩
  | .hbm, ⟨68, _⟩ => ⟨S16x4096x4096, .f32⟩
  | .hbm, ⟨69, _⟩ => ⟨S_, .f32⟩
  | .hbm, ⟨70, _⟩ => ⟨S16x4096, .f32⟩
  | .hbm, ⟨71, _⟩ => ⟨S16x4096x1, .f32⟩
  | .hbm, ⟨72, _⟩ => ⟨S16x4096x1, .f32⟩
  | .hbm, ⟨73, _⟩ => ⟨S16x4096x1, .f32⟩
  | .hbm, ⟨74, _⟩ => ⟨S16x4096, .f32⟩
  | .hbm, ⟨75, _⟩ => ⟨S4096x16, .f32⟩
  | .hbm, ⟨76, _⟩ => ⟨S4096x16x1, .f32⟩
  | .hbm, ⟨77, _⟩ => ⟨S4096x16x128, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S_, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .bf16⟩
  | _, _ => ⟨S4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== Kernel13.lean ====
abbrev S4096x512 : Shape := ⟨2, ![4096, 512]⟩
abbrev S512x16x192 : Shape := ⟨3, ![512, 16, 192]⟩
abbrev S4096x32 : Shape := ⟨2, ![4096, 32]⟩
abbrev S_ : Shape := ⟨0, ![]⟩
abbrev S512x16x64 : Shape := ⟨3, ![512, 16, 64]⟩
abbrev S512x16x256 : Shape := ⟨3, ![512, 16, 256]⟩
abbrev S512x4096 : Shape := ⟨2, ![512, 4096]⟩
abbrev S4096x64 : Shape := ⟨2, ![4096, 64]⟩
abbrev S4096x128 : Shape := ⟨2, ![4096, 128]⟩
abbrev S4096x4096 : Shape := ⟨2, ![4096, 4096]⟩
abbrev S1024x512 : Shape := ⟨2, ![1024, 512]⟩
abbrev S512x1024 : Shape := ⟨2, ![512, 1024]⟩
abbrev S1024x128 : Shape := ⟨2, ![1024, 128]⟩
abbrev S1024x1024 : Shape := ⟨2, ![1024, 1024]⟩

abbrev nBuf : Space → Nat
  | .hbm => 16
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S512x16x192, .f32⟩
  | .hbm, ⟨2, _⟩ => ⟨S4096x32, .f32⟩
  | .hbm, ⟨3, _⟩ => ⟨S4096x32, .f32⟩
  | .hbm, ⟨4, _⟩ => ⟨S_, .f32⟩
  | .hbm, ⟨5, _⟩ => ⟨S512x16x64, .f32⟩
  | .hbm, ⟨6, _⟩ => ⟨S512x16x256, .f32⟩
  | .hbm, ⟨7, _⟩ => ⟨S512x4096, .f32⟩
  | .hbm, ⟨8, _⟩ => ⟨S512x4096, .bf16⟩
  | .hbm, ⟨9, _⟩ => ⟨S4096x512, .bf16⟩
  | .hbm, ⟨10, _⟩ => ⟨S_, .f32⟩
  | .hbm, ⟨11, _⟩ => ⟨S4096x64, .f32⟩
  | .hbm, ⟨12, _⟩ => ⟨S4096x128, .f32⟩
  | .hbm, ⟨13, _⟩ => ⟨S4096x32, .f32⟩
  | .hbm, ⟨14, _⟩ => ⟨S4096x128, .f32⟩
  | .hbm, ⟨15, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S4096x512 : Shape := ⟨2, ![4096, 512]⟩
abbrev S512x16x192 : Shape := ⟨3, ![512, 16, 192]⟩
abbrev S4096x32 : Shape := ⟨2, ![4096, 32]⟩
abbrev S4096x16x192 : Shape := ⟨3, ![4096, 16, 192]⟩
abbrev S4096x16x128 : Shape := ⟨3, ![4096, 16, 128]⟩
abbrev S4096x16x64 : Shape := ⟨3, ![4096, 16, 64]⟩
abbrev S4096x1x32 : Shape := ⟨3, ![4096, 1, 32]⟩
abbrev S4096x16x32 : Shape := ⟨3, ![4096, 16, 32]⟩
abbrev S_ : Shape := ⟨0, ![]⟩
abbrev S4096x16x256 : Shape := ⟨3, ![4096, 16, 256]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x16x192, .f32⟩
  | .hbm, ⟨2, _⟩ => ⟨S4096x32, .f32⟩
  | .hbm, ⟨3, _⟩ => ⟨S4096x32, .f32⟩
  | .hbm, ⟨4, _⟩ => ⟨S4096x16x192, .f32⟩
  | .hbm, ⟨5, _⟩ => ⟨S4096x16x128, .f32⟩
  | .hbm, ⟨6, _⟩ => ⟨S4096x16x64, .f32⟩
  | .hbm, ⟨7, _⟩ => ⟨S4096x1x32, .f32⟩
  | .hbm, ⟨8, _⟩ => ⟨S4096x1x32, .f32⟩
  | .hbm, ⟨9, _⟩ => ⟨S4096x16x32, .f32⟩
  | .hbm, ⟨10, _⟩ => ⟨S4096x16x32, .f32⟩
  | .hbm, ⟨11, _⟩ => ⟨S4096x16x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x64, .f32⟩
  | .hbm, ⟨22, _⟩ => ⟨S_, .f32⟩
  | .hbm, ⟨23, _⟩ => ⟨S4096x16x64, .f32⟩
  | .hbm, ⟨24, _⟩ => ⟨S4096x16x256, .f32⟩
  | .hbm, ⟨25, _⟩ => ⟨S4096x4096, .f32⟩
  | .hbm, ⟨26, _⟩ => ⟨S4096x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel14.lean ====
abbrev S4096x1024 : Shape := ⟨2, ![4096, 1024]⟩
abbrev S1024x320 : Shape := ⟨2, ![1024, 320]⟩
abbrev S256x16x128 : Shape := ⟨3, ![256, 16, 128]⟩
abbrev S256 : Shape := ⟨1, ![256]⟩
abbrev S4096x32 : Shape := ⟨2, ![4096, 32]⟩
abbrev S_ : Shape := ⟨0, ![]⟩
abbrev S1024x64 : Shape := ⟨2, ![1024, 64]⟩
abbrev S1024x384 : Shape := ⟨2, ![1024, 384]⟩
abbrev S256x16x256 : Shape := ⟨3, ![256, 16, 256]⟩
abbrev S256x4096 : Shape := ⟨2, ![256, 4096]⟩
abbrev S1x256 : Shape := ⟨2, ![1, 256]⟩
abbrev S4096x64 : Shape := ⟨2, ![4096, 64]⟩
abbrev S4096x128 : Shape := ⟨2, ![4096, 128]⟩
abbrev S4096x384 : Shape := ⟨2, ![4096, 384]⟩
abbrev S4096x256 : Shape := ⟨2, ![4096, 256]⟩
abbrev S4096x4096 : Shape := ⟨2, ![4096, 4096]⟩
abbrev S512x1024 : Shape := ⟨2, ![512, 1024]⟩
abbrev S512x128 : Shape := ⟨2, ![512, 128]⟩
abbrev S512x384 : Shape := ⟨2, ![512, 384]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩

abbrev nBuf : Space → Nat
  | .hbm => 25
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x320, .f32⟩
  | .hbm, ⟨2, _⟩ => ⟨S256x16x128, .f32⟩
  | .hbm, ⟨3, _⟩ => ⟨S256x16x128, .f32⟩
  | .hbm, ⟨4, _⟩ => ⟨S256, .f32⟩
  | .hbm, ⟨5, _⟩ => ⟨S4096x32, .f32⟩
  | .hbm, ⟨6, _⟩ => ⟨S4096x32, .f32⟩
  | .hbm, ⟨7, _⟩ => ⟨S_, .f32⟩
  | .hbm, ⟨8, _⟩ => ⟨S1024x64, .f32⟩
  | .hbm, ⟨9, _⟩ => ⟨S1024x384, .f32⟩
  | .hbm, ⟨10, _⟩ => ⟨S1024x384, .bf16⟩
  | .hbm, ⟨11, _⟩ => ⟨S256x16x256, .f32⟩
  | .hbm, ⟨12, _⟩ => ⟨S256x4096, .f32⟩
  | .hbm, ⟨13, _⟩ => ⟨S256x4096, .bf16⟩
  | .hbm, ⟨14, _⟩ => ⟨S4096x1024, .bf16⟩
  | .hbm, ⟨15, _⟩ => ⟨S1x256, .f32⟩
  | .hbm, ⟨16, _⟩ => ⟨S_, .f32⟩
  | .hbm, ⟨17, _⟩ => ⟨S4096x64, .f32⟩
  | .hbm, ⟨18, _⟩ => ⟨S4096x128, .f32⟩
  | .hbm, ⟨19, _⟩ => ⟨S4096x32, .f32⟩
  | .hbm, ⟨20, _⟩ => ⟨S4096x128, .f32⟩
  | .hbm, ⟨21, _⟩ => ⟨S4096x384, .f32⟩
  | .hbm, ⟨22, _⟩ => ⟨S4096x256, .bf16⟩
  | .hbm, ⟨23, _⟩ => ⟨S4096x128, .bf16⟩
  | .hbm, ⟨24, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x384, .bf16⟩
  | .local _ .vmem, ⟨3, _⟩ => ⟨S256x4096, .bf16⟩
  | .local _ .vmem, ⟨4, _⟩ => ⟨S1x256, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x384, .f32⟩
  | .local _ .vmem, ⟨10, _⟩ => ⟨S512x384, .f32⟩
  | .local _ .vmem, ⟨11, _⟩ => ⟨S512x256, .bf16⟩
  | .local _ .vmem, ⟨12, _⟩ => ⟨S512x256, .bf16⟩
  | .local _ .vmem, ⟨13, _⟩ => ⟨S512x128, .bf16⟩
  | .local _ .vmem, ⟨14, _⟩ => ⟨S512x128, .bf16⟩
  | .local _ .vmem, ⟨15, _⟩ => ⟨S512x4096, .bf16⟩
  | .local _ .vmem, ⟨16, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S4096x1024 : Shape := ⟨2, ![4096, 1024]⟩
abbrev S1024x320 : Shape := ⟨2, ![1024, 320]⟩
abbrev S256x16x128 : Shape := ⟨3, ![256, 16, 128]⟩
abbrev S256 : Shape := ⟨1, ![256]⟩
abbrev S4096x32 : Shape := ⟨2, ![4096, 32]⟩
abbrev S_ : Shape := ⟨0, ![]⟩
abbrev S4096x64 : Shape := ⟨2, ![4096, 64]⟩
abbrev S4096x320 : Shape := ⟨2, ![4096, 320]⟩
abbrev S4096x256 : Shape := ⟨2, ![4096, 256]⟩
abbrev S4096 : Shape := ⟨1, ![4096]⟩
abbrev S4096x1 : Shape := ⟨2, ![4096, 1]⟩
abbrev S1x256 : Shape := ⟨2, ![1, 256]⟩
abbrev S4096x16x128 : Shape := ⟨3, ![4096, 16, 128]⟩
abbrev S4096x384 : Shape := ⟨2, ![4096, 384]⟩
abbrev S4096x128 : Shape := ⟨2, ![4096, 128]⟩
abbrev S4096x16x256 : Shape := ⟨3, ![4096, 16, 256]⟩
abbrev S4096x4096 : Shape := ⟨2, ![4096, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x320, .f32⟩
  | .hbm, ⟨2, _⟩ => ⟨S256x16x128, .f32⟩
  | .hbm, ⟨3, _⟩ => ⟨S256x16x128, .f32⟩
  | .hbm, ⟨4, _⟩ => ⟨S256, .f32⟩
  | .hbm, ⟨5, _⟩ => ⟨S4096x32, .f32⟩
  | .hbm, ⟨6, _⟩ => ⟨S4096x32, .f32⟩
  | .hbm, ⟨7, _⟩ => ⟨S_, .f32⟩
  | .hbm, ⟨8, _⟩ => ⟨S4096x64, .f32⟩
  | .hbm, ⟨9, _⟩ => ⟨S4096x320, .f32⟩
  | .hbm, ⟨10, _⟩ => ⟨S4096x256, .f32⟩
  | .hbm, ⟨11, _⟩ => ⟨S4096x64, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x16x128, .f32⟩
  | .hbm, ⟨29, _⟩ => ⟨S4096x16x128, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x64, .f32⟩
  | .hbm, ⟨39, _⟩ => ⟨S4096x384, .f32⟩
  | .hbm, ⟨40, _⟩ => ⟨S4096x256, .bf16⟩
  | .hbm, ⟨41, _⟩ => ⟨S4096x128, .f32⟩
  | .hbm, ⟨42, _⟩ => ⟨S4096x128, .bf16⟩
  | .hbm, ⟨43, _⟩ => ⟨S4096x16x256, .f32⟩
  | .hbm, ⟨44, _⟩ => ⟨S4096x4096, .f32⟩
  | .hbm, ⟨45, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel15.lean ====
abbrev S4096x1024 : Shape := ⟨2, ![4096, 1024]⟩
abbrev S1024 : Shape := ⟨1, ![1024]⟩
abbrev S1024x2560 : Shape := ⟨2, ![1024, 2560]⟩
abbrev S1024x320 : Shape := ⟨2, ![1024, 320]⟩
abbrev S4096x2560 : Shape := ⟨2, ![4096, 2560]⟩
abbrev S4096x320 : Shape := ⟨2, ![4096, 320]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x64 : Shape := ⟨2, ![1024, 64]⟩
abbrev S1024x384 : Shape := ⟨2, ![1024, 384]⟩
abbrev S4096x64 : Shape := ⟨2, ![4096, 64]⟩
abbrev S4096x384 : Shape := ⟨2, ![4096, 384]⟩
abbrev S256x1024 : Shape := ⟨2, ![256, 1024]⟩
abbrev S256x2560 : Shape := ⟨2, ![256, 2560]⟩
abbrev S256x384 : Shape := ⟨2, ![256, 384]⟩
abbrev S256x1 : Shape := ⟨2, ![256, 1]⟩
abbrev S256 : Shape := ⟨1, ![256]⟩

abbrev nBuf : Space → Nat
  | .hbm => 51
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2560, .f32⟩
  | .hbm, ⟨5, _⟩ => ⟨S1024x320, .f32⟩
  | .hbm, ⟨6, _⟩ => ⟨S4096x1024, .f32⟩
  | .hbm, ⟨7, _⟩ => ⟨S4096x2560, .f32⟩
  | .hbm, ⟨8, _⟩ => ⟨S4096x320, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024x64, .f32⟩
  | .hbm, ⟨37, _⟩ => ⟨S1024x384, .f32⟩
  | .hbm, ⟨38, _⟩ => ⟨S1024x384, .bf16⟩
  | .hbm, ⟨39, _⟩ => ⟨S_, .f32⟩
  | .hbm, ⟨40, _⟩ => ⟨S4096x64, .f32⟩
  | .hbm, ⟨41, _⟩ => ⟨S4096x384, .f32⟩
  | .hbm, ⟨42, _⟩ => ⟨S4096x384, .bf16⟩
  | .hbm, ⟨43, _⟩ => ⟨S4096x2560, .bf16⟩
  | .hbm, ⟨44, _⟩ => ⟨S1024x2560, .bf16⟩
  | .hbm, ⟨45, _⟩ => ⟨S1x1024, .f32⟩
  | .hbm, ⟨46, _⟩ => ⟨S4096x1024, .f32⟩
  | .hbm, ⟨47, _⟩ => ⟨S4096x1024, .bf16⟩
  | .hbm, ⟨48, _⟩ => ⟨S1x1024, .f32⟩
  | .hbm, ⟨49, _⟩ => ⟨S1x1024, .f32⟩
  | .hbm, ⟨50, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2560, .bf16⟩
  | .local _ .vmem, ⟨3, _⟩ => ⟨S256x2560, .bf16⟩
  | .local _ .vmem, ⟨4, _⟩ => ⟨S1024x2560, .bf16⟩
  | .local _ .vmem, ⟨5, _⟩ => ⟨S256x384, .bf16⟩
  | .local _ .vmem, ⟨6, _⟩ => ⟨S256x384, .bf16⟩
  | .local _ .vmem, ⟨7, _⟩ => ⟨S1024x384, .bf16⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_v30_2 : Ref sig .tc := ⟨.hbm, 48, rfl⟩
abbrev main_v30_3 : Ref sig .tc := ⟨.hbm, 49, rfl⟩
abbrev main_v30_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference15Ideal.lean ====
abbrev S4096x1024 : Shape := ⟨2, ![4096, 1024]⟩
abbrev S1024 : Shape := ⟨1, ![1024]⟩
abbrev S1024x2560 : Shape := ⟨2, ![1024, 2560]⟩
abbrev S1024x320 : Shape := ⟨2, ![1024, 320]⟩
abbrev S4096x2560 : Shape := ⟨2, ![4096, 2560]⟩
abbrev S4096x320 : Shape := ⟨2, ![4096, 320]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2560, .f32⟩
  | .hbm, ⟨5, _⟩ => ⟨S1024x320, .f32⟩
  | .hbm, ⟨6, _⟩ => ⟨S4096x1024, .f32⟩
  | .hbm, ⟨7, _⟩ => ⟨S4096x2560, .f32⟩
  | .hbm, ⟨8, _⟩ => ⟨S4096x320, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x2560, .f32⟩
  | .hbm, ⟨52, _⟩ => ⟨S4096x320, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S_, .f32⟩
  | .hbm, ⟨108, _⟩ => ⟨S1024, .f32⟩
  | .hbm, ⟨109, _⟩ => ⟨S4096x1024, .bf16⟩
  | .hbm, ⟨110, _⟩ => ⟨S1x1024, .f32⟩
  | .hbm, ⟨111, _⟩ => ⟨S1x1024, .f32⟩
  | .hbm, ⟨112, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_16 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_v76 : Ref sig .tc := ⟨.hbm, 106, rfl⟩
abbrev main_cst_20 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Proof.Frames.lean ====
/- The claims that each program runs, leaves its arguments as they were and ends quiescent, and that each constant the
   idealized kernel names is the constant the kernel holds. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

namespace Cert.Proof.Frames

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

/-- Each name denotes the real that its table entry gives. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Proof.Frames

end
-- ==== Proof.Block.lean ====
/- What one block of the backward pass computes (a block: some rows of q against 512 keys), as functions of the loaded
   rows, in three sizes: 512 rows on the diagonal, 512 rows below it, 1024 rows below it. Each is read at one entry, for
   rows of real numbers. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.Block

open Idealize.ShloMosaic Cert.KernelIdeal Cert.KernelIdeal.Gen

section Terms

variable {F : FTy → Type} [FloatOps F] [Named F]

/-- The probabilities of a block on the diagonal. -/
def pD (q : Vec F S512x256 .bf16) (k : Vec F S512x256 .bf16) (l : Vec F S512x1 .f32) : FVec F S512x512 .f32 :=
  exp2 (subf (mulf (select (cmpi .sle (iota .tc S512x512 32 [1] iota_S512x512_d1_w32) (iota .tc S512x512 32 [0] iota_S512x512_d0_w32))
      (matmul dot_S512x256_S512x256_S512x512_1_1_0_0_n_n none (shapeCast S512x256 q shapeCasts_S512x256_S512x256) k
        (constant S512x512 .f32 0x00000000#32))
      (broadcast S512x512 (Named.named κ "mask" 0xF149F2CA#32 : F .f32)))
    (broadcast S512x512 (Named.named κ "exp2_scale" 0x3DD53B95#32 : F .f32)))
    (broadcastTo S512x512 (mulf (shapeCast S512x1 l shapeCasts_S512x1_S512x1)
      (broadcast S512x1 (Named.named κ "log2e" 0x3FB8AA3B#32 : F .f32))) broadcasts_S512x1_S512x512))

/-- The probabilities of 512 rows below the diagonal. -/
def p512 (q : Vec F S512x256 .bf16) (k : Vec F S512x256 .bf16) (l : Vec F S512x1 .f32) : FVec F S512x512 .f32 :=
  exp2 (subf (mulf (matmul dot_S512x256_S512x256_S512x512_1_1_0_0_n_n none (shapeCast S512x256 q shapeCasts_S512x256_S512x256) k
        (constant S512x512 .f32 0x00000000#32))
    (broadcast S512x512 (Named.named κ "exp2_scale" 0x3DD53B95#32 : F .f32)))
    (broadcastTo S512x512 (mulf (shapeCast S512x1 l shapeCasts_S512x1_S512x1)
      (broadcast S512x1 (Named.named κ "log2e" 0x3FB8AA3B#32 : F .f32))) broadcasts_S512x1_S512x512))

/-- The probabilities of 1024 rows below the diagonal. -/
def p1024 (q : Vec F S1024x256 .bf16) (k : Vec F S512x256 .bf16) (l : Vec F S1024x1 .f32) : FVec F S1024x512 .f32 :=
  exp2 (subf (mulf (matmul dot_S1024x256_S512x256_S1024x512_1_1_0_0_n_n none (shapeCast S1024x256 q shapeCasts_S1024x256_S1024x256) k
        (constant S1024x512 .f32 0x00000000#32))
    (broadcast S1024x512 (Named.named κ "exp2_scale" 0x3DD53B95#32 : F .f32)))
    (broadcastTo S1024x512 (mulf (shapeCast S1024x1 l shapeCasts_S1024x1_S1024x1)
      (broadcast S1024x1 (Named.named κ "log2e" 0x3FB8AA3B#32 : F .f32))) broadcasts_S1024x1_S1024x512))

/-- The scores' gradient of a block of 512 rows. -/
def ds512 (p : FVec F S512x512 .f32) (g : Vec F S512x128 .bf16) (v : Vec F S512x128 .bf16) (t : Vec F S512x1 .f32) : FVec F S512x512 .bf16 :=
  truncf .bf16 (mulf p (subf (matmul dot_S512x128_S512x128_S512x512_1_1_0_0_n_n none (shapeCast S512x128 g shapeCasts_S512x128_S512x128)
    (shapeCast S512x128 v shapeCasts_S512x128_S512x128) (constant S512x512 .f32 0x00000000#32))
    (broadcastTo S512x512 t broadcasts_S512x1_S512x512))) bitsLt_bf16_f32

/-- v's gradient with a block of 512 rows added. -/
def dv512 (a : Vec F S512x128 .f32) (p : FVec F S512x512 .f32) (g : Vec F S512x128 .bf16) : FVec F S512x128 .f32 :=
  shapeCast S512x128 (addf a (matmul dot_S512x512_S512x128_S512x128_0_0_1_1_n_n none (truncf .bf16 p bitsLt_bf16_f32)
    (shapeCast S512x128 g shapeCasts_S512x128_S512x128) (constant S512x128 .f32 0x00000000#32))) shapeCasts_S512x128_S512x128

/-- k's gradient with a block of 512 rows added. -/
def dk512 (a : Vec F S512x256 .f32) (d : FVec F S512x512 .bf16) (q : Vec F S512x256 .bf16) : FVec F S512x256 .f32 :=
  shapeCast S512x256 (addf a (matmul dot_S512x512_S512x256_S512x256_0_0_1_1_n_n none d
    (shapeCast S512x256 q shapeCasts_S512x256_S512x256) (constant S512x256 .f32 0x00000000#32))) shapeCasts_S512x256_S512x256

/-- q's gradient with a block of 512 rows added. -/
def dq512 (a : Vec F S512x256 .f32) (d : FVec F S512x512 .bf16) (k : Vec F S512x256 .bf16) : FVec F S512x256 .f32 :=
  shapeCast S512x256 (addf a (matmul dot_S512x512_S512x256_S512x256_1_0_0_1_n_n none d k
    (constant S512x256 .f32 0x00000000#32))) shapeCasts_S512x256_S512x256

/-- The scores' gradient of a block of 1024 rows. -/
def ds1024 (p : FVec F S1024x512 .f32) (g : Vec F S1024x128 .bf16) (v : Vec F S512x128 .bf16) (t : Vec F S1024x1 .f32) : FVec F S1024x512 .bf16 :=
  truncf .bf16 (mulf p (subf (matmul dot_S1024x128_S512x128_S1024x512_1_1_0_0_n_n none (shapeCast S1024x128 g shapeCasts_S1024x128_S1024x128)
    (shapeCast S512x128 v shapeCasts_S512x128_S512x128) (constant S1024x512 .f32 0x00000000#32))
    (broadcastTo S1024x512 t broadcasts_S1024x1_S1024x512))) bitsLt_bf16_f32

/-- v's gradient with a block of 1024 rows added. -/
def dv1024 (a : Vec F S512x128 .f32) (p : FVec F S1024x512 .f32) (g : Vec F S1024x128 .bf16) : FVec F S512x128 .f32 :=
  shapeCast S512x128 (addf a (matmul dot_S1024x512_S1024x128_S512x128_0_0_1_1_n_n none (truncf .bf16 p bitsLt_bf16_f32)
    (shapeCast S1024x128 g shapeCasts_S1024x128_S1024x128) (constant S512x128 .f32 0x00000000#32))) shapeCasts_S512x128_S512x128

/-- k's gradient with a block of 1024 rows added. -/
def dk1024 (a : Vec F S512x256 .f32) (d : FVec F S1024x512 .bf16) (q : Vec F S1024x256 .bf16) : FVec F S512x256 .f32 :=
  shapeCast S512x256 (addf a (matmul dot_S1024x512_S1024x256_S512x256_0_0_1_1_n_n none d
    (shapeCast S1024x256 q shapeCasts_S1024x256_S1024x256) (constant S512x256 .f32 0x00000000#32))) shapeCasts_S512x256_S512x256

/-- q's gradient with a block of 1024 rows added. -/
def dq1024 (a : Vec F S1024x256 .f32) (d : FVec F S1024x512 .bf16) (k : Vec F S512x256 .bf16) : FVec F S1024x256 .f32 :=
  shapeCast S1024x256 (addf a (matmul dot_S1024x512_S512x256_S1024x256_1_0_0_1_n_n none d k
    (constant S1024x256 .f32 0x00000000#32))) shapeCasts_S1024x256_S1024x256

end Terms

/-! ## The constants -/

theorem named_mask : (Named.named κ "mask" 0xF149F2CA#32 : Ideal .f32) = (⊥ : EReal) :=
  IdealRules.named_const.ideal_named_scalar _ _ _ _ rfl
theorem named_exp2 : (Named.named κ "exp2_scale" 0x3DD53B95#32 : Ideal .f32) = (((Real.sqrt 192)⁻¹ * (Real.log 2)⁻¹ : ℝ) : EReal) :=
  IdealRules.named_const.ideal_named_scalar _ _ _ _ rfl
theorem named_log2e : (Named.named κ "log2e" 0x3FB8AA3B#32 : Ideal .f32) = (((Real.log 2)⁻¹ : ℝ) : EReal) :=
  IdealRules.named_const.ideal_named_scalar _ _ _ _ rfl
theorem named_scale : (Named.named κ "scale" 0x3D93CD3A#32 : Ideal .f32) = (((Real.sqrt 192)⁻¹ : ℝ) : EReal) :=
  IdealRules.named_const.ideal_named_scalar _ _ _ _ rfl

/-! ## Sums of reals -/

theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- 2^(s/(√192 · log 2) − l/log 2) is e^(s/√192 − l). -/
theorem pow_eq (s l : ℝ) : Real.rpow 2 (s * ((Real.sqrt 192)⁻¹ * (Real.log 2)⁻¹) - l * (Real.log 2)⁻¹)
    = Real.exp (s * (Real.sqrt 192)⁻¹ - l) := by
  have h : Real.log 2 ≠ 0 := (Real.log_pos (by norm_num)).ne'
  rw [Real.rpow_eq_pow, Real.rpow_def_of_pos (by norm_num)]
  congr 1
  field_simp

theorem scale_pos : 0 < (Real.sqrt 192)⁻¹ * (Real.log 2)⁻¹ :=
  mul_pos (inv_pos.2 (Real.sqrt_pos.2 (by norm_num))) (inv_pos.2 (Real.log_pos (by norm_num)))

theorem exp2_coe (r : ℝ) : (FloatOps.exp2 (F := Ideal) (φ := .f32) (r : EReal) : EReal) = ((Real.rpow 2 r : ℝ) : EReal) := rfl

theorem exp2_bot : (FloatOps.exp2 (F := Ideal) (φ := .f32) (⊥ : EReal) : EReal) = 0 := rfl

/-! ## The blocks at an entry -/

theorem pD_apply {q : Vec Ideal S512x256 .bf16} {k : Vec Ideal S512x256 .bf16} {l : Vec Ideal S512x1 .f32}
    {Q : Fin 512 → Fin 256 → ℝ} {K : Fin 512 → Fin 256 → ℝ} {L : Fin 512 → ℝ}
    (hq : ∀ i d, q (ix2 i d) = (Q i d : EReal)) (hk : ∀ j d, k (ix2 j d) = (K j d : EReal)) (hl : ∀ i, l (ix2 i 0) = (L i : EReal))
    (i : Fin 512) (j : Fin 512) :
    pD q k l (ix2 i j) = ((if j.val ≤ i.val then Real.exp ((∑ d, Q i d * K j d) * (Real.sqrt 192)⁻¹ - L i) else 0 : ℝ) : EReal) := by
  pointwise [pD]
  simp only [hq, hk, hl, named_mask, named_exp2, named_log2e, ← EReal.coe_mul, coe_sum]
  rw [WordCmp.cmpi_sle_ofNat (by have := j.2; omega) (by have := i.2; omega)]
  by_cases h : j.val ≤ i.val
  · simp only [h, decide_true, if_true, Scalar.select, ← EReal.coe_mul, BitVec.ofBool_true, ↓reduceIte]
    rw [← EReal.coe_sub]
    exact (exp2_coe _).trans (congrArg _ (pow_eq _ _))
  · simp only [h, decide_false, if_false, Scalar.select]
    rw [if_neg (by decide), EReal.bot_mul_coe_of_pos scale_pos, EReal.bot_sub]
    exact exp2_bot

theorem p512_apply {q : Vec Ideal S512x256 .bf16} {k : Vec Ideal S512x256 .bf16} {l : Vec Ideal S512x1 .f32}
    {Q : Fin 512 → Fin 256 → ℝ} {K : Fin 512 → Fin 256 → ℝ} {L : Fin 512 → ℝ}
    (hq : ∀ i d, q (ix2 i d) = (Q i d : EReal)) (hk : ∀ j d, k (ix2 j d) = (K j d : EReal)) (hl : ∀ i, l (ix2 i 0) = (L i : EReal))
    (i : Fin 512) (j : Fin 512) :
    p512 q k l (ix2 i j) = ((Real.exp ((∑ d, Q i d * K j d) * (Real.sqrt 192)⁻¹ - L i) : ℝ) : EReal) := by
  pointwise [p512]
  simp only [hq, hk, hl, named_mask, named_exp2, named_log2e, ← EReal.coe_mul, coe_sum]
  rw [← EReal.coe_sub]
  exact (exp2_coe _).trans (congrArg _ (pow_eq _ _))

theorem p1024_apply {q : Vec Ideal S1024x256 .bf16} {k : Vec Ideal S512x256 .bf16} {l : Vec Ideal S1024x1 .f32}
    {Q : Fin 1024 → Fin 256 → ℝ} {K : Fin 512 → Fin 256 → ℝ} {L : Fin 1024 → ℝ}
    (hq : ∀ i d, q (ix2 i d) = (Q i d : EReal)) (hk : ∀ j d, k (ix2 j d) = (K j d : EReal)) (hl : ∀ i, l (ix2 i 0) = (L i : EReal))
    (i : Fin 1024) (j : Fin 512) :
    p1024 q k l (ix2 i j) = ((Real.exp ((∑ d, Q i d * K j d) * (Real.sqrt 192)⁻¹ - L i) : ℝ) : EReal) := by
  pointwise [p1024]
  simp only [hq, hk, hl, named_mask, named_exp2, named_log2e, ← EReal.coe_mul, coe_sum]
  rw [← EReal.coe_sub]
  exact (exp2_coe _).trans (congrArg _ (pow_eq _ _))

theorem ds512_apply {p : FVec Ideal S512x512 .f32} {g : Vec Ideal S512x128 .bf16} {v : Vec Ideal S512x128 .bf16} {t : Vec Ideal S512x1 .f32}
    {P : Fin 512 → Fin 512 → ℝ} {G : Fin 512 → Fin 128 → ℝ} {V : Fin 512 → Fin 128 → ℝ} {T : Fin 512 → ℝ}
    (hp : ∀ i j, p (ix2 i j) = (P i j : EReal)) (hg : ∀ i d, g (ix2 i d) = (G i d : EReal)) (hv : ∀ j d, v (ix2 j d) = (V j d : EReal))
    (ht : ∀ i, t (ix2 i 0) = (T i : EReal)) (i : Fin 512) (j : Fin 512) :
    ds512 p g v t (ix2 i j) = ((P i j * ((∑ d, G i d * V j d) - T i) : ℝ) : EReal) := by
  pointwise [ds512]
  simp only [hp, hg, hv, ht, ← EReal.coe_mul, coe_sum, ← EReal.coe_sub]

theorem dv512_apply {a : Vec Ideal S512x128 .f32} {p : FVec Ideal S512x512 .f32} {g : Vec Ideal S512x128 .bf16}
    {A : Fin 512 → Fin 128 → ℝ} {P : Fin 512 → Fin 512 → ℝ} {G : Fin 512 → Fin 128 → ℝ}
    (ha : ∀ j d, a (ix2 j d) = (A j d : EReal)) (hp : ∀ i j, p (ix2 i j) = (P i j : EReal)) (hg : ∀ i d, g (ix2 i d) = (G i d : EReal))
    (j : Fin 512) (d : Fin 128) :
    dv512 a p g (ix2 j d) = ((A j d + ∑ i, P i j * G i d : ℝ) : EReal) := by
  pointwise [dv512]
  simp only [ha, hp, hg, ← EReal.coe_mul, coe_sum, ← EReal.coe_add]

theorem dk512_apply {a : Vec Ideal S512x256 .f32} {p : FVec Ideal S512x512 .bf16} {g : Vec Ideal S512x256 .bf16}
    {A : Fin 512 → Fin 256 → ℝ} {P : Fin 512 → Fin 512 → ℝ} {G : Fin 512 → Fin 256 → ℝ}
    (ha : ∀ j d, a (ix2 j d) = (A j d : EReal)) (hp : ∀ i j, p (ix2 i j) = (P i j : EReal)) (hg : ∀ i d, g (ix2 i d) = (G i d : EReal))
    (j : Fin 512) (d : Fin 256) :
    dk512 a p g (ix2 j d) = ((A j d + ∑ i, P i j * G i d : ℝ) : EReal) := by
  pointwise [dk512]
  simp only [ha, hp, hg, ← EReal.coe_mul, coe_sum, ← EReal.coe_add]

theorem dq512_apply {a : Vec Ideal S512x256 .f32} {p : FVec Ideal S512x512 .bf16} {k : Vec Ideal S512x256 .bf16}
    {A : Fin 512 → Fin 256 → ℝ} {P : Fin 512 → Fin 512 → ℝ} {K : Fin 512 → Fin 256 → ℝ}
    (ha : ∀ i d, a (ix2 i d) = (A i d : EReal)) (hp : ∀ i j, p (ix2 i j) = (P i j : EReal)) (hk : ∀ j d, k (ix2 j d) = (K j d : EReal))
    (i : Fin 512) (d : Fin 256) :
    dq512 a p k (ix2 i d) = ((A i d + ∑ j, P i j * K j d : ℝ) : EReal) := by
  pointwise [dq512]
  simp only [ha, hp, hk, ← EReal.coe_mul, coe_sum, ← EReal.coe_add]

theorem ds1024_apply {p : FVec Ideal S1024x512 .f32} {g : Vec Ideal S1024x128 .bf16} {v : Vec Ideal S512x128 .bf16} {t : Vec Ideal S1024x1 .f32}
    {P : Fin 1024 → Fin 512 → ℝ} {G : Fin 1024 → Fin 128 → ℝ} {V : Fin 512 → Fin 128 → ℝ} {T : Fin 1024 → ℝ}
    (hp : ∀ i j, p (ix2 i j) = (P i j : EReal)) (hg : ∀ i d, g (ix2 i d) = (G i d : EReal)) (hv : ∀ j d, v (ix2 j d) = (V j d : EReal))
    (ht : ∀ i, t (ix2 i 0) = (T i : EReal)) (i : Fin 1024) (j : Fin 512) :
    ds1024 p g v t (ix2 i j) = ((P i j * ((∑ d, G i d * V j d) - T i) : ℝ) : EReal) := by
  pointwise [ds1024]
  simp only [hp, hg, hv, ht, ← EReal.coe_mul, coe_sum, ← EReal.coe_sub]

theorem dv1024_apply {a : Vec Ideal S512x128 .f32} {p : FVec Ideal S1024x512 .f32} {g : Vec Ideal S1024x128 .bf16}
    {A : Fin 512 → Fin 128 → ℝ} {P : Fin 1024 → Fin 512 → ℝ} {G : Fin 1024 → Fin 128 → ℝ}
    (ha : ∀ j d, a (ix2 j d) = (A j d : EReal)) (hp : ∀ i j, p (ix2 i j) = (P i j : EReal)) (hg : ∀ i d, g (ix2 i d) = (G i d : EReal))
    (j : Fin 512) (d : Fin 128) :
    dv1024 a p g (ix2 j d) = ((A j d + ∑ i, P i j * G i d : ℝ) : EReal) := by
  pointwise [dv1024]
  simp only [ha, hp, hg, ← EReal.coe_mul, coe_sum, ← EReal.coe_add]

theorem dk1024_apply {a : Vec Ideal S512x256 .f32} {p : FVec Ideal S1024x512 .bf16} {g : Vec Ideal S1024x256 .bf16}
    {A : Fin 512 → Fin 256 → ℝ} {P : Fin 1024 → Fin 512 → ℝ} {G : Fin 1024 → Fin 256 → ℝ}
    (ha : ∀ j d, a (ix2 j d) = (A j d : EReal)) (hp : ∀ i j, p (ix2 i j) = (P i j : EReal)) (hg : ∀ i d, g (ix2 i d) = (G i d : EReal))
    (j : Fin 512) (d : Fin 256) :
    dk1024 a p g (ix2 j d) = ((A j d + ∑ i, P i j * G i d : ℝ) : EReal) := by
  pointwise [dk1024]
  simp only [ha, hp, hg, ← EReal.coe_mul, coe_sum, ← EReal.coe_add]

theorem dq1024_apply {a : Vec Ideal S1024x256 .f32} {p : FVec Ideal S1024x512 .bf16} {k : Vec Ideal S512x256 .bf16}
    {A : Fin 1024 → Fin 256 → ℝ} {P : Fin 1024 → Fin 512 → ℝ} {K : Fin 512 → Fin 256 → ℝ}
    (ha : ∀ i d, a (ix2 i d) = (A i d : EReal)) (hp : ∀ i j, p (ix2 i j) = (P i j : EReal)) (hk : ∀ j d, k (ix2 j d) = (K j d : EReal))
    (i : Fin 1024) (d : Fin 256) :
    dq1024 a p k (ix2 i d) = ((A i d + ∑ j, P i j * K j d : ℝ) : EReal) := by
  pointwise [dq1024]
  simp only [ha, hp, hk, ← EReal.coe_mul, coe_sum, ← EReal.coe_add]

end Cert.Block

end
-- ==== Proof.Hold.lean ====
/- Arrays of two axes held as functions of two numbers: what a list of stores leaves, and what a load through a
   rectangle reads of it. -/
module

public import proofs.«01_k».proof.Proof.Gen.KernelIdeal.Skeleton
public import Idealize.ShloMosaic.Lib.Pointwise
public import Idealize.ShloMosaic.Lib.WholeRead
public import Idealize.ShloMosaic.Lib.Pipeline.FrameBody
public import Idealize.ShloMosaic.Lib.Pipeline.ValueKit

@[expose] public section

noncomputable section

namespace Cert.Hold

open Idealize.ShloMosaic

/-- The array `x` has the entry `f i j` at row `i` and column `j`. -/
def Arr {α : Type*} {n m : ℕ} (x : (⟨2, ![n, m]⟩ : Shape).Idx → α) (f : ℕ → ℕ → α) : Prop := ∀ i j, x (ix2 i j) = f i.val j.val

variable {sig : RefSig} {κ : Kind} {sp : Space} {e : EltTy} {Val : EltTy → Type} [∀ e, Nonempty (Val e)] {n m n' m' a b : ℕ}

theorem Arr.congr {α : Type*} {x : (⟨2, ![n, m]⟩ : Shape).Idx → α} {f g : ℕ → ℕ → α} (h : Arr x f)
    (hfg : ∀ i j, i < n → j < m → f i j = g i j) : Arr x g := fun i j => (h i j).trans (hfg _ _ i.2 j.2)

theorem Arr.at {α : Type*} {x : (⟨2, ![n, m]⟩ : Shape).Idx → α} {f : ℕ → ℕ → α} (h : Arr x f) (y : (⟨2, ![n, m]⟩ : Shape).Idx) :
    x y = f (y 0).val (y 1).val := by
  have e : y = ix2 (n0 := n) (n1 := m) (y 0) (y 1) := eq_ix2 y
  rw [e]; exact h _ _

theorem idx_eq (inb : ∀ x, (![a, b] : Fin 2 → ℕ) x + (⟨2, ![n', m']⟩ : Shape).size x ≤ (⟨2, ![n, m]⟩ : Shape).size x) (i : Fin n') (j : Fin m')
    (hi : a + i.val < n) (hj : b + j.val < m) :
    (Rect.unit (s := (⟨2, ![n, m]⟩ : Shape)) ![a, b] (⟨2, ![n', m']⟩ : Shape).size inb).idx (ix2 i j) = ix2 ⟨a + i.val, hi⟩ ⟨b + j.val, hj⟩ := by
  funext x
  apply Fin.ext
  rw [Rect.idx_unit_val]
  match x with
  | ⟨0, _⟩ => rfl
  | ⟨1, _⟩ => rfl

theorem bounds (inb : ∀ x, (![a, b] : Fin 2 → ℕ) x + (⟨2, ![n', m']⟩ : Shape).size x ≤ (⟨2, ![n, m]⟩ : Shape).size x) : a + n' ≤ n ∧ b + m' ≤ m :=
  ⟨inb 0, inb 1⟩

theorem Arr.ld {x : (⟨2, ![n, m]⟩ : Shape).Idx → Val e} {f : ℕ → ℕ → Val e} (h : Arr x f)
    (inb : ∀ x, (![a, b] : Fin 2 → ℕ) x + (⟨2, ![n', m']⟩ : Shape).size x ≤ (⟨2, ![n, m]⟩ : Shape).size x) :
    Arr (n := n') (m := m') (fun y => x ((Rect.unit (s := (⟨2, ![n, m]⟩ : Shape)) ![a, b] (⟨2, ![n', m']⟩ : Shape).size inb).idx y))
      (fun i j => f (a + i) (b + j)) := by
  intro i j
  have hb := bounds inb
  have hi := i.2
  have hj := j.2
  show x _ = _
  rw [idx_eq inb i j (by omega) (by omega)]
  exact h _ _

/-- A load of what the stores `L` left. -/
theorem Arr.readCov {L : List (View.Piece Val (⟨2, ![n, m]⟩ : Shape) e)} {f : ℕ → ℕ → Val e} (h : Arr (View.canon L) f)
    (v : View sig κ sp (⟨2, ![n, m]⟩ : Shape) e)
    (inb : ∀ x, (![a, b] : Fin 2 → ℕ) x + (⟨2, ![n', m']⟩ : Shape).size x ≤ (⟨2, ![n, m]⟩ : Shape).size x) :
    Arr (n := n') (m := m') (v.readCov L (Rect.unit (s := (⟨2, ![n, m]⟩ : Shape)) ![a, b] (⟨2, ![n', m']⟩ : Shape).size inb).toLoadRect)
      (fun i j => f (a + i) (b + j)) := by
  rw [View.readCov_eq_canon']
  exact h.ld inb

/-- A load of an argument. -/
theorem Arr.readAt {x : (⟨2, ![n, m]⟩ : Shape).Idx → Val e} {f : ℕ → ℕ → Val e} (h : Arr x f)
    {M : Memref sig κ sp (⟨2, ![n, m]⟩ : Shape) e} (hM : M.IsWhole)
    (inb : ∀ x, (![a, b] : Fin 2 → ℕ) x + (⟨2, ![n', m']⟩ : Shape).size x ≤ (⟨2, ![n, m]⟩ : Shape).size x) :
    Arr (n := n') (m := m') (View.readAt Val M.view (Rect.unit (s := (⟨2, ![n, m]⟩ : Shape)) ![a, b] (⟨2, ![n', m']⟩ : Shape).size inb).toLoadRect (hM.unread x))
      (fun i j => f (a + i) (b + j)) := by
  intro i j
  rw [hM.readAt_unread]
  exact h.ld inb i j

/-- A store of the whole array. -/
theorem Arr.whole {w : (⟨2, ![n, m]⟩ : Shape).Idx → Val e} {f : ℕ → ℕ → Val e} (h : Arr w f)
    (inb : ∀ x, (![0, 0] : Fin 2 → ℕ) x + (⟨2, ![n, m]⟩ : Shape).size x ≤ (⟨2, ![n, m]⟩ : Shape).size x)
    (L : List (View.Piece Val (⟨2, ![n, m]⟩ : Shape) e)) :
    Arr (View.canon ((⟨Rect.unit (s := (⟨2, ![n, m]⟩ : Shape)) ![0, 0] (⟨2, ![n, m]⟩ : Shape).size inb, w⟩ : View.Piece Val (⟨2, ![n, m]⟩ : Shape) e) :: L)) f := by
  rw [View.canon_cons_unit_lit inb w L (fun x => by match x with | ⟨0, _⟩ => rfl | ⟨1, _⟩ => rfl)]
  exact h

/-- A store through a rectangle: inside it the stored entries, outside it what was there. -/
theorem Arr.cons {w : (⟨2, ![n', m']⟩ : Shape).Idx → Val e} {g : ℕ → ℕ → Val e} (hw : Arr w g)
    (inb : ∀ x, (![a, b] : Fin 2 → ℕ) x + (⟨2, ![n', m']⟩ : Shape).size x ≤ (⟨2, ![n, m]⟩ : Shape).size x)
    {L : List (View.Piece Val (⟨2, ![n, m]⟩ : Shape) e)} {f : ℕ → ℕ → Val e}
    (h : ∀ (i : Fin n) (j : Fin m), ¬ ((a ≤ i.val ∧ i.val < a + n') ∧ b ≤ j.val ∧ j.val < b + m') → View.canon L (ix2 i j) = f i j)
    (hg : ∀ i j, i < n' → j < m' → g i j = f (a + i) (b + j)) :
    Arr (View.canon ((⟨Rect.unit (s := (⟨2, ![n, m]⟩ : Shape)) ![a, b] (⟨2, ![n', m']⟩ : Shape).size inb, w⟩ : View.Piece Val (⟨2, ![n, m]⟩ : Shape) e) :: L)) f := by
  intro i j
  by_cases hc : (a ≤ i.val ∧ i.val < a + n') ∧ b ≤ j.val ∧ j.val < b + m'
  · obtain ⟨⟨h1, h2⟩, h3, h4⟩ := hc
    have e : (ix2 i j : (⟨2, ![n, m]⟩ : Shape).Idx)
        = (Rect.unit (s := (⟨2, ![n, m]⟩ : Shape)) ![a, b] (⟨2, ![n', m']⟩ : Shape).size inb).emb
          (ix2 (⟨i.val - a, by omega⟩ : Fin n') (⟨j.val - b, by omega⟩ : Fin m')) := by
      refine Eq.trans ?_ (idx_eq inb _ _ (by have := i.2; simp only; omega) (by have := j.2; simp only; omega)).symm
      congr 1 <;> apply Fin.ext <;> simp only <;> omega
    rw [e]
    rw [View.canon_cons_emb]
    refine (hw _ _).trans ((hg _ _ ?_ ?_).trans ?_)
    · simp only; omega
    · simp only; omega
    · congr 1 <;> simp only <;> omega
  · rw [View.canon_cons_of_not_mem]
    · exact h i j hc
    · intro hm
      apply hc
      rw [Rect.mem_set_unit] at hm
      exact ⟨hm 0, hm 1⟩

end Cert.Hold

end
-- ==== Proof.Steps.lean ====
/- The three sums that the backward pass builds up, block by block: what a block adds to each, on arrays of reals. -/
module

public import proofs.«01_k».proof.Proof.Block
public import proofs.«01_k».proof.Proof.Hold

@[expose] public section

noncomputable section

namespace Cert.Steps

open Idealize.ShloMosaic Cert.KernelIdeal Cert.KernelIdeal.Gen Cert.Hold Cert.Block

/-- One head's arrays as reals: q, the keys' nope half beside the values, the keys' rope half, the output's gradient, the
    log-sum-exp of each row and the output. -/
structure Rows where
  Q : ℕ → ℕ → ℝ
  KV : ℕ → ℕ → ℝ
  R : ℕ → ℕ → ℝ
  G : ℕ → ℕ → ℝ
  L : ℕ → ℝ
  O : ℕ → ℕ → ℝ

variable (w : Rows)

/-- The whole key. -/
def Rows.K (j d : ℕ) : ℝ := if d < 128 then w.KV j d else w.R j (d - 128)
/-- The values. -/
def Rows.V (j d : ℕ) : ℝ := w.KV j (128 + d)
/-- The output's gradient times the output, summed over a row. -/
def Rows.T (i : ℕ) : ℝ := ∑ d ∈ Finset.range 128, w.G i d * w.O i d
/-- The probabilities. -/
def Rows.P (i j : ℕ) : ℝ := if j ≤ i then Real.exp ((∑ d ∈ Finset.range 256, w.Q i d * w.K j d) * (Real.sqrt 192)⁻¹ - w.L i) else 0
/-- The scores' gradient. -/
def Rows.D (i j : ℕ) : ℝ := w.P i j * ((∑ d ∈ Finset.range 128, w.G i d * w.V j d) - w.T i)
/-- The rows from `a` to `b` of v's gradient's sum. -/
def Rows.dv (a b j d : ℕ) : ℝ := ∑ i ∈ Finset.Ico a b, w.P i j * w.G i d
/-- The rows from `a` to `b` of k's gradient's sum. -/
def Rows.dk (a b j d : ℕ) : ℝ := ∑ i ∈ Finset.Ico a b, w.D i j * w.Q i d
/-- The first `b` keys of q's gradient's sum. -/
def Rows.dq (b i d : ℕ) : ℝ := ∑ j ∈ Finset.range b, w.D i j * w.K j d

theorem sum_Ico_add (f : ℕ → ℝ) {a b : ℕ} (n : ℕ) (h : a ≤ b) :
    (∑ i ∈ Finset.Ico a b, f i) + ∑ i : Fin n, f (b + i.val) = ∑ i ∈ Finset.Ico a (b + n), f i := by
  rw [← Finset.sum_Ico_consecutive f h (Nat.le_add_right b n), Finset.sum_Ico_eq_sum_range f b (b + n), Nat.add_sub_cancel_left,
    Finset.sum_range]

theorem sum_range_add (f : ℕ → ℝ) (b n : ℕ) :
    (∑ i ∈ Finset.range b, f i) + ∑ i : Fin n, f (b + i.val) = ∑ i ∈ Finset.range (b + n), f i := by
  rw [Finset.sum_range_add, Finset.sum_range (fun x => f (b + x))]

theorem Rows.D_zero {i j : ℕ} (h : i < j) : w.D i j = 0 := by
  unfold Rows.D Rows.P; rw [if_neg (by omega), zero_mul]

/-- The keys of a block above the diagonal add nothing. -/
theorem Rows.dq_above {i b : ℕ} (h : i < b) (n d : ℕ) : w.dq (b + n) i d = w.dq b i d := by
  unfold Rows.dq
  rw [Finset.sum_range_add]
  refine add_eq_left.2 (Finset.sum_eq_zero fun x _ => ?_)
  rw [w.D_zero (by omega), zero_mul]

variable {w}

theorem pD_arr {q k l} {s : ℕ} (hq : Arr q (fun i d => ((w.Q (s + i) (0 + d) : ℝ) : EReal))) (hk : Arr k (fun j d => ((w.K (s + j) (0 + d) : ℝ) : EReal)))
    (hl : Arr l (fun i _ => ((w.L (s + i) : ℝ) : EReal))) : Arr (pD (F := Ideal) q k l) (fun i j => ((w.P (s + i) (s + j) : ℝ) : EReal)) := by
  intro i j
  rw [pD_apply hq hk (fun i => hl i 0)]
  unfold Rows.P
  simp only [Nat.zero_add, ← Finset.sum_range (fun d => w.Q (s + i) d * w.K (s + j) d), add_le_add_iff_left]

theorem p512_arr {q k l} {s t : ℕ} (h : t + 512 ≤ s) (hq : Arr q (fun i d => ((w.Q (s + i) (0 + d) : ℝ) : EReal)))
    (hk : Arr k (fun j d => ((w.K (t + j) (0 + d) : ℝ) : EReal)))
    (hl : Arr l (fun i _ => ((w.L (s + i) : ℝ) : EReal))) : Arr (p512 (F := Ideal) q k l) (fun i j => ((w.P (s + i) (t + j) : ℝ) : EReal)) := by
  intro i j
  rw [p512_apply hq hk (fun i => hl i 0)]
  unfold Rows.P
  have hj := j.2
  beta_reduce
  rw [if_pos (by omega)]
  simp only [Nat.zero_add, ← Finset.sum_range (fun d => w.Q (s + i) d * w.K (t + j) d)]

theorem ds512_arr {p g v l} {s t : ℕ} (hp : Arr p (fun i j => ((w.P (s + i) (t + j) : ℝ) : EReal)))
    (hg : Arr g (fun i d => ((w.G (s + i) (0 + d) : ℝ) : EReal))) (hv : Arr v (fun j d => ((w.KV (t + j) (128 + d) : ℝ) : EReal)))
    (hl : Arr l (fun i _ => ((w.T (s + i) : ℝ) : EReal))) : Arr (ds512 (F := Ideal) p g v l) (fun i j => ((w.D (s + i) (t + j) : ℝ) : EReal)) := by
  intro i j
  rw [ds512_apply hp hg hv (fun i => hl i 0)]
  unfold Rows.D Rows.V
  simp only [Nat.zero_add, ← Finset.sum_range (fun d => w.G (s + i) d * w.KV (t + j) (128 + d))]

theorem dv512_arr {a p g} {s t : ℕ} (h : t ≤ s) (ha : Arr a (fun j d => ((w.dv t s (t + j) d : ℝ) : EReal)))
    (hp : Arr p (fun i j => ((w.P (s + i) (t + j) : ℝ) : EReal))) (hg : Arr g (fun i d => ((w.G (s + i) (0 + d) : ℝ) : EReal))) :
    Arr (dv512 (F := Ideal) a p g) (fun j d => ((w.dv t (s + 512) (t + j) d : ℝ) : EReal)) := by
  intro j d
  rw [dv512_apply ha hp hg]
  unfold Rows.dv
  simp only [Nat.zero_add]
  rw [sum_Ico_add (fun i => w.P i (t + j) * w.G i d) 512 h]

theorem dk512_arr {a p q} {s t : ℕ} (h : t ≤ s) (ha : Arr a (fun j d => ((w.dk t s (t + j) d : ℝ) : EReal)))
    (hp : Arr p (fun i j => ((w.D (s + i) (t + j) : ℝ) : EReal))) (hq : Arr q (fun i d => ((w.Q (s + i) (0 + d) : ℝ) : EReal))) :
    Arr (dk512 (F := Ideal) a p q) (fun j d => ((w.dk t (s + 512) (t + j) d : ℝ) : EReal)) := by
  intro j d
  rw [dk512_apply ha hp hq]
  unfold Rows.dk
  simp only [Nat.zero_add]
  rw [sum_Ico_add (fun i => w.D i (t + j) * w.Q i d) 512 h]

theorem dq512_arr {a p k} {s t : ℕ} (ha : Arr a (fun i d => ((w.dq t (s + i) d : ℝ) : EReal)))
    (hp : Arr p (fun i j => ((w.D (s + i) (t + j) : ℝ) : EReal))) (hk : Arr k (fun j d => ((w.K (t + j) (0 + d) : ℝ) : EReal))) :
    Arr (dq512 (F := Ideal) a p k) (fun i d => ((w.dq (t + 512) (s + i) d : ℝ) : EReal)) := by
  intro i d
  rw [dq512_apply ha hp hk]
  unfold Rows.dq
  simp only [Nat.zero_add]
  rw [sum_range_add (fun j => w.D (s + i) j * w.K j d) t 512]

theorem p1024_arr {q k l} {s t : ℕ} (h : t + 512 ≤ s) (hq : Arr q (fun i d => ((w.Q (s + i) (0 + d) : ℝ) : EReal)))
    (hk : Arr k (fun j d => ((w.K (t + j) (0 + d) : ℝ) : EReal)))
    (hl : Arr l (fun i _ => ((w.L (s + i) : ℝ) : EReal))) : Arr (p1024 (F := Ideal) q k l) (fun i j => ((w.P (s + i) (t + j) : ℝ) : EReal)) := by
  intro i j
  rw [p1024_apply hq hk (fun i => hl i 0)]
  unfold Rows.P
  have hj := j.2
  beta_reduce
  rw [if_pos (by omega)]
  simp only [Nat.zero_add, ← Finset.sum_range (fun d => w.Q (s + i) d * w.K (t + j) d)]

theorem ds1024_arr {p g v l} {s t : ℕ} (hp : Arr p (fun i j => ((w.P (s + i) (t + j) : ℝ) : EReal)))
    (hg : Arr g (fun i d => ((w.G (s + i) (0 + d) : ℝ) : EReal))) (hv : Arr v (fun j d => ((w.KV (t + j) (128 + d) : ℝ) : EReal)))
    (hl : Arr l (fun i _ => ((w.T (s + i) : ℝ) : EReal))) : Arr (ds1024 (F := Ideal) p g v l) (fun i j => ((w.D (s + i) (t + j) : ℝ) : EReal)) := by
  intro i j
  rw [ds1024_apply hp hg hv (fun i => hl i 0)]
  unfold Rows.D Rows.V
  simp only [Nat.zero_add, ← Finset.sum_range (fun d => w.G (s + i) d * w.KV (t + j) (128 + d))]

theorem dv1024_arr {a p g} {s t : ℕ} (h : t ≤ s) (ha : Arr a (fun j d => ((w.dv t s (t + j) d : ℝ) : EReal)))
    (hp : Arr p (fun i j => ((w.P (s + i) (t + j) : ℝ) : EReal))) (hg : Arr g (fun i d => ((w.G (s + i) (0 + d) : ℝ) : EReal))) :
    Arr (dv1024 (F := Ideal) a p g) (fun j d => ((w.dv t (s + 1024) (t + j) d : ℝ) : EReal)) := by
  intro j d
  rw [dv1024_apply ha hp hg]
  unfold Rows.dv
  simp only [Nat.zero_add]
  rw [sum_Ico_add (fun i => w.P i (t + j) * w.G i d) 1024 h]

theorem dk1024_arr {a p q} {s t : ℕ} (h : t ≤ s) (ha : Arr a (fun j d => ((w.dk t s (t + j) d : ℝ) : EReal)))
    (hp : Arr p (fun i j => ((w.D (s + i) (t + j) : ℝ) : EReal))) (hq : Arr q (fun i d => ((w.Q (s + i) (0 + d) : ℝ) : EReal))) :
    Arr (dk1024 (F := Ideal) a p q) (fun j d => ((w.dk t (s + 1024) (t + j) d : ℝ) : EReal)) := by
  intro j d
  rw [dk1024_apply ha hp hq]
  unfold Rows.dk
  simp only [Nat.zero_add]
  rw [sum_Ico_add (fun i => w.D i (t + j) * w.Q i d) 1024 h]

theorem dq1024_arr {a p k} {s t : ℕ} (ha : Arr a (fun i d => ((w.dq t (s + i) d : ℝ) : EReal)))
    (hp : Arr p (fun i j => ((w.D (s + i) (t + j) : ℝ) : EReal))) (hk : Arr k (fun j d => ((w.K (t + j) (0 + d) : ℝ) : EReal))) :
    Arr (dq1024 (F := Ideal) a p k) (fun i d => ((w.dq (t + 512) (s + i) d : ℝ) : EReal)) := by
  intro i d
  rw [dq1024_apply ha hp hk]
  unfold Rows.dq
  simp only [Nat.zero_add]
  rw [sum_range_add (fun j => w.D (s + i) j * w.K j d) t 512]

/-- Before the rows at `s` of a block's sum are added, the sum read there is that of the keys before the block. -/
theorem dq_read {L : List (View.Piece (Elt Ideal) S4096x256 .f32)} {n s t : ℕ}
    (h : Arr (n := 4096) (m := 256) (View.canon L) (fun i d => ((w.dq (if i < s then t + 512 else t) i d : ℝ) : EReal)))
    {sig : RefSig} {κ : Kind} {sp : Space} (v : View sig κ sp S4096x256 .f32)
    (inb : ∀ x, (![s, 0] : Fin 2 → ℕ) x + (⟨2, ![n, 256]⟩ : Shape).size x ≤ S4096x256.size x) :
    Arr (n := n) (m := 256) (v.readCov L (Rect.unit (s := S4096x256) ![s, 0] (⟨2, ![n, 256]⟩ : Shape).size inb).toLoadRect)
      (fun i d => ((w.dq t (s + i) d : ℝ) : EReal)) :=
  (h.readCov v inb).congr fun i d _ _ => by
    beta_reduce
    rw [if_neg (by omega), Nat.zero_add]

/-- Rows with a block added stored back. -/
theorem dq_store {L : List (View.Piece (Elt Ideal) S4096x256 .f32)} {n s t : ℕ}
    (h : Arr (n := 4096) (m := 256) (View.canon L) (fun i d => ((w.dq (if i < s then t + 512 else t) i d : ℝ) : EReal)))
    {x : (⟨2, ![n, 256]⟩ : Shape).Idx → Elt Ideal .f32} (hx : Arr x (fun i d => ((w.dq (t + 512) (s + i) d : ℝ) : EReal)))
    (inb : ∀ x, (![s, 0] : Fin 2 → ℕ) x + (⟨2, ![n, 256]⟩ : Shape).size x ≤ S4096x256.size x) :
    Arr (n := 4096) (m := 256) (View.canon ((⟨Rect.unit (s := S4096x256) ![s, 0] (⟨2, ![n, 256]⟩ : Shape).size inb, x⟩ : View.Piece (Elt Ideal) S4096x256 .f32) :: L))
      (fun i d => ((w.dq (if i < s + n then t + 512 else t) i d : ℝ) : EReal)) := by
  refine Arr.cons hx inb (fun i d hn => (h i d).trans ?_) (fun i d hi _ => ?_)
  · have hd := d.2
    beta_reduce
    by_cases hi : i.val < s
    · rw [if_pos hi, if_pos (by omega)]
    · rw [if_neg hi, if_neg (by omega)]
  · beta_reduce
    rw [if_pos (by omega), Nat.zero_add]

/-- The sums of a key block done, the next one's begin: its keys add nothing to the rows before it. -/
theorem dq_next {L : List (View.Piece (Elt Ideal) S4096x256 .f32)} {t : ℕ} (u : ℕ) (hu : t + 512 = u)
    (h : Arr (n := 4096) (m := 256) (View.canon L) (fun i d => ((w.dq (if i < 4096 then t + 512 else t) i d : ℝ) : EReal))) :
    Arr (n := 4096) (m := 256) (View.canon L) (fun i d => ((w.dq (if i < u then u + 512 else u) i d : ℝ) : EReal)) :=
  h.congr fun i d hi _ => by
    beta_reduce
    rw [if_pos hi, hu]
    split
    · rename_i h; rw [w.dq_above h]
    · rfl

theorem dv_zero (t j d : ℕ) : w.dv t t j d = 0 := by unfold Rows.dv; rw [Finset.Ico_self, Finset.sum_empty]
theorem dk_zero (t j d : ℕ) : w.dk t t j d = 0 := by unfold Rows.dk; rw [Finset.Ico_self, Finset.sum_empty]

/-- What the arguments of a point hold. -/
structure Ins (w : Rows) (x0 : Vec Ideal S4096x256 .bf16) (x1 : Vec Ideal S4096x256 .bf16) (x2 : Vec Ideal S4096x128 .bf16)
    (x3 : Vec Ideal S4096x128 .bf16) (x4 : Vec Ideal S4096x128 .f32) (x5 : Vec Ideal S4096x128 .f32) : Prop where
  q : Arr (n := 4096) (m := 256) x0 (fun i d => ((w.Q i d : ℝ) : EReal))
  kv : Arr (n := 4096) (m := 256) x1 (fun i d => ((w.KV i d : ℝ) : EReal))
  r : Arr (n := 4096) (m := 128) x2 (fun i d => ((w.R i d : ℝ) : EReal))
  g : Arr (n := 4096) (m := 128) x3 (fun i d => ((w.G i d : ℝ) : EReal))
  l : Arr (n := 4096) (m := 128) x4 (fun i _ => ((w.L i : ℝ) : EReal))
  o : Arr (n := 4096) (m := 128) x5 (fun i d => ((w.O i d : ℝ) : EReal))

end Cert.Steps

end
-- ==== Proof.Out.lean ====
/- What is stored of the sums at the end: k's gradient scaled and split into its two halves, v's as it is, q's scaled and
   its rope half rotated back. -/
module

public import proofs.«01_k».proof.Proof.Steps

@[expose] public section

set_option maxRecDepth 16384

noncomputable section

namespace Cert.Out

open Idealize.ShloMosaic Cert.KernelIdeal Cert.KernelIdeal.Gen Cert.Hold Cert.Block Cert.Steps

section Terms

variable {F : FTy → Type} [FloatOps F] [Named F]

/-- The nope half of k's gradient. -/
def nope (a : Vec F S512x256 .f32) : FVec F S512x128 .bf16 :=
  truncf .bf16 (extractStridedSlice S512x128 ![0, 0] (mulf a (broadcast S512x256 (Named.named κ "scale" 0x3D93CD3A#32 : F .f32)))
    slices_S512x256_o0_0_S512x128) bitsLt_bf16_f32

/-- The rope half of k's gradient, added to what the heads before left. -/
def rope (a : Vec F S512x256 .f32) (b : Vec F S512x128 .f32) : FVec F S512x128 .f32 :=
  addf (shapeCast S512x128 b shapeCasts_S512x128_S512x128)
    (extractStridedSlice S512x128 ![0, 128] (mulf a (broadcast S512x256 (Named.named κ "scale" 0x3D93CD3A#32 : F .f32)))
      slices_S512x256_o0_128_S512x128)

/-- v's gradient. -/
def val (a : Vec F S512x128 .f32) : FVec F S512x128 .bf16 := truncf .bf16 a bitsLt_bf16_f32

/-- The nope half of q's gradient. -/
def qnope (a : Vec F S4096x256 .f32) : FVec F S4096x128 .bf16 :=
  truncf .bf16 (extractStridedSlice S4096x128 ![0, 0] (mulf a (broadcast S4096x256 (Named.named κ "scale" 0x3D93CD3A#32 : F .f32)))
    slices_S4096x256_o0_0_S4096x128) bitsLt_bf16_f32

/-- The rope half of q's gradient, scaled. -/
def qhalf (a : Vec F S4096x256 .f32) : FVec F S4096x128 .f32 :=
  extractStridedSlice S4096x128 ![0, 128] (mulf a (broadcast S4096x256 (Named.named κ "scale" 0x3D93CD3A#32 : F .f32)))
    slices_S4096x256_o0_128_S4096x128

/-- The rope half of q's gradient, rotated back. -/
def qrope (a : Vec F S4096x256 .f32) (c s : Vec F S4096x128 .f32) : FVec F S4096x128 .bf16 :=
  truncf .bf16 (subf (mulf (qhalf a) (shapeCast S4096x128 c shapeCasts_S4096x128_S4096x128))
    (mulf (select (cmpi .slt (iota .tc S4096x128 32 [1] iota_S4096x128_d1_w32) (broadcast S4096x128 32#32))
        (dynamicRotate 1 96#32 none (qhalf a) rotates_S4096x128_d1) (dynamicRotate 1 32#32 none (qhalf a) rotates_S4096x128_d1))
      (shapeCast S4096x128 s shapeCasts_S4096x128_S4096x128))) bitsLt_bf16_f32

end Terms

/-- √192's reciprocal. -/
def sc : ℝ := (Real.sqrt 192)⁻¹

theorem nope_arr {a} {f : ℕ → ℕ → ℝ} (h : Arr a (fun j d => ((f j d : ℝ) : EReal))) :
    Arr (nope (F := Ideal) a) (fun j d => ((f j d * sc : ℝ) : EReal)) := by
  intro i j
  pointwise [nope]
  simp only [h _ _, named_scale, ← EReal.coe_mul]
  simp only [sc, Nat.zero_add]

theorem rope_arr {a b} {f g : ℕ → ℕ → ℝ} (h : Arr a (fun j d => ((f j d : ℝ) : EReal))) (hb : Arr b (fun j d => ((g j d : ℝ) : EReal))) :
    Arr (rope (F := Ideal) a b) (fun j d => ((g j d + f j (128 + d) * sc : ℝ) : EReal)) := by
  intro i j
  pointwise [rope]
  simp only [h _ _, hb _ _, named_scale, ← EReal.coe_mul, ← EReal.coe_add]
  simp only [sc, Nat.add_comm]

theorem val_arr {a} {f : ℕ → ℕ → ℝ} (h : Arr a (fun j d => ((f j d : ℝ) : EReal))) :
    Arr (val (F := Ideal) a) (fun j d => ((f j d : ℝ) : EReal)) := by
  intro i j
  pointwise [val]
  exact h i j

theorem qnope_arr {a} {f : ℕ → ℕ → ℝ} (h : Arr a (fun j d => ((f j d : ℝ) : EReal))) :
    Arr (qnope (F := Ideal) a) (fun j d => ((f j d * sc : ℝ) : EReal)) := by
  intro i j
  pointwise [qnope]
  simp only [h _ _, named_scale, ← EReal.coe_mul]
  simp only [sc, Nat.zero_add]

theorem qhalf_arr {a} {f : ℕ → ℕ → ℝ} (h : Arr a (fun j d => ((f j d : ℝ) : EReal))) :
    Arr (qhalf (F := Ideal) a) (fun j d => ((f j (128 + d) * sc : ℝ) : EReal)) := by
  intro i j
  pointwise [qhalf]
  simp only [h _ _, named_scale, ← EReal.coe_mul]
  simp only [sc, Nat.add_comm]

theorem qrope_arr {a c s} {f C S : ℕ → ℕ → ℝ} (h : Arr a (fun j d => ((f j d : ℝ) : EReal)))
    (hc : Arr c (fun j d => ((C j d : ℝ) : EReal))) (hs : Arr s (fun j d => ((S j d : ℝ) : EReal))) :
    Arr (qrope (F := Ideal) a c s)
      (fun j d => ((f j (128 + d) * sc * C j d - (if d < 32 then f j (128 + (d + 32)) * sc else f j (128 + (d - 32)) * sc) * S j d : ℝ) : EReal)) := by
  intro i j
  have hq := qhalf_arr h
  revert hq
  pointwise [qrope]
  intro hq
  have hj := j.2
  rw [WordCmp.cmpi_slt_ofNat (by omega) (by omega)]
  by_cases hlt : j.val < 32
  · rw [decide_eq_true hlt, if_pos hlt]
    have e : (j.val + 128 - 96) % 128 = j.val + 32 := by omega
    simp only [Scalar.select, BitVec.ofBool, cond, if_pos, hq _ _, hc _ _, hs _ _, e, ← EReal.coe_mul, ← EReal.coe_sub]
  · rw [decide_eq_false hlt, if_neg hlt]
    have e : (j.val + 128 - 32) % 128 = j.val - 32 := by omega
    simp only [Scalar.select, decide_false]
    rw [if_neg (by decide)]
    simp only [hq _ _, hc _ _, hs _ _, e, ← EReal.coe_mul, ← EReal.coe_sub]

/-! ## Arrays known in part -/

/-- The array `x` has the entry `f i j` where `P i j`. -/
def On {α : Type*} {n m : ℕ} (P : ℕ → ℕ → Prop) (x : (⟨2, ![n, m]⟩ : Shape).Idx → α) (f : ℕ → ℕ → α) : Prop :=
  ∀ (i : Fin n) (j : Fin m), P i.val j.val → x (ix2 i j) = f i.val j.val

theorem On.nil {α : Type*} {n m : ℕ} (x : (⟨2, ![n, m]⟩ : Shape).Idx → α) (f : ℕ → ℕ → α) : On (fun _ _ => False) x f := fun _ _ h => h.elim

theorem On.cons {e : EltTy} {Val : EltTy → Type} [∀ e, Nonempty (Val e)] {n m n' m' a b : ℕ} {w : (⟨2, ![n', m']⟩ : Shape).Idx → Val e}
    {L : List (View.Piece Val (⟨2, ![n, m]⟩ : Shape) e)} {f g : ℕ → ℕ → Val e} {P P' : ℕ → ℕ → Prop} (h : On P (View.canon L) f) (hw : Arr w g)
    (inb : ∀ x, (![a, b] : Fin 2 → ℕ) x + (⟨2, ![n', m']⟩ : Shape).size x ≤ (⟨2, ![n, m]⟩ : Shape).size x)
    (hg : ∀ i j, i < n' → j < m' → g i j = f (a + i) (b + j))
    (hP : ∀ i j, P' i j → i < n → j < m → ¬ ((a ≤ i ∧ i < a + n') ∧ b ≤ j ∧ j < b + m') → P i j) :
    On P' (View.canon ((⟨Rect.unit (s := (⟨2, ![n, m]⟩ : Shape)) ![a, b] (⟨2, ![n', m']⟩ : Shape).size inb, w⟩ : View.Piece Val (⟨2, ![n, m]⟩ : Shape) e) :: L)) f := by
  intro i j hij
  have key := Arr.cons hw inb (L := L)
    (f := fun i' j' => if (a ≤ i' ∧ i' < a + n') ∧ b ≤ j' ∧ j' < b + m' then f i' j'
      else View.canon L (ix2 (⟨i' % n, Nat.mod_lt _ (Nat.lt_of_le_of_lt (Nat.zero_le _) i.2)⟩ : Fin n)
        (⟨j' % m, Nat.mod_lt _ (Nat.lt_of_le_of_lt (Nat.zero_le _) j.2)⟩ : Fin m)))
    (fun x y hn => by
      beta_reduce
      rw [if_neg hn]
      congr 2 <;> apply Fin.ext <;> simp only
      · exact (Nat.mod_eq_of_lt x.2).symm
      · exact (Nat.mod_eq_of_lt y.2).symm)
    (fun x y hx hy => by
      beta_reduce
      rw [if_pos (by omega)]
      exact hg x y hx hy) i j
  rw [key]
  beta_reduce
  split
  · rfl
  · rename_i hn
    have h2 := h i j (hP _ _ hij i.2 j.2 hn)
    refine Eq.trans ?_ h2
    congr 2 <;> apply Fin.ext <;> simp only
    · exact Nat.mod_eq_of_lt i.2
    · exact Nat.mod_eq_of_lt j.2

theorem On.arr {α : Type*} {n m : ℕ} {P : ℕ → ℕ → Prop} {x : (⟨2, ![n, m]⟩ : Shape).Idx → α} {f : ℕ → ℕ → α} (h : On P x f)
    (hP : ∀ i j, i < n → j < m → P i j) : Arr x f := fun i j => h i j (hP _ _ i.2 j.2)

/-! ## The three results of a point -/

variable (w : Rows)

/-- q's gradient with its rope half rotated back. -/
def outQ (C S : ℕ → ℕ → ℝ) (i d : ℕ) : ℝ :=
  if d < 128 then w.dq 4096 i d * sc
  else w.dq 4096 i d * sc * C i (d - 128) - (if d < 160 then w.dq 4096 i (d + 32) * sc else w.dq 4096 i (d - 32) * sc) * S i (d - 128)

/-- The nope half of k's gradient beside v's. -/
def outKV (j d : ℕ) : ℝ := if d < 128 then w.dk 0 4096 j d * sc else w.dv 0 4096 j (d - 128)

/-- The rope half of k's gradient, added to what the heads before left. -/
def outR (acc : ℕ → ℕ → ℝ) (j d : ℕ) : ℝ := acc j d + w.dk 0 4096 j (128 + d) * sc

theorem Rows.P_zero {i j : ℕ} (h : i < j) : w.P i j = 0 := by
  unfold Rows.P; rw [if_neg (by omega)]

/-- Rows above a key add nothing. -/
theorem dk_low {t j : ℕ} (h : t ≤ j) (ht : t ≤ 4096) (d : ℕ) : w.dk t 4096 j d = w.dk 0 4096 j d := by
  unfold Rows.dk
  rw [← Finset.sum_Ico_consecutive _ (Nat.zero_le t) ht, Finset.sum_eq_zero (s := Finset.Ico 0 t), zero_add]
  intro i hi
  rw [w.D_zero (by have := (Finset.mem_Ico.1 hi).2; omega), zero_mul]

theorem dv_low {t j : ℕ} (h : t ≤ j) (ht : t ≤ 4096) (d : ℕ) : w.dv t 4096 j d = w.dv 0 4096 j d := by
  unfold Rows.dv
  rw [← Finset.sum_Ico_consecutive _ (Nat.zero_le t) ht, Finset.sum_eq_zero (s := Finset.Ico 0 t), zero_add]
  intro i hi
  rw [Rows.P_zero w (by have := (Finset.mem_Ico.1 hi).2; omega), zero_mul]

/-! ## The zeros a sum starts from -/

theorem zero_k {f : ℕ → ℕ → ℝ} (h : ∀ j d, f j d = 0) : Arr (n := 512) (m := 256)
    (shapeCast S512x256 (broadcast S512x256 (Scalar.ofBits .f32 0x00000000#32 : Ideal .f32)) shapeCasts_S512x256_S512x256 : FVec Ideal S512x256 .f32)
    (fun j d => ((f j d : ℝ) : EReal)) := by
  intro i j
  pointwise []
  rw [h]
  rfl

theorem zero_v {f : ℕ → ℕ → ℝ} (h : ∀ j d, f j d = 0) : Arr (n := 512) (m := 128)
    (shapeCast S512x128 (broadcast S512x128 (Scalar.ofBits .f32 0x00000000#32 : Ideal .f32)) shapeCasts_S512x128_S512x128 : FVec Ideal S512x128 .f32)
    (fun j d => ((f j d : ℝ) : EReal)) := by
  intro i j
  pointwise []
  rw [h]
  rfl

theorem zero_r {f : ℕ → ℕ → ℝ} (h : ∀ j d, f j d = 0) : Arr (n := 4096) (m := 128)
    (broadcast S4096x128 (Scalar.ofBits .f32 0x00000000#32 : Ideal .f32) : FVec Ideal S4096x128 .f32)
    (fun j d => ((f j d : ℝ) : EReal)) := by
  intro i j
  pointwise []
  rw [h]
  rfl

/-- A block's rows of the shared sum, stored over zeros. -/
theorem rstep {L : List (View.Piece (Elt Ideal) S4096x128 .f32)} {t : ℕ} {f g : ℕ → ℕ → ℝ}
    (h : Arr (n := 4096) (m := 128) (View.canon L) (fun i d => (((if i < t then f i d else 0) : ℝ) : EReal)))
    {x : (⟨2, ![512, 128]⟩ : Shape).Idx → Elt Ideal .f32} (hx : Arr x (fun i d => ((g i d : ℝ) : EReal)))
    (inb : ∀ x, (![t, 0] : Fin 2 → ℕ) x + (⟨2, ![512, 128]⟩ : Shape).size x ≤ S4096x128.size x) (hg : ∀ i d, g i d = f (t + i) d) :
    Arr (n := 4096) (m := 128) (View.canon ((⟨Rect.unit (s := S4096x128) ![t, 0] (⟨2, ![512, 128]⟩ : Shape).size inb, x⟩ : View.Piece (Elt Ideal) S4096x128 .f32) :: L))
      (fun i d => (((if i < t + 512 then f i d else 0) : ℝ) : EReal)) := by
  refine Arr.cons hx inb (fun i d hn => (h i d).trans ?_) (fun i d hi _ => ?_)
  · have hd := d.2
    beta_reduce
    by_cases hi : i.val < t
    · rw [if_pos hi, if_pos (by omega)]
    · rw [if_neg hi, if_neg (by omega)]
  · beta_reduce
    rw [if_pos (by omega), Nat.zero_add, hg]

end Cert.Out

end
-- ==== Proof.RunA.lean ====
/- What the four scratch arrays hold after each block of a group's first point. -/
module

public import proofs.«01_k».proof.Proof.Steps
public import proofs.«01_k».proof.Proof.Gen.KernelIdeal.Frame.RunA

@[expose] public section

set_option maxRecDepth 16384

noncomputable section

namespace Cert.PointA

open Idealize.ShloMosaic Idealize.ShloMosaic.TcCoe Cert.KernelIdeal Cert.KernelIdeal.Gen Cert.Hold Cert.Block Cert.Steps

theorem inb_S512x256_S512x256_0_0 : ∀ x, (![0, 0] : Fin 2 → ℕ) x + (⟨2, ![512, 256]⟩ : Shape).size x ≤ S512x256.size x := by decide
theorem inb_S512x128_S512x128_0_0 : ∀ x, (![0, 0] : Fin 2 → ℕ) x + (⟨2, ![512, 128]⟩ : Shape).size x ≤ S512x128.size x := by decide

variable (c : Dev nD)
  (arg1 : Memref sig .tc .vmem S4096x256 .bf16) (harg1 : arg1.IsWhole)
  (arg2 : Memref sig .tc .vmem S4096x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x256 .bf16) (harg9 : arg9.IsWhole)
  (arg10 : Memref sig .tc .vmem S4096x256 .bf16) (harg10 : arg10.IsWhole)
  (arg11 : Memref sig .tc .vmem S4096x128 .f32) (harg11 : arg11.IsWhole)
  (arg12 : Memref sig .tc .vmem S4096x256 .bf16) (harg12 : arg12.IsWhole)
  (arg13 : Memref sig .tc .vmem S4096x256 .f32) (harg13 : arg13.IsWhole)
  (arg14 : Memref sig .tc .vmem S512x256 .f32) (harg14 : arg14.IsWhole)
  (arg15 : Memref sig .tc .vmem S512x128 .f32) (harg15 : arg15.IsWhole)
  (arg16 : Memref sig .tc .vmem S4096x1 .f32) (harg16 : arg16.IsWhole)
variable (x0 : Vec Ideal S4096x256 .bf16) (x1 : Vec Ideal S4096x256 .bf16) (x2 : Vec Ideal S4096x128 .bf16) (x3 : Vec Ideal S4096x128 .bf16) (x4 : Vec Ideal S4096x128 .f32) (x5 : Vec Ideal S4096x128 .f32) (x6 : Vec Ideal S4096x128 .f32) (x7 : Vec Ideal S4096x128 .f32)
variable {w : Rows} (h : Ins w x0 x1 x2 x3 x4 x5)
include h

theorem keys : Arr (n := 4096) (m := 256) (View.canon (kernelRun0_A.sl.HS0_2 (F := Ideal) c arg2 harg2 arg3 harg3 x1 x2)) (fun i d => ((w.K i d : ℝ) : EReal)) := by
  have h1 : Arr (n := 4096) (m := 128) (kernelRun0_A.sl.v4 (F := Ideal) c arg2 harg2 x1) (fun i d => ((w.KV i d : ℝ) : EReal)) := by
    intro i j
    have e : (kernelRun0_A.sl.v4 (F := Ideal) c arg2 harg2 x1) (ix2 i j) = View.readAt (Elt Ideal) arg2.view (Rect.unit (s := S4096x256) ![0, 0] S4096x128.size inb_S4096x256_S4096x128_0_0).toLoadRect (harg2.unread x1) (ix2 i j) := by
      unfold kernelRun0_A.sl.v4 kernelRun0_A.sl.v1
      pointwise []
    rw [e, h.kv.readAt harg2 inb_S4096x256_S4096x128_0_0 i j]
    simp only [Nat.zero_add]
  have h2 : Arr (n := 4096) (m := 128) (kernelRun0_A.sl.v9 (F := Ideal) c arg3 harg3 x2) (fun i d => ((w.R i d : ℝ) : EReal)) := by
    intro i j
    have e : (kernelRun0_A.sl.v9 (F := Ideal) c arg3 harg3 x2) (ix2 i j) = View.readAt (Elt Ideal) arg3.view (Rect.unit (s := S4096x128) ![0, 0] S4096x128.size inb_S4096x128_S4096x128_0_0).toLoadRect (harg3.unread x2) (ix2 i j) := by
      unfold kernelRun0_A.sl.v9 kernelRun0_A.sl.v6
      pointwise []
    rw [e, h.r.readAt harg3 inb_S4096x128_S4096x128_0_0 i j]
    simp only [Nat.zero_add]
  refine Arr.cons h2 inb_S4096x256_S4096x128_0_128 (fun i j hn => ?_) (fun i d _ hd => ?_)
  · have hi := i.2
    have hj := j.2
    refine (Arr.cons (f := fun i d => if d < 128 then ((w.KV i d : ℝ) : EReal) else View.canon [] (ix2 (n0 := 4096) (n1 := 256) ⟨i % 4096, Nat.mod_lt _ (by decide)⟩ ⟨d % 256, Nat.mod_lt _ (by decide)⟩)) h1 inb_S4096x256_S4096x128_0_0 (fun i j hn => ?_) (fun i d _ hd => ?_) i j).trans ?_
    · have hi := i.2
      have hj := j.2
      beta_reduce
      rw [if_neg (by omega)]
      congr 2 <;> apply Fin.ext <;> simp only <;> omega
    · beta_reduce
      rw [if_pos (by omega)]; simp only [Nat.zero_add]
    · unfold Rows.K
      beta_reduce
      beta_reduce
      rw [if_pos (by omega), if_pos (by omega)]
  · unfold Rows.K
    beta_reduce
    rw [if_neg (by omega), Nat.zero_add, Nat.add_sub_cancel_left]

theorem rows : Arr (n := 4096) (m := 1) (View.canon (kernelRun0_A.sl.HS4_1 (F := Ideal) c arg4 harg4 arg6 harg6 x3 x5)) (fun i _ => ((w.T i : ℝ) : EReal)) := by
  refine Arr.whole ?_ inb_S4096x1_S4096x1_0_0 []
  have hg := h.g.readAt harg4 inb_S4096x128_S4096x128_0_0
  have ho := h.o.readAt harg6 inb_S4096x128_S4096x128_0_0
  intro i j
  unfold kernelRun0_A.sl.v24 kernelRun0_A.sl.v21 kernelRun0_A.sl.v20 kernelRun0_A.sl.v19 kernelRun0_A.sl.v18 kernelRun0_A.sl.v16 kernelRun0_A.sl.v15
  pointwise []
  unfold Rows.T
  simp only [hg _ _, ho _ _, Nat.zero_add, ← EReal.coe_mul, coe_sum, Finset.sum_range]

theorem zero : Arr (n := 4096) (m := 256) (View.canon (kernelRun0_A.sl.HS1_1 (F := Ideal))) (fun i d => ((w.dq (if i < 0 then 0 + 512 else 0) i d : ℝ) : EReal)) := by
  refine Arr.whole ?_ inb_S4096x256_S4096x256_0_0 []
  intro i j
  unfold kernelRun0_A.sl.v13 kernelRun0_A.sl.v10 kernelRun0_A.sl.cst
  unfold Rows.dq
  pointwise []
  rfl

theorem block0
    (h1 : Arr (n := 4096) (m := 256) (View.canon (kernelRun0_A.sl.HS1_1 (F := Ideal))) (fun i d => ((w.dq (if i < 0 then 0 + 512 else 0) i d : ℝ) : EReal)))
    (h2 : Arr (n := 512) (m := 256) (View.canon (kernelRun0_A.sl.HS2_1 (F := Ideal))) (fun j d => ((w.dk 0 0 (0 + j) d : ℝ) : EReal)))
    (h3 : Arr (n := 512) (m := 128) (View.canon (kernelRun0_A.sl.HS3_1 (F := Ideal))) (fun j d => ((w.dv 0 0 (0 + j) d : ℝ) : EReal))) :
    Arr (n := 4096) (m := 256) (View.canon (kernelRun0_A.sl.HS1_2 (F := Ideal) c arg1 harg1 arg2 harg2 arg3 harg3 arg4 harg4 arg5 harg5 arg6 harg6 arg12 arg13 arg16 x0 x1 x2 x3 x4 x5)) (fun i d => ((w.dq (if i < 0 + 512 then 0 + 512 else 0) i d : ℝ) : EReal))
    ∧ Arr (n := 512) (m := 256) (View.canon (kernelRun0_A.sl.HS2_2 (F := Ideal) c arg1 harg1 arg2 harg2 arg3 harg3 arg4 harg4 arg5 harg5 arg6 harg6 arg12 arg14 arg16 x0 x1 x2 x3 x4 x5)) (fun j d => ((w.dk 0 (0 + 512) (0 + j) d : ℝ) : EReal))
    ∧ Arr (n := 512) (m := 128) (View.canon (kernelRun0_A.sl.HS3_2 (F := Ideal) c arg1 harg1 arg2 harg2 arg3 harg3 arg4 harg4 arg5 harg5 arg12 arg15 x0 x1 x2 x3 x4)) (fun j d => ((w.dv 0 (0 + 512) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S512x1_0_0
  have hq := h.q.readAt harg1 inb_S4096x256_S512x256_0_0
  have hg := h.g.readAt harg4 inb_S4096x128_S512x128_0_0
  have hv := h.kv.readAt harg2 inb_S4096x256_S512x128_0_128
  have hl := h.l.readAt harg5 inb_S4096x128_S512x1_0_0
  have hp := pD_arr (w := w) (s := 0) hq hk hl
  have hd := ds512_arr (w := w) (s := 0) (t := 0) hp hg hv ht
  have a1 := dq_read h1 arg13.view inb_S4096x256_S512x256_0_0
  have a2 := (h2.readCov arg14.view inb_S512x256_S512x256_0_0).congr (g := fun j d => ((w.dk 0 0 (0 + j) d : ℝ) : EReal)) (fun j d _ _ => by simp only [Nat.zero_add])
  have a3 := (h3.readCov arg15.view inb_S512x128_S512x128_0_0).congr (g := fun j d => ((w.dv 0 0 (0 + j) d : ℝ) : EReal)) (fun j d _ _ => by simp only [Nat.zero_add])
  have b1 := dq_store h1 (dq512_arr (w := w) (s := 0) (t := 0) a1 hd hk) inb_S4096x256_S512x256_0_0
  have b2 := Arr.whole (dk512_arr (w := w) (s := 0) (t := 0) (by decide) a2 hd hq) inb_S512x256_S512x256_0_0 (kernelRun0_A.sl.HS2_1 (F := Ideal))
  have b3 := Arr.whole (dv512_arr (w := w) (s := 0) (t := 0) (by decide) a3 hp hg) inb_S512x128_S512x128_0_0 (kernelRun0_A.sl.HS3_1 (F := Ideal))
  exact ⟨b1, b2, b3⟩

theorem block1
    (h1 : Arr (n := 4096) (m := 256) (View.canon (kernelRun0_A.sl.HS1_2 (F := Ideal) c arg1 harg1 arg2 harg2 arg3 harg3 arg4 harg4 arg5 harg5 arg6 harg6 arg12 arg13 arg16 x0 x1 x2 x3 x4 x5)) (fun i d => ((w.dq (if i < 512 then 0 + 512 else 0) i d : ℝ) : EReal)))
    (h2 : Arr (n := 512) (m := 256) (View.canon (kernelRun0_A.sl.HS2_2 (F := Ideal) c arg1 harg1 arg2 harg2 arg3 harg3 arg4 harg4 arg5 harg5 arg6 harg6 arg12 arg14 arg16 x0 x1 x2 x3 x4 x5)) (fun j d => ((w.dk 0 512 (0 + j) d : ℝ) : EReal)))
    (h3 : Arr (n := 512) (m := 128) (View.canon (kernelRun0_A.sl.HS3_2 (F := Ideal) c arg1 harg1 arg2 harg2 arg3 harg3 arg4 harg4 arg5 harg5 arg12 arg15 x0 x1 x2 x3 x4)) (fun j d => ((w.dv 0 512 (0 + j) d : ℝ) : EReal))) :
    Arr (n := 4096) (m := 256) (View.canon (kernelRun0_A.sl.HS1_3 (F := Ideal) c arg1 harg1 arg2 harg2 arg3 harg3 arg4 harg4 arg5 harg5 arg6 harg6 arg12 arg13 arg16 x0 x1 x2 x3 x4 x5)) (fun i d => ((w.dq (if i < 512 + 1024 then 0 + 512 else 0) i d : ℝ) : EReal))
    ∧ Arr (n := 512) (m := 256) (View.canon (kernelRun0_A.sl.HS2_3 (F := Ideal) c arg1 harg1 arg2 harg2 arg3 harg3 arg4 harg4 arg5 harg5 arg6 harg6 arg12 arg14 arg16 x0 x1 x2 x3 x4 x5)) (fun j d => ((w.dk 0 (512 + 1024) (0 + j) d : ℝ) : EReal))
    ∧ Arr (n := 512) (m := 128) (View.canon (kernelRun0_A.sl.HS3_3 (F := Ideal) c arg1 harg1 arg2 harg2 arg3 harg3 arg4 harg4 arg5 harg5 arg12 arg15 x0 x1 x2 x3 x4)) (fun j d => ((w.dv 0 (512 + 1024) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S1024x1_512_0
  have hq := h.q.readAt harg1 inb_S4096x256_S1024x256_512_0
  have hg := h.g.readAt harg4 inb_S4096x128_S1024x128_512_0
  have hv := h.kv.readAt harg2 inb_S4096x256_S512x128_0_128
  have hl := h.l.readAt harg5 inb_S4096x128_S1024x1_512_0
  have hp := p1024_arr (w := w) (s := 512) (t := 0) (by decide) hq hk hl
  have hd := ds1024_arr (w := w) (s := 512) (t := 0) hp hg hv ht
  have a1 := dq_read h1 arg13.view inb_S4096x256_S1024x256_512_0
  have a2 := (h2.readCov arg14.view inb_S512x256_S512x256_0_0).congr (g := fun j d => ((w.dk 0 512 (0 + j) d : ℝ) : EReal)) (fun j d _ _ => by simp only [Nat.zero_add])
  have a3 := (h3.readCov arg15.view inb_S512x128_S512x128_0_0).congr (g := fun j d => ((w.dv 0 512 (0 + j) d : ℝ) : EReal)) (fun j d _ _ => by simp only [Nat.zero_add])
  have b1 := dq_store h1 (dq1024_arr (w := w) (s := 512) (t := 0) a1 hd hk) inb_S4096x256_S1024x256_512_0
  have b2 := Arr.whole (dk1024_arr (w := w) (s := 512) (t := 0) (by decide) a2 hd hq) inb_S512x256_S512x256_0_0 (kernelRun0_A.sl.HS2_2 (F := Ideal) c arg1 harg1 arg2 harg2 arg3 harg3 arg4 harg4 arg5 harg5 arg6 harg6 arg12 arg14 arg16 x0 x1 x2 x3 x4 x5)
  have b3 := Arr.whole (dv1024_arr (w := w) (s := 512) (t := 0) (by decide) a3 hp hg) inb_S512x128_S512x128_0_0 (kernelRun0_A.sl.HS3_2 (F := Ideal) c arg1 harg1 arg2 harg2 arg3 harg3 arg4 harg4 arg5 harg5 arg12 arg15 x0 x1 x2 x3 x4)
  exact ⟨b1, b2, b3⟩

theorem block2
    (h1 : Arr (n := 4096) (m := 256) (View.canon (kernelRun0_A.sl.HS1_3 (F := Ideal) c arg1 harg1 arg2 harg2 arg3 harg3 arg4 harg4 arg5 harg5 arg6 harg6 arg12 arg13 arg16 x0 x1 x2 x3 x4 x5)) (fun i d => ((w.dq (if i < 1536 then 0 + 512 else 0) i d : ℝ) : EReal)))
    (h2 : Arr (n := 512) (m := 256) (View.canon (kernelRun0_A.sl.HS2_3 (F := Ideal) c arg1 harg1 arg2 harg2 arg3 harg3 arg4 harg4 arg5 harg5 arg6 harg6 arg12 arg14 arg16 x0 x1 x2 x3 x4 x5)) (fun j d => ((w.dk 0 1536 (0 + j) d : ℝ) : EReal)))
    (h3 : Arr (n := 512) (m := 128) (View.canon (kernelRun0_A.sl.HS3_3 (F := Ideal) c arg1 harg1 arg2 harg2 arg3 harg3 arg4 harg4 arg5 harg5 arg12 arg15 x0 x1 x2 x3 x4)) (fun j d => ((w.dv 0 1536 (0 + j) d : ℝ) : EReal))) :
    Arr (n := 4096) (m := 256) (View.canon (kernelRun0_A.sl.HS1_4 (F := Ideal) c arg1 harg1 arg2 harg2 arg3 harg3 arg4 harg4 arg5 harg5 arg6 harg6 arg12 arg13 arg16 x0 x1 x2 x3 x4 x5)) (fun i d => ((w.dq (if i < 1536 + 1024 then 0 + 512 else 0) i d : ℝ) : EReal))
    ∧ Arr (n := 512) (m := 256) (View.canon (kernelRun0_A.sl.HS2_4 (F := Ideal) c arg1 harg1 arg2 harg2 arg3 harg3 arg4 harg4 arg5 harg5 arg6 harg6 arg12 arg14 arg16 x0 x1 x2 x3 x4 x5)) (fun j d => ((w.dk 0 (1536 + 1024) (0 + j) d : ℝ) : EReal))
    ∧ Arr (n := 512) (m := 128) (View.canon (kernelRun0_A.sl.HS3_4 (F := Ideal) c arg1 harg1 arg2 harg2 arg3 harg3 arg4 harg4 arg5 harg5 arg12 arg15 x0 x1 x2 x3 x4)) (fun j d => ((w.dv 0 (1536 + 1024) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S1024x1_1536_0
  have hq := h.q.readAt harg1 inb_S4096x256_S1024x256_1536_0
  have hg := h.g.readAt harg4 inb_S4096x128_S1024x128_1536_0
  have hv := h.kv.readAt harg2 inb_S4096x256_S512x128_0_128
  have hl := h.l.readAt harg5 inb_S4096x128_S1024x1_1536_0
  have hp := p1024_arr (w := w) (s := 1536) (t := 0) (by decide) hq hk hl
  have hd := ds1024_arr (w := w) (s := 1536) (t := 0) hp hg hv ht
  have a1 := dq_read h1 arg13.view inb_S4096x256_S1024x256_1536_0
  have a2 := (h2.readCov arg14.view inb_S512x256_S512x256_0_0).congr (g := fun j d => ((w.dk 0 1536 (0 + j) d : ℝ) : EReal)) (fun j d _ _ => by simp only [Nat.zero_add])
  have a3 := (h3.readCov arg15.view inb_S512x128_S512x128_0_0).congr (g := fun j d => ((w.dv 0 1536 (0 + j) d : ℝ) : EReal)) (fun j d _ _ => by simp only [Nat.zero_add])
  have b1 := dq_store h1 (dq1024_arr (w := w) (s := 1536) (t := 0) a1 hd hk) inb_S4096x256_S1024x256_1536_0
  have b2 := Arr.whole (dk1024_arr (w := w) (s := 1536) (t := 0) (by decide) a2 hd hq) inb_S512x256_S512x256_0_0 (kernelRun0_A.sl.HS2_3 (F := Ideal) c arg1 harg1 arg2 harg2 arg3 harg3 arg4 harg4 arg5 harg5 arg6 harg6 arg12 arg14 arg16 x0 x1 x2 x3 x4 x5)
  have b3 := Arr.whole (dv1024_arr (w := w) (s := 1536) (t := 0) (by decide) a3 hp hg) inb_S512x128_S512x128_0_0 (kernelRun0_A.sl.HS3_3 (F := Ideal) c arg1 harg1 arg2 harg2 arg3 harg3 arg4 harg4 arg5 harg5 arg12 arg15 x0 x1 x2 x3 x4)
  exact ⟨b1, b2, b3⟩

theorem block3
    (h1 : Arr (n := 4096) (m := 256) (View.canon (kernelRun0_A.sl.HS1_4 (F := Ideal) c arg1 harg1 arg2 harg2 arg3 harg3 arg4 harg4 arg5 harg5 arg6 harg6 arg12 arg13 arg16 x0 x1 x2 x3 x4 x5)) (fun i d => ((w.dq (if i < 2560 then 0 + 512 else 0) i d : ℝ) : EReal)))
    (h2 : Arr (n := 512) (m := 256) (View.canon (kernelRun0_A.sl.HS2_4 (F := Ideal) c arg1 harg1 arg2 harg2 arg3 harg3 arg4 harg4 arg5 harg5 arg6 harg6 arg12 arg14 arg16 x0 x1 x2 x3 x4 x5)) (fun j d => ((w.dk 0 2560 (0 + j) d : ℝ) : EReal)))
    (h3 : Arr (n := 512) (m := 128) (View.canon (kernelRun0_A.sl.HS3_4 (F := Ideal) c arg1 harg1 arg2 harg2 arg3 harg3 arg4 harg4 arg5 harg5 arg12 arg15 x0 x1 x2 x3 x4)) (fun j d => ((w.dv 0 2560 (0 + j) d : ℝ) : EReal))) :
    Arr (n := 4096) (m := 256) (View.canon (kernelRun0_A.sl.HS1_5 (F := Ideal) c arg1 harg1 arg2 harg2 arg3 harg3 arg4 harg4 arg5 harg5 arg6 harg6 arg12 arg13 arg16 x0 x1 x2 x3 x4 x5)) (fun i d => ((w.dq (if i < 2560 + 1024 then 0 + 512 else 0) i d : ℝ) : EReal))
    ∧ Arr (n := 512) (m := 256) (View.canon (kernelRun0_A.sl.HS2_5 (F := Ideal) c arg1 harg1 arg2 harg2 arg3 harg3 arg4 harg4 arg5 harg5 arg6 harg6 arg12 arg14 arg16 x0 x1 x2 x3 x4 x5)) (fun j d => ((w.dk 0 (2560 + 1024) (0 + j) d : ℝ) : EReal))
    ∧ Arr (n := 512) (m := 128) (View.canon (kernelRun0_A.sl.HS3_5 (F := Ideal) c arg1 harg1 arg2 harg2 arg3 harg3 arg4 harg4 arg5 harg5 arg12 arg15 x0 x1 x2 x3 x4)) (fun j d => ((w.dv 0 (2560 + 1024) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S1024x1_2560_0
  have hq := h.q.readAt harg1 inb_S4096x256_S1024x256_2560_0
  have hg := h.g.readAt harg4 inb_S4096x128_S1024x128_2560_0
  have hv := h.kv.readAt harg2 inb_S4096x256_S512x128_0_128
  have hl := h.l.readAt harg5 inb_S4096x128_S1024x1_2560_0
  have hp := p1024_arr (w := w) (s := 2560) (t := 0) (by decide) hq hk hl
  have hd := ds1024_arr (w := w) (s := 2560) (t := 0) hp hg hv ht
  have a1 := dq_read h1 arg13.view inb_S4096x256_S1024x256_2560_0
  have a2 := (h2.readCov arg14.view inb_S512x256_S512x256_0_0).congr (g := fun j d => ((w.dk 0 2560 (0 + j) d : ℝ) : EReal)) (fun j d _ _ => by simp only [Nat.zero_add])
  have a3 := (h3.readCov arg15.view inb_S512x128_S512x128_0_0).congr (g := fun j d => ((w.dv 0 2560 (0 + j) d : ℝ) : EReal)) (fun j d _ _ => by simp only [Nat.zero_add])
  have b1 := dq_store h1 (dq1024_arr (w := w) (s := 2560) (t := 0) a1 hd hk) inb_S4096x256_S1024x256_2560_0
  have b2 := Arr.whole (dk1024_arr (w := w) (s := 2560) (t := 0) (by decide) a2 hd hq) inb_S512x256_S512x256_0_0 (kernelRun0_A.sl.HS2_4 (F := Ideal) c arg1 harg1 arg2 harg2 arg3 harg3 arg4 harg4 arg5 harg5 arg6 harg6 arg12 arg14 arg16 x0 x1 x2 x3 x4 x5)
  have b3 := Arr.whole (dv1024_arr (w := w) (s := 2560) (t := 0) (by decide) a3 hp hg) inb_S512x128_S512x128_0_0 (kernelRun0_A.sl.HS3_4 (F := Ideal) c arg1 harg1 arg2 harg2 arg3 harg3 arg4 harg4 arg5 harg5 arg12 arg15 x0 x1 x2 x3 x4)
  exact ⟨b1, b2, b3⟩

theorem block4
    (h1 : Arr (n := 4096) (m := 256) (View.canon (kernelRun0_A.sl.HS1_5 (F := Ideal) c arg1 harg1 arg2 harg2 arg3 harg3 arg4 harg4 arg5 harg5 arg6 harg6 arg12 arg13 arg16 x0 x1 x2 x3 x4 x5)) (fun i d => ((w.dq (if i < 3584 then 0 + 512 else 0) i d : ℝ) : EReal)))
    (h2 : Arr (n := 512) (m := 256) (View.canon (kernelRun0_A.sl.HS2_5 (F := Ideal) c arg1 harg1 arg2 harg2 arg3 harg3 arg4 harg4 arg5 harg5 arg6 harg6 arg12 arg14 arg16 x0 x1 x2 x3 x4 x5)) (fun j d => ((w.dk 0 3584 (0 + j) d : ℝ) : EReal)))
    (h3 : Arr (n := 512) (m := 128) (View.canon (kernelRun0_A.sl.HS3_5 (F := Ideal) c arg1 harg1 arg2 harg2 arg3 harg3 arg4 harg4 arg5 harg5 arg12 arg15 x0 x1 x2 x3 x4)) (fun j d => ((w.dv 0 3584 (0 + j) d : ℝ) : EReal))) :
    Arr (n := 4096) (m := 256) (View.canon (kernelRun0_A.sl.HS1_6 (F := Ideal) c arg1 harg1 arg2 harg2 arg3 harg3 arg4 harg4 arg5 harg5 arg6 harg6 arg12 arg13 arg16 x0 x1 x2 x3 x4 x5)) (fun i d => ((w.dq (if i < 3584 + 512 then 0 + 512 else 0) i d : ℝ) : EReal))
    ∧ Arr (n := 512) (m := 256) (View.canon (kernelRun0_A.sl.HS2_6 (F := Ideal) c arg1 harg1 arg2 harg2 arg3 harg3 arg4 harg4 arg5 harg5 arg6 harg6 arg12 arg14 arg16 x0 x1 x2 x3 x4 x5)) (fun j d => ((w.dk 0 (3584 + 512) (0 + j) d : ℝ) : EReal))
    ∧ Arr (n := 512) (m := 128) (View.canon (kernelRun0_A.sl.HS3_6 (F := Ideal) c arg1 harg1 arg2 harg2 arg3 harg3 arg4 harg4 arg5 harg5 arg12 arg15 x0 x1 x2 x3 x4)) (fun j d => ((w.dv 0 (3584 + 512) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_0_128
  have hl := h.l.readAt harg5 inb_S4096x128_S512x1_3584_0
  have hp := p512_arr (w := w) (s := 3584) (t := 0) (by decide) hq hk hl
  have hd := ds512_arr (w := w) (s := 3584) (t := 0) hp hg hv ht
  have a1 := dq_read h1 arg13.view inb_S4096x256_S512x256_3584_0
  have a2 := (h2.readCov arg14.view inb_S512x256_S512x256_0_0).congr (g := fun j d => ((w.dk 0 3584 (0 + j) d : ℝ) : EReal)) (fun j d _ _ => by simp only [Nat.zero_add])
  have a3 := (h3.readCov arg15.view inb_S512x128_S512x128_0_0).congr (g := fun j d => ((w.dv 0 3584 (0 + j) d : ℝ) : EReal)) (fun j d _ _ => by simp only [Nat.zero_add])
  have b1 := dq_store h1 (dq512_arr (w := w) (s := 3584) (t := 0) a1 hd hk) inb_S4096x256_S512x256_3584_0
  have b2 := Arr.whole (dk512_arr (w := w) (s := 3584) (t := 0) (by decide) a2 hd hq) inb_S512x256_S512x256_0_0 (kernelRun0_A.sl.HS2_5 (F := Ideal) c arg1 harg1 arg2 harg2 arg3 harg3 arg4 harg4 arg5 harg5 arg6 harg6 arg12 arg14 arg16 x0 x1 x2 x3 x4 x5)
  have b3 := Arr.whole (dv512_arr (w := w) (s := 3584) (t := 0) (by decide) a3 hp hg) inb_S512x128_S512x128_0_0 (kernelRun0_A.sl.HS3_5 (F := Ideal) c arg1 harg1 arg2 harg2 arg3 harg3 arg4 harg4 arg5 harg5 arg12 arg15 x0 x1 x2 x3 x4)
  exact ⟨b1, b2, b3⟩

theorem block5
    (h1 : Arr (n := 4096) (m := 256) (View.canon (kernelRun0_A.sl.HS1_6 (F := Ideal) c arg1 harg1 arg2 harg2 arg3 harg3 arg4 harg4 arg5 harg5 arg6 harg6 arg12 arg13 arg16 x0 x1 x2 x3 x4 x5)) (fun i d => ((w.dq (if i < 512 then 512 + 512 else 512) i d : ℝ) : EReal)))
    (h2 : Arr (n := 512) (m := 256) (View.canon (kernelRun0_A.sl.HS2_7 (F := Ideal) c arg1 harg1 arg2 harg2 arg3 harg3 arg4 harg4 arg5 harg5 arg6 harg6 arg12 arg14 arg16 x0 x1 x2 x3 x4 x5)) (fun j d => ((w.dk 512 512 (512 + j) d : ℝ) : EReal)))
    (h3 : Arr (n := 512) (m := 128) (View.canon (kernelRun0_A.sl.HS3_7 (F := Ideal) c arg1 harg1 arg2 harg2 arg3 harg3 arg4 harg4 arg5 harg5 arg12 arg15 x0 x1 x2 x3 x4)) (fun j d => ((w.dv 512 512 (512 + j) d : ℝ) : EReal))) :
    Arr (n := 4096) (m := 256) (View.canon (kernelRun0_A.sl.HS1_7 (F := Ideal) c arg1 harg1 arg2 harg2 arg3 harg3 arg4 harg4 arg5 harg5 arg6 harg6 arg12 arg13 arg16 x0 x1 x2 x3 x4 x5)) (fun i d => ((w.dq (if i < 512 + 512 then 512 + 512 else 512) i d : ℝ) : EReal))
    ∧ Arr (n := 512) (m := 256) (View.canon (kernelRun0_A.sl.HS2_8 (F := Ideal) c arg1 harg1 arg2 harg2 arg3 harg3 arg4 harg4 arg5 harg5 arg6 harg6 arg12 arg14 arg16 x0 x1 x2 x3 x4 x5)) (fun j d => ((w.dk 512 (512 + 512) (512 + j) d : ℝ) : EReal))
    ∧ Arr (n := 512) (m := 128) (View.canon (kernelRun0_A.sl.HS3_8 (F := Ideal) c arg1 harg1 arg2 harg2 arg3 harg3 arg4 harg4 arg5 harg5 arg12 arg15 x0 x1 x2 x3 x4)) (fun j d => ((w.dv 512 (512 + 512) (512 + j) d : ℝ) : EReal)) := by
  have hk := (keys c arg2 harg2 arg3 harg3 x0 x1 x2 x3 x4 x5 h).readCov arg12.view inb_S4096x256_S512x256_512_0
  have ht := (rows c arg4 harg4 arg6 harg6 x0 x1 x2 x3 x4 x5 h).readCov arg16.view inb_S4096x1_S512x1_512_0
  have hq := h.q.readAt harg1 inb_S4096x256_S512x256_512_0
  have hg := h.g.readAt harg4 inb_S4096x128_S512x128_512_0
  have hv := h.kv.readAt harg2 inb_S4096x256_S512x128_512_128
  have hl := h.l.readAt harg5 inb_S4096x128_S512x1_512_0
  have hp := pD_arr (w := w) (s := 512) hq hk hl
  have hd := ds512_arr (w := w) (s := 512) (t := 512) hp hg hv ht
  have a1 := dq_read h1 arg13.view inb_S4096x256_S512x256_512_0
  have a2 := (h2.readCov arg14.view inb_S512x256_S512x256_0_0).congr (g := fun j d => ((w.dk 512 512 (512 + j) d : ℝ) : EReal)) (fun j d _ _ => by simp only [Nat.zero_add])
  have a3 := (h3.readCov arg15.view inb_S512x128_S512x128_0_0).congr (g := fun j d => ((w.dv 512 512 (512 + j) d : ℝ) : EReal)) (fun j d _ _ => by simp only [Nat.zero_add])
  have b1 := dq_store h1 (dq512_arr (w := w) (s := 512) (t := 512) a1 hd hk) inb_S4096x256_S512x256_512_0
  have b2 := Arr.whole (dk512_arr (w := w) (s := 512) (t := 512) (by decide) a2 hd hq) inb_S512x256_S512x256_0_0 (kernelRun0_A.sl.HS2_7 (F := Ideal) c arg1 harg1 arg2 harg2 arg3 harg3 arg4 harg4 arg5 harg5 arg6 harg6 arg12 arg14 arg16 x0 x1 x2 x3 x4 x5)
  have b3 := Arr.whole (dv512_arr (w := w) (s := 512) (t := 512) (by decide) a3 hp hg) inb_S512x128_S512x128_0_0 (kernelRun0_A.sl.HS3_7 (F := Ideal) c arg1 harg1 arg2 harg2 arg3 harg3 arg4 harg4 arg5 harg5 arg12 arg15 x0 x1 x2 x3 x4)
  exact ⟨b1, b2, b3⟩

theorem block6
    (h1 : Arr (n := 4096) (m := 256) (View.canon (kernelRun0_A.sl.HS1_7 (F := Ideal) c arg1 harg1 arg2 harg2 arg3 harg3 arg4 harg4 arg5 harg5 arg6 harg6 arg12 arg13 arg16 x0 x1 x2 x3 x4 x5)) (fun i d => ((w.dq (if i < 1024 then 512 + 512 else 512) i d : ℝ) : EReal)))
    (h2 : Arr (n := 512) (m := 256) (View.canon (kernelRun0_A.sl.HS2_8 (F := Ideal) c arg1 harg1 arg2 harg2 arg3 harg3 arg4 harg4 arg5 harg5 arg6 harg6 arg12 arg14 arg16 x0 x1 x2 x3 x4 x5)) (fun j d => ((w.dk 512 1024 (512 + j) d : ℝ) : EReal)))
    (h3 : Arr (n := 512) (m := 128) (View.canon (kernelRun0_A.sl.HS3_8 (F := Ideal) c arg1 harg1 arg2 harg2 arg3 harg3 arg4 harg4 arg5 harg5 arg12 arg15 x0 x1 x2 x3 x4)) (fun j d => ((w.dv 512 1024 (512 + j) d : ℝ) : EReal))) :
    Arr (n := 4096) (m := 256) (View.canon (kernelRun0_A.sl.HS1_8 (F := Ideal) c arg1 harg1 arg2 harg2 arg3 harg3 arg4 harg4 arg5 harg5 arg6 harg6 arg12 arg13 arg16 x0 x1 x2 x3 x4 x5)) (fun i d => ((w.dq (if i < 1024 + 1024 then 512 + 512 else 512) i d : ℝ) : EReal))
    ∧ Arr (n := 512) (m := 256) (View.canon (kernelRun0_A.sl.HS2_9 (F := Ideal) c arg1 harg1 arg2 harg2 arg3 harg3 arg4 harg4 arg5 harg5 arg6 harg6 arg12 arg14 arg16 x0 x1 x2 x3 x4 x5)) (fun j d => ((w.dk 512 (1024 + 1024) (512 + j) d : ℝ) : EReal))
    ∧ Arr (n := 512) (m := 128) (View.canon (kernelRun0_A.sl.HS3_9 (F := Ideal) c arg1 harg1 arg2 harg2 arg3 harg3 arg4 harg4 arg5 harg5 arg12 arg15 x0 x1 x2 x3 x4)) (fun j d => ((w.dv 512 (1024 + 1024) (512 + j) d : ℝ) : EReal)) := by
  have hk := (keys c arg2 harg2 arg3 harg3 x0 x1 x2 x3 x4 x5 h).readCov arg12.view inb_S4096x256_S512x256_512_0
  have ht := (rows c arg4 harg4 arg6 harg6 x0 x1 x2 x3 x4 x5 h).readCov arg16.view inb_S4096x1_S1024x1_1024_0
  have hq := h.q.readAt harg1 inb_S4096x256_S1024x256_1024_0
  have hg := h.g.readAt harg4 inb_S4096x128_S1024x128_1024_0
  have hv := h.kv.readAt harg2 inb_S4096x256_S512x128_512_128
  have hl := h.l.readAt harg5 inb_S4096x128_S1024x1_1024_0
  have hp := p1024_arr (w := w) (s := 1024) (t := 512) (by decide) hq hk hl
  have hd := ds1024_arr (w := w) (s := 1024) (t := 512) hp hg hv ht
  have a1 := dq_read h1 arg13.view inb_S4096x256_S1024x256_1024_0
  have a2 := (h2.readCov arg14.view inb_S512x256_S512x256_0_0).congr (g := fun j d => ((w.dk 512 1024 (512 + j) d : ℝ) : EReal)) (fun j d _ _ => by simp only [Nat.zero_add])
  have a3 := (h3.readCov arg15.view inb_S512x128_S512x128_0_0).congr (g := fun j d => ((w.dv 512 1024 (512 + j) d : ℝ) : EReal)) (fun j d _ _ => by simp only [Nat.zero_add])
  have b1 := dq_store h1 (dq1024_arr (w := w) (s := 1024) (t := 512) a1 hd hk) inb_S4096x256_S1024x256_1024_0
  have b2 := Arr.whole (dk1024_arr (w := w) (s := 1024) (t := 512) (by decide) a2 hd hq) inb_S512x256_S512x256_0_0 (kernelRun0_A.sl.HS2_8 (F := Ideal) c arg1 harg1 arg2 harg2 arg3 harg3 arg4 harg4 arg5 harg5 arg6 harg6 arg12 arg14 arg16 x0 x1 x2 x3 x4 x5)
  have b3 := Arr.whole (dv1024_arr (w := w) (s := 1024) (t := 512) (by decide) a3 hp hg) inb_S512x128_S512x128_0_0 (kernelRun0_A.sl.HS3_8 (F := Ideal) c arg1 harg1 arg2 harg2 arg3 harg3 arg4 harg4 arg5 harg5 arg12 arg15 x0 x1 x2 x3 x4)
  exact ⟨b1, b2, b3⟩

theorem block7
    (h1 : Arr (n := 4096) (m := 256) (View.canon (kernelRun0_A.sl.HS1_8 (F := Ideal) c arg1 harg1 arg2 harg2 arg3 harg3 arg4 harg4 arg5 harg5 arg6 harg6 arg12 arg13 arg16 x0 x1 x2 x3 x4 x5)) (fun i d => ((w.dq (if i < 2048 then 512 + 512 else 512) i d : ℝ) : EReal)))
    (h2 : Arr (n := 512) (m := 256) (View.canon (kernelRun0_A.sl.HS2_9 (F := Ideal) c arg1 harg1 arg2 harg2 arg3 harg3 arg4 harg4 arg5 harg5 arg6 harg6 arg12 arg14 arg16 x0 x1 x2 x3 x4 x5)) (fun j d => ((w.dk 512 2048 (512 + j) d : ℝ) : EReal)))
    (h3 : Arr (n := 512) (m := 128) (View.canon (kernelRun0_A.sl.HS3_9 (F := Ideal) c arg1 harg1 arg2 harg2 arg3 harg3 arg4 harg4 arg5 harg5 arg12 arg15 x0 x1 x2 x3 x4)) (fun j d => ((w.dv 512 2048 (512 + j) d : ℝ) : EReal))) :
    Arr (n := 4096) (m := 256) (View.canon (kernelRun0_A.sl.HS1_9 (F := Ideal) c arg1 harg1 arg2 harg2 arg3 harg3 arg4 harg4 arg5 harg5 arg6 harg6 arg12 arg13 arg16 x0 x1 x2 x3 x4 x5)) (fun i d => ((w.dq (if i < 2048 + 1024 then 512 + 512 else 512) i d : ℝ) : EReal))
    ∧ Arr (n := 512) (m := 256) (View.canon (kernelRun0_A.sl.HS2_10 (F := Ideal) c arg1 harg1 arg2 harg2 arg3 harg3 arg4 harg4 arg5 harg5 arg6 harg6 arg12 arg14 arg16 x0 x1 x2 x3 x4 x5)) (fun j d => ((w.dk 512 (2048 + 1024) (512 + j) d : ℝ) : EReal))
    ∧ Arr (n := 512) (m := 128) (View.canon (kernelRun0_A.sl.HS3_10 (F := Ideal) c arg1 harg1 arg2 harg2 arg3 harg3 arg4 harg4 arg5 harg5 arg12 arg15 x0 x1 x2 x3 x4)) (fun j d => ((w.dv 512 (2048 + 1024) (512 + j) d : ℝ) : EReal)) := by
  have hk := (keys c arg2 harg2 arg3 harg3 x0 x1 x2 x3 x4 x5 h).readCov arg12.view inb_S4096x256_S512x256_512_0
  have ht := (rows c arg4 harg4 arg6 harg6 x0 x1 x2 x3 x4 x5 h).readCov arg16.view inb_S4096x1_S1024x1_2048_0
  have hq := h.q.readAt harg1 inb_S4096x256_S1024x256_2048_0
  have hg := h.g.readAt harg4 inb_S4096x128_S1024x128_2048_0
  have hv := h.kv.readAt harg2 inb_S4096x256_S512x128_512_128
  have hl := h.l.readAt harg5 inb_S4096x128_S1024x1_2048_0
  have hp := p1024_arr (w := w) (s := 2048) (t := 512) (by decide) hq hk hl
  have hd := ds1024_arr (w := w) (s := 2048) (t := 512) hp hg hv ht
  have a1 := dq_read h1 arg13.view inb_S4096x256_S1024x256_2048_0
  have a2 := (h2.readCov arg14.view inb_S512x256_S512x256_0_0).congr (g := fun j d => ((w.dk 512 2048 (512 + j) d : ℝ) : EReal)) (fun j d _ _ => by simp only [Nat.zero_add])
  have a3 := (h3.readCov arg15.view inb_S512x128_S512x128_0_0).congr (g := fun j d => ((w.dv 512 2048 (512 + j) d : ℝ) : EReal)) (fun j d _ _ => by simp only [Nat.zero_add])
  have b1 := dq_store h1 (dq1024_arr (w := w) (s := 2048) (t := 512) a1 hd hk) inb_S4096x256_S1024x256_2048_0
  have b2 := Arr.whole (dk1024_arr (w := w) (s := 2048) (t := 512) (by decide) a2 hd hq) inb_S512x256_S512x256_0_0 (kernelRun0_A.sl.HS2_9 (F := Ideal) c arg1 harg1 arg2 harg2 arg3 harg3 arg4 harg4 arg5 harg5 arg6 harg6 arg12 arg14 arg16 x0 x1 x2 x3 x4 x5)
  have b3 := Arr.whole (dv1024_arr (w := w) (s := 2048) (t := 512) (by decide) a3 hp hg) inb_S512x128_S512x128_0_0 (kernelRun0_A.sl.HS3_9 (F := Ideal) c arg1 harg1 arg2 harg2 arg3 harg3 arg4 harg4 arg5 harg5 arg12 arg15 x0 x1 x2 x3 x4)
  exact ⟨b1, b2, b3⟩

theorem block8
    (h1 : Arr (n := 4096) (m := 256) (View.canon (kernelRun0_A.sl.HS1_9 (F := Ideal) c arg1 harg1 arg2 harg2 arg3 harg3 arg4 harg4 arg5 harg5 arg6 harg6 arg12 arg13 arg16 x0 x1 x2 x3 x4 x5)) (fun i d => ((w.dq (if i < 3072 then 512 + 512 else 512) i d : ℝ) : EReal)))
    (h2 : Arr (n := 512) (m := 256) (View.canon (kernelRun0_A.sl.HS2_10 (F := Ideal) c arg1 harg1 arg2 harg2 arg3 harg3 arg4 harg4 arg5 harg5 arg6 harg6 arg12 arg14 arg16 x0 x1 x2 x3 x4 x5)) (fun j d => ((w.dk 512 3072 (512 + j) d : ℝ) : EReal)))
    (h3 : Arr (n := 512) (m := 128) (View.canon (kernelRun0_A.sl.HS3_10 (F := Ideal) c arg1 harg1 arg2 harg2 arg3 harg3 arg4 harg4 arg5 harg5 arg12 arg15 x0 x1 x2 x3 x4)) (fun j d => ((w.dv 512 3072 (512 + j) d : ℝ) : EReal))) :
    Arr (n := 4096) (m := 256) (View.canon (kernelRun0_A.sl.HS1_10 (F := Ideal) c arg1 harg1 arg2 harg2 arg3 harg3 arg4 harg4 arg5 harg5 arg6 harg6 arg12 arg13 arg16 x0 x1 x2 x3 x4 x5)) (fun i d => ((w.dq (if i < 3072 + 1024 then 512 + 512 else 512) i d : ℝ) : EReal))
    ∧ Arr (n := 512) (m := 256) (View.canon (kernelRun0_A.sl.HS2_11 (F := Ideal) c arg1 harg1 arg2 harg2 arg3 harg3 arg4 harg4 arg5 harg5 arg6 harg6 arg12 arg14 arg16 x0 x1 x2 x3 x4 x5)) (fun j d => ((w.dk 512 (3072 + 1024) (512 + j) d : ℝ) : EReal))
    ∧ Arr (n := 512) (m := 128) (View.canon (kernelRun0_A.sl.HS3_11 (F := Ideal) c arg1 harg1 arg2 harg2 arg3 harg3 arg4 harg4 arg5 harg5 arg12 arg15 x0 x1 x2 x3 x4)) (fun j d => ((w.dv 512 (3072 + 1024) (512 + j) d : ℝ) : EReal)) := by
  have hk := (keys c arg2 harg2 arg3 harg3 x0 x1 x2 x3 x4 x5 h).readCov arg12.view inb_S4096x256_S512x256_512_0
  have ht := (rows c arg4 harg4 arg6 harg6 x0 x1 x2 x3 x4 x5 h).readCov arg16.view inb_S4096x1_S1024x1_3072_0
  have hq := h.q.readAt harg1 inb_S4096x256_S1024x256_3072_0
  have hg := h.g.readAt harg4 inb_S4096x128_S1024x128_3072_0
  have hv := h.kv.readAt harg2 inb_S4096x256_S512x128_512_128
  have hl := h.l.readAt harg5 inb_S4096x128_S1024x1_3072_0
  have hp := p1024_arr (w := w) (s := 3072) (t := 512) (by decide) hq hk hl
  have hd := ds1024_arr (w := w) (s := 3072) (t := 512) hp hg hv ht
  have a1 := dq_read h1 arg13.view inb_S4096x256_S1024x256_3072_0
  have a2 := (h2.readCov arg14.view inb_S512x256_S512x256_0_0).congr (g := fun j d => ((w.dk 512 3072 (512 + j) d : ℝ) : EReal)) (fun j d _ _ => by simp only [Nat.zero_add])
  have a3 := (h3.readCov arg15.view inb_S512x128_S512x128_0_0).congr (g := fun j d => ((w.dv 512 3072 (512 + j) d : ℝ) : EReal)) (fun j d _ _ => by simp only [Nat.zero_add])
  have b1 := dq_store h1 (dq1024_arr (w := w) (s := 3072) (t := 512) a1 hd hk) inb_S4096x256_S1024x256_3072_0
  have b2 := Arr.whole (dk1024_arr (w := w) (s := 3072) (t := 512) (by decide) a2 hd hq) inb_S512x256_S512x256_0_0 (kernelRun0_A.sl.HS2_10 (F := Ideal) c arg1 harg1 arg2 harg2 arg3 harg3 arg4 harg4 arg5 harg5 arg6 harg6 arg12 arg14 arg16 x0 x1 x2 x3 x4 x5)
  have b3 := Arr.whole (dv1024_arr (w := w) (s := 3072) (t := 512) (by decide) a3 hp hg) inb_S512x128_S512x128_0_0 (kernelRun0_A.sl.HS3_10 (F := Ideal) c arg1 harg1 arg2 harg2 arg3 harg3 arg4 harg4 arg5 harg5 arg12 arg15 x0 x1 x2 x3 x4)
  exact ⟨b1, b2, b3⟩

theorem block9
    (h1 : Arr (n := 4096) (m := 256) (View.canon (kernelRun0_A.sl.HS1_10 (F := Ideal) c arg1 harg1 arg2 harg2 arg3 harg3 arg4 harg4 arg5 harg5 arg6 harg6 arg12 arg13 arg16 x0 x1 x2 x3 x4 x5)) (fun i d => ((w.dq (if i < 1024 then 1024 + 512 else 1024) i d : ℝ) : EReal)))
    (h2 : Arr (n := 512) (m := 256) (View.canon (kernelRun0_A.sl.HS2_12 (F := Ideal) c arg1 harg1 arg2 harg2 arg3 harg3 arg4 harg4 arg5 harg5 arg6 harg6 arg12 arg14 arg16 x0 x1 x2 x3 x4 x5)) (fun j d => ((w.dk 1024 1024 (1024 + j) d : ℝ) : EReal)))
    (h3 : Arr (n := 512) (m := 128) (View.canon (kernelRun0_A.sl.HS3_12 (F := Ideal) c arg1 harg1 arg2 harg2 arg3 harg3 arg4 harg4 arg5 harg5 arg12 arg15 x0 x1 x2 x3 x4)) (fun j d => ((w.dv 1024 1024 (1024 + j) d : ℝ) : EReal))) :
    Arr (n := 4096) (m := 256) (View.canon (kernelRun0_A.sl.HS1_11 (F := Ideal) c arg1 harg1 arg2 harg2 arg3 harg3 arg4 harg4 arg5 harg5 arg6 harg6 arg12 arg13 arg16 x0 x1 x2 x3 x4 x5)) (fun i d => ((w.dq (if i < 1024 + 512 then 1024 + 512 else 1024) i d : ℝ) : EReal))
    ∧ Arr (n := 512) (m := 256) (View.canon (kernelRun0_A.sl.HS2_13 (F := Ideal) c arg1 harg1 arg2 harg2 arg3 harg3 arg4 harg4 arg5 harg5 arg6 harg6 arg12 arg14 arg16 x0 x1 x2 x3 x4 x5)) (fun j d => ((w.dk 1024 (1024 + 512) (1024 + j) d : ℝ) : EReal))
    ∧ Arr (n := 512) (m := 128) (View.canon (kernelRun0_A.sl.HS3_13 (F := Ideal) c arg1 harg1 arg2 harg2 arg3 harg3 arg4 harg4 arg5 harg5 arg12 arg15 x0 x1 x2 x3 x4)) (fun j d => ((w.dv 1024 (1024 + 512) (1024 + j) d : ℝ) : EReal)) := by
  have hk := (keys c arg2 harg2 arg3 harg3 x0 x1 x2 x3 x4 x5 h).readCov arg12.view inb_S4096x256_S512x256_1024_0
  have ht := (rows c arg4 harg4 arg6 harg6 x0 x1 x2 x3 x4 x5 h).readCov arg16.view inb_S4096x1_S512x1_1024_0
  have hq := h.q.readAt harg1 inb_S4096x256_S512x256_1024_0
  have hg := h.g.readAt harg4 inb_S4096x128_S512x128_1024_0
  have hv := h.kv.readAt harg2 inb_S4096x256_S512x128_1024_128
  have hl := h.l.readAt harg5 inb_S4096x128_S512x1_1024_0
  have hp := pD_arr (w := w) (s := 1024) hq hk hl
  have hd := ds512_arr (w := w) (s := 1024) (t := 1024) hp hg hv ht
  have a1 := dq_read h1 arg13.view inb_S4096x256_S512x256_1024_0
  have a2 := (h2.readCov arg14.view inb_S512x256_S512x256_0_0).congr (g := fun j d => ((w.dk 1024 1024 (1024 + j) d : ℝ) : EReal)) (fun j d _ _ => by simp only [Nat.zero_add])
  have a3 := (h3.readCov arg15.view inb_S512x128_S512x128_0_0).congr (g := fun j d => ((w.dv 1024 1024 (1024 + j) d : ℝ) : EReal)) (fun j d _ _ => by simp only [Nat.zero_add])
  have b1 := dq_store h1 (dq512_arr (w := w) (s := 1024) (t := 1024) a1 hd hk) inb_S4096x256_S512x256_1024_0
  have b2 := Arr.whole (dk512_arr (w := w) (s := 1024) (t := 1024) (by decide) a2 hd hq) inb_S512x256_S512x256_0_0 (kernelRun0_A.sl.HS2_12 (F := Ideal) c arg1 harg1 arg2 harg2 arg3 harg3 arg4 harg4 arg5 harg5 arg6 harg6 arg12 arg14 arg16 x0 x1 x2 x3 x4 x5)
  have b3 := Arr.whole (dv512_arr (w := w) (s := 1024) (t := 1024) (by decide) a3 hp hg) inb_S512x128_S512x128_0_0 (kernelRun0_A.sl.HS3_12 (F := Ideal) c arg1 harg1 arg2 harg2 arg3 harg3 arg4 harg4 arg5 harg5 arg12 arg15 x0 x1 x2 x3 x4)
  exact ⟨b1, b2, b3⟩

theorem block10
    (h1 : Arr (n := 4096) (m := 256) (View.canon (kernelRun0_A.sl.HS1_11 (F := Ideal) c arg1 harg1 arg2 harg2 arg3 harg3 arg4 harg4 arg5 harg5 arg6 harg6 arg12 arg13 arg16 x0 x1 x2 x3 x4 x5)) (fun i d => ((w.dq (if i < 1536 then 1024 + 512 else 1024) i d : ℝ) : EReal)))
    (h2 : Arr (n := 512) (m := 256) (View.canon (kernelRun0_A.sl.HS2_13 (F := Ideal) c arg1 harg1 arg2 harg2 arg3 harg3 arg4 harg4 arg5 harg5 arg6 harg6 arg12 arg14 arg16 x0 x1 x2 x3 x4 x5)) (fun j d => ((w.dk 1024 1536 (1024 + j) d : ℝ) : EReal)))
    (h3 : Arr (n := 512) (m := 128) (View.canon (kernelRun0_A.sl.HS3_13 (F := Ideal) c arg1 harg1 arg2 harg2 arg3 harg3 arg4 harg4 arg5 harg5 arg12 arg15 x0 x1 x2 x3 x4)) (fun j d => ((w.dv 1024 1536 (1024 + j) d : ℝ) : EReal))) :
    Arr (n := 4096) (m := 256) (View.canon (kernelRun0_A.sl.HS1_12 (F := Ideal) c arg1 harg1 arg2 harg2 arg3 harg3 arg4 harg4 arg5 harg5 arg6 harg6 arg12 arg13 arg16 x0 x1 x2 x3 x4 x5)) (fun i d => ((w.dq (if i < 1536 + 1024 then 1024 + 512 else 1024) i d : ℝ) : EReal))
    ∧ Arr (n := 512) (m := 256) (View.canon (kernelRun0_A.sl.HS2_14 (F := Ideal) c arg1 harg1 arg2 harg2 arg3 harg3 arg4 harg4 arg5 harg5 arg6 harg6 arg12 arg14 arg16 x0 x1 x2 x3 x4 x5)) (fun j d => ((w.dk 1024 (1536 + 1024) (1024 + j) d : ℝ) : EReal))
    ∧ Arr (n := 512) (m := 128) (View.canon (kernelRun0_A.sl.HS3_14 (F := Ideal) c arg1 harg1 arg2 harg2 arg3 harg3 arg4 harg4 arg5 harg5 arg12 arg15 x0 x1 x2 x3 x4)) (fun j d => ((w.dv 1024 (1536 + 1024) (1024 + j) d : ℝ) : EReal)) := by
  have hk := (keys c arg2 harg2 arg3 harg3 x0 x1 x2 x3 x4 x5 h).readCov arg12.view inb_S4096x256_S512x256_1024_0
  have ht := (rows c arg4 harg4 arg6 harg6 x0 x1 x2 x3 x4 x5 h).readCov arg16.view inb_S4096x1_S1024x1_1536_0
  have hq := h.q.readAt harg1 inb_S4096x256_S1024x256_1536_0
  have hg := h.g.readAt harg4 inb_S4096x128_S1024x128_1536_0
  have hv := h.kv.readAt harg2 inb_S4096x256_S512x128_1024_128
  have hl := h.l.readAt harg5 inb_S4096x128_S1024x1_1536_0
  have hp := p1024_arr (w := w) (s := 1536) (t := 1024) (by decide) hq hk hl
  have hd := ds1024_arr (w := w) (s := 1536) (t := 1024) hp hg hv ht
  have a1 := dq_read h1 arg13.view inb_S4096x256_S1024x256_1536_0
  have a2 := (h2.readCov arg14.view inb_S512x256_S512x256_0_0).congr (g := fun j d => ((w.dk 1024 1536 (1024 + j) d : ℝ) : EReal)) (fun j d _ _ => by simp only [Nat.zero_add])
  have a3 := (h3.readCov arg15.view inb_S512x128_S512x128_0_0).congr (g := fun j d => ((w.dv 1024 1536 (1024 + j) d : ℝ) : EReal)) (fun j d _ _ => by simp only [Nat.zero_add])
  have b1 := dq_store h1 (dq1024_arr (w := w) (s := 1536) (t := 1024) a1 hd hk) inb_S4096x256_S1024x256_1536_0
  have b2 := Arr.whole (dk1024_arr (w := w) (s := 1536) (t := 1024) (by decide) a2 hd hq) inb_S512x256_S512x256_0_0 (kernelRun0_A.sl.HS2_13 (F := Ideal) c arg1 harg1 arg2 harg2 arg3 harg3 arg4 harg4 arg5 harg5 arg6 harg6 arg12 arg14 arg16 x0 x1 x2 x3 x4 x5)
  have b3 := Arr.whole (dv1024_arr (w := w) (s := 1536) (t := 1024) (by decide) a3 hp hg) inb_S512x128_S512x128_0_0 (kernelRun0_A.sl.HS3_13 (F := Ideal) c arg1 harg1 arg2 harg2 arg3 harg3 arg4 harg4 arg5 harg5 arg12 arg15 x0 x1 x2 x3 x4)
  exact ⟨b1, b2, b3⟩

theorem block11
    (h1 : Arr (n := 4096) (m := 256) (View.canon (kernelRun0_A.sl.HS1_12 (F := Ideal) c arg1 harg1 arg2 harg2 arg3 harg3 arg4 harg4 arg5 harg5 arg6 harg6 arg12 arg13 arg16 x0 x1 x2 x3 x4 x5)) (fun i d => ((w.dq (if i < 2560 then 1024 + 512 else 1024) i d : ℝ) : EReal)))
    (h2 : Arr (n := 512) (m := 256) (View.canon (kernelRun0_A.sl.HS2_14 (F := Ideal) c arg1 harg1 arg2 harg2 arg3 harg3 arg4 harg4 arg5 harg5 arg6 harg6 arg12 arg14 arg16 x0 x1 x2 x3 x4 x5)) (fun j d => ((w.dk 1024 2560 (1024 + j) d : ℝ) : EReal)))
    (h3 : Arr (n := 512) (m := 128) (View.canon (kernelRun0_A.sl.HS3_14 (F := Ideal) c arg1 harg1 arg2 harg2 arg3 harg3 arg4 harg4 arg5 harg5 arg12 arg15 x0 x1 x2 x3 x4)) (fun j d => ((w.dv 1024 2560 (1024 + j) d : ℝ) : EReal))) :
    Arr (n := 4096) (m := 256) (View.canon (kernelRun0_A.sl.HS1_13 (F := Ideal) c arg1 harg1 arg2 harg2 arg3 harg3 arg4 harg4 arg5 harg5 arg6 harg6 arg12 arg13 arg16 x0 x1 x2 x3 x4 x5)) (fun i d => ((w.dq (if i < 2560 + 1024 then 1024 + 512 else 1024) i d : ℝ) : EReal))
    ∧ Arr (n := 512) (m := 256) (View.canon (kernelRun0_A.sl.HS2_15 (F := Ideal) c arg1 harg1 arg2 harg2 arg3 harg3 arg4 harg4 arg5 harg5 arg6 harg6 arg12 arg14 arg16 x0 x1 x2 x3 x4 x5)) (fun j d => ((w.dk 1024 (2560 + 1024) (1024 + j) d : ℝ) : EReal))
    ∧ Arr (n := 512) (m := 128) (View.canon (kernelRun0_A.sl.HS3_15 (F := Ideal) c arg1 harg1 arg2 harg2 arg3 harg3 arg4 harg4 arg5 harg5 arg12 arg15 x0 x1 x2 x3 x4)) (fun j d => ((w.dv 1024 (2560 + 1024) (1024 + j) d : ℝ) : EReal)) := by
  have hk := (keys c arg2 harg2 arg3 harg3 x0 x1 x2 x3 x4 x5 h).readCov arg12.view inb_S4096x256_S512x256_1024_0
  have ht := (rows c arg4 harg4 arg6 harg6 x0 x1 x2 x3 x4 x5 h).readCov arg16.view inb_S4096x1_S1024x1_2560_0
  have hq := h.q.readAt harg1 inb_S4096x256_S1024x256_2560_0
  have hg := h.g.readAt harg4 inb_S4096x128_S1024x128_2560_0
  have hv := h.kv.readAt harg2 inb_S4096x256_S512x128_1024_128
  have hl := h.l.readAt harg5 inb_S4096x128_S1024x1_2560_0
  have hp := p1024_arr (w := w) (s := 2560) (t := 1024) (by decide) hq hk hl
  have hd := ds1024_arr (w := w) (s := 2560) (t := 1024) hp hg hv ht
  have a1 := dq_read h1 arg13.view inb_S4096x256_S1024x256_2560_0
  have a2 := (h2.readCov arg14.view inb_S512x256_S512x256_0_0).congr (g := fun j d => ((w.dk 1024 2560 (1024 + j) d : ℝ) : EReal)) (fun j d _ _ => by simp only [Nat.zero_add])
  have a3 := (h3.readCov arg15.view inb_S512x128_S512x128_0_0).congr (g := fun j d => ((w.dv 1024 2560 (1024 + j) d : ℝ) : EReal)) (fun j d _ _ => by simp only [Nat.zero_add])
  have b1 := dq_store h1 (dq1024_arr (w := w) (s := 2560) (t := 1024) a1 hd hk) inb_S4096x256_S1024x256_2560_0
  have b2 := Arr.whole (dk1024_arr (w := w) (s := 2560) (t := 1024) (by decide) a2 hd hq) inb_S512x256_S512x256_0_0 (kernelRun0_A.sl.HS2_14 (F := Ideal) c arg1 harg1 arg2 harg2 arg3 harg3 arg4 harg4 arg5 harg5 arg6 harg6 arg12 arg14 arg16 x0 x1 x2 x3 x4 x5)
  have b3 := Arr.whole (dv1024_arr (w := w) (s := 2560) (t := 1024) (by decide) a3 hp hg) inb_S512x128_S512x128_0_0 (kernelRun0_A.sl.HS3_14 (F := Ideal) c arg1 harg1 arg2 harg2 arg3 harg3 arg4 harg4 arg5 harg5 arg12 arg15 x0 x1 x2 x3 x4)
  exact ⟨b1, b2, b3⟩

theorem block12
    (h1 : Arr (n := 4096) (m := 256) (View.canon (kernelRun0_A.sl.HS1_13 (F := Ideal) c arg1 harg1 arg2 harg2 arg3 harg3 arg4 harg4 arg5 harg5 arg6 harg6 arg12 arg13 arg16 x0 x1 x2 x3 x4 x5)) (fun i d => ((w.dq (if i < 3584 then 1024 + 512 else 1024) i d : ℝ) : EReal)))
    (h2 : Arr (n := 512) (m := 256) (View.canon (kernelRun0_A.sl.HS2_15 (F := Ideal) c arg1 harg1 arg2 harg2 arg3 harg3 arg4 harg4 arg5 harg5 arg6 harg6 arg12 arg14 arg16 x0 x1 x2 x3 x4 x5)) (fun j d => ((w.dk 1024 3584 (1024 + j) d : ℝ) : EReal)))
    (h3 : Arr (n := 512) (m := 128) (View.canon (kernelRun0_A.sl.HS3_15 (F := Ideal) c arg1 harg1 arg2 harg2 arg3 harg3 arg4 harg4 arg5 harg5 arg12 arg15 x0 x1 x2 x3 x4)) (fun j d => ((w.dv 1024 3584 (1024 + j) d : ℝ) : EReal))) :
    Arr (n := 4096) (m := 256) (View.canon (kernelRun0_A.sl.HS1_14 (F := Ideal) c arg1 harg1 arg2 harg2 arg3 harg3 arg4 harg4 arg5 harg5 arg6 harg6 arg12 arg13 arg16 x0 x1 x2 x3 x4 x5)) (fun i d => ((w.dq (if i < 3584 + 512 then 1024 + 512 else 1024) i d : ℝ) : EReal))
    ∧ Arr (n := 512) (m := 256) (View.canon (kernelRun0_A.sl.HS2_16 (F := Ideal) c arg1 harg1 arg2 harg2 arg3 harg3 arg4 harg4 arg5 harg5 arg6 harg6 arg12 arg14 arg16 x0 x1 x2 x3 x4 x5)) (fun j d => ((w.dk 1024 (3584 + 512) (1024 + j) d : ℝ) : EReal))
    ∧ Arr (n := 512) (m := 128) (View.canon (kernelRun0_A.sl.HS3_16 (F := Ideal) c arg1 harg1 arg2 harg2 arg3 harg3 arg4 harg4 arg5 harg5 arg12 arg15 x0 x1 x2 x3 x4)) (fun j d => ((w.dv 1024 (3584 + 512) (1024 + j) d : ℝ) : EReal)) := by
  have hk := (keys c arg2 harg2 arg3 harg3 x0 x1 x2 x3 x4 x5 h).readCov arg12.view inb_S4096x256_S512x256_1024_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_1024_128
  have hl := h.l.readAt harg5 inb_S4096x128_S512x1_3584_0
  have hp := p512_arr (w := w) (s := 3584) (t := 1024) (by decide) hq hk hl
  have hd := ds512_arr (w := w) (s := 3584) (t := 1024) hp hg hv ht
  have a1 := dq_read h1 arg13.view inb_S4096x256_S512x256_3584_0
  have a2 := (h2.readCov arg14.view inb_S512x256_S512x256_0_0).congr (g := fun j d => ((w.dk 1024 3584 (1024 + j) d : ℝ) : EReal)) (fun j d _ _ => by simp only [Nat.zero_add])
  have a3 := (h3.readCov arg15.view inb_S512x128_S512x128_0_0).congr (g := fun j d => ((w.dv 1024 3584 (1024 + j) d : ℝ) : EReal)) (fun j d _ _ => by simp only [Nat.zero_add])
  have b1 := dq_store h1 (dq512_arr (w := w) (s := 3584) (t := 1024) a1 hd hk) inb_S4096x256_S512x256_3584_0
  have b2 := Arr.whole (dk512_arr (w := w) (s := 3584) (t := 1024) (by decide) a2 hd hq) inb_S512x256_S512x256_0_0 (kernelRun0_A.sl.HS2_15 (F := Ideal) c arg1 harg1 arg2 harg2 arg3 harg3 arg4 harg4 arg5 harg5 arg6 harg6 arg12 arg14 arg16 x0 x1 x2 x3 x4 x5)
  have b3 := Arr.whole (dv512_arr (w := w) (s := 3584) (t := 1024) (by decide) a3 hp hg) inb_S512x128_S512x128_0_0 (kernelRun0_A.sl.HS3_15 (F := Ideal) c arg1 harg1 arg2 harg2 arg3 harg3 arg4 harg4 arg5 harg5 arg12 arg15 x0 x1 x2 x3 x4)
  exact ⟨b1, b2, b3⟩

theorem block13
    (h1 : Arr (n := 4096) (m := 256) (View.canon (kernelRun0_A.sl.HS1_14 (F := Ideal) c arg1 harg1 arg2 harg2 arg3 harg3 arg4 harg4 arg5 harg5 arg6 harg6 arg12 arg13 arg16 x0 x1 x2 x3 x4 x5)) (fun i d => ((w.dq (if i < 1536 then 1536 + 512 else 1536) i d : ℝ) : EReal)))
    (h2 : Arr (n := 512) (m := 256) (View.canon (kernelRun0_A.sl.HS2_17 (F := Ideal) c arg1 harg1 arg2 harg2 arg3 harg3 arg4 harg4 arg5 harg5 arg6 harg6 arg12 arg14 arg16 x0 x1 x2 x3 x4 x5)) (fun j d => ((w.dk 1536 1536 (1536 + j) d : ℝ) : EReal)))
    (h3 : Arr (n := 512) (m := 128) (View.canon (kernelRun0_A.sl.HS3_17 (F := Ideal) c arg1 harg1 arg2 harg2 arg3 harg3 arg4 harg4 arg5 harg5 arg12 arg15 x0 x1 x2 x3 x4)) (fun j d => ((w.dv 1536 1536 (1536 + j) d : ℝ) : EReal))) :
    Arr (n := 4096) (m := 256) (View.canon (kernelRun0_A.sl.HS1_15 (F := Ideal) c arg1 harg1 arg2 harg2 arg3 harg3 arg4 harg4 arg5 harg5 arg6 harg6 arg12 arg13 arg16 x0 x1 x2 x3 x4 x5)) (fun i d => ((w.dq (if i < 1536 + 512 then 1536 + 512 else 1536) i d : ℝ) : EReal))
    ∧ Arr (n := 512) (m := 256) (View.canon (kernelRun0_A.sl.HS2_18 (F := Ideal) c arg1 harg1 arg2 harg2 arg3 harg3 arg4 harg4 arg5 harg5 arg6 harg6 arg12 arg14 arg16 x0 x1 x2 x3 x4 x5)) (fun j d => ((w.dk 1536 (1536 + 512) (1536 + j) d : ℝ) : EReal))
    ∧ Arr (n := 512) (m := 128) (View.canon (kernelRun0_A.sl.HS3_18 (F := Ideal) c arg1 harg1 arg2 harg2 arg3 harg3 arg4 harg4 arg5 harg5 arg12 arg15 x0 x1 x2 x3 x4)) (fun j d => ((w.dv 1536 (1536 + 512) (1536 + j) d : ℝ) : EReal)) := by
  have hk := (keys c arg2 harg2 arg3 harg3 x0 x1 x2 x3 x4 x5 h).readCov arg12.view inb_S4096x256_S512x256_1536_0
  have ht := (rows c arg4 harg4 arg6 harg6 x0 x1 x2 x3 x4 x5 h).readCov arg16.view inb_S4096x1_S512x1_1536_0
  have hq := h.q.readAt harg1 inb_S4096x256_S512x256_1536_0
  have hg := h.g.readAt harg4 inb_S4096x128_S512x128_1536_0
  have hv := h.kv.readAt harg2 inb_S4096x256_S512x128_1536_128
  have hl := h.l.readAt harg5 inb_S4096x128_S512x1_1536_0
  have hp := pD_arr (w := w) (s := 1536) hq hk hl
  have hd := ds512_arr (w := w) (s := 1536) (t := 1536) hp hg hv ht
  have a1 := dq_read h1 arg13.view inb_S4096x256_S512x256_1536_0
  have a2 := (h2.readCov arg14.view inb_S512x256_S512x256_0_0).congr (g := fun j d => ((w.dk 1536 1536 (1536 + j) d : ℝ) : EReal)) (fun j d _ _ => by simp only [Nat.zero_add])
  have a3 := (h3.readCov arg15.view inb_S512x128_S512x128_0_0).congr (g := fun j d => ((w.dv 1536 1536 (1536 + j) d : ℝ) : EReal)) (fun j d _ _ => by simp only [Nat.zero_add])
  have b1 := dq_store h1 (dq512_arr (w := w) (s := 1536) (t := 1536) a1 hd hk) inb_S4096x256_S512x256_1536_0
  have b2 := Arr.whole (dk512_arr (w := w) (s := 1536) (t := 1536) (by decide) a2 hd hq) inb_S512x256_S512x256_0_0 (kernelRun0_A.sl.HS2_17 (F := Ideal) c arg1 harg1 arg2 harg2 arg3 harg3 arg4 harg4 arg5 harg5 arg6 harg6 arg12 arg14 arg16 x0 x1 x2 x3 x4 x5)
  have b3 := Arr.whole (dv512_arr (w := w) (s := 1536) (t := 1536) (by decide) a3 hp hg) inb_S512x128_S512x128_0_0 (kernelRun0_A.sl.HS3_17 (F := Ideal) c arg1 harg1 arg2 harg2 arg3 harg3 arg4 harg4 arg5 harg5 arg12 arg15 x0 x1 x2 x3 x4)
  exact ⟨b1, b2, b3⟩

theorem block14
    (h1 : Arr (n := 4096) (m := 256) (View.canon (kernelRun0_A.sl.HS1_15 (F := Ideal) c arg1 harg1 arg2 harg2 arg3 harg3 arg4 harg4 arg5 harg5 arg6 harg6 arg12 arg13 arg16 x0 x1 x2 x3 x4 x5)) (fun i d => ((w.dq (if i < 2048 then 1536 + 512 else 1536) i d : ℝ) : EReal)))
    (h2 : Arr (n := 512) (m := 256) (View.canon (kernelRun0_A.sl.HS2_18 (F := Ideal) c arg1 harg1 arg2 harg2 arg3 harg3 arg4 harg4 arg5 harg5 arg6 harg6 arg12 arg14 arg16 x0 x1 x2 x3 x4 x5)) (fun j d => ((w.dk 1536 2048 (1536 + j) d : ℝ) : EReal)))
    (h3 : Arr (n := 512) (m := 128) (View.canon (kernelRun0_A.sl.HS3_18 (F := Ideal) c arg1 harg1 arg2 harg2 arg3 harg3 arg4 harg4 arg5 harg5 arg12 arg15 x0 x1 x2 x3 x4)) (fun j d => ((w.dv 1536 2048 (1536 + j) d : ℝ) : EReal))) :
    Arr (n := 4096) (m := 256) (View.canon (kernelRun0_A.sl.HS1_16 (F := Ideal) c arg1 harg1 arg2 harg2 arg3 harg3 arg4 harg4 arg5 harg5 arg6 harg6 arg12 arg13 arg16 x0 x1 x2 x3 x4 x5)) (fun i d => ((w.dq (if i < 2048 + 1024 then 1536 + 512 else 1536) i d : ℝ) : EReal))
    ∧ Arr (n := 512) (m := 256) (View.canon (kernelRun0_A.sl.HS2_19 (F := Ideal) c arg1 harg1 arg2 harg2 arg3 harg3 arg4 harg4 arg5 harg5 arg6 harg6 arg12 arg14 arg16 x0 x1 x2 x3 x4 x5)) (fun j d => ((w.dk 1536 (2048 + 1024) (1536 + j) d : ℝ) : EReal))
    ∧ Arr (n := 512) (m := 128) (View.canon (kernelRun0_A.sl.HS3_19 (F := Ideal) c arg1 harg1 arg2 harg2 arg3 harg3 arg4 harg4 arg5 harg5 arg12 arg15 x0 x1 x2 x3 x4)) (fun j d => ((w.dv 1536 (2048 + 1024) (1536 + j) d : ℝ) : EReal)) := by
  have hk := (keys c arg2 harg2 arg3 harg3 x0 x1 x2 x3 x4 x5 h).readCov arg12.view inb_S4096x256_S512x256_1536_0
  have ht := (rows c arg4 harg4 arg6 harg6 x0 x1 x2 x3 x4 x5 h).readCov arg16.view inb_S4096x1_S1024x1_2048_0
  have hq := h.q.readAt harg1 inb_S4096x256_S1024x256_2048_0
  have hg := h.g.readAt harg4 inb_S4096x128_S1024x128_2048_0
  have hv := h.kv.readAt harg2 inb_S4096x256_S512x128_1536_128
  have hl := h.l.readAt harg5 inb_S4096x128_S1024x1_2048_0
  have hp := p1024_arr (w := w) (s := 2048) (t := 1536) (by decide) hq hk hl
  have hd := ds1024_arr (w := w) (s := 2048) (t := 1536) hp hg hv ht
  have a1 := dq_read h1 arg13.view inb_S4096x256_S1024x256_2048_0
  have a2 := (h2.readCov arg14.view inb_S512x256_S512x256_0_0).congr (g := fun j d => ((w.dk 1536 2048 (1536 + j) d : ℝ) : EReal)) (fun j d _ _ => by simp only [Nat.zero_add])
  have a3 := (h3.readCov arg15.view inb_S512x128_S512x128_0_0).congr (g := fun j d => ((w.dv 1536 2048 (1536 + j) d : ℝ) : EReal)) (fun j d _ _ => by simp only [Nat.zero_add])
  have b1 := dq_store h1 (dq1024_arr (w := w) (s := 2048) (t := 1536) a1 hd hk) inb_S4096x256_S1024x256_2048_0
  have b2 := Arr.whole (dk1024_arr (w := w) (s := 2048) (t := 1536) (by decide) a2 hd hq) inb_S512x256_S512x256_0_0 (kernelRun0_A.sl.HS2_18 (F := Ideal) c arg1 harg1 arg2 harg2 arg3 harg3 arg4 harg4 arg5 harg5 arg6 harg6 arg12 arg14 arg16 x0 x1 x2 x3 x4 x5)
  have b3 := Arr.whole (dv1024_arr (w := w) (s := 2048) (t := 1536) (by decide) a3 hp hg) inb_S512x128_S512x128_0_0 (kernelRun0_A.sl.HS3_18 (F := Ideal) c arg1 harg1 arg2 harg2 arg3 harg3 arg4 harg4 arg5 harg5 arg12 arg15 x0 x1 x2 x3 x4)
  exact ⟨b1, b2, b3⟩

theorem block15
    (h1 : Arr (n := 4096) (m := 256) (View.canon (kernelRun0_A.sl.HS1_16 (F := Ideal) c arg1 harg1 arg2 harg2 arg3 harg3 arg4 harg4 arg5 harg5 arg6 harg6 arg12 arg13 arg16 x0 x1 x2 x3 x4 x5)) (fun i d => ((w.dq (if i < 3072 then 1536 + 512 else 1536) i d : ℝ) : EReal)))
    (h2 : Arr (n := 512) (m := 256) (View.canon (kernelRun0_A.sl.HS2_19 (F := Ideal) c arg1 harg1 arg2 harg2 arg3 harg3 arg4 harg4 arg5 harg5 arg6 harg6 arg12 arg14 arg16 x0 x1 x2 x3 x4 x5)) (fun j d => ((w.dk 1536 3072 (1536 + j) d : ℝ) : EReal)))
    (h3 : Arr (n := 512) (m := 128) (View.canon (kernelRun0_A.sl.HS3_19 (F := Ideal) c arg1 harg1 arg2 harg2 arg3 harg3 arg4 harg4 arg5 harg5 arg12 arg15 x0 x1 x2 x3 x4)) (fun j d => ((w.dv 1536 3072 (1536 + j) d : ℝ) : EReal))) :
    Arr (n := 4096) (m := 256) (View.canon (kernelRun0_A.sl.HS1_17 (F := Ideal) c arg1 harg1 arg2 harg2 arg3 harg3 arg4 harg4 arg5 harg5 arg6 harg6 arg12 arg13 arg16 x0 x1 x2 x3 x4 x5)) (fun i d => ((w.dq (if i < 3072 + 1024 then 1536 + 512 else 1536) i d : ℝ) : EReal))
    ∧ Arr (n := 512) (m := 256) (View.canon (kernelRun0_A.sl.HS2_20 (F := Ideal) c arg1 harg1 arg2 harg2 arg3 harg3 arg4 harg4 arg5 harg5 arg6 harg6 arg12 arg14 arg16 x0 x1 x2 x3 x4 x5)) (fun j d => ((w.dk 1536 (3072 + 1024) (1536 + j) d : ℝ) : EReal))
    ∧ Arr (n := 512) (m := 128) (View.canon (kernelRun0_A.sl.HS3_20 (F := Ideal) c arg1 harg1 arg2 harg2 arg3 harg3 arg4 harg4 arg5 harg5 arg12 arg15 x0 x1 x2 x3 x4)) (fun j d => ((w.dv 1536 (3072 + 1024) (1536 + j) d : ℝ) : EReal)) := by
  have hk := (keys c arg2 harg2 arg3 harg3 x0 x1 x2 x3 x4 x5 h).readCov arg12.view inb_S4096x256_S512x256_1536_0
  have ht := (rows c arg4 harg4 arg6 harg6 x0 x1 x2 x3 x4 x5 h).readCov arg16.view inb_S4096x1_S1024x1_3072_0
  have hq := h.q.readAt harg1 inb_S4096x256_S1024x256_3072_0
  have hg := h.g.readAt harg4 inb_S4096x128_S1024x128_3072_0
  have hv := h.kv.readAt harg2 inb_S4096x256_S512x128_1536_128
  have hl := h.l.readAt harg5 inb_S4096x128_S1024x1_3072_0
  have hp := p1024_arr (w := w) (s := 3072) (t := 1536) (by decide) hq hk hl
  have hd := ds1024_arr (w := w) (s := 3072) (t := 1536) hp hg hv ht
  have a1 := dq_read h1 arg13.view inb_S4096x256_S1024x256_3072_0
  have a2 := (h2.readCov arg14.view inb_S512x256_S512x256_0_0).congr (g := fun j d => ((w.dk 1536 3072 (1536 + j) d : ℝ) : EReal)) (fun j d _ _ => by simp only [Nat.zero_add])
  have a3 := (h3.readCov arg15.view inb_S512x128_S512x128_0_0).congr (g := fun j d => ((w.dv 1536 3072 (1536 + j) d : ℝ) : EReal)) (fun j d _ _ => by simp only [Nat.zero_add])
  have b1 := dq_store h1 (dq1024_arr (w := w) (s := 3072) (t := 1536) a1 hd hk) inb_S4096x256_S1024x256_3072_0
  have b2 := Arr.whole (dk1024_arr (w := w) (s := 3072) (t := 1536) (by decide) a2 hd hq) inb_S512x256_S512x256_0_0 (kernelRun0_A.sl.HS2_19 (F := Ideal) c arg1 harg1 arg2 harg2 arg3 harg3 arg4 harg4 arg5 harg5 arg6 harg6 arg12 arg14 arg16 x0 x1 x2 x3 x4 x5)
  have b3 := Arr.whole (dv1024_arr (w := w) (s := 3072) (t := 1536) (by decide) a3 hp hg) inb_S512x128_S512x128_0_0 (kernelRun0_A.sl.HS3_19 (F := Ideal) c arg1 harg1 arg2 harg2 arg3 harg3 arg4 harg4 arg5 harg5 arg12 arg15 x0 x1 x2 x3 x4)
  exact ⟨b1, b2, b3⟩

theorem block16
    (h1 : Arr (n := 4096) (m := 256) (View.canon (kernelRun0_A.sl.HS1_17 (F := Ideal) c arg1 harg1 arg2 harg2 arg3 harg3 arg4 harg4 arg5 harg5 arg6 harg6 arg12 arg13 arg16 x0 x1 x2 x3 x4 x5)) (fun i d => ((w.dq (if i < 2048 then 2048 + 512 else 2048) i d : ℝ) : EReal)))
    (h2 : Arr (n := 512) (m := 256) (View.canon (kernelRun0_A.sl.HS2_21 (F := Ideal) c arg1 harg1 arg2 harg2 arg3 harg3 arg4 harg4 arg5 harg5 arg6 harg6 arg12 arg14 arg16 x0 x1 x2 x3 x4 x5)) (fun j d => ((w.dk 2048 2048 (2048 + j) d : ℝ) : EReal)))
    (h3 : Arr (n := 512) (m := 128) (View.canon (kernelRun0_A.sl.HS3_21 (F := Ideal) c arg1 harg1 arg2 harg2 arg3 harg3 arg4 harg4 arg5 harg5 arg12 arg15 x0 x1 x2 x3 x4)) (fun j d => ((w.dv 2048 2048 (2048 + j) d : ℝ) : EReal))) :
    Arr (n := 4096) (m := 256) (View.canon (kernelRun0_A.sl.HS1_18 (F := Ideal) c arg1 harg1 arg2 harg2 arg3 harg3 arg4 harg4 arg5 harg5 arg6 harg6 arg12 arg13 arg16 x0 x1 x2 x3 x4 x5)) (fun i d => ((w.dq (if i < 2048 + 512 then 2048 + 512 else 2048) i d : ℝ) : EReal))
    ∧ Arr (n := 512) (m := 256) (View.canon (kernelRun0_A.sl.HS2_22 (F := Ideal) c arg1 harg1 arg2 harg2 arg3 harg3 arg4 harg4 arg5 harg5 arg6 harg6 arg12 arg14 arg16 x0 x1 x2 x3 x4 x5)) (fun j d => ((w.dk 2048 (2048 + 512) (2048 + j) d : ℝ) : EReal))
    ∧ Arr (n := 512) (m := 128) (View.canon (kernelRun0_A.sl.HS3_22 (F := Ideal) c arg1 harg1 arg2 harg2 arg3 harg3 arg4 harg4 arg5 harg5 arg12 arg15 x0 x1 x2 x3 x4)) (fun j d => ((w.dv 2048 (2048 + 512) (2048 + j) d : ℝ) : EReal)) := by
  have hk := (keys c arg2 harg2 arg3 harg3 x0 x1 x2 x3 x4 x5 h).readCov arg12.view inb_S4096x256_S512x256_2048_0
  have ht := (rows c arg4 harg4 arg6 harg6 x0 x1 x2 x3 x4 x5 h).readCov arg16.view inb_S4096x1_S512x1_2048_0
  have hq := h.q.readAt harg1 inb_S4096x256_S512x256_2048_0
  have hg := h.g.readAt harg4 inb_S4096x128_S512x128_2048_0
  have hv := h.kv.readAt harg2 inb_S4096x256_S512x128_2048_128
  have hl := h.l.readAt harg5 inb_S4096x128_S512x1_2048_0
  have hp := pD_arr (w := w) (s := 2048) hq hk hl
  have hd := ds512_arr (w := w) (s := 2048) (t := 2048) hp hg hv ht
  have a1 := dq_read h1 arg13.view inb_S4096x256_S512x256_2048_0
  have a2 := (h2.readCov arg14.view inb_S512x256_S512x256_0_0).congr (g := fun j d => ((w.dk 2048 2048 (2048 + j) d : ℝ) : EReal)) (fun j d _ _ => by simp only [Nat.zero_add])
  have a3 := (h3.readCov arg15.view inb_S512x128_S512x128_0_0).congr (g := fun j d => ((w.dv 2048 2048 (2048 + j) d : ℝ) : EReal)) (fun j d _ _ => by simp only [Nat.zero_add])
  have b1 := dq_store h1 (dq512_arr (w := w) (s := 2048) (t := 2048) a1 hd hk) inb_S4096x256_S512x256_2048_0
  have b2 := Arr.whole (dk512_arr (w := w) (s := 2048) (t := 2048) (by decide) a2 hd hq) inb_S512x256_S512x256_0_0 (kernelRun0_A.sl.HS2_21 (F := Ideal) c arg1 harg1 arg2 harg2 arg3 harg3 arg4 harg4 arg5 harg5 arg6 harg6 arg12 arg14 arg16 x0 x1 x2 x3 x4 x5)
  have b3 := Arr.whole (dv512_arr (w := w) (s := 2048) (t := 2048) (by decide) a3 hp hg) inb_S512x128_S512x128_0_0 (kernelRun0_A.sl.HS3_21 (F := Ideal) c arg1 harg1 arg2 harg2 arg3 harg3 arg4 harg4 arg5 harg5 arg12 arg15 x0 x1 x2 x3 x4)
  exact ⟨b1, b2, b3⟩

theorem block17
    (h1 : Arr (n := 4096) (m := 256) (View.canon (kernelRun0_A.sl.HS1_18 (F := Ideal) c arg1 harg1 arg2 harg2 arg3 harg3 arg4 harg4 arg5 harg5 arg6 harg6 arg12 arg13 arg16 x0 x1 x2 x3 x4 x5)) (fun i d => ((w.dq (if i < 2560 then 2048 + 512 else 2048) i d : ℝ) : EReal)))
    (h2 : Arr (n := 512) (m := 256) (View.canon (kernelRun0_A.sl.HS2_22 (F := Ideal) c arg1 harg1 arg2 harg2 arg3 harg3 arg4 harg4 arg5 harg5 arg6 harg6 arg12 arg14 arg16 x0 x1 x2 x3 x4 x5)) (fun j d => ((w.dk 2048 2560 (2048 + j) d : ℝ) : EReal)))
    (h3 : Arr (n := 512) (m := 128) (View.canon (kernelRun0_A.sl.HS3_22 (F := Ideal) c arg1 harg1 arg2 harg2 arg3 harg3 arg4 harg4 arg5 harg5 arg12 arg15 x0 x1 x2 x3 x4)) (fun j d => ((w.dv 2048 2560 (2048 + j) d : ℝ) : EReal))) :
    Arr (n := 4096) (m := 256) (View.canon (kernelRun0_A.sl.HS1_19 (F := Ideal) c arg1 harg1 arg2 harg2 arg3 harg3 arg4 harg4 arg5 harg5 arg6 harg6 arg12 arg13 arg16 x0 x1 x2 x3 x4 x5)) (fun i d => ((w.dq (if i < 2560 + 1024 then 2048 + 512 else 2048) i d : ℝ) : EReal))
    ∧ Arr (n := 512) (m := 256) (View.canon (kernelRun0_A.sl.HS2_23 (F := Ideal) c arg1 harg1 arg2 harg2 arg3 harg3 arg4 harg4 arg5 harg5 arg6 harg6 arg12 arg14 arg16 x0 x1 x2 x3 x4 x5)) (fun j d => ((w.dk 2048 (2560 + 1024) (2048 + j) d : ℝ) : EReal))
    ∧ Arr (n := 512) (m := 128) (View.canon (kernelRun0_A.sl.HS3_23 (F := Ideal) c arg1 harg1 arg2 harg2 arg3 harg3 arg4 harg4 arg5 harg5 arg12 arg15 x0 x1 x2 x3 x4)) (fun j d => ((w.dv 2048 (2560 + 1024) (2048 + j) d : ℝ) : EReal)) := by
  have hk := (keys c arg2 harg2 arg3 harg3 x0 x1 x2 x3 x4 x5 h).readCov arg12.view inb_S4096x256_S512x256_2048_0
  have ht := (rows c arg4 harg4 arg6 harg6 x0 x1 x2 x3 x4 x5 h).readCov arg16.view inb_S4096x1_S1024x1_2560_0
  have hq := h.q.readAt harg1 inb_S4096x256_S1024x256_2560_0
  have hg := h.g.readAt harg4 inb_S4096x128_S1024x128_2560_0
  have hv := h.kv.readAt harg2 inb_S4096x256_S512x128_2048_128
  have hl := h.l.readAt harg5 inb_S4096x128_S1024x1_2560_0
  have hp := p1024_arr (w := w) (s := 2560) (t := 2048) (by decide) hq hk hl
  have hd := ds1024_arr (w := w) (s := 2560) (t := 2048) hp hg hv ht
  have a1 := dq_read h1 arg13.view inb_S4096x256_S1024x256_2560_0
  have a2 := (h2.readCov arg14.view inb_S512x256_S512x256_0_0).congr (g := fun j d => ((w.dk 2048 2560 (2048 + j) d : ℝ) : EReal)) (fun j d _ _ => by simp only [Nat.zero_add])
  have a3 := (h3.readCov arg15.view inb_S512x128_S512x128_0_0).congr (g := fun j d => ((w.dv 2048 2560 (2048 + j) d : ℝ) : EReal)) (fun j d _ _ => by simp only [Nat.zero_add])
  have b1 := dq_store h1 (dq1024_arr (w := w) (s := 2560) (t := 2048) a1 hd hk) inb_S4096x256_S1024x256_2560_0
  have b2 := Arr.whole (dk1024_arr (w := w) (s := 2560) (t := 2048) (by decide) a2 hd hq) inb_S512x256_S512x256_0_0 (kernelRun0_A.sl.HS2_22 (F := Ideal) c arg1 harg1 arg2 harg2 arg3 harg3 arg4 harg4 arg5 harg5 arg6 harg6 arg12 arg14 arg16 x0 x1 x2 x3 x4 x5)
  have b3 := Arr.whole (dv1024_arr (w := w) (s := 2560) (t := 2048) (by decide) a3 hp hg) inb_S512x128_S512x128_0_0 (kernelRun0_A.sl.HS3_22 (F := Ideal) c arg1 harg1 arg2 harg2 arg3 harg3 arg4 harg4 arg5 harg5 arg12 arg15 x0 x1 x2 x3 x4)
  exact ⟨b1, b2, b3⟩

theorem block18
    (h1 : Arr (n := 4096) (m := 256) (View.canon (kernelRun0_A.sl.HS1_19 (F := Ideal) c arg1 harg1 arg2 harg2 arg3 harg3 arg4 harg4 arg5 harg5 arg6 harg6 arg12 arg13 arg16 x0 x1 x2 x3 x4 x5)) (fun i d => ((w.dq (if i < 3584 then 2048 + 512 else 2048) i d : ℝ) : EReal)))
    (h2 : Arr (n := 512) (m := 256) (View.canon (kernelRun0_A.sl.HS2_23 (F := Ideal) c arg1 harg1 arg2 harg2 arg3 harg3 arg4 harg4 arg5 harg5 arg6 harg6 arg12 arg14 arg16 x0 x1 x2 x3 x4 x5)) (fun j d => ((w.dk 2048 3584 (2048 + j) d : ℝ) : EReal)))
    (h3 : Arr (n := 512) (m := 128) (View.canon (kernelRun0_A.sl.HS3_23 (F := Ideal) c arg1 harg1 arg2 harg2 arg3 harg3 arg4 harg4 arg5 harg5 arg12 arg15 x0 x1 x2 x3 x4)) (fun j d => ((w.dv 2048 3584 (2048 + j) d : ℝ) : EReal))) :
    Arr (n := 4096) (m := 256) (View.canon (kernelRun0_A.sl.HS1_20 (F := Ideal) c arg1 harg1 arg2 harg2 arg3 harg3 arg4 harg4 arg5 harg5 arg6 harg6 arg12 arg13 arg16 x0 x1 x2 x3 x4 x5)) (fun i d => ((w.dq (if i < 3584 + 512 then 2048 + 512 else 2048) i d : ℝ) : EReal))
    ∧ Arr (n := 512) (m := 256) (View.canon (kernelRun0_A.sl.HS2_24 (F := Ideal) c arg1 harg1 arg2 harg2 arg3 harg3 arg4 harg4 arg5 harg5 arg6 harg6 arg12 arg14 arg16 x0 x1 x2 x3 x4 x5)) (fun j d => ((w.dk 2048 (3584 + 512) (2048 + j) d : ℝ) : EReal))
    ∧ Arr (n := 512) (m := 128) (View.canon (kernelRun0_A.sl.HS3_24 (F := Ideal) c arg1 harg1 arg2 harg2 arg3 harg3 arg4 harg4 arg5 harg5 arg12 arg15 x0 x1 x2 x3 x4)) (fun j d => ((w.dv 2048 (3584 + 512) (2048 + j) d : ℝ) : EReal)) := by
  have hk := (keys c arg2 harg2 arg3 harg3 x0 x1 x2 x3 x4 x5 h).readCov arg12.view inb_S4096x256_S512x256_2048_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_2048_128
  have hl := h.l.readAt harg5 inb_S4096x128_S512x1_3584_0
  have hp := p512_arr (w := w) (s := 3584) (t := 2048) (by decide) hq hk hl
  have hd := ds512_arr (w := w) (s := 3584) (t := 2048) hp hg hv ht
  have a1 := dq_read h1 arg13.view inb_S4096x256_S512x256_3584_0
  have a2 := (h2.readCov arg14.view inb_S512x256_S512x256_0_0).congr (g := fun j d => ((w.dk 2048 3584 (2048 + j) d : ℝ) : EReal)) (fun j d _ _ => by simp only [Nat.zero_add])
  have a3 := (h3.readCov arg15.view inb_S512x128_S512x128_0_0).congr (g := fun j d => ((w.dv 2048 3584 (2048 + j) d : ℝ) : EReal)) (fun j d _ _ => by simp only [Nat.zero_add])
  have b1 := dq_store h1 (dq512_arr (w := w) (s := 3584) (t := 2048) a1 hd hk) inb_S4096x256_S512x256_3584_0
  have b2 := Arr.whole (dk512_arr (w := w) (s := 3584) (t := 2048) (by decide) a2 hd hq) inb_S512x256_S512x256_0_0 (kernelRun0_A.sl.HS2_23 (F := Ideal) c arg1 harg1 arg2 harg2 arg3 harg3 arg4 harg4 arg5 harg5 arg6 harg6 arg12 arg14 arg16 x0 x1 x2 x3 x4 x5)
  have b3 := Arr.whole (dv512_arr (w := w) (s := 3584) (t := 2048) (by decide) a3 hp hg) inb_S512x128_S512x128_0_0 (kernelRun0_A.sl.HS3_23 (F := Ideal) c arg1 harg1 arg2 harg2 arg3 harg3 arg4 harg4 arg5 harg5 arg12 arg15 x0 x1 x2 x3 x4)
  exact ⟨b1, b2, b3⟩

theorem block19
    (h1 : Arr (n := 4096) (m := 256) (View.canon (kernelRun0_A.sl.HS1_20 (F := Ideal) c arg1 harg1 arg2 harg2 arg3 harg3 arg4 harg4 arg5 harg5 arg6 harg6 arg12 arg13 arg16 x0 x1 x2 x3 x4 x5)) (fun i d => ((w.dq (if i < 2560 then 2560 + 512 else 2560) i d : ℝ) : EReal)))
    (h2 : Arr (n := 512) (m := 256) (View.canon (kernelRun0_A.sl.HS2_25 (F := Ideal) c arg1 harg1 arg2 harg2 arg3 harg3 arg4 harg4 arg5 harg5 arg6 harg6 arg12 arg14 arg16 x0 x1 x2 x3 x4 x5)) (fun j d => ((w.dk 2560 2560 (2560 + j) d : ℝ) : EReal)))
    (h3 : Arr (n := 512) (m := 128) (View.canon (kernelRun0_A.sl.HS3_25 (F := Ideal) c arg1 harg1 arg2 harg2 arg3 harg3 arg4 harg4 arg5 harg5 arg12 arg15 x0 x1 x2 x3 x4)) (fun j d => ((w.dv 2560 2560 (2560 + j) d : ℝ) : EReal))) :
    Arr (n := 4096) (m := 256) (View.canon (kernelRun0_A.sl.HS1_21 (F := Ideal) c arg1 harg1 arg2 harg2 arg3 harg3 arg4 harg4 arg5 harg5 arg6 harg6 arg12 arg13 arg16 x0 x1 x2 x3 x4 x5)) (fun i d => ((w.dq (if i < 2560 + 512 then 2560 + 512 else 2560) i d : ℝ) : EReal))
    ∧ Arr (n := 512) (m := 256) (View.canon (kernelRun0_A.sl.HS2_26 (F := Ideal) c arg1 harg1 arg2 harg2 arg3 harg3 arg4 harg4 arg5 harg5 arg6 harg6 arg12 arg14 arg16 x0 x1 x2 x3 x4 x5)) (fun j d => ((w.dk 2560 (2560 + 512) (2560 + j) d : ℝ) : EReal))
    ∧ Arr (n := 512) (m := 128) (View.canon (kernelRun0_A.sl.HS3_26 (F := Ideal) c arg1 harg1 arg2 harg2 arg3 harg3 arg4 harg4 arg5 harg5 arg12 arg15 x0 x1 x2 x3 x4)) (fun j d => ((w.dv 2560 (2560 + 512) (2560 + j) d : ℝ) : EReal)) := by
  have hk := (keys c arg2 harg2 arg3 harg3 x0 x1 x2 x3 x4 x5 h).readCov arg12.view inb_S4096x256_S512x256_2560_0
  have ht := (rows c arg4 harg4 arg6 harg6 x0 x1 x2 x3 x4 x5 h).readCov arg16.view inb_S4096x1_S512x1_2560_0
  have hq := h.q.readAt harg1 inb_S4096x256_S512x256_2560_0
  have hg := h.g.readAt harg4 inb_S4096x128_S512x128_2560_0
  have hv := h.kv.readAt harg2 inb_S4096x256_S512x128_2560_128
  have hl := h.l.readAt harg5 inb_S4096x128_S512x1_2560_0
  have hp := pD_arr (w := w) (s := 2560) hq hk hl
  have hd := ds512_arr (w := w) (s := 2560) (t := 2560) hp hg hv ht
  have a1 := dq_read h1 arg13.view inb_S4096x256_S512x256_2560_0
  have a2 := (h2.readCov arg14.view inb_S512x256_S512x256_0_0).congr (g := fun j d => ((w.dk 2560 2560 (2560 + j) d : ℝ) : EReal)) (fun j d _ _ => by simp only [Nat.zero_add])
  have a3 := (h3.readCov arg15.view inb_S512x128_S512x128_0_0).congr (g := fun j d => ((w.dv 2560 2560 (2560 + j) d : ℝ) : EReal)) (fun j d _ _ => by simp only [Nat.zero_add])
  have b1 := dq_store h1 (dq512_arr (w := w) (s := 2560) (t := 2560) a1 hd hk) inb_S4096x256_S512x256_2560_0
  have b2 := Arr.whole (dk512_arr (w := w) (s := 2560) (t := 2560) (by decide) a2 hd hq) inb_S512x256_S512x256_0_0 (kernelRun0_A.sl.HS2_25 (F := Ideal) c arg1 harg1 arg2 harg2 arg3 harg3 arg4 harg4 arg5 harg5 arg6 harg6 arg12 arg14 arg16 x0 x1 x2 x3 x4 x5)
  have b3 := Arr.whole (dv512_arr (w := w) (s := 2560) (t := 2560) (by decide) a3 hp hg) inb_S512x128_S512x128_0_0 (kernelRun0_A.sl.HS3_25 (F := Ideal) c arg1 harg1 arg2 harg2 arg3 harg3 arg4 harg4 arg5 harg5 arg12 arg15 x0 x1 x2 x3 x4)
  exact ⟨b1, b2, b3⟩

theorem block20
    (h1 : Arr (n := 4096) (m := 256) (View.canon (kernelRun0_A.sl.HS1_21 (F := Ideal) c arg1 harg1 arg2 harg2 arg3 harg3 arg4 harg4 arg5 harg5 arg6 harg6 arg12 arg13 arg16 x0 x1 x2 x3 x4 x5)) (fun i d => ((w.dq (if i < 3072 then 2560 + 512 else 2560) i d : ℝ) : EReal)))
    (h2 : Arr (n := 512) (m := 256) (View.canon (kernelRun0_A.sl.HS2_26 (F := Ideal) c arg1 harg1 arg2 harg2 arg3 harg3 arg4 harg4 arg5 harg5 arg6 harg6 arg12 arg14 arg16 x0 x1 x2 x3 x4 x5)) (fun j d => ((w.dk 2560 3072 (2560 + j) d : ℝ) : EReal)))
    (h3 : Arr (n := 512) (m := 128) (View.canon (kernelRun0_A.sl.HS3_26 (F := Ideal) c arg1 harg1 arg2 harg2 arg3 harg3 arg4 harg4 arg5 harg5 arg12 arg15 x0 x1 x2 x3 x4)) (fun j d => ((w.dv 2560 3072 (2560 + j) d : ℝ) : EReal))) :
    Arr (n := 4096) (m := 256) (View.canon (kernelRun0_A.sl.HS1_22 (F := Ideal) c arg1 harg1 arg2 harg2 arg3 harg3 arg4 harg4 arg5 harg5 arg6 harg6 arg12 arg13 arg16 x0 x1 x2 x3 x4 x5)) (fun i d => ((w.dq (if i < 3072 + 1024 then 2560 + 512 else 2560) i d : ℝ) : EReal))
    ∧ Arr (n := 512) (m := 256) (View.canon (kernelRun0_A.sl.HS2_27 (F := Ideal) c arg1 harg1 arg2 harg2 arg3 harg3 arg4 harg4 arg5 harg5 arg6 harg6 arg12 arg14 arg16 x0 x1 x2 x3 x4 x5)) (fun j d => ((w.dk 2560 (3072 + 1024) (2560 + j) d : ℝ) : EReal))
    ∧ Arr (n := 512) (m := 128) (View.canon (kernelRun0_A.sl.HS3_27 (F := Ideal) c arg1 harg1 arg2 harg2 arg3 harg3 arg4 harg4 arg5 harg5 arg12 arg15 x0 x1 x2 x3 x4)) (fun j d => ((w.dv 2560 (3072 + 1024) (2560 + j) d : ℝ) : EReal)) := by
  have hk := (keys c arg2 harg2 arg3 harg3 x0 x1 x2 x3 x4 x5 h).readCov arg12.view inb_S4096x256_S512x256_2560_0
  have ht := (rows c arg4 harg4 arg6 harg6 x0 x1 x2 x3 x4 x5 h).readCov arg16.view inb_S4096x1_S1024x1_3072_0
  have hq := h.q.readAt harg1 inb_S4096x256_S1024x256_3072_0
  have hg := h.g.readAt harg4 inb_S4096x128_S1024x128_3072_0
  have hv := h.kv.readAt harg2 inb_S4096x256_S512x128_2560_128
  have hl := h.l.readAt harg5 inb_S4096x128_S1024x1_3072_0
  have hp := p1024_arr (w := w) (s := 3072) (t := 2560) (by decide) hq hk hl
  have hd := ds1024_arr (w := w) (s := 3072) (t := 2560) hp hg hv ht
  have a1 := dq_read h1 arg13.view inb_S4096x256_S1024x256_3072_0
  have a2 := (h2.readCov arg14.view inb_S512x256_S512x256_0_0).congr (g := fun j d => ((w.dk 2560 3072 (2560 + j) d : ℝ) : EReal)) (fun j d _ _ => by simp only [Nat.zero_add])
  have a3 := (h3.readCov arg15.view inb_S512x128_S512x128_0_0).congr (g := fun j d => ((w.dv 2560 3072 (2560 + j) d : ℝ) : EReal)) (fun j d _ _ => by simp only [Nat.zero_add])
  have b1 := dq_store h1 (dq1024_arr (w := w) (s := 3072) (t := 2560) a1 hd hk) inb_S4096x256_S1024x256_3072_0
  have b2 := Arr.whole (dk1024_arr (w := w) (s := 3072) (t := 2560) (by decide) a2 hd hq) inb_S512x256_S512x256_0_0 (kernelRun0_A.sl.HS2_26 (F := Ideal) c arg1 harg1 arg2 harg2 arg3 harg3 arg4 harg4 arg5 harg5 arg6 harg6 arg12 arg14 arg16 x0 x1 x2 x3 x4 x5)
  have b3 := Arr.whole (dv1024_arr (w := w) (s := 3072) (t := 2560) (by decide) a3 hp hg) inb_S512x128_S512x128_0_0 (kernelRun0_A.sl.HS3_26 (F := Ideal) c arg1 harg1 arg2 harg2 arg3 harg3 arg4 harg4 arg5 harg5 arg12 arg15 x0 x1 x2 x3 x4)
  exact ⟨b1, b2, b3⟩

theorem block21
    (h1 : Arr (n := 4096) (m := 256) (View.canon (kernelRun0_A.sl.HS1_22 (F := Ideal) c arg1 harg1 arg2 harg2 arg3 harg3 arg4 harg4 arg5 harg5 arg6 harg6 arg12 arg13 arg16 x0 x1 x2 x3 x4 x5)) (fun i d => ((w.dq (if i < 3072 then 3072 + 512 else 3072) i d : ℝ) : EReal)))
    (h2 : Arr (n := 512) (m := 256) (View.canon (kernelRun0_A.sl.HS2_28 (F := Ideal) c arg1 harg1 arg2 harg2 arg3 harg3 arg4 harg4 arg5 harg5 arg6 harg6 arg12 arg14 arg16 x0 x1 x2 x3 x4 x5)) (fun j d => ((w.dk 3072 3072 (3072 + j) d : ℝ) : EReal)))
    (h3 : Arr (n := 512) (m := 128) (View.canon (kernelRun0_A.sl.HS3_28 (F := Ideal) c arg1 harg1 arg2 harg2 arg3 harg3 arg4 harg4 arg5 harg5 arg12 arg15 x0 x1 x2 x3 x4)) (fun j d => ((w.dv 3072 3072 (3072 + j) d : ℝ) : EReal))) :
    Arr (n := 4096) (m := 256) (View.canon (kernelRun0_A.sl.HS1_23 (F := Ideal) c arg1 harg1 arg2 harg2 arg3 harg3 arg4 harg4 arg5 harg5 arg6 harg6 arg12 arg13 arg16 x0 x1 x2 x3 x4 x5)) (fun i d => ((w.dq (if i < 3072 + 512 then 3072 + 512 else 3072) i d : ℝ) : EReal))
    ∧ Arr (n := 512) (m := 256) (View.canon (kernelRun0_A.sl.HS2_29 (F := Ideal) c arg1 harg1 arg2 harg2 arg3 harg3 arg4 harg4 arg5 harg5 arg6 harg6 arg12 arg14 arg16 x0 x1 x2 x3 x4 x5)) (fun j d => ((w.dk 3072 (3072 + 512) (3072 + j) d : ℝ) : EReal))
    ∧ Arr (n := 512) (m := 128) (View.canon (kernelRun0_A.sl.HS3_29 (F := Ideal) c arg1 harg1 arg2 harg2 arg3 harg3 arg4 harg4 arg5 harg5 arg12 arg15 x0 x1 x2 x3 x4)) (fun j d => ((w.dv 3072 (3072 + 512) (3072 + j) d : ℝ) : EReal)) := by
  have hk := (keys c arg2 harg2 arg3 harg3 x0 x1 x2 x3 x4 x5 h).readCov arg12.view inb_S4096x256_S512x256_3072_0
  have ht := (rows c arg4 harg4 arg6 harg6 x0 x1 x2 x3 x4 x5 h).readCov arg16.view inb_S4096x1_S512x1_3072_0
  have hq := h.q.readAt harg1 inb_S4096x256_S512x256_3072_0
  have hg := h.g.readAt harg4 inb_S4096x128_S512x128_3072_0
  have hv := h.kv.readAt harg2 inb_S4096x256_S512x128_3072_128
  have hl := h.l.readAt harg5 inb_S4096x128_S512x1_3072_0
  have hp := pD_arr (w := w) (s := 3072) hq hk hl
  have hd := ds512_arr (w := w) (s := 3072) (t := 3072) hp hg hv ht
  have a1 := dq_read h1 arg13.view inb_S4096x256_S512x256_3072_0
  have a2 := (h2.readCov arg14.view inb_S512x256_S512x256_0_0).congr (g := fun j d => ((w.dk 3072 3072 (3072 + j) d : ℝ) : EReal)) (fun j d _ _ => by simp only [Nat.zero_add])
  have a3 := (h3.readCov arg15.view inb_S512x128_S512x128_0_0).congr (g := fun j d => ((w.dv 3072 3072 (3072 + j) d : ℝ) : EReal)) (fun j d _ _ => by simp only [Nat.zero_add])
  have b1 := dq_store h1 (dq512_arr (w := w) (s := 3072) (t := 3072) a1 hd hk) inb_S4096x256_S512x256_3072_0
  have b2 := Arr.whole (dk512_arr (w := w) (s := 3072) (t := 3072) (by decide) a2 hd hq) inb_S512x256_S512x256_0_0 (kernelRun0_A.sl.HS2_28 (F := Ideal) c arg1 harg1 arg2 harg2 arg3 harg3 arg4 harg4 arg5 harg5 arg6 harg6 arg12 arg14 arg16 x0 x1 x2 x3 x4 x5)
  have b3 := Arr.whole (dv512_arr (w := w) (s := 3072) (t := 3072) (by decide) a3 hp hg) inb_S512x128_S512x128_0_0 (kernelRun0_A.sl.HS3_28 (F := Ideal) c arg1 harg1 arg2 harg2 arg3 harg3 arg4 harg4 arg5 harg5 arg12 arg15 x0 x1 x2 x3 x4)
  exact ⟨b1, b2, b3⟩

theorem block22
    (h1 : Arr (n := 4096) (m := 256) (View.canon (kernelRun0_A.sl.HS1_23 (F := Ideal) c arg1 harg1 arg2 harg2 arg3 harg3 arg4 harg4 arg5 harg5 arg6 harg6 arg12 arg13 arg16 x0 x1 x2 x3 x4 x5)) (fun i d => ((w.dq (if i < 3584 then 3072 + 512 else 3072) i d : ℝ) : EReal)))
    (h2 : Arr (n := 512) (m := 256) (View.canon (kernelRun0_A.sl.HS2_29 (F := Ideal) c arg1 harg1 arg2 harg2 arg3 harg3 arg4 harg4 arg5 harg5 arg6 harg6 arg12 arg14 arg16 x0 x1 x2 x3 x4 x5)) (fun j d => ((w.dk 3072 3584 (3072 + j) d : ℝ) : EReal)))
    (h3 : Arr (n := 512) (m := 128) (View.canon (kernelRun0_A.sl.HS3_29 (F := Ideal) c arg1 harg1 arg2 harg2 arg3 harg3 arg4 harg4 arg5 harg5 arg12 arg15 x0 x1 x2 x3 x4)) (fun j d => ((w.dv 3072 3584 (3072 + j) d : ℝ) : EReal))) :
    Arr (n := 4096) (m := 256) (View.canon (kernelRun0_A.sl.HS1_24 (F := Ideal) c arg1 harg1 arg2 harg2 arg3 harg3 arg4 harg4 arg5 harg5 arg6 harg6 arg12 arg13 arg16 x0 x1 x2 x3 x4 x5)) (fun i d => ((w.dq (if i < 3584 + 512 then 3072 + 512 else 3072) i d : ℝ) : EReal))
    ∧ Arr (n := 512) (m := 256) (View.canon (kernelRun0_A.sl.HS2_30 (F := Ideal) c arg1 harg1 arg2 harg2 arg3 harg3 arg4 harg4 arg5 harg5 arg6 harg6 arg12 arg14 arg16 x0 x1 x2 x3 x4 x5)) (fun j d => ((w.dk 3072 (3584 + 512) (3072 + j) d : ℝ) : EReal))
    ∧ Arr (n := 512) (m := 128) (View.canon (kernelRun0_A.sl.HS3_30 (F := Ideal) c arg1 harg1 arg2 harg2 arg3 harg3 arg4 harg4 arg5 harg5 arg12 arg15 x0 x1 x2 x3 x4)) (fun j d => ((w.dv 3072 (3584 + 512) (3072 + j) d : ℝ) : EReal)) := by
  have hk := (keys c arg2 harg2 arg3 harg3 x0 x1 x2 x3 x4 x5 h).readCov arg12.view inb_S4096x256_S512x256_3072_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_3072_128
  have hl := h.l.readAt harg5 inb_S4096x128_S512x1_3584_0
  have hp := p512_arr (w := w) (s := 3584) (t := 3072) (by decide) hq hk hl
  have hd := ds512_arr (w := w) (s := 3584) (t := 3072) hp hg hv ht
  have a1 := dq_read h1 arg13.view inb_S4096x256_S512x256_3584_0
  have a2 := (h2.readCov arg14.view inb_S512x256_S512x256_0_0).congr (g := fun j d => ((w.dk 3072 3584 (3072 + j) d : ℝ) : EReal)) (fun j d _ _ => by simp only [Nat.zero_add])
  have a3 := (h3.readCov arg15.view inb_S512x128_S512x128_0_0).congr (g := fun j d => ((w.dv 3072 3584 (3072 + j) d : ℝ) : EReal)) (fun j d _ _ => by simp only [Nat.zero_add])
  have b1 := dq_store h1 (dq512_arr (w := w) (s := 3584) (t := 3072) a1 hd hk) inb_S4096x256_S512x256_3584_0
  have b2 := Arr.whole (dk512_arr (w := w) (s := 3584) (t := 3072) (by decide) a2 hd hq) inb_S512x256_S512x256_0_0 (kernelRun0_A.sl.HS2_29 (F := Ideal) c arg1 harg1 arg2 harg2 arg3 harg3 arg4 harg4 arg5 harg5 arg6 harg6 arg12 arg14 arg16 x0 x1 x2 x3 x4 x5)
  have b3 := Arr.whole (dv512_arr (w := w) (s := 3584) (t := 3072) (by decide) a3 hp hg) inb_S512x128_S512x128_0_0 (kernelRun0_A.sl.HS3_29 (F := Ideal) c arg1 harg1 arg2 harg2 arg3 harg3 arg4 harg4 arg5 harg5 arg12 arg15 x0 x1 x2 x3 x4)
  exact ⟨b1, b2, b3⟩

theorem block23
    (h1 : Arr (n := 4096) (m := 256) (View.canon (kernelRun0_A.sl.HS1_24 (F := Ideal) c arg1 harg1 arg2 harg2 arg3 harg3 arg4 harg4 arg5 harg5 arg6 harg6 arg12 arg13 arg16 x0 x1 x2 x3 x4 x5)) (fun i d => ((w.dq (if i < 3584 then 3584 + 512 else 3584) i d : ℝ) : EReal)))
    (h2 : Arr (n := 512) (m := 256) (View.canon (kernelRun0_A.sl.HS2_31 (F := Ideal) c arg1 harg1 arg2 harg2 arg3 harg3 arg4 harg4 arg5 harg5 arg6 harg6 arg12 arg14 arg16 x0 x1 x2 x3 x4 x5)) (fun j d => ((w.dk 3584 3584 (3584 + j) d : ℝ) : EReal)))
    (h3 : Arr (n := 512) (m := 128) (View.canon (kernelRun0_A.sl.HS3_31 (F := Ideal) c arg1 harg1 arg2 harg2 arg3 harg3 arg4 harg4 arg5 harg5 arg12 arg15 x0 x1 x2 x3 x4)) (fun j d => ((w.dv 3584 3584 (3584 + j) d : ℝ) : EReal))) :
    Arr (n := 4096) (m := 256) (View.canon (kernelRun0_A.sl.HS1_25 (F := Ideal) c arg1 harg1 arg2 harg2 arg3 harg3 arg4 harg4 arg5 harg5 arg6 harg6 arg12 arg13 arg16 x0 x1 x2 x3 x4 x5)) (fun i d => ((w.dq (if i < 3584 + 512 then 3584 + 512 else 3584) i d : ℝ) : EReal))
    ∧ Arr (n := 512) (m := 256) (View.canon (kernelRun0_A.sl.HS2_32 (F := Ideal) c arg1 harg1 arg2 harg2 arg3 harg3 arg4 harg4 arg5 harg5 arg6 harg6 arg12 arg14 arg16 x0 x1 x2 x3 x4 x5)) (fun j d => ((w.dk 3584 (3584 + 512) (3584 + j) d : ℝ) : EReal))
    ∧ Arr (n := 512) (m := 128) (View.canon (kernelRun0_A.sl.HS3_32 (F := Ideal) c arg1 harg1 arg2 harg2 arg3 harg3 arg4 harg4 arg5 harg5 arg12 arg15 x0 x1 x2 x3 x4)) (fun j d => ((w.dv 3584 (3584 + 512) (3584 + j) d : ℝ) : EReal)) := by
  have hk := (keys c arg2 harg2 arg3 harg3 x0 x1 x2 x3 x4 x5 h).readCov arg12.view inb_S4096x256_S512x256_3584_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_3584_128
  have hl := h.l.readAt harg5 inb_S4096x128_S512x1_3584_0
  have hp := pD_arr (w := w) (s := 3584) hq hk hl
  have hd := ds512_arr (w := w) (s := 3584) (t := 3584) hp hg hv ht
  have a1 := dq_read h1 arg13.view inb_S4096x256_S512x256_3584_0
  have a2 := (h2.readCov arg14.view inb_S512x256_S512x256_0_0).congr (g := fun j d => ((w.dk 3584 3584 (3584 + j) d : ℝ) : EReal)) (fun j d _ _ => by simp only [Nat.zero_add])
  have a3 := (h3.readCov arg15.view inb_S512x128_S512x128_0_0).congr (g := fun j d => ((w.dv 3584 3584 (3584 + j) d : ℝ) : EReal)) (fun j d _ _ => by simp only [Nat.zero_add])
  have b1 := dq_store h1 (dq512_arr (w := w) (s := 3584) (t := 3584) a1 hd hk) inb_S4096x256_S512x256_3584_0
  have b2 := Arr.whole (dk512_arr (w := w) (s := 3584) (t := 3584) (by decide) a2 hd hq) inb_S512x256_S512x256_0_0 (kernelRun0_A.sl.HS2_31 (F := Ideal) c arg1 harg1 arg2 harg2 arg3 harg3 arg4 harg4 arg5 harg5 arg6 harg6 arg12 arg14 arg16 x0 x1 x2 x3 x4 x5)
  have b3 := Arr.whole (dv512_arr (w := w) (s := 3584) (t := 3584) (by decide) a3 hp hg) inb_S512x128_S512x128_0_0 (kernelRun0_A.sl.HS3_31 (F := Ideal) c arg1 harg1 arg2 harg2 arg3 harg3 arg4 harg4 arg5 harg5 arg12 arg15 x0 x1 x2 x3 x4)
  exact ⟨b1, b2, b3⟩

end Cert.PointA

end
-- ==== Proof.EndA.lean ====
/- What a group's first point leaves of its three results. -/
module

public import proofs.«01_k».proof.Proof.Out
public import proofs.«01_k».proof.Proof.RunA
public import proofs.«01_k».proof.Proof.Gen.KernelIdeal.Frame

@[expose] public section

set_option maxRecDepth 16384

noncomputable section

namespace Cert.PointA

open Idealize.ShloMosaic Idealize.ShloMosaic.TcCoe Cert.KernelIdeal Cert.KernelIdeal.Gen Cert.Hold Cert.Block Cert.Steps Cert.Out

variable (c : Dev nD) (i : grid0.Coords)
  (arg1 : Memref sig .tc .vmem S4096x256 .bf16) (harg1 : arg1.IsWhole)
  (arg2 : Memref sig .tc .vmem S4096x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x256 .bf16) (harg9 : arg9.IsWhole)
  (arg10 : Memref sig .tc .vmem S4096x256 .bf16) (harg10 : arg10.IsWhole)
  (arg11 : Memref sig .tc .vmem S4096x128 .f32) (harg11 : arg11.IsWhole)
  (arg12 : Memref sig .tc .vmem S4096x256 .bf16) (harg12 : arg12.IsWhole)
  (arg13 : Memref sig .tc .vmem S4096x256 .f32) (harg13 : arg13.IsWhole)
  (arg14 : Memref sig .tc .vmem S512x256 .f32) (harg14 : arg14.IsWhole)
  (arg15 : Memref sig .tc .vmem S512x128 .f32) (harg15 : arg15.IsWhole)
  (arg16 : Memref sig .tc .vmem S4096x1 .f32) (harg16 : arg16.IsWhole)
variable (hc0 : cond0_0 i) (x0 : Vec Ideal S4096x256 .bf16) (x1 : Vec Ideal S4096x256 .bf16) (x2 : Vec Ideal S4096x128 .bf16) (x3 : Vec Ideal S4096x128 .bf16) (x4 : Vec Ideal S4096x128 .f32) (x5 : Vec Ideal S4096x128 .f32) (x6 : Vec Ideal S4096x128 .f32) (x7 : Vec Ideal S4096x128 .f32)
variable {w : Rows} {C S acc : ℕ → ℕ → ℝ} (h : Ins w x0 x1 x2 x3 x4 x5)
  (hC : Arr (n := 4096) (m := 128) x6 (fun i d => ((C i d : ℝ) : EReal))) (hS : Arr (n := 4096) (m := 128) x7 (fun i d => ((S i d : ℝ) : EReal)))

include h in
theorem keys0 :
    Arr (n := 4096) (m := 256) (View.canon (kernelRun0_A.sl.HS1_6 (F := Ideal) c arg1 harg1 arg2 harg2 arg3 harg3 arg4 harg4 arg5 harg5 arg6 harg6 arg12 arg13 arg16 x0 x1 x2 x3 x4 x5)) (fun i d => ((w.dq 512 i d : ℝ) : EReal))
    ∧ Arr (n := 512) (m := 256) (View.canon (kernelRun0_A.sl.HS2_6 (F := Ideal) c arg1 harg1 arg2 harg2 arg3 harg3 arg4 harg4 arg5 harg5 arg6 harg6 arg12 arg14 arg16 x0 x1 x2 x3 x4 x5)) (fun j d => ((w.dk 0 4096 (0 + j) d : ℝ) : EReal))
    ∧ Arr (n := 512) (m := 128) (View.canon (kernelRun0_A.sl.HS3_6 (F := Ideal) c arg1 harg1 arg2 harg2 arg3 harg3 arg4 harg4 arg5 harg5 arg12 arg15 x0 x1 x2 x3 x4)) (fun j d => ((w.dv 0 4096 (0 + j) d : ℝ) : EReal)) := by
  have a1 : Arr (n := 4096) (m := 256) (View.canon (kernelRun0_A.sl.HS1_1 (F := Ideal))) (fun i d => ((w.dq (if i < 0 then 0 + 512 else 0) i d : ℝ) : EReal)) := zero x0 x1 x2 x3 x4 x5 h
  have a2 : Arr (n := 512) (m := 256) (View.canon (kernelRun0_A.sl.HS2_1 (F := Ideal))) (fun j d => ((w.dk 0 0 (0 + j) d : ℝ) : EReal)) :=
    Arr.whole (zero_k fun j d => dk_zero 0 (0 + j) d) inb_S512x256_S512x256_0_0 []
  have a3 : Arr (n := 512) (m := 128) (View.canon (kernelRun0_A.sl.HS3_1 (F := Ideal))) (fun j d => ((w.dv 0 0 (0 + j) d : ℝ) : EReal)) :=
    Arr.whole (zero_v fun j d => dv_zero 0 (0 + j) d) inb_S512x128_S512x128_0_0 []
  have b0 := block0 c arg1 harg1 arg2 harg2 arg3 harg3 arg4 harg4 arg5 harg5 arg6 harg6 arg12 arg13 arg14 arg15 arg16 x0 x1 x2 x3 x4 x5 h a1 a2 a3
  have b1 := block1 c arg1 harg1 arg2 harg2 arg3 harg3 arg4 harg4 arg5 harg5 arg6 harg6 arg12 arg13 arg14 arg15 arg16 x0 x1 x2 x3 x4 x5 h b0.1 b0.2.1 b0.2.2
  have b2 := block2 c arg1 harg1 arg2 harg2 arg3 harg3 arg4 harg4 arg5 harg5 arg6 harg6 arg12 arg13 arg14 arg15 arg16 x0 x1 x2 x3 x4 x5 h b1.1 b1.2.1 b1.2.2
  have b3 := block3 c arg1 harg1 arg2 harg2 arg3 harg3 arg4 harg4 arg5 harg5 arg6 harg6 arg12 arg13 arg14 arg15 arg16 x0 x1 x2 x3 x4 x5 h b2.1 b2.2.1 b2.2.2
  have b4 := block4 c arg1 harg1 arg2 harg2 arg3 harg3 arg4 harg4 arg5 harg5 arg6 harg6 arg12 arg13 arg14 arg15 arg16 x0 x1 x2 x3 x4 x5 h b3.1 b3.2.1 b3.2.2
  refine ⟨b4.1.congr fun i d hi _ => ?_, b4.2.1.congr fun j d _ _ => ?_, b4.2.2.congr fun j d _ _ => ?_⟩
  · beta_reduce
    rw [if_pos hi]
  · beta_reduce
    rw [← dk_low w (Nat.le_add_right 0 j) (by decide)]
  · beta_reduce
    rw [← dv_low w (Nat.le_add_right 0 j) (by decide)]

include h in
theorem keys1 :
    Arr (n := 4096) (m := 256) (View.canon (kernelRun0_A.sl.HS1_10 (F := Ideal) c arg1 harg1 arg2 harg2 arg3 harg3 arg4 harg4 arg5 harg5 arg6 harg6 arg12 arg13 arg16 x0 x1 x2 x3 x4 x5)) (fun i d => ((w.dq 1024 i d : ℝ) : EReal))
    ∧ Arr (n := 512) (m := 256) (View.canon (kernelRun0_A.sl.HS2_11 (F := Ideal) c arg1 harg1 arg2 harg2 arg3 harg3 arg4 harg4 arg5 harg5 arg6 harg6 arg12 arg14 arg16 x0 x1 x2 x3 x4 x5)) (fun j d => ((w.dk 0 4096 (512 + j) d : ℝ) : EReal))
    ∧ Arr (n := 512) (m := 128) (View.canon (kernelRun0_A.sl.HS3_11 (F := Ideal) c arg1 harg1 arg2 harg2 arg3 harg3 arg4 harg4 arg5 harg5 arg12 arg15 x0 x1 x2 x3 x4)) (fun j d => ((w.dv 0 4096 (512 + j) d : ℝ) : EReal)) := by
  have a1 : Arr (n := 4096) (m := 256) (View.canon (kernelRun0_A.sl.HS1_6 (F := Ideal) c arg1 harg1 arg2 harg2 arg3 harg3 arg4 harg4 arg5 harg5 arg6 harg6 arg12 arg13 arg16 x0 x1 x2 x3 x4 x5)) (fun i d => ((w.dq (if i < 512 then 512 + 512 else 512) i d : ℝ) : EReal)) := by
    refine (keys0 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_A.sl.HS2_7 (F := Ideal) c arg1 harg1 arg2 harg2 arg3 harg3 arg4 harg4 arg5 harg5 arg6 harg6 arg12 arg14 arg16 x0 x1 x2 x3 x4 x5)) (fun j d => ((w.dk 512 512 (512 + j) d : ℝ) : EReal)) :=
    Arr.whole (zero_k fun j d => dk_zero 512 (512 + j) d) inb_S512x256_S512x256_0_0 (kernelRun0_A.sl.HS2_6 (F := Ideal) c arg1 harg1 arg2 harg2 arg3 harg3 arg4 harg4 arg5 harg5 arg6 harg6 arg12 arg14 arg16 x0 x1 x2 x3 x4 x5)
  have a3 : Arr (n := 512) (m := 128) (View.canon (kernelRun0_A.sl.HS3_7 (F := Ideal) c arg1 harg1 arg2 harg2 arg3 harg3 arg4 harg4 arg5 harg5 arg12 arg15 x0 x1 x2 x3 x4)) (fun j d => ((w.dv 512 512 (512 + j) d : ℝ) : EReal)) :=
    Arr.whole (zero_v fun j d => dv_zero 512 (512 + j) d) inb_S512x128_S512x128_0_0 (kernelRun0_A.sl.HS3_6 (F := Ideal) c arg1 harg1 arg2 harg2 arg3 harg3 arg4 harg4 arg5 harg5 arg12 arg15 x0 x1 x2 x3 x4)
  have b5 := block5 c arg1 harg1 arg2 harg2 arg3 harg3 arg4 harg4 arg5 harg5 arg6 harg6 arg12 arg13 arg14 arg15 arg16 x0 x1 x2 x3 x4 x5 h a1 a2 a3
  have b6 := block6 c arg1 harg1 arg2 harg2 arg3 harg3 arg4 harg4 arg5 harg5 arg6 harg6 arg12 arg13 arg14 arg15 arg16 x0 x1 x2 x3 x4 x5 h b5.1 b5.2.1 b5.2.2
  have b7 := block7 c arg1 harg1 arg2 harg2 arg3 harg3 arg4 harg4 arg5 harg5 arg6 harg6 arg12 arg13 arg14 arg15 arg16 x0 x1 x2 x3 x4 x5 h b6.1 b6.2.1 b6.2.2
  have b8 := block8 c arg1 harg1 arg2 harg2 arg3 harg3 arg4 harg4 arg5 harg5 arg6 harg6 arg12 arg13 arg14 arg15 arg16 x0 x1 x2 x3 x4 x5 h b7.1 b7.2.1 b7.2.2
  refine ⟨b8.1.congr fun i d hi _ => ?_, b8.2.1.congr fun j d _ _ => ?_, b8.2.2.congr fun j d _ _ => ?_⟩
  · beta_reduce
    rw [if_pos hi]
  · beta_reduce
    rw [← dk_low w (Nat.le_add_right 512 j) (by decide)]
  · beta_reduce
    rw [← dv_low w (Nat.le_add_right 512 j) (by decide)]

include h in
theorem keys2 :
    Arr (n := 4096) (m := 256) (View.canon (kernelRun0_A.sl.HS1_14 (F := Ideal) c arg1 harg1 arg2 harg2 arg3 harg3 arg4 harg4 arg5 harg5 arg6 harg6 arg12 arg13 arg16 x0 x1 x2 x3 x4 x5)) (fun i d => ((w.dq 1536 i d : ℝ) : EReal))
    ∧ Arr (n := 512) (m := 256) (View.canon (kernelRun0_A.sl.HS2_16 (F := Ideal) c arg1 harg1 arg2 harg2 arg3 harg3 arg4 harg4 arg5 harg5 arg6 harg6 arg12 arg14 arg16 x0 x1 x2 x3 x4 x5)) (fun j d => ((w.dk 0 4096 (1024 + j) d : ℝ) : EReal))
    ∧ Arr (n := 512) (m := 128) (View.canon (kernelRun0_A.sl.HS3_16 (F := Ideal) c arg1 harg1 arg2 harg2 arg3 harg3 arg4 harg4 arg5 harg5 arg12 arg15 x0 x1 x2 x3 x4)) (fun j d => ((w.dv 0 4096 (1024 + j) d : ℝ) : EReal)) := by
  have a1 : Arr (n := 4096) (m := 256) (View.canon (kernelRun0_A.sl.HS1_10 (F := Ideal) c arg1 harg1 arg2 harg2 arg3 harg3 arg4 harg4 arg5 harg5 arg6 harg6 arg12 arg13 arg16 x0 x1 x2 x3 x4 x5)) (fun i d => ((w.dq (if i < 1024 then 1024 + 512 else 1024) i d : ℝ) : EReal)) := by
    refine (keys1 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_A.sl.HS2_12 (F := Ideal) c arg1 harg1 arg2 harg2 arg3 harg3 arg4 harg4 arg5 harg5 arg6 harg6 arg12 arg14 arg16 x0 x1 x2 x3 x4 x5)) (fun j d => ((w.dk 1024 1024 (1024 + j) d : ℝ) : EReal)) :=
    Arr.whole (zero_k fun j d => dk_zero 1024 (1024 + j) d) inb_S512x256_S512x256_0_0 (kernelRun0_A.sl.HS2_11 (F := Ideal) c arg1 harg1 arg2 harg2 arg3 harg3 arg4 harg4 arg5 harg5 arg6 harg6 arg12 arg14 arg16 x0 x1 x2 x3 x4 x5)
  have a3 : Arr (n := 512) (m := 128) (View.canon (kernelRun0_A.sl.HS3_12 (F := Ideal) c arg1 harg1 arg2 harg2 arg3 harg3 arg4 harg4 arg5 harg5 arg12 arg15 x0 x1 x2 x3 x4)) (fun j d => ((w.dv 1024 1024 (1024 + j) d : ℝ) : EReal)) :=
    Arr.whole (zero_v fun j d => dv_zero 1024 (1024 + j) d) inb_S512x128_S512x128_0_0 (kernelRun0_A.sl.HS3_11 (F := Ideal) c arg1 harg1 arg2 harg2 arg3 harg3 arg4 harg4 arg5 harg5 arg12 arg15 x0 x1 x2 x3 x4)
  have b9 := block9 c arg1 harg1 arg2 harg2 arg3 harg3 arg4 harg4 arg5 harg5 arg6 harg6 arg12 arg13 arg14 arg15 arg16 x0 x1 x2 x3 x4 x5 h a1 a2 a3
  have b10 := block10 c arg1 harg1 arg2 harg2 arg3 harg3 arg4 harg4 arg5 harg5 arg6 harg6 arg12 arg13 arg14 arg15 arg16 x0 x1 x2 x3 x4 x5 h b9.1 b9.2.1 b9.2.2
  have b11 := block11 c arg1 harg1 arg2 harg2 arg3 harg3 arg4 harg4 arg5 harg5 arg6 harg6 arg12 arg13 arg14 arg15 arg16 x0 x1 x2 x3 x4 x5 h b10.1 b10.2.1 b10.2.2
  have b12 := block12 c arg1 harg1 arg2 harg2 arg3 harg3 arg4 harg4 arg5 harg5 arg6 harg6 arg12 arg13 arg14 arg15 arg16 x0 x1 x2 x3 x4 x5 h b11.1 b11.2.1 b11.2.2
  refine ⟨b12.1.congr fun i d hi _ => ?_, b12.2.1.congr fun j d _ _ => ?_, b12.2.2.congr fun j d _ _ => ?_⟩
  · beta_reduce
    rw [if_pos hi]
  · beta_reduce
    rw [← dk_low w (Nat.le_add_right 1024 j) (by decide)]
  · beta_reduce
    rw [← dv_low w (Nat.le_add_right 1024 j) (by decide)]

include h in
theorem keys3 :
    Arr (n := 4096) (m := 256) (View.canon (kernelRun0_A.sl.HS1_17 (F := Ideal) c arg1 harg1 arg2 harg2 arg3 harg3 arg4 harg4 arg5 harg5 arg6 harg6 arg12 arg13 arg16 x0 x1 x2 x3 x4 x5)) (fun i d => ((w.dq 2048 i d : ℝ) : EReal))
    ∧ Arr (n := 512) (m := 256) (View.canon (kernelRun0_A.sl.HS2_20 (F := Ideal) c arg1 harg1 arg2 harg2 arg3 harg3 arg4 harg4 arg5 harg5 arg6 harg6 arg12 arg14 arg16 x0 x1 x2 x3 x4 x5)) (fun j d => ((w.dk 0 4096 (1536 + j) d : ℝ) : EReal))
    ∧ Arr (n := 512) (m := 128) (View.canon (kernelRun0_A.sl.HS3_20 (F := Ideal) c arg1 harg1 arg2 harg2 arg3 harg3 arg4 harg4 arg5 harg5 arg12 arg15 x0 x1 x2 x3 x4)) (fun j d => ((w.dv 0 4096 (1536 + j) d : ℝ) : EReal)) := by
  have a1 : Arr (n := 4096) (m := 256) (View.canon (kernelRun0_A.sl.HS1_14 (F := Ideal) c arg1 harg1 arg2 harg2 arg3 harg3 arg4 harg4 arg5 harg5 arg6 harg6 arg12 arg13 arg16 x0 x1 x2 x3 x4 x5)) (fun i d => ((w.dq (if i < 1536 then 1536 + 512 else 1536) i d : ℝ) : EReal)) := by
    refine (keys2 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_A.sl.HS2_17 (F := Ideal) c arg1 harg1 arg2 harg2 arg3 harg3 arg4 harg4 arg5 harg5 arg6 harg6 arg12 arg14 arg16 x0 x1 x2 x3 x4 x5)) (fun j d => ((w.dk 1536 1536 (1536 + j) d : ℝ) : EReal)) :=
    Arr.whole (zero_k fun j d => dk_zero 1536 (1536 + j) d) inb_S512x256_S512x256_0_0 (kernelRun0_A.sl.HS2_16 (F := Ideal) c arg1 harg1 arg2 harg2 arg3 harg3 arg4 harg4 arg5 harg5 arg6 harg6 arg12 arg14 arg16 x0 x1 x2 x3 x4 x5)
  have a3 : Arr (n := 512) (m := 128) (View.canon (kernelRun0_A.sl.HS3_17 (F := Ideal) c arg1 harg1 arg2 harg2 arg3 harg3 arg4 harg4 arg5 harg5 arg12 arg15 x0 x1 x2 x3 x4)) (fun j d => ((w.dv 1536 1536 (1536 + j) d : ℝ) : EReal)) :=
    Arr.whole (zero_v fun j d => dv_zero 1536 (1536 + j) d) inb_S512x128_S512x128_0_0 (kernelRun0_A.sl.HS3_16 (F := Ideal) c arg1 harg1 arg2 harg2 arg3 harg3 arg4 harg4 arg5 harg5 arg12 arg15 x0 x1 x2 x3 x4)
  have b13 := block13 c arg1 harg1 arg2 harg2 arg3 harg3 arg4 harg4 arg5 harg5 arg6 harg6 arg12 arg13 arg14 arg15 arg16 x0 x1 x2 x3 x4 x5 h a1 a2 a3
  have b14 := block14 c arg1 harg1 arg2 harg2 arg3 harg3 arg4 harg4 arg5 harg5 arg6 harg6 arg12 arg13 arg14 arg15 arg16 x0 x1 x2 x3 x4 x5 h b13.1 b13.2.1 b13.2.2
  have b15 := block15 c arg1 harg1 arg2 harg2 arg3 harg3 arg4 harg4 arg5 harg5 arg6 harg6 arg12 arg13 arg14 arg15 arg16 x0 x1 x2 x3 x4 x5 h b14.1 b14.2.1 b14.2.2
  refine ⟨b15.1.congr fun i d hi _ => ?_, b15.2.1.congr fun j d _ _ => ?_, b15.2.2.congr fun j d _ _ => ?_⟩
  · beta_reduce
    rw [if_pos hi]
  · beta_reduce
    rw [← dk_low w (Nat.le_add_right 1536 j) (by decide)]
  · beta_reduce
    rw [← dv_low w (Nat.le_add_right 1536 j) (by decide)]

include h in
theorem keys4 :
    Arr (n := 4096) (m := 256) (View.canon (kernelRun0_A.sl.HS1_20 (F := Ideal) c arg1 harg1 arg2 harg2 arg3 harg3 arg4 harg4 arg5 harg5 arg6 harg6 arg12 arg13 arg16 x0 x1 x2 x3 x4 x5)) (fun i d => ((w.dq 2560 i d : ℝ) : EReal))
    ∧ Arr (n := 512) (m := 256) (View.canon (kernelRun0_A.sl.HS2_24 (F := Ideal) c arg1 harg1 arg2 harg2 arg3 harg3 arg4 harg4 arg5 harg5 arg6 harg6 arg12 arg14 arg16 x0 x1 x2 x3 x4 x5)) (fun j d => ((w.dk 0 4096 (2048 + j) d : ℝ) : EReal))
    ∧ Arr (n := 512) (m := 128) (View.canon (kernelRun0_A.sl.HS3_24 (F := Ideal) c arg1 harg1 arg2 harg2 arg3 harg3 arg4 harg4 arg5 harg5 arg12 arg15 x0 x1 x2 x3 x4)) (fun j d => ((w.dv 0 4096 (2048 + j) d : ℝ) : EReal)) := by
  have a1 : Arr (n := 4096) (m := 256) (View.canon (kernelRun0_A.sl.HS1_17 (F := Ideal) c arg1 harg1 arg2 harg2 arg3 harg3 arg4 harg4 arg5 harg5 arg6 harg6 arg12 arg13 arg16 x0 x1 x2 x3 x4 x5)) (fun i d => ((w.dq (if i < 2048 then 2048 + 512 else 2048) i d : ℝ) : EReal)) := by
    refine (keys3 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_A.sl.HS2_21 (F := Ideal) c arg1 harg1 arg2 harg2 arg3 harg3 arg4 harg4 arg5 harg5 arg6 harg6 arg12 arg14 arg16 x0 x1 x2 x3 x4 x5)) (fun j d => ((w.dk 2048 2048 (2048 + j) d : ℝ) : EReal)) :=
    Arr.whole (zero_k fun j d => dk_zero 2048 (2048 + j) d) inb_S512x256_S512x256_0_0 (kernelRun0_A.sl.HS2_20 (F := Ideal) c arg1 harg1 arg2 harg2 arg3 harg3 arg4 harg4 arg5 harg5 arg6 harg6 arg12 arg14 arg16 x0 x1 x2 x3 x4 x5)
  have a3 : Arr (n := 512) (m := 128) (View.canon (kernelRun0_A.sl.HS3_21 (F := Ideal) c arg1 harg1 arg2 harg2 arg3 harg3 arg4 harg4 arg5 harg5 arg12 arg15 x0 x1 x2 x3 x4)) (fun j d => ((w.dv 2048 2048 (2048 + j) d : ℝ) : EReal)) :=
    Arr.whole (zero_v fun j d => dv_zero 2048 (2048 + j) d) inb_S512x128_S512x128_0_0 (kernelRun0_A.sl.HS3_20 (F := Ideal) c arg1 harg1 arg2 harg2 arg3 harg3 arg4 harg4 arg5 harg5 arg12 arg15 x0 x1 x2 x3 x4)
  have b16 := block16 c arg1 harg1 arg2 harg2 arg3 harg3 arg4 harg4 arg5 harg5 arg6 harg6 arg12 arg13 arg14 arg15 arg16 x0 x1 x2 x3 x4 x5 h a1 a2 a3
  have b17 := block17 c arg1 harg1 arg2 harg2 arg3 harg3 arg4 harg4 arg5 harg5 arg6 harg6 arg12 arg13 arg14 arg15 arg16 x0 x1 x2 x3 x4 x5 h b16.1 b16.2.1 b16.2.2
  have b18 := block18 c arg1 harg1 arg2 harg2 arg3 harg3 arg4 harg4 arg5 harg5 arg6 harg6 arg12 arg13 arg14 arg15 arg16 x0 x1 x2 x3 x4 x5 h b17.1 b17.2.1 b17.2.2
  refine ⟨b18.1.congr fun i d hi _ => ?_, b18.2.1.congr fun j d _ _ => ?_, b18.2.2.congr fun j d _ _ => ?_⟩
  · beta_reduce
    rw [if_pos hi]
  · beta_reduce
    rw [← dk_low w (Nat.le_add_right 2048 j) (by decide)]
  · beta_reduce
    rw [← dv_low w (Nat.le_add_right 2048 j) (by decide)]

include h in
theorem keys5 :
    Arr (n := 4096) (m := 256) (View.canon (kernelRun0_A.sl.HS1_22 (F := Ideal) c arg1 harg1 arg2 harg2 arg3 harg3 arg4 harg4 arg5 harg5 arg6 harg6 arg12 arg13 arg16 x0 x1 x2 x3 x4 x5)) (fun i d => ((w.dq 3072 i d : ℝ) : EReal))
    ∧ Arr (n := 512) (m := 256) (View.canon (kernelRun0_A.sl.HS2_27 (F := Ideal) c arg1 harg1 arg2 harg2 arg3 harg3 arg4 harg4 arg5 harg5 arg6 harg6 arg12 arg14 arg16 x0 x1 x2 x3 x4 x5)) (fun j d => ((w.dk 0 4096 (2560 + j) d : ℝ) : EReal))
    ∧ Arr (n := 512) (m := 128) (View.canon (kernelRun0_A.sl.HS3_27 (F := Ideal) c arg1 harg1 arg2 harg2 arg3 harg3 arg4 harg4 arg5 harg5 arg12 arg15 x0 x1 x2 x3 x4)) (fun j d => ((w.dv 0 4096 (2560 + j) d : ℝ) : EReal)) := by
  have a1 : Arr (n := 4096) (m := 256) (View.canon (kernelRun0_A.sl.HS1_20 (F := Ideal) c arg1 harg1 arg2 harg2 arg3 harg3 arg4 harg4 arg5 harg5 arg6 harg6 arg12 arg13 arg16 x0 x1 x2 x3 x4 x5)) (fun i d => ((w.dq (if i < 2560 then 2560 + 512 else 2560) i d : ℝ) : EReal)) := by
    refine (keys4 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_A.sl.HS2_25 (F := Ideal) c arg1 harg1 arg2 harg2 arg3 harg3 arg4 harg4 arg5 harg5 arg6 harg6 arg12 arg14 arg16 x0 x1 x2 x3 x4 x5)) (fun j d => ((w.dk 2560 2560 (2560 + j) d : ℝ) : EReal)) :=
    Arr.whole (zero_k fun j d => dk_zero 2560 (2560 + j) d) inb_S512x256_S512x256_0_0 (kernelRun0_A.sl.HS2_24 (F := Ideal) c arg1 harg1 arg2 harg2 arg3 harg3 arg4 harg4 arg5 harg5 arg6 harg6 arg12 arg14 arg16 x0 x1 x2 x3 x4 x5)
  have a3 : Arr (n := 512) (m := 128) (View.canon (kernelRun0_A.sl.HS3_25 (F := Ideal) c arg1 harg1 arg2 harg2 arg3 harg3 arg4 harg4 arg5 harg5 arg12 arg15 x0 x1 x2 x3 x4)) (fun j d => ((w.dv 2560 2560 (2560 + j) d : ℝ) : EReal)) :=
    Arr.whole (zero_v fun j d => dv_zero 2560 (2560 + j) d) inb_S512x128_S512x128_0_0 (kernelRun0_A.sl.HS3_24 (F := Ideal) c arg1 harg1 arg2 harg2 arg3 harg3 arg4 harg4 arg5 harg5 arg12 arg15 x0 x1 x2 x3 x4)
  have b19 := block19 c arg1 harg1 arg2 harg2 arg3 harg3 arg4 harg4 arg5 harg5 arg6 harg6 arg12 arg13 arg14 arg15 arg16 x0 x1 x2 x3 x4 x5 h a1 a2 a3
  have b20 := block20 c arg1 harg1 arg2 harg2 arg3 harg3 arg4 harg4 arg5 harg5 arg6 harg6 arg12 arg13 arg14 arg15 arg16 x0 x1 x2 x3 x4 x5 h b19.1 b19.2.1 b19.2.2
  refine ⟨b20.1.congr fun i d hi _ => ?_, b20.2.1.congr fun j d _ _ => ?_, b20.2.2.congr fun j d _ _ => ?_⟩
  · beta_reduce
    rw [if_pos hi]
  · beta_reduce
    rw [← dk_low w (Nat.le_add_right 2560 j) (by decide)]
  · beta_reduce
    rw [← dv_low w (Nat.le_add_right 2560 j) (by decide)]

include h in
theorem keys6 :
    Arr (n := 4096) (m := 256) (View.canon (kernelRun0_A.sl.HS1_24 (F := Ideal) c arg1 harg1 arg2 harg2 arg3 harg3 arg4 harg4 arg5 harg5 arg6 harg6 arg12 arg13 arg16 x0 x1 x2 x3 x4 x5)) (fun i d => ((w.dq 3584 i d : ℝ) : EReal))
    ∧ Arr (n := 512) (m := 256) (View.canon (kernelRun0_A.sl.HS2_30 (F := Ideal) c arg1 harg1 arg2 harg2 arg3 harg3 arg4 harg4 arg5 harg5 arg6 harg6 arg12 arg14 arg16 x0 x1 x2 x3 x4 x5)) (fun j d => ((w.dk 0 4096 (3072 + j) d : ℝ) : EReal))
    ∧ Arr (n := 512) (m := 128) (View.canon (kernelRun0_A.sl.HS3_30 (F := Ideal) c arg1 harg1 arg2 harg2 arg3 harg3 arg4 harg4 arg5 harg5 arg12 arg15 x0 x1 x2 x3 x4)) (fun j d => ((w.dv 0 4096 (3072 + j) d : ℝ) : EReal)) := by
  have a1 : Arr (n := 4096) (m := 256) (View.canon (kernelRun0_A.sl.HS1_22 (F := Ideal) c arg1 harg1 arg2 harg2 arg3 harg3 arg4 harg4 arg5 harg5 arg6 harg6 arg12 arg13 arg16 x0 x1 x2 x3 x4 x5)) (fun i d => ((w.dq (if i < 3072 then 3072 + 512 else 3072) i d : ℝ) : EReal)) := by
    refine (keys5 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_A.sl.HS2_28 (F := Ideal) c arg1 harg1 arg2 harg2 arg3 harg3 arg4 harg4 arg5 harg5 arg6 harg6 arg12 arg14 arg16 x0 x1 x2 x3 x4 x5)) (fun j d => ((w.dk 3072 3072 (3072 + j) d : ℝ) : EReal)) :=
    Arr.whole (zero_k fun j d => dk_zero 3072 (3072 + j) d) inb_S512x256_S512x256_0_0 (kernelRun0_A.sl.HS2_27 (F := Ideal) c arg1 harg1 arg2 harg2 arg3 harg3 arg4 harg4 arg5 harg5 arg6 harg6 arg12 arg14 arg16 x0 x1 x2 x3 x4 x5)
  have a3 : Arr (n := 512) (m := 128) (View.canon (kernelRun0_A.sl.HS3_28 (F := Ideal) c arg1 harg1 arg2 harg2 arg3 harg3 arg4 harg4 arg5 harg5 arg12 arg15 x0 x1 x2 x3 x4)) (fun j d => ((w.dv 3072 3072 (3072 + j) d : ℝ) : EReal)) :=
    Arr.whole (zero_v fun j d => dv_zero 3072 (3072 + j) d) inb_S512x128_S512x128_0_0 (kernelRun0_A.sl.HS3_27 (F := Ideal) c arg1 harg1 arg2 harg2 arg3 harg3 arg4 harg4 arg5 harg5 arg12 arg15 x0 x1 x2 x3 x4)
  have b21 := block21 c arg1 harg1 arg2 harg2 arg3 harg3 arg4 harg4 arg5 harg5 arg6 harg6 arg12 arg13 arg14 arg15 arg16 x0 x1 x2 x3 x4 x5 h a1 a2 a3
  have b22 := block22 c arg1 harg1 arg2 harg2 arg3 harg3 arg4 harg4 arg5 harg5 arg6 harg6 arg12 arg13 arg14 arg15 arg16 x0 x1 x2 x3 x4 x5 h b21.1 b21.2.1 b21.2.2
  refine ⟨b22.1.congr fun i d hi _ => ?_, b22.2.1.congr fun j d _ _ => ?_, b22.2.2.congr fun j d _ _ => ?_⟩
  · beta_reduce
    rw [if_pos hi]
  · beta_reduce
    rw [← dk_low w (Nat.le_add_right 3072 j) (by decide)]
  · beta_reduce
    rw [← dv_low w (Nat.le_add_right 3072 j) (by decide)]

include h in
theorem keys7 :
    Arr (n := 4096) (m := 256) (View.canon (kernelRun0_A.sl.HS1_25 (F := Ideal) c arg1 harg1 arg2 harg2 arg3 harg3 arg4 harg4 arg5 harg5 arg6 harg6 arg12 arg13 arg16 x0 x1 x2 x3 x4 x5)) (fun i d => ((w.dq 4096 i d : ℝ) : EReal))
    ∧ Arr (n := 512) (m := 256) (View.canon (kernelRun0_A.sl.HS2_32 (F := Ideal) c arg1 harg1 arg2 harg2 arg3 harg3 arg4 harg4 arg5 harg5 arg6 harg6 arg12 arg14 arg16 x0 x1 x2 x3 x4 x5)) (fun j d => ((w.dk 0 4096 (3584 + j) d : ℝ) : EReal))
    ∧ Arr (n := 512) (m := 128) (View.canon (kernelRun0_A.sl.HS3_32 (F := Ideal) c arg1 harg1 arg2 harg2 arg3 harg3 arg4 harg4 arg5 harg5 arg12 arg15 x0 x1 x2 x3 x4)) (fun j d => ((w.dv 0 4096 (3584 + j) d : ℝ) : EReal)) := by
  have a1 : Arr (n := 4096) (m := 256) (View.canon (kernelRun0_A.sl.HS1_24 (F := Ideal) c arg1 harg1 arg2 harg2 arg3 harg3 arg4 harg4 arg5 harg5 arg6 harg6 arg12 arg13 arg16 x0 x1 x2 x3 x4 x5)) (fun i d => ((w.dq (if i < 3584 then 3584 + 512 else 3584) i d : ℝ) : EReal)) := by
    refine (keys6 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_A.sl.HS2_31 (F := Ideal) c arg1 harg1 arg2 harg2 arg3 harg3 arg4 harg4 arg5 harg5 arg6 harg6 arg12 arg14 arg16 x0 x1 x2 x3 x4 x5)) (fun j d => ((w.dk 3584 3584 (3584 + j) d : ℝ) : EReal)) :=
    Arr.whole (zero_k fun j d => dk_zero 3584 (3584 + j) d) inb_S512x256_S512x256_0_0 (kernelRun0_A.sl.HS2_30 (F := Ideal) c arg1 harg1 arg2 harg2 arg3 harg3 arg4 harg4 arg5 harg5 arg6 harg6 arg12 arg14 arg16 x0 x1 x2 x3 x4 x5)
  have a3 : Arr (n := 512) (m := 128) (View.canon (kernelRun0_A.sl.HS3_31 (F := Ideal) c arg1 harg1 arg2 harg2 arg3 harg3 arg4 harg4 arg5 harg5 arg12 arg15 x0 x1 x2 x3 x4)) (fun j d => ((w.dv 3584 3584 (3584 + j) d : ℝ) : EReal)) :=
    Arr.whole (zero_v fun j d => dv_zero 3584 (3584 + j) d) inb_S512x128_S512x128_0_0 (kernelRun0_A.sl.HS3_30 (F := Ideal) c arg1 harg1 arg2 harg2 arg3 harg3 arg4 harg4 arg5 harg5 arg12 arg15 x0 x1 x2 x3 x4)
  have b23 := block23 c arg1 harg1 arg2 harg2 arg3 harg3 arg4 harg4 arg5 harg5 arg6 harg6 arg12 arg13 arg14 arg15 arg16 x0 x1 x2 x3 x4 x5 h a1 a2 a3
  refine ⟨b23.1.congr fun i d hi _ => ?_, b23.2.1.congr fun j d _ _ => ?_, b23.2.2.congr fun j d _ _ => ?_⟩
  · beta_reduce
    rw [if_pos hi]
  · beta_reduce
    rw [← dk_low w (Nat.le_add_right 3584 j) (by decide)]
  · beta_reduce
    rw [← dv_low w (Nat.le_add_right 3584 j) (by decide)]

include h hC hS in
theorem out8 : Arr (n := 4096) (m := 256) (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (fun i d => ((outQ w C S i d : ℝ) : EReal)) := by
  unfold out0_A_8
  rw [View.read_writes_junk_eq_canon]
  have a := (keys7 c arg1 harg1 arg2 harg2 arg3 harg3 arg4 harg4 arg5 harg5 arg6 harg6 arg12 arg13 arg14 arg15 arg16 x0 x1 x2 x3 x4 x5 h).1.readCov arg13.view inb_S4096x256_S4096x256_0_0
  have hc := hC.readAt harg7 inb_S4096x128_S4096x128_0_0
  have hs := hS.readAt harg8 inb_S4096x128_S4096x128_0_0
  have s0 := On.nil (n := 4096) (m := 256) (View.canon ([] : List (View.Piece (Elt Ideal) S4096x256 .bf16))) (fun i d => ((outQ w C S i d : ℝ) : EReal))
  have s1 := s0.cons (P' := fun _ d => d < 128) (qnope_arr a) inb_S4096x256_S4096x128_0_0 (fun i d hi hd => by
    unfold outQ
    beta_reduce
    rw [if_pos (by omega)]) (fun i d _ _ _ _ => by omega)
  have s2 := s1.cons (P' := fun _ _ => True) (qrope_arr a hc hs) inb_S4096x256_S4096x128_0_128 (fun i d hi hd => by
    unfold outQ
    beta_reduce
    simp only [Nat.zero_add, Nat.add_sub_cancel_left]
    rw [if_neg (show ¬ 128 + d < 128 by omega)]
    by_cases h32 : d < 32
    · rw [if_pos h32, if_pos (by omega), Nat.add_assoc]
    · rw [if_neg h32, if_neg (by omega), Nat.add_sub_assoc (by omega)]) (fun i d _ _ _ _ => by omega)
  exact s2.arr fun _ _ _ _ => trivial

include h in
theorem out9 : Arr (n := 4096) (m := 256) (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (fun i d => ((outKV w i d : ℝ) : EReal)) := by
  unfold out0_A_9
  rw [View.read_writes_junk_eq_canon]
  have z0 : On (n := 4096) (m := 256) (fun i _ => i < 0) (View.canon ([] : List (View.Piece (Elt Ideal) S4096x256 .bf16))) (fun i d => ((outKV w i d : ℝ) : EReal)) := fun i d hi => absurd hi (Nat.not_lt_zero _)
  have k0 := keys0 c arg1 harg1 arg2 harg2 arg3 harg3 arg4 harg4 arg5 harg5 arg6 harg6 arg12 arg13 arg14 arg15 arg16 x0 x1 x2 x3 x4 x5 h
  have y0 := z0.cons (P' := fun i d => i < 0 ∨ (i < 512 ∧ d < 128)) (nope_arr (k0.2.1.readCov arg14.view inb_S512x256_S512x256_0_0)) inb_S4096x256_S512x128_0_0 (fun i d hi hd => by
    unfold outKV
    beta_reduce
    rw [if_pos (by omega)]
    simp only [Nat.zero_add]) (fun i d _ _ _ _ => by omega)
  have z1 := y0.cons (P' := fun i _ => i < 512) (val_arr (k0.2.2.readCov arg15.view inb_S512x128_S512x128_0_0)) inb_S4096x256_S512x128_0_128 (fun i d hi hd => by
    unfold outKV
    beta_reduce
    rw [if_neg (by omega)]
    simp only [Nat.zero_add, Nat.add_sub_cancel_left]) (fun i d _ _ _ _ => by omega)
  have k1 := keys1 c arg1 harg1 arg2 harg2 arg3 harg3 arg4 harg4 arg5 harg5 arg6 harg6 arg12 arg13 arg14 arg15 arg16 x0 x1 x2 x3 x4 x5 h
  have y1 := z1.cons (P' := fun i d => i < 512 ∨ (i < 1024 ∧ d < 128)) (nope_arr (k1.2.1.readCov arg14.view inb_S512x256_S512x256_0_0)) inb_S4096x256_S512x128_512_0 (fun i d hi hd => by
    unfold outKV
    beta_reduce
    rw [if_pos (by omega)]
    simp only [Nat.zero_add]) (fun i d _ _ _ _ => by omega)
  have z2 := y1.cons (P' := fun i _ => i < 1024) (val_arr (k1.2.2.readCov arg15.view inb_S512x128_S512x128_0_0)) inb_S4096x256_S512x128_512_128 (fun i d hi hd => by
    unfold outKV
    beta_reduce
    rw [if_neg (by omega)]
    simp only [Nat.zero_add, Nat.add_sub_cancel_left]) (fun i d _ _ _ _ => by omega)
  have k2 := keys2 c arg1 harg1 arg2 harg2 arg3 harg3 arg4 harg4 arg5 harg5 arg6 harg6 arg12 arg13 arg14 arg15 arg16 x0 x1 x2 x3 x4 x5 h
  have y2 := z2.cons (P' := fun i d => i < 1024 ∨ (i < 1536 ∧ d < 128)) (nope_arr (k2.2.1.readCov arg14.view inb_S512x256_S512x256_0_0)) inb_S4096x256_S512x128_1024_0 (fun i d hi hd => by
    unfold outKV
    beta_reduce
    rw [if_pos (by omega)]
    simp only [Nat.zero_add]) (fun i d _ _ _ _ => by omega)
  have z3 := y2.cons (P' := fun i _ => i < 1536) (val_arr (k2.2.2.readCov arg15.view inb_S512x128_S512x128_0_0)) inb_S4096x256_S512x128_1024_128 (fun i d hi hd => by
    unfold outKV
    beta_reduce
    rw [if_neg (by omega)]
    simp only [Nat.zero_add, Nat.add_sub_cancel_left]) (fun i d _ _ _ _ => by omega)
  have k3 := keys3 c arg1 harg1 arg2 harg2 arg3 harg3 arg4 harg4 arg5 harg5 arg6 harg6 arg12 arg13 arg14 arg15 arg16 x0 x1 x2 x3 x4 x5 h
  have y3 := z3.cons (P' := fun i d => i < 1536 ∨ (i < 2048 ∧ d < 128)) (nope_arr (k3.2.1.readCov arg14.view inb_S512x256_S512x256_0_0)) inb_S4096x256_S512x128_1536_0 (fun i d hi hd => by
    unfold outKV
    beta_reduce
    rw [if_pos (by omega)]
    simp only [Nat.zero_add]) (fun i d _ _ _ _ => by omega)
  have z4 := y3.cons (P' := fun i _ => i < 2048) (val_arr (k3.2.2.readCov arg15.view inb_S512x128_S512x128_0_0)) inb_S4096x256_S512x128_1536_128 (fun i d hi hd => by
    unfold outKV
    beta_reduce
    rw [if_neg (by omega)]
    simp only [Nat.zero_add, Nat.add_sub_cancel_left]) (fun i d _ _ _ _ => by omega)
  have k4 := keys4 c arg1 harg1 arg2 harg2 arg3 harg3 arg4 harg4 arg5 harg5 arg6 harg6 arg12 arg13 arg14 arg15 arg16 x0 x1 x2 x3 x4 x5 h
  have y4 := z4.cons (P' := fun i d => i < 2048 ∨ (i < 2560 ∧ d < 128)) (nope_arr (k4.2.1.readCov arg14.view inb_S512x256_S512x256_0_0)) inb_S4096x256_S512x128_2048_0 (fun i d hi hd => by
    unfold outKV
    beta_reduce
    rw [if_pos (by omega)]
    simp only [Nat.zero_add]) (fun i d _ _ _ _ => by omega)
  have z5 := y4.cons (P' := fun i _ => i < 2560) (val_arr (k4.2.2.readCov arg15.view inb_S512x128_S512x128_0_0)) inb_S4096x256_S512x128_2048_128 (fun i d hi hd => by
    unfold outKV
    beta_reduce
    rw [if_neg (by omega)]
    simp only [Nat.zero_add, Nat.add_sub_cancel_left]) (fun i d _ _ _ _ => by omega)
  have k5 := keys5 c arg1 harg1 arg2 harg2 arg3 harg3 arg4 harg4 arg5 harg5 arg6 harg6 arg12 arg13 arg14 arg15 arg16 x0 x1 x2 x3 x4 x5 h
  have y5 := z5.cons (P' := fun i d => i < 2560 ∨ (i < 3072 ∧ d < 128)) (nope_arr (k5.2.1.readCov arg14.view inb_S512x256_S512x256_0_0)) inb_S4096x256_S512x128_2560_0 (fun i d hi hd => by
    unfold outKV
    beta_reduce
    rw [if_pos (by omega)]
    simp only [Nat.zero_add]) (fun i d _ _ _ _ => by omega)
  have z6 := y5.cons (P' := fun i _ => i < 3072) (val_arr (k5.2.2.readCov arg15.view inb_S512x128_S512x128_0_0)) inb_S4096x256_S512x128_2560_128 (fun i d hi hd => by
    unfold outKV
    beta_reduce
    rw [if_neg (by omega)]
    simp only [Nat.zero_add, Nat.add_sub_cancel_left]) (fun i d _ _ _ _ => by omega)
  have k6 := keys6 c arg1 harg1 arg2 harg2 arg3 harg3 arg4 harg4 arg5 harg5 arg6 harg6 arg12 arg13 arg14 arg15 arg16 x0 x1 x2 x3 x4 x5 h
  have y6 := z6.cons (P' := fun i d => i < 3072 ∨ (i < 3584 ∧ d < 128)) (nope_arr (k6.2.1.readCov arg14.view inb_S512x256_S512x256_0_0)) inb_S4096x256_S512x128_3072_0 (fun i d hi hd => by
    unfold outKV
    beta_reduce
    rw [if_pos (by omega)]
    simp only [Nat.zero_add]) (fun i d _ _ _ _ => by omega)
  have z7 := y6.cons (P' := fun i _ => i < 3584) (val_arr (k6.2.2.readCov arg15.view inb_S512x128_S512x128_0_0)) inb_S4096x256_S512x128_3072_128 (fun i d hi hd => by
    unfold outKV
    beta_reduce
    rw [if_neg (by omega)]
    simp only [Nat.zero_add, Nat.add_sub_cancel_left]) (fun i d _ _ _ _ => by omega)
  have k7 := keys7 c arg1 harg1 arg2 harg2 arg3 harg3 arg4 harg4 arg5 harg5 arg6 harg6 arg12 arg13 arg14 arg15 arg16 x0 x1 x2 x3 x4 x5 h
  have y7 := z7.cons (P' := fun i d => i < 3584 ∨ (i < 4096 ∧ d < 128)) (nope_arr (k7.2.1.readCov arg14.view inb_S512x256_S512x256_0_0)) inb_S4096x256_S512x128_3584_0 (fun i d hi hd => by
    unfold outKV
    beta_reduce
    rw [if_pos (by omega)]
    simp only [Nat.zero_add]) (fun i d _ _ _ _ => by omega)
  have z8 := y7.cons (P' := fun i _ => i < 4096) (val_arr (k7.2.2.readCov arg15.view inb_S512x128_S512x128_0_0)) inb_S4096x256_S512x128_3584_128 (fun i d hi hd => by
    unfold outKV
    beta_reduce
    rw [if_neg (by omega)]
    simp only [Nat.zero_add, Nat.add_sub_cancel_left]) (fun i d _ _ _ _ => by omega)
  exact z8.arr fun _ _ hi _ => hi

include h in
theorem out10 : Arr (n := 4096) (m := 128) (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7) (fun i d => ((outR w (fun _ _ => 0) i d : ℝ) : EReal)) := by
  unfold out0_A_10
  rw [View.read_writes_junk_eq_canon]
  have e1 : Arr (n := 4096) (m := 128) (View.canon (kernelRun0_A.sl.H10_1 (F := Ideal))) (fun i d => (((if i < 0 then outR w (fun _ _ => 0) i d else 0 : ℝ)) : EReal)) :=
    Arr.whole (zero_r fun i d => by rw [if_neg (Nat.not_lt_zero _)]) inb_S4096x128_S4096x128_0_0 []
  have k0 := keys0 c arg1 harg1 arg2 harg2 arg3 harg3 arg4 harg4 arg5 harg5 arg6 harg6 arg12 arg13 arg14 arg15 arg16 x0 x1 x2 x3 x4 x5 h
  have e2 := rstep e1 (rope_arr (k0.2.1.readCov arg14.view inb_S512x256_S512x256_0_0) (e1.readCov arg11.view inb_S4096x128_S512x128_0_0)) inb_S4096x128_S512x128_0_0 (fun i d => by
    rw [if_neg (by omega)]
    unfold outR
    simp only [Nat.zero_add])
  have k1 := keys1 c arg1 harg1 arg2 harg2 arg3 harg3 arg4 harg4 arg5 harg5 arg6 harg6 arg12 arg13 arg14 arg15 arg16 x0 x1 x2 x3 x4 x5 h
  have e3 := rstep e2 (rope_arr (k1.2.1.readCov arg14.view inb_S512x256_S512x256_0_0) (e2.readCov arg11.view inb_S4096x128_S512x128_512_0)) inb_S4096x128_S512x128_512_0 (fun i d => by
    rw [if_neg (by omega)]
    unfold outR
    simp only [Nat.zero_add])
  have k2 := keys2 c arg1 harg1 arg2 harg2 arg3 harg3 arg4 harg4 arg5 harg5 arg6 harg6 arg12 arg13 arg14 arg15 arg16 x0 x1 x2 x3 x4 x5 h
  have e4 := rstep e3 (rope_arr (k2.2.1.readCov arg14.view inb_S512x256_S512x256_0_0) (e3.readCov arg11.view inb_S4096x128_S512x128_1024_0)) inb_S4096x128_S512x128_1024_0 (fun i d => by
    rw [if_neg (by omega)]
    unfold outR
    simp only [Nat.zero_add])
  have k3 := keys3 c arg1 harg1 arg2 harg2 arg3 harg3 arg4 harg4 arg5 harg5 arg6 harg6 arg12 arg13 arg14 arg15 arg16 x0 x1 x2 x3 x4 x5 h
  have e5 := rstep e4 (rope_arr (k3.2.1.readCov arg14.view inb_S512x256_S512x256_0_0) (e4.readCov arg11.view inb_S4096x128_S512x128_1536_0)) inb_S4096x128_S512x128_1536_0 (fun i d => by
    rw [if_neg (by omega)]
    unfold outR
    simp only [Nat.zero_add])
  have k4 := keys4 c arg1 harg1 arg2 harg2 arg3 harg3 arg4 harg4 arg5 harg5 arg6 harg6 arg12 arg13 arg14 arg15 arg16 x0 x1 x2 x3 x4 x5 h
  have e6 := rstep e5 (rope_arr (k4.2.1.readCov arg14.view inb_S512x256_S512x256_0_0) (e5.readCov arg11.view inb_S4096x128_S512x128_2048_0)) inb_S4096x128_S512x128_2048_0 (fun i d => by
    rw [if_neg (by omega)]
    unfold outR
    simp only [Nat.zero_add])
  have k5 := keys5 c arg1 harg1 arg2 harg2 arg3 harg3 arg4 harg4 arg5 harg5 arg6 harg6 arg12 arg13 arg14 arg15 arg16 x0 x1 x2 x3 x4 x5 h
  have e7 := rstep e6 (rope_arr (k5.2.1.readCov arg14.view inb_S512x256_S512x256_0_0) (e6.readCov arg11.view inb_S4096x128_S512x128_2560_0)) inb_S4096x128_S512x128_2560_0 (fun i d => by
    rw [if_neg (by omega)]
    unfold outR
    simp only [Nat.zero_add])
  have k6 := keys6 c arg1 harg1 arg2 harg2 arg3 harg3 arg4 harg4 arg5 harg5 arg6 harg6 arg12 arg13 arg14 arg15 arg16 x0 x1 x2 x3 x4 x5 h
  have e8 := rstep e7 (rope_arr (k6.2.1.readCov arg14.view inb_S512x256_S512x256_0_0) (e7.readCov arg11.view inb_S4096x128_S512x128_3072_0)) inb_S4096x128_S512x128_3072_0 (fun i d => by
    rw [if_neg (by omega)]
    unfold outR
    simp only [Nat.zero_add])
  have k7 := keys7 c arg1 harg1 arg2 harg2 arg3 harg3 arg4 harg4 arg5 harg5 arg6 harg6 arg12 arg13 arg14 arg15 arg16 x0 x1 x2 x3 x4 x5 h
  have e9 := rstep e8 (rope_arr (k7.2.1.readCov arg14.view inb_S512x256_S512x256_0_0) (e8.readCov arg11.view inb_S4096x128_S512x128_3584_0)) inb_S4096x128_S512x128_3584_0 (fun i d => by
    rw [if_neg (by omega)]
    unfold outR
    simp only [Nat.zero_add])
  exact e9.congr fun i d hi _ => by
    beta_reduce
    rw [if_pos hi]

end Cert.PointA

end
-- ==== Proof.RunB.lean ====
/- What the four scratch arrays hold after each block of a point after a group's first. -/
module

public import proofs.«01_k».proof.Proof.Steps
public import proofs.«01_k».proof.Proof.Gen.KernelIdeal.Frame.RunB

@[expose] public section

set_option maxRecDepth 16384

noncomputable section

namespace Cert.PointB

open Idealize.ShloMosaic Idealize.ShloMosaic.TcCoe Cert.KernelIdeal Cert.KernelIdeal.Gen Cert.Hold Cert.Block Cert.Steps

theorem inb_S512x256_S512x256_0_0 : ∀ x, (![0, 0] : Fin 2 → ℕ) x + (⟨2, ![512, 256]⟩ : Shape).size x ≤ S512x256.size x := by decide
theorem inb_S512x128_S512x128_0_0 : ∀ x, (![0, 0] : Fin 2 → ℕ) x + (⟨2, ![512, 128]⟩ : Shape).size x ≤ S512x128.size x := by decide

variable (c : Dev nD)
  (arg1 : Memref sig .tc .vmem S4096x256 .bf16) (harg1 : arg1.IsWhole)
  (arg2 : Memref sig .tc .vmem S4096x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x256 .bf16) (harg9 : arg9.IsWhole)
  (arg10 : Memref sig .tc .vmem S4096x256 .bf16) (harg10 : arg10.IsWhole)
  (arg11 : Memref sig .tc .vmem S4096x128 .f32) (harg11 : arg11.IsWhole)
  (arg12 : Memref sig .tc .vmem S4096x256 .bf16) (harg12 : arg12.IsWhole)
  (arg13 : Memref sig .tc .vmem S4096x256 .f32) (harg13 : arg13.IsWhole)
  (arg14 : Memref sig .tc .vmem S512x256 .f32) (harg14 : arg14.IsWhole)
  (arg15 : Memref sig .tc .vmem S512x128 .f32) (harg15 : arg15.IsWhole)
  (arg16 : Memref sig .tc .vmem S4096x1 .f32) (harg16 : arg16.IsWhole)
variable (x0 : Vec Ideal S4096x256 .bf16) (x1 : Vec Ideal S4096x256 .bf16) (x2 : Vec Ideal S4096x128 .bf16) (x3 : Vec Ideal S4096x128 .bf16) (x4 : Vec Ideal S4096x128 .f32) (x5 : Vec Ideal S4096x128 .f32) (x6 : Vec Ideal S4096x128 .f32) (x7 : Vec Ideal S4096x128 .f32) (xo10 : Vec Ideal S4096x128 .f32)
variable {w : Rows} (h : Ins w x0 x1 x2 x3 x4 x5)
include h

theorem keys : Arr (n := 4096) (m := 256) (View.canon (kernelRun0_B.sl.HS0_2 (F := Ideal) c arg2 harg2 arg3 harg3 x1 x2)) (fun i d => ((w.K i d : ℝ) : EReal)) := by
  have h1 : Arr (n := 4096) (m := 128) (kernelRun0_B.sl.v4 (F := Ideal) c arg2 harg2 x1) (fun i d => ((w.KV i d : ℝ) : EReal)) := by
    intro i j
    have e : (kernelRun0_B.sl.v4 (F := Ideal) c arg2 harg2 x1) (ix2 i j) = View.readAt (Elt Ideal) arg2.view (Rect.unit (s := S4096x256) ![0, 0] S4096x128.size inb_S4096x256_S4096x128_0_0).toLoadRect (harg2.unread x1) (ix2 i j) := by
      unfold kernelRun0_B.sl.v4 kernelRun0_B.sl.v1
      pointwise []
    rw [e, h.kv.readAt harg2 inb_S4096x256_S4096x128_0_0 i j]
    simp only [Nat.zero_add]
  have h2 : Arr (n := 4096) (m := 128) (kernelRun0_B.sl.v9 (F := Ideal) c arg3 harg3 x2) (fun i d => ((w.R i d : ℝ) : EReal)) := by
    intro i j
    have e : (kernelRun0_B.sl.v9 (F := Ideal) c arg3 harg3 x2) (ix2 i j) = View.readAt (Elt Ideal) arg3.view (Rect.unit (s := S4096x128) ![0, 0] S4096x128.size inb_S4096x128_S4096x128_0_0).toLoadRect (harg3.unread x2) (ix2 i j) := by
      unfold kernelRun0_B.sl.v9 kernelRun0_B.sl.v6
      pointwise []
    rw [e, h.r.readAt harg3 inb_S4096x128_S4096x128_0_0 i j]
    simp only [Nat.zero_add]
  refine Arr.cons h2 inb_S4096x256_S4096x128_0_128 (fun i j hn => ?_) (fun i d _ hd => ?_)
  · have hi := i.2
    have hj := j.2
    refine (Arr.cons (f := fun i d => if d < 128 then ((w.KV i d : ℝ) : EReal) else View.canon [] (ix2 (n0 := 4096) (n1 := 256) ⟨i % 4096, Nat.mod_lt _ (by decide)⟩ ⟨d % 256, Nat.mod_lt _ (by decide)⟩)) h1 inb_S4096x256_S4096x128_0_0 (fun i j hn => ?_) (fun i d _ hd => ?_) i j).trans ?_
    · have hi := i.2
      have hj := j.2
      beta_reduce
      rw [if_neg (by omega)]
      congr 2 <;> apply Fin.ext <;> simp only <;> omega
    · beta_reduce
      rw [if_pos (by omega)]; simp only [Nat.zero_add]
    · unfold Rows.K
      beta_reduce
      beta_reduce
      rw [if_pos (by omega), if_pos (by omega)]
  · unfold Rows.K
    beta_reduce
    rw [if_neg (by omega), Nat.zero_add, Nat.add_sub_cancel_left]

theorem rows : Arr (n := 4096) (m := 1) (View.canon (kernelRun0_B.sl.HS4_1 (F := Ideal) c arg4 harg4 arg6 harg6 x3 x5)) (fun i _ => ((w.T i : ℝ) : EReal)) := by
  refine Arr.whole ?_ inb_S4096x1_S4096x1_0_0 []
  have hg := h.g.readAt harg4 inb_S4096x128_S4096x128_0_0
  have ho := h.o.readAt harg6 inb_S4096x128_S4096x128_0_0
  intro i j
  unfold kernelRun0_B.sl.v24 kernelRun0_B.sl.v21 kernelRun0_B.sl.v20 kernelRun0_B.sl.v19 kernelRun0_B.sl.v18 kernelRun0_B.sl.v16 kernelRun0_B.sl.v15
  pointwise []
  unfold Rows.T
  simp only [hg _ _, ho _ _, Nat.zero_add, ← EReal.coe_mul, coe_sum, Finset.sum_range]

theorem zero : Arr (n := 4096) (m := 256) (View.canon (kernelRun0_B.sl.HS1_1 (F := Ideal))) (fun i d => ((w.dq (if i < 0 then 0 + 512 else 0) i d : ℝ) : EReal)) := by
  refine Arr.whole ?_ inb_S4096x256_S4096x256_0_0 []
  intro i j
  unfold kernelRun0_B.sl.v13 kernelRun0_B.sl.v10 kernelRun0_B.sl.cst
  unfold Rows.dq
  pointwise []
  rfl

theorem block0
    (h1 : Arr (n := 4096) (m := 256) (View.canon (kernelRun0_B.sl.HS1_1 (F := Ideal))) (fun i d => ((w.dq (if i < 0 then 0 + 512 else 0) i d : ℝ) : EReal)))
    (h2 : Arr (n := 512) (m := 256) (View.canon (kernelRun0_B.sl.HS2_1 (F := Ideal))) (fun j d => ((w.dk 0 0 (0 + j) d : ℝ) : EReal)))
    (h3 : Arr (n := 512) (m := 128) (View.canon (kernelRun0_B.sl.HS3_1 (F := Ideal))) (fun j d => ((w.dv 0 0 (0 + j) d : ℝ) : EReal))) :
    Arr (n := 4096) (m := 256) (View.canon (kernelRun0_B.sl.HS1_2 (F := Ideal) c arg1 harg1 arg2 harg2 arg3 harg3 arg4 harg4 arg5 harg5 arg6 harg6 arg12 arg13 arg16 x0 x1 x2 x3 x4 x5)) (fun i d => ((w.dq (if i < 0 + 512 then 0 + 512 else 0) i d : ℝ) : EReal))
    ∧ Arr (n := 512) (m := 256) (View.canon (kernelRun0_B.sl.HS2_2 (F := Ideal) c arg1 harg1 arg2 harg2 arg3 harg3 arg4 harg4 arg5 harg5 arg6 harg6 arg12 arg14 arg16 x0 x1 x2 x3 x4 x5)) (fun j d => ((w.dk 0 (0 + 512) (0 + j) d : ℝ) : EReal))
    ∧ Arr (n := 512) (m := 128) (View.canon (kernelRun0_B.sl.HS3_2 (F := Ideal) c arg1 harg1 arg2 harg2 arg3 harg3 arg4 harg4 arg5 harg5 arg12 arg15 x0 x1 x2 x3 x4)) (fun j d => ((w.dv 0 (0 + 512) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S512x1_0_0
  have hq := h.q.readAt harg1 inb_S4096x256_S512x256_0_0
  have hg := h.g.readAt harg4 inb_S4096x128_S512x128_0_0
  have hv := h.kv.readAt harg2 inb_S4096x256_S512x128_0_128
  have hl := h.l.readAt harg5 inb_S4096x128_S512x1_0_0
  have hp := pD_arr (w := w) (s := 0) hq hk hl
  have hd := ds512_arr (w := w) (s := 0) (t := 0) hp hg hv ht
  have a1 := dq_read h1 arg13.view inb_S4096x256_S512x256_0_0
  have a2 := (h2.readCov arg14.view inb_S512x256_S512x256_0_0).congr (g := fun j d => ((w.dk 0 0 (0 + j) d : ℝ) : EReal)) (fun j d _ _ => by simp only [Nat.zero_add])
  have a3 := (h3.readCov arg15.view inb_S512x128_S512x128_0_0).congr (g := fun j d => ((w.dv 0 0 (0 + j) d : ℝ) : EReal)) (fun j d _ _ => by simp only [Nat.zero_add])
  have b1 := dq_store h1 (dq512_arr (w := w) (s := 0) (t := 0) a1 hd hk) inb_S4096x256_S512x256_0_0
  have b2 := Arr.whole (dk512_arr (w := w) (s := 0) (t := 0) (by decide) a2 hd hq) inb_S512x256_S512x256_0_0 (kernelRun0_B.sl.HS2_1 (F := Ideal))
  have b3 := Arr.whole (dv512_arr (w := w) (s := 0) (t := 0) (by decide) a3 hp hg) inb_S512x128_S512x128_0_0 (kernelRun0_B.sl.HS3_1 (F := Ideal))
  exact ⟨b1, b2, b3⟩

theorem block1
    (h1 : Arr (n := 4096) (m := 256) (View.canon (kernelRun0_B.sl.HS1_2 (F := Ideal) c arg1 harg1 arg2 harg2 arg3 harg3 arg4 harg4 arg5 harg5 arg6 harg6 arg12 arg13 arg16 x0 x1 x2 x3 x4 x5)) (fun i d => ((w.dq (if i < 512 then 0 + 512 else 0) i d : ℝ) : EReal)))
    (h2 : Arr (n := 512) (m := 256) (View.canon (kernelRun0_B.sl.HS2_2 (F := Ideal) c arg1 harg1 arg2 harg2 arg3 harg3 arg4 harg4 arg5 harg5 arg6 harg6 arg12 arg14 arg16 x0 x1 x2 x3 x4 x5)) (fun j d => ((w.dk 0 512 (0 + j) d : ℝ) : EReal)))
    (h3 : Arr (n := 512) (m := 128) (View.canon (kernelRun0_B.sl.HS3_2 (F := Ideal) c arg1 harg1 arg2 harg2 arg3 harg3 arg4 harg4 arg5 harg5 arg12 arg15 x0 x1 x2 x3 x4)) (fun j d => ((w.dv 0 512 (0 + j) d : ℝ) : EReal))) :
    Arr (n := 4096) (m := 256) (View.canon (kernelRun0_B.sl.HS1_3 (F := Ideal) c arg1 harg1 arg2 harg2 arg3 harg3 arg4 harg4 arg5 harg5 arg6 harg6 arg12 arg13 arg16 x0 x1 x2 x3 x4 x5)) (fun i d => ((w.dq (if i < 512 + 1024 then 0 + 512 else 0) i d : ℝ) : EReal))
    ∧ Arr (n := 512) (m := 256) (View.canon (kernelRun0_B.sl.HS2_3 (F := Ideal) c arg1 harg1 arg2 harg2 arg3 harg3 arg4 harg4 arg5 harg5 arg6 harg6 arg12 arg14 arg16 x0 x1 x2 x3 x4 x5)) (fun j d => ((w.dk 0 (512 + 1024) (0 + j) d : ℝ) : EReal))
    ∧ Arr (n := 512) (m := 128) (View.canon (kernelRun0_B.sl.HS3_3 (F := Ideal) c arg1 harg1 arg2 harg2 arg3 harg3 arg4 harg4 arg5 harg5 arg12 arg15 x0 x1 x2 x3 x4)) (fun j d => ((w.dv 0 (512 + 1024) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S1024x1_512_0
  have hq := h.q.readAt harg1 inb_S4096x256_S1024x256_512_0
  have hg := h.g.readAt harg4 inb_S4096x128_S1024x128_512_0
  have hv := h.kv.readAt harg2 inb_S4096x256_S512x128_0_128
  have hl := h.l.readAt harg5 inb_S4096x128_S1024x1_512_0
  have hp := p1024_arr (w := w) (s := 512) (t := 0) (by decide) hq hk hl
  have hd := ds1024_arr (w := w) (s := 512) (t := 0) hp hg hv ht
  have a1 := dq_read h1 arg13.view inb_S4096x256_S1024x256_512_0
  have a2 := (h2.readCov arg14.view inb_S512x256_S512x256_0_0).congr (g := fun j d => ((w.dk 0 512 (0 + j) d : ℝ) : EReal)) (fun j d _ _ => by simp only [Nat.zero_add])
  have a3 := (h3.readCov arg15.view inb_S512x128_S512x128_0_0).congr (g := fun j d => ((w.dv 0 512 (0 + j) d : ℝ) : EReal)) (fun j d _ _ => by simp only [Nat.zero_add])
  have b1 := dq_store h1 (dq1024_arr (w := w) (s := 512) (t := 0) a1 hd hk) inb_S4096x256_S1024x256_512_0
  have b2 := Arr.whole (dk1024_arr (w := w) (s := 512) (t := 0) (by decide) a2 hd hq) inb_S512x256_S512x256_0_0 (kernelRun0_B.sl.HS2_2 (F := Ideal) c arg1 harg1 arg2 harg2 arg3 harg3 arg4 harg4 arg5 harg5 arg6 harg6 arg12 arg14 arg16 x0 x1 x2 x3 x4 x5)
  have b3 := Arr.whole (dv1024_arr (w := w) (s := 512) (t := 0) (by decide) a3 hp hg) inb_S512x128_S512x128_0_0 (kernelRun0_B.sl.HS3_2 (F := Ideal) c arg1 harg1 arg2 harg2 arg3 harg3 arg4 harg4 arg5 harg5 arg12 arg15 x0 x1 x2 x3 x4)
  exact ⟨b1, b2, b3⟩

theorem block2
    (h1 : Arr (n := 4096) (m := 256) (View.canon (kernelRun0_B.sl.HS1_3 (F := Ideal) c arg1 harg1 arg2 harg2 arg3 harg3 arg4 harg4 arg5 harg5 arg6 harg6 arg12 arg13 arg16 x0 x1 x2 x3 x4 x5)) (fun i d => ((w.dq (if i < 1536 then 0 + 512 else 0) i d : ℝ) : EReal)))
    (h2 : Arr (n := 512) (m := 256) (View.canon (kernelRun0_B.sl.HS2_3 (F := Ideal) c arg1 harg1 arg2 harg2 arg3 harg3 arg4 harg4 arg5 harg5 arg6 harg6 arg12 arg14 arg16 x0 x1 x2 x3 x4 x5)) (fun j d => ((w.dk 0 1536 (0 + j) d : ℝ) : EReal)))
    (h3 : Arr (n := 512) (m := 128) (View.canon (kernelRun0_B.sl.HS3_3 (F := Ideal) c arg1 harg1 arg2 harg2 arg3 harg3 arg4 harg4 arg5 harg5 arg12 arg15 x0 x1 x2 x3 x4)) (fun j d => ((w.dv 0 1536 (0 + j) d : ℝ) : EReal))) :
    Arr (n := 4096) (m := 256) (View.canon (kernelRun0_B.sl.HS1_4 (F := Ideal) c arg1 harg1 arg2 harg2 arg3 harg3 arg4 harg4 arg5 harg5 arg6 harg6 arg12 arg13 arg16 x0 x1 x2 x3 x4 x5)) (fun i d => ((w.dq (if i < 1536 + 1024 then 0 + 512 else 0) i d : ℝ) : EReal))
    ∧ Arr (n := 512) (m := 256) (View.canon (kernelRun0_B.sl.HS2_4 (F := Ideal) c arg1 harg1 arg2 harg2 arg3 harg3 arg4 harg4 arg5 harg5 arg6 harg6 arg12 arg14 arg16 x0 x1 x2 x3 x4 x5)) (fun j d => ((w.dk 0 (1536 + 1024) (0 + j) d : ℝ) : EReal))
    ∧ Arr (n := 512) (m := 128) (View.canon (kernelRun0_B.sl.HS3_4 (F := Ideal) c arg1 harg1 arg2 harg2 arg3 harg3 arg4 harg4 arg5 harg5 arg12 arg15 x0 x1 x2 x3 x4)) (fun j d => ((w.dv 0 (1536 + 1024) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S1024x1_1536_0
  have hq := h.q.readAt harg1 inb_S4096x256_S1024x256_1536_0
  have hg := h.g.readAt harg4 inb_S4096x128_S1024x128_1536_0
  have hv := h.kv.readAt harg2 inb_S4096x256_S512x128_0_128
  have hl := h.l.readAt harg5 inb_S4096x128_S1024x1_1536_0
  have hp := p1024_arr (w := w) (s := 1536) (t := 0) (by decide) hq hk hl
  have hd := ds1024_arr (w := w) (s := 1536) (t := 0) hp hg hv ht
  have a1 := dq_read h1 arg13.view inb_S4096x256_S1024x256_1536_0
  have a2 := (h2.readCov arg14.view inb_S512x256_S512x256_0_0).congr (g := fun j d => ((w.dk 0 1536 (0 + j) d : ℝ) : EReal)) (fun j d _ _ => by simp only [Nat.zero_add])
  have a3 := (h3.readCov arg15.view inb_S512x128_S512x128_0_0).congr (g := fun j d => ((w.dv 0 1536 (0 + j) d : ℝ) : EReal)) (fun j d _ _ => by simp only [Nat.zero_add])
  have b1 := dq_store h1 (dq1024_arr (w := w) (s := 1536) (t := 0) a1 hd hk) inb_S4096x256_S1024x256_1536_0
  have b2 := Arr.whole (dk1024_arr (w := w) (s := 1536) (t := 0) (by decide) a2 hd hq) inb_S512x256_S512x256_0_0 (kernelRun0_B.sl.HS2_3 (F := Ideal) c arg1 harg1 arg2 harg2 arg3 harg3 arg4 harg4 arg5 harg5 arg6 harg6 arg12 arg14 arg16 x0 x1 x2 x3 x4 x5)
  have b3 := Arr.whole (dv1024_arr (w := w) (s := 1536) (t := 0) (by decide) a3 hp hg) inb_S512x128_S512x128_0_0 (kernelRun0_B.sl.HS3_3 (F := Ideal) c arg1 harg1 arg2 harg2 arg3 harg3 arg4 harg4 arg5 harg5 arg12 arg15 x0 x1 x2 x3 x4)
  exact ⟨b1, b2, b3⟩

theorem block3
    (h1 : Arr (n := 4096) (m := 256) (View.canon (kernelRun0_B.sl.HS1_4 (F := Ideal) c arg1 harg1 arg2 harg2 arg3 harg3 arg4 harg4 arg5 harg5 arg6 harg6 arg12 arg13 arg16 x0 x1 x2 x3 x4 x5)) (fun i d => ((w.dq (if i < 2560 then 0 + 512 else 0) i d : ℝ) : EReal)))
    (h2 : Arr (n := 512) (m := 256) (View.canon (kernelRun0_B.sl.HS2_4 (F := Ideal) c arg1 harg1 arg2 harg2 arg3 harg3 arg4 harg4 arg5 harg5 arg6 harg6 arg12 arg14 arg16 x0 x1 x2 x3 x4 x5)) (fun j d => ((w.dk 0 2560 (0 + j) d : ℝ) : EReal)))
    (h3 : Arr (n := 512) (m := 128) (View.canon (kernelRun0_B.sl.HS3_4 (F := Ideal) c arg1 harg1 arg2 harg2 arg3 harg3 arg4 harg4 arg5 harg5 arg12 arg15 x0 x1 x2 x3 x4)) (fun j d => ((w.dv 0 2560 (0 + j) d : ℝ) : EReal))) :
    Arr (n := 4096) (m := 256) (View.canon (kernelRun0_B.sl.HS1_5 (F := Ideal) c arg1 harg1 arg2 harg2 arg3 harg3 arg4 harg4 arg5 harg5 arg6 harg6 arg12 arg13 arg16 x0 x1 x2 x3 x4 x5)) (fun i d => ((w.dq (if i < 2560 + 1024 then 0 + 512 else 0) i d : ℝ) : EReal))
    ∧ Arr (n := 512) (m := 256) (View.canon (kernelRun0_B.sl.HS2_5 (F := Ideal) c arg1 harg1 arg2 harg2 arg3 harg3 arg4 harg4 arg5 harg5 arg6 harg6 arg12 arg14 arg16 x0 x1 x2 x3 x4 x5)) (fun j d => ((w.dk 0 (2560 + 1024) (0 + j) d : ℝ) : EReal))
    ∧ Arr (n := 512) (m := 128) (View.canon (kernelRun0_B.sl.HS3_5 (F := Ideal) c arg1 harg1 arg2 harg2 arg3 harg3 arg4 harg4 arg5 harg5 arg12 arg15 x0 x1 x2 x3 x4)) (fun j d => ((w.dv 0 (2560 + 1024) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S1024x1_2560_0
  have hq := h.q.readAt harg1 inb_S4096x256_S1024x256_2560_0
  have hg := h.g.readAt harg4 inb_S4096x128_S1024x128_2560_0
  have hv := h.kv.readAt harg2 inb_S4096x256_S512x128_0_128
  have hl := h.l.readAt harg5 inb_S4096x128_S1024x1_2560_0
  have hp := p1024_arr (w := w) (s := 2560) (t := 0) (by decide) hq hk hl
  have hd := ds1024_arr (w := w) (s := 2560) (t := 0) hp hg hv ht
  have a1 := dq_read h1 arg13.view inb_S4096x256_S1024x256_2560_0
  have a2 := (h2.readCov arg14.view inb_S512x256_S512x256_0_0).congr (g := fun j d => ((w.dk 0 2560 (0 + j) d : ℝ) : EReal)) (fun j d _ _ => by simp only [Nat.zero_add])
  have a3 := (h3.readCov arg15.view inb_S512x128_S512x128_0_0).congr (g := fun j d => ((w.dv 0 2560 (0 + j) d : ℝ) : EReal)) (fun j d _ _ => by simp only [Nat.zero_add])
  have b1 := dq_store h1 (dq1024_arr (w := w) (s := 2560) (t := 0) a1 hd hk) inb_S4096x256_S1024x256_2560_0
  have b2 := Arr.whole (dk1024_arr (w := w) (s := 2560) (t := 0) (by decide) a2 hd hq) inb_S512x256_S512x256_0_0 (kernelRun0_B.sl.HS2_4 (F := Ideal) c arg1 harg1 arg2 harg2 arg3 harg3 arg4 harg4 arg5 harg5 arg6 harg6 arg12 arg14 arg16 x0 x1 x2 x3 x4 x5)
  have b3 := Arr.whole (dv1024_arr (w := w) (s := 2560) (t := 0) (by decide) a3 hp hg) inb_S512x128_S512x128_0_0 (kernelRun0_B.sl.HS3_4 (F := Ideal) c arg1 harg1 arg2 harg2 arg3 harg3 arg4 harg4 arg5 harg5 arg12 arg15 x0 x1 x2 x3 x4)
  exact ⟨b1, b2, b3⟩

theorem block4
    (h1 : Arr (n := 4096) (m := 256) (View.canon (kernelRun0_B.sl.HS1_5 (F := Ideal) c arg1 harg1 arg2 harg2 arg3 harg3 arg4 harg4 arg5 harg5 arg6 harg6 arg12 arg13 arg16 x0 x1 x2 x3 x4 x5)) (fun i d => ((w.dq (if i < 3584 then 0 + 512 else 0) i d : ℝ) : EReal)))
    (h2 : Arr (n := 512) (m := 256) (View.canon (kernelRun0_B.sl.HS2_5 (F := Ideal) c arg1 harg1 arg2 harg2 arg3 harg3 arg4 harg4 arg5 harg5 arg6 harg6 arg12 arg14 arg16 x0 x1 x2 x3 x4 x5)) (fun j d => ((w.dk 0 3584 (0 + j) d : ℝ) : EReal)))
    (h3 : Arr (n := 512) (m := 128) (View.canon (kernelRun0_B.sl.HS3_5 (F := Ideal) c arg1 harg1 arg2 harg2 arg3 harg3 arg4 harg4 arg5 harg5 arg12 arg15 x0 x1 x2 x3 x4)) (fun j d => ((w.dv 0 3584 (0 + j) d : ℝ) : EReal))) :
    Arr (n := 4096) (m := 256) (View.canon (kernelRun0_B.sl.HS1_6 (F := Ideal) c arg1 harg1 arg2 harg2 arg3 harg3 arg4 harg4 arg5 harg5 arg6 harg6 arg12 arg13 arg16 x0 x1 x2 x3 x4 x5)) (fun i d => ((w.dq (if i < 3584 + 512 then 0 + 512 else 0) i d : ℝ) : EReal))
    ∧ Arr (n := 512) (m := 256) (View.canon (kernelRun0_B.sl.HS2_6 (F := Ideal) c arg1 harg1 arg2 harg2 arg3 harg3 arg4 harg4 arg5 harg5 arg6 harg6 arg12 arg14 arg16 x0 x1 x2 x3 x4 x5)) (fun j d => ((w.dk 0 (3584 + 512) (0 + j) d : ℝ) : EReal))
    ∧ Arr (n := 512) (m := 128) (View.canon (kernelRun0_B.sl.HS3_6 (F := Ideal) c arg1 harg1 arg2 harg2 arg3 harg3 arg4 harg4 arg5 harg5 arg12 arg15 x0 x1 x2 x3 x4)) (fun j d => ((w.dv 0 (3584 + 512) (0 + j) d : ℝ) : EReal)) := by
  have hk := (keys c arg2 harg2 arg3 harg3 x0 x1 x2 x3 x4 x5 h).readCov arg12.view inb_S4096x256_S512x256_0_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_0_128
  have hl := h.l.readAt harg5 inb_S4096x128_S512x1_3584_0
  have hp := p512_arr (w := w) (s := 3584) (t := 0) (by decide) hq hk hl
  have hd := ds512_arr (w := w) (s := 3584) (t := 0) hp hg hv ht
  have a1 := dq_read h1 arg13.view inb_S4096x256_S512x256_3584_0
  have a2 := (h2.readCov arg14.view inb_S512x256_S512x256_0_0).congr (g := fun j d => ((w.dk 0 3584 (0 + j) d : ℝ) : EReal)) (fun j d _ _ => by simp only [Nat.zero_add])
  have a3 := (h3.readCov arg15.view inb_S512x128_S512x128_0_0).congr (g := fun j d => ((w.dv 0 3584 (0 + j) d : ℝ) : EReal)) (fun j d _ _ => by simp only [Nat.zero_add])
  have b1 := dq_store h1 (dq512_arr (w := w) (s := 3584) (t := 0) a1 hd hk) inb_S4096x256_S512x256_3584_0
  have b2 := Arr.whole (dk512_arr (w := w) (s := 3584) (t := 0) (by decide) a2 hd hq) inb_S512x256_S512x256_0_0 (kernelRun0_B.sl.HS2_5 (F := Ideal) c arg1 harg1 arg2 harg2 arg3 harg3 arg4 harg4 arg5 harg5 arg6 harg6 arg12 arg14 arg16 x0 x1 x2 x3 x4 x5)
  have b3 := Arr.whole (dv512_arr (w := w) (s := 3584) (t := 0) (by decide) a3 hp hg) inb_S512x128_S512x128_0_0 (kernelRun0_B.sl.HS3_5 (F := Ideal) c arg1 harg1 arg2 harg2 arg3 harg3 arg4 harg4 arg5 harg5 arg12 arg15 x0 x1 x2 x3 x4)
  exact ⟨b1, b2, b3⟩

theorem block5
    (h1 : Arr (n := 4096) (m := 256) (View.canon (kernelRun0_B.sl.HS1_6 (F := Ideal) c arg1 harg1 arg2 harg2 arg3 harg3 arg4 harg4 arg5 harg5 arg6 harg6 arg12 arg13 arg16 x0 x1 x2 x3 x4 x5)) (fun i d => ((w.dq (if i < 512 then 512 + 512 else 512) i d : ℝ) : EReal)))
    (h2 : Arr (n := 512) (m := 256) (View.canon (kernelRun0_B.sl.HS2_7 (F := Ideal) c arg1 harg1 arg2 harg2 arg3 harg3 arg4 harg4 arg5 harg5 arg6 harg6 arg12 arg14 arg16 x0 x1 x2 x3 x4 x5)) (fun j d => ((w.dk 512 512 (512 + j) d : ℝ) : EReal)))
    (h3 : Arr (n := 512) (m := 128) (View.canon (kernelRun0_B.sl.HS3_7 (F := Ideal) c arg1 harg1 arg2 harg2 arg3 harg3 arg4 harg4 arg5 harg5 arg12 arg15 x0 x1 x2 x3 x4)) (fun j d => ((w.dv 512 512 (512 + j) d : ℝ) : EReal))) :
    Arr (n := 4096) (m := 256) (View.canon (kernelRun0_B.sl.HS1_7 (F := Ideal) c arg1 harg1 arg2 harg2 arg3 harg3 arg4 harg4 arg5 harg5 arg6 harg6 arg12 arg13 arg16 x0 x1 x2 x3 x4 x5)) (fun i d => ((w.dq (if i < 512 + 512 then 512 + 512 else 512) i d : ℝ) : EReal))
    ∧ Arr (n := 512) (m := 256) (View.canon (kernelRun0_B.sl.HS2_8 (F := Ideal) c arg1 harg1 arg2 harg2 arg3 harg3 arg4 harg4 arg5 harg5 arg6 harg6 arg12 arg14 arg16 x0 x1 x2 x3 x4 x5)) (fun j d => ((w.dk 512 (512 + 512) (512 + j) d : ℝ) : EReal))
    ∧ Arr (n := 512) (m := 128) (View.canon (kernelRun0_B.sl.HS3_8 (F := Ideal) c arg1 harg1 arg2 harg2 arg3 harg3 arg4 harg4 arg5 harg5 arg12 arg15 x0 x1 x2 x3 x4)) (fun j d => ((w.dv 512 (512 + 512) (512 + j) d : ℝ) : EReal)) := by
  have hk := (keys c arg2 harg2 arg3 harg3 x0 x1 x2 x3 x4 x5 h).readCov arg12.view inb_S4096x256_S512x256_512_0
  have ht := (rows c arg4 harg4 arg6 harg6 x0 x1 x2 x3 x4 x5 h).readCov arg16.view inb_S4096x1_S512x1_512_0
  have hq := h.q.readAt harg1 inb_S4096x256_S512x256_512_0
  have hg := h.g.readAt harg4 inb_S4096x128_S512x128_512_0
  have hv := h.kv.readAt harg2 inb_S4096x256_S512x128_512_128
  have hl := h.l.readAt harg5 inb_S4096x128_S512x1_512_0
  have hp := pD_arr (w := w) (s := 512) hq hk hl
  have hd := ds512_arr (w := w) (s := 512) (t := 512) hp hg hv ht
  have a1 := dq_read h1 arg13.view inb_S4096x256_S512x256_512_0
  have a2 := (h2.readCov arg14.view inb_S512x256_S512x256_0_0).congr (g := fun j d => ((w.dk 512 512 (512 + j) d : ℝ) : EReal)) (fun j d _ _ => by simp only [Nat.zero_add])
  have a3 := (h3.readCov arg15.view inb_S512x128_S512x128_0_0).congr (g := fun j d => ((w.dv 512 512 (512 + j) d : ℝ) : EReal)) (fun j d _ _ => by simp only [Nat.zero_add])
  have b1 := dq_store h1 (dq512_arr (w := w) (s := 512) (t := 512) a1 hd hk) inb_S4096x256_S512x256_512_0
  have b2 := Arr.whole (dk512_arr (w := w) (s := 512) (t := 512) (by decide) a2 hd hq) inb_S512x256_S512x256_0_0 (kernelRun0_B.sl.HS2_7 (F := Ideal) c arg1 harg1 arg2 harg2 arg3 harg3 arg4 harg4 arg5 harg5 arg6 harg6 arg12 arg14 arg16 x0 x1 x2 x3 x4 x5)
  have b3 := Arr.whole (dv512_arr (w := w) (s := 512) (t := 512) (by decide) a3 hp hg) inb_S512x128_S512x128_0_0 (kernelRun0_B.sl.HS3_7 (F := Ideal) c arg1 harg1 arg2 harg2 arg3 harg3 arg4 harg4 arg5 harg5 arg12 arg15 x0 x1 x2 x3 x4)
  exact ⟨b1, b2, b3⟩

theorem block6
    (h1 : Arr (n := 4096) (m := 256) (View.canon (kernelRun0_B.sl.HS1_7 (F := Ideal) c arg1 harg1 arg2 harg2 arg3 harg3 arg4 harg4 arg5 harg5 arg6 harg6 arg12 arg13 arg16 x0 x1 x2 x3 x4 x5)) (fun i d => ((w.dq (if i < 1024 then 512 + 512 else 512) i d : ℝ) : EReal)))
    (h2 : Arr (n := 512) (m := 256) (View.canon (kernelRun0_B.sl.HS2_8 (F := Ideal) c arg1 harg1 arg2 harg2 arg3 harg3 arg4 harg4 arg5 harg5 arg6 harg6 arg12 arg14 arg16 x0 x1 x2 x3 x4 x5)) (fun j d => ((w.dk 512 1024 (512 + j) d : ℝ) : EReal)))
    (h3 : Arr (n := 512) (m := 128) (View.canon (kernelRun0_B.sl.HS3_8 (F := Ideal) c arg1 harg1 arg2 harg2 arg3 harg3 arg4 harg4 arg5 harg5 arg12 arg15 x0 x1 x2 x3 x4)) (fun j d => ((w.dv 512 1024 (512 + j) d : ℝ) : EReal))) :
    Arr (n := 4096) (m := 256) (View.canon (kernelRun0_B.sl.HS1_8 (F := Ideal) c arg1 harg1 arg2 harg2 arg3 harg3 arg4 harg4 arg5 harg5 arg6 harg6 arg12 arg13 arg16 x0 x1 x2 x3 x4 x5)) (fun i d => ((w.dq (if i < 1024 + 1024 then 512 + 512 else 512) i d : ℝ) : EReal))
    ∧ Arr (n := 512) (m := 256) (View.canon (kernelRun0_B.sl.HS2_9 (F := Ideal) c arg1 harg1 arg2 harg2 arg3 harg3 arg4 harg4 arg5 harg5 arg6 harg6 arg12 arg14 arg16 x0 x1 x2 x3 x4 x5)) (fun j d => ((w.dk 512 (1024 + 1024) (512 + j) d : ℝ) : EReal))
    ∧ Arr (n := 512) (m := 128) (View.canon (kernelRun0_B.sl.HS3_9 (F := Ideal) c arg1 harg1 arg2 harg2 arg3 harg3 arg4 harg4 arg5 harg5 arg12 arg15 x0 x1 x2 x3 x4)) (fun j d => ((w.dv 512 (1024 + 1024) (512 + j) d : ℝ) : EReal)) := by
  have hk := (keys c arg2 harg2 arg3 harg3 x0 x1 x2 x3 x4 x5 h).readCov arg12.view inb_S4096x256_S512x256_512_0
  have ht := (rows c arg4 harg4 arg6 harg6 x0 x1 x2 x3 x4 x5 h).readCov arg16.view inb_S4096x1_S1024x1_1024_0
  have hq := h.q.readAt harg1 inb_S4096x256_S1024x256_1024_0
  have hg := h.g.readAt harg4 inb_S4096x128_S1024x128_1024_0
  have hv := h.kv.readAt harg2 inb_S4096x256_S512x128_512_128
  have hl := h.l.readAt harg5 inb_S4096x128_S1024x1_1024_0
  have hp := p1024_arr (w := w) (s := 1024) (t := 512) (by decide) hq hk hl
  have hd := ds1024_arr (w := w) (s := 1024) (t := 512) hp hg hv ht
  have a1 := dq_read h1 arg13.view inb_S4096x256_S1024x256_1024_0
  have a2 := (h2.readCov arg14.view inb_S512x256_S512x256_0_0).congr (g := fun j d => ((w.dk 512 1024 (512 + j) d : ℝ) : EReal)) (fun j d _ _ => by simp only [Nat.zero_add])
  have a3 := (h3.readCov arg15.view inb_S512x128_S512x128_0_0).congr (g := fun j d => ((w.dv 512 1024 (512 + j) d : ℝ) : EReal)) (fun j d _ _ => by simp only [Nat.zero_add])
  have b1 := dq_store h1 (dq1024_arr (w := w) (s := 1024) (t := 512) a1 hd hk) inb_S4096x256_S1024x256_1024_0
  have b2 := Arr.whole (dk1024_arr (w := w) (s := 1024) (t := 512) (by decide) a2 hd hq) inb_S512x256_S512x256_0_0 (kernelRun0_B.sl.HS2_8 (F := Ideal) c arg1 harg1 arg2 harg2 arg3 harg3 arg4 harg4 arg5 harg5 arg6 harg6 arg12 arg14 arg16 x0 x1 x2 x3 x4 x5)
  have b3 := Arr.whole (dv1024_arr (w := w) (s := 1024) (t := 512) (by decide) a3 hp hg) inb_S512x128_S512x128_0_0 (kernelRun0_B.sl.HS3_8 (F := Ideal) c arg1 harg1 arg2 harg2 arg3 harg3 arg4 harg4 arg5 harg5 arg12 arg15 x0 x1 x2 x3 x4)
  exact ⟨b1, b2, b3⟩

theorem block7
    (h1 : Arr (n := 4096) (m := 256) (View.canon (kernelRun0_B.sl.HS1_8 (F := Ideal) c arg1 harg1 arg2 harg2 arg3 harg3 arg4 harg4 arg5 harg5 arg6 harg6 arg12 arg13 arg16 x0 x1 x2 x3 x4 x5)) (fun i d => ((w.dq (if i < 2048 then 512 + 512 else 512) i d : ℝ) : EReal)))
    (h2 : Arr (n := 512) (m := 256) (View.canon (kernelRun0_B.sl.HS2_9 (F := Ideal) c arg1 harg1 arg2 harg2 arg3 harg3 arg4 harg4 arg5 harg5 arg6 harg6 arg12 arg14 arg16 x0 x1 x2 x3 x4 x5)) (fun j d => ((w.dk 512 2048 (512 + j) d : ℝ) : EReal)))
    (h3 : Arr (n := 512) (m := 128) (View.canon (kernelRun0_B.sl.HS3_9 (F := Ideal) c arg1 harg1 arg2 harg2 arg3 harg3 arg4 harg4 arg5 harg5 arg12 arg15 x0 x1 x2 x3 x4)) (fun j d => ((w.dv 512 2048 (512 + j) d : ℝ) : EReal))) :
    Arr (n := 4096) (m := 256) (View.canon (kernelRun0_B.sl.HS1_9 (F := Ideal) c arg1 harg1 arg2 harg2 arg3 harg3 arg4 harg4 arg5 harg5 arg6 harg6 arg12 arg13 arg16 x0 x1 x2 x3 x4 x5)) (fun i d => ((w.dq (if i < 2048 + 1024 then 512 + 512 else 512) i d : ℝ) : EReal))
    ∧ Arr (n := 512) (m := 256) (View.canon (kernelRun0_B.sl.HS2_10 (F := Ideal) c arg1 harg1 arg2 harg2 arg3 harg3 arg4 harg4 arg5 harg5 arg6 harg6 arg12 arg14 arg16 x0 x1 x2 x3 x4 x5)) (fun j d => ((w.dk 512 (2048 + 1024) (512 + j) d : ℝ) : EReal))
    ∧ Arr (n := 512) (m := 128) (View.canon (kernelRun0_B.sl.HS3_10 (F := Ideal) c arg1 harg1 arg2 harg2 arg3 harg3 arg4 harg4 arg5 harg5 arg12 arg15 x0 x1 x2 x3 x4)) (fun j d => ((w.dv 512 (2048 + 1024) (512 + j) d : ℝ) : EReal)) := by
  have hk := (keys c arg2 harg2 arg3 harg3 x0 x1 x2 x3 x4 x5 h).readCov arg12.view inb_S4096x256_S512x256_512_0
  have ht := (rows c arg4 harg4 arg6 harg6 x0 x1 x2 x3 x4 x5 h).readCov arg16.view inb_S4096x1_S1024x1_2048_0
  have hq := h.q.readAt harg1 inb_S4096x256_S1024x256_2048_0
  have hg := h.g.readAt harg4 inb_S4096x128_S1024x128_2048_0
  have hv := h.kv.readAt harg2 inb_S4096x256_S512x128_512_128
  have hl := h.l.readAt harg5 inb_S4096x128_S1024x1_2048_0
  have hp := p1024_arr (w := w) (s := 2048) (t := 512) (by decide) hq hk hl
  have hd := ds1024_arr (w := w) (s := 2048) (t := 512) hp hg hv ht
  have a1 := dq_read h1 arg13.view inb_S4096x256_S1024x256_2048_0
  have a2 := (h2.readCov arg14.view inb_S512x256_S512x256_0_0).congr (g := fun j d => ((w.dk 512 2048 (512 + j) d : ℝ) : EReal)) (fun j d _ _ => by simp only [Nat.zero_add])
  have a3 := (h3.readCov arg15.view inb_S512x128_S512x128_0_0).congr (g := fun j d => ((w.dv 512 2048 (512 + j) d : ℝ) : EReal)) (fun j d _ _ => by simp only [Nat.zero_add])
  have b1 := dq_store h1 (dq1024_arr (w := w) (s := 2048) (t := 512) a1 hd hk) inb_S4096x256_S1024x256_2048_0
  have b2 := Arr.whole (dk1024_arr (w := w) (s := 2048) (t := 512) (by decide) a2 hd hq) inb_S512x256_S512x256_0_0 (kernelRun0_B.sl.HS2_9 (F := Ideal) c arg1 harg1 arg2 harg2 arg3 harg3 arg4 harg4 arg5 harg5 arg6 harg6 arg12 arg14 arg16 x0 x1 x2 x3 x4 x5)
  have b3 := Arr.whole (dv1024_arr (w := w) (s := 2048) (t := 512) (by decide) a3 hp hg) inb_S512x128_S512x128_0_0 (kernelRun0_B.sl.HS3_9 (F := Ideal) c arg1 harg1 arg2 harg2 arg3 harg3 arg4 harg4 arg5 harg5 arg12 arg15 x0 x1 x2 x3 x4)
  exact ⟨b1, b2, b3⟩

theorem block8
    (h1 : Arr (n := 4096) (m := 256) (View.canon (kernelRun0_B.sl.HS1_9 (F := Ideal) c arg1 harg1 arg2 harg2 arg3 harg3 arg4 harg4 arg5 harg5 arg6 harg6 arg12 arg13 arg16 x0 x1 x2 x3 x4 x5)) (fun i d => ((w.dq (if i < 3072 then 512 + 512 else 512) i d : ℝ) : EReal)))
    (h2 : Arr (n := 512) (m := 256) (View.canon (kernelRun0_B.sl.HS2_10 (F := Ideal) c arg1 harg1 arg2 harg2 arg3 harg3 arg4 harg4 arg5 harg5 arg6 harg6 arg12 arg14 arg16 x0 x1 x2 x3 x4 x5)) (fun j d => ((w.dk 512 3072 (512 + j) d : ℝ) : EReal)))
    (h3 : Arr (n := 512) (m := 128) (View.canon (kernelRun0_B.sl.HS3_10 (F := Ideal) c arg1 harg1 arg2 harg2 arg3 harg3 arg4 harg4 arg5 harg5 arg12 arg15 x0 x1 x2 x3 x4)) (fun j d => ((w.dv 512 3072 (512 + j) d : ℝ) : EReal))) :
    Arr (n := 4096) (m := 256) (View.canon (kernelRun0_B.sl.HS1_10 (F := Ideal) c arg1 harg1 arg2 harg2 arg3 harg3 arg4 harg4 arg5 harg5 arg6 harg6 arg12 arg13 arg16 x0 x1 x2 x3 x4 x5)) (fun i d => ((w.dq (if i < 3072 + 1024 then 512 + 512 else 512) i d : ℝ) : EReal))
    ∧ Arr (n := 512) (m := 256) (View.canon (kernelRun0_B.sl.HS2_11 (F := Ideal) c arg1 harg1 arg2 harg2 arg3 harg3 arg4 harg4 arg5 harg5 arg6 harg6 arg12 arg14 arg16 x0 x1 x2 x3 x4 x5)) (fun j d => ((w.dk 512 (3072 + 1024) (512 + j) d : ℝ) : EReal))
    ∧ Arr (n := 512) (m := 128) (View.canon (kernelRun0_B.sl.HS3_11 (F := Ideal) c arg1 harg1 arg2 harg2 arg3 harg3 arg4 harg4 arg5 harg5 arg12 arg15 x0 x1 x2 x3 x4)) (fun j d => ((w.dv 512 (3072 + 1024) (512 + j) d : ℝ) : EReal)) := by
  have hk := (keys c arg2 harg2 arg3 harg3 x0 x1 x2 x3 x4 x5 h).readCov arg12.view inb_S4096x256_S512x256_512_0
  have ht := (rows c arg4 harg4 arg6 harg6 x0 x1 x2 x3 x4 x5 h).readCov arg16.view inb_S4096x1_S1024x1_3072_0
  have hq := h.q.readAt harg1 inb_S4096x256_S1024x256_3072_0
  have hg := h.g.readAt harg4 inb_S4096x128_S1024x128_3072_0
  have hv := h.kv.readAt harg2 inb_S4096x256_S512x128_512_128
  have hl := h.l.readAt harg5 inb_S4096x128_S1024x1_3072_0
  have hp := p1024_arr (w := w) (s := 3072) (t := 512) (by decide) hq hk hl
  have hd := ds1024_arr (w := w) (s := 3072) (t := 512) hp hg hv ht
  have a1 := dq_read h1 arg13.view inb_S4096x256_S1024x256_3072_0
  have a2 := (h2.readCov arg14.view inb_S512x256_S512x256_0_0).congr (g := fun j d => ((w.dk 512 3072 (512 + j) d : ℝ) : EReal)) (fun j d _ _ => by simp only [Nat.zero_add])
  have a3 := (h3.readCov arg15.view inb_S512x128_S512x128_0_0).congr (g := fun j d => ((w.dv 512 3072 (512 + j) d : ℝ) : EReal)) (fun j d _ _ => by simp only [Nat.zero_add])
  have b1 := dq_store h1 (dq1024_arr (w := w) (s := 3072) (t := 512) a1 hd hk) inb_S4096x256_S1024x256_3072_0
  have b2 := Arr.whole (dk1024_arr (w := w) (s := 3072) (t := 512) (by decide) a2 hd hq) inb_S512x256_S512x256_0_0 (kernelRun0_B.sl.HS2_10 (F := Ideal) c arg1 harg1 arg2 harg2 arg3 harg3 arg4 harg4 arg5 harg5 arg6 harg6 arg12 arg14 arg16 x0 x1 x2 x3 x4 x5)
  have b3 := Arr.whole (dv1024_arr (w := w) (s := 3072) (t := 512) (by decide) a3 hp hg) inb_S512x128_S512x128_0_0 (kernelRun0_B.sl.HS3_10 (F := Ideal) c arg1 harg1 arg2 harg2 arg3 harg3 arg4 harg4 arg5 harg5 arg12 arg15 x0 x1 x2 x3 x4)
  exact ⟨b1, b2, b3⟩

theorem block9
    (h1 : Arr (n := 4096) (m := 256) (View.canon (kernelRun0_B.sl.HS1_10 (F := Ideal) c arg1 harg1 arg2 harg2 arg3 harg3 arg4 harg4 arg5 harg5 arg6 harg6 arg12 arg13 arg16 x0 x1 x2 x3 x4 x5)) (fun i d => ((w.dq (if i < 1024 then 1024 + 512 else 1024) i d : ℝ) : EReal)))
    (h2 : Arr (n := 512) (m := 256) (View.canon (kernelRun0_B.sl.HS2_12 (F := Ideal) c arg1 harg1 arg2 harg2 arg3 harg3 arg4 harg4 arg5 harg5 arg6 harg6 arg12 arg14 arg16 x0 x1 x2 x3 x4 x5)) (fun j d => ((w.dk 1024 1024 (1024 + j) d : ℝ) : EReal)))
    (h3 : Arr (n := 512) (m := 128) (View.canon (kernelRun0_B.sl.HS3_12 (F := Ideal) c arg1 harg1 arg2 harg2 arg3 harg3 arg4 harg4 arg5 harg5 arg12 arg15 x0 x1 x2 x3 x4)) (fun j d => ((w.dv 1024 1024 (1024 + j) d : ℝ) : EReal))) :
    Arr (n := 4096) (m := 256) (View.canon (kernelRun0_B.sl.HS1_11 (F := Ideal) c arg1 harg1 arg2 harg2 arg3 harg3 arg4 harg4 arg5 harg5 arg6 harg6 arg12 arg13 arg16 x0 x1 x2 x3 x4 x5)) (fun i d => ((w.dq (if i < 1024 + 512 then 1024 + 512 else 1024) i d : ℝ) : EReal))
    ∧ Arr (n := 512) (m := 256) (View.canon (kernelRun0_B.sl.HS2_13 (F := Ideal) c arg1 harg1 arg2 harg2 arg3 harg3 arg4 harg4 arg5 harg5 arg6 harg6 arg12 arg14 arg16 x0 x1 x2 x3 x4 x5)) (fun j d => ((w.dk 1024 (1024 + 512) (1024 + j) d : ℝ) : EReal))
    ∧ Arr (n := 512) (m := 128) (View.canon (kernelRun0_B.sl.HS3_13 (F := Ideal) c arg1 harg1 arg2 harg2 arg3 harg3 arg4 harg4 arg5 harg5 arg12 arg15 x0 x1 x2 x3 x4)) (fun j d => ((w.dv 1024 (1024 + 512) (1024 + j) d : ℝ) : EReal)) := by
  have hk := (keys c arg2 harg2 arg3 harg3 x0 x1 x2 x3 x4 x5 h).readCov arg12.view inb_S4096x256_S512x256_1024_0
  have ht := (rows c arg4 harg4 arg6 harg6 x0 x1 x2 x3 x4 x5 h).readCov arg16.view inb_S4096x1_S512x1_1024_0
  have hq := h.q.readAt harg1 inb_S4096x256_S512x256_1024_0
  have hg := h.g.readAt harg4 inb_S4096x128_S512x128_1024_0
  have hv := h.kv.readAt harg2 inb_S4096x256_S512x128_1024_128
  have hl := h.l.readAt harg5 inb_S4096x128_S512x1_1024_0
  have hp := pD_arr (w := w) (s := 1024) hq hk hl
  have hd := ds512_arr (w := w) (s := 1024) (t := 1024) hp hg hv ht
  have a1 := dq_read h1 arg13.view inb_S4096x256_S512x256_1024_0
  have a2 := (h2.readCov arg14.view inb_S512x256_S512x256_0_0).congr (g := fun j d => ((w.dk 1024 1024 (1024 + j) d : ℝ) : EReal)) (fun j d _ _ => by simp only [Nat.zero_add])
  have a3 := (h3.readCov arg15.view inb_S512x128_S512x128_0_0).congr (g := fun j d => ((w.dv 1024 1024 (1024 + j) d : ℝ) : EReal)) (fun j d _ _ => by simp only [Nat.zero_add])
  have b1 := dq_store h1 (dq512_arr (w := w) (s := 1024) (t := 1024) a1 hd hk) inb_S4096x256_S512x256_1024_0
  have b2 := Arr.whole (dk512_arr (w := w) (s := 1024) (t := 1024) (by decide) a2 hd hq) inb_S512x256_S512x256_0_0 (kernelRun0_B.sl.HS2_12 (F := Ideal) c arg1 harg1 arg2 harg2 arg3 harg3 arg4 harg4 arg5 harg5 arg6 harg6 arg12 arg14 arg16 x0 x1 x2 x3 x4 x5)
  have b3 := Arr.whole (dv512_arr (w := w) (s := 1024) (t := 1024) (by decide) a3 hp hg) inb_S512x128_S512x128_0_0 (kernelRun0_B.sl.HS3_12 (F := Ideal) c arg1 harg1 arg2 harg2 arg3 harg3 arg4 harg4 arg5 harg5 arg12 arg15 x0 x1 x2 x3 x4)
  exact ⟨b1, b2, b3⟩

theorem block10
    (h1 : Arr (n := 4096) (m := 256) (View.canon (kernelRun0_B.sl.HS1_11 (F := Ideal) c arg1 harg1 arg2 harg2 arg3 harg3 arg4 harg4 arg5 harg5 arg6 harg6 arg12 arg13 arg16 x0 x1 x2 x3 x4 x5)) (fun i d => ((w.dq (if i < 1536 then 1024 + 512 else 1024) i d : ℝ) : EReal)))
    (h2 : Arr (n := 512) (m := 256) (View.canon (kernelRun0_B.sl.HS2_13 (F := Ideal) c arg1 harg1 arg2 harg2 arg3 harg3 arg4 harg4 arg5 harg5 arg6 harg6 arg12 arg14 arg16 x0 x1 x2 x3 x4 x5)) (fun j d => ((w.dk 1024 1536 (1024 + j) d : ℝ) : EReal)))
    (h3 : Arr (n := 512) (m := 128) (View.canon (kernelRun0_B.sl.HS3_13 (F := Ideal) c arg1 harg1 arg2 harg2 arg3 harg3 arg4 harg4 arg5 harg5 arg12 arg15 x0 x1 x2 x3 x4)) (fun j d => ((w.dv 1024 1536 (1024 + j) d : ℝ) : EReal))) :
    Arr (n := 4096) (m := 256) (View.canon (kernelRun0_B.sl.HS1_12 (F := Ideal) c arg1 harg1 arg2 harg2 arg3 harg3 arg4 harg4 arg5 harg5 arg6 harg6 arg12 arg13 arg16 x0 x1 x2 x3 x4 x5)) (fun i d => ((w.dq (if i < 1536 + 1024 then 1024 + 512 else 1024) i d : ℝ) : EReal))
    ∧ Arr (n := 512) (m := 256) (View.canon (kernelRun0_B.sl.HS2_14 (F := Ideal) c arg1 harg1 arg2 harg2 arg3 harg3 arg4 harg4 arg5 harg5 arg6 harg6 arg12 arg14 arg16 x0 x1 x2 x3 x4 x5)) (fun j d => ((w.dk 1024 (1536 + 1024) (1024 + j) d : ℝ) : EReal))
    ∧ Arr (n := 512) (m := 128) (View.canon (kernelRun0_B.sl.HS3_14 (F := Ideal) c arg1 harg1 arg2 harg2 arg3 harg3 arg4 harg4 arg5 harg5 arg12 arg15 x0 x1 x2 x3 x4)) (fun j d => ((w.dv 1024 (1536 + 1024) (1024 + j) d : ℝ) : EReal)) := by
  have hk := (keys c arg2 harg2 arg3 harg3 x0 x1 x2 x3 x4 x5 h).readCov arg12.view inb_S4096x256_S512x256_1024_0
  have ht := (rows c arg4 harg4 arg6 harg6 x0 x1 x2 x3 x4 x5 h).readCov arg16.view inb_S4096x1_S1024x1_1536_0
  have hq := h.q.readAt harg1 inb_S4096x256_S1024x256_1536_0
  have hg := h.g.readAt harg4 inb_S4096x128_S1024x128_1536_0
  have hv := h.kv.readAt harg2 inb_S4096x256_S512x128_1024_128
  have hl := h.l.readAt harg5 inb_S4096x128_S1024x1_1536_0
  have hp := p1024_arr (w := w) (s := 1536) (t := 1024) (by decide) hq hk hl
  have hd := ds1024_arr (w := w) (s := 1536) (t := 1024) hp hg hv ht
  have a1 := dq_read h1 arg13.view inb_S4096x256_S1024x256_1536_0
  have a2 := (h2.readCov arg14.view inb_S512x256_S512x256_0_0).congr (g := fun j d => ((w.dk 1024 1536 (1024 + j) d : ℝ) : EReal)) (fun j d _ _ => by simp only [Nat.zero_add])
  have a3 := (h3.readCov arg15.view inb_S512x128_S512x128_0_0).congr (g := fun j d => ((w.dv 1024 1536 (1024 + j) d : ℝ) : EReal)) (fun j d _ _ => by simp only [Nat.zero_add])
  have b1 := dq_store h1 (dq1024_arr (w := w) (s := 1536) (t := 1024) a1 hd hk) inb_S4096x256_S1024x256_1536_0
  have b2 := Arr.whole (dk1024_arr (w := w) (s := 1536) (t := 1024) (by decide) a2 hd hq) inb_S512x256_S512x256_0_0 (kernelRun0_B.sl.HS2_13 (F := Ideal) c arg1 harg1 arg2 harg2 arg3 harg3 arg4 harg4 arg5 harg5 arg6 harg6 arg12 arg14 arg16 x0 x1 x2 x3 x4 x5)
  have b3 := Arr.whole (dv1024_arr (w := w) (s := 1536) (t := 1024) (by decide) a3 hp hg) inb_S512x128_S512x128_0_0 (kernelRun0_B.sl.HS3_13 (F := Ideal) c arg1 harg1 arg2 harg2 arg3 harg3 arg4 harg4 arg5 harg5 arg12 arg15 x0 x1 x2 x3 x4)
  exact ⟨b1, b2, b3⟩

theorem block11
    (h1 : Arr (n := 4096) (m := 256) (View.canon (kernelRun0_B.sl.HS1_12 (F := Ideal) c arg1 harg1 arg2 harg2 arg3 harg3 arg4 harg4 arg5 harg5 arg6 harg6 arg12 arg13 arg16 x0 x1 x2 x3 x4 x5)) (fun i d => ((w.dq (if i < 2560 then 1024 + 512 else 1024) i d : ℝ) : EReal)))
    (h2 : Arr (n := 512) (m := 256) (View.canon (kernelRun0_B.sl.HS2_14 (F := Ideal) c arg1 harg1 arg2 harg2 arg3 harg3 arg4 harg4 arg5 harg5 arg6 harg6 arg12 arg14 arg16 x0 x1 x2 x3 x4 x5)) (fun j d => ((w.dk 1024 2560 (1024 + j) d : ℝ) : EReal)))
    (h3 : Arr (n := 512) (m := 128) (View.canon (kernelRun0_B.sl.HS3_14 (F := Ideal) c arg1 harg1 arg2 harg2 arg3 harg3 arg4 harg4 arg5 harg5 arg12 arg15 x0 x1 x2 x3 x4)) (fun j d => ((w.dv 1024 2560 (1024 + j) d : ℝ) : EReal))) :
    Arr (n := 4096) (m := 256) (View.canon (kernelRun0_B.sl.HS1_13 (F := Ideal) c arg1 harg1 arg2 harg2 arg3 harg3 arg4 harg4 arg5 harg5 arg6 harg6 arg12 arg13 arg16 x0 x1 x2 x3 x4 x5)) (fun i d => ((w.dq (if i < 2560 + 1024 then 1024 + 512 else 1024) i d : ℝ) : EReal))
    ∧ Arr (n := 512) (m := 256) (View.canon (kernelRun0_B.sl.HS2_15 (F := Ideal) c arg1 harg1 arg2 harg2 arg3 harg3 arg4 harg4 arg5 harg5 arg6 harg6 arg12 arg14 arg16 x0 x1 x2 x3 x4 x5)) (fun j d => ((w.dk 1024 (2560 + 1024) (1024 + j) d : ℝ) : EReal))
    ∧ Arr (n := 512) (m := 128) (View.canon (kernelRun0_B.sl.HS3_15 (F := Ideal) c arg1 harg1 arg2 harg2 arg3 harg3 arg4 harg4 arg5 harg5 arg12 arg15 x0 x1 x2 x3 x4)) (fun j d => ((w.dv 1024 (2560 + 1024) (1024 + j) d : ℝ) : EReal)) := by
  have hk := (keys c arg2 harg2 arg3 harg3 x0 x1 x2 x3 x4 x5 h).readCov arg12.view inb_S4096x256_S512x256_1024_0
  have ht := (rows c arg4 harg4 arg6 harg6 x0 x1 x2 x3 x4 x5 h).readCov arg16.view inb_S4096x1_S1024x1_2560_0
  have hq := h.q.readAt harg1 inb_S4096x256_S1024x256_2560_0
  have hg := h.g.readAt harg4 inb_S4096x128_S1024x128_2560_0
  have hv := h.kv.readAt harg2 inb_S4096x256_S512x128_1024_128
  have hl := h.l.readAt harg5 inb_S4096x128_S1024x1_2560_0
  have hp := p1024_arr (w := w) (s := 2560) (t := 1024) (by decide) hq hk hl
  have hd := ds1024_arr (w := w) (s := 2560) (t := 1024) hp hg hv ht
  have a1 := dq_read h1 arg13.view inb_S4096x256_S1024x256_2560_0
  have a2 := (h2.readCov arg14.view inb_S512x256_S512x256_0_0).congr (g := fun j d => ((w.dk 1024 2560 (1024 + j) d : ℝ) : EReal)) (fun j d _ _ => by simp only [Nat.zero_add])
  have a3 := (h3.readCov arg15.view inb_S512x128_S512x128_0_0).congr (g := fun j d => ((w.dv 1024 2560 (1024 + j) d : ℝ) : EReal)) (fun j d _ _ => by simp only [Nat.zero_add])
  have b1 := dq_store h1 (dq1024_arr (w := w) (s := 2560) (t := 1024) a1 hd hk) inb_S4096x256_S1024x256_2560_0
  have b2 := Arr.whole (dk1024_arr (w := w) (s := 2560) (t := 1024) (by decide) a2 hd hq) inb_S512x256_S512x256_0_0 (kernelRun0_B.sl.HS2_14 (F := Ideal) c arg1 harg1 arg2 harg2 arg3 harg3 arg4 harg4 arg5 harg5 arg6 harg6 arg12 arg14 arg16 x0 x1 x2 x3 x4 x5)
  have b3 := Arr.whole (dv1024_arr (w := w) (s := 2560) (t := 1024) (by decide) a3 hp hg) inb_S512x128_S512x128_0_0 (kernelRun0_B.sl.HS3_14 (F := Ideal) c arg1 harg1 arg2 harg2 arg3 harg3 arg4 harg4 arg5 harg5 arg12 arg15 x0 x1 x2 x3 x4)
  exact ⟨b1, b2, b3⟩

theorem block12
    (h1 : Arr (n := 4096) (m := 256) (View.canon (kernelRun0_B.sl.HS1_13 (F := Ideal) c arg1 harg1 arg2 harg2 arg3 harg3 arg4 harg4 arg5 harg5 arg6 harg6 arg12 arg13 arg16 x0 x1 x2 x3 x4 x5)) (fun i d => ((w.dq (if i < 3584 then 1024 + 512 else 1024) i d : ℝ) : EReal)))
    (h2 : Arr (n := 512) (m := 256) (View.canon (kernelRun0_B.sl.HS2_15 (F := Ideal) c arg1 harg1 arg2 harg2 arg3 harg3 arg4 harg4 arg5 harg5 arg6 harg6 arg12 arg14 arg16 x0 x1 x2 x3 x4 x5)) (fun j d => ((w.dk 1024 3584 (1024 + j) d : ℝ) : EReal)))
    (h3 : Arr (n := 512) (m := 128) (View.canon (kernelRun0_B.sl.HS3_15 (F := Ideal) c arg1 harg1 arg2 harg2 arg3 harg3 arg4 harg4 arg5 harg5 arg12 arg15 x0 x1 x2 x3 x4)) (fun j d => ((w.dv 1024 3584 (1024 + j) d : ℝ) : EReal))) :
    Arr (n := 4096) (m := 256) (View.canon (kernelRun0_B.sl.HS1_14 (F := Ideal) c arg1 harg1 arg2 harg2 arg3 harg3 arg4 harg4 arg5 harg5 arg6 harg6 arg12 arg13 arg16 x0 x1 x2 x3 x4 x5)) (fun i d => ((w.dq (if i < 3584 + 512 then 1024 + 512 else 1024) i d : ℝ) : EReal))
    ∧ Arr (n := 512) (m := 256) (View.canon (kernelRun0_B.sl.HS2_16 (F := Ideal) c arg1 harg1 arg2 harg2 arg3 harg3 arg4 harg4 arg5 harg5 arg6 harg6 arg12 arg14 arg16 x0 x1 x2 x3 x4 x5)) (fun j d => ((w.dk 1024 (3584 + 512) (1024 + j) d : ℝ) : EReal))
    ∧ Arr (n := 512) (m := 128) (View.canon (kernelRun0_B.sl.HS3_16 (F := Ideal) c arg1 harg1 arg2 harg2 arg3 harg3 arg4 harg4 arg5 harg5 arg12 arg15 x0 x1 x2 x3 x4)) (fun j d => ((w.dv 1024 (3584 + 512) (1024 + j) d : ℝ) : EReal)) := by
  have hk := (keys c arg2 harg2 arg3 harg3 x0 x1 x2 x3 x4 x5 h).readCov arg12.view inb_S4096x256_S512x256_1024_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_1024_128
  have hl := h.l.readAt harg5 inb_S4096x128_S512x1_3584_0
  have hp := p512_arr (w := w) (s := 3584) (t := 1024) (by decide) hq hk hl
  have hd := ds512_arr (w := w) (s := 3584) (t := 1024) hp hg hv ht
  have a1 := dq_read h1 arg13.view inb_S4096x256_S512x256_3584_0
  have a2 := (h2.readCov arg14.view inb_S512x256_S512x256_0_0).congr (g := fun j d => ((w.dk 1024 3584 (1024 + j) d : ℝ) : EReal)) (fun j d _ _ => by simp only [Nat.zero_add])
  have a3 := (h3.readCov arg15.view inb_S512x128_S512x128_0_0).congr (g := fun j d => ((w.dv 1024 3584 (1024 + j) d : ℝ) : EReal)) (fun j d _ _ => by simp only [Nat.zero_add])
  have b1 := dq_store h1 (dq512_arr (w := w) (s := 3584) (t := 1024) a1 hd hk) inb_S4096x256_S512x256_3584_0
  have b2 := Arr.whole (dk512_arr (w := w) (s := 3584) (t := 1024) (by decide) a2 hd hq) inb_S512x256_S512x256_0_0 (kernelRun0_B.sl.HS2_15 (F := Ideal) c arg1 harg1 arg2 harg2 arg3 harg3 arg4 harg4 arg5 harg5 arg6 harg6 arg12 arg14 arg16 x0 x1 x2 x3 x4 x5)
  have b3 := Arr.whole (dv512_arr (w := w) (s := 3584) (t := 1024) (by decide) a3 hp hg) inb_S512x128_S512x128_0_0 (kernelRun0_B.sl.HS3_15 (F := Ideal) c arg1 harg1 arg2 harg2 arg3 harg3 arg4 harg4 arg5 harg5 arg12 arg15 x0 x1 x2 x3 x4)
  exact ⟨b1, b2, b3⟩

theorem block13
    (h1 : Arr (n := 4096) (m := 256) (View.canon (kernelRun0_B.sl.HS1_14 (F := Ideal) c arg1 harg1 arg2 harg2 arg3 harg3 arg4 harg4 arg5 harg5 arg6 harg6 arg12 arg13 arg16 x0 x1 x2 x3 x4 x5)) (fun i d => ((w.dq (if i < 1536 then 1536 + 512 else 1536) i d : ℝ) : EReal)))
    (h2 : Arr (n := 512) (m := 256) (View.canon (kernelRun0_B.sl.HS2_17 (F := Ideal) c arg1 harg1 arg2 harg2 arg3 harg3 arg4 harg4 arg5 harg5 arg6 harg6 arg12 arg14 arg16 x0 x1 x2 x3 x4 x5)) (fun j d => ((w.dk 1536 1536 (1536 + j) d : ℝ) : EReal)))
    (h3 : Arr (n := 512) (m := 128) (View.canon (kernelRun0_B.sl.HS3_17 (F := Ideal) c arg1 harg1 arg2 harg2 arg3 harg3 arg4 harg4 arg5 harg5 arg12 arg15 x0 x1 x2 x3 x4)) (fun j d => ((w.dv 1536 1536 (1536 + j) d : ℝ) : EReal))) :
    Arr (n := 4096) (m := 256) (View.canon (kernelRun0_B.sl.HS1_15 (F := Ideal) c arg1 harg1 arg2 harg2 arg3 harg3 arg4 harg4 arg5 harg5 arg6 harg6 arg12 arg13 arg16 x0 x1 x2 x3 x4 x5)) (fun i d => ((w.dq (if i < 1536 + 512 then 1536 + 512 else 1536) i d : ℝ) : EReal))
    ∧ Arr (n := 512) (m := 256) (View.canon (kernelRun0_B.sl.HS2_18 (F := Ideal) c arg1 harg1 arg2 harg2 arg3 harg3 arg4 harg4 arg5 harg5 arg6 harg6 arg12 arg14 arg16 x0 x1 x2 x3 x4 x5)) (fun j d => ((w.dk 1536 (1536 + 512) (1536 + j) d : ℝ) : EReal))
    ∧ Arr (n := 512) (m := 128) (View.canon (kernelRun0_B.sl.HS3_18 (F := Ideal) c arg1 harg1 arg2 harg2 arg3 harg3 arg4 harg4 arg5 harg5 arg12 arg15 x0 x1 x2 x3 x4)) (fun j d => ((w.dv 1536 (1536 + 512) (1536 + j) d : ℝ) : EReal)) := by
  have hk := (keys c arg2 harg2 arg3 harg3 x0 x1 x2 x3 x4 x5 h).readCov arg12.view inb_S4096x256_S512x256_1536_0
  have ht := (rows c arg4 harg4 arg6 harg6 x0 x1 x2 x3 x4 x5 h).readCov arg16.view inb_S4096x1_S512x1_1536_0
  have hq := h.q.readAt harg1 inb_S4096x256_S512x256_1536_0
  have hg := h.g.readAt harg4 inb_S4096x128_S512x128_1536_0
  have hv := h.kv.readAt harg2 inb_S4096x256_S512x128_1536_128
  have hl := h.l.readAt harg5 inb_S4096x128_S512x1_1536_0
  have hp := pD_arr (w := w) (s := 1536) hq hk hl
  have hd := ds512_arr (w := w) (s := 1536) (t := 1536) hp hg hv ht
  have a1 := dq_read h1 arg13.view inb_S4096x256_S512x256_1536_0
  have a2 := (h2.readCov arg14.view inb_S512x256_S512x256_0_0).congr (g := fun j d => ((w.dk 1536 1536 (1536 + j) d : ℝ) : EReal)) (fun j d _ _ => by simp only [Nat.zero_add])
  have a3 := (h3.readCov arg15.view inb_S512x128_S512x128_0_0).congr (g := fun j d => ((w.dv 1536 1536 (1536 + j) d : ℝ) : EReal)) (fun j d _ _ => by simp only [Nat.zero_add])
  have b1 := dq_store h1 (dq512_arr (w := w) (s := 1536) (t := 1536) a1 hd hk) inb_S4096x256_S512x256_1536_0
  have b2 := Arr.whole (dk512_arr (w := w) (s := 1536) (t := 1536) (by decide) a2 hd hq) inb_S512x256_S512x256_0_0 (kernelRun0_B.sl.HS2_17 (F := Ideal) c arg1 harg1 arg2 harg2 arg3 harg3 arg4 harg4 arg5 harg5 arg6 harg6 arg12 arg14 arg16 x0 x1 x2 x3 x4 x5)
  have b3 := Arr.whole (dv512_arr (w := w) (s := 1536) (t := 1536) (by decide) a3 hp hg) inb_S512x128_S512x128_0_0 (kernelRun0_B.sl.HS3_17 (F := Ideal) c arg1 harg1 arg2 harg2 arg3 harg3 arg4 harg4 arg5 harg5 arg12 arg15 x0 x1 x2 x3 x4)
  exact ⟨b1, b2, b3⟩

theorem block14
    (h1 : Arr (n := 4096) (m := 256) (View.canon (kernelRun0_B.sl.HS1_15 (F := Ideal) c arg1 harg1 arg2 harg2 arg3 harg3 arg4 harg4 arg5 harg5 arg6 harg6 arg12 arg13 arg16 x0 x1 x2 x3 x4 x5)) (fun i d => ((w.dq (if i < 2048 then 1536 + 512 else 1536) i d : ℝ) : EReal)))
    (h2 : Arr (n := 512) (m := 256) (View.canon (kernelRun0_B.sl.HS2_18 (F := Ideal) c arg1 harg1 arg2 harg2 arg3 harg3 arg4 harg4 arg5 harg5 arg6 harg6 arg12 arg14 arg16 x0 x1 x2 x3 x4 x5)) (fun j d => ((w.dk 1536 2048 (1536 + j) d : ℝ) : EReal)))
    (h3 : Arr (n := 512) (m := 128) (View.canon (kernelRun0_B.sl.HS3_18 (F := Ideal) c arg1 harg1 arg2 harg2 arg3 harg3 arg4 harg4 arg5 harg5 arg12 arg15 x0 x1 x2 x3 x4)) (fun j d => ((w.dv 1536 2048 (1536 + j) d : ℝ) : EReal))) :
    Arr (n := 4096) (m := 256) (View.canon (kernelRun0_B.sl.HS1_16 (F := Ideal) c arg1 harg1 arg2 harg2 arg3 harg3 arg4 harg4 arg5 harg5 arg6 harg6 arg12 arg13 arg16 x0 x1 x2 x3 x4 x5)) (fun i d => ((w.dq (if i < 2048 + 1024 then 1536 + 512 else 1536) i d : ℝ) : EReal))
    ∧ Arr (n := 512) (m := 256) (View.canon (kernelRun0_B.sl.HS2_19 (F := Ideal) c arg1 harg1 arg2 harg2 arg3 harg3 arg4 harg4 arg5 harg5 arg6 harg6 arg12 arg14 arg16 x0 x1 x2 x3 x4 x5)) (fun j d => ((w.dk 1536 (2048 + 1024) (1536 + j) d : ℝ) : EReal))
    ∧ Arr (n := 512) (m := 128) (View.canon (kernelRun0_B.sl.HS3_19 (F := Ideal) c arg1 harg1 arg2 harg2 arg3 harg3 arg4 harg4 arg5 harg5 arg12 arg15 x0 x1 x2 x3 x4)) (fun j d => ((w.dv 1536 (2048 + 1024) (1536 + j) d : ℝ) : EReal)) := by
  have hk := (keys c arg2 harg2 arg3 harg3 x0 x1 x2 x3 x4 x5 h).readCov arg12.view inb_S4096x256_S512x256_1536_0
  have ht := (rows c arg4 harg4 arg6 harg6 x0 x1 x2 x3 x4 x5 h).readCov arg16.view inb_S4096x1_S1024x1_2048_0
  have hq := h.q.readAt harg1 inb_S4096x256_S1024x256_2048_0
  have hg := h.g.readAt harg4 inb_S4096x128_S1024x128_2048_0
  have hv := h.kv.readAt harg2 inb_S4096x256_S512x128_1536_128
  have hl := h.l.readAt harg5 inb_S4096x128_S1024x1_2048_0
  have hp := p1024_arr (w := w) (s := 2048) (t := 1536) (by decide) hq hk hl
  have hd := ds1024_arr (w := w) (s := 2048) (t := 1536) hp hg hv ht
  have a1 := dq_read h1 arg13.view inb_S4096x256_S1024x256_2048_0
  have a2 := (h2.readCov arg14.view inb_S512x256_S512x256_0_0).congr (g := fun j d => ((w.dk 1536 2048 (1536 + j) d : ℝ) : EReal)) (fun j d _ _ => by simp only [Nat.zero_add])
  have a3 := (h3.readCov arg15.view inb_S512x128_S512x128_0_0).congr (g := fun j d => ((w.dv 1536 2048 (1536 + j) d : ℝ) : EReal)) (fun j d _ _ => by simp only [Nat.zero_add])
  have b1 := dq_store h1 (dq1024_arr (w := w) (s := 2048) (t := 1536) a1 hd hk) inb_S4096x256_S1024x256_2048_0
  have b2 := Arr.whole (dk1024_arr (w := w) (s := 2048) (t := 1536) (by decide) a2 hd hq) inb_S512x256_S512x256_0_0 (kernelRun0_B.sl.HS2_18 (F := Ideal) c arg1 harg1 arg2 harg2 arg3 harg3 arg4 harg4 arg5 harg5 arg6 harg6 arg12 arg14 arg16 x0 x1 x2 x3 x4 x5)
  have b3 := Arr.whole (dv1024_arr (w := w) (s := 2048) (t := 1536) (by decide) a3 hp hg) inb_S512x128_S512x128_0_0 (kernelRun0_B.sl.HS3_18 (F := Ideal) c arg1 harg1 arg2 harg2 arg3 harg3 arg4 harg4 arg5 harg5 arg12 arg15 x0 x1 x2 x3 x4)
  exact ⟨b1, b2, b3⟩

theorem block15
    (h1 : Arr (n := 4096) (m := 256) (View.canon (kernelRun0_B.sl.HS1_16 (F := Ideal) c arg1 harg1 arg2 harg2 arg3 harg3 arg4 harg4 arg5 harg5 arg6 harg6 arg12 arg13 arg16 x0 x1 x2 x3 x4 x5)) (fun i d => ((w.dq (if i < 3072 then 1536 + 512 else 1536) i d : ℝ) : EReal)))
    (h2 : Arr (n := 512) (m := 256) (View.canon (kernelRun0_B.sl.HS2_19 (F := Ideal) c arg1 harg1 arg2 harg2 arg3 harg3 arg4 harg4 arg5 harg5 arg6 harg6 arg12 arg14 arg16 x0 x1 x2 x3 x4 x5)) (fun j d => ((w.dk 1536 3072 (1536 + j) d : ℝ) : EReal)))
    (h3 : Arr (n := 512) (m := 128) (View.canon (kernelRun0_B.sl.HS3_19 (F := Ideal) c arg1 harg1 arg2 harg2 arg3 harg3 arg4 harg4 arg5 harg5 arg12 arg15 x0 x1 x2 x3 x4)) (fun j d => ((w.dv 1536 3072 (1536 + j) d : ℝ) : EReal))) :
    Arr (n := 4096) (m := 256) (View.canon (kernelRun0_B.sl.HS1_17 (F := Ideal) c arg1 harg1 arg2 harg2 arg3 harg3 arg4 harg4 arg5 harg5 arg6 harg6 arg12 arg13 arg16 x0 x1 x2 x3 x4 x5)) (fun i d => ((w.dq (if i < 3072 + 1024 then 1536 + 512 else 1536) i d : ℝ) : EReal))
    ∧ Arr (n := 512) (m := 256) (View.canon (kernelRun0_B.sl.HS2_20 (F := Ideal) c arg1 harg1 arg2 harg2 arg3 harg3 arg4 harg4 arg5 harg5 arg6 harg6 arg12 arg14 arg16 x0 x1 x2 x3 x4 x5)) (fun j d => ((w.dk 1536 (3072 + 1024) (1536 + j) d : ℝ) : EReal))
    ∧ Arr (n := 512) (m := 128) (View.canon (kernelRun0_B.sl.HS3_20 (F := Ideal) c arg1 harg1 arg2 harg2 arg3 harg3 arg4 harg4 arg5 harg5 arg12 arg15 x0 x1 x2 x3 x4)) (fun j d => ((w.dv 1536 (3072 + 1024) (1536 + j) d : ℝ) : EReal)) := by
  have hk := (keys c arg2 harg2 arg3 harg3 x0 x1 x2 x3 x4 x5 h).readCov arg12.view inb_S4096x256_S512x256_1536_0
  have ht := (rows c arg4 harg4 arg6 harg6 x0 x1 x2 x3 x4 x5 h).readCov arg16.view inb_S4096x1_S1024x1_3072_0
  have hq := h.q.readAt harg1 inb_S4096x256_S1024x256_3072_0
  have hg := h.g.readAt harg4 inb_S4096x128_S1024x128_3072_0
  have hv := h.kv.readAt harg2 inb_S4096x256_S512x128_1536_128
  have hl := h.l.readAt harg5 inb_S4096x128_S1024x1_3072_0
  have hp := p1024_arr (w := w) (s := 3072) (t := 1536) (by decide) hq hk hl
  have hd := ds1024_arr (w := w) (s := 3072) (t := 1536) hp hg hv ht
  have a1 := dq_read h1 arg13.view inb_S4096x256_S1024x256_3072_0
  have a2 := (h2.readCov arg14.view inb_S512x256_S512x256_0_0).congr (g := fun j d => ((w.dk 1536 3072 (1536 + j) d : ℝ) : EReal)) (fun j d _ _ => by simp only [Nat.zero_add])
  have a3 := (h3.readCov arg15.view inb_S512x128_S512x128_0_0).congr (g := fun j d => ((w.dv 1536 3072 (1536 + j) d : ℝ) : EReal)) (fun j d _ _ => by simp only [Nat.zero_add])
  have b1 := dq_store h1 (dq1024_arr (w := w) (s := 3072) (t := 1536) a1 hd hk) inb_S4096x256_S1024x256_3072_0
  have b2 := Arr.whole (dk1024_arr (w := w) (s := 3072) (t := 1536) (by decide) a2 hd hq) inb_S512x256_S512x256_0_0 (kernelRun0_B.sl.HS2_19 (F := Ideal) c arg1 harg1 arg2 harg2 arg3 harg3 arg4 harg4 arg5 harg5 arg6 harg6 arg12 arg14 arg16 x0 x1 x2 x3 x4 x5)
  have b3 := Arr.whole (dv1024_arr (w := w) (s := 3072) (t := 1536) (by decide) a3 hp hg) inb_S512x128_S512x128_0_0 (kernelRun0_B.sl.HS3_19 (F := Ideal) c arg1 harg1 arg2 harg2 arg3 harg3 arg4 harg4 arg5 harg5 arg12 arg15 x0 x1 x2 x3 x4)
  exact ⟨b1, b2, b3⟩

theorem block16
    (h1 : Arr (n := 4096) (m := 256) (View.canon (kernelRun0_B.sl.HS1_17 (F := Ideal) c arg1 harg1 arg2 harg2 arg3 harg3 arg4 harg4 arg5 harg5 arg6 harg6 arg12 arg13 arg16 x0 x1 x2 x3 x4 x5)) (fun i d => ((w.dq (if i < 2048 then 2048 + 512 else 2048) i d : ℝ) : EReal)))
    (h2 : Arr (n := 512) (m := 256) (View.canon (kernelRun0_B.sl.HS2_21 (F := Ideal) c arg1 harg1 arg2 harg2 arg3 harg3 arg4 harg4 arg5 harg5 arg6 harg6 arg12 arg14 arg16 x0 x1 x2 x3 x4 x5)) (fun j d => ((w.dk 2048 2048 (2048 + j) d : ℝ) : EReal)))
    (h3 : Arr (n := 512) (m := 128) (View.canon (kernelRun0_B.sl.HS3_21 (F := Ideal) c arg1 harg1 arg2 harg2 arg3 harg3 arg4 harg4 arg5 harg5 arg12 arg15 x0 x1 x2 x3 x4)) (fun j d => ((w.dv 2048 2048 (2048 + j) d : ℝ) : EReal))) :
    Arr (n := 4096) (m := 256) (View.canon (kernelRun0_B.sl.HS1_18 (F := Ideal) c arg1 harg1 arg2 harg2 arg3 harg3 arg4 harg4 arg5 harg5 arg6 harg6 arg12 arg13 arg16 x0 x1 x2 x3 x4 x5)) (fun i d => ((w.dq (if i < 2048 + 512 then 2048 + 512 else 2048) i d : ℝ) : EReal))
    ∧ Arr (n := 512) (m := 256) (View.canon (kernelRun0_B.sl.HS2_22 (F := Ideal) c arg1 harg1 arg2 harg2 arg3 harg3 arg4 harg4 arg5 harg5 arg6 harg6 arg12 arg14 arg16 x0 x1 x2 x3 x4 x5)) (fun j d => ((w.dk 2048 (2048 + 512) (2048 + j) d : ℝ) : EReal))
    ∧ Arr (n := 512) (m := 128) (View.canon (kernelRun0_B.sl.HS3_22 (F := Ideal) c arg1 harg1 arg2 harg2 arg3 harg3 arg4 harg4 arg5 harg5 arg12 arg15 x0 x1 x2 x3 x4)) (fun j d => ((w.dv 2048 (2048 + 512) (2048 + j) d : ℝ) : EReal)) := by
  have hk := (keys c arg2 harg2 arg3 harg3 x0 x1 x2 x3 x4 x5 h).readCov arg12.view inb_S4096x256_S512x256_2048_0
  have ht := (rows c arg4 harg4 arg6 harg6 x0 x1 x2 x3 x4 x5 h).readCov arg16.view inb_S4096x1_S512x1_2048_0
  have hq := h.q.readAt harg1 inb_S4096x256_S512x256_2048_0
  have hg := h.g.readAt harg4 inb_S4096x128_S512x128_2048_0
  have hv := h.kv.readAt harg2 inb_S4096x256_S512x128_2048_128
  have hl := h.l.readAt harg5 inb_S4096x128_S512x1_2048_0
  have hp := pD_arr (w := w) (s := 2048) hq hk hl
  have hd := ds512_arr (w := w) (s := 2048) (t := 2048) hp hg hv ht
  have a1 := dq_read h1 arg13.view inb_S4096x256_S512x256_2048_0
  have a2 := (h2.readCov arg14.view inb_S512x256_S512x256_0_0).congr (g := fun j d => ((w.dk 2048 2048 (2048 + j) d : ℝ) : EReal)) (fun j d _ _ => by simp only [Nat.zero_add])
  have a3 := (h3.readCov arg15.view inb_S512x128_S512x128_0_0).congr (g := fun j d => ((w.dv 2048 2048 (2048 + j) d : ℝ) : EReal)) (fun j d _ _ => by simp only [Nat.zero_add])
  have b1 := dq_store h1 (dq512_arr (w := w) (s := 2048) (t := 2048) a1 hd hk) inb_S4096x256_S512x256_2048_0
  have b2 := Arr.whole (dk512_arr (w := w) (s := 2048) (t := 2048) (by decide) a2 hd hq) inb_S512x256_S512x256_0_0 (kernelRun0_B.sl.HS2_21 (F := Ideal) c arg1 harg1 arg2 harg2 arg3 harg3 arg4 harg4 arg5 harg5 arg6 harg6 arg12 arg14 arg16 x0 x1 x2 x3 x4 x5)
  have b3 := Arr.whole (dv512_arr (w := w) (s := 2048) (t := 2048) (by decide) a3 hp hg) inb_S512x128_S512x128_0_0 (kernelRun0_B.sl.HS3_21 (F := Ideal) c arg1 harg1 arg2 harg2 arg3 harg3 arg4 harg4 arg5 harg5 arg12 arg15 x0 x1 x2 x3 x4)
  exact ⟨b1, b2, b3⟩

theorem block17
    (h1 : Arr (n := 4096) (m := 256) (View.canon (kernelRun0_B.sl.HS1_18 (F := Ideal) c arg1 harg1 arg2 harg2 arg3 harg3 arg4 harg4 arg5 harg5 arg6 harg6 arg12 arg13 arg16 x0 x1 x2 x3 x4 x5)) (fun i d => ((w.dq (if i < 2560 then 2048 + 512 else 2048) i d : ℝ) : EReal)))
    (h2 : Arr (n := 512) (m := 256) (View.canon (kernelRun0_B.sl.HS2_22 (F := Ideal) c arg1 harg1 arg2 harg2 arg3 harg3 arg4 harg4 arg5 harg5 arg6 harg6 arg12 arg14 arg16 x0 x1 x2 x3 x4 x5)) (fun j d => ((w.dk 2048 2560 (2048 + j) d : ℝ) : EReal)))
    (h3 : Arr (n := 512) (m := 128) (View.canon (kernelRun0_B.sl.HS3_22 (F := Ideal) c arg1 harg1 arg2 harg2 arg3 harg3 arg4 harg4 arg5 harg5 arg12 arg15 x0 x1 x2 x3 x4)) (fun j d => ((w.dv 2048 2560 (2048 + j) d : ℝ) : EReal))) :
    Arr (n := 4096) (m := 256) (View.canon (kernelRun0_B.sl.HS1_19 (F := Ideal) c arg1 harg1 arg2 harg2 arg3 harg3 arg4 harg4 arg5 harg5 arg6 harg6 arg12 arg13 arg16 x0 x1 x2 x3 x4 x5)) (fun i d => ((w.dq (if i < 2560 + 1024 then 2048 + 512 else 2048) i d : ℝ) : EReal))
    ∧ Arr (n := 512) (m := 256) (View.canon (kernelRun0_B.sl.HS2_23 (F := Ideal) c arg1 harg1 arg2 harg2 arg3 harg3 arg4 harg4 arg5 harg5 arg6 harg6 arg12 arg14 arg16 x0 x1 x2 x3 x4 x5)) (fun j d => ((w.dk 2048 (2560 + 1024) (2048 + j) d : ℝ) : EReal))
    ∧ Arr (n := 512) (m := 128) (View.canon (kernelRun0_B.sl.HS3_23 (F := Ideal) c arg1 harg1 arg2 harg2 arg3 harg3 arg4 harg4 arg5 harg5 arg12 arg15 x0 x1 x2 x3 x4)) (fun j d => ((w.dv 2048 (2560 + 1024) (2048 + j) d : ℝ) : EReal)) := by
  have hk := (keys c arg2 harg2 arg3 harg3 x0 x1 x2 x3 x4 x5 h).readCov arg12.view inb_S4096x256_S512x256_2048_0
  have ht := (rows c arg4 harg4 arg6 harg6 x0 x1 x2 x3 x4 x5 h).readCov arg16.view inb_S4096x1_S1024x1_2560_0
  have hq := h.q.readAt harg1 inb_S4096x256_S1024x256_2560_0
  have hg := h.g.readAt harg4 inb_S4096x128_S1024x128_2560_0
  have hv := h.kv.readAt harg2 inb_S4096x256_S512x128_2048_128
  have hl := h.l.readAt harg5 inb_S4096x128_S1024x1_2560_0
  have hp := p1024_arr (w := w) (s := 2560) (t := 2048) (by decide) hq hk hl
  have hd := ds1024_arr (w := w) (s := 2560) (t := 2048) hp hg hv ht
  have a1 := dq_read h1 arg13.view inb_S4096x256_S1024x256_2560_0
  have a2 := (h2.readCov arg14.view inb_S512x256_S512x256_0_0).congr (g := fun j d => ((w.dk 2048 2560 (2048 + j) d : ℝ) : EReal)) (fun j d _ _ => by simp only [Nat.zero_add])
  have a3 := (h3.readCov arg15.view inb_S512x128_S512x128_0_0).congr (g := fun j d => ((w.dv 2048 2560 (2048 + j) d : ℝ) : EReal)) (fun j d _ _ => by simp only [Nat.zero_add])
  have b1 := dq_store h1 (dq1024_arr (w := w) (s := 2560) (t := 2048) a1 hd hk) inb_S4096x256_S1024x256_2560_0
  have b2 := Arr.whole (dk1024_arr (w := w) (s := 2560) (t := 2048) (by decide) a2 hd hq) inb_S512x256_S512x256_0_0 (kernelRun0_B.sl.HS2_22 (F := Ideal) c arg1 harg1 arg2 harg2 arg3 harg3 arg4 harg4 arg5 harg5 arg6 harg6 arg12 arg14 arg16 x0 x1 x2 x3 x4 x5)
  have b3 := Arr.whole (dv1024_arr (w := w) (s := 2560) (t := 2048) (by decide) a3 hp hg) inb_S512x128_S512x128_0_0 (kernelRun0_B.sl.HS3_22 (F := Ideal) c arg1 harg1 arg2 harg2 arg3 harg3 arg4 harg4 arg5 harg5 arg12 arg15 x0 x1 x2 x3 x4)
  exact ⟨b1, b2, b3⟩

theorem block18
    (h1 : Arr (n := 4096) (m := 256) (View.canon (kernelRun0_B.sl.HS1_19 (F := Ideal) c arg1 harg1 arg2 harg2 arg3 harg3 arg4 harg4 arg5 harg5 arg6 harg6 arg12 arg13 arg16 x0 x1 x2 x3 x4 x5)) (fun i d => ((w.dq (if i < 3584 then 2048 + 512 else 2048) i d : ℝ) : EReal)))
    (h2 : Arr (n := 512) (m := 256) (View.canon (kernelRun0_B.sl.HS2_23 (F := Ideal) c arg1 harg1 arg2 harg2 arg3 harg3 arg4 harg4 arg5 harg5 arg6 harg6 arg12 arg14 arg16 x0 x1 x2 x3 x4 x5)) (fun j d => ((w.dk 2048 3584 (2048 + j) d : ℝ) : EReal)))
    (h3 : Arr (n := 512) (m := 128) (View.canon (kernelRun0_B.sl.HS3_23 (F := Ideal) c arg1 harg1 arg2 harg2 arg3 harg3 arg4 harg4 arg5 harg5 arg12 arg15 x0 x1 x2 x3 x4)) (fun j d => ((w.dv 2048 3584 (2048 + j) d : ℝ) : EReal))) :
    Arr (n := 4096) (m := 256) (View.canon (kernelRun0_B.sl.HS1_20 (F := Ideal) c arg1 harg1 arg2 harg2 arg3 harg3 arg4 harg4 arg5 harg5 arg6 harg6 arg12 arg13 arg16 x0 x1 x2 x3 x4 x5)) (fun i d => ((w.dq (if i < 3584 + 512 then 2048 + 512 else 2048) i d : ℝ) : EReal))
    ∧ Arr (n := 512) (m := 256) (View.canon (kernelRun0_B.sl.HS2_24 (F := Ideal) c arg1 harg1 arg2 harg2 arg3 harg3 arg4 harg4 arg5 harg5 arg6 harg6 arg12 arg14 arg16 x0 x1 x2 x3 x4 x5)) (fun j d => ((w.dk 2048 (3584 + 512) (2048 + j) d : ℝ) : EReal))
    ∧ Arr (n := 512) (m := 128) (View.canon (kernelRun0_B.sl.HS3_24 (F := Ideal) c arg1 harg1 arg2 harg2 arg3 harg3 arg4 harg4 arg5 harg5 arg12 arg15 x0 x1 x2 x3 x4)) (fun j d => ((w.dv 2048 (3584 + 512) (2048 + j) d : ℝ) : EReal)) := by
  have hk := (keys c arg2 harg2 arg3 harg3 x0 x1 x2 x3 x4 x5 h).readCov arg12.view inb_S4096x256_S512x256_2048_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_2048_128
  have hl := h.l.readAt harg5 inb_S4096x128_S512x1_3584_0
  have hp := p512_arr (w := w) (s := 3584) (t := 2048) (by decide) hq hk hl
  have hd := ds512_arr (w := w) (s := 3584) (t := 2048) hp hg hv ht
  have a1 := dq_read h1 arg13.view inb_S4096x256_S512x256_3584_0
  have a2 := (h2.readCov arg14.view inb_S512x256_S512x256_0_0).congr (g := fun j d => ((w.dk 2048 3584 (2048 + j) d : ℝ) : EReal)) (fun j d _ _ => by simp only [Nat.zero_add])
  have a3 := (h3.readCov arg15.view inb_S512x128_S512x128_0_0).congr (g := fun j d => ((w.dv 2048 3584 (2048 + j) d : ℝ) : EReal)) (fun j d _ _ => by simp only [Nat.zero_add])
  have b1 := dq_store h1 (dq512_arr (w := w) (s := 3584) (t := 2048) a1 hd hk) inb_S4096x256_S512x256_3584_0
  have b2 := Arr.whole (dk512_arr (w := w) (s := 3584) (t := 2048) (by decide) a2 hd hq) inb_S512x256_S512x256_0_0 (kernelRun0_B.sl.HS2_23 (F := Ideal) c arg1 harg1 arg2 harg2 arg3 harg3 arg4 harg4 arg5 harg5 arg6 harg6 arg12 arg14 arg16 x0 x1 x2 x3 x4 x5)
  have b3 := Arr.whole (dv512_arr (w := w) (s := 3584) (t := 2048) (by decide) a3 hp hg) inb_S512x128_S512x128_0_0 (kernelRun0_B.sl.HS3_23 (F := Ideal) c arg1 harg1 arg2 harg2 arg3 harg3 arg4 harg4 arg5 harg5 arg12 arg15 x0 x1 x2 x3 x4)
  exact ⟨b1, b2, b3⟩

theorem block19
    (h1 : Arr (n := 4096) (m := 256) (View.canon (kernelRun0_B.sl.HS1_20 (F := Ideal) c arg1 harg1 arg2 harg2 arg3 harg3 arg4 harg4 arg5 harg5 arg6 harg6 arg12 arg13 arg16 x0 x1 x2 x3 x4 x5)) (fun i d => ((w.dq (if i < 2560 then 2560 + 512 else 2560) i d : ℝ) : EReal)))
    (h2 : Arr (n := 512) (m := 256) (View.canon (kernelRun0_B.sl.HS2_25 (F := Ideal) c arg1 harg1 arg2 harg2 arg3 harg3 arg4 harg4 arg5 harg5 arg6 harg6 arg12 arg14 arg16 x0 x1 x2 x3 x4 x5)) (fun j d => ((w.dk 2560 2560 (2560 + j) d : ℝ) : EReal)))
    (h3 : Arr (n := 512) (m := 128) (View.canon (kernelRun0_B.sl.HS3_25 (F := Ideal) c arg1 harg1 arg2 harg2 arg3 harg3 arg4 harg4 arg5 harg5 arg12 arg15 x0 x1 x2 x3 x4)) (fun j d => ((w.dv 2560 2560 (2560 + j) d : ℝ) : EReal))) :
    Arr (n := 4096) (m := 256) (View.canon (kernelRun0_B.sl.HS1_21 (F := Ideal) c arg1 harg1 arg2 harg2 arg3 harg3 arg4 harg4 arg5 harg5 arg6 harg6 arg12 arg13 arg16 x0 x1 x2 x3 x4 x5)) (fun i d => ((w.dq (if i < 2560 + 512 then 2560 + 512 else 2560) i d : ℝ) : EReal))
    ∧ Arr (n := 512) (m := 256) (View.canon (kernelRun0_B.sl.HS2_26 (F := Ideal) c arg1 harg1 arg2 harg2 arg3 harg3 arg4 harg4 arg5 harg5 arg6 harg6 arg12 arg14 arg16 x0 x1 x2 x3 x4 x5)) (fun j d => ((w.dk 2560 (2560 + 512) (2560 + j) d : ℝ) : EReal))
    ∧ Arr (n := 512) (m := 128) (View.canon (kernelRun0_B.sl.HS3_26 (F := Ideal) c arg1 harg1 arg2 harg2 arg3 harg3 arg4 harg4 arg5 harg5 arg12 arg15 x0 x1 x2 x3 x4)) (fun j d => ((w.dv 2560 (2560 + 512) (2560 + j) d : ℝ) : EReal)) := by
  have hk := (keys c arg2 harg2 arg3 harg3 x0 x1 x2 x3 x4 x5 h).readCov arg12.view inb_S4096x256_S512x256_2560_0
  have ht := (rows c arg4 harg4 arg6 harg6 x0 x1 x2 x3 x4 x5 h).readCov arg16.view inb_S4096x1_S512x1_2560_0
  have hq := h.q.readAt harg1 inb_S4096x256_S512x256_2560_0
  have hg := h.g.readAt harg4 inb_S4096x128_S512x128_2560_0
  have hv := h.kv.readAt harg2 inb_S4096x256_S512x128_2560_128
  have hl := h.l.readAt harg5 inb_S4096x128_S512x1_2560_0
  have hp := pD_arr (w := w) (s := 2560) hq hk hl
  have hd := ds512_arr (w := w) (s := 2560) (t := 2560) hp hg hv ht
  have a1 := dq_read h1 arg13.view inb_S4096x256_S512x256_2560_0
  have a2 := (h2.readCov arg14.view inb_S512x256_S512x256_0_0).congr (g := fun j d => ((w.dk 2560 2560 (2560 + j) d : ℝ) : EReal)) (fun j d _ _ => by simp only [Nat.zero_add])
  have a3 := (h3.readCov arg15.view inb_S512x128_S512x128_0_0).congr (g := fun j d => ((w.dv 2560 2560 (2560 + j) d : ℝ) : EReal)) (fun j d _ _ => by simp only [Nat.zero_add])
  have b1 := dq_store h1 (dq512_arr (w := w) (s := 2560) (t := 2560) a1 hd hk) inb_S4096x256_S512x256_2560_0
  have b2 := Arr.whole (dk512_arr (w := w) (s := 2560) (t := 2560) (by decide) a2 hd hq) inb_S512x256_S512x256_0_0 (kernelRun0_B.sl.HS2_25 (F := Ideal) c arg1 harg1 arg2 harg2 arg3 harg3 arg4 harg4 arg5 harg5 arg6 harg6 arg12 arg14 arg16 x0 x1 x2 x3 x4 x5)
  have b3 := Arr.whole (dv512_arr (w := w) (s := 2560) (t := 2560) (by decide) a3 hp hg) inb_S512x128_S512x128_0_0 (kernelRun0_B.sl.HS3_25 (F := Ideal) c arg1 harg1 arg2 harg2 arg3 harg3 arg4 harg4 arg5 harg5 arg12 arg15 x0 x1 x2 x3 x4)
  exact ⟨b1, b2, b3⟩

theorem block20
    (h1 : Arr (n := 4096) (m := 256) (View.canon (kernelRun0_B.sl.HS1_21 (F := Ideal) c arg1 harg1 arg2 harg2 arg3 harg3 arg4 harg4 arg5 harg5 arg6 harg6 arg12 arg13 arg16 x0 x1 x2 x3 x4 x5)) (fun i d => ((w.dq (if i < 3072 then 2560 + 512 else 2560) i d : ℝ) : EReal)))
    (h2 : Arr (n := 512) (m := 256) (View.canon (kernelRun0_B.sl.HS2_26 (F := Ideal) c arg1 harg1 arg2 harg2 arg3 harg3 arg4 harg4 arg5 harg5 arg6 harg6 arg12 arg14 arg16 x0 x1 x2 x3 x4 x5)) (fun j d => ((w.dk 2560 3072 (2560 + j) d : ℝ) : EReal)))
    (h3 : Arr (n := 512) (m := 128) (View.canon (kernelRun0_B.sl.HS3_26 (F := Ideal) c arg1 harg1 arg2 harg2 arg3 harg3 arg4 harg4 arg5 harg5 arg12 arg15 x0 x1 x2 x3 x4)) (fun j d => ((w.dv 2560 3072 (2560 + j) d : ℝ) : EReal))) :
    Arr (n := 4096) (m := 256) (View.canon (kernelRun0_B.sl.HS1_22 (F := Ideal) c arg1 harg1 arg2 harg2 arg3 harg3 arg4 harg4 arg5 harg5 arg6 harg6 arg12 arg13 arg16 x0 x1 x2 x3 x4 x5)) (fun i d => ((w.dq (if i < 3072 + 1024 then 2560 + 512 else 2560) i d : ℝ) : EReal))
    ∧ Arr (n := 512) (m := 256) (View.canon (kernelRun0_B.sl.HS2_27 (F := Ideal) c arg1 harg1 arg2 harg2 arg3 harg3 arg4 harg4 arg5 harg5 arg6 harg6 arg12 arg14 arg16 x0 x1 x2 x3 x4 x5)) (fun j d => ((w.dk 2560 (3072 + 1024) (2560 + j) d : ℝ) : EReal))
    ∧ Arr (n := 512) (m := 128) (View.canon (kernelRun0_B.sl.HS3_27 (F := Ideal) c arg1 harg1 arg2 harg2 arg3 harg3 arg4 harg4 arg5 harg5 arg12 arg15 x0 x1 x2 x3 x4)) (fun j d => ((w.dv 2560 (3072 + 1024) (2560 + j) d : ℝ) : EReal)) := by
  have hk := (keys c arg2 harg2 arg3 harg3 x0 x1 x2 x3 x4 x5 h).readCov arg12.view inb_S4096x256_S512x256_2560_0
  have ht := (rows c arg4 harg4 arg6 harg6 x0 x1 x2 x3 x4 x5 h).readCov arg16.view inb_S4096x1_S1024x1_3072_0
  have hq := h.q.readAt harg1 inb_S4096x256_S1024x256_3072_0
  have hg := h.g.readAt harg4 inb_S4096x128_S1024x128_3072_0
  have hv := h.kv.readAt harg2 inb_S4096x256_S512x128_2560_128
  have hl := h.l.readAt harg5 inb_S4096x128_S1024x1_3072_0
  have hp := p1024_arr (w := w) (s := 3072) (t := 2560) (by decide) hq hk hl
  have hd := ds1024_arr (w := w) (s := 3072) (t := 2560) hp hg hv ht
  have a1 := dq_read h1 arg13.view inb_S4096x256_S1024x256_3072_0
  have a2 := (h2.readCov arg14.view inb_S512x256_S512x256_0_0).congr (g := fun j d => ((w.dk 2560 3072 (2560 + j) d : ℝ) : EReal)) (fun j d _ _ => by simp only [Nat.zero_add])
  have a3 := (h3.readCov arg15.view inb_S512x128_S512x128_0_0).congr (g := fun j d => ((w.dv 2560 3072 (2560 + j) d : ℝ) : EReal)) (fun j d _ _ => by simp only [Nat.zero_add])
  have b1 := dq_store h1 (dq1024_arr (w := w) (s := 3072) (t := 2560) a1 hd hk) inb_S4096x256_S1024x256_3072_0
  have b2 := Arr.whole (dk1024_arr (w := w) (s := 3072) (t := 2560) (by decide) a2 hd hq) inb_S512x256_S512x256_0_0 (kernelRun0_B.sl.HS2_26 (F := Ideal) c arg1 harg1 arg2 harg2 arg3 harg3 arg4 harg4 arg5 harg5 arg6 harg6 arg12 arg14 arg16 x0 x1 x2 x3 x4 x5)
  have b3 := Arr.whole (dv1024_arr (w := w) (s := 3072) (t := 2560) (by decide) a3 hp hg) inb_S512x128_S512x128_0_0 (kernelRun0_B.sl.HS3_26 (F := Ideal) c arg1 harg1 arg2 harg2 arg3 harg3 arg4 harg4 arg5 harg5 arg12 arg15 x0 x1 x2 x3 x4)
  exact ⟨b1, b2, b3⟩

theorem block21
    (h1 : Arr (n := 4096) (m := 256) (View.canon (kernelRun0_B.sl.HS1_22 (F := Ideal) c arg1 harg1 arg2 harg2 arg3 harg3 arg4 harg4 arg5 harg5 arg6 harg6 arg12 arg13 arg16 x0 x1 x2 x3 x4 x5)) (fun i d => ((w.dq (if i < 3072 then 3072 + 512 else 3072) i d : ℝ) : EReal)))
    (h2 : Arr (n := 512) (m := 256) (View.canon (kernelRun0_B.sl.HS2_28 (F := Ideal) c arg1 harg1 arg2 harg2 arg3 harg3 arg4 harg4 arg5 harg5 arg6 harg6 arg12 arg14 arg16 x0 x1 x2 x3 x4 x5)) (fun j d => ((w.dk 3072 3072 (3072 + j) d : ℝ) : EReal)))
    (h3 : Arr (n := 512) (m := 128) (View.canon (kernelRun0_B.sl.HS3_28 (F := Ideal) c arg1 harg1 arg2 harg2 arg3 harg3 arg4 harg4 arg5 harg5 arg12 arg15 x0 x1 x2 x3 x4)) (fun j d => ((w.dv 3072 3072 (3072 + j) d : ℝ) : EReal))) :
    Arr (n := 4096) (m := 256) (View.canon (kernelRun0_B.sl.HS1_23 (F := Ideal) c arg1 harg1 arg2 harg2 arg3 harg3 arg4 harg4 arg5 harg5 arg6 harg6 arg12 arg13 arg16 x0 x1 x2 x3 x4 x5)) (fun i d => ((w.dq (if i < 3072 + 512 then 3072 + 512 else 3072) i d : ℝ) : EReal))
    ∧ Arr (n := 512) (m := 256) (View.canon (kernelRun0_B.sl.HS2_29 (F := Ideal) c arg1 harg1 arg2 harg2 arg3 harg3 arg4 harg4 arg5 harg5 arg6 harg6 arg12 arg14 arg16 x0 x1 x2 x3 x4 x5)) (fun j d => ((w.dk 3072 (3072 + 512) (3072 + j) d : ℝ) : EReal))
    ∧ Arr (n := 512) (m := 128) (View.canon (kernelRun0_B.sl.HS3_29 (F := Ideal) c arg1 harg1 arg2 harg2 arg3 harg3 arg4 harg4 arg5 harg5 arg12 arg15 x0 x1 x2 x3 x4)) (fun j d => ((w.dv 3072 (3072 + 512) (3072 + j) d : ℝ) : EReal)) := by
  have hk := (keys c arg2 harg2 arg3 harg3 x0 x1 x2 x3 x4 x5 h).readCov arg12.view inb_S4096x256_S512x256_3072_0
  have ht := (rows c arg4 harg4 arg6 harg6 x0 x1 x2 x3 x4 x5 h).readCov arg16.view inb_S4096x1_S512x1_3072_0
  have hq := h.q.readAt harg1 inb_S4096x256_S512x256_3072_0
  have hg := h.g.readAt harg4 inb_S4096x128_S512x128_3072_0
  have hv := h.kv.readAt harg2 inb_S4096x256_S512x128_3072_128
  have hl := h.l.readAt harg5 inb_S4096x128_S512x1_3072_0
  have hp := pD_arr (w := w) (s := 3072) hq hk hl
  have hd := ds512_arr (w := w) (s := 3072) (t := 3072) hp hg hv ht
  have a1 := dq_read h1 arg13.view inb_S4096x256_S512x256_3072_0
  have a2 := (h2.readCov arg14.view inb_S512x256_S512x256_0_0).congr (g := fun j d => ((w.dk 3072 3072 (3072 + j) d : ℝ) : EReal)) (fun j d _ _ => by simp only [Nat.zero_add])
  have a3 := (h3.readCov arg15.view inb_S512x128_S512x128_0_0).congr (g := fun j d => ((w.dv 3072 3072 (3072 + j) d : ℝ) : EReal)) (fun j d _ _ => by simp only [Nat.zero_add])
  have b1 := dq_store h1 (dq512_arr (w := w) (s := 3072) (t := 3072) a1 hd hk) inb_S4096x256_S512x256_3072_0
  have b2 := Arr.whole (dk512_arr (w := w) (s := 3072) (t := 3072) (by decide) a2 hd hq) inb_S512x256_S512x256_0_0 (kernelRun0_B.sl.HS2_28 (F := Ideal) c arg1 harg1 arg2 harg2 arg3 harg3 arg4 harg4 arg5 harg5 arg6 harg6 arg12 arg14 arg16 x0 x1 x2 x3 x4 x5)
  have b3 := Arr.whole (dv512_arr (w := w) (s := 3072) (t := 3072) (by decide) a3 hp hg) inb_S512x128_S512x128_0_0 (kernelRun0_B.sl.HS3_28 (F := Ideal) c arg1 harg1 arg2 harg2 arg3 harg3 arg4 harg4 arg5 harg5 arg12 arg15 x0 x1 x2 x3 x4)
  exact ⟨b1, b2, b3⟩

theorem block22
    (h1 : Arr (n := 4096) (m := 256) (View.canon (kernelRun0_B.sl.HS1_23 (F := Ideal) c arg1 harg1 arg2 harg2 arg3 harg3 arg4 harg4 arg5 harg5 arg6 harg6 arg12 arg13 arg16 x0 x1 x2 x3 x4 x5)) (fun i d => ((w.dq (if i < 3584 then 3072 + 512 else 3072) i d : ℝ) : EReal)))
    (h2 : Arr (n := 512) (m := 256) (View.canon (kernelRun0_B.sl.HS2_29 (F := Ideal) c arg1 harg1 arg2 harg2 arg3 harg3 arg4 harg4 arg5 harg5 arg6 harg6 arg12 arg14 arg16 x0 x1 x2 x3 x4 x5)) (fun j d => ((w.dk 3072 3584 (3072 + j) d : ℝ) : EReal)))
    (h3 : Arr (n := 512) (m := 128) (View.canon (kernelRun0_B.sl.HS3_29 (F := Ideal) c arg1 harg1 arg2 harg2 arg3 harg3 arg4 harg4 arg5 harg5 arg12 arg15 x0 x1 x2 x3 x4)) (fun j d => ((w.dv 3072 3584 (3072 + j) d : ℝ) : EReal))) :
    Arr (n := 4096) (m := 256) (View.canon (kernelRun0_B.sl.HS1_24 (F := Ideal) c arg1 harg1 arg2 harg2 arg3 harg3 arg4 harg4 arg5 harg5 arg6 harg6 arg12 arg13 arg16 x0 x1 x2 x3 x4 x5)) (fun i d => ((w.dq (if i < 3584 + 512 then 3072 + 512 else 3072) i d : ℝ) : EReal))
    ∧ Arr (n := 512) (m := 256) (View.canon (kernelRun0_B.sl.HS2_30 (F := Ideal) c arg1 harg1 arg2 harg2 arg3 harg3 arg4 harg4 arg5 harg5 arg6 harg6 arg12 arg14 arg16 x0 x1 x2 x3 x4 x5)) (fun j d => ((w.dk 3072 (3584 + 512) (3072 + j) d : ℝ) : EReal))
    ∧ Arr (n := 512) (m := 128) (View.canon (kernelRun0_B.sl.HS3_30 (F := Ideal) c arg1 harg1 arg2 harg2 arg3 harg3 arg4 harg4 arg5 harg5 arg12 arg15 x0 x1 x2 x3 x4)) (fun j d => ((w.dv 3072 (3584 + 512) (3072 + j) d : ℝ) : EReal)) := by
  have hk := (keys c arg2 harg2 arg3 harg3 x0 x1 x2 x3 x4 x5 h).readCov arg12.view inb_S4096x256_S512x256_3072_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_3072_128
  have hl := h.l.readAt harg5 inb_S4096x128_S512x1_3584_0
  have hp := p512_arr (w := w) (s := 3584) (t := 3072) (by decide) hq hk hl
  have hd := ds512_arr (w := w) (s := 3584) (t := 3072) hp hg hv ht
  have a1 := dq_read h1 arg13.view inb_S4096x256_S512x256_3584_0
  have a2 := (h2.readCov arg14.view inb_S512x256_S512x256_0_0).congr (g := fun j d => ((w.dk 3072 3584 (3072 + j) d : ℝ) : EReal)) (fun j d _ _ => by simp only [Nat.zero_add])
  have a3 := (h3.readCov arg15.view inb_S512x128_S512x128_0_0).congr (g := fun j d => ((w.dv 3072 3584 (3072 + j) d : ℝ) : EReal)) (fun j d _ _ => by simp only [Nat.zero_add])
  have b1 := dq_store h1 (dq512_arr (w := w) (s := 3584) (t := 3072) a1 hd hk) inb_S4096x256_S512x256_3584_0
  have b2 := Arr.whole (dk512_arr (w := w) (s := 3584) (t := 3072) (by decide) a2 hd hq) inb_S512x256_S512x256_0_0 (kernelRun0_B.sl.HS2_29 (F := Ideal) c arg1 harg1 arg2 harg2 arg3 harg3 arg4 harg4 arg5 harg5 arg6 harg6 arg12 arg14 arg16 x0 x1 x2 x3 x4 x5)
  have b3 := Arr.whole (dv512_arr (w := w) (s := 3584) (t := 3072) (by decide) a3 hp hg) inb_S512x128_S512x128_0_0 (kernelRun0_B.sl.HS3_29 (F := Ideal) c arg1 harg1 arg2 harg2 arg3 harg3 arg4 harg4 arg5 harg5 arg12 arg15 x0 x1 x2 x3 x4)
  exact ⟨b1, b2, b3⟩

theorem block23
    (h1 : Arr (n := 4096) (m := 256) (View.canon (kernelRun0_B.sl.HS1_24 (F := Ideal) c arg1 harg1 arg2 harg2 arg3 harg3 arg4 harg4 arg5 harg5 arg6 harg6 arg12 arg13 arg16 x0 x1 x2 x3 x4 x5)) (fun i d => ((w.dq (if i < 3584 then 3584 + 512 else 3584) i d : ℝ) : EReal)))
    (h2 : Arr (n := 512) (m := 256) (View.canon (kernelRun0_B.sl.HS2_31 (F := Ideal) c arg1 harg1 arg2 harg2 arg3 harg3 arg4 harg4 arg5 harg5 arg6 harg6 arg12 arg14 arg16 x0 x1 x2 x3 x4 x5)) (fun j d => ((w.dk 3584 3584 (3584 + j) d : ℝ) : EReal)))
    (h3 : Arr (n := 512) (m := 128) (View.canon (kernelRun0_B.sl.HS3_31 (F := Ideal) c arg1 harg1 arg2 harg2 arg3 harg3 arg4 harg4 arg5 harg5 arg12 arg15 x0 x1 x2 x3 x4)) (fun j d => ((w.dv 3584 3584 (3584 + j) d : ℝ) : EReal))) :
    Arr (n := 4096) (m := 256) (View.canon (kernelRun0_B.sl.HS1_25 (F := Ideal) c arg1 harg1 arg2 harg2 arg3 harg3 arg4 harg4 arg5 harg5 arg6 harg6 arg12 arg13 arg16 x0 x1 x2 x3 x4 x5)) (fun i d => ((w.dq (if i < 3584 + 512 then 3584 + 512 else 3584) i d : ℝ) : EReal))
    ∧ Arr (n := 512) (m := 256) (View.canon (kernelRun0_B.sl.HS2_32 (F := Ideal) c arg1 harg1 arg2 harg2 arg3 harg3 arg4 harg4 arg5 harg5 arg6 harg6 arg12 arg14 arg16 x0 x1 x2 x3 x4 x5)) (fun j d => ((w.dk 3584 (3584 + 512) (3584 + j) d : ℝ) : EReal))
    ∧ Arr (n := 512) (m := 128) (View.canon (kernelRun0_B.sl.HS3_32 (F := Ideal) c arg1 harg1 arg2 harg2 arg3 harg3 arg4 harg4 arg5 harg5 arg12 arg15 x0 x1 x2 x3 x4)) (fun j d => ((w.dv 3584 (3584 + 512) (3584 + j) d : ℝ) : EReal)) := by
  have hk := (keys c arg2 harg2 arg3 harg3 x0 x1 x2 x3 x4 x5 h).readCov arg12.view inb_S4096x256_S512x256_3584_0
  have ht := (rows c arg4 harg4 arg6 harg6 x0 x1 x2 x3 x4 x5 h).readCov arg16.view inb_S4096x1_S512x1_3584_0
  have hq := h.q.readAt harg1 inb_S4096x256_S512x256_3584_0
  have hg := h.g.readAt harg4 inb_S4096x128_S512x128_3584_0
  have hv := h.kv.readAt harg2 inb_S4096x256_S512x128_3584_128
  have hl := h.l.readAt harg5 inb_S4096x128_S512x1_3584_0
  have hp := pD_arr (w := w) (s := 3584) hq hk hl
  have hd := ds512_arr (w := w) (s := 3584) (t := 3584) hp hg hv ht
  have a1 := dq_read h1 arg13.view inb_S4096x256_S512x256_3584_0
  have a2 := (h2.readCov arg14.view inb_S512x256_S512x256_0_0).congr (g := fun j d => ((w.dk 3584 3584 (3584 + j) d : ℝ) : EReal)) (fun j d _ _ => by simp only [Nat.zero_add])
  have a3 := (h3.readCov arg15.view inb_S512x128_S512x128_0_0).congr (g := fun j d => ((w.dv 3584 3584 (3584 + j) d : ℝ) : EReal)) (fun j d _ _ => by simp only [Nat.zero_add])
  have b1 := dq_store h1 (dq512_arr (w := w) (s := 3584) (t := 3584) a1 hd hk) inb_S4096x256_S512x256_3584_0
  have b2 := Arr.whole (dk512_arr (w := w) (s := 3584) (t := 3584) (by decide) a2 hd hq) inb_S512x256_S512x256_0_0 (kernelRun0_B.sl.HS2_31 (F := Ideal) c arg1 harg1 arg2 harg2 arg3 harg3 arg4 harg4 arg5 harg5 arg6 harg6 arg12 arg14 arg16 x0 x1 x2 x3 x4 x5)
  have b3 := Arr.whole (dv512_arr (w := w) (s := 3584) (t := 3584) (by decide) a3 hp hg) inb_S512x128_S512x128_0_0 (kernelRun0_B.sl.HS3_31 (F := Ideal) c arg1 harg1 arg2 harg2 arg3 harg3 arg4 harg4 arg5 harg5 arg12 arg15 x0 x1 x2 x3 x4)
  exact ⟨b1, b2, b3⟩

end Cert.PointB

end
-- ==== Proof.EndB.lean ====
/- What a point after a group's first leaves of its three results. -/
module

public import proofs.«01_k».proof.Proof.Out
public import proofs.«01_k».proof.Proof.RunB
public import proofs.«01_k».proof.Proof.Gen.KernelIdeal.Frame

@[expose] public section

set_option maxRecDepth 16384

noncomputable section

namespace Cert.PointB

open Idealize.ShloMosaic Idealize.ShloMosaic.TcCoe Cert.KernelIdeal Cert.KernelIdeal.Gen Cert.Hold Cert.Block Cert.Steps Cert.Out

variable (c : Dev nD) (i : grid0.Coords)
  (arg1 : Memref sig .tc .vmem S4096x256 .bf16) (harg1 : arg1.IsWhole)
  (arg2 : Memref sig .tc .vmem S4096x256 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x256 .bf16) (harg9 : arg9.IsWhole)
  (arg10 : Memref sig .tc .vmem S4096x256 .bf16) (harg10 : arg10.IsWhole)
  (arg11 : Memref sig .tc .vmem S4096x128 .f32) (harg11 : arg11.IsWhole)
  (arg12 : Memref sig .tc .vmem S4096x256 .bf16) (harg12 : arg12.IsWhole)
  (arg13 : Memref sig .tc .vmem S4096x256 .f32) (harg13 : arg13.IsWhole)
  (arg14 : Memref sig .tc .vmem S512x256 .f32) (harg14 : arg14.IsWhole)
  (arg15 : Memref sig .tc .vmem S512x128 .f32) (harg15 : arg15.IsWhole)
  (arg16 : Memref sig .tc .vmem S4096x1 .f32) (harg16 : arg16.IsWhole)
variable (hc0 : ¬ cond0_0 i) (x0 : Vec Ideal S4096x256 .bf16) (x1 : Vec Ideal S4096x256 .bf16) (x2 : Vec Ideal S4096x128 .bf16) (x3 : Vec Ideal S4096x128 .bf16) (x4 : Vec Ideal S4096x128 .f32) (x5 : Vec Ideal S4096x128 .f32) (x6 : Vec Ideal S4096x128 .f32) (x7 : Vec Ideal S4096x128 .f32) (xo10 : Vec Ideal S4096x128 .f32)
variable {w : Rows} {C S acc : ℕ → ℕ → ℝ} (h : Ins w x0 x1 x2 x3 x4 x5)
  (hC : Arr (n := 4096) (m := 128) x6 (fun i d => ((C i d : ℝ) : EReal))) (hS : Arr (n := 4096) (m := 128) x7 (fun i d => ((S i d : ℝ) : EReal)))
  (hacc : Arr (n := 4096) (m := 128) xo10 (fun i d => ((acc i d : ℝ) : EReal)))

include h in
theorem keys0 :
    Arr (n := 4096) (m := 256) (View.canon (kernelRun0_B.sl.HS1_6 (F := Ideal) c arg1 harg1 arg2 harg2 arg3 harg3 arg4 harg4 arg5 harg5 arg6 harg6 arg12 arg13 arg16 x0 x1 x2 x3 x4 x5)) (fun i d => ((w.dq 512 i d : ℝ) : EReal))
    ∧ Arr (n := 512) (m := 256) (View.canon (kernelRun0_B.sl.HS2_6 (F := Ideal) c arg1 harg1 arg2 harg2 arg3 harg3 arg4 harg4 arg5 harg5 arg6 harg6 arg12 arg14 arg16 x0 x1 x2 x3 x4 x5)) (fun j d => ((w.dk 0 4096 (0 + j) d : ℝ) : EReal))
    ∧ Arr (n := 512) (m := 128) (View.canon (kernelRun0_B.sl.HS3_6 (F := Ideal) c arg1 harg1 arg2 harg2 arg3 harg3 arg4 harg4 arg5 harg5 arg12 arg15 x0 x1 x2 x3 x4)) (fun j d => ((w.dv 0 4096 (0 + j) d : ℝ) : EReal)) := by
  have a1 : Arr (n := 4096) (m := 256) (View.canon (kernelRun0_B.sl.HS1_1 (F := Ideal))) (fun i d => ((w.dq (if i < 0 then 0 + 512 else 0) i d : ℝ) : EReal)) := zero x0 x1 x2 x3 x4 x5 h
  have a2 : Arr (n := 512) (m := 256) (View.canon (kernelRun0_B.sl.HS2_1 (F := Ideal))) (fun j d => ((w.dk 0 0 (0 + j) d : ℝ) : EReal)) :=
    Arr.whole (zero_k fun j d => dk_zero 0 (0 + j) d) inb_S512x256_S512x256_0_0 []
  have a3 : Arr (n := 512) (m := 128) (View.canon (kernelRun0_B.sl.HS3_1 (F := Ideal))) (fun j d => ((w.dv 0 0 (0 + j) d : ℝ) : EReal)) :=
    Arr.whole (zero_v fun j d => dv_zero 0 (0 + j) d) inb_S512x128_S512x128_0_0 []
  have b0 := block0 c arg1 harg1 arg2 harg2 arg3 harg3 arg4 harg4 arg5 harg5 arg6 harg6 arg12 arg13 arg14 arg15 arg16 x0 x1 x2 x3 x4 x5 h a1 a2 a3
  have b1 := block1 c arg1 harg1 arg2 harg2 arg3 harg3 arg4 harg4 arg5 harg5 arg6 harg6 arg12 arg13 arg14 arg15 arg16 x0 x1 x2 x3 x4 x5 h b0.1 b0.2.1 b0.2.2
  have b2 := block2 c arg1 harg1 arg2 harg2 arg3 harg3 arg4 harg4 arg5 harg5 arg6 harg6 arg12 arg13 arg14 arg15 arg16 x0 x1 x2 x3 x4 x5 h b1.1 b1.2.1 b1.2.2
  have b3 := block3 c arg1 harg1 arg2 harg2 arg3 harg3 arg4 harg4 arg5 harg5 arg6 harg6 arg12 arg13 arg14 arg15 arg16 x0 x1 x2 x3 x4 x5 h b2.1 b2.2.1 b2.2.2
  have b4 := block4 c arg1 harg1 arg2 harg2 arg3 harg3 arg4 harg4 arg5 harg5 arg6 harg6 arg12 arg13 arg14 arg15 arg16 x0 x1 x2 x3 x4 x5 h b3.1 b3.2.1 b3.2.2
  refine ⟨b4.1.congr fun i d hi _ => ?_, b4.2.1.congr fun j d _ _ => ?_, b4.2.2.congr fun j d _ _ => ?_⟩
  · beta_reduce
    rw [if_pos hi]
  · beta_reduce
    rw [← dk_low w (Nat.le_add_right 0 j) (by decide)]
  · beta_reduce
    rw [← dv_low w (Nat.le_add_right 0 j) (by decide)]

include h in
theorem keys1 :
    Arr (n := 4096) (m := 256) (View.canon (kernelRun0_B.sl.HS1_10 (F := Ideal) c arg1 harg1 arg2 harg2 arg3 harg3 arg4 harg4 arg5 harg5 arg6 harg6 arg12 arg13 arg16 x0 x1 x2 x3 x4 x5)) (fun i d => ((w.dq 1024 i d : ℝ) : EReal))
    ∧ Arr (n := 512) (m := 256) (View.canon (kernelRun0_B.sl.HS2_11 (F := Ideal) c arg1 harg1 arg2 harg2 arg3 harg3 arg4 harg4 arg5 harg5 arg6 harg6 arg12 arg14 arg16 x0 x1 x2 x3 x4 x5)) (fun j d => ((w.dk 0 4096 (512 + j) d : ℝ) : EReal))
    ∧ Arr (n := 512) (m := 128) (View.canon (kernelRun0_B.sl.HS3_11 (F := Ideal) c arg1 harg1 arg2 harg2 arg3 harg3 arg4 harg4 arg5 harg5 arg12 arg15 x0 x1 x2 x3 x4)) (fun j d => ((w.dv 0 4096 (512 + j) d : ℝ) : EReal)) := by
  have a1 : Arr (n := 4096) (m := 256) (View.canon (kernelRun0_B.sl.HS1_6 (F := Ideal) c arg1 harg1 arg2 harg2 arg3 harg3 arg4 harg4 arg5 harg5 arg6 harg6 arg12 arg13 arg16 x0 x1 x2 x3 x4 x5)) (fun i d => ((w.dq (if i < 512 then 512 + 512 else 512) i d : ℝ) : EReal)) := by
    refine (keys0 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_B.sl.HS2_7 (F := Ideal) c arg1 harg1 arg2 harg2 arg3 harg3 arg4 harg4 arg5 harg5 arg6 harg6 arg12 arg14 arg16 x0 x1 x2 x3 x4 x5)) (fun j d => ((w.dk 512 512 (512 + j) d : ℝ) : EReal)) :=
    Arr.whole (zero_k fun j d => dk_zero 512 (512 + j) d) inb_S512x256_S512x256_0_0 (kernelRun0_B.sl.HS2_6 (F := Ideal) c arg1 harg1 arg2 harg2 arg3 harg3 arg4 harg4 arg5 harg5 arg6 harg6 arg12 arg14 arg16 x0 x1 x2 x3 x4 x5)
  have a3 : Arr (n := 512) (m := 128) (View.canon (kernelRun0_B.sl.HS3_7 (F := Ideal) c arg1 harg1 arg2 harg2 arg3 harg3 arg4 harg4 arg5 harg5 arg12 arg15 x0 x1 x2 x3 x4)) (fun j d => ((w.dv 512 512 (512 + j) d : ℝ) : EReal)) :=
    Arr.whole (zero_v fun j d => dv_zero 512 (512 + j) d) inb_S512x128_S512x128_0_0 (kernelRun0_B.sl.HS3_6 (F := Ideal) c arg1 harg1 arg2 harg2 arg3 harg3 arg4 harg4 arg5 harg5 arg12 arg15 x0 x1 x2 x3 x4)
  have b5 := block5 c arg1 harg1 arg2 harg2 arg3 harg3 arg4 harg4 arg5 harg5 arg6 harg6 arg12 arg13 arg14 arg15 arg16 x0 x1 x2 x3 x4 x5 h a1 a2 a3
  have b6 := block6 c arg1 harg1 arg2 harg2 arg3 harg3 arg4 harg4 arg5 harg5 arg6 harg6 arg12 arg13 arg14 arg15 arg16 x0 x1 x2 x3 x4 x5 h b5.1 b5.2.1 b5.2.2
  have b7 := block7 c arg1 harg1 arg2 harg2 arg3 harg3 arg4 harg4 arg5 harg5 arg6 harg6 arg12 arg13 arg14 arg15 arg16 x0 x1 x2 x3 x4 x5 h b6.1 b6.2.1 b6.2.2
  have b8 := block8 c arg1 harg1 arg2 harg2 arg3 harg3 arg4 harg4 arg5 harg5 arg6 harg6 arg12 arg13 arg14 arg15 arg16 x0 x1 x2 x3 x4 x5 h b7.1 b7.2.1 b7.2.2
  refine ⟨b8.1.congr fun i d hi _ => ?_, b8.2.1.congr fun j d _ _ => ?_, b8.2.2.congr fun j d _ _ => ?_⟩
  · beta_reduce
    rw [if_pos hi]
  · beta_reduce
    rw [← dk_low w (Nat.le_add_right 512 j) (by decide)]
  · beta_reduce
    rw [← dv_low w (Nat.le_add_right 512 j) (by decide)]

include h in
theorem keys2 :
    Arr (n := 4096) (m := 256) (View.canon (kernelRun0_B.sl.HS1_14 (F := Ideal) c arg1 harg1 arg2 harg2 arg3 harg3 arg4 harg4 arg5 harg5 arg6 harg6 arg12 arg13 arg16 x0 x1 x2 x3 x4 x5)) (fun i d => ((w.dq 1536 i d : ℝ) : EReal))
    ∧ Arr (n := 512) (m := 256) (View.canon (kernelRun0_B.sl.HS2_16 (F := Ideal) c arg1 harg1 arg2 harg2 arg3 harg3 arg4 harg4 arg5 harg5 arg6 harg6 arg12 arg14 arg16 x0 x1 x2 x3 x4 x5)) (fun j d => ((w.dk 0 4096 (1024 + j) d : ℝ) : EReal))
    ∧ Arr (n := 512) (m := 128) (View.canon (kernelRun0_B.sl.HS3_16 (F := Ideal) c arg1 harg1 arg2 harg2 arg3 harg3 arg4 harg4 arg5 harg5 arg12 arg15 x0 x1 x2 x3 x4)) (fun j d => ((w.dv 0 4096 (1024 + j) d : ℝ) : EReal)) := by
  have a1 : Arr (n := 4096) (m := 256) (View.canon (kernelRun0_B.sl.HS1_10 (F := Ideal) c arg1 harg1 arg2 harg2 arg3 harg3 arg4 harg4 arg5 harg5 arg6 harg6 arg12 arg13 arg16 x0 x1 x2 x3 x4 x5)) (fun i d => ((w.dq (if i < 1024 then 1024 + 512 else 1024) i d : ℝ) : EReal)) := by
    refine (keys1 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_B.sl.HS2_12 (F := Ideal) c arg1 harg1 arg2 harg2 arg3 harg3 arg4 harg4 arg5 harg5 arg6 harg6 arg12 arg14 arg16 x0 x1 x2 x3 x4 x5)) (fun j d => ((w.dk 1024 1024 (1024 + j) d : ℝ) : EReal)) :=
    Arr.whole (zero_k fun j d => dk_zero 1024 (1024 + j) d) inb_S512x256_S512x256_0_0 (kernelRun0_B.sl.HS2_11 (F := Ideal) c arg1 harg1 arg2 harg2 arg3 harg3 arg4 harg4 arg5 harg5 arg6 harg6 arg12 arg14 arg16 x0 x1 x2 x3 x4 x5)
  have a3 : Arr (n := 512) (m := 128) (View.canon (kernelRun0_B.sl.HS3_12 (F := Ideal) c arg1 harg1 arg2 harg2 arg3 harg3 arg4 harg4 arg5 harg5 arg12 arg15 x0 x1 x2 x3 x4)) (fun j d => ((w.dv 1024 1024 (1024 + j) d : ℝ) : EReal)) :=
    Arr.whole (zero_v fun j d => dv_zero 1024 (1024 + j) d) inb_S512x128_S512x128_0_0 (kernelRun0_B.sl.HS3_11 (F := Ideal) c arg1 harg1 arg2 harg2 arg3 harg3 arg4 harg4 arg5 harg5 arg12 arg15 x0 x1 x2 x3 x4)
  have b9 := block9 c arg1 harg1 arg2 harg2 arg3 harg3 arg4 harg4 arg5 harg5 arg6 harg6 arg12 arg13 arg14 arg15 arg16 x0 x1 x2 x3 x4 x5 h a1 a2 a3
  have b10 := block10 c arg1 harg1 arg2 harg2 arg3 harg3 arg4 harg4 arg5 harg5 arg6 harg6 arg12 arg13 arg14 arg15 arg16 x0 x1 x2 x3 x4 x5 h b9.1 b9.2.1 b9.2.2
  have b11 := block11 c arg1 harg1 arg2 harg2 arg3 harg3 arg4 harg4 arg5 harg5 arg6 harg6 arg12 arg13 arg14 arg15 arg16 x0 x1 x2 x3 x4 x5 h b10.1 b10.2.1 b10.2.2
  have b12 := block12 c arg1 harg1 arg2 harg2 arg3 harg3 arg4 harg4 arg5 harg5 arg6 harg6 arg12 arg13 arg14 arg15 arg16 x0 x1 x2 x3 x4 x5 h b11.1 b11.2.1 b11.2.2
  refine ⟨b12.1.congr fun i d hi _ => ?_, b12.2.1.congr fun j d _ _ => ?_, b12.2.2.congr fun j d _ _ => ?_⟩
  · beta_reduce
    rw [if_pos hi]
  · beta_reduce
    rw [← dk_low w (Nat.le_add_right 1024 j) (by decide)]
  · beta_reduce
    rw [← dv_low w (Nat.le_add_right 1024 j) (by decide)]

include h in
theorem keys3 :
    Arr (n := 4096) (m := 256) (View.canon (kernelRun0_B.sl.HS1_17 (F := Ideal) c arg1 harg1 arg2 harg2 arg3 harg3 arg4 harg4 arg5 harg5 arg6 harg6 arg12 arg13 arg16 x0 x1 x2 x3 x4 x5)) (fun i d => ((w.dq 2048 i d : ℝ) : EReal))
    ∧ Arr (n := 512) (m := 256) (View.canon (kernelRun0_B.sl.HS2_20 (F := Ideal) c arg1 harg1 arg2 harg2 arg3 harg3 arg4 harg4 arg5 harg5 arg6 harg6 arg12 arg14 arg16 x0 x1 x2 x3 x4 x5)) (fun j d => ((w.dk 0 4096 (1536 + j) d : ℝ) : EReal))
    ∧ Arr (n := 512) (m := 128) (View.canon (kernelRun0_B.sl.HS3_20 (F := Ideal) c arg1 harg1 arg2 harg2 arg3 harg3 arg4 harg4 arg5 harg5 arg12 arg15 x0 x1 x2 x3 x4)) (fun j d => ((w.dv 0 4096 (1536 + j) d : ℝ) : EReal)) := by
  have a1 : Arr (n := 4096) (m := 256) (View.canon (kernelRun0_B.sl.HS1_14 (F := Ideal) c arg1 harg1 arg2 harg2 arg3 harg3 arg4 harg4 arg5 harg5 arg6 harg6 arg12 arg13 arg16 x0 x1 x2 x3 x4 x5)) (fun i d => ((w.dq (if i < 1536 then 1536 + 512 else 1536) i d : ℝ) : EReal)) := by
    refine (keys2 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_B.sl.HS2_17 (F := Ideal) c arg1 harg1 arg2 harg2 arg3 harg3 arg4 harg4 arg5 harg5 arg6 harg6 arg12 arg14 arg16 x0 x1 x2 x3 x4 x5)) (fun j d => ((w.dk 1536 1536 (1536 + j) d : ℝ) : EReal)) :=
    Arr.whole (zero_k fun j d => dk_zero 1536 (1536 + j) d) inb_S512x256_S512x256_0_0 (kernelRun0_B.sl.HS2_16 (F := Ideal) c arg1 harg1 arg2 harg2 arg3 harg3 arg4 harg4 arg5 harg5 arg6 harg6 arg12 arg14 arg16 x0 x1 x2 x3 x4 x5)
  have a3 : Arr (n := 512) (m := 128) (View.canon (kernelRun0_B.sl.HS3_17 (F := Ideal) c arg1 harg1 arg2 harg2 arg3 harg3 arg4 harg4 arg5 harg5 arg12 arg15 x0 x1 x2 x3 x4)) (fun j d => ((w.dv 1536 1536 (1536 + j) d : ℝ) : EReal)) :=
    Arr.whole (zero_v fun j d => dv_zero 1536 (1536 + j) d) inb_S512x128_S512x128_0_0 (kernelRun0_B.sl.HS3_16 (F := Ideal) c arg1 harg1 arg2 harg2 arg3 harg3 arg4 harg4 arg5 harg5 arg12 arg15 x0 x1 x2 x3 x4)
  have b13 := block13 c arg1 harg1 arg2 harg2 arg3 harg3 arg4 harg4 arg5 harg5 arg6 harg6 arg12 arg13 arg14 arg15 arg16 x0 x1 x2 x3 x4 x5 h a1 a2 a3
  have b14 := block14 c arg1 harg1 arg2 harg2 arg3 harg3 arg4 harg4 arg5 harg5 arg6 harg6 arg12 arg13 arg14 arg15 arg16 x0 x1 x2 x3 x4 x5 h b13.1 b13.2.1 b13.2.2
  have b15 := block15 c arg1 harg1 arg2 harg2 arg3 harg3 arg4 harg4 arg5 harg5 arg6 harg6 arg12 arg13 arg14 arg15 arg16 x0 x1 x2 x3 x4 x5 h b14.1 b14.2.1 b14.2.2
  refine ⟨b15.1.congr fun i d hi _ => ?_, b15.2.1.congr fun j d _ _ => ?_, b15.2.2.congr fun j d _ _ => ?_⟩
  · beta_reduce
    rw [if_pos hi]
  · beta_reduce
    rw [← dk_low w (Nat.le_add_right 1536 j) (by decide)]
  · beta_reduce
    rw [← dv_low w (Nat.le_add_right 1536 j) (by decide)]

include h in
theorem keys4 :
    Arr (n := 4096) (m := 256) (View.canon (kernelRun0_B.sl.HS1_20 (F := Ideal) c arg1 harg1 arg2 harg2 arg3 harg3 arg4 harg4 arg5 harg5 arg6 harg6 arg12 arg13 arg16 x0 x1 x2 x3 x4 x5)) (fun i d => ((w.dq 2560 i d : ℝ) : EReal))
    ∧ Arr (n := 512) (m := 256) (View.canon (kernelRun0_B.sl.HS2_24 (F := Ideal) c arg1 harg1 arg2 harg2 arg3 harg3 arg4 harg4 arg5 harg5 arg6 harg6 arg12 arg14 arg16 x0 x1 x2 x3 x4 x5)) (fun j d => ((w.dk 0 4096 (2048 + j) d : ℝ) : EReal))
    ∧ Arr (n := 512) (m := 128) (View.canon (kernelRun0_B.sl.HS3_24 (F := Ideal) c arg1 harg1 arg2 harg2 arg3 harg3 arg4 harg4 arg5 harg5 arg12 arg15 x0 x1 x2 x3 x4)) (fun j d => ((w.dv 0 4096 (2048 + j) d : ℝ) : EReal)) := by
  have a1 : Arr (n := 4096) (m := 256) (View.canon (kernelRun0_B.sl.HS1_17 (F := Ideal) c arg1 harg1 arg2 harg2 arg3 harg3 arg4 harg4 arg5 harg5 arg6 harg6 arg12 arg13 arg16 x0 x1 x2 x3 x4 x5)) (fun i d => ((w.dq (if i < 2048 then 2048 + 512 else 2048) i d : ℝ) : EReal)) := by
    refine (keys3 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_B.sl.HS2_21 (F := Ideal) c arg1 harg1 arg2 harg2 arg3 harg3 arg4 harg4 arg5 harg5 arg6 harg6 arg12 arg14 arg16 x0 x1 x2 x3 x4 x5)) (fun j d => ((w.dk 2048 2048 (2048 + j) d : ℝ) : EReal)) :=
    Arr.whole (zero_k fun j d => dk_zero 2048 (2048 + j) d) inb_S512x256_S512x256_0_0 (kernelRun0_B.sl.HS2_20 (F := Ideal) c arg1 harg1 arg2 harg2 arg3 harg3 arg4 harg4 arg5 harg5 arg6 harg6 arg12 arg14 arg16 x0 x1 x2 x3 x4 x5)
  have a3 : Arr (n := 512) (m := 128) (View.canon (kernelRun0_B.sl.HS3_21 (F := Ideal) c arg1 harg1 arg2 harg2 arg3 harg3 arg4 harg4 arg5 harg5 arg12 arg15 x0 x1 x2 x3 x4)) (fun j d => ((w.dv 2048 2048 (2048 + j) d : ℝ) : EReal)) :=
    Arr.whole (zero_v fun j d => dv_zero 2048 (2048 + j) d) inb_S512x128_S512x128_0_0 (kernelRun0_B.sl.HS3_20 (F := Ideal) c arg1 harg1 arg2 harg2 arg3 harg3 arg4 harg4 arg5 harg5 arg12 arg15 x0 x1 x2 x3 x4)
  have b16 := block16 c arg1 harg1 arg2 harg2 arg3 harg3 arg4 harg4 arg5 harg5 arg6 harg6 arg12 arg13 arg14 arg15 arg16 x0 x1 x2 x3 x4 x5 h a1 a2 a3
  have b17 := block17 c arg1 harg1 arg2 harg2 arg3 harg3 arg4 harg4 arg5 harg5 arg6 harg6 arg12 arg13 arg14 arg15 arg16 x0 x1 x2 x3 x4 x5 h b16.1 b16.2.1 b16.2.2
  have b18 := block18 c arg1 harg1 arg2 harg2 arg3 harg3 arg4 harg4 arg5 harg5 arg6 harg6 arg12 arg13 arg14 arg15 arg16 x0 x1 x2 x3 x4 x5 h b17.1 b17.2.1 b17.2.2
  refine ⟨b18.1.congr fun i d hi _ => ?_, b18.2.1.congr fun j d _ _ => ?_, b18.2.2.congr fun j d _ _ => ?_⟩
  · beta_reduce
    rw [if_pos hi]
  · beta_reduce
    rw [← dk_low w (Nat.le_add_right 2048 j) (by decide)]
  · beta_reduce
    rw [← dv_low w (Nat.le_add_right 2048 j) (by decide)]

include h in
theorem keys5 :
    Arr (n := 4096) (m := 256) (View.canon (kernelRun0_B.sl.HS1_22 (F := Ideal) c arg1 harg1 arg2 harg2 arg3 harg3 arg4 harg4 arg5 harg5 arg6 harg6 arg12 arg13 arg16 x0 x1 x2 x3 x4 x5)) (fun i d => ((w.dq 3072 i d : ℝ) : EReal))
    ∧ Arr (n := 512) (m := 256) (View.canon (kernelRun0_B.sl.HS2_27 (F := Ideal) c arg1 harg1 arg2 harg2 arg3 harg3 arg4 harg4 arg5 harg5 arg6 harg6 arg12 arg14 arg16 x0 x1 x2 x3 x4 x5)) (fun j d => ((w.dk 0 4096 (2560 + j) d : ℝ) : EReal))
    ∧ Arr (n := 512) (m := 128) (View.canon (kernelRun0_B.sl.HS3_27 (F := Ideal) c arg1 harg1 arg2 harg2 arg3 harg3 arg4 harg4 arg5 harg5 arg12 arg15 x0 x1 x2 x3 x4)) (fun j d => ((w.dv 0 4096 (2560 + j) d : ℝ) : EReal)) := by
  have a1 : Arr (n := 4096) (m := 256) (View.canon (kernelRun0_B.sl.HS1_20 (F := Ideal) c arg1 harg1 arg2 harg2 arg3 harg3 arg4 harg4 arg5 harg5 arg6 harg6 arg12 arg13 arg16 x0 x1 x2 x3 x4 x5)) (fun i d => ((w.dq (if i < 2560 then 2560 + 512 else 2560) i d : ℝ) : EReal)) := by
    refine (keys4 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_B.sl.HS2_25 (F := Ideal) c arg1 harg1 arg2 harg2 arg3 harg3 arg4 harg4 arg5 harg5 arg6 harg6 arg12 arg14 arg16 x0 x1 x2 x3 x4 x5)) (fun j d => ((w.dk 2560 2560 (2560 + j) d : ℝ) : EReal)) :=
    Arr.whole (zero_k fun j d => dk_zero 2560 (2560 + j) d) inb_S512x256_S512x256_0_0 (kernelRun0_B.sl.HS2_24 (F := Ideal) c arg1 harg1 arg2 harg2 arg3 harg3 arg4 harg4 arg5 harg5 arg6 harg6 arg12 arg14 arg16 x0 x1 x2 x3 x4 x5)
  have a3 : Arr (n := 512) (m := 128) (View.canon (kernelRun0_B.sl.HS3_25 (F := Ideal) c arg1 harg1 arg2 harg2 arg3 harg3 arg4 harg4 arg5 harg5 arg12 arg15 x0 x1 x2 x3 x4)) (fun j d => ((w.dv 2560 2560 (2560 + j) d : ℝ) : EReal)) :=
    Arr.whole (zero_v fun j d => dv_zero 2560 (2560 + j) d) inb_S512x128_S512x128_0_0 (kernelRun0_B.sl.HS3_24 (F := Ideal) c arg1 harg1 arg2 harg2 arg3 harg3 arg4 harg4 arg5 harg5 arg12 arg15 x0 x1 x2 x3 x4)
  have b19 := block19 c arg1 harg1 arg2 harg2 arg3 harg3 arg4 harg4 arg5 harg5 arg6 harg6 arg12 arg13 arg14 arg15 arg16 x0 x1 x2 x3 x4 x5 h a1 a2 a3
  have b20 := block20 c arg1 harg1 arg2 harg2 arg3 harg3 arg4 harg4 arg5 harg5 arg6 harg6 arg12 arg13 arg14 arg15 arg16 x0 x1 x2 x3 x4 x5 h b19.1 b19.2.1 b19.2.2
  refine ⟨b20.1.congr fun i d hi _ => ?_, b20.2.1.congr fun j d _ _ => ?_, b20.2.2.congr fun j d _ _ => ?_⟩
  · beta_reduce
    rw [if_pos hi]
  · beta_reduce
    rw [← dk_low w (Nat.le_add_right 2560 j) (by decide)]
  · beta_reduce
    rw [← dv_low w (Nat.le_add_right 2560 j) (by decide)]

include h in
theorem keys6 :
    Arr (n := 4096) (m := 256) (View.canon (kernelRun0_B.sl.HS1_24 (F := Ideal) c arg1 harg1 arg2 harg2 arg3 harg3 arg4 harg4 arg5 harg5 arg6 harg6 arg12 arg13 arg16 x0 x1 x2 x3 x4 x5)) (fun i d => ((w.dq 3584 i d : ℝ) : EReal))
    ∧ Arr (n := 512) (m := 256) (View.canon (kernelRun0_B.sl.HS2_30 (F := Ideal) c arg1 harg1 arg2 harg2 arg3 harg3 arg4 harg4 arg5 harg5 arg6 harg6 arg12 arg14 arg16 x0 x1 x2 x3 x4 x5)) (fun j d => ((w.dk 0 4096 (3072 + j) d : ℝ) : EReal))
    ∧ Arr (n := 512) (m := 128) (View.canon (kernelRun0_B.sl.HS3_30 (F := Ideal) c arg1 harg1 arg2 harg2 arg3 harg3 arg4 harg4 arg5 harg5 arg12 arg15 x0 x1 x2 x3 x4)) (fun j d => ((w.dv 0 4096 (3072 + j) d : ℝ) : EReal)) := by
  have a1 : Arr (n := 4096) (m := 256) (View.canon (kernelRun0_B.sl.HS1_22 (F := Ideal) c arg1 harg1 arg2 harg2 arg3 harg3 arg4 harg4 arg5 harg5 arg6 harg6 arg12 arg13 arg16 x0 x1 x2 x3 x4 x5)) (fun i d => ((w.dq (if i < 3072 then 3072 + 512 else 3072) i d : ℝ) : EReal)) := by
    refine (keys5 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_B.sl.HS2_28 (F := Ideal) c arg1 harg1 arg2 harg2 arg3 harg3 arg4 harg4 arg5 harg5 arg6 harg6 arg12 arg14 arg16 x0 x1 x2 x3 x4 x5)) (fun j d => ((w.dk 3072 3072 (3072 + j) d : ℝ) : EReal)) :=
    Arr.whole (zero_k fun j d => dk_zero 3072 (3072 + j) d) inb_S512x256_S512x256_0_0 (kernelRun0_B.sl.HS2_27 (F := Ideal) c arg1 harg1 arg2 harg2 arg3 harg3 arg4 harg4 arg5 harg5 arg6 harg6 arg12 arg14 arg16 x0 x1 x2 x3 x4 x5)
  have a3 : Arr (n := 512) (m := 128) (View.canon (kernelRun0_B.sl.HS3_28 (F := Ideal) c arg1 harg1 arg2 harg2 arg3 harg3 arg4 harg4 arg5 harg5 arg12 arg15 x0 x1 x2 x3 x4)) (fun j d => ((w.dv 3072 3072 (3072 + j) d : ℝ) : EReal)) :=
    Arr.whole (zero_v fun j d => dv_zero 3072 (3072 + j) d) inb_S512x128_S512x128_0_0 (kernelRun0_B.sl.HS3_27 (F := Ideal) c arg1 harg1 arg2 harg2 arg3 harg3 arg4 harg4 arg5 harg5 arg12 arg15 x0 x1 x2 x3 x4)
  have b21 := block21 c arg1 harg1 arg2 harg2 arg3 harg3 arg4 harg4 arg5 harg5 arg6 harg6 arg12 arg13 arg14 arg15 arg16 x0 x1 x2 x3 x4 x5 h a1 a2 a3
  have b22 := block22 c arg1 harg1 arg2 harg2 arg3 harg3 arg4 harg4 arg5 harg5 arg6 harg6 arg12 arg13 arg14 arg15 arg16 x0 x1 x2 x3 x4 x5 h b21.1 b21.2.1 b21.2.2
  refine ⟨b22.1.congr fun i d hi _ => ?_, b22.2.1.congr fun j d _ _ => ?_, b22.2.2.congr fun j d _ _ => ?_⟩
  · beta_reduce
    rw [if_pos hi]
  · beta_reduce
    rw [← dk_low w (Nat.le_add_right 3072 j) (by decide)]
  · beta_reduce
    rw [← dv_low w (Nat.le_add_right 3072 j) (by decide)]

include h in
theorem keys7 :
    Arr (n := 4096) (m := 256) (View.canon (kernelRun0_B.sl.HS1_25 (F := Ideal) c arg1 harg1 arg2 harg2 arg3 harg3 arg4 harg4 arg5 harg5 arg6 harg6 arg12 arg13 arg16 x0 x1 x2 x3 x4 x5)) (fun i d => ((w.dq 4096 i d : ℝ) : EReal))
    ∧ Arr (n := 512) (m := 256) (View.canon (kernelRun0_B.sl.HS2_32 (F := Ideal) c arg1 harg1 arg2 harg2 arg3 harg3 arg4 harg4 arg5 harg5 arg6 harg6 arg12 arg14 arg16 x0 x1 x2 x3 x4 x5)) (fun j d => ((w.dk 0 4096 (3584 + j) d : ℝ) : EReal))
    ∧ Arr (n := 512) (m := 128) (View.canon (kernelRun0_B.sl.HS3_32 (F := Ideal) c arg1 harg1 arg2 harg2 arg3 harg3 arg4 harg4 arg5 harg5 arg12 arg15 x0 x1 x2 x3 x4)) (fun j d => ((w.dv 0 4096 (3584 + j) d : ℝ) : EReal)) := by
  have a1 : Arr (n := 4096) (m := 256) (View.canon (kernelRun0_B.sl.HS1_24 (F := Ideal) c arg1 harg1 arg2 harg2 arg3 harg3 arg4 harg4 arg5 harg5 arg6 harg6 arg12 arg13 arg16 x0 x1 x2 x3 x4 x5)) (fun i d => ((w.dq (if i < 3584 then 3584 + 512 else 3584) i d : ℝ) : EReal)) := by
    refine (keys6 c arg1 harg1 arg2 harg2 arg3 harg3 arg4 harg4 arg5 harg5 arg6 harg6 arg12 arg13 arg14 arg15 arg16 x0 x1 x2 x3 x4 x5 h).1.congr fun i d _ _ => ?_
    beta_reduce
    split
    · rename_i hi; rw [w.dq_above hi]
    · rfl
  have a2 : Arr (n := 512) (m := 256) (View.canon (kernelRun0_B.sl.HS2_31 (F := Ideal) c arg1 harg1 arg2 harg2 arg3 harg3 arg4 harg4 arg5 harg5 arg6 harg6 arg12 arg14 arg16 x0 x1 x2 x3 x4 x5)) (fun j d => ((w.dk 3584 3584 (3584 + j) d : ℝ) : EReal)) :=
    Arr.whole (zero_k fun j d => dk_zero 3584 (3584 + j) d) inb_S512x256_S512x256_0_0 (kernelRun0_B.sl.HS2_30 (F := Ideal) c arg1 harg1 arg2 harg2 arg3 harg3 arg4 harg4 arg5 harg5 arg6 harg6 arg12 arg14 arg16 x0 x1 x2 x3 x4 x5)
  have a3 : Arr (n := 512) (m := 128) (View.canon (kernelRun0_B.sl.HS3_31 (F := Ideal) c arg1 harg1 arg2 harg2 arg3 harg3 arg4 harg4 arg5 harg5 arg12 arg15 x0 x1 x2 x3 x4)) (fun j d => ((w.dv 3584 3584 (3584 + j) d : ℝ) : EReal)) :=
    Arr.whole (zero_v fun j d => dv_zero 3584 (3584 + j) d) inb_S512x128_S512x128_0_0 (kernelRun0_B.sl.HS3_30 (F := Ideal) c arg1 harg1 arg2 harg2 arg3 harg3 arg4 harg4 arg5 harg5 arg12 arg15 x0 x1 x2 x3 x4)
  have b23 := block23 c arg1 harg1 arg2 harg2 arg3 harg3 arg4 harg4 arg5 harg5 arg6 harg6 arg12 arg13 arg14 arg15 arg16 x0 x1 x2 x3 x4 x5 h a1 a2 a3
  refine ⟨b23.1.congr fun i d hi _ => ?_, b23.2.1.congr fun j d _ _ => ?_, b23.2.2.congr fun j d _ _ => ?_⟩
  · beta_reduce
    rw [if_pos hi]
  · beta_reduce
    rw [← dk_low w (Nat.le_add_right 3584 j) (by decide)]
  · beta_reduce
    rw [← dv_low w (Nat.le_add_right 3584 j) (by decide)]

include h hC hS in
theorem out8 : Arr (n := 4096) (m := 256) (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10) (fun i d => ((outQ w C S i d : ℝ) : EReal)) := by
  unfold out0_B_8
  rw [View.read_writes_junk_eq_canon]
  have a := (keys7 c arg1 harg1 arg2 harg2 arg3 harg3 arg4 harg4 arg5 harg5 arg6 harg6 arg12 arg13 arg14 arg15 arg16 x0 x1 x2 x3 x4 x5 h).1.readCov arg13.view inb_S4096x256_S4096x256_0_0
  have hc := hC.readAt harg7 inb_S4096x128_S4096x128_0_0
  have hs := hS.readAt harg8 inb_S4096x128_S4096x128_0_0
  have s0 := On.nil (n := 4096) (m := 256) (View.canon ([] : List (View.Piece (Elt Ideal) S4096x256 .bf16))) (fun i d => ((outQ w C S i d : ℝ) : EReal))
  have s1 := s0.cons (P' := fun _ d => d < 128) (qnope_arr a) inb_S4096x256_S4096x128_0_0 (fun i d hi hd => by
    unfold outQ
    beta_reduce
    rw [if_pos (by omega)]) (fun i d _ _ _ _ => by omega)
  have s2 := s1.cons (P' := fun _ _ => True) (qrope_arr a hc hs) inb_S4096x256_S4096x128_0_128 (fun i d hi hd => by
    unfold outQ
    beta_reduce
    simp only [Nat.zero_add, Nat.add_sub_cancel_left]
    rw [if_neg (show ¬ 128 + d < 128 by omega)]
    by_cases h32 : d < 32
    · rw [if_pos h32, if_pos (by omega), Nat.add_assoc]
    · rw [if_neg h32, if_neg (by omega), Nat.add_sub_assoc (by omega)]) (fun i d _ _ _ _ => by omega)
  exact s2.arr fun _ _ _ _ => trivial

include h in
theorem out9 : Arr (n := 4096) (m := 256) (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10) (fun i d => ((outKV w i d : ℝ) : EReal)) := by
  unfold out0_B_9
  rw [View.read_writes_junk_eq_canon]
  have z0 : On (n := 4096) (m := 256) (fun i _ => i < 0) (View.canon ([] : List (View.Piece (Elt Ideal) S4096x256 .bf16))) (fun i d => ((outKV w i d : ℝ) : EReal)) := fun i d hi => absurd hi (Nat.not_lt_zero _)
  have k0 := keys0 c arg1 harg1 arg2 harg2 arg3 harg3 arg4 harg4 arg5 harg5 arg6 harg6 arg12 arg13 arg14 arg15 arg16 x0 x1 x2 x3 x4 x5 h
  have y0 := z0.cons (P' := fun i d => i < 0 ∨ (i < 512 ∧ d < 128)) (nope_arr (k0.2.1.readCov arg14.view inb_S512x256_S512x256_0_0)) inb_S4096x256_S512x128_0_0 (fun i d hi hd => by
    unfold outKV
    beta_reduce
    rw [if_pos (by omega)]
    simp only [Nat.zero_add]) (fun i d _ _ _ _ => by omega)
  have z1 := y0.cons (P' := fun i _ => i < 512) (val_arr (k0.2.2.readCov arg15.view inb_S512x128_S512x128_0_0)) inb_S4096x256_S512x128_0_128 (fun i d hi hd => by
    unfold outKV
    beta_reduce
    rw [if_neg (by omega)]
    simp only [Nat.zero_add, Nat.add_sub_cancel_left]) (fun i d _ _ _ _ => by omega)
  have k1 := keys1 c arg1 harg1 arg2 harg2 arg3 harg3 arg4 harg4 arg5 harg5 arg6 harg6 arg12 arg13 arg14 arg15 arg16 x0 x1 x2 x3 x4 x5 h
  have y1 := z1.cons (P' := fun i d => i < 512 ∨ (i < 1024 ∧ d < 128)) (nope_arr (k1.2.1.readCov arg14.view inb_S512x256_S512x256_0_0)) inb_S4096x256_S512x128_512_0 (fun i d hi hd => by
    unfold outKV
    beta_reduce
    rw [if_pos (by omega)]
    simp only [Nat.zero_add]) (fun i d _ _ _ _ => by omega)
  have z2 := y1.cons (P' := fun i _ => i < 1024) (val_arr (k1.2.2.readCov arg15.view inb_S512x128_S512x128_0_0)) inb_S4096x256_S512x128_512_128 (fun i d hi hd => by
    unfold outKV
    beta_reduce
    rw [if_neg (by omega)]
    simp only [Nat.zero_add, Nat.add_sub_cancel_left]) (fun i d _ _ _ _ => by omega)
  have k2 := keys2 c arg1 harg1 arg2 harg2 arg3 harg3 arg4 harg4 arg5 harg5 arg6 harg6 arg12 arg13 arg14 arg15 arg16 x0 x1 x2 x3 x4 x5 h
  have y2 := z2.cons (P' := fun i d => i < 1024 ∨ (i < 1536 ∧ d < 128)) (nope_arr (k2.2.1.readCov arg14.view inb_S512x256_S512x256_0_0)) inb_S4096x256_S512x128_1024_0 (fun i d hi hd => by
    unfold outKV
    beta_reduce
    rw [if_pos (by omega)]
    simp only [Nat.zero_add]) (fun i d _ _ _ _ => by omega)
  have z3 := y2.cons (P' := fun i _ => i < 1536) (val_arr (k2.2.2.readCov arg15.view inb_S512x128_S512x128_0_0)) inb_S4096x256_S512x128_1024_128 (fun i d hi hd => by
    unfold outKV
    beta_reduce
    rw [if_neg (by omega)]
    simp only [Nat.zero_add, Nat.add_sub_cancel_left]) (fun i d _ _ _ _ => by omega)
  have k3 := keys3 c arg1 harg1 arg2 harg2 arg3 harg3 arg4 harg4 arg5 harg5 arg6 harg6 arg12 arg13 arg14 arg15 arg16 x0 x1 x2 x3 x4 x5 h
  have y3 := z3.cons (P' := fun i d => i < 1536 ∨ (i < 2048 ∧ d < 128)) (nope_arr (k3.2.1.readCov arg14.view inb_S512x256_S512x256_0_0)) inb_S4096x256_S512x128_1536_0 (fun i d hi hd => by
    unfold outKV
    beta_reduce
    rw [if_pos (by omega)]
    simp only [Nat.zero_add]) (fun i d _ _ _ _ => by omega)
  have z4 := y3.cons (P' := fun i _ => i < 2048) (val_arr (k3.2.2.readCov arg15.view inb_S512x128_S512x128_0_0)) inb_S4096x256_S512x128_1536_128 (fun i d hi hd => by
    unfold outKV
    beta_reduce
    rw [if_neg (by omega)]
    simp only [Nat.zero_add, Nat.add_sub_cancel_left]) (fun i d _ _ _ _ => by omega)
  have k4 := keys4 c arg1 harg1 arg2 harg2 arg3 harg3 arg4 harg4 arg5 harg5 arg6 harg6 arg12 arg13 arg14 arg15 arg16 x0 x1 x2 x3 x4 x5 h
  have y4 := z4.cons (P' := fun i d => i < 2048 ∨ (i < 2560 ∧ d < 128)) (nope_arr (k4.2.1.readCov arg14.view inb_S512x256_S512x256_0_0)) inb_S4096x256_S512x128_2048_0 (fun i d hi hd => by
    unfold outKV
    beta_reduce
    rw [if_pos (by omega)]
    simp only [Nat.zero_add]) (fun i d _ _ _ _ => by omega)
  have z5 := y4.cons (P' := fun i _ => i < 2560) (val_arr (k4.2.2.readCov arg15.view inb_S512x128_S512x128_0_0)) inb_S4096x256_S512x128_2048_128 (fun i d hi hd => by
    unfold outKV
    beta_reduce
    rw [if_neg (by omega)]
    simp only [Nat.zero_add, Nat.add_sub_cancel_left]) (fun i d _ _ _ _ => by omega)
  have k5 := keys5 c arg1 harg1 arg2 harg2 arg3 harg3 arg4 harg4 arg5 harg5 arg6 harg6 arg12 arg13 arg14 arg15 arg16 x0 x1 x2 x3 x4 x5 h
  have y5 := z5.cons (P' := fun i d => i < 2560 ∨ (i < 3072 ∧ d < 128)) (nope_arr (k5.2.1.readCov arg14.view inb_S512x256_S512x256_0_0)) inb_S4096x256_S512x128_2560_0 (fun i d hi hd => by
    unfold outKV
    beta_reduce
    rw [if_pos (by omega)]
    simp only [Nat.zero_add]) (fun i d _ _ _ _ => by omega)
  have z6 := y5.cons (P' := fun i _ => i < 3072) (val_arr (k5.2.2.readCov arg15.view inb_S512x128_S512x128_0_0)) inb_S4096x256_S512x128_2560_128 (fun i d hi hd => by
    unfold outKV
    beta_reduce
    rw [if_neg (by omega)]
    simp only [Nat.zero_add, Nat.add_sub_cancel_left]) (fun i d _ _ _ _ => by omega)
  have k6 := keys6 c arg1 harg1 arg2 harg2 arg3 harg3 arg4 harg4 arg5 harg5 arg6 harg6 arg12 arg13 arg14 arg15 arg16 x0 x1 x2 x3 x4 x5 h
  have y6 := z6.cons (P' := fun i d => i < 3072 ∨ (i < 3584 ∧ d < 128)) (nope_arr (k6.2.1.readCov arg14.view inb_S512x256_S512x256_0_0)) inb_S4096x256_S512x128_3072_0 (fun i d hi hd => by
    unfold outKV
    beta_reduce
    rw [if_pos (by omega)]
    simp only [Nat.zero_add]) (fun i d _ _ _ _ => by omega)
  have z7 := y6.cons (P' := fun i _ => i < 3584) (val_arr (k6.2.2.readCov arg15.view inb_S512x128_S512x128_0_0)) inb_S4096x256_S512x128_3072_128 (fun i d hi hd => by
    unfold outKV
    beta_reduce
    rw [if_neg (by omega)]
    simp only [Nat.zero_add, Nat.add_sub_cancel_left]) (fun i d _ _ _ _ => by omega)
  have k7 := keys7 c arg1 harg1 arg2 harg2 arg3 harg3 arg4 harg4 arg5 harg5 arg6 harg6 arg12 arg13 arg14 arg15 arg16 x0 x1 x2 x3 x4 x5 h
  have y7 := z7.cons (P' := fun i d => i < 3584 ∨ (i < 4096 ∧ d < 128)) (nope_arr (k7.2.1.readCov arg14.view inb_S512x256_S512x256_0_0)) inb_S4096x256_S512x128_3584_0 (fun i d hi hd => by
    unfold outKV
    beta_reduce
    rw [if_pos (by omega)]
    simp only [Nat.zero_add]) (fun i d _ _ _ _ => by omega)
  have z8 := y7.cons (P' := fun i _ => i < 4096) (val_arr (k7.2.2.readCov arg15.view inb_S512x128_S512x128_0_0)) inb_S4096x256_S512x128_3584_128 (fun i d hi hd => by
    unfold outKV
    beta_reduce
    rw [if_neg (by omega)]
    simp only [Nat.zero_add, Nat.add_sub_cancel_left]) (fun i d _ _ _ _ => by omega)
  exact z8.arr fun _ _ hi _ => hi

include h hacc in
theorem out10 : Arr (n := 4096) (m := 128) (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10) (fun i d => ((outR w acc i d : ℝ) : EReal)) := by
  unfold out0_B_10
  rw [View.read_writes_junk_eq_canon]
  have z0 : On (n := 4096) (m := 128) (fun i _ => i < 0) (View.canon ([] : List (View.Piece (Elt Ideal) S4096x128 .f32))) (fun i d => ((outR w acc i d : ℝ) : EReal)) := fun i d hi => absurd hi (Nat.not_lt_zero _)
  have k0 := keys0 c arg1 harg1 arg2 harg2 arg3 harg3 arg4 harg4 arg5 harg5 arg6 harg6 arg12 arg13 arg14 arg15 arg16 x0 x1 x2 x3 x4 x5 h
  have z1 := z0.cons (P' := fun i _ => i < 512) (rope_arr (k0.2.1.readCov arg14.view inb_S512x256_S512x256_0_0) (hacc.readAt harg11 inb_S4096x128_S512x128_0_0)) inb_S4096x128_S512x128_0_0 (fun i d hi hd => by
    unfold outR
    simp only [Nat.zero_add]) (fun i d _ _ _ _ => by omega)
  have k1 := keys1 c arg1 harg1 arg2 harg2 arg3 harg3 arg4 harg4 arg5 harg5 arg6 harg6 arg12 arg13 arg14 arg15 arg16 x0 x1 x2 x3 x4 x5 h
  have z2 := z1.cons (P' := fun i _ => i < 1024) (rope_arr (k1.2.1.readCov arg14.view inb_S512x256_S512x256_0_0) (hacc.readAt harg11 inb_S4096x128_S512x128_512_0)) inb_S4096x128_S512x128_512_0 (fun i d hi hd => by
    unfold outR
    simp only [Nat.zero_add]) (fun i d _ _ _ _ => by omega)
  have k2 := keys2 c arg1 harg1 arg2 harg2 arg3 harg3 arg4 harg4 arg5 harg5 arg6 harg6 arg12 arg13 arg14 arg15 arg16 x0 x1 x2 x3 x4 x5 h
  have z3 := z2.cons (P' := fun i _ => i < 1536) (rope_arr (k2.2.1.readCov arg14.view inb_S512x256_S512x256_0_0) (hacc.readAt harg11 inb_S4096x128_S512x128_1024_0)) inb_S4096x128_S512x128_1024_0 (fun i d hi hd => by
    unfold outR
    simp only [Nat.zero_add]) (fun i d _ _ _ _ => by omega)
  have k3 := keys3 c arg1 harg1 arg2 harg2 arg3 harg3 arg4 harg4 arg5 harg5 arg6 harg6 arg12 arg13 arg14 arg15 arg16 x0 x1 x2 x3 x4 x5 h
  have z4 := z3.cons (P' := fun i _ => i < 2048) (rope_arr (k3.2.1.readCov arg14.view inb_S512x256_S512x256_0_0) (hacc.readAt harg11 inb_S4096x128_S512x128_1536_0)) inb_S4096x128_S512x128_1536_0 (fun i d hi hd => by
    unfold outR
    simp only [Nat.zero_add]) (fun i d _ _ _ _ => by omega)
  have k4 := keys4 c arg1 harg1 arg2 harg2 arg3 harg3 arg4 harg4 arg5 harg5 arg6 harg6 arg12 arg13 arg14 arg15 arg16 x0 x1 x2 x3 x4 x5 h
  have z5 := z4.cons (P' := fun i _ => i < 2560) (rope_arr (k4.2.1.readCov arg14.view inb_S512x256_S512x256_0_0) (hacc.readAt harg11 inb_S4096x128_S512x128_2048_0)) inb_S4096x128_S512x128_2048_0 (fun i d hi hd => by
    unfold outR
    simp only [Nat.zero_add]) (fun i d _ _ _ _ => by omega)
  have k5 := keys5 c arg1 harg1 arg2 harg2 arg3 harg3 arg4 harg4 arg5 harg5 arg6 harg6 arg12 arg13 arg14 arg15 arg16 x0 x1 x2 x3 x4 x5 h
  have z6 := z5.cons (P' := fun i _ => i < 3072) (rope_arr (k5.2.1.readCov arg14.view inb_S512x256_S512x256_0_0) (hacc.readAt harg11 inb_S4096x128_S512x128_2560_0)) inb_S4096x128_S512x128_2560_0 (fun i d hi hd => by
    unfold outR
    simp only [Nat.zero_add]) (fun i d _ _ _ _ => by omega)
  have k6 := keys6 c arg1 harg1 arg2 harg2 arg3 harg3 arg4 harg4 arg5 harg5 arg6 harg6 arg12 arg13 arg14 arg15 arg16 x0 x1 x2 x3 x4 x5 h
  have z7 := z6.cons (P' := fun i _ => i < 3584) (rope_arr (k6.2.1.readCov arg14.view inb_S512x256_S512x256_0_0) (hacc.readAt harg11 inb_S4096x128_S512x128_3072_0)) inb_S4096x128_S512x128_3072_0 (fun i d hi hd => by
    unfold outR
    simp only [Nat.zero_add]) (fun i d _ _ _ _ => by omega)
  have k7 := keys7 c arg1 harg1 arg2 harg2 arg3 harg3 arg4 harg4 arg5 harg5 arg6 harg6 arg12 arg13 arg14 arg15 arg16 x0 x1 x2 x3 x4 x5 h
  have z8 := z7.cons (P' := fun i _ => i < 4096) (rope_arr (k7.2.1.readCov arg14.view inb_S512x256_S512x256_0_0) (hacc.readAt harg11 inb_S4096x128_S512x128_3584_0)) inb_S4096x128_S512x128_3584_0 (fun i d hi hd => by
    unfold outR
    simp only [Nat.zero_add]) (fun i d _ _ _ _ => by omega)
  exact z8.arr fun _ _ hi _ => hi

end Cert.PointB

end
-- ==== Proof.Blocks.lean ====
/- What a grid point's blocks of the eight argument arrays hold. -/
module

public import proofs.«01_k».proof.Proof.Out
public import proofs.«01_k».proof.Proof.Gen.KernelIdeal.Value
public import Idealize.ShloMosaic.Lib.Pipeline.ValueKit

@[expose] public section

set_option maxRecDepth 16384

noncomputable section

namespace Cert.Arrays

open Idealize.ShloMosaic Idealize.ShloMosaic.TcCoe Cert.KernelIdeal Cert.KernelIdeal.Gen Cert.Hold Cert.Block Cert.Steps Cert.Out

/-- All heads' arrays as reals, the heads side by side: 256 columns of `Q` and `KV` a head, 128 of `G` and `O`. -/
structure Heads where
  Q : ℕ → ℕ → ℝ
  KV : ℕ → ℕ → ℝ
  R : ℕ → ℕ → ℝ
  G : ℕ → ℕ → ℝ
  L : ℕ → ℕ → ℝ
  O : ℕ → ℕ → ℝ
  C : ℕ → ℕ → ℝ
  S : ℕ → ℕ → ℝ

/-- One head's. -/
def Heads.head (H : Heads) (t : ℕ) : Rows where
  Q i d := H.Q i (t * 256 + d)
  KV i d := H.KV i (t * 256 + d)
  R := H.R
  G i d := H.G i (t * 128 + d)
  L i := H.L i t
  O i d := H.O i (t * 128 + d)

variable (m : (ℓ : Loc nD τ sig) → Buf (Elt Ideal) ℓ) (c : Dev nD) (H : Heads)

/-- What the argument arrays hold when the call begins. -/
structure Entry : Prop where
  q : Arr (n := 4096) (m := 4096) (V m c (Pipeline.arrRef spec0 0)) (fun i d => ((H.Q i d : ℝ) : EReal))
  kv : Arr (n := 4096) (m := 4096) (V m c (Pipeline.arrRef spec0 1)) (fun i d => ((H.KV i d : ℝ) : EReal))
  r : Arr (n := 4096) (m := 128) (V m c (Pipeline.arrRef spec0 2)) (fun i d => ((H.R i d : ℝ) : EReal))
  g : Arr (n := 4096) (m := 2048) (V m c (Pipeline.arrRef spec0 3)) (fun i d => ((H.G i d : ℝ) : EReal))
  l : Arr (n := 4096) (m := 2048) (V m c (Pipeline.arrRef spec0 4)) (fun i d => ((H.L i (d / 128) : ℝ) : EReal))
  o : Arr (n := 4096) (m := 2048) (V m c (Pipeline.arrRef spec0 5)) (fun i d => ((H.O i d : ℝ) : EReal))
  C : Arr (n := 4096) (m := 128) (V m c (Pipeline.arrRef spec0 6)) (fun i d => ((H.C i d : ℝ) : EReal))
  S : Arr (n := 4096) (m := 128) (V m c (Pipeline.arrRef spec0 7)) (fun i d => ((H.S i d : ℝ) : EReal))

variable {m c H}

theorem index0 : ∀ t : Fin grid0.N, win0_0.index t = ![0, t.val] := by decide +kernel
theorem index1 : ∀ t : Fin grid0.N, win0_1.index t = ![0, t.val] := by decide +kernel
theorem index2 : ∀ t : Fin grid0.N, win0_2.index t = ![0, 0] := by decide +kernel
theorem index3 : ∀ t : Fin grid0.N, win0_3.index t = ![0, t.val] := by decide +kernel
theorem index4 : ∀ t : Fin grid0.N, win0_4.index t = ![0, t.val] := by decide +kernel
theorem index5 : ∀ t : Fin grid0.N, win0_5.index t = ![0, t.val] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, t.val] := by decide +kernel
theorem index9 : ∀ t : Fin grid0.N, win0_9.index t = ![0, t.val] := by decide +kernel
theorem index10 : ∀ t : Fin grid0.N, win0_10.index t = ![0, 0] := by decide +kernel

theorem read0 {X : Vec Ideal S4096x4096 .bf16} {g : ℕ → ℕ → EReal} (h : Arr (n := 4096) (m := 4096) X g) (t : Fin cfg0.N) :
    Arr (n := 4096) (m := 256) (((cfg0.win 0).blk t).view.read (Elt Ideal) X) (fun i d => g i (t.val * 256 + d)) := by
  intro i j
  have e := h.at (((cfg0.win 0).blk t).view.emb (ix2 i j))
  blk_simp [index0] at e ⊢
  exact e

theorem read1 {X : Vec Ideal S4096x4096 .bf16} {g : ℕ → ℕ → EReal} (h : Arr (n := 4096) (m := 4096) X g) (t : Fin cfg0.N) :
    Arr (n := 4096) (m := 256) (((cfg0.win 1).blk t).view.read (Elt Ideal) X) (fun i d => g i (t.val * 256 + d)) := by
  intro i j
  have e := h.at (((cfg0.win 1).blk t).view.emb (ix2 i j))
  blk_simp [index1] at e ⊢
  exact e

theorem read2 {X : Vec Ideal S4096x128 .bf16} {g : ℕ → ℕ → EReal} (h : Arr (n := 4096) (m := 128) X g) (t : Fin cfg0.N) :
    Arr (n := 4096) (m := 128) (((cfg0.win 2).blk t).view.read (Elt Ideal) X) (fun i d => g i d) := by
  intro i j
  have e := h.at (((cfg0.win 2).blk t).view.emb (ix2 i j))
  blk_simp [index2] at e ⊢
  exact e

theorem read3 {X : Vec Ideal S4096x2048 .bf16} {g : ℕ → ℕ → EReal} (h : Arr (n := 4096) (m := 2048) X g) (t : Fin cfg0.N) :
    Arr (n := 4096) (m := 128) (((cfg0.win 3).blk t).view.read (Elt Ideal) X) (fun i d => g i (t.val * 128 + d)) := by
  intro i j
  have e := h.at (((cfg0.win 3).blk t).view.emb (ix2 i j))
  blk_simp [index3] at e ⊢
  exact e

theorem read4 {X : Vec Ideal S4096x2048 .f32} {g : ℕ → ℕ → EReal} (h : Arr (n := 4096) (m := 2048) X g) (t : Fin cfg0.N) :
    Arr (n := 4096) (m := 128) (((cfg0.win 4).blk t).view.read (Elt Ideal) X) (fun i d => g i (t.val * 128 + d)) := by
  intro i j
  have e := h.at (((cfg0.win 4).blk t).view.emb (ix2 i j))
  blk_simp [index4] at e ⊢
  exact e

theorem read5 {X : Vec Ideal S4096x2048 .f32} {g : ℕ → ℕ → EReal} (h : Arr (n := 4096) (m := 2048) X g) (t : Fin cfg0.N) :
    Arr (n := 4096) (m := 128) (((cfg0.win 5).blk t).view.read (Elt Ideal) X) (fun i d => g i (t.val * 128 + d)) := by
  intro i j
  have e := h.at (((cfg0.win 5).blk t).view.emb (ix2 i j))
  blk_simp [index5] at e ⊢
  exact e

theorem read6 {X : Vec Ideal S4096x128 .f32} {g : ℕ → ℕ → EReal} (h : Arr (n := 4096) (m := 128) X g) (t : Fin cfg0.N) :
    Arr (n := 4096) (m := 128) (((cfg0.win 6).blk t).view.read (Elt Ideal) X) (fun i d => g i d) := by
  intro i j
  have e := h.at (((cfg0.win 6).blk t).view.emb (ix2 i j))
  blk_simp [index6] at e ⊢
  exact e

theorem read7 {X : Vec Ideal S4096x128 .f32} {g : ℕ → ℕ → EReal} (h : Arr (n := 4096) (m := 128) X g) (t : Fin cfg0.N) :
    Arr (n := 4096) (m := 128) (((cfg0.win 7).blk t).view.read (Elt Ideal) X) (fun i d => g i d) := by
  intro i j
  have e := h.at (((cfg0.win 7).blk t).view.emb (ix2 i j))
  blk_simp [index7] at e ⊢
  exact e

theorem block0 (h : Entry m c H) (t : Fin cfg0.N) : Arr (n := 4096) (m := 256) (iblk m c 0 t) (fun i d => ((H.Q i (t.val * 256 + d) : ℝ) : EReal)) := by
  unfold iblk
  exact read0 h.q t

theorem block1 (h : Entry m c H) (t : Fin cfg0.N) : Arr (n := 4096) (m := 256) (iblk m c 1 t) (fun i d => ((H.KV i (t.val * 256 + d) : ℝ) : EReal)) := by
  unfold iblk
  exact read1 h.kv t

theorem block2 (h : Entry m c H) (t : Fin cfg0.N) : Arr (n := 4096) (m := 128) (iblk m c 2 t) (fun i d => ((H.R i d : ℝ) : EReal)) := by
  unfold iblk
  exact read2 h.r t

theorem block3 (h : Entry m c H) (t : Fin cfg0.N) : Arr (n := 4096) (m := 128) (iblk m c 3 t) (fun i d => ((H.G i (t.val * 128 + d) : ℝ) : EReal)) := by
  unfold iblk
  exact read3 h.g t

theorem block4 (h : Entry m c H) (t : Fin cfg0.N) : Arr (n := 4096) (m := 128) (iblk m c 4 t) (fun i d => ((H.L i t.val : ℝ) : EReal)) := by
  refine Arr.congr (f := fun i d => ((H.L i ((t.val * 128 + d) / 128) : ℝ) : EReal)) ?_ fun i d _ hd => ?_
  · unfold iblk
    exact read4 h.l t
  · have e2 : (t.val * 128 + d) / 128 = t.val := by omega
    beta_reduce
    rw [e2]

theorem block5 (h : Entry m c H) (t : Fin cfg0.N) : Arr (n := 4096) (m := 128) (iblk m c 5 t) (fun i d => ((H.O i (t.val * 128 + d) : ℝ) : EReal)) := by
  unfold iblk
  exact read5 h.o t

theorem block6 (h : Entry m c H) (t : Fin cfg0.N) : Arr (n := 4096) (m := 128) (iblk m c 6 t) (fun i d => ((H.C i d : ℝ) : EReal)) := by
  unfold iblk
  exact read6 h.C t

theorem block7 (h : Entry m c H) (t : Fin cfg0.N) : Arr (n := 4096) (m := 128) (iblk m c 7 t) (fun i d => ((H.S i d : ℝ) : EReal)) := by
  unfold iblk
  exact read7 h.S t

theorem ins (h : Entry m c H) (t : Fin cfg0.N) :
    Ins (H.head t.val) (iblk m c 0 t) (iblk m c 1 t) (iblk m c 2 t) (iblk m c 3 t) (iblk m c 4 t) (iblk m c 5 t) where
  q := block0 h t
  kv := block1 h t
  r := block2 h t
  g := block3 h t
  l := block4 h t
  o := block5 h t

end Cert.Arrays

end
-- ==== Proof.Arrays.lean ====
/- The three result arrays of the whole run, from what the eight argument arrays hold. -/
module

public import proofs.«01_k».proof.Proof.EndA
public import proofs.«01_k».proof.Proof.EndB
public import proofs.«01_k».proof.Proof.Blocks

@[expose] public section

set_option maxRecDepth 16384

noncomputable section

namespace Cert.Arrays

open Idealize.ShloMosaic Idealize.ShloMosaic.TcCoe Cert.KernelIdeal Cert.KernelIdeal.Gen Cert.Hold Cert.Block Cert.Steps Cert.Out

variable {m : (ℓ : Loc nD τ sig) → Buf (Elt Ideal) ℓ} {c : Dev nD} {H : Heads}

/-- What the first head's point leaves. -/
theorem outA (h : Entry m c H) (t : Fin cfg0.N) (h0 : t.val % 16 = 0) :
    Arr (n := 4096) (m := 256) (outsAt0 m c t.val t.isLt).1 (fun i d => ((outQ (H.head t.val) H.C H.S i d : ℝ) : EReal))
    ∧ Arr (n := 4096) (m := 256) (outsAt0 m c t.val t.isLt).2.1 (fun i d => ((outKV (H.head t.val) i d : ℝ) : EReal))
    ∧ Arr (n := 4096) (m := 128) (outsAt0 m c t.val t.isLt).2.2
        (fun i d => ((outR (H.head t.val) (fun _ _ => 0) i d : ℝ) : EReal)) := by
  have e8 := congrArg Prod.fst (outsAt0_A m c t h0)
  have e9 := congrArg (fun p => p.2.1) (outsAt0_A m c t h0)
  have e10 := congrArg (fun p => p.2.2) (outsAt0_A m c t h0)
  dsimp only at e8 e9 e10
  rw [e8, e9, e10]
  have hi := ins h t
  have h8 := PointA.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) hi (block6 h t) (block7 h t)
  have h9 := PointA.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) hi
  have h10 := PointA.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) hi
  exact ⟨h8, h9, h10⟩

/-- What a further head's point leaves, over what the one before left. -/
theorem outB (h : Entry m c H) (t : Fin cfg0.N) (h0 : ¬ t.val % 16 = 0) {acc : ℕ → ℕ → ℝ}
    (ha : Arr (n := 4096) (m := 128) (outsAt0 m c (t.val - 1) (Nat.lt_of_le_of_lt (Nat.sub_le _ _) t.isLt)).2.2 (fun i d => ((acc i d : ℝ) : EReal))) :
    Arr (n := 4096) (m := 256) (outsAt0 m c t.val t.isLt).1 (fun i d => ((outQ (H.head t.val) H.C H.S i d : ℝ) : EReal))
    ∧ Arr (n := 4096) (m := 256) (outsAt0 m c t.val t.isLt).2.1 (fun i d => ((outKV (H.head t.val) i d : ℝ) : EReal))
    ∧ Arr (n := 4096) (m := 128) (outsAt0 m c t.val t.isLt).2.2
        (fun i d => ((outR (H.head t.val) acc i d : ℝ) : EReal)) := by
  have e8 := congrArg Prod.fst (outsAt0_B m c t h0)
  have e9 := congrArg (fun p => p.2.1) (outsAt0_B m c t h0)
  have e10 := congrArg (fun p => p.2.2) (outsAt0_B m c t h0)
  dsimp only at e8 e9 e10
  rw [e8, e9, e10]
  have hi := ins h t
  have h8 := PointB.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2 hi (block6 h t) (block7 h t)
  have h9 := PointB.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2 hi
  have h10 := PointB.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2 hi ha
  exact ⟨h8, h9, h10⟩

/-- What the results' buffers hold after each point: the point's head's two gradients, and the shared one summed over
    the heads so far. -/
theorem outs (h : Entry m c H) : ∀ (n : ℕ) (hn : n < cfg0.N),
    Arr (n := 4096) (m := 256) (outsAt0 m c n hn).1 (fun i d => ((outQ (H.head n) H.C H.S i d : ℝ) : EReal))
    ∧ Arr (n := 4096) (m := 256) (outsAt0 m c n hn).2.1 (fun i d => ((outKV (H.head n) i d : ℝ) : EReal))
    ∧ Arr (n := 4096) (m := 128) (outsAt0 m c n hn).2.2
        (fun i d => ((∑ t ∈ Finset.range (n + 1), (H.head t).dk 0 4096 i (128 + d) * sc : ℝ) : EReal)) := by
  intro n
  induction n with
  | zero =>
    intro hn
    obtain ⟨h8, h9, h10⟩ := outA h ⟨0, hn⟩ rfl
    refine ⟨h8, h9, h10.congr fun i d _ _ => ?_⟩
    unfold outR
    rw [Finset.sum_range_one, zero_add]
  | succ n ih =>
    intro hn
    have hN : cfg0.N = 16 := rfl
    have h0 : ¬ (n + 1) % 16 = 0 := by omega
    obtain ⟨h8, h9, h10⟩ := outB h ⟨n + 1, hn⟩ h0 (ih (by omega)).2.2
    refine ⟨h8, h9, h10.congr fun i d _ _ => ?_⟩
    unfold outR
    rw [Finset.sum_range_succ _ (n + 1)]

/-- q's gradient. -/
theorem array8 (h : Entry m c H) : Arr (n := 4096) (m := 4096) ((dats m 0 c).arrAt 8 cfg0.N)
    (fun i d => ((outQ (H.head (d / 256)) H.C H.S i (d % 256) : ℝ) : EReal)) := by
  have e : (dats m 0 c).arrAt 8 cfg0.N = fun y => ((outQ (H.head ((y 1).val / 256)) H.C H.S (y 0).val ((y 1).val % 256) : ℝ) : EReal) := by
    refine (dats m 0 c).arrAt_eq_of_covers 8 _ (by decide +kernel) fun t hf y => ?_
    blk_simp [index8]
    rw [after0_8]
    have k := (outs h t.val t.isLt).1.at y
    have hy : (y 1).val < 256 := (y 1).2
    have e1 : (t.val * 256 + (y 1).val) / 256 = t.val := by omega
    have e2 : (t.val * 256 + (y 1).val) % 256 = (y 1).val := by omega
    rw [e1, e2]
    exact k
  intro i j
  exact congrFun e _

/-- The nope half of k's gradient beside v's. -/
theorem array9 (h : Entry m c H) : Arr (n := 4096) (m := 4096) ((dats m 0 c).arrAt 9 cfg0.N)
    (fun i d => ((outKV (H.head (d / 256)) i (d % 256) : ℝ) : EReal)) := by
  have e : (dats m 0 c).arrAt 9 cfg0.N = fun y => ((outKV (H.head ((y 1).val / 256)) (y 0).val ((y 1).val % 256) : ℝ) : EReal) := by
    refine (dats m 0 c).arrAt_eq_of_covers 9 _ (by decide +kernel) fun t hf y => ?_
    blk_simp [index9]
    rw [after0_9]
    have k := (outs h t.val t.isLt).2.1.at y
    have hy : (y 1).val < 256 := (y 1).2
    have e1 : (t.val * 256 + (y 1).val) / 256 = t.val := by omega
    have e2 : (t.val * 256 + (y 1).val) % 256 = (y 1).val := by omega
    rw [e1, e2]
    exact k
  intro i j
  exact congrFun e _

/-- The rope half of k's gradient, summed over the heads. -/
theorem array10 (h : Entry m c H) : Arr (n := 4096) (m := 128) ((dats m 0 c).arrAt 10 cfg0.N)
    (fun i d => ((∑ t ∈ Finset.range 16, (H.head t).dk 0 4096 i (128 + d) * sc : ℝ) : EReal)) := by
  have e : (dats m 0 c).arrAt 10 cfg0.N = fun y => ((∑ t ∈ Finset.range 16, (H.head t).dk 0 4096 (y 0).val (128 + (y 1).val) * sc : ℝ) : EReal) := by
    refine (dats m 0 c).arrAt_eq_of_covers 10 _ (by decide +kernel) fun t hf y => ?_
    have ht := (flush0_10 t).mp hf
    blk_simp [index10]
    rw [after0_10]
    have k := (outs h t.val t.isLt).2.2.at y
    have ht' := t.isLt
    have hN : cfg0.N = 16 := rfl
    have e1 : t.val + 1 = 16 := by omega
    rw [e1] at k
    exact k
  intro i j
  exact congrFun e _

end Cert.Arrays

end
-- ==== Proof.Host.lean ====
/- The arrays that the call is handed, as terms over the program's arguments. -/
module

public import proofs.«01_k».proof.Proof.Blocks
public import Idealize.ShloMosaic.Lib.StableHlo.ReadAt

@[expose] public section

set_option maxRecDepth 16384

noncomputable section

namespace Cert.Host

open Idealize.ShloMosaic Idealize.ShloMosaic.TcCoe Cert.KernelIdeal Cert.KernelIdeal.Gen Cert.Hold Cert.Block

/-- The seven arguments. -/
structure Args where
  x0 : FVec Ideal S4096x16x192 .f32
  x1 : FVec Ideal S4096x16x128 .f32
  x2 : FVec Ideal S4096x64 .f32
  x3 : FVec Ideal S4096x16x128 .f32
  x4 : FVec Ideal S4096x32 .f32
  x5 : FVec Ideal S4096x32 .f32
  x6 : FVec Ideal S4096x16x128 .f32

/-- The memory's seven arguments. -/
def argsOf (m : (ℓ : Loc nD τ sig) → Buf (Elt Ideal) ℓ) (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6)⟩

def cosB (a : Args) : FVec Ideal S4096x16x32 .f32 :=
  broadcastInDim S4096x16x32 ![0, 1, 2] bcast_S4096x1x32_S4096x16x32_0_1_2 (broadcastInDim S4096x1x32 ![0, 2] bcast_S4096x32_S4096x1x32_0_2 a.x4)

def sinB (a : Args) : FVec Ideal S4096x16x32 .f32 :=
  broadcastInDim S4096x16x32 ![0, 1, 2] bcast_S4096x1x32_S4096x16x32_0_1_2 (broadcastInDim S4096x1x32 ![0, 2] bcast_S4096x32_S4096x1x32_0_2 a.x5)

def half0 (a : Args) : FVec Ideal S4096x16x32 .f32 := extractStridedSlice S4096x16x32 ![0, 0, 128] a.x0 slices_S4096x16x192_S4096x16x32_0_0_128

def half1 (a : Args) : FVec Ideal S4096x16x32 .f32 := extractStridedSlice S4096x16x32 ![0, 0, 160] a.x0 slices_S4096x16x192_S4096x16x32_0_0_160

/-- The rotated half of q. -/
def rotA (a : Args) : FVec Ideal S4096x16x64 .f32 :=
  concatenate S4096x16x64 2 [⟨S4096x16x32, subf (mulf (half0 a) (cosB a)) (mulf (half1 a) (sinB a))⟩, ⟨S4096x16x32, addf (mulf (half1 a) (cosB a)) (mulf (half0 a) (sinB a))⟩]
    concatenates_S4096x16x32_S4096x16x32_S4096x16x64_d2

def nopeA (a : Args) : FVec Ideal S4096x16x128 .f32 := extractStridedSlice S4096x16x128 ![0, 0, 0] a.x0 slices_S4096x16x192_S4096x16x128_0_0_0

/-- The scores. -/
def scoreA (a : Args) : FVec Ideal S16x4096x4096 .f32 :=
  Host.divf (addf (Host.dotGeneral dot_S4096x16x128_S4096x16x128_S16x4096x4096_2_2_0_0_1_1 none (nopeA a) a.x1)
      (transpose S16x4096x4096 [2, 1, 0] (Host.dotGeneral dot_S4096x64_S4096x16x64_S4096x4096x16_1_2_0_01_n_n none a.x2 (rotA a)) transposes_S4096x4096x16_S16x4096x4096_2_1_0))
    (broadcastInDim S16x4096x4096 ![] bcast_S_S16x4096x4096 (Host.sqrt (constant S_ .f32 0x43400000#32)))

def liveA : Vec Ideal S16x4096x4096 .i1 :=
  broadcastInDim S16x4096x4096 ![1, 2] bcast_S4096x4096_S16x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The masked scores. -/
def maskA (a : Args) : FVec Ideal S16x4096x4096 .f32 :=
  select liveA (scoreA a) (broadcastInDim S16x4096x4096 ![] bcast_S_S16x4096x4096 (id (constant S_ .f32 0xFF800000#32)))

/-- The rows' largest scores. -/
def topA (a : Args) : FVec Ideal S16x4096 .f32 :=
  Host.reduce FloatOps.maximumf (maskA a) (constant S_ .f32 0xFF800000#32) reducesTo_S16x4096x4096_S16x4096_d2 h_S_

def topB (a : Args) : FVec Ideal S16x4096x1 .f32 := broadcastInDim S16x4096x1 ![0, 1] bcast_S16x4096_S16x4096x1_0_1 (topA a)

/-- The exponentials. -/
def expA (a : Args) : FVec Ideal S16x4096x4096 .f32 :=
  Host.exp (subf (maskA a) (broadcastInDim S16x4096x4096 ![0, 1, 2] bcast_S16x4096x1_S16x4096x4096_0_1_2 (topB a)))

/-- The rows' sums of exponentials. -/
def sumA (a : Args) : FVec Ideal S16x4096 .f32 := Host.reduceAdd (expA a) (constant S_ .f32 0x00000000#32) reducesTo_S16x4096x4096_S16x4096_d2 h_S_

def sumB (a : Args) : FVec Ideal S16x4096x1 .f32 := broadcastInDim S16x4096x1 ![0, 1] bcast_S16x4096_S16x4096x1_0_1 (sumA a)

def probA (a : Args) : FVec Ideal S16x4096x4096 .f32 :=
  Host.divf (expA a) (broadcastInDim S16x4096x4096 ![0, 1, 2] bcast_S16x4096x1_S16x4096x4096_0_1_2 (sumB a))

/-- The attention's result. -/
def outA (a : Args) : FVec Ideal S4096x16x128 .f32 :=
  transpose S4096x16x128 [2, 0, 1] (Host.dotGeneral dot_S4096x16x128_S16x4096x4096_S16x128x4096_0_2_2_1_1_0 none a.x3 (probA a)) transposes_S16x128x4096_S4096x16x128_2_0_1

/-- The rows' log-sum-exps. -/
def lseA (a : Args) : FVec Ideal S4096x16 .f32 :=
  transpose S4096x16 [1, 0] (shapeCast S16x4096 (addf (topB a) (Host.log (sumB a))) shapeCasts_S16x4096x1_S16x4096) transposes_S16x4096_S4096x16_1_0

def w0 (a : Args) : FVec Ideal S4096x4096 .bf16 :=
  truncf .bf16 (shapeCast S4096x4096 (concatenate S4096x16x256 2 [⟨S4096x16x128, nopeA a⟩, ⟨S4096x16x64, rotA a⟩,
    ⟨S4096x16x64, broadcastInDim S4096x16x64 ![] bcast_S_S4096x16x64 (constant S_ .f32 0x00000000#32)⟩] concatenates_S4096x16x128_S4096x16x64_S4096x16x64_S4096x16x256_d2)
    shapeCasts_S4096x16x256_S4096x4096) bitsLt_bf16_f32

def w1 (a : Args) : FVec Ideal S4096x4096 .bf16 :=
  truncf .bf16 (shapeCast S4096x4096 (concatenate S4096x16x256 2 [⟨S4096x16x128, a.x1⟩, ⟨S4096x16x128, a.x3⟩] concatenates_S4096x16x128_S4096x16x128_S4096x16x256_d2)
    shapeCasts_S4096x16x256_S4096x4096) bitsLt_bf16_f32

def zeroA : FVec Ideal S4096x64 .f32 := broadcastInDim S4096x64 ![] bcast_S_S4096x64 (constant S_ .f32 0x00000000#32)

def w2 (a : Args) : FVec Ideal S4096x128 .bf16 :=
  truncf .bf16 (concatenate S4096x128 1 [⟨S4096x64, a.x2⟩, ⟨S4096x64, zeroA⟩] concatenates_S4096x64_S4096x64_S4096x128_d1) bitsLt_bf16_f32

def w3 (a : Args) : FVec Ideal S4096x2048 .bf16 := truncf .bf16 (shapeCast S4096x2048 a.x6 shapeCasts_S4096x16x128_S4096x2048) bitsLt_bf16_f32

def w4 (a : Args) : FVec Ideal S4096x2048 .f32 :=
  shapeCast S4096x2048 (broadcastInDim S4096x16x128 ![0, 1, 2] bcast_S4096x16x1_S4096x16x128_0_1_2 (broadcastInDim S4096x16x1 ![0, 1] bcast_S4096x16_S4096x16x1_0_1 (lseA a)))
    shapeCasts_S4096x16x128_S4096x2048

def w5 (a : Args) : FVec Ideal S4096x2048 .f32 := shapeCast S4096x2048 (outA a) shapeCasts_S4096x16x128_S4096x2048

def w6 (a : Args) : FVec Ideal S4096x128 .f32 :=
  concatenate S4096x128 1 [⟨S4096x32, a.x4⟩, ⟨S4096x32, a.x4⟩, ⟨S4096x64, zeroA⟩] concatenates_S4096x32_S4096x32_S4096x64_S4096x128_d1

def w7 (a : Args) : FVec Ideal S4096x128 .f32 :=
  concatenate S4096x128 1 [⟨S4096x32, Host.negf a.x5⟩, ⟨S4096x32, a.x5⟩, ⟨S4096x64, zeroA⟩] concatenates_S4096x32_S4096x32_S4096x64_S4096x128_d1

variable (m : (ℓ : Loc nD τ sig) → Buf (Elt Ideal) ℓ) (c : Dev nD)

theorem V_w0 : V m c main_v49 = w0 (argsOf m c) := by
  unfold V
  after_reads_simp
  rfl

theorem V_w1 : V m c main_v52 = w1 (argsOf m c) := by
  unfold V
  after_reads_simp
  rfl

theorem V_w2 : V m c main_v55 = w2 (argsOf m c) := by
  unfold V
  after_reads_simp
  rfl

theorem V_w3 : V m c main_v57 = w3 (argsOf m c) := by
  unfold V
  after_reads_simp
  rfl

theorem V_w4 : V m c main_v60 = w4 (argsOf m c) := by
  unfold V
  after_reads_simp
  rfl

theorem V_w5 : V m c main_v66 = w5 (argsOf m c) := by
  unfold V
  after_reads_simp
  rfl

theorem V_w6 : V m c main_v62 = w6 (argsOf m c) := by
  unfold V
  after_reads_simp
  rfl

theorem V_w7 : V m c main_v65 = w7 (argsOf m c) := by
  unfold V
  after_reads_simp
  rfl

end Cert.Host

end
-- ==== Proof.Real.lean ====
/- The attention's gradient over real numbers: what the arguments make, and what one head's rows come to. -/
module

public import proofs.«01_k».proof.Proof.Blocks
public import proofs.«01_k».proof.Proof.Out

@[expose] public section

noncomputable section

namespace Cert.Att

open Cert.Hold Cert.Block Cert.Steps Cert.Out Cert.Arrays

/-- The arguments' numbers. -/
structure Data where
  q : ℕ → ℕ → ℕ → ℝ
  kn : ℕ → ℕ → ℕ → ℝ
  kr : ℕ → ℕ → ℝ
  v : ℕ → ℕ → ℕ → ℝ
  c : ℕ → ℕ → ℝ
  s : ℕ → ℕ → ℝ
  g : ℕ → ℕ → ℕ → ℝ

variable (x : Data)

/-- q's rotated half. -/
def Data.rot (i h d : ℕ) : ℝ :=
  if d < 32 then x.q i h (128 + d) * x.c i d - x.q i h (160 + d) * x.s i d
  else x.q i h (160 + (d - 32)) * x.c i (d - 32) + x.q i h (128 + (d - 32)) * x.s i (d - 32)

/-- A score. -/
def Data.score (h i j : ℕ) : ℝ :=
  ((∑ d ∈ Finset.range 128, x.q i h d * x.kn j h d) + ∑ d ∈ Finset.range 64, x.kr j d * x.rot i h d) * (Real.sqrt 192)⁻¹

/-- A score, −∞ for a key behind its query. -/
def Data.mask (h i j : ℕ) : EReal := if j ≤ i then ((x.score h i j : ℝ) : EReal) else ⊥

/-- A row's largest score. -/
def Data.top (h i : ℕ) : ℝ := (Finset.univ.fold max (⊥ : EReal) fun k : Fin 4096 => x.mask h i k.val).toReal

/-- An exponential. -/
def Data.ex (h i j : ℕ) : ℝ := if j ≤ i then Real.exp (x.score h i j - x.top h i) else 0

/-- A row's sum of exponentials. -/
def Data.sum (h i : ℕ) : ℝ := ∑ j ∈ Finset.range 4096, x.ex h i j

/-- A weight of the softmax. -/
def Data.prob (h i j : ℕ) : ℝ := x.ex h i j * (x.sum h i)⁻¹

/-- The attention's result. -/
def Data.out (i h d : ℕ) : ℝ := ∑ j ∈ Finset.range 4096, x.v j h d * x.prob h i j

/-- A row's log-sum-exp. -/
def Data.lse (i h : ℕ) : ℝ := x.top h i + Real.log (x.sum h i)

/-- A weight's gradient. -/
def Data.dp (h i j : ℕ) : ℝ := ∑ d ∈ Finset.range 128, x.g i h d * x.v j h d

/-- A score's gradient. -/
def Data.ds (h i j : ℕ) : ℝ :=
  (if j ≤ i then (x.dp h i j * (x.sum h i)⁻¹ + -∑ k ∈ Finset.range 4096, x.dp h i k * (1 * (x.sum h i * x.sum h i)⁻¹) * x.ex h i k) * x.ex h i j else 0)
    * (Real.sqrt 192)⁻¹

theorem fold_real (f : Fin 4096 → EReal) (hf : ∀ k, f k ≠ ⊤) {k : Fin 4096} (hk : f k ≠ ⊥) :
    (((Finset.univ.fold max (⊥ : EReal) f).toReal : ℝ) : EReal) = Finset.univ.fold max (⊥ : EReal) f := by
  refine EReal.coe_toReal ?_ ?_
  · refine ne_of_lt ?_
    rw [Finset.fold_max_lt]
    exact ⟨bot_lt_top, fun k _ => lt_top_iff_ne_top.2 (hf k)⟩
  · refine ne_of_gt ?_
    rw [Finset.lt_fold_max]
    exact Or.inr ⟨k, Finset.mem_univ _, bot_lt_iff_ne_bot.2 hk⟩

theorem Data.top_eq {h i : ℕ} (hi : i < 4096) : ((x.top h i : ℝ) : EReal) = Finset.univ.fold max (⊥ : EReal) fun k : Fin 4096 => x.mask h i k.val := by
  refine fold_real _ (fun k => ?_) (k := ⟨i, hi⟩) ?_
  · unfold Data.mask
    split_ifs
    · exact EReal.coe_ne_top _
    · exact bot_ne_top
  · unfold Data.mask
    rw [if_pos le_rfl]
    exact EReal.coe_ne_bot _

theorem Data.ex_nonneg (h i j : ℕ) : 0 ≤ x.ex h i j := by
  unfold Data.ex
  split_ifs
  · exact (Real.exp_pos _).le
  · exact le_rfl

theorem Data.sum_pos {h i : ℕ} (hi : i < 4096) : 0 < x.sum h i := by
  refine Finset.sum_pos' (fun j _ => x.ex_nonneg h i j) ⟨i, Finset.mem_range.2 hi, ?_⟩
  unfold Data.ex
  rw [if_pos le_rfl]
  exact Real.exp_pos _

/-- The argument arrays of the call. -/
def Data.heads (x : Data) : Heads where
  Q i d := if d % 256 < 128 then x.q i (d / 256) (d % 256) else if d % 256 - 128 < 64 then x.rot i (d / 256) (d % 256 - 128) else 0
  KV i d := if d % 256 < 128 then x.kn i (d / 256) (d % 256) else x.v i (d / 256) (d % 256 - 128)
  R i d := if d < 64 then x.kr i d else 0
  G i d := x.g i (d / 128) (d % 128)
  L i h := x.lse i h
  O i d := x.out i (d / 128) (d % 128)
  C i d := if d < 32 then x.c i d else if d - 32 < 32 then x.c i (d - 32) else 0
  S i d := if d < 32 then -x.s i d else if d - 32 < 32 then x.s i (d - 32) else 0

/-- One head's. -/
def Data.rows (x : Data) (t : ℕ) : Rows := x.heads.head t

theorem Data.rows_Q (t i : ℕ) {d : ℕ} (hd : d < 256) : (x.rows t).Q i d = if d < 128 then x.q i t d else if d - 128 < 64 then x.rot i t (d - 128) else 0 := by
  have e1 : (t * 256 + d) / 256 = t := by omega
  have e2 : (t * 256 + d) % 256 = d := by omega
  show (if (t * 256 + d) % 256 < 128 then _ else _) = _
  rw [e1, e2]

theorem Data.rows_K (t i : ℕ) {d : ℕ} (hd : d < 256) : (x.rows t).K i d = if d < 128 then x.kn i t d else if d - 128 < 64 then x.kr i (d - 128) else 0 := by
  have e1 : (t * 256 + d) / 256 = t := by omega
  have e2 : (t * 256 + d) % 256 = d := by omega
  unfold Rows.K
  by_cases h : d < 128
  · rw [if_pos h, if_pos h]
    show (if (t * 256 + d) % 256 < 128 then _ else _) = _
    rw [e1, e2, if_pos h]
  · rw [if_neg h, if_neg h]
    rfl

theorem Data.rows_V (t i : ℕ) {d : ℕ} (hd : d < 128) : (x.rows t).V i d = x.v i t d := by
  have e1 : (t * 256 + (128 + d)) / 256 = t := by omega
  have e2 : (t * 256 + (128 + d)) % 256 = 128 + d := by omega
  show (if (t * 256 + (128 + d)) % 256 < 128 then _ else _) = _
  rw [e1, e2, if_neg (by omega), Nat.add_sub_cancel_left]

theorem Data.rows_G (t i : ℕ) {d : ℕ} (hd : d < 128) : (x.rows t).G i d = x.g i t d := by
  have e1 : (t * 128 + d) / 128 = t := by omega
  have e2 : (t * 128 + d) % 128 = d := by omega
  show x.g i ((t * 128 + d) / 128) ((t * 128 + d) % 128) = _
  rw [e1, e2]

theorem Data.rows_O (t i : ℕ) {d : ℕ} (hd : d < 128) : (x.rows t).O i d = x.out i t d := by
  have e1 : (t * 128 + d) / 128 = t := by omega
  have e2 : (t * 128 + d) % 128 = d := by omega
  show x.out i ((t * 128 + d) / 128) ((t * 128 + d) % 128) = _
  rw [e1, e2]

/-- The kernel's product over 256 lanes is the score's two. -/
theorem Data.lanes (t i j : ℕ) : (∑ d ∈ Finset.range 256, (x.rows t).Q i d * (x.rows t).K j d) * (Real.sqrt 192)⁻¹ = x.score t i j := by
  unfold Data.score
  congr 1
  rw [show (256 : ℕ) = 128 + 128 from rfl, Finset.sum_range_add]
  congr 1
  · refine Finset.sum_congr rfl fun d hd => ?_
    have hd := Finset.mem_range.1 hd
    rw [x.rows_Q t i (by omega), x.rows_K t j (by omega), if_pos hd, if_pos hd]
  · refine (Finset.sum_range_add (fun d => (x.rows t).Q i (128 + d) * (x.rows t).K j (128 + d)) 64 64).trans ?_
    rw [← add_zero (∑ d ∈ Finset.range 64, x.kr j d * x.rot i t d)]
    congr 1
    · refine Finset.sum_congr rfl fun d hd => ?_
      have hd := Finset.mem_range.1 hd
      rw [x.rows_Q t i (by omega), x.rows_K t j (by omega), if_neg (by omega), if_pos (by omega), if_neg (by omega), if_pos (by omega),
        Nat.add_sub_cancel_left, mul_comm]
    · refine Finset.sum_eq_zero fun d hd => ?_
      have hd := Finset.mem_range.1 hd
      rw [x.rows_Q t i (by omega), if_neg (by omega), if_neg (by omega), zero_mul]

theorem Data.rows_P (t : ℕ) {i : ℕ} (hi : i < 4096) (j : ℕ) : (x.rows t).P i j = x.prob t i j := by
  have hz := x.sum_pos (h := t) hi
  unfold Rows.P Data.prob Data.ex
  split_ifs with h
  · rw [x.lanes t i j, show (x.rows t).L i = x.top t i + Real.log (x.sum t i) from rfl, ← sub_sub, Real.exp_sub, Real.exp_log hz, div_eq_mul_inv]
  · rw [zero_mul]

theorem Data.rows_dp (t i j : ℕ) : (∑ d ∈ Finset.range 128, (x.rows t).G i d * (x.rows t).V j d) = x.dp t i j := by
  refine Finset.sum_congr rfl fun d hd => ?_
  have hd := Finset.mem_range.1 hd
  rw [x.rows_G t i hd, x.rows_V t j hd]

theorem Data.rows_T (t i : ℕ) : (x.rows t).T i = ∑ j ∈ Finset.range 4096, x.prob t i j * x.dp t i j := by
  unfold Rows.T Data.dp
  have e : ∀ d ∈ Finset.range 128, (x.rows t).G i d * (x.rows t).O i d = ∑ j ∈ Finset.range 4096, x.prob t i j * (x.g i t d * x.v j t d) := fun d hd => by
    have hd := Finset.mem_range.1 hd
    rw [x.rows_G t i hd, x.rows_O t i hd, Data.out, Finset.mul_sum]
    exact Finset.sum_congr rfl fun j _ => by ring
  rw [Finset.sum_congr rfl e, Finset.sum_comm]
  exact Finset.sum_congr rfl fun j _ => (Finset.mul_sum _ _ _).symm

/-- The kernel's gradient of a score, scaled, is the reference's. -/
theorem Data.rows_D (t : ℕ) {i : ℕ} (hi : i < 4096) (j : ℕ) : (x.rows t).D i j * sc = x.ds t i j := by
  have hz := (x.sum_pos (h := t) hi).ne'
  unfold Rows.D Data.ds sc
  congr 1
  rw [x.rows_P t hi, x.rows_dp, x.rows_T]
  by_cases h : j ≤ i
  · rw [if_pos h]
    have e : (∑ k ∈ Finset.range 4096, x.dp t i k * (1 * (x.sum t i * x.sum t i)⁻¹) * x.ex t i k)
        = (x.sum t i)⁻¹ * ∑ k ∈ Finset.range 4096, x.prob t i k * x.dp t i k := by
      rw [Finset.mul_sum]
      refine Finset.sum_congr rfl fun k _ => ?_
      unfold Data.prob
      rw [mul_inv]
      ring
    rw [e]
    unfold Data.prob
    ring
  · rw [if_neg h, Data.prob, Data.ex, if_neg h]
    ring

theorem Data.rows_dv (t j : ℕ) {d : ℕ} (hd : d < 128) : (x.rows t).dv 0 4096 j d = ∑ i ∈ Finset.range 4096, x.g i t d * x.prob t i j := by
  unfold Rows.dv
  rw [← Finset.range_eq_Ico]
  refine Finset.sum_congr rfl fun i hi => ?_
  rw [x.rows_P t (Finset.mem_range.1 hi), x.rows_G t i hd, mul_comm]

theorem Data.rows_dk (t j d : ℕ) : (x.rows t).dk 0 4096 j d * sc = ∑ i ∈ Finset.range 4096, x.ds t i j * (x.rows t).Q i d := by
  unfold Rows.dk
  rw [← Finset.range_eq_Ico, Finset.sum_mul]
  refine Finset.sum_congr rfl fun i hi => ?_
  rw [← x.rows_D t (Finset.mem_range.1 hi)]
  ring

theorem Data.rows_dq (t : ℕ) {i : ℕ} (hi : i < 4096) (d : ℕ) : (x.rows t).dq 4096 i d * sc = ∑ j ∈ Finset.range 4096, x.ds t i j * (x.rows t).K j d := by
  unfold Rows.dq
  rw [Finset.sum_mul]
  refine Finset.sum_congr rfl fun j _ => ?_
  rw [← x.rows_D t hi]
  ring

/-- k's gradient, before the rope is turned back, from the rope's part of the product. -/
def Data.turned (i h d : ℕ) : ℝ := ∑ j ∈ Finset.range 4096, x.ds h i j * x.kr j d

/-- q's gradient in the call's layout. -/
def Data.dq (i h d : ℕ) : ℝ :=
  if d < 192 then
    if d < 128 then ∑ j ∈ Finset.range 4096, x.ds h i j * x.kn j h d
    else if d - 128 < 32 then x.turned i h (32 + (d - 128)) * x.s i (d - 128) + x.turned i h (d - 128) * x.c i (d - 128)
    else x.turned i h (32 + (d - 128 - 32)) * x.c i (d - 128 - 32) + -x.turned i h (d - 128 - 32) * x.s i (d - 128 - 32)
  else 0

/-- The nope half of k's gradient beside v's. -/
def Data.dkv (j h d : ℕ) : ℝ :=
  if d < 128 then ∑ i ∈ Finset.range 4096, x.ds h i j * x.q i h d else ∑ i ∈ Finset.range 4096, x.g i h (d - 128) * x.prob h i j

/-- The rope half of k's gradient. -/
def Data.dkr (j d : ℕ) : ℝ :=
  if d < 64 then ∑ h ∈ Finset.range 16, ∑ i ∈ Finset.range 4096, x.ds h i j * x.rot i h d else 0

theorem Data.dq_rope (t : ℕ) {i : ℕ} (hi : i < 4096) {d : ℕ} (hd : d < 64) : (x.rows t).dq 4096 i (128 + d) * sc = x.turned i t d := by
  rw [x.rows_dq t hi]
  refine Finset.sum_congr rfl fun j _ => ?_
  rw [x.rows_K t j (by omega), if_neg (by omega), if_pos (by omega), Nat.add_sub_cancel_left]

theorem Data.outQ_eq (t : ℕ) {i : ℕ} (hi : i < 4096) {d : ℕ} (hd : d < 256) : outQ (x.rows t) x.heads.C x.heads.S i d = x.dq i t d := by
  unfold outQ Data.dq
  by_cases h : d < 128
  · rw [if_pos h, if_pos (by omega), if_pos h, x.rows_dq t hi]
    refine Finset.sum_congr rfl fun j _ => ?_
    rw [x.rows_K t j hd, if_pos h]
  · rw [if_neg h]
    obtain ⟨e, rfl⟩ : ∃ e, d = 128 + e := ⟨d - 128, by omega⟩
    simp only [Nat.add_sub_cancel_left]
    by_cases h1 : e < 64
    · rw [x.dq_rope t hi h1, if_pos (show 128 + e < 192 by omega), if_neg h]
      by_cases h2 : e < 32
      · rw [if_pos (show 128 + e < 160 by omega), Nat.add_assoc, x.dq_rope t hi (by omega), if_pos h2,
          show x.heads.C i e = x.c i e from if_pos h2, show x.heads.S i e = -x.s i e from if_pos h2, Nat.add_comm e 32]
        ring
      · rw [if_neg (show ¬ 128 + e < 160 by omega), Nat.add_sub_assoc (by omega), x.dq_rope t hi (by omega), if_neg h2,
          show x.heads.C i e = x.c i (e - 32) from (if_neg h2).trans (if_pos (by omega)),
          show x.heads.S i e = x.s i (e - 32) from (if_neg h2).trans (if_pos (by omega)), show 32 + (e - 32) = e by omega]
        ring
    · rw [show x.heads.C i e = 0 from (if_neg (by omega)).trans (if_neg (by omega)),
        show x.heads.S i e = 0 from (if_neg (by omega)).trans (if_neg (by omega)), if_neg (show ¬ 128 + e < 192 by omega)]
      ring

theorem Data.outKV_eq (t j : ℕ) {d : ℕ} (hd : d < 256) : outKV (x.rows t) j d = x.dkv j t d := by
  unfold outKV Data.dkv
  by_cases h : d < 128
  · rw [if_pos h, if_pos h, x.rows_dk]
    refine Finset.sum_congr rfl fun i _ => ?_
    rw [x.rows_Q t i hd, if_pos h]
  · rw [if_neg h, if_neg h, x.rows_dv t j (by omega)]

theorem Data.outR_eq (j : ℕ) {d : ℕ} (hd : d < 128) : (∑ t ∈ Finset.range 16, (x.rows t).dk 0 4096 j (128 + d) * sc) = x.dkr j d := by
  unfold Data.dkr
  by_cases h : d < 64
  · rw [if_pos h]
    refine Finset.sum_congr rfl fun t _ => ?_
    rw [x.rows_dk]
    refine Finset.sum_congr rfl fun i _ => ?_
    rw [x.rows_Q t i (by omega), if_neg (by omega), if_pos (by omega), Nat.add_sub_cancel_left]
  · rw [if_neg h]
    refine Finset.sum_eq_zero fun t _ => ?_
    rw [x.rows_dk]
    refine Finset.sum_eq_zero fun i _ => ?_
    rw [x.rows_Q t i (by omega), if_neg (by omega), if_neg (by omega), mul_zero]

end Cert.Att

end
-- ==== Proof.HostAt.lean ====
/- The entries of the arrays that the call is handed, where the arguments hold reals. -/
module

public import proofs.«01_k».proof.Proof.Host
public import proofs.«01_k».proof.Proof.Real
public import Idealize.ShloMosaic.Lib.Pointwise
public import Idealize.ShloMosaic.Lib.IdealHost

@[expose] public section

set_option maxRecDepth 16384

noncomputable section

namespace Cert.Host

open Idealize.ShloMosaic Idealize.ShloMosaic.TcCoe Cert.KernelIdeal Cert.KernelIdeal.Gen Cert.Hold Cert.Block Cert.Att

/-- The arguments hold the numbers `x`. -/
structure Holds (a : Args) (x : Data) : Prop where
  q : ∀ (i : Fin 4096) (h : Fin 16) (d : Fin 192), a.x0 (ix3 i h d) = ((x.q i.val h.val d.val : ℝ) : EReal)
  kn : ∀ (i : Fin 4096) (h : Fin 16) (d : Fin 128), a.x1 (ix3 i h d) = ((x.kn i.val h.val d.val : ℝ) : EReal)
  kr : ∀ (i : Fin 4096) (d : Fin 64), a.x2 (ix2 i d) = ((x.kr i.val d.val : ℝ) : EReal)
  v : ∀ (i : Fin 4096) (h : Fin 16) (d : Fin 128), a.x3 (ix3 i h d) = ((x.v i.val h.val d.val : ℝ) : EReal)
  c : ∀ (i : Fin 4096) (d : Fin 32), a.x4 (ix2 i d) = ((x.c i.val d.val : ℝ) : EReal)
  s : ∀ (i : Fin 4096) (d : Fin 32), a.x5 (ix2 i d) = ((x.s i.val d.val : ℝ) : EReal)
  g : ∀ (i : Fin 4096) (h : Fin 16) (d : Fin 128), a.x6 (ix3 i h d) = ((x.g i.val h.val d.val : ℝ) : EReal)

theorem ofBits_192 : Ideal.ofBits .f32 0x43400000#32 = ((192 : ℝ) : EReal) := by
  simp [Ideal.ofBits, Ideal.ieee, -EReal.coe_mul]; norm_num

theorem ofBits_bot : Ideal.ofBits .f32 0xFF800000#32 = ⊥ := by
  simp [Ideal.ofBits, Ideal.ieee]

theorem root_192 : Ideal.sqrt (Ideal.ofBits .f32 0x43400000#32) = ((Real.sqrt 192 : ℝ) : EReal) := by
  rw [ofBits_192, Ideal.sqrt_coe, if_neg (by norm_num)]

theorem div_root (r : ℝ) : Ideal.div (r : EReal) ((Real.sqrt 192 : ℝ) : EReal) = ((r * (Real.sqrt 192)⁻¹ : ℝ) : EReal) := by
  rw [Ideal.div_coe (by positivity), one_div, EReal.coe_mul]

theorem div_real {z : ℝ} (hz : z ≠ 0) (r : ℝ) : Ideal.div (r : EReal) (z : EReal) = ((r * z⁻¹ : ℝ) : EReal) := by
  rw [Ideal.div_coe hz, one_div, EReal.coe_mul]

theorem exp_masked (b : Prop) [Decidable b] (s t : ℝ) :
    Ideal.exp ((if b then (s : EReal) else ⊥) - (t : EReal)) = ((if b then Real.exp (s - t) else 0 : ℝ) : EReal) := by
  split_ifs
  · rw [← EReal.coe_sub, Ideal.exp_coe]
  · rw [EReal.bot_sub, Ideal.exp_bot, EReal.coe_zero]

theorem select_le {i j : ℕ} (hi : i < 4096) (hj : j < 4096) (s t : EReal) :
    Scalar.select (IntOp.cmpi .sle (BitVec.ofNat 32 j) (BitVec.ofNat 32 i)) s t = if j ≤ i then s else t := by
  rw [WordCmp.cmpi_sle_ofNat (by omega) (by omega)]
  by_cases h : j ≤ i
  · simp only [h, decide_true, if_true, Scalar.select, BitVec.ofBool_true, ↓reduceIte]
  · simp only [h, decide_false, if_false, Scalar.select]
    rw [if_neg (by decide)]

variable {a : Args} {x : Data} (H : Holds a x)
include H

theorem nope_at (i : Fin 4096) (h : Fin 16) (d : Fin 128) : nopeA a (ix3 i h d) = ((x.q i.val h.val d.val : ℝ) : EReal) := by
  unfold nopeA
  pointwise
  simp only [H.q, Nat.zero_add]

theorem rot_at (i : Fin 4096) (h : Fin 16) (d : Fin 64) : rotA a (ix3 i h d) = ((x.rot i.val h.val d.val : ℝ) : EReal) := by
  unfold rotA half0 half1 cosB sinB
  pointwise
  unfold Data.rot
  split_ifs <;> simp only [H.q, H.c, H.s, ← EReal.coe_mul, ← EReal.coe_sub, ← EReal.coe_add] <;> simp_all

theorem score_at (h : Fin 16) (i j : Fin 4096) : scoreA a (ix3 h i j) = ((x.score h.val i.val j.val : ℝ) : EReal) := by
  have e1 : ∀ d : Fin 128, nopeA a (ix3 i h d) * a.x1 (ix3 j h d) = ((x.q i.val h.val d.val * x.kn j.val h.val d.val : ℝ) : EReal) := fun d => by
    rw [nope_at H, H.kn, EReal.coe_mul]
  have e2 : ∀ d : Fin 64, a.x2 (ix2 j d) * rotA a (ix3 i h d) = ((x.kr j.val d.val * x.rot i.val h.val d.val : ℝ) : EReal) := fun d => by
    rw [rot_at H, H.kr, EReal.coe_mul]
  unfold scoreA
  pointwise
  rw [Finset.sum_congr rfl fun d _ => e1 d, Finset.sum_congr rfl fun d _ => e2 d, coe_sum, coe_sum, ← EReal.coe_add]
  unfold Data.score
  rw [Finset.sum_range, Finset.sum_range]
  exact (congrArg _ root_192).trans (div_root _)

theorem mask_at (h : Fin 16) (i j : Fin 4096) : maskA a (ix3 h i j) = x.mask h.val i.val j.val := by
  unfold maskA liveA
  pointwise
  refine (select_le i.2 j.2 _ _).trans ?_
  unfold Data.mask
  rw [score_at H]
  split_ifs
  · rfl
  · exact ofBits_bot

theorem top_at (h : Fin 16) (i : Fin 4096) : topA a (ix2 h i) = ((x.top h.val i.val : ℝ) : EReal) := by
  unfold topA
  pointwise
  rw [x.top_eq i.2]
  exact congrArg₂ (fun b f => Finset.fold max b f Finset.univ) ofBits_bot (funext fun k => mask_at H h i k)

theorem topB_at (h : Fin 16) (i : Fin 4096) : topB a (ix3 h i 0) = ((x.top h.val i.val : ℝ) : EReal) := by
  rw [← top_at H]
  unfold topB
  pointwise

theorem ex_at (h : Fin 16) (i j : Fin 4096) : expA a (ix3 h i j) = ((x.ex h.val i.val j.val : ℝ) : EReal) := by
  have e : expA a (ix3 h i j) = Ideal.exp (maskA a (ix3 h i j) - topB a (ix3 h i 0)) := by
    unfold expA
    pointwise
  rw [e, mask_at H, topB_at H]
  exact exp_masked _ _ _

theorem sum_at (h : Fin 16) (i : Fin 4096) : sumA a (ix2 h i) = ((x.sum h.val i.val : ℝ) : EReal) := by
  unfold sumA
  pointwise
  rw [Finset.sum_congr rfl fun d _ => ex_at H h i d, coe_sum]
  unfold Data.sum
  rw [Finset.sum_range]

theorem sumB_at (h : Fin 16) (i : Fin 4096) : sumB a (ix3 h i 0) = ((x.sum h.val i.val : ℝ) : EReal) := by
  rw [← sum_at H]
  unfold sumB
  pointwise

theorem prob_at (h : Fin 16) (i j : Fin 4096) : probA a (ix3 h i j) = ((x.prob h.val i.val j.val : ℝ) : EReal) := by
  have e : probA a (ix3 h i j) = Ideal.div (expA a (ix3 h i j)) (sumB a (ix3 h i 0)) := by
    unfold probA
    pointwise
  rw [e, ex_at H, sumB_at H]
  exact div_real (x.sum_pos i.2).ne' _

theorem out_at (i : Fin 4096) (h : Fin 16) (d : Fin 128) : outA a (ix3 i h d) = ((x.out i.val h.val d.val : ℝ) : EReal) := by
  have e : ∀ j : Fin 4096, a.x3 (ix3 j h d) * probA a (ix3 h i j) = ((x.v j.val h.val d.val * x.prob h.val i.val j.val : ℝ) : EReal) := fun j => by
    rw [H.v, prob_at H, EReal.coe_mul]
  unfold outA
  pointwise
  rw [Finset.sum_congr rfl fun j _ => e j, coe_sum]
  unfold Data.out
  rw [Finset.sum_range]

omit H in
/-- A log-sum-exp from a row's largest score and its sum. -/
def lseT (t z : FVec Ideal S16x4096x1 .f32) : FVec Ideal S4096x16 .f32 :=
  transpose S4096x16 [1, 0] (shapeCast S16x4096 (addf t (Host.log z)) shapeCasts_S16x4096x1_S16x4096) transposes_S16x4096_S4096x16_1_0

omit H in
theorem lseT_at (t z : FVec Ideal S16x4096x1 .f32) (i : Fin 4096) (h : Fin 16) : lseT t z (ix2 i h) = t (ix3 h i 0) + Ideal.log (z (ix3 h i 0)) := by
  unfold lseT
  pointwise

theorem lse_at (i : Fin 4096) (h : Fin 16) : lseA a (ix2 i h) = ((x.lse i.val h.val : ℝ) : EReal) := by
  have e : lseA a = lseT (topB a) (sumB a) := rfl
  rw [e, lseT_at, topB_at H, sumB_at H, Ideal.log_coe, if_neg (not_le.2 (x.sum_pos i.2)), ← EReal.coe_add]
  rfl

theorem w0_at : Arr (w0 a) (fun i d => ((x.heads.Q i d : ℝ) : EReal)) := fun i d => by
  unfold w0
  pointwise
  show _ = ((if d.val % 256 < 128 then x.q i.val (d.val / 256) (d.val % 256) else if d.val % 256 - 128 < 64 then x.rot i.val (d.val / 256) (d.val % 256 - 128) else 0 : ℝ) : EReal)
  split_ifs <;> first | exact nope_at H _ _ _ | exact rot_at H _ _ _ | exact EReal.coe_zero.symm | simp_all

theorem w1_at : Arr (w1 a) (fun i d => ((x.heads.KV i d : ℝ) : EReal)) := fun i d => by
  unfold w1
  pointwise
  show _ = ((if d.val % 256 < 128 then x.kn i.val (d.val / 256) (d.val % 256) else x.v i.val (d.val / 256) (d.val % 256 - 128) : ℝ) : EReal)
  split_ifs <;> first | exact H.kn _ _ _ | exact H.v _ _ _ | exact EReal.coe_zero.symm | simp_all

theorem w2_at : Arr (w2 a) (fun i d => ((x.heads.R i d : ℝ) : EReal)) := fun i d => by
  unfold w2 zeroA
  pointwise
  show _ = ((if d.val < 64 then x.kr i.val d.val else 0 : ℝ) : EReal)
  split_ifs <;> first | exact H.kr _ _ | exact EReal.coe_zero.symm | simp_all

theorem w3_at : Arr (w3 a) (fun i d => ((x.heads.G i d : ℝ) : EReal)) := fun i d => by
  unfold w3
  pointwise
  exact H.g _ _ _

theorem w4_at : Arr (w4 a) (fun i d => ((x.heads.L i (d / 128) : ℝ) : EReal)) := fun i d => by
  unfold w4
  generalize hl : lseA a = l
  pointwise
  rw [← hl]
  exact lse_at H _ _

theorem w5_at : Arr (w5 a) (fun i d => ((x.heads.O i d : ℝ) : EReal)) := fun i d => by
  unfold w5
  generalize hl : outA a = l
  pointwise
  rw [← hl]
  exact out_at H _ _ _

theorem w6_at : Arr (w6 a) (fun i d => ((x.heads.C i d : ℝ) : EReal)) := fun i d => by
  unfold w6 zeroA
  pointwise
  show _ = ((if d.val < 32 then x.c i.val d.val else if d.val - 32 < 32 then x.c i.val (d.val - 32) else 0 : ℝ) : EReal)
  split_ifs <;> first | exact H.c _ _ | exact EReal.coe_zero.symm | simp_all

theorem w7_at : Arr (w7 a) (fun i d => ((x.heads.S i d : ℝ) : EReal)) := fun i d => by
  unfold w7 zeroA
  pointwise
  show _ = ((if d.val < 32 then -x.s i.val d.val else if d.val - 32 < 32 then x.s i.val (d.val - 32) else 0 : ℝ) : EReal)
  split_ifs <;> first | exact H.s _ _ | exact (congrArg _ (H.s _ _)).trans (EReal.coe_neg _).symm | exact EReal.coe_zero.symm | simp_all

end Cert.Host

end
-- ==== Proof.RefAt.lean ====
/- The entries of the reference's arrays, where the arguments hold reals. -/
module

public import proofs.«01_k».proof.Proof.Gen.ReferenceIdeal.Run
public import proofs.«01_k».proof.Proof.HostAt
public import Idealize.ShloMosaic.Lib.Tactic.CleanTypes

@[expose] public section

set_option maxRecDepth 16384

noncomputable section

namespace Cert.Ref

open Idealize.ShloMosaic Idealize.ShloMosaic.TcCoe Cert.ReferenceIdeal Cert.ReferenceIdeal.Gen Cert.ReferenceIdeal.Value
open Cert.Hold Cert.Block Cert.Att
open Cert.Host (select_le exp_masked div_real div_root root_192 ofBits_bot)

/-- The seven arguments. -/
abbrev argsOf (V0 : Valuation τ sig (Elt Ideal)) : Cert.Host.Args :=
  ⟨V0 (Proc.devRef .tc main_arg0), V0 (Proc.devRef .tc main_arg1), V0 (Proc.devRef .tc main_arg2), V0 (Proc.devRef .tc main_arg3),
    V0 (Proc.devRef .tc main_arg4), V0 (Proc.devRef .tc main_arg5), V0 (Proc.devRef .tc main_arg6)⟩

/-! The reference's named arrays as arrays of floats. -/

abbrev W0 (V0 : Valuation τ sig (Elt Ideal)) : FVec Ideal S4096x16x128 .f32 := res_main_v0 V0
abbrev W16 (V0 : Valuation τ sig (Elt Ideal)) : FVec Ideal S4096x16x64 .f32 := res_main_v16 V0
abbrev W52 (V0 : Valuation τ sig (Elt Ideal)) : FVec Ideal S16x4096x4096 .f32 := res_main_v52 V0
abbrev W54 (V0 : Valuation τ sig (Elt Ideal)) : FVec Ideal S16x4096x1 .f32 := res_main_v54 V0
abbrev W63 (V0 : Valuation τ sig (Elt Ideal)) : FVec Ideal S16x4096x4096 .f32 := res_main_v63 V0
abbrev W80 (V0 : Valuation τ sig (Elt Ideal)) : FVec Ideal S16x4096x4096 .f32 := res_main_v80 V0

/-- The exponentials of scores below their row's largest. -/
def exT (s : FVec Ideal S16x4096x4096 .f32) (t : FVec Ideal S16x4096 .f32) : FVec Ideal S16x4096x4096 .f32 :=
  Host.exp (subf s (broadcastInDim S16x4096x4096 ![0, 1, 2] bcast_S16x4096x1_S16x4096x4096_0_1_2 (broadcastInDim S16x4096x1 ![0, 1] bcast_S16x4096_S16x4096x1_0_1
    (maximumf (broadcastInDim S16x4096 ![] bcast_S_S16x4096 (constant S_ .f32 0xFF800000#32)) t))))

theorem exT_at (s : FVec Ideal S16x4096x4096 .f32) (t : FVec Ideal S16x4096 .f32) (h : Fin 16) (i j : Fin 4096) :
    exT s t (ix3 h i j) = Ideal.exp (s (ix3 h i j) - max (Ideal.ofBits .f32 0xFF800000#32) (t (ix2 h i))) := by
  unfold exT
  pointwise

/-- The row's term of a score's gradient, with its sign yet to come. -/
def negT (e dp : FVec Ideal S16x4096x4096 .f32) (z : FVec Ideal S16x4096x1 .f32) : FVec Ideal S16x4096 .f32 :=
  Host.reduceAdd (mulf (mulf dp (broadcastInDim S16x4096x4096 ![0, 1, 2] bcast_S16x4096x1_S16x4096x4096_0_1_2
    (Host.divf (broadcastInDim S16x4096x1 ![] bcast_S_S16x4096x1 (constant S_ .f32 0x3F800000#32)) (mulf z z)))) e)
    (constant S_ .f32 0x00000000#32) reducesTo_S16x4096x4096_S16x4096_d2 h_S_

theorem negT_at (e dp : FVec Ideal S16x4096x4096 .f32) (z : FVec Ideal S16x4096x1 .f32) (h : Fin 16) (i : Fin 4096) :
    negT e dp z (ix2 h i) = ∑ k : Fin 4096, dp (ix3 h i k) * Ideal.div 1 (z (ix3 h i 0) * z (ix3 h i 0)) * e (ix3 h i k) := by
  unfold negT
  pointwise

/-- Its sign. -/
def castT (r : FVec Ideal S16x4096 .f32) : FVec Ideal S16x4096 .f32 :=
  Host.reduceAdd (Host.negf (shapeCast S16x4096x1 r shapeCasts_S16x4096_S16x4096x1)) (constant S_ .f32 0x00000000#32) reducesTo_S16x4096x1_S16x4096_d2 h_S_

theorem castT_at (r : FVec Ideal S16x4096 .f32) (h : Fin 16) (i : Fin 4096) : castT r (ix2 h i) = ∑ _k : Fin 1, -r (ix2 h i) := by
  unfold castT
  pointwise

/-- A score's gradient. -/
def dsT (l : IVec S16x4096x4096 1) (e dp : FVec Ideal S16x4096x4096 .f32) (z : FVec Ideal S16x4096x1 .f32) (n : FVec Ideal S16x4096 .f32) (r : FVec Ideal S_ .f32) :
    FVec Ideal S16x4096x4096 .f32 :=
  Host.divf (select l (mulf (addf (Host.divf dp (broadcastInDim S16x4096x4096 ![0, 1, 2] bcast_S16x4096x1_S16x4096x4096_0_1_2 z))
      (broadcastInDim S16x4096x4096 ![0, 1] bcast_S16x4096_S16x4096x4096_0_1 n)) e)
    (broadcastInDim S16x4096x4096 ![] bcast_S_S16x4096x4096 (constant S_ .f32 0x00000000#32)))
    (broadcastInDim S16x4096x4096 ![] bcast_S_S16x4096x4096 r)

theorem dsT_at (l : IVec S16x4096x4096 1) (e dp : FVec Ideal S16x4096x4096 .f32) (z : FVec Ideal S16x4096x1 .f32) (n : FVec Ideal S16x4096 .f32) (r : FVec Ideal S_ .f32)
    (h : Fin 16) (i j : Fin 4096) :
    dsT l e dp z n r (ix3 h i j)
      = Ideal.div (Scalar.select (l (ix3 h i j)) ((Ideal.div (dp (ix3 h i j)) (z (ix3 h i 0)) + n (ix2 h i)) * e (ix3 h i j)) (0 : EReal)) (r ix0) := by
  unfold dsT
  pointwise

variable {V0 : Valuation τ sig (Elt Ideal)} {x : Data} (H : Cert.Host.Holds (argsOf V0) x)

theorem v52_eq : res_main_v52 V0 = exT (res_main_v31_0 V0) (res_main_v32 V0) := rfl

theorem v80_eq : W80 V0 = dsT (res_main_v31_1 V0) (W52 V0) (W63 V0) (W54 V0) (castT (negT (W52 V0) (W63 V0) (W54 V0))) (res_main_v21 V0) := rfl

include H

theorem nope_at (i : Fin 4096) (h : Fin 16) (d : Fin 128) : W0 V0 (ix3 i h d) = ((x.q i.val h.val d.val : ℝ) : EReal) := by
  have e := H.q i h ⟨d.val, by omega⟩
  rw [← e]
  unfold W0 res_main_v0
  clean_types
  pointwise

theorem rot_at (i : Fin 4096) (h : Fin 16) (d : Fin 64) : W16 V0 (ix3 i h d) = ((x.rot i.val h.val d.val : ℝ) : EReal) := by
  have eq : ∀ k : Fin 192, V0 (Proc.devRef .tc main_arg0) (ix3 i h k) = ((x.q i.val h.val k.val : ℝ) : EReal) := H.q i h
  have ec : ∀ k : Fin 32, V0 (Proc.devRef .tc main_arg4) (ix2 i k) = ((x.c i.val k.val : ℝ) : EReal) := H.c i
  have es : ∀ k : Fin 32, V0 (Proc.devRef .tc main_arg5) (ix2 i k) = ((x.s i.val k.val : ℝ) : EReal) := H.s i
  have en : ∀ n, 128 + (32 + n) = 160 + n := fun n => by omega
  unfold W16 res_main_v16 res_main_v4 res_main_v5 res_main_v1 res_main_v2 res_main_v3
  clean_types
  pointwise
  unfold Data.rot
  split_ifs <;> first
    | simp only [eq, ec, es, en, Nat.zero_add, ← EReal.coe_mul, ← EReal.coe_sub, ← EReal.coe_add]; done
    | (simp only [eq, ec, es, en, Nat.zero_add, ← EReal.coe_mul, ← EReal.coe_sub, ← EReal.coe_add] <;> simp_all)

theorem root_at : res_main_v21 V0 ix0 = ((Real.sqrt 192 : ℝ) : EReal) := root_192

theorem live_at (h : Fin 16) (i j : Fin 4096) :
    res_main_v31_1 V0 (ix3 h i j) = IntOp.cmpi .sle (BitVec.ofNat 32 j.val) (BitVec.ofNat 32 i.val) := by
  unfold res_main_v31_1
  clean_types
  pointwise

theorem mask_at (h : Fin 16) (i j : Fin 4096) : res_main_v31_0 V0 (ix3 h i j) = x.mask h.val i.val j.val := by
  have e1 : ∀ d : Fin 128, W0 V0 (ix3 i h d) * (argsOf V0).x1 (ix3 j h d) = ((x.q i.val h.val d.val * x.kn j.val h.val d.val : ℝ) : EReal) := fun d => by
    rw [nope_at H, EReal.coe_mul, ← H.kn]
  have e2 : ∀ d : Fin 64, (argsOf V0).x2 (ix2 j d) * W16 V0 (ix3 i h d) = ((x.kr j.val d.val * x.rot i.val h.val d.val : ℝ) : EReal) := fun d => by
    rw [rot_at H, EReal.coe_mul, ← H.kr]
  unfold res_main_v31_0 res_main_v31_1
  clean_types
  pointwise
  refine (select_le i.2 j.2 _ _).trans ?_
  unfold Data.mask
  split_ifs
  · rw [Finset.sum_congr rfl fun d _ => e1 d, Finset.sum_congr rfl fun d _ => e2 d, coe_sum, coe_sum, ← EReal.coe_add]
    unfold Data.score
    rw [Finset.sum_range, Finset.sum_range]
    exact (congrArg _ root_192).trans (div_root _)
  · exact ofBits_bot

theorem top_at (h : Fin 16) (i : Fin 4096) : res_main_v32 V0 (ix2 h i) = ((x.top h.val i.val : ℝ) : EReal) := by
  unfold res_main_v32
  clean_types
  pointwise
  rw [x.top_eq i.2]
  exact congrArg₂ (fun b f => Finset.fold max b f Finset.univ) ofBits_bot (funext fun k => mask_at H h i k)

theorem ex_at (h : Fin 16) (i j : Fin 4096) : W52 V0 (ix3 h i j) = ((x.ex h.val i.val j.val : ℝ) : EReal) := by
  rw [show W52 V0 = exT (res_main_v31_0 V0) (res_main_v32 V0) from v52_eq, exT_at, mask_at H, top_at H, ofBits_bot, max_eq_right bot_le]
  exact exp_masked _ _ _

theorem sum_at (h : Fin 16) (i : Fin 4096) : W54 V0 (ix3 h i 0) = ((x.sum h.val i.val : ℝ) : EReal) := by
  have e : W54 V0 (ix3 h i 0) = ∑ k : Fin 4096, W52 V0 (ix3 h i k) := by
    unfold W54 W52 res_main_v54
    generalize res_main_v52 V0 = w
    clean_types
    pointwise
  rw [e, Finset.sum_congr rfl fun d _ => ex_at H h i d, coe_sum]
  unfold Data.sum
  rw [Finset.sum_range]

theorem prob_at (h : Fin 16) (i j : Fin 4096) : res_main_v56 V0 (ix3 h i j) = ((x.prob h.val i.val j.val : ℝ) : EReal) := by
  have e : res_main_v56 V0 (ix3 h i j) = Ideal.div (W52 V0 (ix3 h i j)) (W54 V0 (ix3 h i 0)) := by
    unfold W54 W52 res_main_v56
    generalize res_main_v52 V0 = w
    generalize res_main_v54 V0 = z
    clean_types
    pointwise
  rw [e, ex_at H, sum_at H]
  exact div_real (x.sum_pos i.2).ne' _

theorem dp_at (h : Fin 16) (i j : Fin 4096) : W63 V0 (ix3 h i j) = ((x.dp h.val i.val j.val : ℝ) : EReal) := by
  have e1 : ∀ d : Fin 128, (argsOf V0).x6 (ix3 i h d) * (argsOf V0).x3 (ix3 j h d) = ((x.g i.val h.val d.val * x.v j.val h.val d.val : ℝ) : EReal) := fun d => by
    rw [EReal.coe_mul, ← H.g, ← H.v]
  unfold W63 res_main_v63 res_main_v62
  clean_types
  pointwise
  rw [Finset.sum_congr rfl fun d _ => e1 d, coe_sum]
  unfold Data.dp
  rw [Finset.sum_range]

theorem ds_at (h : Fin 16) (i j : Fin 4096) : W80 V0 (ix3 h i j) = ((x.ds h.val i.val j.val : ℝ) : EReal) := by
  have hz := (x.sum_pos (h := h.val) i.2).ne'
  have e1 : ∀ k : Fin 4096, W63 V0 (ix3 h i k) * Ideal.div 1 (W54 V0 (ix3 h i 0) * W54 V0 (ix3 h i 0)) * W52 V0 (ix3 h i k)
      = ((x.dp h.val i.val k.val * (1 * (x.sum h.val i.val * x.sum h.val i.val)⁻¹) * x.ex h.val i.val k.val : ℝ) : EReal) := fun k => by
    rw [dp_at H, sum_at H, ex_at H, ← EReal.coe_mul, ← EReal.coe_one, div_real (mul_ne_zero hz hz), ← EReal.coe_mul, ← EReal.coe_mul]
  rw [v80_eq, dsT_at, live_at H, select_le i.2 j.2, castT_at, Fin.sum_univ_one, negT_at, Finset.sum_congr rfl fun k _ => e1 k, coe_sum, root_at H,
    dp_at H, sum_at H, ex_at H, div_real hz, ← EReal.coe_neg, ← EReal.coe_add, ← EReal.coe_mul]
  unfold Data.ds
  rw [Finset.sum_range]
  split_ifs
  · exact div_root _
  · rw [← EReal.coe_zero]
    exact div_root _

theorem turned_at (i : Fin 4096) (h : Fin 16) (d : Fin 64) : res_main_v82 V0 (ix3 i h d) = ((x.turned i.val h.val d.val : ℝ) : EReal) := by
  have e1 : ∀ j : Fin 4096, W80 V0 (ix3 h i j) * (argsOf V0).x2 (ix2 j d) = ((x.ds h.val i.val j.val * x.kr j.val d.val : ℝ) : EReal) := fun j => by
    rw [ds_at H, EReal.coe_mul, ← H.kr]
  have e : res_main_v82 V0 (ix3 i h d) = ∑ j : Fin 4096, W80 V0 (ix3 h i j) * (argsOf V0).x2 (ix2 j d) := by
    unfold W80 res_main_v82 res_main_v81
    generalize res_main_v80 V0 = w
    clean_types
    pointwise
  rw [e, Finset.sum_congr rfl fun d _ => e1 d, coe_sum]
  unfold Data.turned
  rw [Finset.sum_range]

omit H in
/-- q's gradient from the scores' gradient, the keys, the product with the rope half of the keys, and the rope. -/
def resQT (ds : FVec Ideal S16x4096x4096 .f32) (kn : FVec Ideal S4096x16x128 .f32) (t : FVec Ideal S4096x16x64 .f32) (c s : FVec Ideal S4096x1x32 .f32) :
    FVec Ideal S4096x4096 .bf16 :=
  truncf .bf16 (shapeCast S4096x4096 (concatenate S4096x16x256 2 [⟨S4096x16x192, concatenate S4096x16x192 2
    [⟨S4096x16x128, transpose S4096x16x128 [1, 0, 2] (Host.dotGeneral dot_S16x4096x4096_S4096x16x128_S16x4096x128_2_0_1_2_0_1 none ds kn) transposes_S16x4096x128_S4096x16x128_1_0_2⟩,
    ⟨S4096x16x64, concatenate S4096x16x64 2
      [⟨S4096x16x32, addf (mulf (extractStridedSlice S4096x16x32 ![0, 0, 32] t slices_S4096x16x64_S4096x16x32_0_0_32) (broadcastInDim S4096x16x32 ![0, 1, 2] bcast_S4096x1x32_S4096x16x32_0_1_2 s))
        (mulf (extractStridedSlice S4096x16x32 ![0, 0, 0] t slices_S4096x16x64_S4096x16x32_0_0_0) (broadcastInDim S4096x16x32 ![0, 1, 2] bcast_S4096x1x32_S4096x16x32_0_1_2 c))⟩,
      ⟨S4096x16x32, addf (mulf (extractStridedSlice S4096x16x32 ![0, 0, 32] t slices_S4096x16x64_S4096x16x32_0_0_32) (broadcastInDim S4096x16x32 ![0, 1, 2] bcast_S4096x1x32_S4096x16x32_0_1_2 c))
        (mulf (Host.negf (extractStridedSlice S4096x16x32 ![0, 0, 0] t slices_S4096x16x64_S4096x16x32_0_0_0)) (broadcastInDim S4096x16x32 ![0, 1, 2] bcast_S4096x1x32_S4096x16x32_0_1_2 s))⟩]
      concatenates_S4096x16x32_S4096x16x32_S4096x16x64_d2⟩] concatenates_S4096x16x128_S4096x16x64_S4096x16x192_d2⟩,
    ⟨S4096x16x64, broadcastInDim S4096x16x64 ![] bcast_S_S4096x16x64 (constant S_ .f32 0x00000000#32)⟩] concatenates_S4096x16x192_S4096x16x64_S4096x16x256_d2)
    shapeCasts_S4096x16x256_S4096x4096) bitsLt_bf16_f32

omit H in
theorem resQT_at {ds : FVec Ideal S16x4096x4096 .f32} {kn : FVec Ideal S4096x16x128 .f32} {t : FVec Ideal S4096x16x64 .f32} {c s : FVec Ideal S4096x1x32 .f32}
    (hds : ∀ h i j, ds (ix3 h i j) = ((x.ds h.val i.val j.val : ℝ) : EReal)) (hkn : ∀ i h d, kn (ix3 i h d) = ((x.kn i.val h.val d.val : ℝ) : EReal))
    (ht : ∀ i h d, t (ix3 i h d) = ((x.turned i.val h.val d.val : ℝ) : EReal)) (hc : ∀ i d, c (ix3 i 0 d) = ((x.c i.val d.val : ℝ) : EReal))
    (hs : ∀ i d, s (ix3 i 0 d) = ((x.s i.val d.val : ℝ) : EReal)) :
    Arr (resQT ds kn t c s) (fun i d => ((x.dq i (d / 256) (d % 256) : ℝ) : EReal)) := fun i d => by
  unfold resQT
  pointwise
  unfold Data.dq
  simp only [hds, hkn, ht, hc, hs, Nat.zero_add, ← EReal.coe_mul, ← EReal.coe_add, ← EReal.coe_neg, coe_sum]
  simp only [Finset.sum_range]
  split_ifs <;> first | rfl | exact EReal.coe_zero.symm | simp_all

omit H in
/-- k's and v's gradients. -/
def resKVT (ds : FVec Ideal S16x4096x4096 .f32) (q : FVec Ideal S4096x16x128 .f32) (g : FVec Ideal S16x128x4096 .f32) (p : FVec Ideal S16x4096x4096 .f32) :
    FVec Ideal S4096x4096 .bf16 :=
  truncf .bf16 (shapeCast S4096x4096 (concatenate S4096x16x256 2
    [⟨S4096x16x128, transpose S4096x16x128 [1, 0, 2] (Host.dotGeneral dot_S16x4096x4096_S4096x16x128_S16x4096x128_1_0_2_2_0_1 none ds q) transposes_S16x4096x128_S4096x16x128_1_0_2⟩,
    ⟨S4096x16x128, transpose S4096x16x128 [2, 0, 1] (Host.dotGeneral dot_S16x128x4096_S16x4096x4096_S16x128x4096_2_1_1_2_0_0 none g p) transposes_S16x128x4096_S4096x16x128_2_0_1⟩]
    concatenates_S4096x16x128_S4096x16x128_S4096x16x256_d2) shapeCasts_S4096x16x256_S4096x4096) bitsLt_bf16_f32

omit H in
theorem resKVT_at {ds : FVec Ideal S16x4096x4096 .f32} {q : FVec Ideal S4096x16x128 .f32} {g : FVec Ideal S16x128x4096 .f32} {p : FVec Ideal S16x4096x4096 .f32}
    (hds : ∀ h i j, ds (ix3 h i j) = ((x.ds h.val i.val j.val : ℝ) : EReal)) (hq : ∀ i h d, q (ix3 i h d) = ((x.q i.val h.val d.val : ℝ) : EReal))
    (hg : ∀ h d i, g (ix3 h d i) = ((x.g i.val h.val d.val : ℝ) : EReal)) (hp : ∀ h i j, p (ix3 h i j) = ((x.prob h.val i.val j.val : ℝ) : EReal)) :
    Arr (resKVT ds q g p) (fun i d => ((x.dkv i (d / 256) (d % 256) : ℝ) : EReal)) := fun i d => by
  unfold resKVT
  pointwise
  unfold Data.dkv
  simp only [hds, hq, hg, hp, ← EReal.coe_mul, coe_sum]
  simp only [Finset.sum_range]
  split_ifs <;> first | rfl | exact EReal.coe_zero.symm | simp_all

omit H in
/-- The gradient of the keys' rope half. -/
def resRT (d : FVec Ideal S4096x4096x16 .f32) (r : FVec Ideal S4096x16x64 .f32) : FVec Ideal S4096x128 .f32 :=
  concatenate S4096x128 1 [⟨S4096x64, Host.dotGeneral dot_S4096x4096x16_S4096x16x64_S4096x64_12_01_0_2_n_n none d r⟩,
    ⟨S4096x64, broadcastInDim S4096x64 ![] bcast_S_S4096x64 (constant S_ .f32 0x00000000#32)⟩] concatenates_S4096x64_S4096x64_S4096x128_d1

omit H in
theorem resRT_at {ds : FVec Ideal S4096x4096x16 .f32} {r : FVec Ideal S4096x16x64 .f32}
    (hds : ∀ j i h, ds (ix3 j i h) = ((x.ds h.val i.val j.val : ℝ) : EReal)) (hr : ∀ i h d, r (ix3 i h d) = ((x.rot i.val h.val d.val : ℝ) : EReal)) :
    Arr (resRT ds r) (fun i d => ((x.dkr i d : ℝ) : EReal)) := fun i d => by
  unfold resRT
  pointwise
  unfold Data.dkr
  simp only [hds, hr, ← EReal.coe_mul, coe_sum]
  rw [Finset.sum_comm]
  simp only [Finset.sum_range]
  split_ifs <;> first | rfl | exact EReal.coe_zero.symm | simp_all

/-- The reference's first result. -/
theorem result0 : Arr (resQT (W80 V0) (argsOf V0).x1 (res_main_v82 V0) (res_main_v2 V0) (res_main_v3 V0)) (fun i d => ((x.dq i (d / 256) (d % 256) : ℝ) : EReal)) := by
  refine resQT_at (ds_at H) H.kn (turned_at H) (fun i d => ?_) (fun i d => ?_)
  · rw [← H.c]
    unfold res_main_v2
    clean_types
    pointwise
  · rw [← H.s]
    unfold res_main_v3
    clean_types
    pointwise

/-- Its second. -/
theorem result1 : Arr (resKVT (W80 V0) (W0 V0) (res_main_v62 V0) (res_main_v56 V0)) (fun i d => ((x.dkv i (d / 256) (d % 256) : ℝ) : EReal)) := by
  refine resKVT_at (ds_at H) (nope_at H) (fun h d i => ?_) (prob_at H)
  rw [← H.g]
  unfold res_main_v62
  clean_types
  pointwise

/-- Its third. -/
theorem result2 : Arr (resRT (res_main_v81 V0) (W16 V0)) (fun i d => ((x.dkr i d : ℝ) : EReal)) := by
  refine resRT_at (fun j i h => ?_) (rot_at H)
  rw [← ds_at H]
  unfold res_main_v81 W80
  generalize res_main_v80 V0 = w
  clean_types
  pointwise

end Cert.Ref

end
-- ==== Proof.Finite.lean ====
/- Where the precondition holds, the arguments hold reals. -/
module

public import proofs.«01_k».proof.Proof.Gen.Pre_finite
public import proofs.«01_k».proof.Proof.HostAt
public import Idealize.ShloMosaic.Lib.ReduceAll

@[expose] public section

set_option maxRecDepth 16384

noncomputable section

namespace Cert.Finite

open Idealize.ShloMosaic Cert.Pre_finite Cert.Hold Cert.Att Cert.Host

theorem ofBits_top : Ideal.ofBits .f32 0x7F800000#32 = ⊤ := by simp [Ideal.ofBits, Ideal.ieee]

/-- A value whose modulus is below infinity is a real. -/
theorem real_of {r : EReal} (h : Ideal.cmp .olt (max r (-r)) (Ideal.ofBits .f32 0x7F800000#32) = 1#1) : r = ((r.toReal : ℝ) : EReal) := by
  rw [ofBits_top] at h
  have h2 : max r (-r) < ⊤ := by
    by_contra hn
    unfold Ideal.cmp at h
    simp only [decide_eq_false hn] at h
    exact absurd h (by decide)
  rw [max_lt_iff] at h2
  refine (EReal.coe_toReal h2.1.ne fun hb => ?_).symm
  rw [hb, EReal.neg_bot] at h2
  exact lt_irrefl _ h2.2

/-- An array of which the test for finite entries came out true. -/
theorem all_real {s : Shape} {axes : List (Fin s.rank)} (x : FVec Ideal s .f32) (hb : S_.BroadcastsInDim s (![] : Fin 0 → Fin s.rank)) (h : s.ReducesTo axes S_)
    (hu : 0 < S_.numel) (init : IVec S_ 1)
    (e : Host.reduce IntOp.andi (cmpf .olt (Host.absf x) (broadcastInDim s ![] hb (constant S_ .f32 0x7F800000#32))) init h hu ix0 = 1#1) (i : s.Idx) :
    x i = (((x i : EReal).toReal : ℝ) : EReal) := by
  haveI : Subsingleton S_.Idx := ⟨fun a b => funext fun k => k.elim0⟩
  exact real_of (Host.reduce_andi_all _ _ h hu ix0 e i)

theorem both {a b : IVec S_ 1} (e : andi a b ix0 = 1#1) : a ix0 = 1#1 ∧ b ix0 = 1#1 := IntOp.andi_eq_one.1 e

/-- The numbers in an array of three axes. -/
def num3 {n m k : ℕ} (x : FVec Ideal ⟨3, ![n, m, k]⟩ .f32) (i h d : ℕ) : ℝ :=
  if p : i < n ∧ h < m ∧ d < k then (x (ix3 ⟨i, p.1⟩ ⟨h, p.2.1⟩ ⟨d, p.2.2⟩) : EReal).toReal else 0

theorem num3_at {n m k : ℕ} {x : FVec Ideal ⟨3, ![n, m, k]⟩ .f32} (hx : ∀ i, x i = (((x i : EReal).toReal : ℝ) : EReal)) (i : Fin n) (h : Fin m) (d : Fin k) :
    x (ix3 i h d) = ((num3 x i.val h.val d.val : ℝ) : EReal) := by
  unfold num3
  rw [dif_pos ⟨i.2, h.2, d.2⟩]
  exact hx _

/-- The numbers in an array of two axes. -/
def num2 {n m : ℕ} (x : FVec Ideal ⟨2, ![n, m]⟩ .f32) (i d : ℕ) : ℝ :=
  if p : i < n ∧ d < m then (x (ix2 ⟨i, p.1⟩ ⟨d, p.2⟩) : EReal).toReal else 0

theorem num2_at {n m : ℕ} {x : FVec Ideal ⟨2, ![n, m]⟩ .f32} (hx : ∀ i, x i = (((x i : EReal).toReal : ℝ) : EReal)) (i : Fin n) (d : Fin m) :
    x (ix2 i d) = ((num2 x i.val d.val : ℝ) : EReal) := by
  unfold num2
  rw [dif_pos ⟨i.2, d.2⟩]
  exact hx _

/-- The arguments' numbers. -/
def dataOf (a : Args) : Data where
  q := num3 a.x0
  kn := num3 a.x1
  kr := num2 a.x2
  v := num3 a.x3
  c := num2 a.x4
  s := num2 a.x5
  g := num3 a.x6

theorem holds (a : Args) (e : Cert.Pre_finite.fn (F := Ideal) a.x0 a.x1 a.x2 a.x3 a.x4 a.x5 a.x6 = fun _ => 1#1) : Holds a (dataOf a) := by
  obtain ⟨e, e6⟩ := both (congrFun e ix0)
  obtain ⟨e, e5⟩ := both e
  obtain ⟨e, e4⟩ := both e
  obtain ⟨e, e3⟩ := both e
  obtain ⟨e, e2⟩ := both e
  obtain ⟨e0, e1⟩ := both e
  exact ⟨num3_at (all_real _ _ _ _ _ e0), num3_at (all_real _ _ _ _ _ e1), num2_at (all_real _ _ _ _ _ e2), num3_at (all_real _ _ _ _ _ e3),
    num2_at (all_real _ _ _ _ _ e4), num2_at (all_real _ _ _ _ _ e5), num3_at (all_real _ _ _ _ _ e6)⟩

end Cert.Finite

end
-- ==== Proof.Value.lean ====
/- The call computes what the reference does. -/
module

public import proofs.«01_k».proof.Defs
public import proofs.«01_k».proof.Proof.Arrays
public import proofs.«01_k».proof.Proof.RefAt
public import proofs.«01_k».proof.Proof.Finite

@[expose] public section

set_option maxRecDepth 16384

noncomputable section

namespace Cert.Value

open Idealize.ShloMosaic Idealize.ShloMosaic.TcCoe Idealize.SL.Sem Cert.KernelIdeal Cert.KernelIdeal.Gen
open Cert.Hold Cert.Block Cert.Steps Cert.Out Cert.Att Cert.Arrays

theorem arr_eq {α : Type*} {n m : ℕ} {x y : (⟨2, ![n, m]⟩ : Shape).Idx → α} {f : ℕ → ℕ → α} (hx : Arr x f) (hy : Arr y f) : x = y :=
  funext fun k => (hx.at k).trans (hy.at k).symm

section
variable {m : (ℓ : Loc nD τ sig) → Buf (Elt Ideal) ℓ} {c : Dev nD} {x : Data} (H : Cert.Host.Holds (Cert.Host.argsOf m c) x)
include H

/-- The windows' arrays when the call begins. -/
theorem entry : Entry m c x.heads where
  q := by rw [show V m c (Pipeline.arrRef spec0 0) = _ from Cert.Host.V_w0 m c]; exact Cert.Host.w0_at H
  kv := by rw [show V m c (Pipeline.arrRef spec0 1) = _ from Cert.Host.V_w1 m c]; exact Cert.Host.w1_at H
  r := by rw [show V m c (Pipeline.arrRef spec0 2) = _ from Cert.Host.V_w2 m c]; exact Cert.Host.w2_at H
  g := by rw [show V m c (Pipeline.arrRef spec0 3) = _ from Cert.Host.V_w3 m c]; exact Cert.Host.w3_at H
  l := by rw [show V m c (Pipeline.arrRef spec0 4) = _ from Cert.Host.V_w4 m c]; exact Cert.Host.w4_at H
  o := by rw [show V m c (Pipeline.arrRef spec0 5) = _ from Cert.Host.V_w5 m c]; exact Cert.Host.w5_at H
  C := by rw [show V m c (Pipeline.arrRef spec0 6) = _ from Cert.Host.V_w6 m c]; exact Cert.Host.w6_at H
  S := by rw [show V m c (Pipeline.arrRef spec0 7) = _ from Cert.Host.V_w7 m c]; exact Cert.Host.w7_at H

theorem kernel0 : Arr (n := 4096) (m := 4096) ((dats m 0 c).arrAt 8 cfg0.N) (fun i d => ((x.dq i (d / 256) (d % 256) : ℝ) : EReal)) :=
  (array8 (entry H)).congr fun i d hi hd => congrArg _ (x.outQ_eq (d / 256) hi (by omega))

theorem kernel1 : Arr (n := 4096) (m := 4096) ((dats m 0 c).arrAt 9 cfg0.N) (fun i d => ((x.dkv i (d / 256) (d % 256) : ℝ) : EReal)) :=
  (array9 (entry H)).congr fun i d hi hd => congrArg _ (x.outKV_eq (d / 256) i (by omega))

theorem kernel2 : Arr (n := 4096) (m := 128) ((dats m 0 c).arrAt 10 cfg0.N) (fun i d => ((x.dkr i d : ℝ) : EReal)) :=
  (array10 (entry H)).congr fun i d hi hd => congrArg _ (x.outR_eq i hd)

end

/-- Over the extended reals the call and the derivative of the attention compute the same three arrays. -/
theorem algebraic : Cert.algebraic_KernelIdeal_ReferenceIdeal_pre_finite := by
  intro m ρ m' ρ' hpre hagree
  have H : ∀ c, Cert.Host.Holds (Cert.Host.argsOf m c) (Cert.Finite.dataOf (Cert.Host.argsOf m c)) := fun c => Cert.Finite.holds _ (hpre c)
  have H' : ∀ c, Cert.Host.Holds (Cert.Ref.argsOf (StableHlo.launchContents m' c)) (Cert.Finite.dataOf (Cert.Host.argsOf m c)) := fun c => by
    have e : Cert.Ref.argsOf (StableHlo.launchContents m' c) = Cert.Host.argsOf m c := by
      obtain ⟨e0, e1, e2, e3, e4, e5, e6⟩ := hagree c
      unfold Cert.Ref.argsOf Cert.Host.argsOf
      rw [← e0, ← e1, ← e2, ← e3, ← e4, ← e5, ← e6]
    rw [e]
    exact H c
  refine ⟨_, _, _, Cert.KernelIdeal.Value.run_blocks m ρ, ?_⟩
  refine (θ_run Cert.ReferenceIdeal.defs _ _).mono (fun _ h c => ?_) (Cert.ReferenceIdeal.Value.run m' ρ')
  obtain ⟨h0, h1, h2, h3⟩ := h c
  exact ⟨h0.trans (arr_eq (Cert.Ref.result0 (H' c)) (kernel0 (H c))), h1.trans (arr_eq (Cert.Ref.result1 (H' c)) (kernel1 (H c))),
    h2.trans (arr_eq (Cert.Ref.result2 (H' c)) (kernel2 (H c))), h3⟩

end Cert.Value

end
-- ==== Proof.Frames2.lean ====
/- The claims that each program of the further calls runs, leaves its arguments as they were and ends quiescent. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

@[expose] public section

noncomputable section

namespace Cert.Proof.Frames

open Idealize.ShloMosaic Idealize.ShloMosaic.TcCoe Idealize.SL.Sem

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.Proof.Frames

end
-- ==== Proof.Entries.lean ====
/- An array's entries as a function of two numbers. -/
module

public import proofs.«01_k».proof.Proof.Hold

@[expose] public section

noncomputable section

namespace Cert.Hold

open Idealize.ShloMosaic

/-- The entry at row `i` and column `j`, with 0 outside the array. -/
def ent {n m : ℕ} (x : (⟨2, ![n, m]⟩ : Shape).Idx → EReal) (i j : ℕ) : EReal := if h : i < n ∧ j < m then x (ix2 ⟨i, h.1⟩ ⟨j, h.2⟩) else 0

theorem ent_eq {n m : ℕ} (x : (⟨2, ![n, m]⟩ : Shape).Idx → EReal) (i : Fin n) (j : Fin m) : ent x i.val j.val = x (ix2 i j) := by
  unfold ent
  rw [dif_pos ⟨i.2, j.2⟩]

theorem arr_ent {n m : ℕ} (x : (⟨2, ![n, m]⟩ : Shape).Idx → EReal) : Arr (n := n) (m := m) x (ent x) := fun i j => (ent_eq x i j).symm

/-- The entries of an array of three axes, at natural numbers. -/
def ent3 {n m k : ℕ} (x : (⟨3, ![n, m, k]⟩ : Shape).Idx → EReal) (i h d : ℕ) : EReal :=
  if p : i < n ∧ h < m ∧ d < k then x (ix3 ⟨i, p.1⟩ ⟨h, p.2.1⟩ ⟨d, p.2.2⟩) else 0

theorem ent3_eq {n m k : ℕ} (x : (⟨3, ![n, m, k]⟩ : Shape).Idx → EReal) (i : Fin n) (h : Fin m) (d : Fin k) : ent3 x i.val h.val d.val = x (ix3 i h d) := by
  unfold ent3
  rw [dif_pos ⟨i.2, h.2, d.2⟩]

/-- The entries of an array of one axis, at natural numbers. -/
def ent1 {n : ℕ} (x : (⟨1, ![n]⟩ : Shape).Idx → EReal) (i : ℕ) : EReal := if h : i < n then x (ix1 ⟨i, h⟩) else 0

theorem ent1_eq {n : ℕ} (x : (⟨1, ![n]⟩ : Shape).Idx → EReal) (i : Fin n) : ent1 x i.val = x (ix1 i) := by
  unfold ent1
  rw [dif_pos i.2]

theorem Arr.unique {n m : ℕ} {x y : (⟨2, ![n, m]⟩ : Shape).Idx → EReal} {f : ℕ → ℕ → EReal} (hx : Arr x f) (hy : Arr y f) : x = y :=
  funext fun i => (hx.at i).trans (hy.at i).symm

/-- A sum over `n` blocks of `m` entries. -/
theorem sum_blocks (f : ℕ → EReal) (m : ℕ) : ∀ n : ℕ, ∑ k ∈ Finset.range (n * m), f k = ∑ j ∈ Finset.range n, ∑ d ∈ Finset.range m, f (j * m + d)
  | 0 => by simp
  | n + 1 => by rw [Nat.succ_mul, Finset.sum_range_add, sum_blocks f m n, Finset.sum_range_succ _ n]

end Cert.Hold

end
-- ==== Proof.GradX.lean ====
/- The gradient of the first input projection's argument, with the residual's: the call and the derivative have the same
   entries. -/
module

public import proofs.«01_k».proof.Defs
public import proofs.«01_k».proof.Proof.Entries
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.GradX

open Idealize.ShloMosaic Idealize.ShloMosaic.TcCoe Idealize.SL.Sem Cert.Kernel2Ideal Cert.Kernel2Ideal.Gen Cert.Hold

/-- Entry (i, r): the residual's gradient under its weight, and row i of the projection's gradient against row r of the weight. -/
def grad (g w r : ℕ → ℕ → EReal) (i n : ℕ) : EReal := Ideal.ofBits .f32 0x3FB504F3#32 * r i n + ∑ k ∈ Finset.range 6144, g i k * w n k

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel
theorem index3 : ∀ t : Fin grid0.N, win0_3.index t = ![t.val, 0] := by decide +kernel

/-- One block of the projection's columns. -/
def part (a : Vec Ideal S512x768 .bf16) (b : Vec Ideal S1x1024x768 .bf16) (i : Fin 512) (n : Fin 1024) : EReal :=
  ∑ k : Fin 768, a (ix2 i k) * b (ix3 0 n k)

theorem pay2_at (v0 : Vec Ideal S512x1024 .f32) (a0 a1 a2 a3 : Vec Ideal S512x768 .bf16) (b0 b1 b2 b3 : Vec Ideal S1x1024x768 .bf16) (i : Fin 512) (n : Fin 1024) :
    k0_pay2 v0 a0 b0 a1 b1 a2 b2 a3 b3 (ix2 i n) = Ideal.ofBits .f32 0x3FB504F3#32 * v0 (ix2 i n) + part a0 b0 i n + part a1 b1 i n + part a2 b2 i n + part a3 b3 i n := by
  unfold k0_pay2
  pointwise
  rfl

theorem pay1_at (v : FVec Ideal S512x1024 .f32) (a0 a1 a2 a3 : Vec Ideal S512x768 .bf16) (b0 b1 b2 b3 : Vec Ideal S1x1024x768 .bf16) (i : Fin 512) (n : Fin 1024) :
    k0_pay1 v (k0_pay3 a0) b0 a1 b1 a2 b2 a3 b3 (ix2 i n) = v (ix2 i n) + part a0 b0 i n + part a1 b1 i n + part a2 b2 i n + part a3 b3 i n := by
  unfold k0_pay1 k0_pay3
  pointwise
  rfl

/-- A load of one of the weight's eight blocks. -/
theorem slab {X : Vec Ideal S8x1024x768 .bf16} {w : ℕ → ℕ → EReal} (h : ∀ (j : Fin 8) (n : Fin 1024) (d : Fin 768), X (ix3 j n d) = w n.val (j.val * 768 + d.val))
    (j : Fin 8) (inb : ∀ x, (![j.val, 0, 0] : Fin 3 → ℕ) x + S1x1024x768.size x ≤ S8x1024x768.size x) (n : Fin 1024) (k : Fin 768) :
    X ((Rect.unit (s := S8x1024x768) ![j.val, 0, 0] S1x1024x768.size inb).idx (ix3 0 n k)) = w n.val (j.val * 768 + k.val) := by
  rw [← h]
  congr 1
  funext x
  apply Fin.ext
  rw [Rect.idx_unit_val]
  match x with
  | ⟨0, _⟩ => exact Nat.add_zero _
  | ⟨1, _⟩ => exact Nat.zero_add _
  | ⟨2, _⟩ => exact Nat.zero_add _

theorem part_at {A : Vec Ideal S512x6144 .bf16} {B : Vec Ideal S8x1024x768 .bf16} {g w : ℕ → ℕ → EReal} (hA : Arr (n := 512) (m := 6144) A g)
    (hB : ∀ (j : Fin 8) (n : Fin 1024) (d : Fin 768), B (ix3 j n d) = w n.val (j.val * 768 + d.val)) (j : Fin 8) {a : ℕ} (ha : j.val * 768 = a)
    (inA : ∀ x, (![0, a] : Fin 2 → ℕ) x + S512x768.size x ≤ S512x6144.size x)
    (inB : ∀ x, (![j.val, 0, 0] : Fin 3 → ℕ) x + S1x1024x768.size x ≤ S8x1024x768.size x) (i : Fin 512) (n : Fin 1024) :
    part (View.ld A (Rect.unit (s := S512x6144) ![0, a] S512x768.size inA)) (View.ld B (Rect.unit (s := S8x1024x768) ![j.val, 0, 0] S1x1024x768.size inB)) i n
      = ∑ d ∈ Finset.range 768, g i.val (j.val * 768 + d) * w n.val (j.val * 768 + d) := by
  rw [Finset.sum_range]
  refine Finset.sum_congr rfl fun k _ => congrArg₂ _ ?_ (slab hB j inB n k)
  refine (hA.ld (a := 0) (b := a) (n' := 512) (m' := 768) inA i k).trans ?_
  show g (0 + i.val) (a + k.val) = _
  rw [Nat.zero_add, ha]

/-- What the body leaves, over its three blocks. -/
theorem out_at {A : Vec Ideal S512x6144 .bf16} {B : Vec Ideal S8x1024x768 .bf16} {C : Vec Ideal S512x1024 .f32} {g w r : ℕ → ℕ → EReal}
    (hA : Arr (n := 512) (m := 6144) A g) (hB : ∀ (j : Fin 8) (n : Fin 1024) (d : Fin 768), B (ix3 j n d) = w n.val (j.val * 768 + d.val))
    (hC : Arr (n := 512) (m := 1024) C r) : Arr (n := 512) (m := 1024) (out0_3 A B C) (grad g w r) := by
  intro i n
  unfold out0_3
  rw [View.canon_cons_unit_lit' _ _ _ (by decide), View.ld_unit_lit' _ C (by decide)]
  refine (pay1_at _ _ _ _ _ _ _ _ _ i n).trans ?_
  have p0 : part (View.ld A r0_1) (View.ld B r0_2) i n = ∑ d ∈ Finset.range 768, g i.val (0 * 768 + d) * w n.val (0 * 768 + d) := part_at hA hB 0 rfl _ _ i n
  have p1 : part (View.ld A r0_3) (View.ld B r0_4) i n = ∑ d ∈ Finset.range 768, g i.val (1 * 768 + d) * w n.val (1 * 768 + d) := part_at hA hB 1 rfl _ _ i n
  have p2 : part (View.ld A r0_5) (View.ld B r0_6) i n = ∑ d ∈ Finset.range 768, g i.val (2 * 768 + d) * w n.val (2 * 768 + d) := part_at hA hB 2 rfl _ _ i n
  have p3 : part (View.ld A r0_7) (View.ld B r0_8) i n = ∑ d ∈ Finset.range 768, g i.val (3 * 768 + d) * w n.val (3 * 768 + d) := part_at hA hB 3 rfl _ _ i n
  have p4 : part (View.ld A r0_9) (View.ld B r0_10) i n = ∑ d ∈ Finset.range 768, g i.val (4 * 768 + d) * w n.val (4 * 768 + d) := part_at hA hB 4 rfl _ _ i n
  have p5 : part (View.ld A r0_11) (View.ld B r0_12) i n = ∑ d ∈ Finset.range 768, g i.val (5 * 768 + d) * w n.val (5 * 768 + d) := part_at hA hB 5 rfl _ _ i n
  have p6 : part (View.ld A r0_13) (View.ld B r0_14) i n = ∑ d ∈ Finset.range 768, g i.val (6 * 768 + d) * w n.val (6 * 768 + d) := part_at hA hB 6 rfl _ _ i n
  have p7 : part (View.ld A r0_15) (View.ld B r0_16) i n = ∑ d ∈ Finset.range 768, g i.val (7 * 768 + d) * w n.val (7 * 768 + d) := part_at hA hB 7 rfl _ _ i n
  rw [pay2_at, p0, p1, p2, p3, p4, p5, p6, p7, hC]
  unfold grad
  rw [show (6144 : ℕ) = 8 * 768 from rfl, sum_blocks]
  simp only [Finset.sum_range_succ _ 7, Finset.sum_range_succ _ 6, Finset.sum_range_succ _ 5, Finset.sum_range_succ _ 4, Finset.sum_range_succ _ 3, Finset.sum_range_succ _ 2, Finset.sum_range_succ _ 1, Finset.sum_range_succ _ 0, Finset.sum_range_zero, zero_add, add_assoc]

variable (m : (ℓ : Loc nD τ sig) → Buf (Elt Ideal) ℓ) (c : Dev nD)

abbrev G : ℕ → ℕ → EReal := ent (n := 4096) (m := 6144) (m ((c : Thread nD τ).loc main_arg0))
abbrev W : ℕ → ℕ → EReal := ent (n := 1024) (m := 6144) (m ((c : Thread nD τ).loc main_arg1))
abbrev R : ℕ → ℕ → EReal := ent (n := 4096) (m := 1024) (m ((c : Thread nD τ).loc main_arg2))

theorem entry0 : V m c main_v3 = (m ((c : Thread nD τ).loc main_arg0) : FVec Ideal S4096x6144 .f32) := by
  unfold V
  after_reads_simp
  rfl

theorem entry1 : V m c main_v2 = (truncf .bf16 (transpose S8x1024x768 [1, 0, 2] (shapeCast S1024x8x768 (m ((c : Thread nD τ).loc main_arg1) : FVec Ideal S1024x6144 .f32) shapeCasts_S1024x6144_S1024x8x768) transposes_S1024x8x768_S8x1024x768_1_0_2) bitsLt_bf16_f32 : FVec Ideal S8x1024x768 .bf16) := by
  unfold V
  after_reads_simp
  rfl

theorem entry2 : V m c main_arg2 = (m ((c : Thread nD τ).loc main_arg2) : FVec Ideal S4096x1024 .f32) := by
  unfold V
  after_reads_simp

theorem weight_at (w : FVec Ideal S1024x6144 .f32) (j : Fin 8) (n : Fin 1024) (d : Fin 768) :
    (truncf .bf16 (transpose S8x1024x768 [1, 0, 2] (shapeCast S1024x8x768 w shapeCasts_S1024x6144_S1024x8x768) transposes_S1024x8x768_S8x1024x768_1_0_2) bitsLt_bf16_f32 : FVec Ideal S8x1024x768 .bf16) (ix3 j n d)
      = ent (n := 1024) (m := 6144) w n.val (j.val * 768 + d.val) := by
  pointwise
  exact arr_ent (n := 1024) (m := 6144) w n _

theorem read0 (t : Fin cfg0.N) : Arr (n := 512) (m := 6144) (iblk m c 0 t) (fun i k => G m c (t.val * 512 + i) k) := by
  intro i k
  unfold iblk
  have e := (arr_ent (n := 4096) (m := 6144) (V m c main_v3)).at (((cfg0.win 0).blk t).view.emb (ix2 i k))
  blk_simp [index0] at e ⊢
  refine e.trans ?_
  rw [entry0]

theorem read1 (t : Fin cfg0.N) (j : Fin 8) (n : Fin 1024) (d : Fin 768) : (iblk m c 1 t : Vec Ideal S8x1024x768 .bf16) (ix3 j n d) = W m c n.val (j.val * 768 + d.val) := by
  unfold iblk
  have e : (((cfg0.win 1).blk t).view.emb (ix3 j n d)) = (ix3 (n0 := 8) (n1 := 1024) (n2 := 768) j n d) := by
    funext x
    apply Fin.ext
    match x with
    | ⟨0, _⟩ => blk_simp [index1]
    | ⟨1, _⟩ => blk_simp [index1]
    | ⟨2, _⟩ => blk_simp [index1]
  refine (congrArg (V m c main_v2) e).trans ?_
  rw [entry1]
  exact weight_at _ j n d

theorem read2 (t : Fin cfg0.N) : Arr (n := 512) (m := 1024) (iblk m c 2 t) (fun i k => R m c (t.val * 512 + i) k) := by
  intro i k
  unfold iblk
  have e := (arr_ent (n := 4096) (m := 1024) (V m c main_arg2)).at (((cfg0.win 2).blk t).view.emb (ix2 i k))
  blk_simp [index2] at e ⊢
  refine e.trans ?_
  rw [entry2]

theorem kernel_array : (dats m 0 c).arrAt 3 cfg0.N = fun y => grad (G m c) (W m c) (R m c) (y 0).val (y 1).val := by
  refine (dats m 0 c).arrAt_eq_of_covers 3 _ (by decide +kernel) fun t hf y => ?_
  blk_simp [index3]
  rw [after0_3]
  exact (out_at (read0 m c t) (read1 m c t) (read2 m c t)).at y

end Cert.GradX

namespace Cert.GradX

open Idealize.ShloMosaic Idealize.ShloMosaic.TcCoe Idealize.SL.Sem Cert.Reference2Ideal Cert.Reference2Ideal.Gen Cert.Hold

theorem reference_at (g : FVec Ideal S4096x6144 .f32) (w : FVec Ideal S1024x6144 .f32) (r : FVec Ideal S4096x1024 .f32) (i : Fin 4096) (n : Fin 1024) :
    addf (Host.dotGeneral dot_S4096x6144_S1024x6144_S4096x1024_1_1_0_0_n_n none g w) (mulf (broadcastInDim S4096x1024 ![] bcast_S_S4096x1024 (constant S_ .f32 0x3FB504F3#32)) r) (ix2 i n)
      = grad (ent (n := 4096) (m := 6144) g) (ent (n := 1024) (m := 6144) w) (ent (n := 4096) (m := 1024) r) i.val n.val := by
  pointwise
  unfold grad
  rw [add_comm, Finset.sum_range, ent_eq]
  refine congrArg _ (Finset.sum_congr rfl fun k _ => ?_)
  rw [ent_eq, ent_eq]

/-- Over the extended reals the call and the derivative compute the same array. -/
theorem algebraic : Cert.algebraic_Kernel2Ideal_Reference2Ideal := by
  intro m ρ m' ρ' hpre hagree
  refine ⟨_, Cert.Kernel2Ideal.Value.run_blocks m ρ, ?_⟩
  refine (θ_run Cert.Reference2Ideal.defs _ _).mono (fun _ h c => ?_) (Cert.Reference2Ideal.Value.run m' ρ')
  obtain ⟨h0, h1⟩ := h c
  obtain ⟨e0, e1, e2⟩ := hagree c
  refine ⟨h0.trans ?_, h1⟩
  rw [kernel_array m c, e0, e1, e2]
  funext y
  have e := eq_ix2 (n0 := 4096) (n1 := 1024) y
  rw [e]
  exact reference_at _ _ _ _ _

end Cert.GradX

end
-- ==== Proof.WeightLo.lean ====
/- The upper half of the gradient of the first input projection's weight: the call and the derivative of the product have
   the same entries. -/
module

public import proofs.«01_k».proof.Defs
public import proofs.«01_k».proof.Proof.Entries
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.WeightLo

open Idealize.ShloMosaic Idealize.ShloMosaic.TcCoe Idealize.SL.Sem Cert.Kernel3Ideal Cert.Kernel3Ideal.Gen Cert.Hold

/-- Entry (j, i, d): column 768·j + d of the projection's gradient against column i of its argument. -/
def grad (x g : ℕ → ℕ → EReal) (j i d : ℕ) : EReal := ∑ k : Fin 4096, x k.val (0 + i) * g k.val (j * 768 + d)

/-- One block of the call. -/
theorem block_at (a : Vec Ideal S4096x512 .bf16) (b : Vec Ideal S4096x768 .bf16) (i : Fin 512) (d : Fin 768) :
    k0_pay1 a b (ix3 0 i d) = ∑ k : Fin 4096, a (ix2 k i) * b (ix2 k d) := by
  unfold k0_pay1
  pointwise

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![t.val, 0, 0] := by decide +kernel

variable (m : (ℓ : Loc nD τ sig) → Buf (Elt Ideal) ℓ) (c : Dev nD)

theorem entry0 : V m c main_v0 = (m ((c : Thread nD τ).loc main_arg0) : FVec Ideal S4096x1024 .f32) := by
  unfold V
  after_reads_simp
  rfl

theorem entry1 : V m c main_v1 = (m ((c : Thread nD τ).loc main_arg1) : FVec Ideal S4096x6144 .f32) := by
  unfold V
  after_reads_simp
  rfl

/-- The argument's block at a grid point. -/
theorem read0 (t : Fin cfg0.N) : Arr (n := 4096) (m := 512) (iblk m c 0 t)
    (fun k i => ent (n := 4096) (m := 1024) (m ((c : Thread nD τ).loc main_arg0)) k (0 + i)) := by
  intro k i
  unfold iblk
  have e := (arr_ent (n := 4096) (m := 1024) (V m c main_v0)).at (((cfg0.win 0).blk t).view.emb (ix2 k i))
  blk_simp [index0] at e ⊢
  refine e.trans ?_
  rw [entry0]

/-- The gradient's block at a grid point. -/
theorem read1 (t : Fin cfg0.N) : Arr (n := 4096) (m := 768) (iblk m c 1 t)
    (fun k d => ent (n := 4096) (m := 6144) (m ((c : Thread nD τ).loc main_arg1)) k (t.val * 768 + d)) := by
  intro k d
  unfold iblk
  have e := (arr_ent (n := 4096) (m := 6144) (V m c main_v1)).at (((cfg0.win 1).blk t).view.emb (ix2 k d))
  blk_simp [index1] at e ⊢
  exact e.trans (by rw [entry1])

/-- What a grid point leaves. -/
theorem out_ix (t : Fin cfg0.N) (i : Fin 512) (d : Fin 768) : out0_2 (iblk m c 0 t) (iblk m c 1 t) (ix3 (n0 := 1) (n1 := 512) (n2 := 768) 0 i d)
    = grad (ent (n := 4096) (m := 1024) (m ((c : Thread nD τ).loc main_arg0))) (ent (n := 4096) (m := 6144) (m ((c : Thread nD τ).loc main_arg1))) t.val i.val d.val := by
  unfold out0_2
  rw [View.canon_cons_unit_lit' _ _ _ (by decide), View.ld_unit_lit' _ _ (by decide), View.ld_unit_lit' _ _ (by decide)]
  refine (block_at _ _ i d).trans ?_
  exact Finset.sum_congr rfl fun k _ => congrArg₂ _ (read0 m c t k i) (read1 m c t k d)

theorem out_at (t : Fin cfg0.N) (y : S1x512x768.Idx) : out0_2 (iblk m c 0 t) (iblk m c 1 t) y
    = grad (ent (n := 4096) (m := 1024) (m ((c : Thread nD τ).loc main_arg0))) (ent (n := 4096) (m := 6144) (m ((c : Thread nD τ).loc main_arg1))) t.val (y 1).val (y 2).val := by
  have e := eq_ix3 (n0 := 1) (n1 := 512) (n2 := 768) y
  have z : y 0 = (0 : Fin 1) := Subsingleton.elim (α := Fin 1) _ _
  rw [z] at e
  exact (congrArg _ e).trans (out_ix m c t (y 1) (y 2))

theorem kernel_array : (dats m 0 c).arrAt 2 cfg0.N
    = fun y => grad (ent (n := 4096) (m := 1024) (m ((c : Thread nD τ).loc main_arg0))) (ent (n := 4096) (m := 6144) (m ((c : Thread nD τ).loc main_arg1))) (y 0).val (y 1).val (y 2).val := by
  refine (dats m 0 c).arrAt_eq_of_covers 2 _ (by decide +kernel) fun t hf y => ?_
  blk_simp [index2]
  rw [after0_2]
  exact out_at m c t y

end Cert.WeightLo

namespace Cert.WeightLo

open Idealize.ShloMosaic Idealize.ShloMosaic.TcCoe Idealize.SL.Sem Cert.Reference3Ideal Cert.Reference3Ideal.Gen Cert.Hold

theorem reference_at (x : FVec Ideal S4096x1024 .f32) (g : FVec Ideal S4096x6144 .f32) (j : Fin 8) (i : Fin 512) (d : Fin 768) :
    (truncf .bf16 (transpose S8x512x768 [1, 0, 2] (shapeCast _ (extractStridedSlice S512x6144 ![0, 0] (transpose S1024x6144 [1, 0] (Host.dotGeneral dot_S4096x6144_S4096x1024_S6144x1024_0_0_1_1_n_n none g x) transposes_S6144x1024_S1024x6144_1_0) slices_S1024x6144_S512x6144_0_0) shapeCasts_S512x6144_S512x8x768) transposes_S512x8x768_S8x512x768_1_0_2) bitsLt_bf16_f32 : FVec Ideal S8x512x768 .bf16) (ix3 j i d)
      = grad (ent (n := 4096) (m := 1024) x) (ent (n := 4096) (m := 6144) g) j.val i.val d.val := by
  pointwise
  refine Finset.sum_congr rfl fun k _ => ?_
  rw [mul_comm]
  refine congrArg₂ _ ?_ (arr_ent (n := 4096) (m := 6144) g k _)
  exact (arr_ent (n := 4096) (m := 1024) x k _).trans (congrArg _ (by simp))

/-- Over the extended reals the call and the derivative compute the same array. -/
theorem algebraic : Cert.algebraic_Kernel3Ideal_Reference3Ideal := by
  intro m ρ m' ρ' hpre hagree
  refine ⟨_, Cert.Kernel3Ideal.Value.run_blocks m ρ, ?_⟩
  refine (θ_run Cert.Reference3Ideal.defs _ _).mono (fun _ h c => ?_) (Cert.Reference3Ideal.Value.run m' ρ')
  obtain ⟨h0, h1⟩ := h c
  obtain ⟨e0, e1⟩ := hagree c
  refine ⟨h0.trans ?_, h1⟩
  rw [kernel_array m c, e0, e1]
  funext y
  have e := eq_ix3 (n0 := 8) (n1 := 512) (n2 := 768) y
  rw [e]
  exact reference_at _ _ _ _ _

end Cert.WeightLo

end
-- ==== Proof.WeightHi.lean ====
/- The lower half of the gradient of the first input projection's weight: the call and the derivative of the product have
   the same entries. -/
module

public import proofs.«01_k».proof.Defs
public import proofs.«01_k».proof.Proof.Entries
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.WeightHi

open Idealize.ShloMosaic Idealize.ShloMosaic.TcCoe Idealize.SL.Sem Cert.Kernel4Ideal Cert.Kernel4Ideal.Gen Cert.Hold

/-- Entry (j, i, d): column 768·j + d of the projection's gradient against column 512 + i of its argument. -/
def grad (x g : ℕ → ℕ → EReal) (j i d : ℕ) : EReal := ∑ k : Fin 4096, x k.val (512 + i) * g k.val (j * 768 + d)

/-- One block of the call. -/
theorem block_at (a : Vec Ideal S4096x512 .bf16) (b : Vec Ideal S4096x768 .bf16) (i : Fin 512) (d : Fin 768) :
    k0_pay1 a b (ix3 0 i d) = ∑ k : Fin 4096, a (ix2 k i) * b (ix2 k d) := by
  unfold k0_pay1
  pointwise

theorem index0 : ∀ t : Fin grid0.N, win0_0.index t = ![0, 1] := by decide +kernel
theorem index1 : ∀ t : Fin grid0.N, win0_1.index t = ![0, t.val] := by decide +kernel
theorem index2 : ∀ t : Fin grid0.N, win0_2.index t = ![t.val, 0, 0] := by decide +kernel

variable (m : (ℓ : Loc nD τ sig) → Buf (Elt Ideal) ℓ) (c : Dev nD)

theorem entry0 : V m c main_v0 = (m ((c : Thread nD τ).loc main_arg0) : FVec Ideal S4096x1024 .f32) := by
  unfold V
  after_reads_simp
  rfl

theorem entry1 : V m c main_v1 = (m ((c : Thread nD τ).loc main_arg1) : FVec Ideal S4096x6144 .f32) := by
  unfold V
  after_reads_simp
  rfl

/-- The argument's block at a grid point. -/
theorem read0 (t : Fin cfg0.N) : Arr (n := 4096) (m := 512) (iblk m c 0 t)
    (fun k i => ent (n := 4096) (m := 1024) (m ((c : Thread nD τ).loc main_arg0)) k (512 + i)) := by
  intro k i
  unfold iblk
  have e := (arr_ent (n := 4096) (m := 1024) (V m c main_v0)).at (((cfg0.win 0).blk t).view.emb (ix2 k i))
  blk_simp [index0] at e ⊢
  refine e.trans ?_
  rw [entry0]

/-- The gradient's block at a grid point. -/
theorem read1 (t : Fin cfg0.N) : Arr (n := 4096) (m := 768) (iblk m c 1 t)
    (fun k d => ent (n := 4096) (m := 6144) (m ((c : Thread nD τ).loc main_arg1)) k (t.val * 768 + d)) := by
  intro k d
  unfold iblk
  have e := (arr_ent (n := 4096) (m := 6144) (V m c main_v1)).at (((cfg0.win 1).blk t).view.emb (ix2 k d))
  blk_simp [index1] at e ⊢
  exact e.trans (by rw [entry1])

/-- What a grid point leaves. -/
theorem out_ix (t : Fin cfg0.N) (i : Fin 512) (d : Fin 768) : out0_2 (iblk m c 0 t) (iblk m c 1 t) (ix3 (n0 := 1) (n1 := 512) (n2 := 768) 0 i d)
    = grad (ent (n := 4096) (m := 1024) (m ((c : Thread nD τ).loc main_arg0))) (ent (n := 4096) (m := 6144) (m ((c : Thread nD τ).loc main_arg1))) t.val i.val d.val := by
  unfold out0_2
  rw [View.canon_cons_unit_lit' _ _ _ (by decide), View.ld_unit_lit' _ _ (by decide), View.ld_unit_lit' _ _ (by decide)]
  refine (block_at _ _ i d).trans ?_
  exact Finset.sum_congr rfl fun k _ => congrArg₂ _ (read0 m c t k i) (read1 m c t k d)

theorem out_at (t : Fin cfg0.N) (y : S1x512x768.Idx) : out0_2 (iblk m c 0 t) (iblk m c 1 t) y
    = grad (ent (n := 4096) (m := 1024) (m ((c : Thread nD τ).loc main_arg0))) (ent (n := 4096) (m := 6144) (m ((c : Thread nD τ).loc main_arg1))) t.val (y 1).val (y 2).val := by
  have e := eq_ix3 (n0 := 1) (n1 := 512) (n2 := 768) y
  have z : y 0 = (0 : Fin 1) := Subsingleton.elim (α := Fin 1) _ _
  rw [z] at e
  exact (congrArg _ e).trans (out_ix m c t (y 1) (y 2))

theorem kernel_array : (dats m 0 c).arrAt 2 cfg0.N
    = fun y => grad (ent (n := 4096) (m := 1024) (m ((c : Thread nD τ).loc main_arg0))) (ent (n := 4096) (m := 6144) (m ((c : Thread nD τ).loc main_arg1))) (y 0).val (y 1).val (y 2).val := by
  refine (dats m 0 c).arrAt_eq_of_covers 2 _ (by decide +kernel) fun t hf y => ?_
  blk_simp [index2]
  rw [after0_2]
  exact out_at m c t y

end Cert.WeightHi

namespace Cert.WeightHi

open Idealize.ShloMosaic Idealize.ShloMosaic.TcCoe Idealize.SL.Sem Cert.Reference4Ideal Cert.Reference4Ideal.Gen Cert.Hold

theorem reference_at (x : FVec Ideal S4096x1024 .f32) (g : FVec Ideal S4096x6144 .f32) (j : Fin 8) (i : Fin 512) (d : Fin 768) :
    (truncf .bf16 (transpose S8x512x768 [1, 0, 2] (shapeCast _ (extractStridedSlice S512x6144 ![512, 0] (transpose S1024x6144 [1, 0] (Host.dotGeneral dot_S4096x6144_S4096x1024_S6144x1024_0_0_1_1_n_n none g x) transposes_S6144x1024_S1024x6144_1_0) slices_S1024x6144_S512x6144_512_0) shapeCasts_S512x6144_S512x8x768) transposes_S512x8x768_S8x512x768_1_0_2) bitsLt_bf16_f32 : FVec Ideal S8x512x768 .bf16) (ix3 j i d)
      = grad (ent (n := 4096) (m := 1024) x) (ent (n := 4096) (m := 6144) g) j.val i.val d.val := by
  pointwise
  refine Finset.sum_congr rfl fun k _ => ?_
  rw [mul_comm]
  refine congrArg₂ _ ?_ (arr_ent (n := 4096) (m := 6144) g k _)
  exact (arr_ent (n := 4096) (m := 1024) x k _).trans (congrArg _ (by simp))

/-- Over the extended reals the call and the derivative compute the same array. -/
theorem algebraic : Cert.algebraic_Kernel4Ideal_Reference4Ideal := by
  intro m ρ m' ρ' hpre hagree
  refine ⟨_, Cert.Kernel4Ideal.Value.run_blocks m ρ, ?_⟩
  refine (θ_run Cert.Reference4Ideal.defs _ _).mono (fun _ h c => ?_) (Cert.Reference4Ideal.Value.run m' ρ')
  obtain ⟨h0, h1⟩ := h c
  obtain ⟨e0, e1⟩ := hagree c
  refine ⟨h0.trans ?_, h1⟩
  rw [kernel_array m c, e0, e1]
  funext y
  have e := eq_ix3 (n0 := 8) (n1 := 512) (n2 := 768) y
  rw [e]
  exact reference_at _ _ _ _ _

end Cert.WeightHi

end
-- ==== Proof.Frames3.lean ====
/- The claims that each program of the weights' gradients and of the input projection runs, leaves its arguments as they were and ends quiescent. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import Idealize.ShloMosaic.Lib.Quiescent

@[expose] public section

noncomputable section

namespace Cert.Proof.Frames

open Idealize.ShloMosaic Idealize.ShloMosaic.TcCoe Idealize.SL.Sem

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame_p6 : Cert.quiescent_Kernel6 := fun m ρ _ => Cert.Kernel6.Gen.frame m ρ

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame_p7 : Cert.quiescent_Kernel7 := fun m ρ _ => Cert.Kernel7.Gen.frame m ρ

theorem frame_pi7 : Cert.quiescent_Kernel7Ideal := fun m ρ _ => Cert.Kernel7Ideal.Gen.frame m ρ

theorem frame_ri7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frame_p8 : Cert.quiescent_Kernel8 := fun m ρ _ => Cert.Kernel8.Gen.frame m ρ

theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem frame_p9 : Cert.quiescent_Kernel9 := fun m ρ _ => Cert.Kernel9.Gen.frame m ρ

theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem frame_p10 : Cert.quiescent_Kernel10 := fun m ρ _ => Cert.Kernel10.Gen.frame m ρ

theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem frame_p11 : Cert.quiescent_Kernel11 := fun m ρ _ => Cert.Kernel11.Gen.frame m ρ

theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

end Cert.Proof.Frames

end
-- ==== Proof.WeightBOut.lean ====
/- The gradient of the second output projection's weight: the call and the derivative of the product have the same entries. -/
module

public import proofs.«01_k».proof.Defs
public import proofs.«01_k».proof.Proof.Entries
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.WeightBOut

open Idealize.ShloMosaic Idealize.ShloMosaic.TcCoe Idealize.SL.Sem Cert.Kernel5Ideal Cert.Kernel5Ideal.Gen Cert.Hold

/-- Entry (i, d): column d of the result's gradient against column i of the argument. -/
def grad (x g : ℕ → ℕ → EReal) (i d : ℕ) : EReal := ∑ k : Fin 4096, x k.val i * g k.val d

/-- One block of the call. -/
theorem block_at (a : Vec Ideal S4096x512 .bf16) (b : Vec Ideal S4096x1024 .bf16) (i : Fin 512) (d : Fin 1024) :
    k0_pay1 a b (ix2 i d) = ∑ k : Fin 4096, a (ix2 k i) * b (ix2 k d) := by
  unfold k0_pay1
  pointwise

theorem index0 : ∀ t : Fin grid0.N, win0_0.index t = ![0, t.val] := by decide +kernel
theorem index1 : ∀ t : Fin grid0.N, win0_1.index t = ![0, 0] := by decide +kernel
theorem index2 : ∀ t : Fin grid0.N, win0_2.index t = ![t.val, 0] := by decide +kernel

variable (m : (ℓ : Loc nD τ sig) → Buf (Elt Ideal) ℓ) (c : Dev nD)

abbrev X : ℕ → ℕ → EReal := ent (n := 4096) (m := 2048) (m ((c : Thread nD τ).loc main_arg0))
abbrev G : ℕ → ℕ → EReal := ent (n := 4096) (m := 1024) (m ((c : Thread nD τ).loc main_arg1))

theorem entry0 : V m c main_v0 = (m ((c : Thread nD τ).loc main_arg0) : FVec Ideal S4096x2048 .f32) := by
  unfold V
  after_reads_simp
  rfl

theorem entry1 : V m c main_v1 = (m ((c : Thread nD τ).loc main_arg1) : FVec Ideal S4096x1024 .f32) := by
  unfold V
  after_reads_simp
  rfl

/-- The argument's block at a grid point. -/
theorem read0 (t : Fin cfg0.N) : Arr (n := 4096) (m := 512) (iblk m c 0 t) (fun k i => X m c k (t.val * 512 + i)) := by
  intro k i
  unfold iblk
  have e := (arr_ent (n := 4096) (m := 2048) (V m c main_v0)).at (((cfg0.win 0).blk t).view.emb (ix2 k i))
  blk_simp [index0] at e ⊢
  refine e.trans ?_
  rw [entry0]

/-- The gradient's block at a grid point. -/
theorem read1 (t : Fin cfg0.N) : Arr (n := 4096) (m := 1024) (iblk m c 1 t) (fun k d => G m c k (d)) := by
  intro k d
  unfold iblk
  have e := (arr_ent (n := 4096) (m := 1024) (V m c main_v1)).at (((cfg0.win 1).blk t).view.emb (ix2 k d))
  blk_simp [index1] at e ⊢
  refine e.trans ?_
  rw [entry1]

/-- What a grid point leaves. -/
theorem out_at (t : Fin cfg0.N) : Arr (n := 512) (m := 1024) (out0_2 (iblk m c 0 t) (iblk m c 1 t))
    (fun i d => grad (X m c) (G m c) (t.val * 512 + i) (d)) := by
  intro i d
  unfold out0_2
  rw [View.canon_cons_unit_lit' _ _ _ (by decide), View.ld_unit_lit' _ _ (by decide), View.ld_unit_lit' _ _ (by decide)]
  refine (block_at _ _ i d).trans ?_
  exact Finset.sum_congr rfl fun k _ => congrArg₂ _ (read0 m c t k i) (read1 m c t k d)

theorem kernel_array : (dats m 0 c).arrAt 2 cfg0.N = fun y => grad (X m c) (G m c) (y 0).val (y 1).val := by
  refine (dats m 0 c).arrAt_eq_of_covers 2 _ (by decide +kernel) fun t hf y => ?_
  blk_simp [index2]
  rw [after0_2]
  exact (out_at m c t).at y

end Cert.WeightBOut

namespace Cert.WeightBOut

open Idealize.ShloMosaic Idealize.ShloMosaic.TcCoe Idealize.SL.Sem Cert.Reference5Ideal Cert.Reference5Ideal.Gen Cert.Hold

theorem reference_at (x : FVec Ideal S4096x2048 .f32) (g : FVec Ideal S4096x1024 .f32) (i : Fin 2048) (d : Fin 1024) :
    (truncf .bf16 (transpose S2048x1024 [1, 0] (Host.dotGeneral dot_S4096x1024_S4096x2048_S1024x2048_0_0_1_1_n_n none g x) transposes_S1024x2048_S2048x1024_1_0) bitsLt_bf16_f32 : FVec Ideal S2048x1024 .bf16) (ix2 i d)
      = grad (ent (n := 4096) (m := 2048) x) (ent (n := 4096) (m := 1024) g) i.val d.val := by
  pointwise
  unfold grad
  refine Finset.sum_congr rfl fun k _ => ?_
  rw [mul_comm, ent_eq, ent_eq]

/-- Over the extended reals the call and the derivative compute the same array. -/
theorem algebraic : Cert.algebraic_Kernel5Ideal_Reference5Ideal := by
  intro m ρ m' ρ' hpre hagree
  refine ⟨_, Cert.Kernel5Ideal.Value.run_blocks m ρ, ?_⟩
  refine (θ_run Cert.Reference5Ideal.defs _ _).mono (fun _ h c => ?_) (Cert.Reference5Ideal.Value.run m' ρ')
  obtain ⟨h0, h1⟩ := h c
  obtain ⟨e0, e1⟩ := hagree c
  refine ⟨h0.trans ?_, h1⟩
  rw [kernel_array m c, e0, e1]
  funext y
  have e := eq_ix2 (n0 := 2048) (n1 := 1024) y
  rw [e]
  exact reference_at _ _ _ _

end Cert.WeightBOut

end
-- ==== Proof.WeightAOut.lean ====
/- The gradient of the first output projection's weight: the call and the derivative of the product have the same entries. -/
module

public import proofs.«01_k».proof.Defs
public import proofs.«01_k».proof.Proof.Entries
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.WeightAOut

open Idealize.ShloMosaic Idealize.ShloMosaic.TcCoe Idealize.SL.Sem Cert.Kernel6Ideal Cert.Kernel6Ideal.Gen Cert.Hold

/-- Entry (i, d): column d of the result's gradient against column i of the argument. -/
def grad (x g : ℕ → ℕ → EReal) (i d : ℕ) : EReal := ∑ k : Fin 4096, x k.val i * g k.val d

/-- One block of the call. -/
theorem block_at (a : Vec Ideal S4096x512 .bf16) (b : Vec Ideal S4096x1024 .bf16) (i : Fin 512) (d : Fin 1024) :
    k0_pay1 a b (ix2 i d) = ∑ k : Fin 4096, a (ix2 k i) * b (ix2 k d) := by
  unfold k0_pay1
  pointwise

theorem index0 : ∀ t : Fin grid0.N, win0_0.index t = ![0, t.val] := by decide +kernel
theorem index1 : ∀ t : Fin grid0.N, win0_1.index t = ![0, 0] := by decide +kernel
theorem index2 : ∀ t : Fin grid0.N, win0_2.index t = ![t.val, 0] := by decide +kernel

variable (m : (ℓ : Loc nD τ sig) → Buf (Elt Ideal) ℓ) (c : Dev nD)

abbrev X : ℕ → ℕ → EReal := ent (n := 4096) (m := 2048) (m ((c : Thread nD τ).loc main_arg0))
abbrev G : ℕ → ℕ → EReal := ent (n := 4096) (m := 1024) (m ((c : Thread nD τ).loc main_arg1))

theorem entry0 : V m c main_v0 = (m ((c : Thread nD τ).loc main_arg0) : FVec Ideal S4096x2048 .f32) := by
  unfold V
  after_reads_simp
  rfl

theorem entry1 : V m c main_v1 = (m ((c : Thread nD τ).loc main_arg1) : FVec Ideal S4096x1024 .f32) := by
  unfold V
  after_reads_simp
  rfl

/-- The argument's block at a grid point. -/
theorem read0 (t : Fin cfg0.N) : Arr (n := 4096) (m := 512) (iblk m c 0 t) (fun k i => X m c k (t.val * 512 + i)) := by
  intro k i
  unfold iblk
  have e := (arr_ent (n := 4096) (m := 2048) (V m c main_v0)).at (((cfg0.win 0).blk t).view.emb (ix2 k i))
  blk_simp [index0] at e ⊢
  refine e.trans ?_
  rw [entry0]

/-- The gradient's block at a grid point. -/
theorem read1 (t : Fin cfg0.N) : Arr (n := 4096) (m := 1024) (iblk m c 1 t) (fun k d => G m c k (d)) := by
  intro k d
  unfold iblk
  have e := (arr_ent (n := 4096) (m := 1024) (V m c main_v1)).at (((cfg0.win 1).blk t).view.emb (ix2 k d))
  blk_simp [index1] at e ⊢
  refine e.trans ?_
  rw [entry1]

/-- What a grid point leaves. -/
theorem out_at (t : Fin cfg0.N) : Arr (n := 512) (m := 1024) (out0_2 (iblk m c 0 t) (iblk m c 1 t))
    (fun i d => grad (X m c) (G m c) (t.val * 512 + i) (d)) := by
  intro i d
  unfold out0_2
  rw [View.canon_cons_unit_lit' _ _ _ (by decide), View.ld_unit_lit' _ _ (by decide), View.ld_unit_lit' _ _ (by decide)]
  refine (block_at _ _ i d).trans ?_
  exact Finset.sum_congr rfl fun k _ => congrArg₂ _ (read0 m c t k i) (read1 m c t k d)

theorem kernel_array : (dats m 0 c).arrAt 2 cfg0.N = fun y => grad (X m c) (G m c) (y 0).val (y 1).val := by
  refine (dats m 0 c).arrAt_eq_of_covers 2 _ (by decide +kernel) fun t hf y => ?_
  blk_simp [index2]
  rw [after0_2]
  exact (out_at m c t).at y

end Cert.WeightAOut

namespace Cert.WeightAOut

open Idealize.ShloMosaic Idealize.ShloMosaic.TcCoe Idealize.SL.Sem Cert.Reference6Ideal Cert.Reference6Ideal.Gen Cert.Hold

theorem reference_at (x : FVec Ideal S4096x2048 .f32) (g : FVec Ideal S4096x1024 .f32) (i : Fin 2048) (d : Fin 1024) :
    (truncf .bf16 (transpose S2048x1024 [1, 0] (Host.dotGeneral dot_S4096x1024_S4096x2048_S1024x2048_0_0_1_1_n_n none g x) transposes_S1024x2048_S2048x1024_1_0) bitsLt_bf16_f32 : FVec Ideal S2048x1024 .bf16) (ix2 i d)
      = grad (ent (n := 4096) (m := 2048) x) (ent (n := 4096) (m := 1024) g) i.val d.val := by
  pointwise
  unfold grad
  refine Finset.sum_congr rfl fun k _ => ?_
  rw [mul_comm, ent_eq, ent_eq]

/-- Over the extended reals the call and the derivative compute the same array. -/
theorem algebraic : Cert.algebraic_Kernel6Ideal_Reference6Ideal := by
  intro m ρ m' ρ' hpre hagree
  refine ⟨_, Cert.Kernel6Ideal.Value.run_blocks m ρ, ?_⟩
  refine (θ_run Cert.Reference6Ideal.defs _ _).mono (fun _ h c => ?_) (Cert.Reference6Ideal.Value.run m' ρ')
  obtain ⟨h0, h1⟩ := h c
  obtain ⟨e0, e1⟩ := hagree c
  refine ⟨h0.trans ?_, h1⟩
  rw [kernel_array m c, e0, e1]
  funext y
  have e := eq_ix2 (n0 := 2048) (n1 := 1024) y
  rw [e]
  exact reference_at _ _ _ _

end Cert.WeightAOut

end
-- ==== Proof.WeightQUp.lean ====
/- The gradient of the weight that takes the queries' latent to the heads: the call and the derivative of the product have the same entries. -/
module

public import proofs.«01_k».proof.Defs
public import proofs.«01_k».proof.Proof.Entries
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.WeightQUp

open Idealize.ShloMosaic Idealize.ShloMosaic.TcCoe Idealize.SL.Sem Cert.Kernel7Ideal Cert.Kernel7Ideal.Gen Cert.Hold

/-- Entry (i, d): column d of the result's gradient against column i of the argument. -/
def grad (x g : ℕ → ℕ → EReal) (i d : ℕ) : EReal := ∑ k : Fin 4096, x k.val i * g k.val d

/-- One block of the call. -/
theorem block_at (a : Vec Ideal S4096x512 .bf16) (b : Vec Ideal S4096x1024 .bf16) (i : Fin 512) (d : Fin 1024) :
    k0_pay1 a b (ix2 i d) = ∑ k : Fin 4096, a (ix2 k i) * b (ix2 k d) := by
  unfold k0_pay1
  pointwise

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel

variable (m : (ℓ : Loc nD τ sig) → Buf (Elt Ideal) ℓ) (c : Dev nD)

abbrev X : ℕ → ℕ → EReal := ent (n := 4096) (m := 512) (m ((c : Thread nD τ).loc main_arg0))
abbrev G : ℕ → ℕ → EReal := ent (n := 4096) (m := 4096) (m ((c : Thread nD τ).loc main_arg1))

theorem entry0 : V m c main_v0 = (m ((c : Thread nD τ).loc main_arg0) : FVec Ideal S4096x512 .f32) := by
  unfold V
  after_reads_simp
  rfl

theorem entry1 : V m c main_v1 = (m ((c : Thread nD τ).loc main_arg1) : FVec Ideal S4096x4096 .f32) := by
  unfold V
  after_reads_simp
  rfl

/-- The argument's block at a grid point. -/
theorem read0 (t : Fin cfg0.N) : Arr (n := 4096) (m := 512) (iblk m c 0 t) (fun k i => X m c k (i)) := by
  intro k i
  unfold iblk
  have e := (arr_ent (n := 4096) (m := 512) (V m c main_v0)).at (((cfg0.win 0).blk t).view.emb (ix2 k i))
  blk_simp [index0] at e ⊢
  refine e.trans ?_
  rw [entry0]

/-- The gradient's block at a grid point. -/
theorem read1 (t : Fin cfg0.N) : Arr (n := 4096) (m := 1024) (iblk m c 1 t) (fun k d => G m c k (t.val * 1024 + d)) := by
  intro k d
  unfold iblk
  have e := (arr_ent (n := 4096) (m := 4096) (V m c main_v1)).at (((cfg0.win 1).blk t).view.emb (ix2 k d))
  blk_simp [index1] at e ⊢
  refine e.trans ?_
  rw [entry1]

/-- What a grid point leaves. -/
theorem out_at (t : Fin cfg0.N) : Arr (n := 512) (m := 1024) (out0_2 (iblk m c 0 t) (iblk m c 1 t))
    (fun i d => grad (X m c) (G m c) (i) (t.val * 1024 + d)) := by
  intro i d
  unfold out0_2
  rw [View.canon_cons_unit_lit' _ _ _ (by decide), View.ld_unit_lit' _ _ (by decide), View.ld_unit_lit' _ _ (by decide)]
  refine (block_at _ _ i d).trans ?_
  exact Finset.sum_congr rfl fun k _ => congrArg₂ _ (read0 m c t k i) (read1 m c t k d)

theorem kernel_array : (dats m 0 c).arrAt 2 cfg0.N = fun y => grad (X m c) (G m c) (y 0).val (y 1).val := by
  refine (dats m 0 c).arrAt_eq_of_covers 2 _ (by decide +kernel) fun t hf y => ?_
  blk_simp [index2]
  rw [after0_2]
  exact (out_at m c t).at y

end Cert.WeightQUp

namespace Cert.WeightQUp

open Idealize.ShloMosaic Idealize.ShloMosaic.TcCoe Idealize.SL.Sem Cert.Reference7Ideal Cert.Reference7Ideal.Gen Cert.Hold

theorem reference_at (x : FVec Ideal S4096x512 .f32) (g : FVec Ideal S4096x4096 .f32) (i : Fin 512) (d : Fin 4096) :
    (truncf .bf16 (transpose S512x4096 [1, 0] (Host.dotGeneral dot_S4096x4096_S4096x512_S4096x512_0_0_1_1_n_n none g x) transposes_S4096x512_S512x4096_1_0) bitsLt_bf16_f32 : FVec Ideal S512x4096 .bf16) (ix2 i d)
      = grad (ent (n := 4096) (m := 512) x) (ent (n := 4096) (m := 4096) g) i.val d.val := by
  pointwise
  unfold grad
  refine Finset.sum_congr rfl fun k _ => ?_
  rw [mul_comm, ent_eq, ent_eq]

/-- Over the extended reals the call and the derivative compute the same array. -/
theorem algebraic : Cert.algebraic_Kernel7Ideal_Reference7Ideal := by
  intro m ρ m' ρ' hpre hagree
  refine ⟨_, Cert.Kernel7Ideal.Value.run_blocks m ρ, ?_⟩
  refine (θ_run Cert.Reference7Ideal.defs _ _).mono (fun _ h c => ?_) (Cert.Reference7Ideal.Value.run m' ρ')
  obtain ⟨h0, h1⟩ := h c
  obtain ⟨e0, e1⟩ := hagree c
  refine ⟨h0.trans ?_, h1⟩
  rw [kernel_array m c, e0, e1]
  funext y
  have e := eq_ix2 (n0 := 512) (n1 := 4096) y
  rw [e]
  exact reference_at _ _ _ _

end Cert.WeightQUp

end
-- ==== Proof.WeightKvUp.lean ====
/- The gradient of the weights that take the keys' latent to the heads: the call and the derivative of the product have the same entries. -/
module

public import proofs.«01_k».proof.Defs
public import proofs.«01_k».proof.Proof.Entries
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.WeightKvUp

open Idealize.ShloMosaic Idealize.ShloMosaic.TcCoe Idealize.SL.Sem Cert.Kernel8Ideal Cert.Kernel8Ideal.Gen Cert.Hold

/-- Entry (i, d): column d of the result's gradient against column i of the argument. -/
def grad (x g : ℕ → ℕ → EReal) (i d : ℕ) : EReal := ∑ k : Fin 4096, x k.val i * g k.val d

/-- One block of the call. -/
theorem block_at (a : Vec Ideal S4096x256 .bf16) (b : Vec Ideal S4096x1024 .bf16) (i : Fin 256) (d : Fin 1024) :
    k0_pay1 a b (ix2 i d) = ∑ k : Fin 4096, a (ix2 k i) * b (ix2 k d) := by
  unfold k0_pay1
  pointwise

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel

variable (m : (ℓ : Loc nD τ sig) → Buf (Elt Ideal) ℓ) (c : Dev nD)

abbrev X : ℕ → ℕ → EReal := ent (n := 4096) (m := 256) (m ((c : Thread nD τ).loc main_arg0))
abbrev G : ℕ → ℕ → EReal := ent (n := 4096) (m := 4096) (m ((c : Thread nD τ).loc main_arg1))

theorem entry0 : V m c main_v0 = (m ((c : Thread nD τ).loc main_arg0) : FVec Ideal S4096x256 .f32) := by
  unfold V
  after_reads_simp
  rfl

theorem entry1 : V m c main_v1 = (m ((c : Thread nD τ).loc main_arg1) : FVec Ideal S4096x4096 .f32) := by
  unfold V
  after_reads_simp
  rfl

/-- The argument's block at a grid point. -/
theorem read0 (t : Fin cfg0.N) : Arr (n := 4096) (m := 256) (iblk m c 0 t) (fun k i => X m c k (i)) := by
  intro k i
  unfold iblk
  have e := (arr_ent (n := 4096) (m := 256) (V m c main_v0)).at (((cfg0.win 0).blk t).view.emb (ix2 k i))
  blk_simp [index0] at e ⊢
  refine e.trans ?_
  rw [entry0]

/-- The gradient's block at a grid point. -/
theorem read1 (t : Fin cfg0.N) : Arr (n := 4096) (m := 1024) (iblk m c 1 t) (fun k d => G m c k (t.val * 1024 + d)) := by
  intro k d
  unfold iblk
  have e := (arr_ent (n := 4096) (m := 4096) (V m c main_v1)).at (((cfg0.win 1).blk t).view.emb (ix2 k d))
  blk_simp [index1] at e ⊢
  refine e.trans ?_
  rw [entry1]

/-- What a grid point leaves. -/
theorem out_at (t : Fin cfg0.N) : Arr (n := 256) (m := 1024) (out0_2 (iblk m c 0 t) (iblk m c 1 t))
    (fun i d => grad (X m c) (G m c) (i) (t.val * 1024 + d)) := by
  intro i d
  unfold out0_2
  rw [View.canon_cons_unit_lit' _ _ _ (by decide), View.ld_unit_lit' _ _ (by decide), View.ld_unit_lit' _ _ (by decide)]
  refine (block_at _ _ i d).trans ?_
  exact Finset.sum_congr rfl fun k _ => congrArg₂ _ (read0 m c t k i) (read1 m c t k d)

theorem kernel_array : (dats m 0 c).arrAt 2 cfg0.N = fun y => grad (X m c) (G m c) (y 0).val (y 1).val := by
  refine (dats m 0 c).arrAt_eq_of_covers 2 _ (by decide +kernel) fun t hf y => ?_
  blk_simp [index2]
  rw [after0_2]
  exact (out_at m c t).at y

end Cert.WeightKvUp

namespace Cert.WeightKvUp

open Idealize.ShloMosaic Idealize.ShloMosaic.TcCoe Idealize.SL.Sem Cert.Reference8Ideal Cert.Reference8Ideal.Gen Cert.Hold

theorem reference_at (x : FVec Ideal S4096x256 .f32) (g : FVec Ideal S4096x4096 .f32) (i : Fin 256) (d : Fin 4096) :
    (truncf .bf16 (transpose S256x4096 [1, 0] (Host.dotGeneral dot_S4096x4096_S4096x256_S4096x256_0_0_1_1_n_n none g x) transposes_S4096x256_S256x4096_1_0) bitsLt_bf16_f32 : FVec Ideal S256x4096 .bf16) (ix2 i d)
      = grad (ent (n := 4096) (m := 256) x) (ent (n := 4096) (m := 4096) g) i.val d.val := by
  pointwise
  unfold grad
  refine Finset.sum_congr rfl fun k _ => ?_
  rw [mul_comm, ent_eq, ent_eq]

/-- Over the extended reals the call and the derivative compute the same array. -/
theorem algebraic : Cert.algebraic_Kernel8Ideal_Reference8Ideal := by
  intro m ρ m' ρ' hpre hagree
  refine ⟨_, Cert.Kernel8Ideal.Value.run_blocks m ρ, ?_⟩
  refine (θ_run Cert.Reference8Ideal.defs _ _).mono (fun _ h c => ?_) (Cert.Reference8Ideal.Value.run m' ρ')
  obtain ⟨h0, h1⟩ := h c
  obtain ⟨e0, e1⟩ := hagree c
  refine ⟨h0.trans ?_, h1⟩
  rw [kernel_array m c, e0, e1]
  funext y
  have e := eq_ix2 (n0 := 256) (n1 := 4096) y
  rw [e]
  exact reference_at _ _ _ _

end Cert.WeightKvUp

end
-- ==== Proof.WeightKvDown.lean ====
/- The gradient of the weight that takes the second layer's argument to the keys' latent: the call and the derivative of the product have the same entries. -/
module

public import proofs.«01_k».proof.Defs
public import proofs.«01_k».proof.Proof.Entries
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.WeightKvDown

open Idealize.ShloMosaic Idealize.ShloMosaic.TcCoe Idealize.SL.Sem Cert.Kernel9Ideal Cert.Kernel9Ideal.Gen Cert.Hold

/-- Entry (i, d): column d of the result's gradient against column i of the argument. -/
def grad (x g : ℕ → ℕ → EReal) (i d : ℕ) : EReal := ∑ k : Fin 4096, x k.val i * g k.val d

/-- One block of the call. -/
theorem block_at (a : Vec Ideal S4096x512 .bf16) (b : Vec Ideal S4096x384 .bf16) (i : Fin 512) (d : Fin 384) :
    k0_pay1 a b (ix2 i d) = ∑ k : Fin 4096, a (ix2 k i) * b (ix2 k d) := by
  unfold k0_pay1
  pointwise

theorem index0 : ∀ t : Fin grid0.N, win0_0.index t = ![0, t.val] := by decide +kernel
theorem index1 : ∀ t : Fin grid0.N, win0_1.index t = ![0, 0] := by decide +kernel
theorem index2 : ∀ t : Fin grid0.N, win0_2.index t = ![t.val, 0] := by decide +kernel

variable (m : (ℓ : Loc nD τ sig) → Buf (Elt Ideal) ℓ) (c : Dev nD)

abbrev X : ℕ → ℕ → EReal := ent (n := 4096) (m := 1024) (m ((c : Thread nD τ).loc main_arg0))
abbrev G : ℕ → ℕ → EReal := ent (n := 4096) (m := 384) (m ((c : Thread nD τ).loc main_arg1))

theorem entry0 : V m c main_v0 = (m ((c : Thread nD τ).loc main_arg0) : FVec Ideal S4096x1024 .f32) := by
  unfold V
  after_reads_simp
  rfl

theorem entry1 : V m c main_v1 = (m ((c : Thread nD τ).loc main_arg1) : FVec Ideal S4096x384 .f32) := by
  unfold V
  after_reads_simp
  rfl

/-- The argument's block at a grid point. -/
theorem read0 (t : Fin cfg0.N) : Arr (n := 4096) (m := 512) (iblk m c 0 t) (fun k i => X m c k (t.val * 512 + i)) := by
  intro k i
  unfold iblk
  have e := (arr_ent (n := 4096) (m := 1024) (V m c main_v0)).at (((cfg0.win 0).blk t).view.emb (ix2 k i))
  blk_simp [index0] at e ⊢
  refine e.trans ?_
  rw [entry0]

/-- The gradient's block at a grid point. -/
theorem read1 (t : Fin cfg0.N) : Arr (n := 4096) (m := 384) (iblk m c 1 t) (fun k d => G m c k (d)) := by
  intro k d
  unfold iblk
  have e := (arr_ent (n := 4096) (m := 384) (V m c main_v1)).at (((cfg0.win 1).blk t).view.emb (ix2 k d))
  blk_simp [index1] at e ⊢
  refine e.trans ?_
  rw [entry1]

/-- What a grid point leaves. -/
theorem out_at (t : Fin cfg0.N) : Arr (n := 512) (m := 384) (out0_2 (iblk m c 0 t) (iblk m c 1 t))
    (fun i d => grad (X m c) (G m c) (t.val * 512 + i) (d)) := by
  intro i d
  unfold out0_2
  rw [View.canon_cons_unit_lit' _ _ _ (by decide), View.ld_unit_lit' _ _ (by decide), View.ld_unit_lit' _ _ (by decide)]
  refine (block_at _ _ i d).trans ?_
  exact Finset.sum_congr rfl fun k _ => congrArg₂ _ (read0 m c t k i) (read1 m c t k d)

theorem kernel_array : (dats m 0 c).arrAt 2 cfg0.N = fun y => grad (X m c) (G m c) (y 0).val (y 1).val := by
  refine (dats m 0 c).arrAt_eq_of_covers 2 _ (by decide +kernel) fun t hf y => ?_
  blk_simp [index2]
  rw [after0_2]
  exact (out_at m c t).at y

end Cert.WeightKvDown

namespace Cert.WeightKvDown

open Idealize.ShloMosaic Idealize.ShloMosaic.TcCoe Idealize.SL.Sem Cert.Reference9Ideal Cert.Reference9Ideal.Gen Cert.Hold

theorem reference_at (x : FVec Ideal S4096x1024 .f32) (g : FVec Ideal S4096x384 .f32) (i : Fin 1024) (d : Fin 384) :
    (truncf .bf16 (transpose S1024x384 [1, 0] (Host.dotGeneral dot_S4096x384_S4096x1024_S384x1024_0_0_1_1_n_n none g x) transposes_S384x1024_S1024x384_1_0) bitsLt_bf16_f32 : FVec Ideal S1024x384 .bf16) (ix2 i d)
      = grad (ent (n := 4096) (m := 1024) x) (ent (n := 4096) (m := 384) g) i.val d.val := by
  pointwise
  unfold grad
  refine Finset.sum_congr rfl fun k _ => ?_
  rw [mul_comm, ent_eq, ent_eq]

/-- Over the extended reals the call and the derivative compute the same array. -/
theorem algebraic : Cert.algebraic_Kernel9Ideal_Reference9Ideal := by
  intro m ρ m' ρ' hpre hagree
  refine ⟨_, Cert.Kernel9Ideal.Value.run_blocks m ρ, ?_⟩
  refine (θ_run Cert.Reference9Ideal.defs _ _).mono (fun _ h c => ?_) (Cert.Reference9Ideal.Value.run m' ρ')
  obtain ⟨h0, h1⟩ := h c
  obtain ⟨e0, e1⟩ := hagree c
  refine ⟨h0.trans ?_, h1⟩
  rw [kernel_array m c, e0, e1]
  funext y
  have e := eq_ix2 (n0 := 1024) (n1 := 384) y
  rw [e]
  exact reference_at _ _ _ _

end Cert.WeightKvDown

end
-- ==== Proof.WeightBIn.lean ====
/- The gradient of the second input projection's weight: the call and the derivative of the product have the same entries. -/
module

public import proofs.«01_k».proof.Defs
public import proofs.«01_k».proof.Proof.Entries
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.WeightBIn

open Idealize.ShloMosaic Idealize.ShloMosaic.TcCoe Idealize.SL.Sem Cert.Kernel10Ideal Cert.Kernel10Ideal.Gen Cert.Hold

/-- Entry (i, d): column d of the result's gradient against column i of the argument. -/
def grad (x g : ℕ → ℕ → EReal) (i d : ℕ) : EReal := ∑ k : Fin 4096, x k.val i * g k.val d

/-- One block of the call. -/
theorem block_at (a : Vec Ideal S4096x1024 .bf16) (b : Vec Ideal S4096x640 .bf16) (i : Fin 1024) (d : Fin 640) :
    k0_pay1 a b (ix2 i d) = ∑ k : Fin 4096, a (ix2 k i) * b (ix2 k d) := by
  unfold k0_pay1
  pointwise

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![t.val, 0, 0] := by decide +kernel

variable (m : (ℓ : Loc nD τ sig) → Buf (Elt Ideal) ℓ) (c : Dev nD)

abbrev X : ℕ → ℕ → EReal := ent (n := 4096) (m := 1024) (m ((c : Thread nD τ).loc main_arg0))
abbrev G : ℕ → ℕ → EReal := ent (n := 4096) (m := 2560) (m ((c : Thread nD τ).loc main_arg1))

theorem entry0 : V m c main_v0 = (m ((c : Thread nD τ).loc main_arg0) : FVec Ideal S4096x1024 .f32) := by
  unfold V
  after_reads_simp
  rfl

theorem entry1 : V m c main_v1 = (m ((c : Thread nD τ).loc main_arg1) : FVec Ideal S4096x2560 .f32) := by
  unfold V
  after_reads_simp
  rfl

/-- The argument's block at a grid point. -/
theorem read0 (t : Fin cfg0.N) : Arr (n := 4096) (m := 1024) (iblk m c 0 t) (fun k i => X m c k (i)) := by
  intro k i
  unfold iblk
  have e := (arr_ent (n := 4096) (m := 1024) (V m c main_v0)).at (((cfg0.win 0).blk t).view.emb (ix2 k i))
  blk_simp [index0] at e ⊢
  refine e.trans ?_
  rw [entry0]

/-- The gradient's block at a grid point. -/
theorem read1 (t : Fin cfg0.N) : Arr (n := 4096) (m := 640) (iblk m c 1 t) (fun k d => G m c k (t.val * 640 + d)) := by
  intro k d
  unfold iblk
  have e := (arr_ent (n := 4096) (m := 2560) (V m c main_v1)).at (((cfg0.win 1).blk t).view.emb (ix2 k d))
  blk_simp [index1] at e ⊢
  refine e.trans ?_
  rw [entry1]

/-- The other half of its columns. -/
theorem block3_at (a : Vec Ideal S4096x1024 .bf16) (b : Vec Ideal S4096x640 .bf16) (i : Fin 1024) (d : Fin 320) :
    k0_pay3 a b (ix3 0 i d) = ∑ k : Fin 4096, a (ix2 k i) * b (ix2 k ⟨320 + d.val, by omega⟩) := by
  unfold k0_pay3
  pointwise
  exact block_at _ _ _ _

/-- The first half of its columns. -/
theorem block2_at (a : Vec Ideal S4096x1024 .bf16) (b : Vec Ideal S4096x640 .bf16) (i : Fin 1024) (d : Fin 320) :
    k0_pay2 a b (ix3 0 i d) = ∑ k : Fin 4096, a (ix2 k i) * b (ix2 k ⟨d.val, by omega⟩) := by
  unfold k0_pay2
  pointwise
  exact block_at _ _ _ _

/-- The two blocks that a grid point leaves. -/
def two (t : ℕ) (y : S2x1024x320.Idx) : EReal := grad (X m c) (G m c) (y 1).val ((t * 2 + (y 0).val) * 320 + (y 2).val)

theorem idx1 (x : S1x1024x320.Idx) : x = ix3 (n0 := 1) (n1 := 1024) (n2 := 320) 0 (x 1) (x 2) := by
  have e := eq_ix3 (n0 := 1) (n1 := 1024) (n2 := 320) x
  have z : x 0 = (0 : Fin 1) := Subsingleton.elim (α := Fin 1) _ _
  rw [z] at e
  exact e

theorem piece3 (t : Fin cfg0.N) (x : S1x1024x320.Idx) : k0_pay3 (iblk m c 0 t) (iblk m c 1 t) x = two m c t.val (r0_3.emb x) := by
  refine (congrArg _ (idx1 x)).trans ((block3_at _ _ (x 1) (x 2)).trans ?_)
  unfold two grad
  refine Finset.sum_congr rfl fun k _ => congrArg₂ _ ?_ ?_
  · refine (read0 m c t k (x 1)).trans (congrArg _ ?_)
    show (x 1).val = 0 + 1 * (x 1).val
    omega
  · refine (read1 m c t k _).trans (congrArg _ ?_)
    have z : (x 0).val < 1 := (x 0).2
    show t.val * 640 + (320 + (x 2).val) = (t.val * 2 + (1 + 1 * (x 0).val)) * 320 + (0 + 1 * (x 2).val)
    omega

theorem piece2 (t : Fin cfg0.N) (x : S1x1024x320.Idx) : k0_pay2 (iblk m c 0 t) (iblk m c 1 t) x = two m c t.val (r0_2.emb x) := by
  refine (congrArg _ (idx1 x)).trans ((block2_at _ _ (x 1) (x 2)).trans ?_)
  unfold two grad
  refine Finset.sum_congr rfl fun k _ => congrArg₂ _ ?_ ?_
  · refine (read0 m c t k (x 1)).trans (congrArg _ ?_)
    show (x 1).val = 0 + 1 * (x 1).val
    omega
  · refine (read1 m c t k _).trans (congrArg _ ?_)
    have z : (x 0).val < 1 := (x 0).2
    show t.val * 640 + (x 2).val = (t.val * 2 + (0 + 1 * (x 0).val)) * 320 + (0 + 1 * (x 2).val)
    omega

/-- What a grid point leaves is its two pieces. -/
theorem out_eq (a : Vec Ideal S4096x1024 .bf16) (b : Vec Ideal S4096x640 .bf16) :
    out0_2 a b = View.canon [⟨r0_3, k0_pay3 a b⟩, ⟨r0_2, k0_pay2 a b⟩] := by
  unfold out0_2
  rw [View.ld_unit_lit' _ a (by decide), View.ld_unit_lit' _ b (by decide)]

theorem out_at (t : Fin cfg0.N) (y : S2x1024x320.Idx) : out0_2 (iblk m c 0 t) (iblk m c 1 t) y = two m c t.val y := by
  rw [out_eq]
  refine View.canon_apply_of_pieces (Val := Elt Ideal) (e := .bf16) (two m c t.val) _ ?_ y (cover0_2 _ _ y)
  intro pc hpc
  rcases List.mem_cons.mp hpc with rfl | hpc
  · exact fun x => piece3 m c t x
  rcases List.mem_cons.mp hpc with rfl | hpc
  · exact fun x => piece2 m c t x
  nomatch hpc

theorem kernel_array : (dats m 0 c).arrAt 2 cfg0.N = fun y => grad (X m c) (G m c) (y 1).val ((y 0).val * 320 + (y 2).val) := by
  refine (dats m 0 c).arrAt_eq_of_covers 2 _ (by decide +kernel) fun t hf y => ?_
  blk_simp [index2]
  rw [after0_2]
  exact out_at m c t y

end Cert.WeightBIn

namespace Cert.WeightBIn

open Idealize.ShloMosaic Idealize.ShloMosaic.TcCoe Idealize.SL.Sem Cert.Reference10Ideal Cert.Reference10Ideal.Gen Cert.Hold

theorem reference_at (x : FVec Ideal S4096x1024 .f32) (g : FVec Ideal S4096x2560 .f32) (j : Fin 8) (i : Fin 1024) (d : Fin 320) :
    (truncf .bf16 (transpose S8x1024x320 [1, 0, 2] (shapeCast _ (transpose S1024x2560 [1, 0] (Host.dotGeneral dot_S4096x2560_S4096x1024_S2560x1024_0_0_1_1_n_n none g x) transposes_S2560x1024_S1024x2560_1_0) shapeCasts_S1024x2560_S1024x8x320) transposes_S1024x8x320_S8x1024x320_1_0_2) bitsLt_bf16_f32 : FVec Ideal S8x1024x320 .bf16) (ix3 j i d)
      = grad (ent (n := 4096) (m := 1024) x) (ent (n := 4096) (m := 2560) g) i.val (j.val * 320 + d.val) := by
  pointwise
  unfold grad
  refine Finset.sum_congr rfl fun k _ => ?_
  rw [mul_comm]
  exact congrArg₂ _ (arr_ent (n := 4096) (m := 1024) x k _) (arr_ent (n := 4096) (m := 2560) g k _)

/-- Over the extended reals the call and the derivative compute the same array. -/
theorem algebraic : Cert.algebraic_Kernel10Ideal_Reference10Ideal := by
  intro m ρ m' ρ' hpre hagree
  refine ⟨_, Cert.Kernel10Ideal.Value.run_blocks m ρ, ?_⟩
  refine (θ_run Cert.Reference10Ideal.defs _ _).mono (fun _ h c => ?_) (Cert.Reference10Ideal.Value.run m' ρ')
  obtain ⟨h0, h1⟩ := h c
  obtain ⟨e0, e1⟩ := hagree c
  refine ⟨h0.trans ?_, h1⟩
  rw [kernel_array m c, e0, e1]
  funext y
  have e := eq_ix3 (n0 := 8) (n1 := 1024) (n2 := 320) y
  rw [e]
  exact reference_at _ _ _ _ _

end Cert.WeightBIn

end
-- ==== Proof.InProj.lean ====
module

public import proofs.«01_k».proof.Defs
public import proofs.«01_k».proof.Proof.Entries
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.InProj

open Idealize.ShloMosaic Idealize.ShloMosaic.TcCoe Idealize.SL.Sem Cert.Kernel11Ideal Cert.Kernel11Ideal.Gen Cert.Hold

/-- Entry (i, n): row i against column n of the weight, and the bias there. -/
def proj (x w : ℕ → ℕ → EReal) (b : ℕ → EReal) (i n : ℕ) : EReal := ∑ k : Fin 1024, x i k.val * w k.val n + b n

/-- An array of one axis as a function of a number. -/
def vec (b : FVec Ideal S6144 .f32) (n : ℕ) : EReal := if h : n < 6144 then b (ix1 ⟨n, h⟩) else 0

theorem vec_eq (b : FVec Ideal S6144 .f32) (n : Fin 6144) : vec b n.val = b (ix1 n) := by
  unfold vec
  rw [dif_pos n.2]

/-- One block of the call. -/
theorem block_at (a : Vec Ideal S2048x1024 .bf16) (w : Vec Ideal S1x1024x768 .bf16) (b : Vec Ideal S1x768 .f32) (i : Fin 2048) (n : Fin 768) :
    k0_pay1 a w b (ix2 i n) = ∑ k : Fin 1024, a (ix2 i k) * w (ix3 0 k n) + b (ix2 0 n) := by
  unfold k0_pay1
  pointwise

theorem index0 : ∀ t : Fin grid0.N, win0_0.index t = ![t.val / 8, 0] := by decide +kernel
theorem index1 : ∀ t : Fin grid0.N, win0_1.index t = ![t.val % 8, 0, 0] := by decide +kernel
theorem index2 : ∀ t : Fin grid0.N, win0_2.index t = ![0, t.val % 8] := by decide +kernel
theorem index3 : ∀ t : Fin grid0.N, win0_3.index t = ![t.val / 8, t.val % 8] := by decide +kernel

variable (m : (ℓ : Loc nD τ sig) → Buf (Elt Ideal) ℓ) (c : Dev nD)

abbrev X : ℕ → ℕ → EReal := ent (n := 4096) (m := 1024) (m ((c : Thread nD τ).loc main_arg0))
abbrev W : ℕ → ℕ → EReal := ent (n := 1024) (m := 6144) (m ((c : Thread nD τ).loc main_arg1))
abbrev B : ℕ → EReal := vec (m ((c : Thread nD τ).loc main_arg2))

theorem entry0 : V m c main_v3 = (m ((c : Thread nD τ).loc main_arg0) : FVec Ideal S4096x1024 .f32) := by
  unfold V
  after_reads_simp
  rfl

theorem entry1 : V m c main_v2 = (truncf .bf16 (transpose S8x1024x768 [1, 0, 2] (shapeCast S1024x8x768 (m ((c : Thread nD τ).loc main_arg1) : FVec Ideal S1024x6144 .f32) shapeCasts_S1024x6144_S1024x8x768) transposes_S1024x8x768_S8x1024x768_1_0_2) bitsLt_bf16_f32 : FVec Ideal S8x1024x768 .bf16) := by
  unfold V
  after_reads_simp
  rfl

theorem entry2 : V m c main_v4 = (shapeCast S1x6144 (m ((c : Thread nD τ).loc main_arg2) : FVec Ideal S6144 .f32) shapeCasts_S6144_S1x6144 : FVec Ideal S1x6144 .f32) := by
  unfold V
  after_reads_simp
  rfl

theorem weight_at (w : FVec Ideal S1024x6144 .f32) (j : Fin 8) (k : Fin 1024) (d : Fin 768) :
    (truncf .bf16 (transpose S8x1024x768 [1, 0, 2] (shapeCast S1024x8x768 w shapeCasts_S1024x6144_S1024x8x768) transposes_S1024x8x768_S8x1024x768_1_0_2) bitsLt_bf16_f32 : FVec Ideal S8x1024x768 .bf16) (ix3 j k d)
      = ent (n := 1024) (m := 6144) w k.val (j.val * 768 + d.val) := by
  pointwise
  exact arr_ent (n := 1024) (m := 6144) w k _

theorem bias_at (b : FVec Ideal S6144 .f32) (n : Fin 6144) : (shapeCast S1x6144 b shapeCasts_S6144_S1x6144 : FVec Ideal S1x6144 .f32) (ix2 0 n) = vec b n.val := by
  pointwise
  exact (vec_eq b n).symm

theorem read0 (t : Fin cfg0.N) : Arr (n := 2048) (m := 1024) (iblk m c 0 t) (fun i k => X m c (t.val / 8 * 2048 + i) k) := by
  intro i k
  unfold iblk
  have e := (arr_ent (n := 4096) (m := 1024) (V m c main_v3)).at (((cfg0.win 0).blk t).view.emb (ix2 i k))
  blk_simp [index0] at e ⊢
  refine e.trans ?_
  rw [entry0]

theorem read1 (t : Fin cfg0.N) (k : Fin 1024) (n : Fin 768) : (iblk m c 1 t : Vec Ideal S1x1024x768 .bf16) (ix3 0 k n) = W m c k.val (t.val % 8 * 768 + n.val) := by
  unfold iblk
  have e : (((cfg0.win 1).blk t).view.emb (ix3 0 k n)) = (ix3 (n0 := 8) (n1 := 1024) (n2 := 768) ⟨t.val % 8, Nat.mod_lt _ (by decide)⟩ k n) := by
    funext x
    apply Fin.ext
    match x with
    | ⟨0, _⟩ =>
      blk_simp [index1]
      rfl
    | ⟨1, _⟩ => blk_simp [index1]
    | ⟨2, _⟩ => blk_simp [index1]
  refine (congrArg (V m c main_v2) e).trans ?_
  rw [entry1]
  exact weight_at _ _ k n

theorem read2 (t : Fin cfg0.N) (n : Fin 768) : (iblk m c 2 t : Vec Ideal S1x768 .f32) (ix2 0 n) = B m c (t.val % 8 * 768 + n.val) := by
  unfold iblk
  have h : t.val % 8 * 768 + n.val < 6144 := by omega
  have e : (((cfg0.win 2).blk t).view.emb (ix2 0 n)) = (ix2 (n0 := 1) (n1 := 6144) 0 ⟨t.val % 8 * 768 + n.val, h⟩) := by
    funext x
    apply Fin.ext
    match x with
    | ⟨0, _⟩ => blk_simp [index2]
    | ⟨1, _⟩ => blk_simp [index2]
  refine (congrArg (V m c main_v4) e).trans ?_
  rw [entry2]
  exact bias_at _ _

/-- What a grid point leaves. -/
theorem out_at (t : Fin cfg0.N) : Arr (n := 2048) (m := 768) (out0_3 (iblk m c 0 t) (iblk m c 1 t) (iblk m c 2 t))
    (fun i n => proj (X m c) (W m c) (B m c) (t.val / 8 * 2048 + i) (t.val % 8 * 768 + n)) := by
  intro i n
  unfold out0_3
  rw [View.canon_cons_unit_lit' _ _ _ (by decide), View.ld_unit_lit' _ _ (by decide), View.ld_unit_lit' _ _ (by decide), View.ld_unit_lit' _ _ (by decide)]
  refine (block_at _ _ _ i n).trans ?_
  exact congrArg₂ _ (Finset.sum_congr rfl fun k _ => congrArg₂ _ (read0 m c t i k) (read1 m c t k n)) (read2 m c t n)

theorem kernel_array : (dats m 0 c).arrAt 3 cfg0.N = fun y => proj (X m c) (W m c) (B m c) (y 0).val (y 1).val := by
  refine (dats m 0 c).arrAt_eq_of_covers 3 _ (by decide +kernel) fun t hf y => ?_
  blk_simp [index3]
  rw [after0_3]
  exact (out_at m c t).at y

end Cert.InProj

namespace Cert.InProj

open Idealize.ShloMosaic Idealize.ShloMosaic.TcCoe Idealize.SL.Sem Cert.Reference11Ideal Cert.Reference11Ideal.Gen Cert.Hold

theorem reference_at (x : FVec Ideal S4096x1024 .f32) (w : FVec Ideal S1024x6144 .f32) (b : FVec Ideal S6144 .f32) (i : Fin 4096) (n : Fin 6144) :
    addf (Host.dotGeneral dot_S4096x1024_S1024x6144_S4096x6144_1_0_0_1_n_n none x w) (broadcastInDim S4096x6144 ![0, 1] bcast_S1x6144_S4096x6144_0_1 (broadcastInDim S1x6144 ![1] bcast_S6144_S1x6144_1 b)) (ix2 i n)
      = proj (ent (n := 4096) (m := 1024) x) (ent (n := 1024) (m := 6144) w) (vec b) i.val n.val := by
  pointwise
  unfold proj
  refine congrArg₂ _ (Finset.sum_congr rfl fun k _ => ?_) (vec_eq b n).symm
  rw [ent_eq, ent_eq]

/-- Over the extended reals the call and reference.py's line compute the same array. -/
theorem algebraic : Cert.algebraic_Kernel11Ideal_Reference11Ideal := by
  intro m ρ m' ρ' hpre hagree
  refine ⟨_, Cert.Kernel11Ideal.Value.run_blocks m ρ, ?_⟩
  refine (θ_run Cert.Reference11Ideal.defs _ _).mono (fun _ h c => ?_) (Cert.Reference11Ideal.Value.run m' ρ')
  obtain ⟨h0, h1⟩ := h c
  obtain ⟨e0, e1, e2⟩ := hagree c
  refine ⟨h0.trans ?_, h1⟩
  rw [kernel_array m c, e0, e1, e2]
  funext y
  have e := eq_ix2 (n0 := 4096) (n1 := 6144) y
  rw [e]
  exact reference_at _ _ _ _ _

end Cert.InProj

end
-- ==== Proof.Frames4.lean ====
/- The claims that the attention's forward call runs, leaves its arguments as they were and ends quiescent, and that each
   constant its idealized kernel names is the constant the kernel holds. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Pre_finite12
public import Idealize.ShloMosaic.Lib.Quiescent

@[expose] public section

noncomputable section

namespace Cert.Proof.Frames

open Idealize.ShloMosaic Idealize.ShloMosaic.TcCoe Idealize.SL.Sem

theorem frame_p12 : Cert.quiescent_Kernel12 := fun m ρ _ => Cert.Kernel12.Gen.frame m ρ

theorem frame_pi12 : Cert.quiescent_Kernel12Ideal := fun m ρ _ => Cert.Kernel12Ideal.Gen.frame m ρ

theorem frame_pi12_finite : Cert.quiescent_Kernel12Ideal_pre_finite12 := fun m ρ _ => Cert.Kernel12Ideal.Gen.frame m ρ

theorem frame_ri12 : Cert.quiescent_Reference12Ideal := fun m ρ _ =>
  (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)

theorem frame_ri12_finite : Cert.quiescent_Reference12Ideal_pre_finite12 := fun m ρ _ => frame_ri12 m ρ trivial

/-- Each name denotes the real that its table entry gives. -/
theorem preserves12 : Cert.preserves_Kernel12_Kernel12Ideal :=
  ⟨IdealRules.named_const.statement _ _ _ _ _ rfl, IdealRules.named_const.statement _ _ _ _ _ rfl, IdealRules.named_const.statement _ _ _ _ _ rfl⟩

end Cert.Proof.Frames

end
-- ==== Proof.FwdReal.lean ====
/- The attention's forward pass over real numbers: a row's scores before they are scaled, their largest, and what the
   keys' blocks give together. -/
module

public import proofs.«01_k».proof.Proof.Real

@[expose] public section

noncomputable section

namespace Cert.Att

open Idealize.ShloMosaic Cert.Block Cert.Steps Cert.Arrays

variable (x : Data)

/-- A score before it is scaled. -/
def Data.raw (t i j : ℕ) : ℝ := ∑ d ∈ Finset.range 256, (x.rows t).Q i d * (x.rows t).K j d

/-- A score before it is scaled, −∞ for a key behind its query. -/
def Data.rawMask (t i j : ℕ) : EReal := if j ≤ i then ((x.raw t i j : ℝ) : EReal) else ⊥

/-- A row's largest score before it is scaled. -/
def Data.big (t i : ℕ) : ℝ := x.top t i * Real.sqrt 192

theorem root_ne : Real.sqrt 192 ≠ 0 := (Real.sqrt_pos.2 (by norm_num)).ne'

theorem Data.raw_score (t i j : ℕ) : x.raw t i j * (Real.sqrt 192)⁻¹ = x.score t i j := x.lanes t i j

theorem Data.big_top (t i : ℕ) : x.big t i * (Real.sqrt 192)⁻¹ = x.top t i := by
  unfold Data.big
  rw [mul_assoc, mul_inv_cancel₀ root_ne, mul_one]

/-! ## The largest of a row -/

theorem fold_sup (n : ℕ) (f : ℕ → EReal) : (Finset.univ.fold max (⊥ : EReal) fun k : Fin n => f k.val) = (Finset.range n).sup f := by
  refine le_antisymm ?_ ?_
  · exact Finset.sup_le (f := fun k : Fin n => f k.val) fun k _ => Finset.le_sup (f := f) (Finset.mem_range.2 k.2)
  · exact Finset.sup_le fun j hj => Finset.le_sup (f := fun k : Fin n => f k.val) (Finset.mem_univ (⟨j, Finset.mem_range.1 hj⟩ : Fin n))

theorem sup_add (f : ℕ → EReal) (a b : ℕ) :
    max ((Finset.range b).sup fun j => f (a + j)) ((Finset.range a).sup f) = (Finset.range (a + b)).sup f := by
  refine le_antisymm (max_le ?_ ?_) ?_
  · exact Finset.sup_le fun j hj => Finset.le_sup (f := f) (Finset.mem_range.2 (by have := Finset.mem_range.1 hj; omega))
  · exact Finset.sup_le fun j hj => Finset.le_sup (f := f) (Finset.mem_range.2 (by have := Finset.mem_range.1 hj; omega))
  · refine Finset.sup_le fun j hj => ?_
    have hj := Finset.mem_range.1 hj
    by_cases h : j < a
    · exact le_max_of_le_right (Finset.le_sup (f := f) (Finset.mem_range.2 h))
    · refine le_max_of_le_left ?_
      obtain ⟨k, rfl⟩ : ∃ k, j = a + k := ⟨j - a, by omega⟩
      exact Finset.le_sup (f := fun j => f (a + j)) (Finset.mem_range.2 (by omega))

theorem Data.sup_tail (t : ℕ) {i n : ℕ} (hi : i < n) (hn : n ≤ 4096) : (Finset.range n).sup (x.rawMask t i) = (Finset.range 4096).sup (x.rawMask t i) := by
  refine le_antisymm (Finset.sup_mono (Finset.range_mono hn)) (Finset.sup_le fun j hj => ?_)
  by_cases h : j < n
  · exact Finset.le_sup (f := x.rawMask t i) (Finset.mem_range.2 h)
  · unfold Data.rawMask
    rw [if_neg (by omega)]
    exact bot_le

theorem Data.rawMask_eq (t i j : ℕ) : x.rawMask t i j = x.mask t i j * ((Real.sqrt 192 : ℝ) : EReal) := by
  unfold Data.rawMask Data.mask
  split_ifs
  · rw [← x.raw_score, ← EReal.coe_mul, mul_assoc, inv_mul_cancel₀ root_ne, mul_one]
  · exact (EReal.bot_mul_coe_of_pos (Real.sqrt_pos.2 (by norm_num))).symm

theorem Data.big_eq (t : ℕ) {i : ℕ} (hi : i < 4096) : ((x.big t i : ℝ) : EReal) = (Finset.range 4096).sup (x.rawMask t i) := by
  have h0 : (0 : EReal) ≤ ((Real.sqrt 192 : ℝ) : EReal) := by exact_mod_cast Real.sqrt_nonneg 192
  unfold Data.big
  rw [EReal.coe_mul, x.top_eq hi, fold_sup 4096 (x.mask t i), Finset.comp_sup_eq_sup_comp_of_is_total (fun y : EReal => y * ((Real.sqrt 192 : ℝ) : EReal))
    (fun a b hab => mul_le_mul_of_nonneg_right hab h0) (EReal.bot_mul_coe_of_pos (Real.sqrt_pos.2 (by norm_num)))]
  exact Finset.sup_congr rfl fun j _ => (x.rawMask_eq t i j).symm

/-- The largest over a row's blocks. -/
theorem Data.max_blocks (t : ℕ) {a i : ℕ} (hi : i < 512) (ha : a + 512 ≤ 4096) :
    max ((Finset.range 512).sup fun j => x.rawMask t (a + i) (a + j)) ((Finset.range a).sup (x.rawMask t (a + i))) = ((x.big t (a + i) : ℝ) : EReal) := by
  rw [sup_add (x.rawMask t (a + i)) a 512, x.sup_tail t (by omega) ha, x.big_eq t (by omega)]

/-! ## The exponentials -/

theorem Data.exp2_mask (t i j : ℕ) :
    FloatOps.exp2 (F := Ideal) (φ := .f32) ((x.rawMask t i j - ((x.big t i : ℝ) : EReal)) * (((Real.sqrt 192)⁻¹ * (Real.log 2)⁻¹ : ℝ) : EReal) : EReal)
      = ((x.ex t i j : ℝ) : EReal) := by
  unfold Data.rawMask Data.ex
  split_ifs
  · rw [← EReal.coe_sub, ← EReal.coe_mul, exp2_coe, ← x.raw_score, ← x.big_top]
    have e := pow_eq (x.raw t i j - x.big t i) 0
    rw [zero_mul, sub_zero, sub_zero] at e
    rw [e, sub_mul]
  · rw [EReal.bot_sub, EReal.bot_mul_coe_of_pos scale_pos, exp2_bot, EReal.coe_zero]

/-- A sum over a row's blocks is the sum over the whole row. -/
theorem sum_blocks_row {M : Type*} [AddCommMonoid M] (f : ℕ → M) {a n : ℕ} (ha : a + n ≤ 4096) (h0 : ∀ j, a + n ≤ j → f j = 0) :
    (∑ j ∈ Finset.range n, f (a + j)) + ∑ j ∈ Finset.range a, f j = ∑ j ∈ Finset.range 4096, f j := by
  obtain ⟨b, hb⟩ : ∃ b, 4096 = a + n + b := ⟨4096 - (a + n), by omega⟩
  rw [hb, Finset.sum_range_add f (a + n) b, Finset.sum_range_add f a n, Finset.sum_eq_zero (s := Finset.range b) (fun j _ => h0 (a + n + j) (by omega)), add_zero, add_comm]

theorem Data.ex_zero (t : ℕ) {i j : ℕ} (h : i < j) : x.ex t i j = 0 := by
  unfold Data.ex
  rw [if_neg (by omega)]

theorem Data.sum_row (t : ℕ) {a i : ℕ} (hi : i < 512) (ha : a + 512 ≤ 4096) :
    (∑ j ∈ Finset.range 512, x.ex t (a + i) (a + j)) + ∑ j ∈ Finset.range a, x.ex t (a + i) j = x.sum t (a + i) :=
  sum_blocks_row (x.ex t (a + i)) ha fun j hj => x.ex_zero t (by omega)

/-- A row's sum of the values, weighted by the exponentials. -/
def Data.acc (V : ℕ → ℕ → EReal) (t i d : ℕ) : EReal := ∑ j ∈ Finset.range 4096, ((x.ex t i j : ℝ) : EReal) * V j d

/-- The attention's result for any values. -/
def Data.attn (V : ℕ → ℕ → EReal) (i t d : ℕ) : EReal := ∑ j ∈ Finset.range 4096, V j d * ((x.prob t i j : ℝ) : EReal)

theorem Data.acc_row (V : ℕ → ℕ → EReal) (t d : ℕ) {a i : ℕ} (hi : i < 512) (ha : a + 512 ≤ 4096) :
    (∑ j ∈ Finset.range 512, ((x.ex t (a + i) (a + j) : ℝ) : EReal) * V (a + j) d) + ∑ j ∈ Finset.range a, ((x.ex t (a + i) j : ℝ) : EReal) * V j d = x.acc V t (a + i) d :=
  sum_blocks_row (fun j => ((x.ex t (a + i) j : ℝ) : EReal) * V j d) ha fun j hj => by rw [x.ex_zero t (by omega), EReal.coe_zero, zero_mul]

theorem sum_mul_real (s : Finset ℕ) (f : ℕ → EReal) {r : ℝ} (hr : 0 ≤ r) : (∑ j ∈ s, f j) * (r : EReal) = ∑ j ∈ s, f j * (r : EReal) := by
  induction s using Finset.induction_on with
  | empty => rw [Finset.sum_empty, Finset.sum_empty, zero_mul]
  | insert j s hj ih =>
    rw [Finset.sum_insert hj, Finset.sum_insert hj, EReal.right_distrib_of_nonneg_of_ne_top (EReal.coe_nonneg.2 hr) (EReal.coe_ne_top r), ih]

theorem Data.acc_out (V : ℕ → ℕ → EReal) (t d : ℕ) {i : ℕ} (hi : i < 4096) : x.acc V t i d * (((x.sum t i)⁻¹ : ℝ) : EReal) = x.attn V i t d := by
  unfold Data.acc Data.attn Data.prob
  rw [sum_mul_real _ _ (inv_nonneg.2 (x.sum_pos hi).le)]
  refine Finset.sum_congr rfl fun j _ => ?_
  rw [EReal.coe_mul, mul_comm ((x.ex t i j : ℝ) : EReal), mul_assoc]

theorem Data.big_lse (t i : ℕ) : x.big t i * (Real.sqrt 192)⁻¹ + Real.log (x.sum t i) = x.lse i t := by
  rw [x.big_top]
  rfl

/-! ## The gate -/

/-- The kernel's form of the logistic function is the reference's. -/
theorem gate_eq (z : EReal) :
    (((1 / 2 : ℝ) : EReal)) * Ideal.tanh (((1 / 2 : ℝ) : EReal) * z) + ((1 / 2 : ℝ) : EReal) = Ideal.div 1 (1 + Ideal.exp (-z)) := by
  have hp : (0 : ℝ) < 1 / 2 := by norm_num
  induction z with
  | bot =>
    rw [EReal.coe_mul_bot_of_pos hp, Ideal.tanh_bot, EReal.neg_bot, Ideal.exp_top, EReal.add_top_of_ne_bot (by decide), Ideal.div, if_neg (by decide),
      EReal.inv_top, mul_zero, show (-1 : EReal) = ((-1 : ℝ) : EReal) from by norm_num, ← EReal.coe_mul, ← EReal.coe_add, ← EReal.coe_zero]
    norm_num
  | top =>
    rw [EReal.coe_mul_top_of_pos hp, Ideal.tanh_top, EReal.neg_top, Ideal.exp_bot, add_zero, Ideal.div, if_neg (by norm_num),
      show (1 : EReal) = ((1 : ℝ) : EReal) from rfl, ← EReal.coe_inv, ← EReal.coe_mul, ← EReal.coe_mul, ← EReal.coe_add]
    norm_num
  | coe r =>
    have h1 : (1 + Real.exp (-r)) ≠ 0 := (add_pos one_pos (Real.exp_pos _)).ne'
    rw [← EReal.coe_mul, Ideal.tanh_coe, ← EReal.coe_neg, Ideal.exp_coe, show (1 : EReal) = ((1 : ℝ) : EReal) from rfl, ← EReal.coe_add (1 : ℝ),
      Ideal.div_coe h1, ← EReal.coe_mul, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by
      rw [← Real.exp_add]; congr 1; ring
    have e2 : Real.exp (1 / 2 * r) * Real.exp (-(1 / 2 * r)) = 1 := by
      rw [← Real.exp_add, add_neg_cancel, Real.exp_zero]
    have p1 := Real.exp_pos (1 / 2 * r)
    have p2 := Real.exp_pos (-(1 / 2 * r))
    rw [e1]
    generalize Real.exp (1 / 2 * r) = u at *
    generalize Real.exp (-(1 / 2 * r)) = w at *
    have hu : u = 1 / w := by field_simp; linarith
    subst hu
    field_simp
    ring

end Cert.Att

end
-- ==== Proof.FwdBlock.lean ====
/- One block of 512 queries of the attention's forward pass, at an entry: the keys of its own block, where the keys behind
   a query are masked, and the keys before it, of any number. -/
module

public import proofs.«01_k».proof.Proof.Gen.Kernel12Ideal.Skeleton
public import proofs.«01_k».proof.Proof.FwdReal
public import proofs.«01_k».proof.Proof.HostAt
public import Idealize.ShloMosaic.Lib.Pointwise.IndexVar

@[expose] public section

noncomputable section

namespace Cert.Fwd

open Idealize.ShloMosaic Cert.Kernel12Ideal Cert.Kernel12Ideal.Gen Cert.Hold Cert.Att Cert.Block

theorem named_mask : (Named.named (F := Ideal) κ "mask" (φ := .f32) 0xF149F2CA#32 : EReal) = ⊥ := IdealRules.named_const.ideal_named_scalar _ _ _ _ rfl
theorem named_exp2 : (Named.named (F := Ideal) κ "exp2_scale" (φ := .f32) 0x3DD53B95#32 : EReal) = (((Real.sqrt 192)⁻¹ * (Real.log 2)⁻¹ : ℝ) : EReal) :=
  IdealRules.named_const.ideal_named_scalar _ _ _ _ rfl
theorem named_scale : (Named.named (F := Ideal) κ "scale" (φ := .f32) 0x3D93CD3A#32 : EReal) = (((Real.sqrt 192)⁻¹ : ℝ) : EReal) :=
  IdealRules.named_const.ideal_named_scalar _ _ _ _ rfl

section
variable {F : FTy → Type} [FloatOps F] [Named F]

/-- The scores of 512 queries against their own block's keys. -/
def scoreD (q k : Vec F S512x256 .bf16) : FVec F S512x512 .f32 :=
  select (cmpi .sle (iota .tc S512x512 32 [1] iota_S512x512_d1_w32) (iota .tc S512x512 32 [0] iota_S512x512_d0_w32))
    (matmul dot_S512x256_S512x256_S512x512_1_1_0_0_n_n none (shapeCast S512x256 q shapeCasts_S512x256_S512x256) k (constant S512x512 .f32 0x00000000#32))
    (broadcast S512x512 (Named.named κ "mask" 0xF149F2CA#32))

/-- The scores of 512 queries against the `n` keys before them. -/
def scoreP {n : ℕ} (wf : DotDims.WF S512x256 ⟨2, ![n, 256]⟩ ⟨2, ![512, n]⟩ [1] [1] [0] [0] [] []) (q : Vec F S512x256 .bf16) (k : Vec F ⟨2, ![n, 256]⟩ .bf16) :
    FVec F ⟨2, ![512, n]⟩ .f32 :=
  matmul (sl := S512x256) (sr := ⟨2, ![n, 256]⟩) (so := ⟨2, ![512, n]⟩) ⟨[1], [1], [0], [0], [], [], wf⟩ none (shapeCast S512x256 q shapeCasts_S512x256_S512x256) k
    (constant ⟨2, ![512, n]⟩ .f32 0x00000000#32)

/-- A row's largest. -/
def rowMax {n : ℕ} (h : (⟨2, ![512, n]⟩ : Shape).Reduces [1] S512) (s : FVec F ⟨2, ![512, n]⟩ .f32) : FVec F S512x1 .f32 :=
  shapeCast S512x1 (multiReduction .maximumf [1] S512 s 0xFF800000#32 h (.inl rfl) rfl) shapeCasts_S512_S512x1

/-- A row's sum. -/
def rowSum {n : ℕ} (h : (⟨2, ![512, n]⟩ : Shape).Reduces [1] S512) (s : FVec F ⟨2, ![512, n]⟩ .f32) : FVec F S512x1 .f32 :=
  shapeCast S512x1 (multiReduction .add [1] S512 s 0x00000000#32 h (.inl rfl) rfl) shapeCasts_S512_S512x1

/-- The exponentials. -/
def expo {n : ℕ} (h : S512x1.Broadcasts ⟨2, ![512, n]⟩) (s : FVec F ⟨2, ![512, n]⟩ .f32) (m : FVec F S512x1 .f32) : FVec F ⟨2, ![512, n]⟩ .f32 :=
  exp2 (mulf (subf s (broadcastTo ⟨2, ![512, n]⟩ m h)) (broadcast ⟨2, ![512, n]⟩ (Named.named κ "exp2_scale" 0x3DD53B95#32)))

/-- The values weighted by the exponentials. -/
def mix {n : ℕ} (wf : DotDims.WF ⟨2, ![512, n]⟩ ⟨2, ![n, 128]⟩ S512x128 [1] [0] [0] [1] [] []) (hc : (⟨2, ![n, 128]⟩ : Shape).ShapeCasts ⟨2, ![n, 128]⟩)
    (p : FVec F ⟨2, ![512, n]⟩ .f32) (v : Vec F ⟨2, ![n, 128]⟩ .bf16) : FVec F S512x128 .f32 :=
  matmul (sl := ⟨2, ![512, n]⟩) (sr := ⟨2, ![n, 128]⟩) (so := S512x128) ⟨[1], [0], [0], [1], [], [], wf⟩ none (truncf .bf16 p bitsLt_bf16_f32)
    (shapeCast ⟨2, ![n, 128]⟩ v hc) (constant S512x128 .f32 0x00000000#32)

/-- The attention's result. -/
def quot (a : FVec F S512x128 .f32) (l : FVec F S512x1 .f32) : FVec F S512x128 .f32 := divf a (broadcastTo S512x128 l broadcasts_S512x1_S512x128)

/-- The result under its gate. -/
def gated (o z : FVec F S512x128 .f32) : FVec F S512x128 .bf16 :=
  truncf .bf16 (mulf o (mulf z (addf (mulf (broadcast S512x128 (Scalar.ofBits .f32 0x3F000000#32)) (tanh (mulf (broadcast S512x128 (Scalar.ofBits .f32 0x3F000000#32)) z)))
    (broadcast S512x128 (Scalar.ofBits .f32 0x3F000000#32))))) bitsLt_bf16_f32

/-- The log-sum-exp. -/
def logSum (m l : FVec F S512x1 .f32) : FVec F S512x128 .f32 :=
  broadcastTo S512x128 (shapeCast S512x1 (addf (mulf m (broadcast S512x1 (Named.named κ "scale" 0x3D93CD3A#32))) (log l)) shapeCasts_S512x1_S512x1) broadcasts_S512x1_S512x128

end

variable {x : Data} {t a b n : ℕ}

set_option maxRecDepth 16384

theorem ofBits_half : Ideal.ofBits .f32 0x3F000000#32 = ((1 / 2 : ℝ) : EReal) := by
  simp [Ideal.ofBits, Ideal.ieee, -EReal.coe_mul]; norm_num

theorem raw_sum (i j : ℕ) : (∑ d : Fin 256, (((x.rows t).Q i (0 + d.val) : ℝ) : EReal) * (((x.rows t).K j (0 + d.val) : ℝ) : EReal)) = ((x.raw t i j : ℝ) : EReal) := by
  simp only [Nat.zero_add, ← EReal.coe_mul, coe_sum]
  rw [← Finset.sum_range (fun d => (x.rows t).Q i d * (x.rows t).K j d)]
  rfl

theorem scoreD_arr {q k} (hq : Arr q (fun i d => (((x.rows t).Q (a + i) (0 + d) : ℝ) : EReal))) (hk : Arr k (fun j d => (((x.rows t).K (a + j) (0 + d) : ℝ) : EReal))) :
    Arr (scoreD (F := Ideal) q k) (fun i j => x.rawMask t (a + i) (a + j)) := by
  intro i j
  have hi := i.2
  have hj := j.2
  have e : scoreD (F := Ideal) q k (ix2 i j) = Scalar.select (IntOp.cmpi .sle (BitVec.ofNat 32 j.val) (BitVec.ofNat 32 i.val)) (∑ d : Fin 256, q (ix2 i d) * k (ix2 j d) : EReal) (⊥ : EReal) := by
    unfold scoreD
    pointwise [named_mask]
  rw [e, Host.select_le (by omega) (by omega)]
  simp only [hq _ _, hk _ _]
  rw [raw_sum]
  unfold Data.rawMask
  by_cases h : j.val ≤ i.val
  · rw [if_pos h, if_pos (by omega)]
  · rw [if_neg h, if_neg (by omega)]

theorem scoreP_arr (wf) {q k} (hb : b + n ≤ a) (hq : Arr q (fun i d => (((x.rows t).Q (a + i) (0 + d) : ℝ) : EReal)))
    (hk : Arr k (fun j d => (((x.rows t).K (b + j) (0 + d) : ℝ) : EReal))) :
    Arr (scoreP (F := Ideal) (n := n) wf q k) (fun i j => x.rawMask t (a + i) (b + j)) := by
  intro i j
  have hj := j.2
  unfold scoreP
  pointwise [hq _ _, hk _ _]
  refine (raw_sum _ _).trans ?_
  unfold Data.rawMask
  rw [if_pos (by omega)]

theorem rowMax_arr (h) {s : FVec Ideal ⟨2, ![512, n]⟩ .f32} {f : ℕ → ℕ → EReal} (hs : Arr s f) :
    Arr (rowMax (F := Ideal) h s) (fun i _ => (Finset.range n).sup (f i)) := by
  intro i j
  unfold rowMax
  pointwise []
  simp only [hs _ _]
  rw [Host.ofBits_bot]
  exact fold_sup n (f i.val)

theorem rowSum_arr (h) {s : FVec Ideal ⟨2, ![512, n]⟩ .f32} {f : ℕ → ℕ → ℝ} (hs : Arr s (fun i j => ((f i j : ℝ) : EReal))) :
    Arr (rowSum (F := Ideal) h s) (fun i _ => ((∑ j ∈ Finset.range n, f i j : ℝ) : EReal)) := by
  intro i j
  unfold rowSum
  pointwise []
  simp only [hs _ _, coe_sum]
  rw [← Finset.sum_range (fun k => f i.val k)]

theorem expo_arr (h) {s : FVec Ideal ⟨2, ![512, n]⟩ .f32} {m} (hs : Arr s (fun i j => x.rawMask t (a + i) (b + j)))
    (hm : Arr m (fun i _ => ((x.big t (a + i) : ℝ) : EReal))) :
    Arr (expo (F := Ideal) h s m) (fun i j => ((x.ex t (a + i) (b + j) : ℝ) : EReal)) := by
  intro i j
  unfold expo
  pointwise [hs _ _, hm _ _, named_exp2]
  exact x.exp2_mask t _ _

theorem mix_arr (wf hc) {p : FVec Ideal ⟨2, ![512, n]⟩ .f32} {v} {f : ℕ → ℕ → ℝ} {g : ℕ → ℕ → EReal} (hp : Arr p (fun i j => ((f i j : ℝ) : EReal)))
    (hv : Arr v g) :
    Arr (mix (F := Ideal) wf hc p v) (fun i d => ∑ j ∈ Finset.range n, ((f i j : ℝ) : EReal) * g j d) := by
  intro i d
  unfold mix
  pointwise []
  refine (Ideal.matmul_apply₁_of (sl := ⟨2, ![512, n]⟩) (sr := ⟨2, ![n, 128]⟩) (so := S512x128) _ (a := 1) rfl (K := n) rfl _ _ _ _ (fun k => ix2 i k) (fun k => ix2 k d) (fun k => ?_) (fun k => ?_)).trans ?_
  · exact eq_ix2 _
  · exact eq_ix2 _
  · pointwise [hp _ _, hv _ _]
    rw [← Finset.sum_range (fun k => ((f i.val k : ℝ) : EReal) * g k d.val)]

theorem maximum_arr {p q : FVec Ideal S512x1 .f32} {f g : ℕ → ℕ → EReal} (hp : Arr p f) (hq : Arr q g) : Arr (maximumf p q) (fun i j => max (f i j) (g i j)) := by
  intro i j
  pointwise [hp _ _, hq _ _]

theorem add1_arr {p q : FVec Ideal S512x1 .f32} {f g : ℕ → ℕ → ℝ} (hp : Arr p (fun i j => ((f i j : ℝ) : EReal))) (hq : Arr q (fun i j => ((g i j : ℝ) : EReal))) :
    Arr (addf p q) (fun i j => ((f i j + g i j : ℝ) : EReal)) := by
  intro i j
  pointwise [hp _ _, hq _ _]
  exact (EReal.coe_add _ _).symm

theorem add128_arr {p q : FVec Ideal S512x128 .f32} {f g : ℕ → ℕ → EReal} (hp : Arr p f) (hq : Arr q g) : Arr (addf p q) (fun i j => f i j + g i j) := by
  intro i j
  pointwise [hp _ _, hq _ _]

theorem quot_arr (ha : a + 512 ≤ 4096) {V : ℕ → ℕ → EReal} {p l} (hp : Arr p (fun i d => x.acc V t (a + i) d)) (hl : Arr l (fun i _ => ((x.sum t (a + i) : ℝ) : EReal))) :
    Arr (quot (F := Ideal) p l) (fun i d => x.attn V (a + i) t d) := by
  intro i d
  have hi := i.2
  unfold quot
  pointwise [hp _ _, hl _ _]
  rw [Ideal.div_coe (x.sum_pos (by omega)).ne', one_div, x.acc_out V t _ (by omega)]

theorem gated_arr {o z} {f g : ℕ → ℕ → EReal} (ho : Arr o f) (hz : Arr z g) :
    Arr (gated (F := Ideal) o z) (fun i d => f i d * (g i d * Ideal.div 1 (1 + Ideal.exp (-(g i d))))) := by
  intro i d
  unfold gated
  pointwise [ho _ _, hz _ _]
  rw [ofBits_half, gate_eq]

theorem logSum_arr (ha : a + 512 ≤ 4096) {m l} (hm : Arr m (fun i _ => ((x.big t (a + i) : ℝ) : EReal))) (hl : Arr l (fun i _ => ((x.sum t (a + i) : ℝ) : EReal))) :
    Arr (logSum (F := Ideal) m l) (fun i _ => ((x.lse (a + i) t : ℝ) : EReal)) := by
  intro i d
  have hi := i.2
  unfold logSum
  pointwise [hm _ _, hl _ _, named_scale]
  rw [Ideal.log_coe, if_neg (not_le.2 (x.sum_pos (by omega))), ← EReal.coe_mul, ← EReal.coe_add, x.big_lse]

end Cert.Fwd

end
-- ==== Proof.FwdRun.lean ====
/- What one head's point of the attention's forward pass leaves of its three results. -/
module

public import proofs.«01_k».proof.Proof.FwdBlock
public import proofs.«01_k».proof.Proof.Out
public import proofs.«01_k».proof.Proof.Gen.Kernel12Ideal.Value

@[expose] public section

set_option maxRecDepth 16384

noncomputable section

namespace Cert.Fwd

open Idealize.ShloMosaic Idealize.ShloMosaic.TcCoe Cert.Kernel12Ideal Cert.Kernel12Ideal.Gen Cert.Hold Cert.Att Cert.Steps Cert.Out

/-! ## A block of 512 queries -/

section
variable {F : FTy → Type} [FloatOps F] [Named F]

/-- The exponentials of the first block. -/
def firstP (q k : Vec F S512x256 .bf16) : FVec F S512x512 .f32 :=
  expo broadcasts_S512x1_S512x512 (scoreD q k) (rowMax reduces_S512x512_S512 (scoreD q k))

/-- The first block's result. -/
def firstO (q k : Vec F S512x256 .bf16) (v : Vec F S512x128 .bf16) : FVec F S512x128 .f32 :=
  quot (mix (n := 512) dot_S512x512_S512x128_S512x128_1_0_0_1_n_n_wf shapeCasts_S512x128_S512x128 (firstP q k) v) (rowSum reduces_S512x512_S512 (firstP q k))

/-- The first block's log-sum-exp. -/
def firstL (q k : Vec F S512x256 .bf16) : FVec F S512x128 .f32 :=
  logSum (rowMax reduces_S512x512_S512 (scoreD q k)) (rowSum reduces_S512x512_S512 (firstP q k))

variable {n : ℕ} (w1 : DotDims.WF S512x256 ⟨2, ![n, 256]⟩ ⟨2, ![512, n]⟩ [1] [1] [0] [0] [] []) (hr : (⟨2, ![512, n]⟩ : Shape).Reduces [1] S512)
  (hb : S512x1.Broadcasts ⟨2, ![512, n]⟩) (w2 : DotDims.WF ⟨2, ![512, n]⟩ ⟨2, ![n, 128]⟩ S512x128 [1] [0] [0] [1] [] [])
  (hc : (⟨2, ![n, 128]⟩ : Shape).ShapeCasts ⟨2, ![n, 128]⟩)

/-- A row's largest over a later block's keys and those before them. -/
def nextM (q k : Vec F S512x256 .bf16) (kp : Vec F ⟨2, ![n, 256]⟩ .bf16) : FVec F S512x1 .f32 :=
  maximumf (rowMax reduces_S512x512_S512 (scoreD q k)) (rowMax hr (scoreP w1 q kp))

/-- A row's sum over a later block's keys and those before them. -/
def nextS (q k : Vec F S512x256 .bf16) (kp : Vec F ⟨2, ![n, 256]⟩ .bf16) : FVec F S512x1 .f32 :=
  addf (rowSum reduces_S512x512_S512 (expo broadcasts_S512x1_S512x512 (scoreD q k) (nextM w1 hr q k kp))) (rowSum hr (expo hb (scoreP w1 q kp) (nextM w1 hr q k kp)))

/-- A later block's result. -/
def nextO (q k : Vec F S512x256 .bf16) (kp : Vec F ⟨2, ![n, 256]⟩ .bf16) (v : Vec F S512x128 .bf16) (vp : Vec F ⟨2, ![n, 128]⟩ .bf16) : FVec F S512x128 .f32 :=
  quot (addf (mix (n := 512) dot_S512x512_S512x128_S512x128_1_0_0_1_n_n_wf shapeCasts_S512x128_S512x128 (expo broadcasts_S512x1_S512x512 (scoreD q k) (nextM w1 hr q k kp)) v)
    (mix w2 hc (expo hb (scoreP w1 q kp) (nextM w1 hr q k kp)) vp)) (nextS w1 hr hb q k kp)

/-- A later block's log-sum-exp. -/
def nextL (q k : Vec F S512x256 .bf16) (kp : Vec F ⟨2, ![n, 256]⟩ .bf16) : FVec F S512x128 .f32 := logSum (nextM w1 hr q k kp) (nextS w1 hr hb q k kp)

end

section
variable {x : Data} {t n : ℕ} {V : ℕ → ℕ → EReal}

theorem first {q k v} (hq : Arr q (fun i d => (((x.rows t).Q (0 + i) (0 + d) : ℝ) : EReal))) (hk : Arr k (fun j d => (((x.rows t).K (0 + j) (0 + d) : ℝ) : EReal)))
    (hv : Arr v (fun j d => V (0 + j) d)) :
    Arr (firstO (F := Ideal) q k v) (fun i d => (x.attn V (0 + i) t d)) ∧ Arr (firstL (F := Ideal) q k) (fun i _ => ((x.lse (0 + i) t : ℝ) : EReal)) := by
  have hs := scoreD_arr (x := x) (t := t) (a := 0) hq hk
  have hm : Arr (rowMax (F := Ideal) reduces_S512x512_S512 (scoreD q k)) (fun i _ => ((x.big t (0 + i) : ℝ) : EReal)) :=
    (rowMax_arr reduces_S512x512_S512 hs).congr fun i _ hi _ => (max_eq_left (by rw [Finset.range_zero, Finset.sup_empty]; exact bot_le)).symm.trans (x.max_blocks t (a := 0) hi (by decide))
  have hp := expo_arr (x := x) (t := t) (a := 0) (b := 0) broadcasts_S512x1_S512x512 hs hm
  have hl : Arr (rowSum (F := Ideal) reduces_S512x512_S512 (firstP q k)) (fun i _ => ((x.sum t (0 + i) : ℝ) : EReal)) :=
    (rowSum_arr reduces_S512x512_S512 hp).congr fun i _ hi _ => congrArg _ ((add_zero _).symm.trans (x.sum_row t (a := 0) hi (by decide)))
  have ha : Arr (mix (F := Ideal) (n := 512) dot_S512x512_S512x128_S512x128_1_0_0_1_n_n_wf shapeCasts_S512x128_S512x128 (firstP q k) v) (fun i d => x.acc V t (0 + i) d) :=
    (mix_arr _ _ hp hv).congr fun i d hi _ => (add_zero _).symm.trans (x.acc_row V t d (a := 0) hi (by decide))
  exact ⟨quot_arr (a := 0) (by decide) ha hl, logSum_arr (a := 0) (by decide) hm hl⟩

theorem next (w1 hr hb w2 hc) {q k kp v vp} (hn : n + 512 ≤ 4096) (hq : Arr q (fun i d => (((x.rows t).Q (n + i) (0 + d) : ℝ) : EReal)))
    (hk : Arr k (fun j d => (((x.rows t).K (n + j) (0 + d) : ℝ) : EReal))) (hkp : Arr kp (fun j d => (((x.rows t).K (0 + j) (0 + d) : ℝ) : EReal)))
    (hv : Arr v (fun j d => V (n + j) d)) (hvp : Arr vp (fun j d => V (0 + j) d)) :
    Arr (nextO (F := Ideal) (n := n) w1 hr hb w2 hc q k kp v vp) (fun i d => (x.attn V (n + i) t d))
    ∧ Arr (nextL (F := Ideal) (n := n) w1 hr hb q k kp) (fun i _ => ((x.lse (n + i) t : ℝ) : EReal)) := by
  have hs := scoreD_arr (x := x) (t := t) (a := n) hq hk
  have hsp := scoreP_arr (x := x) (t := t) (a := n) (b := 0) w1 (Nat.zero_add n).le hq hkp
  have hm : Arr (nextM (F := Ideal) w1 hr q k kp) (fun i _ => ((x.big t (n + i) : ℝ) : EReal)) :=
    (maximum_arr (rowMax_arr reduces_S512x512_S512 hs) (rowMax_arr hr hsp)).congr fun i _ hi _ => by
      simp only [Nat.zero_add]
      exact x.max_blocks t hi hn
  have hp := expo_arr (x := x) (t := t) (a := n) (b := n) broadcasts_S512x1_S512x512 hs hm
  have hpp := expo_arr (x := x) (t := t) (a := n) (b := 0) hb hsp hm
  have hl : Arr (nextS (F := Ideal) w1 hr hb q k kp) (fun i _ => ((x.sum t (n + i) : ℝ) : EReal)) :=
    (add1_arr (rowSum_arr reduces_S512x512_S512 hp) (rowSum_arr hr hpp)).congr fun i _ hi _ => by
      simp only [Nat.zero_add]
      exact congrArg _ (x.sum_row t hi hn)
  have ha := (add128_arr (mix_arr dot_S512x512_S512x128_S512x128_1_0_0_1_n_n_wf shapeCasts_S512x128_S512x128 hp hv) (mix_arr w2 hc hpp hvp)).congr
    (g := fun i d => x.acc V t (n + i) d) fun i d hi _ => by
      simp only [Nat.zero_add]
      exact x.acc_row V t d hi hn
  exact ⟨quot_arr hn ha hl, logSum_arr hn hm hl⟩

end

/-- An array stored in eight blocks of 512 rows. -/
theorem eight {e : EltTy} {f : ℕ → ℕ → Elt Ideal e} {p0 p1 p2 p3 p4 p5 p6 p7 : (⟨2, ![512, 128]⟩ : Shape).Idx → Elt Ideal e}
    (h0 : Arr p0 fun i d => f (0 + i) d) (h1 : Arr p1 fun i d => f (512 + i) d) (h2 : Arr p2 fun i d => f (1024 + i) d) (h3 : Arr p3 fun i d => f (1536 + i) d)
    (h4 : Arr p4 fun i d => f (2048 + i) d) (h5 : Arr p5 fun i d => f (2560 + i) d) (h6 : Arr p6 fun i d => f (3072 + i) d) (h7 : Arr p7 fun i d => f (3584 + i) d) :
    Arr (n := 4096) (m := 128) (View.canon ([⟨Rect.unit (s := (⟨2, ![4096, 128]⟩ : Shape)) ![3584, 0] (⟨2, ![512, 128]⟩ : Shape).size inb_S4096x128_S512x128_3584_0, p7⟩,
      ⟨Rect.unit (s := (⟨2, ![4096, 128]⟩ : Shape)) ![3072, 0] (⟨2, ![512, 128]⟩ : Shape).size inb_S4096x128_S512x128_3072_0, p6⟩,
      ⟨Rect.unit (s := (⟨2, ![4096, 128]⟩ : Shape)) ![2560, 0] (⟨2, ![512, 128]⟩ : Shape).size inb_S4096x128_S512x128_2560_0, p5⟩,
      ⟨Rect.unit (s := (⟨2, ![4096, 128]⟩ : Shape)) ![2048, 0] (⟨2, ![512, 128]⟩ : Shape).size inb_S4096x128_S512x128_2048_0, p4⟩,
      ⟨Rect.unit (s := (⟨2, ![4096, 128]⟩ : Shape)) ![1536, 0] (⟨2, ![512, 128]⟩ : Shape).size inb_S4096x128_S512x128_1536_0, p3⟩,
      ⟨Rect.unit (s := (⟨2, ![4096, 128]⟩ : Shape)) ![1024, 0] (⟨2, ![512, 128]⟩ : Shape).size inb_S4096x128_S512x128_1024_0, p2⟩,
      ⟨Rect.unit (s := (⟨2, ![4096, 128]⟩ : Shape)) ![512, 0] (⟨2, ![512, 128]⟩ : Shape).size inb_S4096x128_S512x128_512_0, p1⟩,
      ⟨Rect.unit (s := (⟨2, ![4096, 128]⟩ : Shape)) ![0, 0] (⟨2, ![512, 128]⟩ : Shape).size inb_S4096x128_S512x128_0_0, p0⟩] : List (View.Piece (Elt Ideal) (⟨2, ![4096, 128]⟩ : Shape) e))) f := by
  have s0 : On (n := 4096) (m := 128) (fun i _ => i < 0) (View.canon ([] : List (View.Piece (Elt Ideal) (⟨2, ![4096, 128]⟩ : Shape) e))) f := fun i d hi => absurd hi (Nat.not_lt_zero _)
  have s1 := s0.cons (P' := fun i _ => i < 512) h0 inb_S4096x128_S512x128_0_0 (fun i d _ _ => by simp only [Nat.zero_add]) (fun i d _ _ _ _ => by omega)
  have s2 := s1.cons (P' := fun i _ => i < 1024) h1 inb_S4096x128_S512x128_512_0 (fun i d _ _ => by simp only [Nat.zero_add]) (fun i d _ _ _ _ => by omega)
  have s3 := s2.cons (P' := fun i _ => i < 1536) h2 inb_S4096x128_S512x128_1024_0 (fun i d _ _ => by simp only [Nat.zero_add]) (fun i d _ _ _ _ => by omega)
  have s4 := s3.cons (P' := fun i _ => i < 2048) h3 inb_S4096x128_S512x128_1536_0 (fun i d _ _ => by simp only [Nat.zero_add]) (fun i d _ _ _ _ => by omega)
  have s5 := s4.cons (P' := fun i _ => i < 2560) h4 inb_S4096x128_S512x128_2048_0 (fun i d _ _ => by simp only [Nat.zero_add]) (fun i d _ _ _ _ => by omega)
  have s6 := s5.cons (P' := fun i _ => i < 3072) h5 inb_S4096x128_S512x128_2560_0 (fun i d _ _ => by simp only [Nat.zero_add]) (fun i d _ _ _ _ => by omega)
  have s7 := s6.cons (P' := fun i _ => i < 3584) h6 inb_S4096x128_S512x128_3072_0 (fun i d _ _ => by simp only [Nat.zero_add]) (fun i d _ _ _ _ => by omega)
  have s8 := s7.cons (P' := fun i _ => i < 4096) h7 inb_S4096x128_S512x128_3584_0 (fun i d _ _ => by simp only [Nat.zero_add]) (fun i d _ _ _ _ => by omega)
  exact s8.arr fun i _ hi _ => hi

/-- A block's result times its gate, in the point's rows. -/
theorem gate {x : Data} {t n : ℕ} {V : ℕ → ℕ → EReal} {o z : FVec Ideal S512x128 .f32} {Z : ℕ → ℕ → EReal} (ho : Arr o fun i d => (x.attn V (n + i) t d)) (hz : Arr z fun i d => Z (n + i) (0 + d)) :
    Arr (gated (F := Ideal) o z) (fun i d => (x.attn V (n + i) t d) * (Z (n + i) d * Ideal.div 1 (1 + Ideal.exp (-(Z (n + i) d))))) :=
  (gated_arr ho hz).congr fun i d _ _ => by rw [Nat.zero_add]

/-! ## A point -/

/-- What the point's four inputs hold. -/
structure Ins (x : Data) (t : ℕ) (V Z : ℕ → ℕ → EReal) (x0 x1 : Vec Ideal S4096x256 .bf16) (x2 : Vec Ideal S4096x128 .bf16) (x3 : Vec Ideal S4096x128 .f32) : Prop where
  q : Arr (n := 4096) (m := 256) x0 (fun i d => (((x.rows t).Q i d : ℝ) : EReal))
  kv : Arr (n := 4096) (m := 256) x1 (fun i d => if d < 128 then (((x.rows t).KV i d : ℝ) : EReal) else V i (d - 128))
  r : Arr (n := 4096) (m := 128) x2 (fun i d => (((x.rows t).R i d : ℝ) : EReal))
  z : Arr (n := 4096) (m := 128) x3 Z

variable (c : Dev nD) (i : grid0.Coords)
  (arg1 : Memref sig .tc .vmem S4096x256 .bf16) (harg1 : arg1.IsWhole)
  (arg2 : Memref sig .tc .vmem S4096x256 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S4096x128 .f32) (harg5 : arg5.IsWhole)
  (arg6 : Memref sig .tc .vmem S4096x128 .bf16) (harg6 : arg6.IsWhole)
  (arg7 : Memref sig .tc .vmem S4096x128 .f32) (harg7 : arg7.IsWhole)
  (arg8 : Memref sig .tc .vmem S4096x256 .bf16) (harg8 : arg8.IsWhole)
variable (x0 : Vec Ideal S4096x256 .bf16) (x1 : Vec Ideal S4096x256 .bf16) (x2 : Vec Ideal S4096x128 .bf16) (x3 : Vec Ideal S4096x128 .f32)
variable {x : Data} {t : ℕ} {V Z : ℕ → ℕ → EReal} (h : Ins x t V Z x0 x1 x2 x3)
include h

/-- The keys, put together in the scratch array. -/
theorem keys : Arr (n := 4096) (m := 256) (View.canon (kernelRun0_A.sl.HS0_2 (F := Ideal) c arg2 harg2 arg3 harg3 x1 x2)) (fun i d => (((x.rows t).K i d : ℝ) : EReal)) := by
  have h1 : Arr (n := 4096) (m := 128) (k0_pay4 (F := Ideal) (View.readAt (Elt Ideal) arg2.view (Rect.unit (s := S4096x256) ![0, 0] S4096x128.size inb_S4096x256_S4096x128_0_0).toLoadRect (harg2.unread x1)))
      (fun i d => (((x.rows t).KV i d : ℝ) : EReal)) := by
    intro i j
    unfold k0_pay4
    pointwise []
    refine (h.kv.readAt harg2 inb_S4096x256_S4096x128_0_0 i j).trans ?_
    simp only [Nat.zero_add]
    rw [if_pos j.2]
  have h2 : Arr (n := 4096) (m := 128) (k0_pay5 (F := Ideal) (View.readAt (Elt Ideal) arg3.view (Rect.unit (s := S4096x128) ![0, 0] S4096x128.size inb_S4096x128_S4096x128_0_0).toLoadRect (harg3.unread x2)))
      (fun i d => (((x.rows t).R i d : ℝ) : EReal)) := by
    intro i j
    unfold k0_pay5
    pointwise []
    refine (h.r.readAt harg3 inb_S4096x128_S4096x128_0_0 i j).trans ?_
    simp only [Nat.zero_add]
  have s0 : On (n := 4096) (m := 256) (fun _ _ => False) (View.canon ([] : List (View.Piece (Elt Ideal) S4096x256 .bf16))) (fun i d => (((x.rows t).K i d : ℝ) : EReal)) := On.nil _ _
  have s1 := s0.cons (P' := fun _ d => d < 128) h1 inb_S4096x256_S4096x128_0_0 (fun i d _ hd => by
    unfold Rows.K
    simp only [Nat.zero_add]
    rw [if_pos hd]) (fun i d _ _ _ _ => by omega)
  have s2 := s1.cons (P' := fun _ _ => True) h2 inb_S4096x256_S4096x128_0_128 (fun i d _ hd => by
    unfold Rows.K
    simp only [Nat.zero_add, Nat.add_sub_cancel_left]
    rw [if_neg (by omega)]) (fun i d _ _ _ _ => by omega)
  exact s2.arr fun _ _ _ _ => trivial

/-- A load of the values. -/
theorem vals {a n : ℕ} (i1 : ∀ y, (![a, 128] : Fin 2 → ℕ) y + (⟨2, ![n, 128]⟩ : Shape).size y ≤ S4096x256.size y) :
    Arr (n := n) (m := 128) (View.readAt (Elt Ideal) arg2.view (Rect.unit (s := S4096x256) ![a, 128] (⟨2, ![n, 128]⟩ : Shape).size i1).toLoadRect (harg2.unread x1)) (fun i d => V (a + i) d) :=
  (h.kv.readAt harg2 i1).congr fun i d _ _ => by
    rw [if_neg (by omega), Nat.add_sub_cancel_left]

theorem block0 : Arr (firstO (F := Ideal) (View.readAt (Elt Ideal) arg1.view (Rect.unit (s := S4096x256) ![0, 0] S512x256.size inb_S4096x256_S512x256_0_0).toLoadRect (harg1.unread x0))
      (kernelRun0_A.sl.v14 (F := Ideal) c arg2 harg2 arg3 harg3 arg8 x1 x2)
      (View.readAt (Elt Ideal) arg2.view (Rect.unit (s := S4096x256) ![0, 128] S512x128.size inb_S4096x256_S512x128_0_128).toLoadRect (harg2.unread x1)))
      (fun i d => (x.attn V (0 + i) t d))
    ∧ Arr (firstL (F := Ideal) (View.readAt (Elt Ideal) arg1.view (Rect.unit (s := S4096x256) ![0, 0] S512x256.size inb_S4096x256_S512x256_0_0).toLoadRect (harg1.unread x0))
      (kernelRun0_A.sl.v14 (F := Ideal) c arg2 harg2 arg3 harg3 arg8 x1 x2)) (fun i _ => ((x.lse (0 + i) t : ℝ) : EReal)) :=
  first (h.q.readAt harg1 inb_S4096x256_S512x256_0_0)
    ((keys c arg2 harg2 arg3 harg3 x0 x1 x2 x3 h).readCov arg8.view inb_S4096x256_S512x256_0_0) (vals arg2 harg2 x0 x1 x2 x3 h inb_S4096x256_S512x128_0_128)

theorem blockN {n : ℕ} (w1 hr hb w2 hc) (hn : n + 512 ≤ 4096)
    (i1 : ∀ y, (![n, 0] : Fin 2 → ℕ) y + S512x256.size y ≤ S4096x256.size y) (i2 : ∀ y, (![0, 0] : Fin 2 → ℕ) y + (⟨2, ![n, 256]⟩ : Shape).size y ≤ S4096x256.size y)
    (i3 : ∀ y, (![n, 128] : Fin 2 → ℕ) y + S512x128.size y ≤ S4096x256.size y) (i4 : ∀ y, (![0, 128] : Fin 2 → ℕ) y + (⟨2, ![n, 128]⟩ : Shape).size y ≤ S4096x256.size y) :
    Arr (nextO (F := Ideal) (n := n) w1 hr hb w2 hc (View.readAt (Elt Ideal) arg1.view (Rect.unit (s := S4096x256) ![n, 0] S512x256.size i1).toLoadRect (harg1.unread x0))
      (arg8.view.readCov (kernelRun0_A.sl.HS0_2 (F := Ideal) c arg2 harg2 arg3 harg3 x1 x2) (Rect.unit (s := S4096x256) ![n, 0] S512x256.size i1).toLoadRect)
      (arg8.view.readCov (kernelRun0_A.sl.HS0_2 (F := Ideal) c arg2 harg2 arg3 harg3 x1 x2) (Rect.unit (s := S4096x256) ![0, 0] (⟨2, ![n, 256]⟩ : Shape).size i2).toLoadRect)
      (View.readAt (Elt Ideal) arg2.view (Rect.unit (s := S4096x256) ![n, 128] S512x128.size i3).toLoadRect (harg2.unread x1))
      (View.readAt (Elt Ideal) arg2.view (Rect.unit (s := S4096x256) ![0, 128] (⟨2, ![n, 128]⟩ : Shape).size i4).toLoadRect (harg2.unread x1)))
      (fun i d => (x.attn V (n + i) t d))
    ∧ Arr (nextL (F := Ideal) (n := n) w1 hr hb (View.readAt (Elt Ideal) arg1.view (Rect.unit (s := S4096x256) ![n, 0] S512x256.size i1).toLoadRect (harg1.unread x0))
      (arg8.view.readCov (kernelRun0_A.sl.HS0_2 (F := Ideal) c arg2 harg2 arg3 harg3 x1 x2) (Rect.unit (s := S4096x256) ![n, 0] S512x256.size i1).toLoadRect)
      (arg8.view.readCov (kernelRun0_A.sl.HS0_2 (F := Ideal) c arg2 harg2 arg3 harg3 x1 x2) (Rect.unit (s := S4096x256) ![0, 0] (⟨2, ![n, 256]⟩ : Shape).size i2).toLoadRect))
      (fun i _ => ((x.lse (n + i) t : ℝ) : EReal)) :=
  next w1 hr hb w2 hc hn (h.q.readAt harg1 i1) ((keys c arg2 harg2 arg3 harg3 x0 x1 x2 x3 h).readCov arg8.view i1)
    ((keys c arg2 harg2 arg3 harg3 x0 x1 x2 x3 h).readCov arg8.view i2) (vals arg2 harg2 x0 x1 x2 x3 h i3) (vals arg2 harg2 x0 x1 x2 x3 h i4)

/-- What the point leaves of its three results: the head's, the head's times the gate, and the rows' log-sum-exps. -/
theorem outs : Arr (n := 4096) (m := 128) (out0_A_4 (F := Ideal) c i arg1 harg1 arg2 harg2 arg3 harg3 arg4 harg4 arg5 harg5 arg6 harg6 arg7 harg7 arg8 harg8 x0 x1 x2 x3) (fun i d => (x.attn V i t d))
    ∧ Arr (n := 4096) (m := 128) (out0_A_5 (F := Ideal) c i arg1 harg1 arg2 harg2 arg3 harg3 arg4 harg4 arg5 harg5 arg6 harg6 arg7 harg7 arg8 harg8 x0 x1 x2 x3) (fun i d => (x.attn V i t d) * (Z i d * Ideal.div 1 (1 + Ideal.exp (-(Z i d)))))
    ∧ Arr (n := 4096) (m := 128) (out0_A_6 (F := Ideal) c i arg1 harg1 arg2 harg2 arg3 harg3 arg4 harg4 arg5 harg5 arg6 harg6 arg7 harg7 arg8 harg8 x0 x1 x2 x3) (fun i _ => ((x.lse i t : ℝ) : EReal)) := by
  have b0 := block0 c arg1 harg1 arg2 harg2 arg3 harg3 arg8 x0 x1 x2 x3 h
  have b1 := blockN c arg1 harg1 arg2 harg2 arg3 harg3 arg8 x0 x1 x2 x3 h dot_S512x256_S512x256_S512x512_1_1_0_0_n_n_wf reduces_S512x512_S512 broadcasts_S512x1_S512x512
    dot_S512x512_S512x128_S512x128_1_0_0_1_n_n_wf shapeCasts_S512x128_S512x128 (by decide) inb_S4096x256_S512x256_512_0 inb_S4096x256_S512x256_0_0 inb_S4096x256_S512x128_512_128 inb_S4096x256_S512x128_0_128
  have b2 := blockN c arg1 harg1 arg2 harg2 arg3 harg3 arg8 x0 x1 x2 x3 h dot_S512x256_S1024x256_S512x1024_1_1_0_0_n_n_wf reduces_S512x1024_S512 broadcasts_S512x1_S512x1024
    dot_S512x1024_S1024x128_S512x128_1_0_0_1_n_n_wf shapeCasts_S1024x128_S1024x128 (by decide) inb_S4096x256_S512x256_1024_0 inb_S4096x256_S1024x256_0_0 inb_S4096x256_S512x128_1024_128 inb_S4096x256_S1024x128_0_128
  have b3 := blockN c arg1 harg1 arg2 harg2 arg3 harg3 arg8 x0 x1 x2 x3 h dot_S512x256_S1536x256_S512x1536_1_1_0_0_n_n_wf reduces_S512x1536_S512 broadcasts_S512x1_S512x1536
    dot_S512x1536_S1536x128_S512x128_1_0_0_1_n_n_wf shapeCasts_S1536x128_S1536x128 (by decide) inb_S4096x256_S512x256_1536_0 inb_S4096x256_S1536x256_0_0 inb_S4096x256_S512x128_1536_128 inb_S4096x256_S1536x128_0_128
  have b4 := blockN c arg1 harg1 arg2 harg2 arg3 harg3 arg8 x0 x1 x2 x3 h dot_S512x256_S2048x256_S512x2048_1_1_0_0_n_n_wf reduces_S512x2048_S512 broadcasts_S512x1_S512x2048
    dot_S512x2048_S2048x128_S512x128_1_0_0_1_n_n_wf shapeCasts_S2048x128_S2048x128 (by decide) inb_S4096x256_S512x256_2048_0 inb_S4096x256_S2048x256_0_0 inb_S4096x256_S512x128_2048_128 inb_S4096x256_S2048x128_0_128
  have b5 := blockN c arg1 harg1 arg2 harg2 arg3 harg3 arg8 x0 x1 x2 x3 h dot_S512x256_S2560x256_S512x2560_1_1_0_0_n_n_wf reduces_S512x2560_S512 broadcasts_S512x1_S512x2560
    dot_S512x2560_S2560x128_S512x128_1_0_0_1_n_n_wf shapeCasts_S2560x128_S2560x128 (by decide) inb_S4096x256_S512x256_2560_0 inb_S4096x256_S2560x256_0_0 inb_S4096x256_S512x128_2560_128 inb_S4096x256_S2560x128_0_128
  have b6 := blockN c arg1 harg1 arg2 harg2 arg3 harg3 arg8 x0 x1 x2 x3 h dot_S512x256_S3072x256_S512x3072_1_1_0_0_n_n_wf reduces_S512x3072_S512 broadcasts_S512x1_S512x3072
    dot_S512x3072_S3072x128_S512x128_1_0_0_1_n_n_wf shapeCasts_S3072x128_S3072x128 (by decide) inb_S4096x256_S512x256_3072_0 inb_S4096x256_S3072x256_0_0 inb_S4096x256_S512x128_3072_128 inb_S4096x256_S3072x128_0_128
  have b7 := blockN c arg1 harg1 arg2 harg2 arg3 harg3 arg8 x0 x1 x2 x3 h dot_S512x256_S3584x256_S512x3584_1_1_0_0_n_n_wf reduces_S512x3584_S512 broadcasts_S512x1_S512x3584
    dot_S512x3584_S3584x128_S512x128_1_0_0_1_n_n_wf shapeCasts_S3584x128_S3584x128 (by decide) inb_S4096x256_S512x256_3584_0 inb_S4096x256_S3584x256_0_0 inb_S4096x256_S512x128_3584_128 inb_S4096x256_S3584x128_0_128
  unfold out0_A_4 out0_A_5 out0_A_6
  rw [View.read_writes_junk_eq_canon, View.read_writes_junk_eq_canon, View.read_writes_junk_eq_canon]
  have r4 := eight (e := .f32) (f := fun i d => (x.attn V i t d)) b0.1 b1.1 b2.1 b3.1 b4.1 b5.1 b6.1 b7.1
  have r6 := eight (e := .f32) (f := fun i _ => ((x.lse i t : ℝ) : EReal)) b0.2 b1.2 b2.2 b3.2 b4.2 b5.2 b6.2 b7.2
  have r5 := eight (e := .bf16) (f := fun i d => (x.attn V i t d) * (Z i d * Ideal.div 1 (1 + Ideal.exp (-(Z i d))))) (gate b0.1 (h.z.readAt harg4 inb_S4096x128_S512x128_0_0)) (gate b1.1 (h.z.readAt harg4 inb_S4096x128_S512x128_512_0)) (gate b2.1 (h.z.readAt harg4 inb_S4096x128_S512x128_1024_0)) (gate b3.1 (h.z.readAt harg4 inb_S4096x128_S512x128_1536_0)) (gate b4.1 (h.z.readAt harg4 inb_S4096x128_S512x128_2048_0)) (gate b5.1 (h.z.readAt harg4 inb_S4096x128_S512x128_2560_0)) (gate b6.1 (h.z.readAt harg4 inb_S4096x128_S512x128_3072_0)) (gate b7.1 (h.z.readAt harg4 inb_S4096x128_S512x128_3584_0))
  exact ⟨r4, r5, r6⟩

end Cert.Fwd

end
-- ==== Proof.FwdArrays.lean ====
/- The three result arrays of the attention's forward pass, from what its four argument arrays hold. -/
module

public import proofs.«01_k».proof.Proof.FwdRun
public import Idealize.ShloMosaic.Lib.Pipeline.ValueKit

@[expose] public section

set_option maxRecDepth 16384

noncomputable section

namespace Cert.Fwd

open Idealize.ShloMosaic Idealize.ShloMosaic.TcCoe Cert.Kernel12Ideal Cert.Kernel12Ideal.Gen Cert.Hold Cert.Att Cert.Steps Cert.Out

/-- What the argument arrays hold when the call begins. -/
structure Entry (m : (ℓ : Loc nD τ sig) → Buf (Elt Ideal) ℓ) (c : Dev nD) (x : Data) (W : ℕ → ℕ → ℕ → EReal) (Z : ℕ → ℕ → EReal) : Prop where
  q : Arr (n := 4096) (m := 4096) (V m c (Pipeline.arrRef spec0 0)) (fun i d => ((x.heads.Q i d : ℝ) : EReal))
  kv : Arr (n := 4096) (m := 4096) (V m c (Pipeline.arrRef spec0 1)) (fun i d => if d % 256 < 128 then ((x.heads.KV i d : ℝ) : EReal) else W i (d / 256) (d % 256 - 128))
  r : Arr (n := 4096) (m := 128) (V m c (Pipeline.arrRef spec0 2)) (fun i d => ((x.heads.R i d : ℝ) : EReal))
  z : Arr (n := 4096) (m := 2560) (V m c (Pipeline.arrRef spec0 3)) Z

variable {m : (ℓ : Loc nD τ sig) → Buf (Elt Ideal) ℓ} {c : Dev nD} {x : Data} {W : ℕ → ℕ → ℕ → EReal} {Z : ℕ → ℕ → EReal}

theorem index0 : ∀ t : Fin grid0.N, win0_0.index t = ![0, t.val] := by decide +kernel
theorem index1 : ∀ t : Fin grid0.N, win0_1.index t = ![0, t.val] := by decide +kernel
theorem index2 : ∀ t : Fin grid0.N, win0_2.index t = ![0, 0] := by decide +kernel
theorem index3 : ∀ t : Fin grid0.N, win0_3.index t = ![0, 4 + t.val] := by decide +kernel
theorem index4 : ∀ t : Fin grid0.N, win0_4.index t = ![0, t.val] := by decide +kernel
theorem index5 : ∀ t : Fin grid0.N, win0_5.index t = ![0, t.val] := by decide +kernel
theorem index6 : ∀ t : Fin grid0.N, win0_6.index t = ![0, t.val] := by decide +kernel

theorem read0 {X : Vec Ideal S4096x4096 .bf16} {g : ℕ → ℕ → EReal} (h : Arr (n := 4096) (m := 4096) X g) (t : Fin cfg0.N) :
    Arr (n := 4096) (m := 256) (((cfg0.win 0).blk t).view.read (Elt Ideal) X) (fun i d => g i (t.val * 256 + d)) := by
  intro i j
  have e := h.at (((cfg0.win 0).blk t).view.emb (ix2 i j))
  blk_simp [index0] at e ⊢
  exact e

theorem read1 {X : Vec Ideal S4096x4096 .bf16} {g : ℕ → ℕ → EReal} (h : Arr (n := 4096) (m := 4096) X g) (t : Fin cfg0.N) :
    Arr (n := 4096) (m := 256) (((cfg0.win 1).blk t).view.read (Elt Ideal) X) (fun i d => g i (t.val * 256 + d)) := by
  intro i j
  have e := h.at (((cfg0.win 1).blk t).view.emb (ix2 i j))
  blk_simp [index1] at e ⊢
  exact e

theorem read2 {X : Vec Ideal S4096x128 .bf16} {g : ℕ → ℕ → EReal} (h : Arr (n := 4096) (m := 128) X g) (t : Fin cfg0.N) :
    Arr (n := 4096) (m := 128) (((cfg0.win 2).blk t).view.read (Elt Ideal) X) (fun i d => g i d) := by
  intro i j
  have e := h.at (((cfg0.win 2).blk t).view.emb (ix2 i j))
  blk_simp [index2] at e ⊢
  exact e

theorem read3 {X : Vec Ideal S4096x2560 .f32} {g : ℕ → ℕ → EReal} (h : Arr (n := 4096) (m := 2560) X g) (t : Fin cfg0.N) :
    Arr (n := 4096) (m := 128) (((cfg0.win 3).blk t).view.read (Elt Ideal) X) (fun i d => g i ((4 + t.val) * 128 + d)) := by
  intro i j
  have e := h.at (((cfg0.win 3).blk t).view.emb (ix2 i j))
  blk_simp [index3] at e ⊢
  exact e

theorem ins (h : Entry m c x W Z) (t : Fin cfg0.N) :
    Ins x t.val (fun j d => W j t.val d) (fun i d => Z i ((4 + t.val) * 128 + d)) (iblk m c 0 t) (iblk m c 1 t) (iblk m c 2 t) (iblk m c 3 t) where
  q := by
    unfold iblk
    exact read0 h.q t
  kv := by
    unfold iblk
    refine (read1 h.kv t).congr fun i d _ hd => ?_
    have e1 : (t.val * 256 + d) / 256 = t.val := by omega
    have e2 : (t.val * 256 + d) % 256 = d := by omega
    rw [e1, e2]
    rfl
  r := by
    unfold iblk
    exact read2 h.r t
  z := by
    unfold iblk
    exact read3 h.z t

/-- What a head's point leaves. -/
theorem outsAt (h : Entry m c x W Z) (t : Fin cfg0.N) :
    Arr (n := 4096) (m := 128) (outsAt0 m c t).1 (fun i d => x.attn (fun j d => W j t.val d) i t.val d)
    ∧ Arr (n := 4096) (m := 128) (outsAt0 m c t).2.1
        (fun i d => x.attn (fun j d => W j t.val d) i t.val d * (Z i ((4 + t.val) * 128 + d) * Ideal.div 1 (1 + Ideal.exp (-(Z i ((4 + t.val) * 128 + d))))))
    ∧ Arr (n := 4096) (m := 128) (outsAt0 m c t).2.2 (fun i _ => ((x.lse i t.val : ℝ) : EReal)) := by
  have k := outs c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) (iblk m c 0 t) (iblk m c 1 t) (iblk m c 2 t) (iblk m c 3 t) (ins h t)
  unfold outsAt0
  dsimp only
  exact k

/-- The attention's result. -/
theorem array4 (h : Entry m c x W Z) : Arr (n := 4096) (m := 2048) ((dats m 0 c).arrAt 4 cfg0.N) (fun i d => x.attn (fun j e => W j (d / 128) e) i (d / 128) (d % 128)) := by
  have e : (dats m 0 c).arrAt 4 cfg0.N = fun y => x.attn (fun j e => W j ((y 1).val / 128) e) (y 0).val ((y 1).val / 128) ((y 1).val % 128) := by
    refine (dats m 0 c).arrAt_eq_of_covers 4 _ (by decide +kernel) fun t hf y => ?_
    blk_simp [index4]
    rw [after0_4]
    have k := (outsAt h t).1.at y
    have hy : (y 1).val < 128 := (y 1).2
    have e1 : (t.val * 128 + (y 1).val) / 128 = t.val := by omega
    have e2 : (t.val * 128 + (y 1).val) % 128 = (y 1).val := by omega
    rw [e1, e2]
    exact k
  intro i j
  exact congrFun e _

/-- Its product with the gate. -/
theorem array5 (h : Entry m c x W Z) : Arr (n := 4096) (m := 2048) ((dats m 0 c).arrAt 5 cfg0.N)
    (fun i d => x.attn (fun j e => W j (d / 128) e) i (d / 128) (d % 128) * (Z i (512 + d) * Ideal.div 1 (1 + Ideal.exp (-(Z i (512 + d)))))) := by
  have e : (dats m 0 c).arrAt 5 cfg0.N = fun y => x.attn (fun j e => W j ((y 1).val / 128) e) (y 0).val ((y 1).val / 128) ((y 1).val % 128)
      * (Z (y 0).val (512 + (y 1).val) * Ideal.div 1 (1 + Ideal.exp (-(Z (y 0).val (512 + (y 1).val))))) := by
    refine (dats m 0 c).arrAt_eq_of_covers 5 _ (by decide +kernel) fun t hf y => ?_
    blk_simp [index5]
    rw [after0_5]
    have k := (outsAt h t).2.1.at y
    have hy : (y 1).val < 128 := (y 1).2
    have e1 : (t.val * 128 + (y 1).val) / 128 = t.val := by omega
    have e2 : (t.val * 128 + (y 1).val) % 128 = (y 1).val := by omega
    have e3 : 512 + (t.val * 128 + (y 1).val) = (4 + t.val) * 128 + (y 1).val := by omega
    rw [e1, e2, e3]
    exact k
  intro i j
  exact congrFun e _

/-- The rows' log-sum-exps, each head's in its 128 columns. -/
theorem array6 (h : Entry m c x W Z) : Arr (n := 4096) (m := 2048) ((dats m 0 c).arrAt 6 cfg0.N) (fun i d => ((x.lse i (d / 128) : ℝ) : EReal)) := by
  have e : (dats m 0 c).arrAt 6 cfg0.N = fun y => ((x.lse (y 0).val ((y 1).val / 128) : ℝ) : EReal) := by
    refine (dats m 0 c).arrAt_eq_of_covers 6 _ (by decide +kernel) fun t hf y => ?_
    blk_simp [index6]
    rw [after0_6]
    have k := (outsAt h t).2.2.at y
    have hy : (y 1).val < 128 := (y 1).2
    have e1 : (t.val * 128 + (y 1).val) / 128 = t.val := by omega
    rw [e1]
    exact k
  intro i j
  exact congrFun e _

end Cert.Fwd

end
-- ==== Proof.FwdRef.lean ====
/- What the attention's forward pass is handed, and the entries of its reference's arrays, where the arguments hold reals. -/
module

public import proofs.«01_k».proof.Proof.Gen.Reference12Ideal.Run
public import proofs.«01_k».proof.Proof.Gen.Kernel12Ideal.Frame
public import proofs.«01_k».proof.Proof.Gen.Pre_finite12
public import proofs.«01_k».proof.Proof.HostAt
public import proofs.«01_k».proof.Proof.FwdReal
public import proofs.«01_k».proof.Proof.Finite
public import proofs.«01_k».proof.Proof.Entries
public import Idealize.ShloMosaic.Lib.StableHlo.ReadAt

@[expose] public section

set_option maxRecDepth 16384

noncomputable section

namespace Cert.FwdRef

open Idealize.ShloMosaic Idealize.ShloMosaic.TcCoe Cert.Hold Cert.Att
open Cert.Host (Args Holds)

section
open Cert.Kernel12Ideal Cert.Kernel12Ideal.Gen
variable (m : (ℓ : Loc nD τ sig) → Buf (Elt Ideal) ℓ) (c : Dev nD)

/-- The five arguments that the attention's scores take; no values and no gradient. -/
def argsOf : Args :=
  ⟨m ((c : Thread nD τ).loc main_arg0), m ((c : Thread nD τ).loc main_arg1), m ((c : Thread nD τ).loc main_arg2), fun _ => (0 : EReal),
    m ((c : Thread nD τ).loc main_arg4), m ((c : Thread nD τ).loc main_arg5), fun _ => (0 : EReal)⟩

theorem V_w0 : V m c main_v19 = Cert.Host.w0 (argsOf m c) := by
  unfold V
  after_reads_simp
  rfl

theorem V_w1 : V m c main_v22 = Cert.Host.w1 { argsOf m c with x3 := m ((c : Thread nD τ).loc main_arg3) } := by
  unfold V
  after_reads_simp
  rfl

theorem V_w2 : V m c main_v25 = Cert.Host.w2 (argsOf m c) := by
  unfold V
  after_reads_simp
  rfl

end

/-- Where the precondition holds, they hold reals. -/
theorem holds (a : Args) (v : FVec Ideal Cert.Pre_finite12.S4096x16x128 .f32) (z : FVec Ideal Cert.Pre_finite12.S4096x2560 .f32)
    (hv : a.x3 = fun _ => (0 : EReal)) (hg : a.x6 = fun _ => (0 : EReal))
    (e : Cert.Pre_finite12.fn (F := Ideal) a.x0 a.x1 a.x2 v a.x4 a.x5 z = fun _ => 1#1) : Holds a (Cert.Finite.dataOf a) := by
  obtain ⟨e, e5⟩ := Cert.Finite.both (congrFun e ix0)
  obtain ⟨e, e4⟩ := Cert.Finite.both e
  obtain ⟨e, e2⟩ := Cert.Finite.both e
  obtain ⟨e0, e1⟩ := Cert.Finite.both e
  exact ⟨Cert.Finite.num3_at (Cert.Finite.all_real _ _ _ _ _ e0), Cert.Finite.num3_at (Cert.Finite.all_real _ _ _ _ _ e1),
    Cert.Finite.num2_at (Cert.Finite.all_real _ _ _ _ _ e2), Cert.Finite.num3_at fun i => by rw [hv]; exact EReal.coe_zero.symm,
    Cert.Finite.num2_at (Cert.Finite.all_real _ _ _ _ _ e4), Cert.Finite.num2_at (Cert.Finite.all_real _ _ _ _ _ e5),
    Cert.Finite.num3_at fun i => by rw [hg]; exact EReal.coe_zero.symm⟩

open Cert.Reference12Ideal Cert.Reference12Ideal.Gen Cert.Reference12Ideal.Value

/-- The rope half of q, split off before it is rotated. -/
def ropeA (a : Args) : FVec Ideal S4096x16x64 .f32 := extractStridedSlice S4096x16x64 ![0, 0, 128] a.x0 slices_S4096x16x192_S4096x16x64_0_0_128

def rotR (a : Args) : FVec Ideal S4096x16x64 .f32 :=
  concatenate S4096x16x64 2
    [⟨S4096x16x32, subf (mulf (extractStridedSlice S4096x16x32 ![0, 0, 0] (ropeA a) slices_S4096x16x64_S4096x16x32_0_0_0) (Cert.Host.cosB a))
        (mulf (extractStridedSlice S4096x16x32 ![0, 0, 32] (ropeA a) slices_S4096x16x64_S4096x16x32_0_0_32) (Cert.Host.sinB a))⟩,
      ⟨S4096x16x32, addf (mulf (extractStridedSlice S4096x16x32 ![0, 0, 32] (ropeA a) slices_S4096x16x64_S4096x16x32_0_0_32) (Cert.Host.cosB a))
        (mulf (extractStridedSlice S4096x16x32 ![0, 0, 0] (ropeA a) slices_S4096x16x64_S4096x16x32_0_0_0) (Cert.Host.sinB a))⟩]
    concatenates_S4096x16x32_S4096x16x32_S4096x16x64_d2

/-- The masked scores from a rotated half of q. -/
def maskT (a : Args) (r : FVec Ideal S4096x16x64 .f32) : FVec Ideal S16x4096x4096 .f32 :=
  select Cert.Host.liveA (Host.divf (addf (Host.dotGeneral dot_S4096x16x128_S4096x16x128_S16x4096x4096_2_2_0_0_1_1 none (Cert.Host.nopeA a) a.x1)
      (transpose S16x4096x4096 [2, 1, 0] (Host.dotGeneral dot_S4096x64_S4096x16x64_S4096x4096x16_1_2_0_01_n_n none a.x2 r) transposes_S4096x4096x16_S16x4096x4096_2_1_0))
    (broadcastInDim S16x4096x4096 ![] bcast_S_S16x4096x4096 (Host.sqrt (constant S_ .f32 0x43400000#32))))
    (broadcastInDim S16x4096x4096 ![] bcast_S_S16x4096x4096 (id (constant S_ .f32 0xFF800000#32)))

/-- The rows' largest scores. -/
def topT (s : FVec Ideal S16x4096x4096 .f32) : FVec Ideal S16x4096 .f32 :=
  Host.reduce FloatOps.maximumf s (constant S_ .f32 0xFF800000#32) reducesTo_S16x4096x4096_S16x4096_d2 h_S_

/-- A row's largest beside −∞. -/
def lowT (t : FVec Ideal S16x4096 .f32) : FVec Ideal S16x4096 .f32 :=
  maximumf (broadcastInDim S16x4096 ![] bcast_S_S16x4096 (constant S_ .f32 0xFF800000#32)) t

theorem lowT_eq (t : FVec Ideal S16x4096 .f32) : lowT t = t := funext fun k => by
  show max (Ideal.ofBits .f32 0xFF800000#32) (t k) = t k
  rw [Cert.Host.ofBits_bot, max_eq_right bot_le]

/-- The exponentials of scores below their row's largest. -/
def expT (s : FVec Ideal S16x4096x4096 .f32) (t : FVec Ideal S16x4096 .f32) : FVec Ideal S16x4096x4096 .f32 :=
  Host.exp (subf s (broadcastInDim S16x4096x4096 ![0, 1, 2] bcast_S16x4096x1_S16x4096x4096_0_1_2 (broadcastInDim S16x4096x1 ![0, 1] bcast_S16x4096_S16x4096x1_0_1 t)))

/-- The rows' sums. -/
def sumT (e : FVec Ideal S16x4096x4096 .f32) : FVec Ideal S16x4096x1 .f32 :=
  broadcastInDim S16x4096x1 ![0, 1] bcast_S16x4096_S16x4096x1_0_1 (Host.reduceAdd e (constant S_ .f32 0x00000000#32) reducesTo_S16x4096x4096_S16x4096_d2 h_S_)

/-- The result from the exponentials. -/
def outT (v : FVec Ideal S4096x16x128 .f32) (e : FVec Ideal S16x4096x4096 .f32) : FVec Ideal S4096x2048 .f32 :=
  shapeCast S4096x2048 (transpose S4096x16x128 [2, 0, 1] (Host.dotGeneral dot_S4096x16x128_S16x4096x4096_S16x128x4096_0_2_2_1_1_0 none v
    (Host.divf e (broadcastInDim S16x4096x4096 ![0, 1, 2] bcast_S16x4096x1_S16x4096x4096_0_1_2 (sumT e)))) transposes_S16x128x4096_S4096x16x128_2_0_1)
    shapeCasts_S4096x16x128_S4096x2048

/-- The same from the weights. -/
def outP (v : FVec Ideal S4096x16x128 .f32) (p : FVec Ideal S16x4096x4096 .f32) : FVec Ideal S4096x2048 .f32 :=
  shapeCast S4096x2048 (transpose S4096x16x128 [2, 0, 1] (Host.dotGeneral dot_S4096x16x128_S16x4096x4096_S16x128x4096_0_2_2_1_1_0 none v p)
    transposes_S16x128x4096_S4096x16x128_2_0_1) shapeCasts_S4096x16x128_S4096x2048

/-- The log-sum-exps from the rows' largest scores and the exponentials. -/
def lseT (t : FVec Ideal S16x4096 .f32) (e : FVec Ideal S16x4096x4096 .f32) : FVec Ideal S4096x2048 .f32 :=
  shapeCast S4096x2048 (broadcastInDim S4096x16x128 ![0, 1, 2] bcast_S4096x16x1_S4096x16x128_0_1_2 (broadcastInDim S4096x16x1 ![0, 1] bcast_S4096x16_S4096x16x1_0_1
    (transpose S4096x16 [1, 0] (shapeCast S16x4096 (addf (broadcastInDim S16x4096x1 ![0, 1] bcast_S16x4096_S16x4096x1_0_1 t) (Host.log (sumT e))) shapeCasts_S16x4096x1_S16x4096)
      transposes_S16x4096_S4096x16_1_0))) shapeCasts_S4096x16x128_S4096x2048

/-- The gated result. -/
def gateT (o : FVec Ideal S4096x2048 .f32) (p : FVec Ideal S4096x2560 .f32) : FVec Ideal S4096x2048 .bf16 :=
  truncf .bf16 (mulf o (mulf (extractStridedSlice S4096x2048 ![0, 512] p slices_S4096x2560_S4096x2048_0_512)
    (Host.divf (broadcastInDim S4096x2048 ![] bcast_S_S4096x2048 (constant S_ .f32 0x3F800000#32))
      (addf (broadcastInDim S4096x2048 ![] bcast_S_S4096x2048 (constant S_ .f32 0x3F800000#32))
        (Host.exp (Host.negf (extractStridedSlice S4096x2048 ![0, 512] p slices_S4096x2560_S4096x2048_0_512))))))) bitsLt_bf16_f32

theorem gateT_at {o : FVec Ideal S4096x2048 .f32} {f : ℕ → ℕ → EReal} (ho : Arr o f) (p : FVec Ideal S4096x2560 .f32) :
    Arr (gateT o p) (fun i d => f i d * (ent p i (512 + d) * Ideal.div 1 (1 + Ideal.exp (-(ent p i (512 + d)))))) := fun i d => by
  have e : ent p i.val (512 + d.val) = p (ix2 i ⟨512 + d.val, by omega⟩) := ent_eq p i ⟨512 + d.val, by omega⟩
  beta_reduce
  rw [← ho, e]
  unfold gateT
  pointwise

section
variable {a : Args} {x : Data} (H : Holds a x)
include H

theorem rope_at (i : Fin 4096) (h : Fin 16) (d : Fin 64) : ropeA a (ix3 i h d) = ((x.q i.val h.val (128 + d.val) : ℝ) : EReal) := by
  have e := H.q i h ⟨128 + d.val, by omega⟩
  rw [← e]
  unfold ropeA
  pointwise

theorem rotR_at (i : Fin 4096) (h : Fin 16) (d : Fin 64) : rotR a (ix3 i h d) = ((x.rot i.val h.val d.val : ℝ) : EReal) := by
  have en : ∀ n, 128 + (32 + n) = 160 + n := fun n => by omega
  have er := rope_at H
  unfold rotR Cert.Host.cosB Cert.Host.sinB
  generalize ropeA a = w at er ⊢
  pointwise
  unfold Data.rot
  split_ifs <;> first
    | simp only [er, H.c, H.s, en, Nat.zero_add, ← EReal.coe_mul, ← EReal.coe_sub, ← EReal.coe_add]; done
    | (simp only [er, H.c, H.s, en, Nat.zero_add, ← EReal.coe_mul, ← EReal.coe_sub, ← EReal.coe_add] <;> simp_all)

theorem rotR_eq : rotR a = Cert.Host.rotA a := funext fun k => by
  obtain ⟨i, h, d, rfl⟩ : ∃ (i : Fin 4096) (h : Fin 16) (d : Fin 64), k = ix3 i h d := ⟨_, _, _, eq_ix3 k⟩
  rw [rotR_at H, Cert.Host.rot_at H]

/-- The keys beside the values, head by head. -/
theorem w1_at (v : FVec Ideal S4096x16x128 .f32) : Arr (Cert.Host.w1 { a with x3 := v })
    (fun i d => if d % 256 < 128 then ((x.heads.KV i d : ℝ) : EReal) else ent3 v i (d / 256) (d % 256 - 128)) := fun i d => by
  unfold Cert.Host.w1
  pointwise
  show _ = if d.val % 256 < 128 then ((if d.val % 256 < 128 then x.kn i.val (d.val / 256) (d.val % 256) else x.v i.val (d.val / 256) (d.val % 256 - 128) : ℝ) : EReal) else _
  split_ifs
  · exact H.kn _ _ _
  all_goals exact (ent3_eq v i _ _).symm

/-- The reference's result. -/
theorem out0 (v : FVec Ideal S4096x16x128 .f32) : Arr (outT v (expT (maskT a (rotR a)) (lowT (topT (maskT a (rotR a))))))
    (fun i d => x.attn (fun j e => ent3 v j (d / 128) e) i (d / 128) (d % 128)) := by
  rw [rotR_eq H, lowT_eq]
  intro i d
  have e : outT v (expT (maskT a (Cert.Host.rotA a)) (topT (maskT a (Cert.Host.rotA a)))) = outP v (Cert.Host.probA a) := rfl
  have hp := Cert.Host.prob_at H
  rw [e]
  unfold outP Data.attn
  generalize Cert.Host.probA a = p at hp ⊢
  pointwise
  rw [Finset.sum_range]
  exact Finset.sum_congr rfl fun j _ => congrArg₂ _ (ent3_eq v j _ _).symm (hp _ _ _)

/-- Its log-sum-exps. -/
theorem out2 : Arr (lseT (topT (maskT a (rotR a))) (expT (maskT a (rotR a)) (topT (maskT a (rotR a))))) (fun i d => ((x.lse i (d / 128) : ℝ) : EReal)) := by
  rw [rotR_eq H]
  exact Cert.Host.w4_at H

end

end Cert.FwdRef

end
-- ==== Proof.FwdValue.lean ====
/- The attention's forward pass computes what its reference does. -/
module

public import proofs.«01_k».proof.Defs
public import proofs.«01_k».proof.Proof.FwdArrays
public import proofs.«01_k».proof.Proof.FwdRef
public import proofs.«01_k».proof.Proof.Value

@[expose] public section

set_option maxRecDepth 16384

noncomputable section

namespace Cert.FwdValue

open Idealize.ShloMosaic Idealize.ShloMosaic.TcCoe Idealize.SL.Sem
open Cert.Hold Cert.Att Cert.Fwd Cert.FwdRef
open Cert.Value (arr_eq)

section
open Cert.Kernel12Ideal Cert.Kernel12Ideal.Gen
variable {m : (ℓ : Loc nD τ sig) → Buf (Elt Ideal) ℓ} {c : Dev nD} {x : Data} (H : Cert.Host.Holds (argsOf m c) x)
include H

/-- The windows' arrays when the call begins. -/
theorem entry : Entry m c x (ent3 (n := 4096) (m := 16) (k := 128) (m ((c : Thread nD τ).loc main_arg3))) (ent (n := 4096) (m := 2560) (m ((c : Thread nD τ).loc main_arg6))) where
  q := by rw [show V m c (Pipeline.arrRef spec0 0) = _ from V_w0 m c]; exact Cert.Host.w0_at H
  kv := by rw [show V m c (Pipeline.arrRef spec0 1) = _ from V_w1 m c]; exact w1_at H _
  r := by rw [show V m c (Pipeline.arrRef spec0 2) = _ from V_w2 m c]; exact Cert.Host.w2_at H
  z := by rw [show V m c (Pipeline.arrRef spec0 3) = _ from V_main_arg6 m c]; exact arr_ent _

end

/-- The scores' five arguments, at the reference's side. -/
def argsR (m : (ℓ : Loc Cert.Reference12Ideal.nD Cert.Reference12Ideal.τ Cert.Reference12Ideal.sig) → Buf (Elt Ideal) ℓ) (c : Dev Cert.Reference12Ideal.nD) : Cert.Host.Args :=
  ⟨m ((c.tc : Thread Cert.Reference12Ideal.nD Cert.Reference12Ideal.τ).loc Cert.Reference12Ideal.main_arg0),
    m ((c.tc : Thread Cert.Reference12Ideal.nD Cert.Reference12Ideal.τ).loc Cert.Reference12Ideal.main_arg1),
    m ((c.tc : Thread Cert.Reference12Ideal.nD Cert.Reference12Ideal.τ).loc Cert.Reference12Ideal.main_arg2),
    fun _ => (0 : EReal),
    m ((c.tc : Thread Cert.Reference12Ideal.nD Cert.Reference12Ideal.τ).loc Cert.Reference12Ideal.main_arg4),
    m ((c.tc : Thread Cert.Reference12Ideal.nD Cert.Reference12Ideal.τ).loc Cert.Reference12Ideal.main_arg5), fun _ => (0 : EReal)⟩

section
open Cert.Reference12Ideal Cert.Reference12Ideal.Gen Cert.Reference12Ideal.Value
variable (m : (ℓ : Loc nD τ sig) → Buf (Elt Ideal) ℓ) (c : Dev nD)

theorem res0 : res_out0 m c = outT (m ((c.tc : Thread nD τ).loc main_arg3)) (expT (maskT (argsR m c) (rotR (argsR m c))) (lowT (topT (maskT (argsR m c) (rotR (argsR m c)))))) := rfl

theorem res1 : res_out1 m c = gateT (outT (m ((c.tc : Thread nD τ).loc main_arg3)) (expT (maskT (argsR m c) (rotR (argsR m c))) (lowT (topT (maskT (argsR m c) (rotR (argsR m c)))))))
    (m ((c.tc : Thread nD τ).loc main_arg6)) := rfl

theorem res2 : res_out2 m c = lseT (topT (maskT (argsR m c) (rotR (argsR m c)))) (expT (maskT (argsR m c) (rotR (argsR m c))) (topT (maskT (argsR m c) (rotR (argsR m c))))) := rfl

end

/-- Over the extended reals the call and the plain attention compute the same three arrays. -/
theorem algebraic : Cert.algebraic_Kernel12Ideal_Reference12Ideal_pre_finite12 := by
  intro m ρ m' ρ' hpre hagree
  have H : ∀ c, Cert.Host.Holds (argsOf m c) (Cert.Finite.dataOf (argsOf m c)) := fun c => holds _ _ _ rfl rfl (hpre c)
  have e : ∀ c, argsR m' c = argsOf m c := fun c => by
    obtain ⟨e0, e1, e2, e3, e4, e5, e6⟩ := hagree c
    unfold argsR argsOf
    rw [← e0, ← e1, ← e2, ← e4, ← e5]
  have H' : ∀ c, Cert.Host.Holds (argsR m' c) (Cert.Finite.dataOf (argsOf m c)) := fun c => (e c) ▸ H c
  refine ⟨_, _, _, Cert.Kernel12Ideal.Value.run_blocks m ρ, ?_⟩
  refine (θ_run Cert.Reference12Ideal.defs _ _).mono (fun _ h c => ?_) (Cert.Reference12Ideal.Value.run m' ρ')
  obtain ⟨h0, h1, h2, h3⟩ := h c
  have r0 := out0 (H' c) (m' ((c.tc : Thread Cert.Reference12Ideal.nD Cert.Reference12Ideal.τ).loc Cert.Reference12Ideal.main_arg3))
  have r1 := gateT_at r0 (m' ((c.tc : Thread Cert.Reference12Ideal.nD Cert.Reference12Ideal.τ).loc Cert.Reference12Ideal.main_arg6))
  have a4 := array4 (entry (H c))
  have a5 := array5 (entry (H c))
  rw [← (hagree c).2.2.2.1] at a4 a5
  rw [← (hagree c).2.2.2.2.2.2] at a5
  exact ⟨h0.trans ((res0 m' c).trans (arr_eq r0 a4)), h1.trans ((res1 m' c).trans (arr_eq r1 a5)),
    h2.trans ((res2 m' c).trans (arr_eq (out2 (H' c)) (array6 (entry (H c))))), h3⟩

end Cert.FwdValue

end
-- ==== Proof.Frames5.lean ====
/- The claims that the calls of the q projection and of the shared latent's projections run, leave their arguments as they
   were and end quiescent. -/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import Idealize.ShloMosaic.Lib.Quiescent

@[expose] public section

noncomputable section

namespace Cert.Proof.Frames

open Idealize.ShloMosaic Idealize.ShloMosaic.TcCoe Idealize.SL.Sem

theorem frame_p13 : Cert.quiescent_Kernel13 := fun m ρ _ => Cert.Kernel13.Gen.frame m ρ

theorem frame_pi13 : Cert.quiescent_Kernel13Ideal := fun m ρ _ => Cert.Kernel13Ideal.Gen.frame m ρ

theorem frame_ri13 : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

theorem frame_p14 : Cert.quiescent_Kernel14 := fun m ρ _ => Cert.Kernel14.Gen.frame m ρ

theorem frame_pi14 : Cert.quiescent_Kernel14Ideal := fun m ρ _ => Cert.Kernel14Ideal.Gen.frame m ρ

theorem frame_ri14 : Cert.quiescent_Reference14Ideal := fun m ρ _ =>
  (θ_run Cert.Reference14Ideal.defs _ _).mono (fun r h => ⟨fun c => (h c).2.2.2.2,
      Idealize.ShloMosaic.sem_eq_zero_of_no_sems (by decide) r.2⟩)
    (Cert.Reference14Ideal.Value.run (F := Ideal) m ρ)

end Cert.Proof.Frames

end
-- ==== Proof.Rope.lean ====
module

public import proofs.«01_k».proof.Proof.Entries
public import Idealize.ShloMosaic.Lib.Pointwise
public import Idealize.ShloMosaic.Lib.Pointwise.IndexVar
public import Idealize.ShloMosaic.Lib.WordCmp

@[expose] public section

noncomputable section

namespace Cert.Rope

open Idealize.ShloMosaic Cert.Hold

/-- The cosines as the calls take them. -/
def cosL (C : ℕ → ℕ → EReal) (i l : ℕ) : EReal := if l < 32 then C i l else if l < 64 then C i (l - 32) else 0

/-- The sines as the calls take them. -/
def sinL (S : ℕ → ℕ → EReal) (i l : ℕ) : EReal := if l < 32 then -(S i l) else if l < 64 then S i (l - 32) else 0

/-- Entry `l` of the rotated row `f`. -/
def rot (f : ℕ → EReal) (C S : ℕ → ℕ → EReal) (i l : ℕ) : EReal :=
  if l < 32 then f l * C i l - f (l + 32) * S i l else if l < 64 then f l * C i (l - 32) + f (l - 32) * S i (l - 32) else 0

theorem rot_eq (f : ℕ → EReal) (C S : ℕ → ℕ → EReal) (i l : ℕ) :
    f l * cosL C i l + (if l < 32 then f (l + 32) else f (l - 32)) * sinL S i l = rot f C S i l := by
  unfold cosL sinL rot
  split_ifs
  · rw [mul_neg, sub_eq_add_neg]
  · rfl
  · rw [mul_zero, mul_zero, add_zero]

/-- A table's 32 columns twice, and 64 columns behind. -/
def wide (hk : Shape.Concatenates [(⟨2, ![4096, 32]⟩ : Shape), ⟨2, ![4096, 32]⟩, ⟨2, ![4096, 64]⟩] ⟨2, ![4096, 128]⟩ 1)
    (x y : FVec Ideal (⟨2, ![4096, 32]⟩ : Shape) .f32) (z : FVec Ideal (⟨2, ![4096, 64]⟩ : Shape) .f32) : FVec Ideal (⟨2, ![4096, 128]⟩ : Shape) .f32 :=
  concatenate (⟨2, ![4096, 128]⟩ : Shape) 1 [⟨(⟨2, ![4096, 32]⟩ : Shape), x⟩, ⟨(⟨2, ![4096, 32]⟩ : Shape), y⟩, ⟨(⟨2, ![4096, 64]⟩ : Shape), z⟩] hk

theorem wide_at (hk : Shape.Concatenates [(⟨2, ![4096, 32]⟩ : Shape), ⟨2, ![4096, 32]⟩, ⟨2, ![4096, 64]⟩] ⟨2, ![4096, 128]⟩ 1)
    (x y : FVec Ideal (⟨2, ![4096, 32]⟩ : Shape) .f32) {z : FVec Ideal (⟨2, ![4096, 64]⟩ : Shape) .f32} (hz : Arr z fun _ _ => 0) :
    Arr (wide hk x y z) (fun i l => if l < 32 then ent x i l else if l < 64 then ent y i (l - 32) else 0) := by
  intro i j
  pointwise [wide, hz _ _]
  by_cases h : j.val < 32
  · rw [dif_pos h, if_pos h]
    exact (ent_eq x i ⟨j.val, h⟩).symm
  · rw [dif_neg h, if_neg h]
    by_cases h' : j.val - 32 < 32
    · rw [dif_pos h']
      exact (ent_eq y i ⟨j.val - 32, h'⟩).symm.trans (if_pos (show j.val < 64 by omega)).symm
    · rw [dif_neg h', if_neg (by omega)]

theorem wide_cos (hk : Shape.Concatenates [(⟨2, ![4096, 32]⟩ : Shape), ⟨2, ![4096, 32]⟩, ⟨2, ![4096, 64]⟩] ⟨2, ![4096, 128]⟩ 1)
    (x : FVec Ideal (⟨2, ![4096, 32]⟩ : Shape) .f32) {z : FVec Ideal (⟨2, ![4096, 64]⟩ : Shape) .f32} (hz : Arr z fun _ _ => 0) :
    Arr (wide hk x x z) (cosL (ent x)) := wide_at hk x x hz

theorem wide_sin (hk : Shape.Concatenates [(⟨2, ![4096, 32]⟩ : Shape), ⟨2, ![4096, 32]⟩, ⟨2, ![4096, 64]⟩] ⟨2, ![4096, 128]⟩ 1)
    (x : FVec Ideal (⟨2, ![4096, 32]⟩ : Shape) .f32) {z : FVec Ideal (⟨2, ![4096, 64]⟩ : Shape) .f32} (hz : Arr z fun _ _ => 0) :
    Arr (wide hk (Host.negf x) x z) (sinL (ent x)) := by
  refine (wide_at hk (Host.negf x) x hz).congr fun i j hi hj => ?_
  unfold sinL
  by_cases h : j < 32
  · rw [if_pos h, if_pos h]
    have e : ent (Host.negf x) i j = Host.negf x (ix2 ⟨i, hi⟩ ⟨j, h⟩) := ent_eq (n := 4096) (m := 32) (Host.negf x) ⟨i, hi⟩ ⟨j, h⟩
    have e' : ent x i j = x (ix2 ⟨i, hi⟩ ⟨j, h⟩) := ent_eq (n := 4096) (m := 32) x ⟨i, hi⟩ ⟨j, h⟩
    rw [e, e']
    pointwise
  · rw [if_neg h, if_neg h]

/-- The calls' rotation of a block of rows. -/
def turn {n : ℕ} (hi : (⟨2, ![n, 128]⟩ : Shape).Iotas .tc 32 [1]) (hr : (⟨2, ![n, 128]⟩ : Shape).Rotates 1 none)
    (x c s : FVec Ideal (⟨2, ![n, 128]⟩ : Shape) .f32) : FVec Ideal (⟨2, ![n, 128]⟩ : Shape) .f32 :=
  addf (mulf x c) (mulf (select (cmpi .slt (iota .tc (⟨2, ![n, 128]⟩ : Shape) 32 [1] hi) (broadcast (⟨2, ![n, 128]⟩ : Shape) 32#32))
    (dynamicRotate 1 96#32 none x hr) (dynamicRotate 1 32#32 none x hr)) s)

theorem turn_arr {n : ℕ} (hi : (⟨2, ![n, 128]⟩ : Shape).Iotas .tc 32 [1]) (hr : (⟨2, ![n, 128]⟩ : Shape).Rotates 1 none)
    {x c s : FVec Ideal (⟨2, ![n, 128]⟩ : Shape) .f32} {f C S : ℕ → ℕ → EReal} (hx : Arr x f) (hc : Arr c (cosL C)) (hs : Arr s (sinL S)) :
    Arr (turn hi hr x c s) (fun i l => rot (f i) C S i l) := by
  intro i j
  pointwise [turn]
  have hj := j.2
  rw [WordCmp.cmpi_slt_ofNat (by omega) (by omega)]
  refine Eq.trans ?_ (rot_eq (f i.val) C S i.val j.val)
  by_cases hlt : j.val < 32
  · rw [decide_eq_true hlt, if_pos hlt]
    have e : (j.val + 128 - 96) % 128 = j.val + 32 := by omega
    simp only [Scalar.select, BitVec.ofBool, cond, if_pos, hx _ _, hc _ _, hs _ _, e]
  · rw [decide_eq_false hlt, if_neg hlt]
    have e : (j.val + 128 - 32) % 128 = j.val - 32 := by omega
    simp only [Scalar.select, decide_false]
    rw [if_neg (by decide)]
    simp only [hx _ _, hc _ _, hs _ _, e]

end Cert.Rope

end
-- ==== Proof.QUp.lean ====
module

public import proofs.«01_k».proof.Defs
public import proofs.«01_k».proof.Proof.Rope
public import proofs.«01_k».proof.Proof.Out
public import proofs.«01_k».proof.Proof.Gen.Kernel13Ideal.Value
public import proofs.«01_k».proof.Proof.Gen.Reference13Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.QUp

open Idealize.ShloMosaic Idealize.ShloMosaic.TcCoe Idealize.SL.Sem Cert.Kernel13Ideal Cert.Kernel13Ideal.Gen Cert.Hold Cert.Rope Cert.Out

/-- Entry (i, n) of the projection. -/
def proj (x w : ℕ → ℕ → EReal) (i n : ℕ) : EReal := ∑ k : Fin 512, x i k.val * w k.val n

/-- The weight with 64 zeros behind each head's 192 columns. -/
def pad (w : ℕ → ℕ → ℕ → EReal) (k n : ℕ) : EReal := if n % 256 < 192 then w k (n / 256) (n % 256) else 0

/-- Entry (i, n) of the result: the second 128 columns of each head's 256 are rotated. -/
def head (q C S : ℕ → ℕ → EReal) (i n : ℕ) : EReal :=
  if n % 256 < 128 then q i n else rot (fun l => q i (n / 256 * 256 + 128 + l)) C S i (n % 256 - 128)

theorem head_lo (q C S : ℕ → ℕ → EReal) {b : ℕ} (hb : b % 256 = 0) (i j : ℕ) (hi : i < 1024) (hj : j < 128) : q i (b + j) = head q C S (0 + i) (b + j) := by
  rw [Nat.zero_add]
  unfold head
  rw [if_pos (by omega)]

theorem head_hi (q C S : ℕ → ℕ → EReal) {b : ℕ} (hb : b % 256 = 128) (i j : ℕ) (hi : i < 1024) (hj : j < 128) :
    rot (fun l => q i (b + l)) C S i j = head q C S (0 + i) (b + j) := by
  rw [Nat.zero_add]
  unfold head
  rw [if_neg (by omega)]
  have e1 : (b + j) / 256 * 256 + 128 = b := by omega
  have e2 : (b + j) % 256 - 128 = j := by omega
  rw [e1, e2]

section
variable {a : Vec Ideal S1024x512 .bf16} {w : Vec Ideal S512x1024 .bf16} {c s : Vec Ideal S1024x128 .f32}
  {X W C S : ℕ → ℕ → EReal}
  (ha : Arr (n := 1024) (m := 512) a X) (hw : Arr (n := 512) (m := 1024) w W)
  (hc : Arr (n := 1024) (m := 128) c (cosL C)) (hs : Arr (n := 1024) (m := 128) s (sinL S))

include ha hw in
theorem pay6_arr : Arr (n := 1024) (m := 1024) (k0_pay6 a w) (proj X W) := by
  intro i n
  unfold k0_pay6 proj
  pointwise [ha _ _, hw _ _]

include hc in
theorem pay7_arr : Arr (n := 1024) (m := 128) (k0_pay7 c) (cosL C) := by
  intro i n
  unfold k0_pay7
  pointwise [hc _ _]

include hs in
theorem pay8_arr : Arr (n := 1024) (m := 128) (k0_pay8 s) (sinL S) := by
  intro i n
  unfold k0_pay8
  pointwise [hs _ _]

/-- 128 columns of the block as they are. -/
theorem slice_arr {v : FVec Ideal S1024x1024 .f32} {f : ℕ → ℕ → EReal} (h : Arr (n := 1024) (m := 1024) v f) {b : ℕ}
    (hb : S1024x1024.Slices ![0, b] S1024x128) :
    Arr (n := 1024) (m := 128) (extractStridedSlice S1024x128 ![0, b] v hb) (fun i j => f i (b + j)) := by
  intro i j
  pointwise [h _ _]

theorem lo_arr {v : FVec Ideal S1024x1024 .f32} {f : ℕ → ℕ → EReal} (h : Arr (n := 1024) (m := 1024) v f) {b : ℕ}
    (hb : S1024x1024.Slices ![0, b] S1024x128) :
    Arr (n := 1024) (m := 128) (truncf .bf16 (extractStridedSlice S1024x128 ![0, b] v hb) bitsLt_bf16_f32) (fun i j => f i (b + j)) :=
  slice_arr h hb

/-- 128 columns of the block, rotated. -/
theorem hi_arr {v : FVec Ideal S1024x1024 .f32} {f : ℕ → ℕ → EReal} (h : Arr (n := 1024) (m := 1024) v f)
    {x y : FVec Ideal S1024x128 .f32} (hx : Arr (n := 1024) (m := 128) x (cosL C)) (hy : Arr (n := 1024) (m := 128) y (sinL S)) {b : ℕ}
    (hb : S1024x1024.Slices ![0, b] S1024x128) :
    Arr (n := 1024) (m := 128) (truncf .bf16 (turn iota_S1024x128_d1_w32 rotates_S1024x128_d1 (extractStridedSlice S1024x128 ![0, b] v hb) x y) bitsLt_bf16_f32)
      (fun i j => rot (fun l => f i (b + l)) C S i j) :=
  turn_arr iota_S1024x128_d1_w32 rotates_S1024x128_d1 (slice_arr h hb) hx hy

include ha hw hc hs in
theorem out_arr : Arr (n := 1024) (m := 1024) (out0_4 a w c s) (head (proj X W) C S) := by
  have h := pay6_arr ha hw
  have hx := pay7_arr hc
  have hy := pay8_arr hs
  unfold out0_4 k0_pay17 k0_pay18 k0_pay19
  rw [View.ld_unit_lit' _ _ (by decide), View.ld_unit_lit' _ _ (by decide), View.ld_unit_lit' _ _ (by decide), View.ld_unit_lit' _ _ (by decide)]
  have z : On (n := 1024) (m := 1024) (fun _ _ => False) (View.canon ([] : List (View.Piece (Elt Ideal) S1024x1024 .bf16))) (head (proj X W) C S) := On.nil _ _
  have c0 := On.cons (P' := fun _ j => j < 128) z (lo_arr h slices_S1024x1024_o0_0_S1024x128) inb_S1024x1024_S1024x128_0_0
    (head_lo (proj X W) C S (b := 0) rfl) (fun i j hp hi hj hn => by omega)
  have c1 := On.cons (P' := fun _ j => j < 256) c0 (hi_arr h hx hy slices_S1024x1024_o0_128_S1024x128) inb_S1024x1024_S1024x128_0_128
    (head_hi (proj X W) C S (b := 128) rfl) (fun i j hp hi hj hn => by omega)
  have c2 := On.cons (P' := fun _ j => j < 384) c1 (lo_arr h slices_S1024x1024_o0_256_S1024x128) inb_S1024x1024_S1024x128_0_256
    (head_lo (proj X W) C S (b := 256) rfl) (fun i j hp hi hj hn => by omega)
  have c3 := On.cons (P' := fun _ j => j < 512) c2 (hi_arr h hx hy slices_S1024x1024_o0_384_S1024x128) inb_S1024x1024_S1024x128_0_384
    (head_hi (proj X W) C S (b := 384) rfl) (fun i j hp hi hj hn => by omega)
  have c4 := On.cons (P' := fun _ j => j < 640) c3 (lo_arr h slices_S1024x1024_o0_512_S1024x128) inb_S1024x1024_S1024x128_0_512
    (head_lo (proj X W) C S (b := 512) rfl) (fun i j hp hi hj hn => by omega)
  have c5 := On.cons (P' := fun _ j => j < 768) c4 (hi_arr h hx hy slices_S1024x1024_o0_640_S1024x128) inb_S1024x1024_S1024x128_0_640
    (head_hi (proj X W) C S (b := 640) rfl) (fun i j hp hi hj hn => by omega)
  have c6 := On.cons (P' := fun _ j => j < 896) c5 (lo_arr h slices_S1024x1024_o0_768_S1024x128) inb_S1024x1024_S1024x128_0_768
    (head_lo (proj X W) C S (b := 768) rfl) (fun i j hp hi hj hn => by omega)
  have c7 := On.cons (P' := fun _ j => j < 1024) c6 (hi_arr h hx hy slices_S1024x1024_o0_896_S1024x128) inb_S1024x1024_S1024x128_0_896
    (head_hi (proj X W) C S (b := 896) rfl) (fun i j hp hi hj hn => by omega)
  exact c7.arr fun i j _ hj => hj

end

theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, 0] := by decide +kernel
theorem index3 : ∀ t : Fin grid0.N, win0_3.index t = ![t.val / 4, 0] := by decide +kernel
theorem index4 : ∀ t : Fin grid0.N, win0_4.index t = ![t.val / 4, t.val % 4] := by decide +kernel

variable (m : (ℓ : Loc nD τ sig) → Buf (Elt Ideal) ℓ) (c : Dev nD)

abbrev X : ℕ → ℕ → EReal := ent (n := 4096) (m := 512) (m ((c : Thread nD τ).loc main_arg0))
abbrev W : ℕ → ℕ → EReal := pad (ent3 (n := 512) (m := 16) (k := 192) (m ((c : Thread nD τ).loc main_arg1)))
abbrev C : ℕ → ℕ → EReal := ent (n := 4096) (m := 32) (m ((c : Thread nD τ).loc main_arg2))
abbrev S : ℕ → ℕ → EReal := ent (n := 4096) (m := 32) (m ((c : Thread nD τ).loc main_arg3))

/-! ## The host's arrays -/

/-- The weight of the projection. -/
def padW (w : FVec Ideal S512x16x192 .f32) : FVec Ideal S512x4096 .bf16 :=
  truncf .bf16 (shapeCast S512x4096 (concatenate S512x16x256 2 [⟨S512x16x192, w⟩, ⟨S512x16x64, broadcastInDim S512x16x64 ![] bcast_S_S512x16x64 (constant S_ .f32 0x00000000#32)⟩]
    concatenates_S512x16x192_S512x16x64_S512x16x256_d2) shapeCasts_S512x16x256_S512x4096) bitsLt_bf16_f32

theorem padW_arr (w : FVec Ideal S512x16x192 .f32) : Arr (padW w) (pad (ent3 w)) := by
  intro i j
  pointwise [padW]
  unfold pad
  by_cases h : j.val % 256 < 192
  · rw [dif_pos h, if_pos h]
    exact (ent3_eq w i ⟨j.val / 256, by have := j.2; omega⟩ ⟨j.val % 256, h⟩).symm
  · rw [dif_neg h, if_neg h]

/-- The cosines. -/
def cosW (x : FVec Ideal S4096x32 .f32) : FVec Ideal S4096x128 .f32 :=
  wide concatenates_S4096x32_S4096x32_S4096x64_S4096x128_d1 x x (broadcastInDim S4096x64 ![] bcast_S_S4096x64 (constant S_ .f32 0x00000000#32))

theorem cosW_arr (x : FVec Ideal S4096x32 .f32) : Arr (cosW x) (cosL (ent x)) :=
  wide_cos _ x (fun i j => by pointwise)

/-- The sines. -/
def sinW (x : FVec Ideal S4096x32 .f32) : FVec Ideal S4096x128 .f32 :=
  wide concatenates_S4096x32_S4096x32_S4096x64_S4096x128_d1 (Host.negf x) x (broadcastInDim S4096x64 ![] bcast_S_S4096x64 (constant S_ .f32 0x00000000#32))

theorem sinW_arr (x : FVec Ideal S4096x32 .f32) : Arr (sinW x) (sinL (ent x)) :=
  wide_sin _ x (fun i j => by pointwise)

theorem entry0 : V m c main_v4 = (m ((c : Thread nD τ).loc main_arg0) : FVec Ideal S4096x512 .f32) := by
  unfold V
  after_reads_simp
  rfl

theorem entry1 : V m c main_v3 = padW (m ((c : Thread nD τ).loc main_arg1)) := by
  unfold V
  after_reads_simp
  rfl

theorem entry2 : V m c main_v6 = cosW (m ((c : Thread nD τ).loc main_arg2)) := by
  unfold V
  after_reads_simp
  rfl

theorem entry3 : V m c main_v8 = sinW (m ((c : Thread nD τ).loc main_arg3)) := by
  unfold V
  after_reads_simp
  rfl

/-! ## The windows' blocks -/

theorem read0 (t : Fin cfg0.N) : Arr (n := 1024) (m := 512) (iblk m c 0 t) (fun i k => X m c (t.val / 4 * 1024 + i) k) := by
  intro i k
  unfold iblk
  have e := (arr_ent (n := 4096) (m := 512) (V m c main_v4)).at (((cfg0.win 0).blk t).view.emb (ix2 i k))
  blk_simp [index0] at e ⊢
  refine e.trans ?_
  rw [entry0]

theorem read1 (t : Fin cfg0.N) : Arr (n := 512) (m := 1024) (iblk m c 1 t) (fun k n => W m c k (t.val % 4 * 1024 + n)) := by
  intro i k
  unfold iblk
  have e := (padW_arr (m ((c : Thread nD τ).loc main_arg1))).at (((cfg0.win 1).blk t).view.emb (ix2 i k))
  rw [← entry1] at e
  blk_simp [index1] at e ⊢
  exact e

theorem read2 (t : Fin cfg0.N) : Arr (n := 1024) (m := 128) (iblk m c 2 t) (cosL fun i => C m c (t.val / 4 * 1024 + i)) := by
  intro i k
  unfold iblk
  have e := (cosW_arr (m ((c : Thread nD τ).loc main_arg2))).at (((cfg0.win 2).blk t).view.emb (ix2 i k))
  rw [← entry2] at e
  blk_simp [index2] at e ⊢
  exact e

theorem read3 (t : Fin cfg0.N) : Arr (n := 1024) (m := 128) (iblk m c 3 t) (sinL fun i => S m c (t.val / 4 * 1024 + i)) := by
  intro i k
  unfold iblk
  have e := (sinW_arr (m ((c : Thread nD τ).loc main_arg3))).at (((cfg0.win 3).blk t).view.emb (ix2 i k))
  rw [← entry3] at e
  blk_simp [index3] at e ⊢
  exact e

/-! ## What the call leaves -/

theorem head_block (q C S : ℕ → ℕ → EReal) (r u i n : ℕ) :
    head (fun i n => q (r + i) (u * 1024 + n)) (fun i => C (r + i)) (fun i => S (r + i)) i n = head q C S (r + i) (u * 1024 + n) := by
  unfold head
  have e1 : (u * 1024 + n) % 256 = n % 256 := by omega
  have e2 : (u * 1024 + n) / 256 * 256 = u * 1024 + n / 256 * 256 := by omega
  rw [e1, e2]
  simp only [rot, Nat.add_assoc]

theorem kernel_array : (dats m 0 c).arrAt 4 cfg0.N = fun y => head (proj (X m c) (W m c)) (C m c) (S m c) (y 0).val (y 1).val := by
  refine (dats m 0 c).arrAt_eq_of_covers 4 _ (by decide +kernel) fun t hf y => ?_
  blk_simp [index4]
  rw [after0_4]
  refine ((out_arr (read0 m c t) (read1 m c t) (read2 m c t) (read3 m c t)).at y).trans ?_
  exact head_block (proj (X m c) (W m c)) (C m c) (S m c) (t.val / 4 * 1024) (t.val % 4) _ _

end Cert.QUp

namespace Cert.QUp

open Idealize.ShloMosaic Idealize.ShloMosaic.TcCoe Idealize.SL.Sem Cert.Reference13Ideal Cert.Reference13Ideal.Gen Cert.Hold Cert.Rope

/-! ## The reference -/

/-- The projection, head by head. -/
def projT (x : FVec Ideal S4096x512 .f32) (w : FVec Ideal S512x16x192 .f32) : FVec Ideal S4096x16x192 .f32 :=
  Host.dotGeneral dot_S4096x512_S512x16x192_S4096x16x192_1_0_0_12_n_n none x w

theorem projT_at (x : FVec Ideal S4096x512 .f32) (w : FVec Ideal S512x16x192 .f32) (i : Fin 4096) (h : Fin 16) (d : Fin 192) :
    projT x w (ix3 i h d) = proj (ent x) (pad (ent3 w)) i.val (h.val * 256 + d.val) := by
  pointwise [projT]
  unfold proj pad
  have e1 : (h.val * 256 + d.val) % 256 = d.val := by omega
  have e2 : (h.val * 256 + d.val) / 256 = h.val := by omega
  rw [e1, e2]
  exact Finset.sum_congr rfl fun k _ => congrArg₂ _ (ent_eq x _ _).symm ((if_pos d.2).trans (ent3_eq w _ _ _)).symm

/-- A table's row once for each head. -/
def perHead (x : FVec Ideal S4096x32 .f32) : FVec Ideal S4096x16x32 .f32 :=
  broadcastInDim S4096x16x32 ![0, 1, 2] bcast_S4096x1x32_S4096x16x32_0_1_2 (broadcastInDim S4096x1x32 ![0, 2] bcast_S4096x32_S4096x1x32_0_2 x)

/-- The result of the projection. -/
def headT (q : FVec Ideal S4096x16x192 .f32) (c s : FVec Ideal S4096x32 .f32) : FVec Ideal S4096x4096 .f32 :=
  shapeCast S4096x4096 (concatenate S4096x16x256 2 [⟨S4096x16x128, extractStridedSlice S4096x16x128 ![0, 0, 0] q slices_S4096x16x192_S4096x16x128_0_0_0⟩,
    ⟨S4096x16x64, concatenate S4096x16x64 2 [
      ⟨S4096x16x32, subf (mulf (extractStridedSlice S4096x16x32 ![0, 0, 0] (extractStridedSlice S4096x16x64 ![0, 0, 128] q slices_S4096x16x192_S4096x16x64_0_0_128) slices_S4096x16x64_S4096x16x32_0_0_0) (perHead c))
        (mulf (extractStridedSlice S4096x16x32 ![0, 0, 32] (extractStridedSlice S4096x16x64 ![0, 0, 128] q slices_S4096x16x192_S4096x16x64_0_0_128) slices_S4096x16x64_S4096x16x32_0_0_32) (perHead s))⟩,
      ⟨S4096x16x32, addf (mulf (extractStridedSlice S4096x16x32 ![0, 0, 32] (extractStridedSlice S4096x16x64 ![0, 0, 128] q slices_S4096x16x192_S4096x16x64_0_0_128) slices_S4096x16x64_S4096x16x32_0_0_32) (perHead c))
        (mulf (extractStridedSlice S4096x16x32 ![0, 0, 0] (extractStridedSlice S4096x16x64 ![0, 0, 128] q slices_S4096x16x192_S4096x16x64_0_0_128) slices_S4096x16x64_S4096x16x32_0_0_0) (perHead s))⟩]
      concatenates_S4096x16x32_S4096x16x32_S4096x16x64_d2⟩,
    ⟨S4096x16x64, broadcastInDim S4096x16x64 ![] bcast_S_S4096x16x64 (constant S_ .f32 0x00000000#32)⟩] concatenates_S4096x16x128_S4096x16x64_S4096x16x64_S4096x16x256_d2) shapeCasts_S4096x16x256_S4096x4096

set_option maxHeartbeats 2000000 in
theorem headT_arr {q : FVec Ideal S4096x16x192 .f32} {f : ℕ → ℕ → EReal} (h : ∀ i n d, q (ix3 i n d) = f i.val (n.val * 256 + d.val)) (c s : FVec Ideal S4096x32 .f32) :
    Arr (headT q c s) (head f (ent c) (ent s)) := by
  intro i j
  pointwise [headT, perHead, h _ _ _]
  unfold head rot
  by_cases h0 : j.val % 256 < 128
  · have e : j.val / 256 * 256 + j.val % 256 = j.val := by omega
    refine (dif_pos h0).trans (Eq.trans ?_ (if_pos h0).symm)
    rw [e]
  · refine (dif_neg h0).trans (Eq.trans ?_ (if_neg h0).symm)
    by_cases h1 : j.val % 256 - 128 < 32
    · refine ((dif_pos (show j.val % 256 - 128 < 64 by omega)).trans (dif_pos h1)).trans (Eq.trans ?_ (if_pos h1).symm)
      rw [← ent_eq c, ← ent_eq s, Nat.add_comm 32]
      simp only [Nat.add_assoc]
    · refine Eq.trans ?_ (if_neg h1).symm
      by_cases h2 : j.val % 256 - 128 < 64
      · have e : 32 + (j.val % 256 - 128 - 32) = j.val % 256 - 128 := by omega
        refine ((dif_pos h2).trans (dif_neg h1)).trans (Eq.trans ?_ (if_pos h2).symm)
        rw [← ent_eq c, ← ent_eq s, e]
        simp only [Nat.add_assoc]
      · exact (dif_neg h2).trans (if_neg h2).symm

/-- Over the extended reals the call and reference.py's lines compute the same array. -/
theorem algebraic : Cert.algebraic_Kernel13Ideal_Reference13Ideal := by
  intro m ρ m' ρ' hpre hagree
  refine ⟨_, Cert.Kernel13Ideal.Value.run_blocks m ρ, ?_⟩
  refine (θ_run Cert.Reference13Ideal.defs _ _).mono (fun _ h c => ?_) (Cert.Reference13Ideal.Value.run m' ρ')
  obtain ⟨h0, h1⟩ := h c
  obtain ⟨e0, e1, e2, e3⟩ := hagree c
  refine ⟨h0.trans ?_, h1⟩
  rw [kernel_array m c, e0, e1, e2, e3]
  exact funext fun y => (headT_arr (projT_at (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)))
    (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).at y

end Cert.QUp

end
-- ==== Proof.KvMid.lean ====
module

public import proofs.«01_k».proof.Defs
public import proofs.«01_k».proof.Proof.Rope
public import proofs.«01_k».proof.Proof.Gen.Kernel14Ideal.Value
public import proofs.«01_k».proof.Proof.Gen.Reference14Ideal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KvMid

open Idealize.ShloMosaic Idealize.ShloMosaic.TcCoe Idealize.SL.Sem Cert.Kernel14Ideal Cert.Kernel14Ideal.Gen Cert.Hold Cert.Rope

/-- Entry (i, n) of the projection down. -/
def down (x w : ℕ → ℕ → EReal) (i n : ℕ) : EReal := ∑ k : Fin 1024, x i k.val * w k.val n

/-- Entry (i, n) of the normed latent. -/
def norm (f : ℕ → ℕ → EReal) (g : ℕ → EReal) (i n : ℕ) : EReal :=
  f i n * Ideal.rsqrt (Ideal.div (∑ k : Fin 256, f i k.val * f i k.val) (Ideal.ofBits .f32 0x43800000#32) + Ideal.ofBits .f32 0x358637BD#32) * g n

/-- The weight of the projections up: head by head, k's 128 columns beside v's. -/
def side (u v : ℕ → ℕ → ℕ → EReal) (k n : ℕ) : EReal := if n % 256 < 128 then u k (n / 256) (n % 256) else v k (n / 256) (n % 256 - 128)

/-- Entry (i, n) of the projections up. -/
def up (c w : ℕ → ℕ → EReal) (i n : ℕ) : EReal := ∑ k : Fin 256, c i k.val * w k.val n

section
variable {a : Vec Ideal S512x1024 .bf16} {w : Vec Ideal S1024x384 .bf16} {u : Vec Ideal S256x4096 .bf16} {g : Vec Ideal S1x256 .f32} {c s : Vec Ideal S512x128 .f32}
  {X W U C S : ℕ → ℕ → EReal} {G : ℕ → EReal}
  (ha : Arr (n := 512) (m := 1024) a X) (hw : Arr (n := 1024) (m := 384) w W) (hu : Arr (n := 256) (m := 4096) u U) (hg : Arr (n := 1) (m := 256) g (fun _ n => G n))
  (hc : Arr (n := 512) (m := 128) c (cosL C)) (hs : Arr (n := 512) (m := 128) s (sinL S))
include ha hw

theorem pay3_arr : Arr (n := 512) (m := 384) (k0_pay3 a w) (down X W) := by
  intro i n
  unfold k0_pay3 down
  pointwise [ha _ _, hw _ _]

include hg in
theorem pay4_arr : Arr (n := 512) (m := 256) (k0_pay4 a w g) (norm (down X W) G) := by
  intro i n
  have h := pay3_arr ha hw
  unfold k0_pay4
  generalize k0_pay3 a w = p at h ⊢
  pointwise [h _ _, hg _ _]
  rfl

theorem pay5_arr : Arr (n := 512) (m := 128) (k0_pay5 a w) (fun i l => down X W i (256 + l)) := by
  intro i n
  have h := pay3_arr ha hw
  unfold k0_pay5
  generalize k0_pay3 a w = p at h ⊢
  pointwise [h _ _]

include hc hs in
theorem pay1_arr : Arr (n := 512) (m := 128) (k0_pay1 (k0_pay6 a w c) (k0_pay7 a w s)) (fun i l => rot (fun l => down X W i (256 + l)) C S i l) := by
  have e : k0_pay1 (k0_pay6 a w c) (k0_pay7 a w s) = truncf .bf16 (turn iota_S512x128_d1_w32 rotates_S512x128_d1 (k0_pay5 a w) (shapeCast S512x128 c shapeCasts_S512x128_S512x128)
    (shapeCast S512x128 s shapeCasts_S512x128_S512x128)) bitsLt_bf16_f32 := rfl
  rw [e]
  have h := turn_arr iota_S512x128_d1_w32 rotates_S512x128_d1 (pay5_arr ha hw) (c := shapeCast S512x128 c shapeCasts_S512x128_S512x128)
    (s := shapeCast S512x128 s shapeCasts_S512x128_S512x128) (C := C) (S := S) (fun i j => by pointwise [hc _ _]) (fun i j => by pointwise [hs _ _])
  exact h

include hu hg in
theorem pay2_arr : Arr (n := 512) (m := 4096) (k0_pay2 (k0_pay4 a w g) u) (up (norm (down X W) G) U) := by
  intro i n
  have h := pay4_arr ha hw hg
  unfold k0_pay2 up
  generalize k0_pay4 a w g = p at h ⊢
  pointwise [h _ _, hu _ _]

end

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel
theorem index9 : ∀ t : Fin grid0.N, win0_9.index t = ![t.val, 0] := by decide +kernel

variable (m : (ℓ : Loc nD τ sig) → Buf (Elt Ideal) ℓ) (c : Dev nD)

abbrev X : ℕ → ℕ → EReal := ent (n := 4096) (m := 1024) (m ((c : Thread nD τ).loc main_arg0))
abbrev W : ℕ → ℕ → EReal := ent (n := 1024) (m := 320) (m ((c : Thread nD τ).loc main_arg1))
abbrev U : ℕ → ℕ → EReal := side (ent3 (n := 256) (m := 16) (k := 128) (m ((c : Thread nD τ).loc main_arg2))) (ent3 (n := 256) (m := 16) (k := 128) (m ((c : Thread nD τ).loc main_arg3)))
abbrev G : ℕ → EReal := ent1 (n := 256) (m ((c : Thread nD τ).loc main_arg4))
abbrev C : ℕ → ℕ → EReal := ent (n := 4096) (m := 32) (m ((c : Thread nD τ).loc main_arg5))
abbrev S : ℕ → ℕ → EReal := ent (n := 4096) (m := 32) (m ((c : Thread nD τ).loc main_arg6))

/-! ## The host's arrays -/

/-- The weight of the projection down, with 64 zeros behind its columns. -/
def padW (w : FVec Ideal S1024x320 .f32) : FVec Ideal S1024x384 .bf16 :=
  truncf .bf16 (concatenate S1024x384 1 [⟨S1024x320, w⟩, ⟨S1024x64, broadcastInDim S1024x64 ![] bcast_S_S1024x64 (constant S_ .f32 0x00000000#32)⟩] concatenates_S1024x320_S1024x64_S1024x384_d1) bitsLt_bf16_f32

theorem padW_arr (w : FVec Ideal S1024x320 .f32) : Arr (padW w) (ent (n := 1024) (m := 320) w) := by
  intro i j
  pointwise [padW]
  split_ifs with h
  · exact (ent_eq w i ⟨j.val, h⟩).symm
  · unfold ent
    rw [dif_neg (fun k => h k.2)]

/-- The weight of the projections up. -/
def sideW (u v : FVec Ideal S256x16x128 .f32) : FVec Ideal S256x4096 .bf16 :=
  truncf .bf16 (shapeCast S256x4096 (concatenate S256x16x256 2 [⟨S256x16x128, u⟩, ⟨S256x16x128, v⟩] concatenates_S256x16x128_S256x16x128_S256x16x256_d2) shapeCasts_S256x16x256_S256x4096) bitsLt_bf16_f32

theorem sideW_arr (u v : FVec Ideal S256x16x128 .f32) : Arr (sideW u v) (side (ent3 u) (ent3 v)) := by
  intro i j
  pointwise [sideW]
  unfold side
  split_ifs with h
  · exact (ent3_eq u i _ _).symm
  all_goals exact (ent3_eq v i _ _).symm

/-- The cosines. -/
def cosW (x : FVec Ideal S4096x32 .f32) : FVec Ideal S4096x128 .f32 :=
  wide concatenates_S4096x32_S4096x32_S4096x64_S4096x128_d1 x x (broadcastInDim S4096x64 ![] bcast_S_S4096x64 (constant S_ .f32 0x00000000#32))

theorem cosW_arr (x : FVec Ideal S4096x32 .f32) : Arr (cosW x) (cosL (ent x)) :=
  wide_cos _ x (fun i j => by pointwise)

/-- The sines. -/
def sinW (x : FVec Ideal S4096x32 .f32) : FVec Ideal S4096x128 .f32 :=
  wide concatenates_S4096x32_S4096x32_S4096x64_S4096x128_d1 (Host.negf x) x (broadcastInDim S4096x64 ![] bcast_S_S4096x64 (constant S_ .f32 0x00000000#32))

theorem sinW_arr (x : FVec Ideal S4096x32 .f32) : Arr (sinW x) (sinL (ent x)) :=
  wide_sin _ x (fun i j => by pointwise)

theorem gain_arr (g : FVec Ideal S256 .f32) : Arr (n := 1) (m := 256) (shapeCast S1x256 g shapeCasts_S256_S1x256 : FVec Ideal S1x256 .f32) (fun _ n => ent1 g n) := by
  intro i j
  pointwise
  exact (ent1_eq g j).symm

theorem entry0 : V m c main_v6 = (m ((c : Thread nD τ).loc main_arg0) : FVec Ideal S4096x1024 .f32) := by
  unfold V
  after_reads_simp
  rfl

theorem entry1 : V m c main_v2 = padW (m ((c : Thread nD τ).loc main_arg1)) := by
  unfold V
  after_reads_simp
  rfl

theorem entry2 : V m c main_v5 = sideW (m ((c : Thread nD τ).loc main_arg2)) (m ((c : Thread nD τ).loc main_arg3)) := by
  unfold V
  after_reads_simp
  rfl

theorem entry3 : V m c main_v7 = (shapeCast S1x256 (m ((c : Thread nD τ).loc main_arg4) : FVec Ideal S256 .f32) shapeCasts_S256_S1x256 : FVec Ideal S1x256 .f32) := by
  unfold V
  after_reads_simp
  rfl

theorem entry4 : V m c main_v9 = cosW (m ((c : Thread nD τ).loc main_arg5)) := by
  unfold V
  after_reads_simp
  rfl

theorem entry5 : V m c main_v11 = sinW (m ((c : Thread nD τ).loc main_arg6)) := by
  unfold V
  after_reads_simp
  rfl

/-! ## The windows' blocks -/

theorem read0 (t : Fin cfg0.N) : Arr (n := 512) (m := 1024) (iblk m c 0 t) (fun i k => X m c (t.val * 512 + i) k) := by
  intro i k
  unfold iblk
  have e := (arr_ent (n := 4096) (m := 1024) (V m c main_v6)).at (((cfg0.win 0).blk t).view.emb (ix2 i k))
  blk_simp [index0] at e ⊢
  refine e.trans ?_
  rw [entry0]

theorem read1 (t : Fin cfg0.N) : Arr (n := 1024) (m := 384) (iblk m c 1 t) (W m c) := by
  intro i k
  unfold iblk
  have e := (padW_arr (m ((c : Thread nD τ).loc main_arg1))).at (((cfg0.win 1).blk t).view.emb (ix2 i k))
  rw [← entry1] at e
  blk_simp [index1] at e ⊢
  exact e

theorem read2 (t : Fin cfg0.N) : Arr (n := 256) (m := 4096) (iblk m c 2 t) (U m c) := by
  intro i k
  unfold iblk
  have e := (sideW_arr (m ((c : Thread nD τ).loc main_arg2)) (m ((c : Thread nD τ).loc main_arg3))).at (((cfg0.win 2).blk t).view.emb (ix2 i k))
  rw [← entry2] at e
  blk_simp [index2] at e ⊢
  exact e

theorem read3 (t : Fin cfg0.N) : Arr (n := 1) (m := 256) (iblk m c 3 t) (fun _ n => G m c n) := by
  intro i k
  unfold iblk
  have e := (gain_arr (m ((c : Thread nD τ).loc main_arg4))).at (((cfg0.win 3).blk t).view.emb (ix2 i k))
  rw [← entry3] at e
  blk_simp [index3] at e ⊢
  exact e

theorem read4 (t : Fin cfg0.N) : Arr (n := 512) (m := 128) (iblk m c 4 t) (cosL fun i => C m c (t.val * 512 + i)) := by
  intro i k
  unfold iblk
  have e := (cosW_arr (m ((c : Thread nD τ).loc main_arg5))).at (((cfg0.win 4).blk t).view.emb (ix2 i k))
  rw [← entry4] at e
  blk_simp [index4] at e ⊢
  exact e

theorem read5 (t : Fin cfg0.N) : Arr (n := 512) (m := 128) (iblk m c 5 t) (sinL fun i => S m c (t.val * 512 + i)) := by
  intro i k
  unfold iblk
  have e := (sinW_arr (m ((c : Thread nD τ).loc main_arg6))).at (((cfg0.win 5).blk t).view.emb (ix2 i k))
  rw [← entry5] at e
  blk_simp [index5] at e ⊢
  exact e

/-! ## What the call leaves -/

theorem array6 : (dats m 0 c).arrAt 6 cfg0.N = fun y => down (X m c) (W m c) (y 0).val (y 1).val := by
  refine (dats m 0 c).arrAt_eq_of_covers 6 _ (by decide +kernel) fun t hf y => ?_
  blk_simp [index6]
  rw [after0_6]
  unfold out0_6
  rw [View.canon_cons_unit_lit' _ _ _ (by decide), View.ld_unit_lit' _ _ (by decide), View.ld_unit_lit' _ _ (by decide)]
  exact (pay3_arr (read0 m c t) (read1 m c t)).at y

theorem array7 : (dats m 0 c).arrAt 7 cfg0.N = fun y => norm (down (X m c) (W m c)) (G m c) (y 0).val (y 1).val := by
  refine (dats m 0 c).arrAt_eq_of_covers 7 _ (by decide +kernel) fun t hf y => ?_
  blk_simp [index7]
  rw [after0_7]
  unfold out0_7
  rw [View.canon_cons_unit_lit' _ _ _ (by decide), View.ld_unit_lit' _ _ (by decide), View.ld_unit_lit' _ _ (by decide), View.ld_unit_lit' _ _ (by decide)]
  exact (pay4_arr (read0 m c t) (read1 m c t) (read3 m c t)).at y

theorem array8 : (dats m 0 c).arrAt 8 cfg0.N = fun y => rot (fun l => down (X m c) (W m c) (y 0).val (256 + l)) (C m c) (S m c) (y 0).val (y 1).val := by
  refine (dats m 0 c).arrAt_eq_of_covers 8 _ (by decide +kernel) fun t hf y => ?_
  blk_simp [index8]
  rw [after0_8]
  unfold out0_8
  rw [View.canon_cons_unit_lit' _ _ _ (by decide), View.ld_unit_lit' _ _ (by decide), View.ld_unit_lit' _ _ (by decide), View.ld_unit_lit' _ _ (by decide), View.ld_unit_lit' _ _ (by decide)]
  exact (pay1_arr (read0 m c t) (read1 m c t) (read4 m c t) (read5 m c t)).at y

theorem array9 : (dats m 0 c).arrAt 9 cfg0.N = fun y => up (norm (down (X m c) (W m c)) (G m c)) (U m c) (y 0).val (y 1).val := by
  refine (dats m 0 c).arrAt_eq_of_covers 9 _ (by decide +kernel) fun t hf y => ?_
  blk_simp [index9]
  rw [after0_9]
  unfold out0_9
  rw [View.canon_cons_unit_lit' _ _ _ (by decide), View.ld_unit_lit' _ _ (by decide), View.ld_unit_lit' _ _ (by decide), View.ld_unit_lit' _ _ (by decide), View.ld_unit_lit' _ _ (by decide)]
  exact (pay2_arr (read0 m c t) (read1 m c t) (read2 m c t) (read3 m c t)).at y

end Cert.KvMid

namespace Cert.KvMid

open Idealize.ShloMosaic Idealize.ShloMosaic.TcCoe Idealize.SL.Sem Cert.Reference14Ideal Cert.Reference14Ideal.Gen Cert.Hold Cert.Rope

/-! ## The reference -/

/-- The projection down. -/
def downT (x : FVec Ideal S4096x1024 .f32) (w : FVec Ideal S1024x320 .f32) : FVec Ideal S4096x320 .f32 :=
  Host.dotGeneral dot_S4096x1024_S1024x320_S4096x320_1_0_0_1_n_n none x w

theorem downT_arr (x : FVec Ideal S4096x1024 .f32) (w : FVec Ideal S1024x320 .f32) : Arr (downT x w) (down (ent x) (ent w)) := by
  intro i j
  pointwise [downT]
  exact Finset.sum_congr rfl fun k _ => congrArg₂ _ (ent_eq x _ _).symm (ent_eq w _ _).symm

/-- The same with 64 zeros behind it. -/
def padT (p : FVec Ideal S4096x320 .f32) : FVec Ideal S4096x384 .f32 :=
  concatenate S4096x384 1 [⟨S4096x320, p⟩, ⟨S4096x64, broadcastInDim S4096x64 ![] bcast_S_S4096x64 (constant S_ .f32 0x00000000#32)⟩] concatenates_S4096x320_S4096x64_S4096x384_d1

theorem padT_arr (x : FVec Ideal S4096x1024 .f32) (w : FVec Ideal S1024x320 .f32) : Arr (padT (downT x w)) (down (ent x) (ent w)) := by
  intro i j
  have h := downT_arr x w
  revert h
  generalize downT x w = p
  intro h
  pointwise [padT]
  split_ifs with hj
  · exact h i ⟨j.val, hj⟩
  · refine (Finset.sum_eq_zero fun k _ => ?_).symm
    unfold ent
    rw [dif_neg (fun k : _ ∧ _ => hj k.2), mul_zero]

/-- The normed latent. -/
def normT (p : FVec Ideal S4096x320 .f32) (g : FVec Ideal S256 .f32) : FVec Ideal S4096x256 .f32 :=
  mulf (mulf (extractStridedSlice S4096x256 ![0, 0] p slices_S4096x320_S4096x256_0_0) (broadcastInDim S4096x256 ![0, 1] bcast_S4096x1_S4096x256_0_1
    (Host.rsqrt (addf (Host.divf (broadcastInDim S4096x1 ![0] bcast_S4096_S4096x1_0 (Host.reduceAdd (mulf (extractStridedSlice S4096x256 ![0, 0] p slices_S4096x320_S4096x256_0_0)
      (extractStridedSlice S4096x256 ![0, 0] p slices_S4096x320_S4096x256_0_0)) (constant S_ .f32 0x00000000#32) reducesTo_S4096x256_S4096_d1 h_S_))
      (broadcastInDim S4096x1 ![] bcast_S_S4096x1 (constant S_ .f32 0x43800000#32))) (broadcastInDim S4096x1 ![] bcast_S_S4096x1 (constant S_ .f32 0x358637BD#32))))))
    (broadcastInDim S4096x256 ![0, 1] bcast_S1x256_S4096x256_0_1 (broadcastInDim S1x256 ![1] bcast_S256_S1x256_1 g))

theorem normT_arr {p : FVec Ideal S4096x320 .f32} {f : ℕ → ℕ → EReal} (h : Arr p f) (g : FVec Ideal S256 .f32) : Arr (normT p g) (norm f (ent1 g)) := by
  intro i j
  pointwise [normT, h _ _]
  unfold norm
  rw [ent1_eq]

/-- The rotated key. -/
def keyT (p : FVec Ideal S4096x320 .f32) (c s : FVec Ideal S4096x32 .f32) : FVec Ideal S4096x128 .f32 :=
  concatenate S4096x128 1 [⟨S4096x64, concatenate S4096x64 1 [
    ⟨S4096x32, subf (mulf (extractStridedSlice S4096x32 ![0, 0] (extractStridedSlice S4096x64 ![0, 256] p slices_S4096x320_S4096x64_0_256) slices_S4096x64_S4096x32_0_0) c)
      (mulf (extractStridedSlice S4096x32 ![0, 32] (extractStridedSlice S4096x64 ![0, 256] p slices_S4096x320_S4096x64_0_256) slices_S4096x64_S4096x32_0_32) s)⟩,
    ⟨S4096x32, addf (mulf (extractStridedSlice S4096x32 ![0, 32] (extractStridedSlice S4096x64 ![0, 256] p slices_S4096x320_S4096x64_0_256) slices_S4096x64_S4096x32_0_32) c)
      (mulf (extractStridedSlice S4096x32 ![0, 0] (extractStridedSlice S4096x64 ![0, 256] p slices_S4096x320_S4096x64_0_256) slices_S4096x64_S4096x32_0_0) s)⟩] concatenates_S4096x32_S4096x32_S4096x64_d1⟩,
    ⟨S4096x64, broadcastInDim S4096x64 ![] bcast_S_S4096x64 (constant S_ .f32 0x00000000#32)⟩] concatenates_S4096x64_S4096x64_S4096x128_d1

theorem keyT_arr {p : FVec Ideal S4096x320 .f32} {f : ℕ → ℕ → EReal} (h : Arr p f) (c s : FVec Ideal S4096x32 .f32) :
    Arr (keyT p c s) (fun i l => rot (fun l => f i (256 + l)) (ent c) (ent s) i l) := by
  intro i j
  pointwise [keyT, h _ _]
  unfold rot
  by_cases h0 : j.val < 32
  · rw [dif_pos (show j.val < 64 by omega), dif_pos h0, if_pos h0, ← ent_eq c, ← ent_eq s, Nat.add_comm 32]
  · rw [if_neg h0]
    by_cases h1 : j.val < 64
    · have e : 32 + (j.val - 32) = j.val := by omega
      rw [dif_pos h1, dif_neg h0, if_pos h1, ← ent_eq c, ← ent_eq s, e]
    · rw [dif_neg h1, if_neg h1]

/-- The keys beside the values. -/
def upT (c : FVec Ideal S4096x256 .f32) (u v : FVec Ideal S256x16x128 .f32) : FVec Ideal S4096x4096 .f32 :=
  shapeCast S4096x4096 (concatenate S4096x16x256 2 [⟨S4096x16x128, Host.dotGeneral dot_S4096x256_S256x16x128_S4096x16x128_1_0_0_12_n_n none c u⟩,
    ⟨S4096x16x128, Host.dotGeneral dot_S4096x256_S256x16x128_S4096x16x128_1_0_0_12_n_n none c v⟩] concatenates_S4096x16x128_S4096x16x128_S4096x16x256_d2) shapeCasts_S4096x16x256_S4096x4096

theorem upT_arr {p : FVec Ideal S4096x256 .f32} {f : ℕ → ℕ → EReal} (h : Arr p f) (u v : FVec Ideal S256x16x128 .f32) :
    Arr (upT p u v) (up f (side (ent3 u) (ent3 v))) := by
  intro i j
  pointwise [upT, h _ _]
  unfold up side
  split_ifs with h0
  · exact Finset.sum_congr rfl fun k _ => congrArg _ (ent3_eq u k _ _).symm
  all_goals exact Finset.sum_congr rfl fun k _ => congrArg _ (ent3_eq v k _ _).symm

/-- Over the extended reals the call and reference.py's lines compute the same arrays. -/
theorem algebraic : Cert.algebraic_Kernel14Ideal_Reference14Ideal := by
  intro m ρ m' ρ' hpre hagree
  refine ⟨_, _, _, _, Cert.Kernel14Ideal.Value.run_blocks m ρ, ?_⟩
  refine (θ_run Cert.Reference14Ideal.defs _ _).mono (fun _ h c => ?_) (Cert.Reference14Ideal.Value.run m' ρ')
  obtain ⟨h0, h1, h2, h3, h4⟩ := h c
  obtain ⟨e0, e1, e2, e3, e4, e5, e6⟩ := hagree c
  have d := downT_arr (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))
  have n := normT_arr d (m ((c.tc : Thread Cert.Kernel14Ideal.nD Cert.Kernel14Ideal.τ).loc Cert.Kernel14Ideal.main_arg4))
  refine ⟨h0.trans ?_, h1.trans ?_, h2.trans ?_, h3.trans ?_, h4⟩
  · rw [array6 m c, e0, e1]
    exact funext fun y => (padT_arr (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).at y
  · rw [array7 m c, e0, e1, e4]
    exact funext fun y => n.at y
  · rw [array8 m c, e0, e1, e5, e6]
    exact funext fun y => (keyT_arr d (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6))).at y
  · rw [array9 m c, e0, e1, e2, e3, e4]
    exact funext fun y => (upT_arr n (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).at y

end Cert.KvMid

end
-- ==== Proof.Frames6.lean ====
/- The claims that the call of the first layer norm's gradient runs, leaves its arguments as they were and ends quiescent. -/
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Pre_finite15
public import Idealize.ShloMosaic.Lib.Quiescent

@[expose] public section

noncomputable section

namespace Cert.Proof.Frames

open Idealize.ShloMosaic Idealize.ShloMosaic.TcCoe Idealize.SL.Sem

theorem frame_p15 : Cert.quiescent_Kernel15 := fun m ρ _ => Cert.Kernel15.Gen.frame m ρ

theorem frame_pi15 : Cert.quiescent_Kernel15Ideal := fun m ρ _ => Cert.Kernel15Ideal.Gen.frame m ρ

theorem frame_pi15_finite : Cert.quiescent_Kernel15Ideal_pre_finite15 := fun m ρ _ => Cert.Kernel15Ideal.Gen.frame m ρ

theorem frame_ri15 : Cert.quiescent_Reference15Ideal := fun m ρ _ =>
  (θ_run Cert.Reference15Ideal.defs _ _).mono (fun r h => ⟨fun c => (h c).2.2.2.2.2,
      Idealize.ShloMosaic.sem_eq_zero_of_no_sems (by decide) r.2⟩)
    (Cert.Reference15Ideal.Value.run (F := Ideal) m ρ)

theorem frame_ri15_finite : Cert.quiescent_Reference15Ideal_pre_finite15 := fun m ρ _ => frame_ri15 m ρ trivial

end Cert.Proof.Frames

end
-- ==== Proof.LnReal.lean ====
/- A layer norm's row, over the extended reals: where all its entries are reals its deviations, its variance and its scale
   are reals; where one is not, its scale is 0. -/
module

public import proofs.«01_k».proof.Proof.HostAt

@[expose] public section

noncomputable section

namespace Cert.Ln

open Idealize.ShloMosaic
open Cert.Block (coe_sum)
open Cert.Host (div_real)

/-- The layer norm's ε. -/
def eps : ℝ := (Ideal.ofBits .f32 0x3727C5AC#32 : EReal).toReal

theorem ofBits_eps : (Ideal.ofBits .f32 0x3727C5AC#32 : EReal) = ((eps : ℝ) : EReal) := by
  unfold eps
  simp [Ideal.ofBits, Ideal.ieee, -EReal.coe_mul]

theorem eps_pos : 0 < eps := by
  unfold eps
  simp [Ideal.ofBits, Ideal.ieee, -EReal.coe_mul]

/-- The residual's factor. -/
def alpha : ℝ := (Ideal.ofBits .f32 0x3FB504F3#32 : EReal).toReal

theorem ofBits_alpha : (Ideal.ofBits .f32 0x3FB504F3#32 : EReal) = ((alpha : ℝ) : EReal) := by
  unfold alpha
  simp [Ideal.ofBits, Ideal.ieee, -EReal.coe_mul]

theorem ofBits_1024 : (Ideal.ofBits .f32 0x44800000#32 : EReal) = ((1024 : ℝ) : EReal) := by
  simp [Ideal.ofBits, Ideal.ieee, -EReal.coe_mul]; norm_num

theorem ofBits_two : (Ideal.ofBits .f32 0x40000000#32 : EReal) = ((2 : ℝ) : EReal) := by
  simp [Ideal.ofBits, Ideal.ieee, -EReal.coe_mul]; norm_num

theorem ofBits_half : (Ideal.ofBits .f32 0xBF000000#32 : EReal) = ((-(1 / 2) : ℝ) : EReal) := by
  simp [Ideal.ofBits, Ideal.ieee, -EReal.coe_mul]; norm_num

/-- The mean of a row. -/
def mean (x : Fin 1024 → EReal) : EReal := Ideal.div (∑ k, x k) ((1024 : ℝ) : EReal)

/-- A row's deviations from its mean. -/
def dev (x : Fin 1024 → EReal) (j : Fin 1024) : EReal := x j - mean x

/-- Its variance and ε. -/
def var (x : Fin 1024 → EReal) : EReal := mean (fun k => dev x k * dev x k) + ((eps : ℝ) : EReal)

/-- Its scale. -/
def scale (x : Fin 1024 → EReal) : EReal := Ideal.rsqrt (var x)

theorem mean_real (f : Fin 1024 → ℝ) : mean (fun k => ((f k : ℝ) : EReal)) = (((∑ k, f k) * (1024)⁻¹ : ℝ) : EReal) := by
  unfold mean
  rw [coe_sum, div_real (by norm_num)]

theorem mean_top : ∀ {s : EReal}, s = ⊤ ∨ s = ⊥ → Ideal.div s ((1024 : ℝ) : EReal) = s := by
  intro s h
  rw [Ideal.div_coe (by norm_num)]
  rcases h with rfl | rfl
  · exact EReal.top_mul_coe_of_pos (by norm_num)
  · exact EReal.bot_mul_coe_of_pos (by norm_num)

theorem sq_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

theorem dev_inf {x : Fin 1024 → EReal} {k : Fin 1024} (h : x k = ⊤ ∨ x k = ⊥) : dev x k = ⊤ ∨ dev x k = ⊥ := by
  unfold dev mean
  rw [← Finset.add_sum_erase Finset.univ x (Finset.mem_univ k)]
  rcases h with h | h
  · rw [h]
    rcases eq_or_ne (∑ j ∈ Finset.univ.erase k, x j) ⊥ with e | e
    · rw [e, EReal.add_bot, mean_top (Or.inr rfl)]
      exact Or.inl (by decide)
    · rw [EReal.top_add_of_ne_bot e, mean_top (Or.inl rfl)]
      exact Or.inr (by decide)
  · rw [h, EReal.bot_add, mean_top (Or.inr rfl)]
    exact Or.inr (by decide)

/-- A row with an infinite entry has an infinite variance. -/
theorem var_inf {x : Fin 1024 → EReal} {k : Fin 1024} (h : x k = ⊤ ∨ x k = ⊥) : var x = ⊤ := by
  have hs : (∑ j, dev x j * dev x j) = ⊤ := by
    have hk : dev x k * dev x k = ⊤ := by
      rcases dev_inf h with e | e <;> rw [e]
      · exact EReal.top_mul_top
      · exact EReal.bot_mul_bot
    rw [← Finset.add_sum_erase Finset.univ (fun j => dev x j * dev x j) (Finset.mem_univ k), hk]
    refine EReal.top_add_of_ne_bot (ne_of_gt (lt_of_lt_of_le EReal.bot_lt_zero ?_))
    exact Finset.sum_nonneg fun j _ => sq_nonneg _
  unfold var mean
  rw [hs, mean_top (Or.inl rfl), EReal.top_add_coe]

/-- What a row of reals gives. -/
structure RealRow (x : Fin 1024 → EReal) (c : Fin 1024 → ℝ) (v : ℝ) : Prop where
  dev : ∀ j, dev x j = ((c j : ℝ) : EReal)
  var : var x = ((v : ℝ) : EReal)
  pos : 0 < v
  sum : ∑ j, c j = 0

/-- A row is one of reals, or its variance is infinite. -/
theorem row (x : Fin 1024 → EReal) : (∃ c v, RealRow x c v) ∨ var x = ⊤ := by
  by_cases h : ∃ k, x k = ⊤ ∨ x k = ⊥
  · obtain ⟨k, h⟩ := h
    exact Or.inr (var_inf h)
  · have hx : ∀ k, x k = (((x k).toReal : ℝ) : EReal) := fun k =>
      (EReal.coe_toReal (fun e => h ⟨k, Or.inl e⟩) fun e => h ⟨k, Or.inr e⟩).symm
    obtain ⟨f, rfl⟩ : ∃ f : Fin 1024 → ℝ, x = fun k => ((f k : ℝ) : EReal) := ⟨fun k => (x k).toReal, funext hx⟩
    have hd : ∀ j, dev (fun k => ((f k : ℝ) : EReal)) j = ((f j - (∑ k, f k) * (1024)⁻¹ : ℝ) : EReal) := fun j => by
      unfold dev
      rw [mean_real, EReal.coe_sub]
    refine Or.inl ⟨fun j => f j - (∑ k, f k) * (1024)⁻¹, (∑ j, (f j - (∑ k, f k) * (1024)⁻¹) * (f j - (∑ k, f k) * (1024)⁻¹)) * (1024)⁻¹ + eps, hd, ?_, ?_, ?_⟩
    · unfold var
      simp only [hd, ← EReal.coe_mul]
      rw [mean_real, EReal.coe_add]
    · exact add_pos_of_nonneg_of_pos (mul_nonneg (Finset.sum_nonneg fun j _ => mul_self_nonneg _) (by norm_num)) eps_pos
    · rw [Finset.sum_sub_distrib, Finset.sum_const, Finset.card_univ, Fintype.card_fin, nsmul_eq_mul]
      push_cast
      ring

theorem RealRow.scale {x : Fin 1024 → EReal} {c : Fin 1024 → ℝ} {v : ℝ} (h : RealRow x c v) : scale x = (((Real.sqrt v)⁻¹ : ℝ) : EReal) := by
  unfold Ln.scale
  rw [h.var, Ideal.rsqrt_coe, if_neg (not_lt.2 h.pos.le), if_neg h.pos.ne']

theorem scale_top {x : Fin 1024 → EReal} (h : var x = ⊤) : scale x = 0 := by
  unfold scale
  rw [h, Ideal.rsqrt_top]

/-- The scale's number. -/
def sc (x : Fin 1024 → EReal) : ℝ := (scale x).toReal

/-- The normed row's numbers. -/
def nrm (x : Fin 1024 → EReal) (j : Fin 1024) : ℝ := (dev x j * scale x).toReal

theorem scale_real (x : Fin 1024 → EReal) : scale x = ((sc x : ℝ) : EReal) := by
  unfold sc
  rcases row x with ⟨c, v, h⟩ | h
  · rw [h.scale, EReal.toReal_coe]
  · rw [scale_top h, EReal.toReal_zero, EReal.coe_zero]

theorem nrm_real (x : Fin 1024 → EReal) (j : Fin 1024) : dev x j * scale x = ((nrm x j : ℝ) : EReal) := by
  unfold nrm
  rcases row x with ⟨c, v, h⟩ | h
  · rw [h.scale, h.dev, ← EReal.coe_mul, EReal.toReal_coe]
  · rw [scale_top h, mul_zero, EReal.toReal_zero, EReal.coe_zero]

/-- The kernel's form of a row's gradient. -/
def grad (x : Fin 1024 → EReal) (d : Fin 1024 → ℝ) (j : Fin 1024) : ℝ :=
  sc x * (d j - (∑ k, d k) * (1024)⁻¹ - nrm x j * ((∑ k, d k * nrm x k) * (1024)⁻¹))

/-- The variance's share of the reference's gradient. -/
def share (x : Fin 1024 → EReal) (d : Fin 1024 → ℝ) : EReal :=
  Ideal.div ((∑ k, dev x k * ((d k : ℝ) : EReal)) * (((-(1 / 2) : ℝ) : EReal) * Ideal.div (scale x) (var x))) ((1024 : ℝ) : EReal)

/-- The reference's form is the kernel's. -/
theorem grad_eq (x : Fin 1024 → EReal) (d : Fin 1024 → ℝ) (j : Fin 1024) :
    ((d j : ℝ) : EReal) * scale x + share x d * (((2 : ℝ) : EReal) * dev x j)
        + Ideal.div ((∑ k, -(((d k : ℝ) : EReal) * scale x)) + ∑ k, -(share x d * (((2 : ℝ) : EReal) * dev x k))) ((1024 : ℝ) : EReal)
      = ((grad x d j : ℝ) : EReal) := by
  rcases row x with ⟨c, v, h⟩ | h
  · have hs : sc x = (Real.sqrt v)⁻¹ := by unfold sc; rw [h.scale, EReal.toReal_coe]
    have hn : ∀ k, nrm x k = c k * (Real.sqrt v)⁻¹ := fun k => by unfold nrm; rw [h.scale, h.dev, ← EReal.coe_mul, EReal.toReal_coe]
    have hv : v⁻¹ = (Real.sqrt v)⁻¹ * (Real.sqrt v)⁻¹ := by rw [← mul_inv, Real.mul_self_sqrt h.pos.le]
    have he : share x d = (((∑ k, c k * d k) * (-(1 / 2) * ((Real.sqrt v)⁻¹ * v⁻¹)) * (1024)⁻¹ : ℝ) : EReal) := by
      unfold share
      simp only [h.scale, h.var, h.dev, ← EReal.coe_mul, coe_sum]
      rw [div_real h.pos.ne', ← EReal.coe_mul, ← EReal.coe_mul, div_real (by norm_num)]
    rw [he]
    simp only [h.scale, h.dev, ← EReal.coe_mul, ← EReal.coe_neg, coe_sum, ← EReal.coe_add]
    rw [div_real (by norm_num), ← EReal.coe_add]
    refine congrArg _ ?_
    unfold grad
    simp only [hs, hn, Finset.sum_neg_distrib, ← Finset.mul_sum, ← Finset.sum_mul, h.sum, ← mul_assoc]
    rw [hv, Finset.sum_congr rfl fun k _ => mul_comm (c k) (d k)]
    ring
  · have hs : sc x = 0 := by unfold sc; rw [scale_top h, EReal.toReal_zero]
    have he : share x d = 0 := by
      unfold share
      rw [scale_top h, h]
      simp [Ideal.div]
    unfold grad
    rw [he, scale_top h, hs]
    simp [Ideal.div]

end Cert.Ln

end
-- ==== Proof.LnRef.lean ====
/- The layer norm's gradient: the entries of the reference's arrays. -/
module

public import proofs.«01_k».proof.Proof.LnReal
public import proofs.«01_k».proof.Proof.Entries
public import proofs.«01_k».proof.Proof.Finite
public import proofs.«01_k».proof.Proof.Gen.Reference15Ideal.Run
public import proofs.«01_k».proof.Proof.Gen.Pre_finite15
public import Idealize.ShloMosaic.Lib.Pointwise
public import Idealize.ShloMosaic.Lib.StableHlo.ReadAt

@[expose] public section

set_option maxRecDepth 16384

noncomputable section

namespace Cert.Ln

open Idealize.ShloMosaic Idealize.ShloMosaic.TcCoe Cert.Hold
open Cert.Block (coe_sum)

/-- The arguments that hold reals. -/
structure Data where
  g : ℕ → ℝ
  w : ℕ → ℕ → ℝ
  wd : ℕ → ℕ → ℝ
  a : ℕ → ℕ → ℝ
  pb : ℕ → ℕ → ℝ
  pd : ℕ → ℕ → ℝ

/-- The gradient that reaches the layer norm's result. -/
def Data.dh (x : Data) (i j : ℕ) : ℝ :=
  alpha * x.a i j + (∑ k ∈ Finset.range 2560, x.pb i k * x.w j k) + ∑ k ∈ Finset.range 320, x.pd i k * x.wd j k

/-- That which reaches the normed rows. -/
def Data.dx (x : Data) (i j : ℕ) : ℝ := x.dh i j * x.g j

/-- The row that is normed. -/
def line (y : ℕ → ℕ → EReal) (b : ℕ → EReal) (i : ℕ) (k : Fin 1024) : EReal := y i k.val + b k.val

/-- A row's gradient. -/
def Data.dr (x : Data) (R : ℕ → Fin 1024 → EReal) (i j : ℕ) : ℝ := if h : j < 1024 then grad (R i) (fun k => x.dx i k.val) ⟨j, h⟩ else 0

/-- A normed row. -/
def norm (R : ℕ → Fin 1024 → EReal) (i j : ℕ) : ℝ := if h : j < 1024 then nrm (R i) ⟨j, h⟩ else 0

theorem Data.dr_eq (x : Data) (R : ℕ → Fin 1024 → EReal) (i : ℕ) (j : Fin 1024) : x.dr R i j.val = grad (R i) (fun k => x.dx i k.val) j := dif_pos j.2

theorem norm_eq (R : ℕ → Fin 1024 → EReal) (i : ℕ) (j : Fin 1024) : norm R i j.val = nrm (R i) j := dif_pos j.2

open Cert.Reference15Ideal Cert.Reference15Ideal.Gen

/-- The six arrays that hold reals. -/
structure Args where
  g : FVec Ideal S1024 .f32
  w : FVec Ideal S1024x2560 .f32
  wd : FVec Ideal S1024x320 .f32
  a : FVec Ideal S4096x1024 .f32
  pb : FVec Ideal S4096x2560 .f32
  pd : FVec Ideal S4096x320 .f32

structure Holds (A : Args) (x : Data) : Prop where
  g : ∀ j : Fin 1024, A.g (ix1 j) = ((x.g j.val : ℝ) : EReal)
  w : Arr (n := 1024) (m := 2560) A.w (fun i j => ((x.w i j : ℝ) : EReal))
  wd : Arr (n := 1024) (m := 320) A.wd (fun i j => ((x.wd i j : ℝ) : EReal))
  a : Arr (n := 4096) (m := 1024) A.a (fun i j => ((x.a i j : ℝ) : EReal))
  pb : Arr (n := 4096) (m := 2560) A.pb (fun i j => ((x.pb i j : ℝ) : EReal))
  pd : Arr (n := 4096) (m := 320) A.pd (fun i j => ((x.pd i j : ℝ) : EReal))

/-- The numbers in an array of one axis. -/
def num1 {n : ℕ} (x : FVec Ideal ⟨1, ![n]⟩ .f32) (i : ℕ) : ℝ := if p : i < n then (x (ix1 ⟨i, p⟩) : EReal).toReal else 0

def dataOf (a : Args) : Data where
  g := num1 a.g
  w := Cert.Finite.num2 a.w
  wd := Cert.Finite.num2 a.wd
  a := Cert.Finite.num2 a.a
  pb := Cert.Finite.num2 a.pb
  pd := Cert.Finite.num2 a.pd

/-- Where the precondition holds, they hold reals. -/
theorem holds (a : Args) (y : FVec Ideal S4096x1024 .f32) (bo b : FVec Ideal S1024 .f32)
    (e : Cert.Pre_finite15.fn (F := Ideal) y bo a.g b a.w a.wd a.a a.pb a.pd = fun _ => 1#1) : Holds a (dataOf a) := by
  obtain ⟨e, e5⟩ := Cert.Finite.both (congrFun e ix0)
  obtain ⟨e, e4⟩ := Cert.Finite.both e
  obtain ⟨e, e3⟩ := Cert.Finite.both e
  obtain ⟨e, e2⟩ := Cert.Finite.both e
  obtain ⟨e0, e1⟩ := Cert.Finite.both e
  refine ⟨fun j => ?_, Cert.Finite.num2_at (Cert.Finite.all_real _ _ _ _ _ e1), Cert.Finite.num2_at (Cert.Finite.all_real _ _ _ _ _ e2), Cert.Finite.num2_at (Cert.Finite.all_real _ _ _ _ _ e3),
    Cert.Finite.num2_at (Cert.Finite.all_real _ _ _ _ _ e4), Cert.Finite.num2_at (Cert.Finite.all_real _ _ _ _ _ e5)⟩
  show a.g (ix1 j) = ((num1 a.g j.val : ℝ) : EReal)
  unfold num1
  rw [dif_pos j.2]
  exact Cert.Finite.all_real _ _ _ _ _ e0 _

abbrev zero : FVec Ideal S_ .f32 := constant S_ .f32 0x00000000#32

/-- A row of 1024 numbers, over all rows. -/
def tallT (b : FVec Ideal S1024 .f32) : FVec Ideal S4096x1024 .f32 :=
  broadcastInDim S4096x1024 ![0, 1] bcast_S1x1024_S4096x1024_0_1 (broadcastInDim S1x1024 ![1] bcast_S1024_S1x1024_1 b)

/-- The rows' sums. -/
def sumT (x : FVec Ideal S4096x1024 .f32) : FVec Ideal S4096 .f32 := Host.reduceAdd x zero reducesTo_S4096x1024_S4096_d1 h_S_

def kiloT : FVec Ideal S4096x1 .f32 := broadcastInDim S4096x1 ![] bcast_S_S4096x1 (constant S_ .f32 0x44800000#32)

def meanT (x : FVec Ideal S4096x1024 .f32) : FVec Ideal S4096x1 .f32 := Host.divf (broadcastInDim S4096x1 ![0] bcast_S4096_S4096x1_0 (sumT x)) kiloT

/-- A number per row, over its columns. -/
def flatT (s : FVec Ideal S4096x1 .f32) : FVec Ideal S4096x1024 .f32 := broadcastInDim S4096x1024 ![0, 1] bcast_S4096x1_S4096x1024_0_1 s

def devT (x : FVec Ideal S4096x1024 .f32) : FVec Ideal S4096x1024 .f32 := subf x (flatT (meanT x))

def varT (x : FVec Ideal S4096x1024 .f32) : FVec Ideal S4096x1 .f32 :=
  addf (meanT (mulf (devT x) (devT x))) (broadcastInDim S4096x1 ![] bcast_S_S4096x1 (constant S_ .f32 0x3727C5AC#32))

def scaleT (x : FVec Ideal S4096x1024 .f32) : FVec Ideal S4096x1 .f32 := Host.rsqrt (varT x)

def normT (x : FVec Ideal S4096x1024 .f32) : FVec Ideal S4096x1024 .f32 := mulf (devT x) (flatT (scaleT x))

def dhT (a : Args) : FVec Ideal S4096x1024 .f32 :=
  addf (addf (Host.dotGeneral dot_S4096x320_S1024x320_S4096x1024_1_1_0_0_n_n none a.pd a.wd) (Host.dotGeneral dot_S4096x2560_S1024x2560_S4096x1024_1_1_0_0_n_n none a.pb a.w))
    (mulf (broadcastInDim S4096x1024 ![] bcast_S_S4096x1024 (constant S_ .f32 0x3FB504F3#32)) a.a)

def shareT (x d : FVec Ideal S4096x1024 .f32) : FVec Ideal S4096 .f32 :=
  Host.reduceAdd (Host.divf (mulf (shapeCast S4096x1 (sumT (mulf (devT x) d)) shapeCasts_S4096_S4096x1)
    (mulf (broadcastInDim S4096x1 ![] bcast_S_S4096x1 (constant S_ .f32 0xBF000000#32)) (Host.divf (scaleT x) (varT x)))) kiloT) zero reducesTo_S4096x1_S4096_d1 h_S_

def spreadT (x d : FVec Ideal S4096x1024 .f32) : FVec Ideal S4096x1024 .f32 :=
  mulf (broadcastInDim S4096x1024 ![0] bcast_S4096_S4096x1024_0 (shareT x d)) (mulf (broadcastInDim S4096x1024 ![] bcast_S_S4096x1024 (constant S_ .f32 0x40000000#32)) (devT x))

def drT (x d : FVec Ideal S4096x1024 .f32) : FVec Ideal S4096x1024 .f32 :=
  addf (addf (mulf d (flatT (scaleT x))) (spreadT x d))
    (broadcastInDim S4096x1024 ![0] bcast_S4096_S4096x1024_0 (Host.reduceAdd (Host.divf (addf (shapeCast S4096x1 (sumT (Host.negf (mulf d (flatT (scaleT x))))) shapeCasts_S4096_S4096x1)
      (shapeCast S4096x1 (sumT (Host.negf (spreadT x d))) shapeCasts_S4096_S4096x1)) kiloT) zero reducesTo_S4096x1_S4096_d1 h_S_))

/-- The columns' sums. -/
def colT (x : FVec Ideal S4096x1024 .f32) : FVec Ideal S1x1024 .f32 :=
  shapeCast S1x1024 (Host.reduceAdd (shapeCast S1x1024 (Host.reduceAdd x zero reducesTo_S4096x1024_S1024_d0 h_S_) shapeCasts_S1024_S1x1024) zero reducesTo_S1x1024_S1024_d0 h_S_) shapeCasts_S1024_S1x1024

theorem sumT_at {x : FVec Ideal S4096x1024 .f32} {f : ℕ → ℕ → EReal} (h : Arr x f) (i : Fin 4096) : sumT x (ix1 i) = ∑ k : Fin 1024, f i.val k.val := by
  unfold sumT
  pointwise
  exact Finset.sum_congr rfl fun k _ => h i k

theorem colT_at {x : FVec Ideal S4096x1024 .f32} {f : ℕ → ℕ → EReal} (h : Arr x f) : Arr (n := 1) (m := 1024) (colT x) (fun _ j => ∑ i ∈ Finset.range 4096, f i j) := fun i j => by
  unfold colT
  pointwise
  rw [Fin.sum_univ_one, Finset.sum_range]
  exact Finset.sum_congr rfl fun k _ => h k j

theorem meanT_at {x : FVec Ideal S4096x1024 .f32} {f : ℕ → ℕ → EReal} (h : Arr x f) (i : Fin 4096) : meanT x (ix2 i 0) = mean (fun k => f i.val k.val) := by
  unfold meanT kiloT mean
  pointwise
  rw [sumT_at h, ofBits_1024]

theorem tallT_at (b : FVec Ideal S1024 .f32) (i : Fin 4096) (j : Fin 1024) : tallT b (ix2 i j) = b (ix1 j) := by
  unfold tallT
  pointwise

theorem flatT_at (s : FVec Ideal S4096x1 .f32) (i : Fin 4096) (j : Fin 1024) : flatT s (ix2 i j) = s (ix2 i 0) := by
  unfold flatT
  pointwise

section
variable {x : FVec Ideal S4096x1024 .f32} {R : ℕ → Fin 1024 → EReal} (hx : ∀ (i : Fin 4096) (j : Fin 1024), x (ix2 i j) = R i.val j)
include hx

theorem devT_at (i : Fin 4096) (j : Fin 1024) : devT x (ix2 i j) = dev (R i.val) j := by
  have hm : meanT x (ix2 i 0) = mean (R i.val) := (meanT_at (arr_ent (n := 4096) (m := 1024) x) i).trans
    (congrArg mean (funext fun k => (ent_eq (n := 4096) (m := 1024) x i k).trans (hx i k)))
  unfold devT dev
  pointwise
  rw [hx, flatT_at, hm]

theorem varT_at (i : Fin 4096) : varT x (ix2 i 0) = var (R i.val) := by
  have hm : meanT (mulf (devT x) (devT x)) (ix2 i 0) = mean (fun k => dev (R i.val) k * dev (R i.val) k) :=
    (meanT_at (arr_ent (n := 4096) (m := 1024) (mulf (devT x) (devT x))) i).trans
      (congrArg mean (funext fun k => (ent_eq (n := 4096) (m := 1024) (mulf (devT x) (devT x)) i k).trans (by
        pointwise
        rw [devT_at hx])))
  unfold varT var
  pointwise
  rw [hm, ofBits_eps]

theorem scaleT_at (i : Fin 4096) : scaleT x (ix2 i 0) = scale (R i.val) := by
  unfold scaleT scale
  pointwise
  rw [varT_at hx]

theorem normT_at : Arr (n := 4096) (m := 1024) (normT x) (fun i j => ((norm R i j : ℝ) : EReal)) := fun i j => by
  unfold normT
  pointwise
  rw [devT_at hx, flatT_at, scaleT_at hx, nrm_real, norm_eq]

variable {d : FVec Ideal S4096x1024 .f32} {X : Data} (hd : Arr (n := 4096) (m := 1024) d (fun i j => ((X.dx i j : ℝ) : EReal)))
include hd

theorem shareT_at (i : Fin 4096) : shareT x d (ix1 i) = share (R i.val) (fun k => X.dx i.val k.val) := by
  have hs : sumT (mulf (devT x) d) (ix1 i) = ∑ k, dev (R i.val) k * ((X.dx i.val k.val : ℝ) : EReal) :=
    (sumT_at (arr_ent (n := 4096) (m := 1024) (mulf (devT x) d)) i).trans (Finset.sum_congr rfl fun k _ => (ent_eq (n := 4096) (m := 1024) (mulf (devT x) d) i k).trans (by
      pointwise
      rw [devT_at hx, hd]))
  unfold shareT kiloT share
  pointwise
  rw [Fin.sum_univ_one, hs, scaleT_at hx, varT_at hx, ofBits_1024, ofBits_half]

theorem spreadT_at (i : Fin 4096) (j : Fin 1024) : spreadT x d (ix2 i j) = share (R i.val) (fun k => X.dx i.val k.val) * (((2 : ℝ) : EReal) * dev (R i.val) j) := by
  unfold spreadT
  pointwise
  rw [shareT_at hx hd, devT_at hx, ofBits_two]

theorem drT_at : Arr (n := 4096) (m := 1024) (drT x d) (fun i j => ((X.dr R i j : ℝ) : EReal)) := fun i j => by
  have h1 : sumT (Host.negf (mulf d (flatT (scaleT x)))) (ix1 i) = ∑ k : Fin 1024, -(((X.dx i.val k.val : ℝ) : EReal) * scale (R i.val)) :=
    (sumT_at (arr_ent (n := 4096) (m := 1024) (Host.negf (mulf d (flatT (scaleT x))))) i).trans (Finset.sum_congr rfl fun k _ => (ent_eq (n := 4096) (m := 1024) (Host.negf (mulf d (flatT (scaleT x)))) i k).trans (by
      pointwise
      rw [flatT_at, scaleT_at hx, hd]))
  have h2 : sumT (Host.negf (spreadT x d)) (ix1 i) = ∑ k, -(share (R i.val) (fun k => X.dx i.val k.val) * (((2 : ℝ) : EReal) * dev (R i.val) k)) :=
    (sumT_at (arr_ent (n := 4096) (m := 1024) (Host.negf (spreadT x d))) i).trans (Finset.sum_congr rfl fun k _ => (ent_eq (n := 4096) (m := 1024) (Host.negf (spreadT x d)) i k).trans (by
      pointwise
      rw [spreadT_at hx hd]))
  beta_reduce
  rw [X.dr_eq, ← grad_eq]
  unfold drT kiloT
  pointwise
  rw [Fin.sum_univ_one, h1, h2, flatT_at, scaleT_at hx, hd, spreadT_at hx hd, ofBits_1024]

end

theorem dhT_at {a : Args} {x : Data} (H : Holds a x) : Arr (n := 4096) (m := 1024) (dhT a) (fun i j => ((x.dh i j : ℝ) : EReal)) := fun i j => by
  unfold dhT Data.dh
  pointwise
  simp only [H.pb i, H.pd i, H.w j, H.wd j, H.a i j, ofBits_alpha, ← EReal.coe_mul, coe_sum, ← EReal.coe_add]
  rw [Finset.sum_range, Finset.sum_range]
  refine congrArg _ ?_
  ring

theorem dxT_at {a : Args} {x : Data} (H : Holds a x) : Arr (n := 4096) (m := 1024) (mulf (dhT a) (tallT a.g)) (fun i j => ((x.dx i j : ℝ) : EReal)) := fun i j => by
  unfold Data.dx
  pointwise
  rw [dhT_at H, tallT_at, H.g, EReal.coe_mul]

theorem lineT_at (y : FVec Ideal S4096x1024 .f32) (b : FVec Ideal S1024 .f32) (i : Fin 4096) (j : Fin 1024) :
    addf y (tallT b) (ix2 i j) = line (ent (n := 4096) (m := 1024) y) (ent1 (n := 1024) b) i.val j := by
  unfold line
  pointwise
  rw [tallT_at, ent_eq, ent1_eq]

section
open Cert.Reference15Ideal.Value
variable (m : (ℓ : Loc nD τ sig) → Buf (Elt Ideal) ℓ) (c : Dev nD)

def argsR : Args :=
  ⟨m ((c.tc : Thread nD τ).loc main_arg2), m ((c.tc : Thread nD τ).loc main_arg4), m ((c.tc : Thread nD τ).loc main_arg5), m ((c.tc : Thread nD τ).loc main_arg6),
    m ((c.tc : Thread nD τ).loc main_arg7), m ((c.tc : Thread nD τ).loc main_arg8)⟩

theorem res0 : res_main_v74 m c = drT (addf (m ((c.tc : Thread nD τ).loc main_arg0)) (tallT (m ((c.tc : Thread nD τ).loc main_arg1)))) (mulf (dhT (argsR m c)) (tallT (argsR m c).g)) := rfl

theorem res4 : res_main_v81 m c = colT (drT (addf (m ((c.tc : Thread nD τ).loc main_arg0)) (tallT (m ((c.tc : Thread nD τ).loc main_arg1)))) (mulf (dhT (argsR m c)) (tallT (argsR m c).g))) := rfl

end

/-- The columns' sums of an array of reals. -/
theorem col_real {x : FVec Ideal S4096x1024 .f32} {f : ℕ → ℕ → ℝ} (h : Arr (n := 4096) (m := 1024) x (fun i j => ((f i j : ℝ) : EReal))) :
    Arr (n := 1) (m := 1024) (colT x) (fun _ j => ((∑ i ∈ Finset.range 4096, f i j : ℝ) : EReal)) :=
  (colT_at h).congr fun i j _ _ => by
    rw [Finset.sum_range, Finset.sum_range]
    exact coe_sum _ _

theorem gain_at {x : FVec Ideal S4096x1024 .f32} {R : ℕ → Fin 1024 → EReal} (hx : ∀ (i : Fin 4096) (j : Fin 1024), x (ix2 i j) = R i.val j) {a : Args} {X : Data} (H : Holds a X) :
    Arr (n := 4096) (m := 1024) (mulf (normT x) (dhT a)) (fun i j => ((X.dh i j * norm R i j : ℝ) : EReal)) := fun i j => by
  pointwise
  rw [normT_at hx i j, dhT_at H i j, mul_comm, EReal.coe_mul]

theorem refs {x : FVec Ideal S4096x1024 .f32} {R : ℕ → Fin 1024 → EReal} (hx : ∀ (i : Fin 4096) (j : Fin 1024), x (ix2 i j) = R i.val j) {a : Args} {X : Data} (H : Holds a X) :
    Arr (n := 1) (m := 1024) (colT (mulf (normT x) (dhT a))) (fun _ j => ((∑ i ∈ Finset.range 4096, X.dh i j * norm R i j : ℝ) : EReal)) ∧
    Arr (n := 1) (m := 1024) (colT (dhT a)) (fun _ j => ((∑ i ∈ Finset.range 4096, X.dh i j : ℝ) : EReal)) ∧
    Arr (n := 1) (m := 1024) (colT (drT x (mulf (dhT a) (tallT a.g)))) (fun _ j => ((∑ i ∈ Finset.range 4096, X.dr R i j : ℝ) : EReal)) :=
  ⟨col_real (gain_at hx H), col_real (dhT_at H), col_real (drT_at hx (dxT_at H))⟩

end Cert.Ln

end
-- ==== Proof.LnBlock.lean ====
/- The layer norm's gradient: what one grid point of the call computes from its blocks. -/
module

public import proofs.«01_k».proof.Proof.LnRef
public import proofs.«01_k».proof.Proof.Gen.Kernel15Ideal.Frame

@[expose] public section

set_option maxRecDepth 16384

noncomputable section

namespace Cert.Ln

open Idealize.ShloMosaic Idealize.ShloMosaic.TcCoe Cert.Hold Cert.Kernel15Ideal Cert.Kernel15Ideal.Gen
open Cert.Block (coe_sum)
open Cert.Host (div_real)

/-- 320 numbers with zeros behind them. -/
def pad (f : ℕ → ℝ) (k : ℕ) : ℝ := if k < 320 then f k else 0

theorem pad_sum (f g : ℕ → ℝ) : ∑ k ∈ Finset.range 384, pad f k * pad g k = ∑ k ∈ Finset.range 320, f k * g k := by
  rw [show (384 : ℕ) = 320 + 64 from rfl, Finset.sum_range_add]
  have h1 : ∑ k ∈ Finset.range 320, pad f k * pad g k = ∑ k ∈ Finset.range 320, f k * g k :=
    Finset.sum_congr rfl fun k hk => by
      unfold pad
      rw [if_pos (Finset.mem_range.mp hk), if_pos (Finset.mem_range.mp hk)]
  have h2 : ∑ k ∈ Finset.range 64, pad f (320 + k) * pad g (320 + k) = 0 :=
    Finset.sum_eq_zero fun k _ => by
      unfold pad
      rw [if_neg (by omega), zero_mul]
  rw [h1, h2, add_zero]

/-- The blocks of point `t`. -/
structure Blocks (x : Data) (R : ℕ → Fin 1024 → EReal) (t : ℕ) (v0 : Vec Ideal S256x1024 .f32) (v3 : Vec Ideal S256x2560 .bf16) (v5 : Vec Ideal S1024x2560 .bf16)
    (v9 : Vec Ideal S256x384 .bf16) (v11 : Vec Ideal S1024x384 .bf16) (v15 : Vec Ideal S256x1024 .f32) (v37 : Vec Ideal S256x1 .f32) (v33 : Vec Ideal S1x1024 .f32) : Prop where
  a : Arr (n := 256) (m := 1024) v0 (fun i j => ((x.a (t * 256 + i) j : ℝ) : EReal))
  pb : Arr (n := 256) (m := 2560) v3 (fun i j => ((x.pb (t * 256 + i) j : ℝ) : EReal))
  w : Arr (n := 1024) (m := 2560) v5 (fun i j => ((x.w i j : ℝ) : EReal))
  pd : Arr (n := 256) (m := 384) v9 (fun i j => ((pad (x.pd (t * 256 + i)) j : ℝ) : EReal))
  wd : Arr (n := 1024) (m := 384) v11 (fun i j => ((pad (x.wd i) j : ℝ) : EReal))
  xh : Arr (n := 256) (m := 1024) v15 (fun i j => ((norm R (t * 256 + i) j : ℝ) : EReal))
  sc : Arr (n := 256) (m := 1) v37 (fun i _ => ((sc (R (t * 256 + i)) : ℝ) : EReal))
  g : Arr (n := 1) (m := 1024) v33 (fun _ j => ((x.g j : ℝ) : EReal))

section
variable {x : Data} {R : ℕ → Fin 1024 → EReal} {t : ℕ} {v0 : Vec Ideal S256x1024 .f32} {v3 : Vec Ideal S256x2560 .bf16} {v5 : Vec Ideal S1024x2560 .bf16}
  {v9 : Vec Ideal S256x384 .bf16} {v11 : Vec Ideal S1024x384 .bf16} {v15 : Vec Ideal S256x1024 .f32} {v37 : Vec Ideal S256x1 .f32} {v33 : Vec Ideal S1x1024 .f32}
  (h : Blocks x R t v0 v3 v5 v9 v11 v15 v37 v33)
include h

theorem pay4_arr : Arr (n := 256) (m := 1024) (k0_pay4 v0 v3 v5 v9 v11) (fun i j => ((x.dh (t * 256 + i) j : ℝ) : EReal)) := fun i j => by
  unfold k0_pay4 Data.dh
  pointwise
  simp only [h.pb i, h.pd i, h.w j, h.wd j, h.a i j, ofBits_alpha, ← EReal.coe_mul, coe_sum, ← EReal.coe_add]
  rw [← pad_sum, Finset.sum_range, Finset.sum_range]

theorem pay5_arr : Arr (n := 256) (m := 1024) (k0_pay5 v15) (fun i j => ((norm R (t * 256 + i) j : ℝ) : EReal)) := fun i j => by
  unfold k0_pay5
  pointwise
  exact h.xh i j

theorem pay1_arr : Arr (n := 256) (m := 1024) (k0_pay1 (k0_pay4 v0 v3 v5 v9 v11) (k0_pay5 v15) v33 v37) (fun i j => ((x.dr R (t * 256 + i) j : ℝ) : EReal)) := fun i j => by
  have h4 := pay4_arr h
  have h5 := pay5_arr h
  generalize k0_pay4 v0 v3 v5 v9 v11 = d at h4 ⊢
  generalize k0_pay5 v15 = n at h5 ⊢
  beta_reduce
  rw [x.dr_eq]
  unfold k0_pay1 grad Data.dx
  pointwise
  simp only [h4 i, h5 i, h.sc i, h.g 0, ofBits_1024, div_real (show (1024 : ℝ) ≠ 0 by norm_num), norm_eq, ← EReal.coe_mul, coe_sum, ← EReal.coe_sub]

theorem pay2_arr : Arr (n := 256) (m := 1024) (k0_pay2 (k0_pay4 v0 v3 v5 v9 v11) (k0_pay5 v15) v33 v37) (fun i j => ((x.dr R (t * 256 + i) j : ℝ) : EReal)) := pay1_arr h

variable {acc : Vec Ideal S1x1024 .f32} {f : ℕ → ℝ} (ha : Arr (n := 1) (m := 1024) acc (fun _ j => ((f j : ℝ) : EReal)))
include ha

theorem pay3_arr : Arr (n := 1) (m := 1024) (k0_pay3 (k0_pay4 v0 v3 v5 v9 v11) (k0_pay5 v15) v33 v37 acc) (fun _ j => ((f j + ∑ i ∈ Finset.range 256, x.dr R (t * 256 + i) j : ℝ) : EReal)) := fun i j => by
  have h1 := pay1_arr h
  unfold k0_pay3
  generalize k0_pay1 (k0_pay4 v0 v3 v5 v9 v11) (k0_pay5 v15) v33 v37 = d at h1 ⊢
  pointwise
  simp only [h1 _ j, ha _ j, coe_sum, ← EReal.coe_add]
  rw [Finset.sum_range]

theorem pay9_arr : Arr (n := 1) (m := 1024) (k0_pay9 v0 v3 v5 v9 v11 v15 acc) (fun _ j => ((f j + ∑ i ∈ Finset.range 256, x.dh (t * 256 + i) j * norm R (t * 256 + i) j : ℝ) : EReal)) := fun i j => by
  have h4 := pay4_arr h
  have h5 := pay5_arr h
  unfold k0_pay9
  generalize k0_pay4 v0 v3 v5 v9 v11 = d at h4 ⊢
  generalize k0_pay5 v15 = n at h5 ⊢
  pointwise
  simp only [h4 _ j, h5 _ j, ha _ j, ← EReal.coe_mul, coe_sum, ← EReal.coe_add]
  rw [Finset.sum_range]

theorem pay10_arr : Arr (n := 1) (m := 1024) (k0_pay10 v0 v3 v5 v9 v11 acc) (fun _ j => ((f j + ∑ i ∈ Finset.range 256, x.dh (t * 256 + i) j : ℝ) : EReal)) := fun i j => by
  have h4 := pay4_arr h
  unfold k0_pay10
  generalize k0_pay4 v0 v3 v5 v9 v11 = d at h4 ⊢
  pointwise
  simp only [h4 _ j, ha _ j, coe_sum, ← EReal.coe_add]
  rw [Finset.sum_range]

end

theorem zero_arr : Arr (n := 1) (m := 1024) (k0_pay6 (F := Ideal)) (fun _ j => ((((0 : ℝ)) : ℝ) : EReal)) := fun i j => by
  unfold k0_pay6
  pointwise
  exact EReal.coe_zero.symm

end Cert.Ln

end
-- ==== Proof.LnRun.lean ====
/- The layer norm's gradient: what a grid point of the call leaves of its five results. -/
module

public import proofs.«01_k».proof.Proof.LnBlock

@[expose] public section

set_option maxRecDepth 16384

noncomputable section

namespace Cert.Ln

open Idealize.ShloMosaic Idealize.ShloMosaic.TcCoe Cert.Hold Cert.Kernel15Ideal Cert.Kernel15Ideal.Gen

/-- A load of the whole of a row that is summed into. -/
theorem load_acc {M : Memref sig .tc .vmem S1x1024 .f32} (hM : M.IsWhole) {acc : Vec Ideal S1x1024 .f32} {f : ℕ → ℝ} (ha : Arr (n := 1) (m := 1024) acc (fun _ j => ((f j : ℝ) : EReal))) :
    Arr (n := 1) (m := 1024) (View.readAt (Elt Ideal) M.view (Rect.unit (s := S1x1024) ![0, 0] S1x1024.size inb_S1x1024_S1x1024_0_0).toLoadRect (hM.unread acc)) (fun _ j => ((f j : ℝ) : EReal)) :=
  (ha.readAt hM inb_S1x1024_S1x1024_0_0).congr fun i j _ _ => by simp only [Nat.zero_add]

/-- A load of it after the zeros were stored. -/
theorem load_zero (v : View sig .tc .vmem S1x1024 .f32) {w : Vec Ideal S1x1024 .f32} (hw : Arr (n := 1) (m := 1024) w (fun _ j => (((0 : ℝ) : ℝ) : EReal))) :
    Arr (n := 1) (m := 1024) (v.readCov [(⟨Rect.unit (s := S1x1024) ![0, 0] S1x1024.size inb_S1x1024_S1x1024_0_0, w⟩ : View.Piece (Elt Ideal) S1x1024 .f32)]
      (Rect.unit (s := S1x1024) ![0, 0] S1x1024.size inb_S1x1024_S1x1024_0_0).toLoadRect) (fun _ j => (((fun _ => (0 : ℝ)) j : ℝ) : EReal)) :=
  ((hw.whole inb_S1x1024_S1x1024_0_0 []).readCov v inb_S1x1024_S1x1024_0_0).congr fun i j _ _ => rfl

variable (c : Dev nD) (i : grid0.Coords)
  (arg1 : Memref sig .tc .vmem S256x1024 .f32) (harg1 : arg1.IsWhole)
  (arg2 : Memref sig .tc .vmem S256x2560 .bf16) (harg2 : arg2.IsWhole)
  (arg3 : Memref sig .tc .vmem S1024x2560 .bf16) (harg3 : arg3.IsWhole)
  (arg4 : Memref sig .tc .vmem S256x384 .bf16) (harg4 : arg4.IsWhole)
  (arg5 : Memref sig .tc .vmem S1024x384 .bf16) (harg5 : arg5.IsWhole)
  (arg6 : Memref sig .tc .vmem S256x1024 .f32) (harg6 : arg6.IsWhole)
  (arg7 : Memref sig .tc .vmem S256x1 .f32) (harg7 : arg7.IsWhole)
  (arg8 : Memref sig .tc .vmem S1x1024 .f32) (harg8 : arg8.IsWhole)
  (arg9 : Memref sig .tc .vmem S256x1024 .f32) (harg9 : arg9.IsWhole)
  (arg10 : Memref sig .tc .vmem S256x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x1024 .f32) (harg13 : arg13.IsWhole)
variable {x : Data} {R : ℕ → Fin 1024 → EReal} {t : ℕ}
  (x0 : Vec Ideal S256x1024 .f32) (x1 : Vec Ideal S256x2560 .bf16) (x2 : Vec Ideal S1024x2560 .bf16) (x3 : Vec Ideal S256x384 .bf16) (x4 : Vec Ideal S1024x384 .bf16) (x5 : Vec Ideal S256x1024 .f32) (x6 : Vec Ideal S256x1 .f32) (x7 : Vec Ideal S1x1024 .f32)
  (h : Blocks x R t x0 x1 x2 x3 x4 x5 x6 x7)
include h

/-- The blocks as the body loads them. -/
theorem Blocks.loads : Blocks x R t (View.readAt (Elt Ideal) arg1.view (Rect.unit (s := S256x1024) ![0, 0] S256x1024.size inb_S256x1024_S256x1024_0_0).toLoadRect (harg1.unread x0)) (View.readAt (Elt Ideal) arg2.view (Rect.unit (s := S256x2560) ![0, 0] S256x2560.size inb_S256x2560_S256x2560_0_0).toLoadRect (harg2.unread x1)) (View.readAt (Elt Ideal) arg3.view (Rect.unit (s := S1024x2560) ![0, 0] S1024x2560.size inb_S1024x2560_S1024x2560_0_0).toLoadRect (harg3.unread x2)) (View.readAt (Elt Ideal) arg4.view (Rect.unit (s := S256x384) ![0, 0] S256x384.size inb_S256x384_S256x384_0_0).toLoadRect (harg4.unread x3)) (View.readAt (Elt Ideal) arg5.view (Rect.unit (s := S1024x384) ![0, 0] S1024x384.size inb_S1024x384_S1024x384_0_0).toLoadRect (harg5.unread x4)) (View.readAt (Elt Ideal) arg6.view (Rect.unit (s := S256x1024) ![0, 0] S256x1024.size inb_S256x1024_S256x1024_0_0).toLoadRect (harg6.unread x5)) (View.readAt (Elt Ideal) arg7.view (Rect.unit (s := S256x1) ![0, 0] S256x1.size inb_S256x1_S256x1_0_0).toLoadRect (harg7.unread x6)) (View.readAt (Elt Ideal) arg8.view (Rect.unit (s := S1x1024) ![0, 0] S1x1024.size inb_S1x1024_S1x1024_0_0).toLoadRect (harg8.unread x7)) :=
  ⟨(h.a.readAt harg1 inb_S256x1024_S256x1024_0_0).congr fun i j _ _ => by simp only [Nat.zero_add],
    (h.pb.readAt harg2 inb_S256x2560_S256x2560_0_0).congr fun i j _ _ => by simp only [Nat.zero_add],
    (h.w.readAt harg3 inb_S1024x2560_S1024x2560_0_0).congr fun i j _ _ => by simp only [Nat.zero_add],
    (h.pd.readAt harg4 inb_S256x384_S256x384_0_0).congr fun i j _ _ => by simp only [Nat.zero_add],
    (h.wd.readAt harg5 inb_S1024x384_S1024x384_0_0).congr fun i j _ _ => by simp only [Nat.zero_add],
    (h.xh.readAt harg6 inb_S256x1024_S256x1024_0_0).congr fun i j _ _ => by simp only [Nat.zero_add],
    (h.sc.readAt harg7 inb_S256x1_S256x1_0_0).congr fun i j _ _ => by simp only [Nat.zero_add],
    (h.g.readAt harg8 inb_S1x1024_S1x1024_0_0).congr fun i j _ _ => by simp only [Nat.zero_add]⟩

section
variable (hc0 : cond0_0 i)

theorem outA8 : Arr (n := 256) (m := 1024) (out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (fun i j => ((x.dr R (t * 256 + i) j : ℝ) : EReal)) := by
  unfold out0_A_8
  rw [View.read_writes_junk_eq_canon]
  exact (pay1_arr (h.loads arg1 harg1 arg2 harg2 arg3 harg3 arg4 harg4 arg5 harg5 arg6 harg6 arg7 harg7 arg8 harg8 )).whole inb_S256x1024_S256x1024_0_0 _

theorem outA9 : Arr (n := 256) (m := 1024) (out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (fun i j => ((x.dr R (t * 256 + i) j : ℝ) : EReal)) := by
  unfold out0_A_9
  rw [View.read_writes_junk_eq_canon]
  exact (pay2_arr (h.loads arg1 harg1 arg2 harg2 arg3 harg3 arg4 harg4 arg5 harg5 arg6 harg6 arg7 harg7 arg8 harg8 )).whole inb_S256x1024_S256x1024_0_0 _

theorem outA10 : Arr (n := 1) (m := 1024) (out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (fun _ j => (((fun _ => (0 : ℝ)) j + ∑ i ∈ Finset.range 256, x.dh (t * 256 + i) j * norm R (t * 256 + i) j : ℝ) : EReal)) := by
  unfold out0_A_10
  rw [View.read_writes_junk_eq_canon]
  exact (pay9_arr (h.loads arg1 harg1 arg2 harg2 arg3 harg3 arg4 harg4 arg5 harg5 arg6 harg6 arg7 harg7 arg8 harg8 ) (load_zero arg11.view zero_arr)).whole inb_S1x1024_S1x1024_0_0 _

theorem outA11 : Arr (n := 1) (m := 1024) (out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (fun _ j => (((fun _ => (0 : ℝ)) j + ∑ i ∈ Finset.range 256, x.dh (t * 256 + i) j : ℝ) : EReal)) := by
  unfold out0_A_11
  rw [View.read_writes_junk_eq_canon]
  exact (pay10_arr (h.loads arg1 harg1 arg2 harg2 arg3 harg3 arg4 harg4 arg5 harg5 arg6 harg6 arg7 harg7 arg8 harg8 ) (load_zero arg12.view zero_arr)).whole inb_S1x1024_S1x1024_0_0 _

theorem outA12 : Arr (n := 1) (m := 1024) (out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (fun _ j => (((fun _ => (0 : ℝ)) j + ∑ i ∈ Finset.range 256, x.dr R (t * 256 + i) j : ℝ) : EReal)) := by
  unfold out0_A_12
  rw [View.read_writes_junk_eq_canon]
  exact (pay3_arr (h.loads arg1 harg1 arg2 harg2 arg3 harg3 arg4 harg4 arg5 harg5 arg6 harg6 arg7 harg7 arg8 harg8 ) (load_zero arg13.view zero_arr)).whole inb_S1x1024_S1x1024_0_0 _

end

section
variable (hc0 : ¬cond0_0 i) (o10 o11 o12 : Vec Ideal S1x1024 .f32)

theorem outB8 : Arr (n := 256) (m := 1024) (out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 o10 o11 o12) (fun i j => ((x.dr R (t * 256 + i) j : ℝ) : EReal)) := by
  unfold out0_B_8
  rw [View.read_writes_junk_eq_canon]
  exact (pay1_arr (h.loads arg1 harg1 arg2 harg2 arg3 harg3 arg4 harg4 arg5 harg5 arg6 harg6 arg7 harg7 arg8 harg8 )).whole inb_S256x1024_S256x1024_0_0 _

theorem outB9 : Arr (n := 256) (m := 1024) (out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 o10 o11 o12) (fun i j => ((x.dr R (t * 256 + i) j : ℝ) : EReal)) := by
  unfold out0_B_9
  rw [View.read_writes_junk_eq_canon]
  exact (pay2_arr (h.loads arg1 harg1 arg2 harg2 arg3 harg3 arg4 harg4 arg5 harg5 arg6 harg6 arg7 harg7 arg8 harg8 )).whole inb_S256x1024_S256x1024_0_0 _

theorem outB10 {f : ℕ → ℝ} (ha : Arr (n := 1) (m := 1024) o10 (fun _ j => ((f j : ℝ) : EReal))) : Arr (n := 1) (m := 1024) (out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 o10 o11 o12) (fun _ j => ((f j + ∑ i ∈ Finset.range 256, x.dh (t * 256 + i) j * norm R (t * 256 + i) j : ℝ) : EReal)) := by
  unfold out0_B_10
  rw [View.read_writes_junk_eq_canon]
  exact (pay9_arr (h.loads arg1 harg1 arg2 harg2 arg3 harg3 arg4 harg4 arg5 harg5 arg6 harg6 arg7 harg7 arg8 harg8 ) (load_acc harg11 ha)).whole inb_S1x1024_S1x1024_0_0 _

theorem outB11 {f : ℕ → ℝ} (ha : Arr (n := 1) (m := 1024) o11 (fun _ j => ((f j : ℝ) : EReal))) : Arr (n := 1) (m := 1024) (out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 o10 o11 o12) (fun _ j => ((f j + ∑ i ∈ Finset.range 256, x.dh (t * 256 + i) j : ℝ) : EReal)) := by
  unfold out0_B_11
  rw [View.read_writes_junk_eq_canon]
  exact (pay10_arr (h.loads arg1 harg1 arg2 harg2 arg3 harg3 arg4 harg4 arg5 harg5 arg6 harg6 arg7 harg7 arg8 harg8 ) (load_acc harg12 ha)).whole inb_S1x1024_S1x1024_0_0 _

theorem outB12 {f : ℕ → ℝ} (ha : Arr (n := 1) (m := 1024) o12 (fun _ j => ((f j : ℝ) : EReal))) : Arr (n := 1) (m := 1024) (out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 o10 o11 o12) (fun _ j => ((f j + ∑ i ∈ Finset.range 256, x.dr R (t * 256 + i) j : ℝ) : EReal)) := by
  unfold out0_B_12
  rw [View.read_writes_junk_eq_canon]
  exact (pay3_arr (h.loads arg1 harg1 arg2 harg2 arg3 harg3 arg4 harg4 arg5 harg5 arg6 harg6 arg7 harg7 arg8 harg8 ) (load_acc harg13 ha)).whole inb_S1x1024_S1x1024_0_0 _

end

end Cert.Ln

end
-- ==== Proof.LnBwd.lean ====
/- The layer norm's gradient: the call and the plain gradient have the same five results. -/
module

public import proofs.«01_k».proof.Defs
public import proofs.«01_k».proof.Proof.LnRun
public import proofs.«01_k».proof.Proof.Gen.Kernel15Ideal.Value

@[expose] public section

set_option maxRecDepth 16384

noncomputable section

namespace Cert.Ln

open Idealize.ShloMosaic Idealize.ShloMosaic.TcCoe Idealize.SL.Sem Cert.Hold Cert.Kernel15Ideal Cert.Kernel15Ideal.Gen

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![0, 0] := by decide +kernel
theorem index8 : ∀ t : Fin grid0.N, win0_8.index t = ![t.val, 0] := by decide +kernel
theorem index9 : ∀ t : Fin grid0.N, win0_9.index t = ![t.val, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel

/-- The 320 columns of the gradient with 64 zeros behind them. -/
def padX (w : FVec Ideal S4096x320 .f32) : FVec Ideal S4096x384 .bf16 :=
  truncf .bf16 (concatenate S4096x384 1 [⟨S4096x320, w⟩, ⟨S4096x64, broadcastInDim S4096x64 ![] bcast_S_S4096x64 (constant S_ .f32 0x00000000#32)⟩] concatenates_S4096x320_S4096x64_S4096x384_d1) bitsLt_bf16_f32

/-- Those of the weight. -/
def padW (w : FVec Ideal S1024x320 .f32) : FVec Ideal S1024x384 .bf16 :=
  truncf .bf16 (concatenate S1024x384 1 [⟨S1024x320, w⟩, ⟨S1024x64, broadcastInDim S1024x64 ![] bcast_S_S1024x64 (constant S_ .f32 0x00000000#32)⟩] concatenates_S1024x320_S1024x64_S1024x384_d1) bitsLt_bf16_f32

theorem padX_arr {w : FVec Ideal S4096x320 .f32} {f : ℕ → ℕ → ℝ} (h : Arr (n := 4096) (m := 320) w (fun i j => ((f i j : ℝ) : EReal))) :
    Arr (n := 4096) (m := 384) (padX w) (fun i j => ((pad (f i) j : ℝ) : EReal)) := fun i j => by
  pointwise [padX]
  unfold pad
  split_ifs with hj
  · exact h i ⟨j.val, hj⟩
  · exact EReal.coe_zero.symm

theorem padW_arr {w : FVec Ideal S1024x320 .f32} {f : ℕ → ℕ → ℝ} (h : Arr (n := 1024) (m := 320) w (fun i j => ((f i j : ℝ) : EReal))) :
    Arr (n := 1024) (m := 384) (padW w) (fun i j => ((pad (f i) j : ℝ) : EReal)) := fun i j => by
  pointwise [padW]
  unfold pad
  split_ifs with hj
  · exact h i ⟨j.val, hj⟩
  · exact EReal.coe_zero.symm

theorem gain_arr {g : FVec Ideal S1024 .f32} {f : ℕ → ℝ} (h : ∀ j : Fin 1024, g (ix1 j) = ((f j.val : ℝ) : EReal)) :
    Arr (n := 1) (m := 1024) (shapeCast S1x1024 g shapeCasts_S1024_S1x1024 : FVec Ideal S1x1024 .f32) (fun _ j => ((f j : ℝ) : EReal)) := fun i j => by
  pointwise
  exact h j

theorem step (f : ℕ → ℝ) (n : ℕ) : ∑ i ∈ Finset.range ((n + 1) * 256), f i + ∑ i ∈ Finset.range 256, f ((n + 1) * 256 + i) = ∑ i ∈ Finset.range ((n + 1 + 1) * 256), f i := by
  rw [show (n + 1 + 1) * 256 = (n + 1) * 256 + 256 by omega, Finset.sum_range_add]

theorem first (f : ℕ → ℝ) : 0 + ∑ i ∈ Finset.range 256, f (0 * 256 + i) = ∑ i ∈ Finset.range ((0 + 1) * 256), f i := by
  simp only [Nat.zero_mul, Nat.zero_add, Nat.one_mul, zero_add]

section
variable (m : (ℓ : Loc nD τ sig) → Buf (Elt Ideal) ℓ) (c : Dev nD)

/-- The six arguments that hold reals. -/
def argsK : Args :=
  ⟨m ((c : Thread nD τ).loc main_arg2), m ((c : Thread nD τ).loc main_arg4), m ((c : Thread nD τ).loc main_arg5), m ((c : Thread nD τ).loc main_arg6),
    m ((c : Thread nD τ).loc main_arg7), m ((c : Thread nD τ).loc main_arg8)⟩

/-- The rows that are normed. -/
def rows : ℕ → Fin 1024 → EReal := line (ent (n := 4096) (m := 1024) (m ((c : Thread nD τ).loc main_arg0))) (ent1 (n := 1024) (m ((c : Thread nD τ).loc main_arg1)))

/-- The array of them. -/
def rowsT : FVec Ideal S4096x1024 .f32 := addf (m ((c : Thread nD τ).loc main_arg0) : FVec Ideal S4096x1024 .f32) (tallT (m ((c : Thread nD τ).loc main_arg1)))

theorem rowsT_at (i : Fin 4096) (j : Fin 1024) : rowsT m c (ix2 i j) = rows m c i.val j := lineT_at _ _ i j

theorem entry1 : V m c main_v27 = (truncf .bf16 (argsK m c).pb bitsLt_bf16_f32 : FVec Ideal S4096x2560 .bf16) := by
  unfold V
  after_reads_simp
  rfl

theorem entry2 : V m c main_v28 = (truncf .bf16 (argsK m c).w bitsLt_bf16_f32 : FVec Ideal S1024x2560 .bf16) := by
  unfold V
  after_reads_simp
  rfl

theorem entry3 : V m c main_v26 = padX (argsK m c).pd := by
  unfold V
  after_reads_simp
  rfl

theorem entry4 : V m c main_v23 = padW (argsK m c).wd := by
  unfold V
  after_reads_simp
  rfl

theorem entry5 : V m c main_v20 = normT (rowsT m c) := by
  unfold V
  after_reads_simp
  rfl

theorem entry6 : V m c main_v16 = scaleT (rowsT m c) := by
  unfold V
  after_reads_simp
  rfl

theorem entry7 : V m c main_v29 = (shapeCast S1x1024 (argsK m c).g shapeCasts_S1024_S1x1024 : FVec Ideal S1x1024 .f32) := by
  unfold V
  after_reads_simp
  rfl

theorem scale_arr : Arr (n := 4096) (m := 1) (scaleT (rowsT m c)) (fun i _ => ((sc (rows m c i) : ℝ) : EReal)) := fun i j => by
  rw [Subsingleton.elim j 0]
  exact (scaleT_at (rowsT_at m c) i).trans (scale_real _)

end

section
variable {m : (ℓ : Loc nD τ sig) → Buf (Elt Ideal) ℓ} {c : Dev nD} {x : Data} (H : Holds (argsK m c) x)
include H

/-- The blocks of a grid point. -/
theorem blocks (t : Fin cfg0.N) : Blocks x (rows m c) t.val (iblk m c 0 t) (iblk m c 1 t) (iblk m c 2 t) (iblk m c 3 t) (iblk m c 4 t) (iblk m c 5 t) (iblk m c 6 t) (iblk m c 7 t) where
  a := fun i j => by
    unfold iblk
    have e := (show Arr _ _ from H.a).at (((cfg0.win 0).blk t).view.emb (ix2 i j))
    blk_simp [index0] at e ⊢
    exact (congrFun (V_main_arg6 m c) _).trans e
  pb := fun i j => by
    unfold iblk
    have e := (show Arr _ _ from H.pb).at (((cfg0.win 1).blk t).view.emb (ix2 i j))
    blk_simp [index1] at e ⊢
    exact (congrFun (entry1 m c) _).trans e
  w := fun i j => by
    unfold iblk
    have e := (show Arr _ _ from H.w).at (((cfg0.win 2).blk t).view.emb (ix2 i j))
    blk_simp [index2] at e ⊢
    exact (congrFun (entry2 m c) _).trans e
  pd := fun i j => by
    unfold iblk
    have e := (show Arr _ _ from (padX_arr H.pd)).at (((cfg0.win 3).blk t).view.emb (ix2 i j))
    rw [← entry3 m c] at e
    blk_simp [index3] at e ⊢
    exact e
  wd := fun i j => by
    unfold iblk
    have e := (show Arr _ _ from (padW_arr H.wd)).at (((cfg0.win 4).blk t).view.emb (ix2 i j))
    rw [← entry4 m c] at e
    blk_simp [index4] at e ⊢
    exact e
  xh := fun i j => by
    unfold iblk
    have e := (show Arr _ _ from (normT_at (rowsT_at m c))).at (((cfg0.win 5).blk t).view.emb (ix2 i j))
    rw [← entry5 m c] at e
    blk_simp [index5] at e ⊢
    exact e
  sc := fun i j => by
    unfold iblk
    have e := (show Arr _ _ from (scale_arr m c)).at (((cfg0.win 6).blk t).view.emb (ix2 i j))
    rw [← entry6 m c] at e
    blk_simp [index6] at e ⊢
    exact e
  g := fun i j => by
    unfold iblk
    have e := (show Arr _ _ from (gain_arr H.g)).at (((cfg0.win 7).blk t).view.emb (ix2 i j))
    rw [← entry7 m c] at e
    blk_simp [index7] at e ⊢
    exact e

/-- What the first point leaves. -/
theorem leftA (t : Fin cfg0.N) (h0 : t.val % 16 = 0) :
    Arr (n := 256) (m := 1024) (outsAt0 m c t.val t.isLt).1 (fun i j => ((x.dr (rows m c) (t.val * 256 + i) j : ℝ) : EReal))
    ∧ Arr (n := 256) (m := 1024) (outsAt0 m c t.val t.isLt).2.1 (fun i j => ((x.dr (rows m c) (t.val * 256 + i) j : ℝ) : EReal))
    ∧ Arr (n := 1) (m := 1024) (outsAt0 m c t.val t.isLt).2.2.1 (fun _ j => ((0 + ∑ i ∈ Finset.range 256, x.dh (t.val * 256 + i) j * norm (rows m c) (t.val * 256 + i) j : ℝ) : EReal))
    ∧ Arr (n := 1) (m := 1024) (outsAt0 m c t.val t.isLt).2.2.2.1 (fun _ j => ((0 + ∑ i ∈ Finset.range 256, x.dh (t.val * 256 + i) j : ℝ) : EReal))
    ∧ Arr (n := 1) (m := 1024) (outsAt0 m c t.val t.isLt).2.2.2.2 (fun _ j => ((0 + ∑ i ∈ Finset.range 256, x.dr (rows m c) (t.val * 256 + i) j : ℝ) : EReal)) := by
  have e8 := congrArg Prod.fst (outsAt0_A m c t h0)
  have e9 := congrArg (fun p => p.2.1) (outsAt0_A m c t h0)
  have e10 := congrArg (fun p => p.2.2.1) (outsAt0_A m c t h0)
  have e11 := congrArg (fun p => p.2.2.2.1) (outsAt0_A m c t h0)
  have e12 := congrArg (fun p => p.2.2.2.2) (outsAt0_A m c t h0)
  dsimp only at e8 e9 e10 e11 e12
  rw [e8, e9, e10, e11, e12]
  exact ⟨by apply outA8 (h := blocks H t), by apply outA9 (h := blocks H t), by apply outA10 (h := blocks H t), by apply outA11 (h := blocks H t), by apply outA12 (h := blocks H t)⟩

/-- What a further point leaves, over what the one before left. -/
theorem leftB (t : Fin cfg0.N) (h0 : ¬ t.val % 16 = 0) {f g h : ℕ → ℝ}
    (hf : Arr (n := 1) (m := 1024) (outsAt0 m c (t.val - 1) (Nat.lt_of_le_of_lt (Nat.sub_le _ _) t.isLt)).2.2.1 (fun _ j => ((f j : ℝ) : EReal)))
    (hg : Arr (n := 1) (m := 1024) (outsAt0 m c (t.val - 1) (Nat.lt_of_le_of_lt (Nat.sub_le _ _) t.isLt)).2.2.2.1 (fun _ j => ((g j : ℝ) : EReal)))
    (hh : Arr (n := 1) (m := 1024) (outsAt0 m c (t.val - 1) (Nat.lt_of_le_of_lt (Nat.sub_le _ _) t.isLt)).2.2.2.2 (fun _ j => ((h j : ℝ) : EReal))) :
    Arr (n := 256) (m := 1024) (outsAt0 m c t.val t.isLt).1 (fun i j => ((x.dr (rows m c) (t.val * 256 + i) j : ℝ) : EReal))
    ∧ Arr (n := 256) (m := 1024) (outsAt0 m c t.val t.isLt).2.1 (fun i j => ((x.dr (rows m c) (t.val * 256 + i) j : ℝ) : EReal))
    ∧ Arr (n := 1) (m := 1024) (outsAt0 m c t.val t.isLt).2.2.1 (fun _ j => ((f j + ∑ i ∈ Finset.range 256, x.dh (t.val * 256 + i) j * norm (rows m c) (t.val * 256 + i) j : ℝ) : EReal))
    ∧ Arr (n := 1) (m := 1024) (outsAt0 m c t.val t.isLt).2.2.2.1 (fun _ j => ((g j + ∑ i ∈ Finset.range 256, x.dh (t.val * 256 + i) j : ℝ) : EReal))
    ∧ Arr (n := 1) (m := 1024) (outsAt0 m c t.val t.isLt).2.2.2.2 (fun _ j => ((h j + ∑ i ∈ Finset.range 256, x.dr (rows m c) (t.val * 256 + i) j : ℝ) : EReal)) := by
  have e8 := congrArg Prod.fst (outsAt0_B m c t h0)
  have e9 := congrArg (fun p => p.2.1) (outsAt0_B m c t h0)
  have e10 := congrArg (fun p => p.2.2.1) (outsAt0_B m c t h0)
  have e11 := congrArg (fun p => p.2.2.2.1) (outsAt0_B m c t h0)
  have e12 := congrArg (fun p => p.2.2.2.2) (outsAt0_B m c t h0)
  dsimp only at e8 e9 e10 e11 e12
  rw [e8, e9, e10, e11, e12]
  exact ⟨by apply outB8 (h := blocks H t), by apply outB9 (h := blocks H t), by apply outB10 (h := blocks H t) (ha := hf), by apply outB11 (h := blocks H t) (ha := hg), by apply outB12 (h := blocks H t) (ha := hh)⟩

/-- What the results' buffers hold after each point. -/
theorem left : ∀ (n : ℕ) (hn : n < cfg0.N),
    Arr (n := 256) (m := 1024) (outsAt0 m c n hn).1 (fun i j => ((x.dr (rows m c) (n * 256 + i) j : ℝ) : EReal))
    ∧ Arr (n := 256) (m := 1024) (outsAt0 m c n hn).2.1 (fun i j => ((x.dr (rows m c) (n * 256 + i) j : ℝ) : EReal))
    ∧ Arr (n := 1) (m := 1024) (outsAt0 m c n hn).2.2.1 (fun _ j => ((∑ i ∈ Finset.range ((n + 1) * 256), x.dh i j * norm (rows m c) i j : ℝ) : EReal))
    ∧ Arr (n := 1) (m := 1024) (outsAt0 m c n hn).2.2.2.1 (fun _ j => ((∑ i ∈ Finset.range ((n + 1) * 256), x.dh i j : ℝ) : EReal))
    ∧ Arr (n := 1) (m := 1024) (outsAt0 m c n hn).2.2.2.2 (fun _ j => ((∑ i ∈ Finset.range ((n + 1) * 256), x.dr (rows m c) i j : ℝ) : EReal)) := by
  intro n
  induction n with
  | zero =>
    intro hn
    obtain ⟨h8, h9, h10, h11, h12⟩ := leftA H ⟨0, hn⟩ rfl
    exact ⟨h8, h9, h10.congr fun i j _ _ => congrArg _ (first fun i => x.dh i j * norm (rows m c) i j),
      h11.congr fun i j _ _ => congrArg _ (first fun i => x.dh i j), h12.congr fun i j _ _ => congrArg _ (first fun i => x.dr (rows m c) i j)⟩
  | succ n ih =>
    intro hn
    have hN : cfg0.N = 16 := rfl
    have h0 : ¬ (n + 1) % 16 = 0 := by omega
    obtain ⟨_, _, i10, i11, i12⟩ := ih (by omega)
    obtain ⟨h8, h9, h10, h11, h12⟩ := leftB H ⟨n + 1, hn⟩ h0 i10 i11 i12
    exact ⟨h8, h9, h10.congr fun i j _ _ => congrArg _ (step (fun i => x.dh i j * norm (rows m c) i j) n),
      h11.congr fun i j _ _ => congrArg _ (step (fun i => x.dh i j) n), h12.congr fun i j _ _ => congrArg _ (step (fun i => x.dr (rows m c) i j) n)⟩

theorem array8 : Arr (n := 4096) (m := 1024) ((dats m 0 c).arrAt 8 cfg0.N) (fun i j => ((x.dr (rows m c) i j : ℝ) : EReal)) := by
  have e : (dats m 0 c).arrAt 8 cfg0.N = fun y => ((x.dr (rows m c) (y 0).val (y 1).val : ℝ) : EReal) := by
    refine (dats m 0 c).arrAt_eq_of_covers 8 _ (by decide +kernel) fun t hf y => ?_
    blk_simp [index8]
    rw [after0_8]
    exact (left H t.val t.isLt).1.at y
  intro i j
  exact congrFun e _

theorem array9 : Arr (n := 4096) (m := 1024) ((dats m 0 c).arrAt 9 cfg0.N) (fun i j => ((x.dr (rows m c) i j : ℝ) : EReal)) := by
  have e : (dats m 0 c).arrAt 9 cfg0.N = fun y => ((x.dr (rows m c) (y 0).val (y 1).val : ℝ) : EReal) := by
    refine (dats m 0 c).arrAt_eq_of_covers 9 _ (by decide +kernel) fun t hf y => ?_
    blk_simp [index9]
    rw [after0_9]
    exact (left H t.val t.isLt).2.1.at y
  intro i j
  exact congrFun e _

theorem array10 : Arr (n := 1) (m := 1024) ((dats m 0 c).arrAt 10 cfg0.N) (fun _ j => ((∑ i ∈ Finset.range 4096, x.dh i j * norm (rows m c) i j : ℝ) : EReal)) := by
  have e : (dats m 0 c).arrAt 10 cfg0.N = fun y => ((∑ i ∈ Finset.range 4096, x.dh i (y 1).val * norm (rows m c) i (y 1).val : ℝ) : EReal) := by
    refine (dats m 0 c).arrAt_eq_of_covers 10 _ (by decide +kernel) fun t hf y => ?_
    have ht := (flush0_10 t).mp hf
    blk_simp [index10]
    rw [after0_10]
    have k := (left H t.val t.isLt).2.2.1.at y
    have ht' := t.isLt
    have hN : cfg0.N = 16 := rfl
    have e1 : (t.val + 1) * 256 = 4096 := by omega
    rw [e1] at k
    exact k
  intro i j
  exact congrFun e _

theorem array11 : Arr (n := 1) (m := 1024) ((dats m 0 c).arrAt 11 cfg0.N) (fun _ j => ((∑ i ∈ Finset.range 4096, x.dh i j : ℝ) : EReal)) := by
  have e : (dats m 0 c).arrAt 11 cfg0.N = fun y => ((∑ i ∈ Finset.range 4096, x.dh i (y 1).val : ℝ) : EReal) := by
    refine (dats m 0 c).arrAt_eq_of_covers 11 _ (by decide +kernel) fun t hf y => ?_
    have ht := (flush0_11 t).mp hf
    blk_simp [index11]
    rw [after0_11]
    have k := (left H t.val t.isLt).2.2.2.1.at y
    have ht' := t.isLt
    have hN : cfg0.N = 16 := rfl
    have e1 : (t.val + 1) * 256 = 4096 := by omega
    rw [e1] at k
    exact k
  intro i j
  exact congrFun e _

theorem array12 : Arr (n := 1) (m := 1024) ((dats m 0 c).arrAt 12 cfg0.N) (fun _ j => ((∑ i ∈ Finset.range 4096, x.dr (rows m c) i j : ℝ) : EReal)) := by
  have e : (dats m 0 c).arrAt 12 cfg0.N = fun y => ((∑ i ∈ Finset.range 4096, x.dr (rows m c) i (y 1).val : ℝ) : EReal) := by
    refine (dats m 0 c).arrAt_eq_of_covers 12 _ (by decide +kernel) fun t hf y => ?_
    have ht := (flush0_12 t).mp hf
    blk_simp [index12]
    rw [after0_12]
    have k := (left H t.val t.isLt).2.2.2.2.at y
    have ht' := t.isLt
    have hN : cfg0.N = 16 := rfl
    have e1 : (t.val + 1) * 256 = 4096 := by omega
    rw [e1] at k
    exact k
  intro i j
  exact congrFun e _

end

/-- Over the extended reals the call and the plain gradient compute the same five arrays. -/
theorem algebraic : Cert.algebraic_Kernel15Ideal_Reference15Ideal_pre_finite15 := by
  intro m ρ m' ρ' hpre hagree
  refine ⟨_, _, _, _, _, Cert.Kernel15Ideal.Value.run_blocks m ρ, ?_⟩
  refine (θ_run Cert.Reference15Ideal.defs _ _).mono (fun _ h c => ?_) (Cert.Reference15Ideal.Value.run m' ρ')
  have H : Holds (argsK m c) (dataOf (argsK m c)) := holds (argsK m c) _ _ _ (hpre c)
  have e : argsR m' c = argsK m c := by
    obtain ⟨_, _, e2, _, e4, e5, e6, e7, e8⟩ := hagree c
    unfold argsR argsK
    rw [← e2, ← e4, ← e5, ← e6, ← e7, ← e8]
  have H' : Holds (argsR m' c) (dataOf (argsK m c)) := e ▸ H
  have hx := fun (i : Fin 4096) (j : Fin 1024) =>
    (congrArg₂ (fun (y : FVec Ideal S4096x1024 .f32) (b : FVec Ideal S1024 .f32) => addf y (tallT b) (ix2 i j)) (hagree c).1 (hagree c).2.1).trans (rowsT_at m c i j)
  have r0 := drT_at hx (dxT_at H')
  obtain ⟨r2, r3, r4⟩ := refs hx H'
  obtain ⟨h0, h1, h2, h3, h4, h5⟩ := h c
  exact ⟨h0.trans ((res0 m' c).trans (Arr.unique r0 (array8 H))), h1.trans (Arr.unique r0 (array9 H)),
    h2.trans (Arr.unique r2 (array10 H)), h3.trans (Arr.unique r3 (array11 H)), h4.trans ((res4 m' c).trans (Arr.unique r4 (array12 H))), h5⟩

end Cert.Ln

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Pre_finite12
public import proofs.«01_k».proof.Proof.Gen.Pre_finite15
public import proofs.«01_k».proof.Proof.Frames
public import proofs.«01_k».proof.Proof.Value
public import proofs.«01_k».proof.Proof.Frames2
public import proofs.«01_k».proof.Proof.GradX
public import proofs.«01_k».proof.Proof.WeightLo
public import proofs.«01_k».proof.Proof.WeightHi
public import proofs.«01_k».proof.Proof.Frames3
public import proofs.«01_k».proof.Proof.WeightBOut
public import proofs.«01_k».proof.Proof.WeightAOut
public import proofs.«01_k».proof.Proof.WeightQUp
public import proofs.«01_k».proof.Proof.WeightKvUp
public import proofs.«01_k».proof.Proof.WeightKvDown
public import proofs.«01_k».proof.Proof.WeightBIn
public import proofs.«01_k».proof.Proof.InProj
public import proofs.«01_k».proof.Proof.Frames4
public import proofs.«01_k».proof.Proof.FwdValue
public import proofs.«01_k».proof.Proof.Frames5
public import proofs.«01_k».proof.Proof.QUp
public import proofs.«01_k».proof.Proof.KvMid
public import proofs.«01_k».proof.Proof.Frames6
public import proofs.«01_k».proof.Proof.LnBwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts, Cert.Pre_finite12.Gen.facts, Cert.Pre_finite15.Gen.facts,
  Frames.frame_p, Frames.frame_pi, Frames.frame_pi_finite, Frames.frame_ri, Frames.frame_ri_finite,
  Frames.frame_p2, Frames.frame_pi2, Frames.frame_ri2, Frames.frame_p3, Frames.frame_pi3, Frames.frame_ri3, Frames.frame_p4, Frames.frame_pi4, Frames.frame_ri4,
  Frames.frame_p5, Frames.frame_pi5, Frames.frame_ri5,
  Frames.frame_p6, Frames.frame_pi6, Frames.frame_ri6,
  Frames.frame_p7, Frames.frame_pi7, Frames.frame_ri7,
  Frames.frame_p8, Frames.frame_pi8, Frames.frame_ri8,
  Frames.frame_p9, Frames.frame_pi9, Frames.frame_ri9,
  Frames.frame_p10, Frames.frame_pi10, Frames.frame_ri10,
  Frames.frame_p11, Frames.frame_pi11, Frames.frame_ri11,
  Frames.frame_p12, Frames.frame_pi12, Frames.frame_pi12_finite, Frames.frame_ri12, Frames.frame_ri12_finite,
  Frames.frame_p13, Frames.frame_pi13, Frames.frame_ri13, Frames.frame_p14, Frames.frame_pi14, Frames.frame_ri14,
  Frames.frame_p15, Frames.frame_pi15, Frames.frame_pi15_finite, Frames.frame_ri15, Frames.frame_ri15_finite,
  Frames.preserves, Value.algebraic, trivial, GradX.algebraic, trivial, WeightLo.algebraic, trivial, WeightHi.algebraic,
  trivial, WeightBOut.algebraic, trivial, WeightAOut.algebraic, trivial, WeightQUp.algebraic, trivial, WeightKvUp.algebraic, trivial, WeightKvDown.algebraic, trivial, WeightBIn.algebraic, trivial, InProj.algebraic,
  Frames.preserves12, FwdValue.algebraic, trivial, QUp.algebraic, trivial, KvMid.algebraic, trivial, Ln.algebraic⟩

end Cert.Proof

end
